-- ==== Defs.lean ====
def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1Ideal_finite1 [hPre_finite1 : Cert.Pre_finite1.Facts] (m : (ℓ : Loc Cert.Dil1Ideal.nD Cert.Dil1Ideal.τ Cert.Dil1Ideal.sig) → Buf (Elt Ideal) ℓ) : Prop :=
  ∀ c : Dev Cert.Dil1Ideal.nD,
    (Cert.Pre_finite1.fn (F := Ideal) (m ((c.tc : Thread Cert.Dil1Ideal.nD Cert.Dil1Ideal.τ).loc Cert.Dil1Ideal.main_arg0))) = (fun _ => 1#1)

def Pre_Dil1RefIdeal (m : (ℓ : Loc Cert.Dil1RefIdeal.nD Cert.Dil1RefIdeal.τ Cert.Dil1RefIdeal.sig) → Buf (Elt Ideal) ℓ) : Prop :=
  True

def Pre_Dil1RefIdeal_finite1 [hPre_finite1 : Cert.Pre_finite1.Facts] (m : (ℓ : Loc Cert.Dil1RefIdeal.nD Cert.Dil1RefIdeal.τ Cert.Dil1RefIdeal.sig) → Buf (Elt Ideal) ℓ) : Prop :=
  ∀ c : Dev Cert.Dil1RefIdeal.nD,
    (Cert.Pre_finite1.fn (F := Ideal) (m ((c.tc : Thread Cert.Dil1RefIdeal.nD Cert.Dil1RefIdeal.τ).loc Cert.Dil1RefIdeal.main_arg0))) = (fun _ => 1#1)

def Pre_Dil4 (m : (ℓ : Loc Cert.Dil4.nD Cert.Dil4.τ Cert.Dil4.sig) → Buf (Elt Bits) ℓ) : Prop :=
  True

def Pre_Dil4Ideal (m : (ℓ : Loc Cert.Dil4Ideal.nD Cert.Dil4Ideal.τ Cert.Dil4Ideal.sig) → Buf (Elt Ideal) ℓ) : Prop :=
  True

def Pre_Dil4Ideal_finite4 [hPre_finite4 : Cert.Pre_finite4.Facts] (m : (ℓ : Loc Cert.Dil4Ideal.nD Cert.Dil4Ideal.τ Cert.Dil4Ideal.sig) → Buf (Elt Ideal) ℓ) : Prop :=
  ∀ c : Dev Cert.Dil4Ideal.nD,
    (Cert.Pre_finite4.fn (F := Ideal) (m ((c.tc : Thread Cert.Dil4Ideal.nD Cert.Dil4Ideal.τ).loc Cert.Dil4Ideal.main_arg0))) = (fun _ => 1#1)

def Pre_Dil4RefIdeal (m : (ℓ : Loc Cert.Dil4RefIdeal.nD Cert.Dil4RefIdeal.τ Cert.Dil4RefIdeal.sig) → Buf (Elt Ideal) ℓ) : Prop :=
  True

def Pre_Dil4RefIdeal_finite4 [hPre_finite4 : Cert.Pre_finite4.Facts] (m : (ℓ : Loc Cert.Dil4RefIdeal.nD Cert.Dil4RefIdeal.τ Cert.Dil4RefIdeal.sig) → Buf (Elt Ideal) ℓ) : Prop :=
  ∀ c : Dev Cert.Dil4RefIdeal.nD,
    (Cert.Pre_finite4.fn (F := Ideal) (m ((c.tc : Thread Cert.Dil4RefIdeal.nD Cert.Dil4RefIdeal.τ).loc Cert.Dil4RefIdeal.main_arg0))) = (fun _ => 1#1)

def Pre_Dil16 (m : (ℓ : Loc Cert.Dil16.nD Cert.Dil16.τ Cert.Dil16.sig) → Buf (Elt Bits) ℓ) : Prop :=
  True

def Pre_Dil16Ideal (m : (ℓ : Loc Cert.Dil16Ideal.nD Cert.Dil16Ideal.τ Cert.Dil16Ideal.sig) → Buf (Elt Ideal) ℓ) : Prop :=
  True

def Pre_Dil16Ideal_finite16 [hPre_finite16 : Cert.Pre_finite16.Facts] (m : (ℓ : Loc Cert.Dil16Ideal.nD Cert.Dil16Ideal.τ Cert.Dil16Ideal.sig) → Buf (Elt Ideal) ℓ) : Prop :=
  ∀ c : Dev Cert.Dil16Ideal.nD,
    (Cert.Pre_finite16.fn (F := Ideal) (m ((c.tc : Thread Cert.Dil16Ideal.nD Cert.Dil16Ideal.τ).loc Cert.Dil16Ideal.main_arg0))) = (fun _ => 1#1)

def Pre_Dil16RefIdeal (m : (ℓ : Loc Cert.Dil16RefIdeal.nD Cert.Dil16RefIdeal.τ Cert.Dil16RefIdeal.sig) → Buf (Elt Ideal) ℓ) : Prop :=
  True

def Pre_Dil16RefIdeal_finite16 [hPre_finite16 : Cert.Pre_finite16.Facts] (m : (ℓ : Loc Cert.Dil16RefIdeal.nD Cert.Dil16RefIdeal.τ Cert.Dil16RefIdeal.sig) → Buf (Elt Ideal) ℓ) : Prop :=
  ∀ c : Dev Cert.Dil16RefIdeal.nD,
    (Cert.Pre_finite16.fn (F := Ideal) (m ((c.tc : Thread Cert.Dil16RefIdeal.nD Cert.Dil16RefIdeal.τ).loc Cert.Dil16RefIdeal.main_arg0))) = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_lse [hPre_finite_lse : Cert.Pre_finite_lse.Facts] (m : (ℓ : Loc Cert.MergeIdeal.nD Cert.MergeIdeal.τ Cert.MergeIdeal.sig) → Buf (Elt Ideal) ℓ) : Prop :=
  ∀ c : Dev Cert.MergeIdeal.nD,
    (Cert.Pre_finite_lse.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_lse [hPre_finite_lse : Cert.Pre_finite_lse.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_lse.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13))) = (fun _ => 1#1)

def Pre_Pdil1 (m : (ℓ : Loc Cert.Pdil1.nD Cert.Pdil1.τ Cert.Pdil1.sig) → Buf (Elt Bits) ℓ) : Prop :=
  True

def Pre_Pdil1Ideal (m : (ℓ : Loc Cert.Pdil1Ideal.nD Cert.Pdil1Ideal.τ Cert.Pdil1Ideal.sig) → Buf (Elt Ideal) ℓ) : Prop :=
  True

def Pre_Pdil1RefIdeal (m : (ℓ : Loc Cert.Pdil1RefIdeal.nD Cert.Pdil1RefIdeal.τ Cert.Pdil1RefIdeal.sig) → Buf (Elt Ideal) ℓ) : Prop :=
  True

def Pre_Pdil4 (m : (ℓ : Loc Cert.Pdil4.nD Cert.Pdil4.τ Cert.Pdil4.sig) → Buf (Elt Bits) ℓ) : Prop :=
  True

def Pre_Pdil4Ideal (m : (ℓ : Loc Cert.Pdil4Ideal.nD Cert.Pdil4Ideal.τ Cert.Pdil4Ideal.sig) → Buf (Elt Ideal) ℓ) : Prop :=
  True

def Pre_Pdil4RefIdeal (m : (ℓ : Loc Cert.Pdil4RefIdeal.nD Cert.Pdil4RefIdeal.τ Cert.Pdil4RefIdeal.sig) → Buf (Elt Ideal) ℓ) : Prop :=
  True

def Pre_Pdil16 (m : (ℓ : Loc Cert.Pdil16.nD Cert.Pdil16.τ Cert.Pdil16.sig) → Buf (Elt Bits) ℓ) : Prop :=
  True

def Pre_Pdil16Ideal (m : (ℓ : Loc Cert.Pdil16Ideal.nD Cert.Pdil16Ideal.τ Cert.Pdil16Ideal.sig) → Buf (Elt Ideal) ℓ) : Prop :=
  True

def Pre_Pdil16RefIdeal (m : (ℓ : Loc Cert.Pdil16RefIdeal.nD Cert.Pdil16RefIdeal.τ Cert.Pdil16RefIdeal.sig) → Buf (Elt Ideal) ℓ) : Prop :=
  True

def Pre_Qa (m : (ℓ : Loc Cert.Qa.nD Cert.Qa.τ Cert.Qa.sig) → Buf (Elt Bits) ℓ) : Prop :=
  True

def Pre_QaIdeal (m : (ℓ : Loc Cert.QaIdeal.nD Cert.QaIdeal.τ Cert.QaIdeal.sig) → Buf (Elt Ideal) ℓ) : Prop :=
  True

def Pre_QaRefIdeal (m : (ℓ : Loc Cert.QaRefIdeal.nD Cert.QaRefIdeal.τ Cert.QaRefIdeal.sig) → Buf (Elt Ideal) ℓ) : Prop :=
  True

def Pre_CmpTok (m : (ℓ : Loc Cert.CmpTok.nD Cert.CmpTok.τ Cert.CmpTok.sig) → Buf (Elt Bits) ℓ) : Prop :=
  True

def Pre_CmpTokIdeal (m : (ℓ : Loc Cert.CmpTokIdeal.nD Cert.CmpTokIdeal.τ Cert.CmpTokIdeal.sig) → Buf (Elt Ideal) ℓ) : Prop :=
  True

def Pre_CmpTokRefIdeal (m : (ℓ : Loc Cert.CmpTokRefIdeal.nD Cert.CmpTokRefIdeal.τ Cert.CmpTokRefIdeal.sig) → Buf (Elt Ideal) ℓ) : Prop :=
  True

def Pre_KSlc (m : (ℓ : Loc Cert.KSlc.nD Cert.KSlc.τ Cert.KSlc.sig) → Buf (Elt Bits) ℓ) : Prop :=
  True

def Pre_KSlcIdeal (m : (ℓ : Loc Cert.KSlcIdeal.nD Cert.KSlcIdeal.τ Cert.KSlcIdeal.sig) → Buf (Elt Ideal) ℓ) : Prop :=
  True

def Pre_KSlcRefIdeal (m : (ℓ : Loc Cert.KSlcRefIdeal.nD Cert.KSlcRefIdeal.τ Cert.KSlcRefIdeal.sig) → Buf (Elt Ideal) ℓ) : Prop :=
  True

def Pre_KWin (m : (ℓ : Loc Cert.KWin.nD Cert.KWin.τ Cert.KWin.sig) → Buf (Elt Bits) ℓ) : Prop :=
  True

def Pre_KWinIdeal (m : (ℓ : Loc Cert.KWinIdeal.nD Cert.KWinIdeal.τ Cert.KWinIdeal.sig) → Buf (Elt Ideal) ℓ) : Prop :=
  True

def Pre_KWinRefIdeal (m : (ℓ : Loc Cert.KWinRefIdeal.nD Cert.KWinRefIdeal.τ Cert.KWinRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1Ideal_pre_finite1 [hDil1Ideal : Cert.Dil1Ideal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal_finite1 m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil1RefIdeal_pre_finite1 [hDil1RefIdeal : Cert.Dil1RefIdeal.Facts] [hPre_finite1 : Cert.Pre_finite1.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal_finite1 m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0))
      ∧ r.2.sem = fun _ => 0)

def quiescent_Dil4 [hDil4 : Cert.Dil4.Facts] : Prop :=
  ∀ (m : (ℓ : Loc Cert.Dil4.nD Cert.Dil4.τ Cert.Dil4.sig) → Buf (Elt Bits) ℓ) (g : Dev Cert.Dil4.nD → PrngReg), Pre_Dil4 m →
    θ_run (Cert.Dil4.defs (F := Bits)) (onTc (τ := Cert.Dil4.τ) (Cert.Dil4.main (F := Bits))) ⟨m, fun _ => 0, g⟩ (fun r => (∀ c : Dev Cert.Dil4.nD,
      r.2.mem ((c.tc : Thread Cert.Dil4.nD Cert.Dil4.τ).loc Cert.Dil4.main_arg0) = m ((c.tc : Thread Cert.Dil4.nD Cert.Dil4.τ).loc Cert.Dil4.main_arg0))
      ∧ r.2.sem = fun _ => 0)

def quiescent_Dil4Ideal [hDil4Ideal : Cert.Dil4Ideal.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4Ideal_pre_finite4 [hDil4Ideal : Cert.Dil4Ideal.Facts] [hPre_finite4 : Cert.Pre_finite4.Facts] : Prop :=
  ∀ (m : (ℓ : Loc Cert.Dil4Ideal.nD Cert.Dil4Ideal.τ Cert.Dil4Ideal.sig) → Buf (Elt Ideal) ℓ) (g : Dev Cert.Dil4Ideal.nD → PrngReg), Pre_Dil4Ideal_finite4 m →
    θ_run (Cert.Dil4Ideal.defs (F := Ideal)) (onTc (τ := Cert.Dil4Ideal.τ) (Cert.Dil4Ideal.main (F := Ideal))) ⟨m, fun _ => 0, g⟩ (fun r => (∀ c : Dev Cert.Dil4Ideal.nD,
      r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ r.2.sem = fun _ => 0)

def quiescent_Dil4RefIdeal [hDil4RefIdeal : Cert.Dil4RefIdeal.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil4RefIdeal_pre_finite4 [hDil4RefIdeal : Cert.Dil4RefIdeal.Facts] [hPre_finite4 : Cert.Pre_finite4.Facts] : Prop :=
  ∀ (m : (ℓ : Loc Cert.Dil4RefIdeal.nD Cert.Dil4RefIdeal.τ Cert.Dil4RefIdeal.sig) → Buf (Elt Ideal) ℓ) (g : Dev Cert.Dil4RefIdeal.nD → PrngReg), Pre_Dil4RefIdeal_finite4 m →
    θ_run (Cert.Dil4RefIdeal.defs (F := Ideal)) (onTc (τ := Cert.Dil4RefIdeal.τ) (Cert.Dil4RefIdeal.main (F := Ideal))) ⟨m, fun _ => 0, g⟩ (fun r => (∀ c : Dev Cert.Dil4RefIdeal.nD,
      r.2.mem ((c.tc : Thread Cert.Dil4RefIdeal.nD Cert.Dil4RefIdeal.τ).loc Cert.Dil4RefIdeal.main_arg0) = m ((c.tc : Thread Cert.Dil4RefIdeal.nD Cert.Dil4RefIdeal.τ).loc Cert.Dil4RefIdeal.main_arg0))
      ∧ r.2.sem = fun _ => 0)

def quiescent_Dil16 [hDil16 : Cert.Dil16.Facts] : Prop :=
  ∀ (m : (ℓ : Loc Cert.Dil16.nD Cert.Dil16.τ Cert.Dil16.sig) → Buf (Elt Bits) ℓ) (g : Dev Cert.Dil16.nD → PrngReg), Pre_Dil16 m →
    θ_run (Cert.Dil16.defs (F := Bits)) (onTc (τ := Cert.Dil16.τ) (Cert.Dil16.main (F := Bits))) ⟨m, fun _ => 0, g⟩ (fun r => (∀ c : Dev Cert.Dil16.nD,
      r.2.mem ((c.tc : Thread Cert.Dil16.nD Cert.Dil16.τ).loc Cert.Dil16.main_arg0) = m ((c.tc : Thread Cert.Dil16.nD Cert.Dil16.τ).loc Cert.Dil16.main_arg0))
      ∧ r.2.sem = fun _ => 0)

def quiescent_Dil16Ideal [hDil16Ideal : Cert.Dil16Ideal.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16Ideal_pre_finite16 [hDil16Ideal : Cert.Dil16Ideal.Facts] [hPre_finite16 : Cert.Pre_finite16.Facts] : Prop :=
  ∀ (m : (ℓ : Loc Cert.Dil16Ideal.nD Cert.Dil16Ideal.τ Cert.Dil16Ideal.sig) → Buf (Elt Ideal) ℓ) (g : Dev Cert.Dil16Ideal.nD → PrngReg), Pre_Dil16Ideal_finite16 m →
    θ_run (Cert.Dil16Ideal.defs (F := Ideal)) (onTc (τ := Cert.Dil16Ideal.τ) (Cert.Dil16Ideal.main (F := Ideal))) ⟨m, fun _ => 0, g⟩ (fun r => (∀ c : Dev Cert.Dil16Ideal.nD,
      r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ r.2.sem = fun _ => 0)

def quiescent_Dil16RefIdeal [hDil16RefIdeal : Cert.Dil16RefIdeal.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Dil16RefIdeal_pre_finite16 [hDil16RefIdeal : Cert.Dil16RefIdeal.Facts] [hPre_finite16 : Cert.Pre_finite16.Facts] : Prop :=
  ∀ (m : (ℓ : Loc Cert.Dil16RefIdeal.nD Cert.Dil16RefIdeal.τ Cert.Dil16RefIdeal.sig) → Buf (Elt Ideal) ℓ) (g : Dev Cert.Dil16RefIdeal.nD → PrngReg), Pre_Dil16RefIdeal_finite16 m →
    θ_run (Cert.Dil16RefIdeal.defs (F := Ideal)) (onTc (τ := Cert.Dil16RefIdeal.τ) (Cert.Dil16RefIdeal.main (F := Ideal))) ⟨m, fun _ => 0, g⟩ (fun r => (∀ c : Dev Cert.Dil16RefIdeal.nD,
      r.2.mem ((c.tc : Thread Cert.Dil16RefIdeal.nD Cert.Dil16RefIdeal.τ).loc Cert.Dil16RefIdeal.main_arg0) = m ((c.tc : Thread Cert.Dil16RefIdeal.nD Cert.Dil16RefIdeal.τ).loc Cert.Dil16RefIdeal.main_arg0))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeIdeal_pre_finite_lse [hMergeIdeal : Cert.MergeIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_lse m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_MergeRefIdeal_pre_finite_lse [hMergeRefIdeal : Cert.MergeRefIdeal.Facts] [hPre_finite_lse : Cert.Pre_finite_lse.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_lse m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13))
      ∧ r.2.sem = fun _ => 0)

def quiescent_Pdil1 [hPdil1 : Cert.Pdil1.Facts] : Prop :=
  ∀ (m : (ℓ : Loc Cert.Pdil1.nD Cert.Pdil1.τ Cert.Pdil1.sig) → Buf (Elt Bits) ℓ) (g : Dev Cert.Pdil1.nD → PrngReg), Pre_Pdil1 m →
    θ_run (Cert.Pdil1.defs (F := Bits)) (onTc (τ := Cert.Pdil1.τ) (Cert.Pdil1.main (F := Bits))) ⟨m, fun _ => 0, g⟩ (fun r => (∀ c : Dev Cert.Pdil1.nD,
      r.2.mem ((c.tc : Thread Cert.Pdil1.nD Cert.Pdil1.τ).loc Cert.Pdil1.main_arg0) = m ((c.tc : Thread Cert.Pdil1.nD Cert.Pdil1.τ).loc Cert.Pdil1.main_arg0)
      ∧ r.2.mem ((c.tc : Thread Cert.Pdil1.nD Cert.Pdil1.τ).loc Cert.Pdil1.main_arg1) = m ((c.tc : Thread Cert.Pdil1.nD Cert.Pdil1.τ).loc Cert.Pdil1.main_arg1))
      ∧ r.2.sem = fun _ => 0)

def quiescent_Pdil1Ideal [hPdil1Ideal : Cert.Pdil1Ideal.Facts] : Prop :=
  ∀ (m : (ℓ : Loc Cert.Pdil1Ideal.nD Cert.Pdil1Ideal.τ Cert.Pdil1Ideal.sig) → Buf (Elt Ideal) ℓ) (g : Dev Cert.Pdil1Ideal.nD → PrngReg), Pre_Pdil1Ideal m →
    θ_run (Cert.Pdil1Ideal.defs (F := Ideal)) (onTc (τ := Cert.Pdil1Ideal.τ) (Cert.Pdil1Ideal.main (F := Ideal))) ⟨m, fun _ => 0, g⟩ (fun r => (∀ c : Dev Cert.Pdil1Ideal.nD,
      r.2.mem ((c.tc : Thread Cert.Pdil1Ideal.nD Cert.Pdil1Ideal.τ).loc Cert.Pdil1Ideal.main_arg0) = m ((c.tc : Thread Cert.Pdil1Ideal.nD Cert.Pdil1Ideal.τ).loc Cert.Pdil1Ideal.main_arg0)
      ∧ r.2.mem ((c.tc : Thread Cert.Pdil1Ideal.nD Cert.Pdil1Ideal.τ).loc Cert.Pdil1Ideal.main_arg1) = m ((c.tc : Thread Cert.Pdil1Ideal.nD Cert.Pdil1Ideal.τ).loc Cert.Pdil1Ideal.main_arg1))
      ∧ r.2.sem = fun _ => 0)

def quiescent_Pdil1RefIdeal [hPdil1RefIdeal : Cert.Pdil1RefIdeal.Facts] : Prop :=
  ∀ (m : (ℓ : Loc Cert.Pdil1RefIdeal.nD Cert.Pdil1RefIdeal.τ Cert.Pdil1RefIdeal.sig) → Buf (Elt Ideal) ℓ) (g : Dev Cert.Pdil1RefIdeal.nD → PrngReg), Pre_Pdil1RefIdeal m →
    θ_run (Cert.Pdil1RefIdeal.defs (F := Ideal)) (onTc (τ := Cert.Pdil1RefIdeal.τ) (Cert.Pdil1RefIdeal.main (F := Ideal))) ⟨m, fun _ => 0, g⟩ (fun r => (∀ c : Dev Cert.Pdil1RefIdeal.nD,
      r.2.mem ((c.tc : Thread Cert.Pdil1RefIdeal.nD Cert.Pdil1RefIdeal.τ).loc Cert.Pdil1RefIdeal.main_arg0) = m ((c.tc : Thread Cert.Pdil1RefIdeal.nD Cert.Pdil1RefIdeal.τ).loc Cert.Pdil1RefIdeal.main_arg0)
      ∧ r.2.mem ((c.tc : Thread Cert.Pdil1RefIdeal.nD Cert.Pdil1RefIdeal.τ).loc Cert.Pdil1RefIdeal.main_arg1) = m ((c.tc : Thread Cert.Pdil1RefIdeal.nD Cert.Pdil1RefIdeal.τ).loc Cert.Pdil1RefIdeal.main_arg1))
      ∧ r.2.sem = fun _ => 0)

def quiescent_Pdil4 [hPdil4 : Cert.Pdil4.Facts] : Prop :=
  ∀ (m : (ℓ : Loc Cert.Pdil4.nD Cert.Pdil4.τ Cert.Pdil4.sig) → Buf (Elt Bits) ℓ) (g : Dev Cert.Pdil4.nD → PrngReg), Pre_Pdil4 m →
    θ_run (Cert.Pdil4.defs (F := Bits)) (onTc (τ := Cert.Pdil4.τ) (Cert.Pdil4.main (F := Bits))) ⟨m, fun _ => 0, g⟩ (fun r => (∀ c : Dev Cert.Pdil4.nD,
      r.2.mem ((c.tc : Thread Cert.Pdil4.nD Cert.Pdil4.τ).loc Cert.Pdil4.main_arg0) = m ((c.tc : Thread Cert.Pdil4.nD Cert.Pdil4.τ).loc Cert.Pdil4.main_arg0)
      ∧ r.2.mem ((c.tc : Thread Cert.Pdil4.nD Cert.Pdil4.τ).loc Cert.Pdil4.main_arg1) = m ((c.tc : Thread Cert.Pdil4.nD Cert.Pdil4.τ).loc Cert.Pdil4.main_arg1))
      ∧ r.2.sem = fun _ => 0)

def quiescent_Pdil4Ideal [hPdil4Ideal : Cert.Pdil4Ideal.Facts] : Prop :=
  ∀ (m : (ℓ : Loc Cert.Pdil4Ideal.nD Cert.Pdil4Ideal.τ Cert.Pdil4Ideal.sig) → Buf (Elt Ideal) ℓ) (g : Dev Cert.Pdil4Ideal.nD → PrngReg), Pre_Pdil4Ideal m →
    θ_run (Cert.Pdil4Ideal.defs (F := Ideal)) (onTc (τ := Cert.Pdil4Ideal.τ) (Cert.Pdil4Ideal.main (F := Ideal))) ⟨m, fun _ => 0, g⟩ (fun r => (∀ c : Dev Cert.Pdil4Ideal.nD,
      r.2.mem ((c.tc : Thread Cert.Pdil4Ideal.nD Cert.Pdil4Ideal.τ).loc Cert.Pdil4Ideal.main_arg0) = m ((c.tc : Thread Cert.Pdil4Ideal.nD Cert.Pdil4Ideal.τ).loc Cert.Pdil4Ideal.main_arg0)
      ∧ r.2.mem ((c.tc : Thread Cert.Pdil4Ideal.nD Cert.Pdil4Ideal.τ).loc Cert.Pdil4Ideal.main_arg1) = m ((c.tc : Thread Cert.Pdil4Ideal.nD Cert.Pdil4Ideal.τ).loc Cert.Pdil4Ideal.main_arg1))
      ∧ r.2.sem = fun _ => 0)

def quiescent_Pdil4RefIdeal [hPdil4RefIdeal : Cert.Pdil4RefIdeal.Facts] : Prop :=
  ∀ (m : (ℓ : Loc Cert.Pdil4RefIdeal.nD Cert.Pdil4RefIdeal.τ Cert.Pdil4RefIdeal.sig) → Buf (Elt Ideal) ℓ) (g : Dev Cert.Pdil4RefIdeal.nD → PrngReg), Pre_Pdil4RefIdeal m →
    θ_run (Cert.Pdil4RefIdeal.defs (F := Ideal)) (onTc (τ := Cert.Pdil4RefIdeal.τ) (Cert.Pdil4RefIdeal.main (F := Ideal))) ⟨m, fun _ => 0, g⟩ (fun r => (∀ c : Dev Cert.Pdil4RefIdeal.nD,
      r.2.mem ((c.tc : Thread Cert.Pdil4RefIdeal.nD Cert.Pdil4RefIdeal.τ).loc Cert.Pdil4RefIdeal.main_arg0) = m ((c.tc : Thread Cert.Pdil4RefIdeal.nD Cert.Pdil4RefIdeal.τ).loc Cert.Pdil4RefIdeal.main_arg0)
      ∧ r.2.mem ((c.tc : Thread Cert.Pdil4RefIdeal.nD Cert.Pdil4RefIdeal.τ).loc Cert.Pdil4RefIdeal.main_arg1) = m ((c.tc : Thread Cert.Pdil4RefIdeal.nD Cert.Pdil4RefIdeal.τ).loc Cert.Pdil4RefIdeal.main_arg1))
      ∧ r.2.sem = fun _ => 0)

def quiescent_Pdil16 [hPdil16 : Cert.Pdil16.Facts] : Prop :=
  ∀ (m : (ℓ : Loc Cert.Pdil16.nD Cert.Pdil16.τ Cert.Pdil16.sig) → Buf (Elt Bits) ℓ) (g : Dev Cert.Pdil16.nD → PrngReg), Pre_Pdil16 m →
    θ_run (Cert.Pdil16.defs (F := Bits)) (onTc (τ := Cert.Pdil16.τ) (Cert.Pdil16.main (F := Bits))) ⟨m, fun _ => 0, g⟩ (fun r => (∀ c : Dev Cert.Pdil16.nD,
      r.2.mem ((c.tc : Thread Cert.Pdil16.nD Cert.Pdil16.τ).loc Cert.Pdil16.main_arg0) = m ((c.tc : Thread Cert.Pdil16.nD Cert.Pdil16.τ).loc Cert.Pdil16.main_arg0)
      ∧ r.2.mem ((c.tc : Thread Cert.Pdil16.nD Cert.Pdil16.τ).loc Cert.Pdil16.main_arg1) = m ((c.tc : Thread Cert.Pdil16.nD Cert.Pdil16.τ).loc Cert.Pdil16.main_arg1))
      ∧ r.2.sem = fun _ => 0)

def quiescent_Pdil16Ideal [hPdil16Ideal : Cert.Pdil16Ideal.Facts] : Prop :=
  ∀ (m : (ℓ : Loc Cert.Pdil16Ideal.nD Cert.Pdil16Ideal.τ Cert.Pdil16Ideal.sig) → Buf (Elt Ideal) ℓ) (g : Dev Cert.Pdil16Ideal.nD → PrngReg), Pre_Pdil16Ideal m →
    θ_run (Cert.Pdil16Ideal.defs (F := Ideal)) (onTc (τ := Cert.Pdil16Ideal.τ) (Cert.Pdil16Ideal.main (F := Ideal))) ⟨m, fun _ => 0, g⟩ (fun r => (∀ c : Dev Cert.Pdil16Ideal.nD,
      r.2.mem ((c.tc : Thread Cert.Pdil16Ideal.nD Cert.Pdil16Ideal.τ).loc Cert.Pdil16Ideal.main_arg0) = m ((c.tc : Thread Cert.Pdil16Ideal.nD Cert.Pdil16Ideal.τ).loc Cert.Pdil16Ideal.main_arg0)
      ∧ r.2.mem ((c.tc : Thread Cert.Pdil16Ideal.nD Cert.Pdil16Ideal.τ).loc Cert.Pdil16Ideal.main_arg1) = m ((c.tc : Thread Cert.Pdil16Ideal.nD Cert.Pdil16Ideal.τ).loc Cert.Pdil16Ideal.main_arg1))
      ∧ r.2.sem = fun _ => 0)

def quiescent_Pdil16RefIdeal [hPdil16RefIdeal : Cert.Pdil16RefIdeal.Facts] : Prop :=
  ∀ (m : (ℓ : Loc Cert.Pdil16RefIdeal.nD Cert.Pdil16RefIdeal.τ Cert.Pdil16RefIdeal.sig) → Buf (Elt Ideal) ℓ) (g : Dev Cert.Pdil16RefIdeal.nD → PrngReg), Pre_Pdil16RefIdeal m →
    θ_run (Cert.Pdil16RefIdeal.defs (F := Ideal)) (onTc (τ := Cert.Pdil16RefIdeal.τ) (Cert.Pdil16RefIdeal.main (F := Ideal))) ⟨m, fun _ => 0, g⟩ (fun r => (∀ c : Dev Cert.Pdil16RefIdeal.nD,
      r.2.mem ((c.tc : Thread Cert.Pdil16RefIdeal.nD Cert.Pdil16RefIdeal.τ).loc Cert.Pdil16RefIdeal.main_arg0) = m ((c.tc : Thread Cert.Pdil16RefIdeal.nD Cert.Pdil16RefIdeal.τ).loc Cert.Pdil16RefIdeal.main_arg0)
      ∧ r.2.mem ((c.tc : Thread Cert.Pdil16RefIdeal.nD Cert.Pdil16RefIdeal.τ).loc Cert.Pdil16RefIdeal.main_arg1) = m ((c.tc : Thread Cert.Pdil16RefIdeal.nD Cert.Pdil16RefIdeal.τ).loc Cert.Pdil16RefIdeal.main_arg1))
      ∧ r.2.sem = fun _ => 0)

def quiescent_Qa [hQa : Cert.Qa.Facts] : Prop :=
  ∀ (m : (ℓ : Loc Cert.Qa.nD Cert.Qa.τ Cert.Qa.sig) → Buf (Elt Bits) ℓ) (g : Dev Cert.Qa.nD → PrngReg), Pre_Qa m →
    θ_run (Cert.Qa.defs (F := Bits)) (onTc (τ := Cert.Qa.τ) (Cert.Qa.main (F := Bits))) ⟨m, fun _ => 0, g⟩ (fun r => (∀ c : Dev Cert.Qa.nD,
      r.2.mem ((c.tc : Thread Cert.Qa.nD Cert.Qa.τ).loc Cert.Qa.main_arg0) = m ((c.tc : Thread Cert.Qa.nD Cert.Qa.τ).loc Cert.Qa.main_arg0)
      ∧ r.2.mem ((c.tc : Thread Cert.Qa.nD Cert.Qa.τ).loc Cert.Qa.main_arg1) = m ((c.tc : Thread Cert.Qa.nD Cert.Qa.τ).loc Cert.Qa.main_arg1))
      ∧ r.2.sem = fun _ => 0)

def quiescent_QaIdeal [hQaIdeal : Cert.QaIdeal.Facts] : Prop :=
  ∀ (m : (ℓ : Loc Cert.QaIdeal.nD Cert.QaIdeal.τ Cert.QaIdeal.sig) → Buf (Elt Ideal) ℓ) (g : Dev Cert.QaIdeal.nD → PrngReg), Pre_QaIdeal m →
    θ_run (Cert.QaIdeal.defs (F := Ideal)) (onTc (τ := Cert.QaIdeal.τ) (Cert.QaIdeal.main (F := Ideal))) ⟨m, fun _ => 0, g⟩ (fun r => (∀ c : Dev Cert.QaIdeal.nD,
      r.2.mem ((c.tc : Thread Cert.QaIdeal.nD Cert.QaIdeal.τ).loc Cert.QaIdeal.main_arg0) = m ((c.tc : Thread Cert.QaIdeal.nD Cert.QaIdeal.τ).loc Cert.QaIdeal.main_arg0)
      ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ r.2.sem = fun _ => 0)

def quiescent_QaRefIdeal [hQaRefIdeal : Cert.QaRefIdeal.Facts] : Prop :=
  ∀ (m : (ℓ : Loc Cert.QaRefIdeal.nD Cert.QaRefIdeal.τ Cert.QaRefIdeal.sig) → Buf (Elt Ideal) ℓ) (g : Dev Cert.QaRefIdeal.nD → PrngReg), Pre_QaRefIdeal m →
    θ_run (Cert.QaRefIdeal.defs (F := Ideal)) (onTc (τ := Cert.QaRefIdeal.τ) (Cert.QaRefIdeal.main (F := Ideal))) ⟨m, fun _ => 0, g⟩ (fun r => (∀ c : Dev Cert.QaRefIdeal.nD,
      r.2.mem ((c.tc : Thread Cert.QaRefIdeal.nD Cert.QaRefIdeal.τ).loc Cert.QaRefIdeal.main_arg0) = m ((c.tc : Thread Cert.QaRefIdeal.nD Cert.QaRefIdeal.τ).loc Cert.QaRefIdeal.main_arg0)
      ∧ r.2.mem ((c.tc : Thread Cert.QaRefIdeal.nD Cert.QaRefIdeal.τ).loc Cert.QaRefIdeal.main_arg1) = m ((c.tc : Thread Cert.QaRefIdeal.nD Cert.QaRefIdeal.τ).loc Cert.QaRefIdeal.main_arg1))
      ∧ r.2.sem = fun _ => 0)

def quiescent_CmpTok [hCmpTok : Cert.CmpTok.Facts] : Prop :=
  ∀ (m : (ℓ : Loc Cert.CmpTok.nD Cert.CmpTok.τ Cert.CmpTok.sig) → Buf (Elt Bits) ℓ) (g : Dev Cert.CmpTok.nD → PrngReg), Pre_CmpTok m →
    θ_run (Cert.CmpTok.defs (F := Bits)) (onTc (τ := Cert.CmpTok.τ) (Cert.CmpTok.main (F := Bits))) ⟨m, fun _ => 0, g⟩ (fun r => (∀ c : Dev Cert.CmpTok.nD,
      r.2.mem ((c.tc : Thread Cert.CmpTok.nD Cert.CmpTok.τ).loc Cert.CmpTok.main_arg0) = m ((c.tc : Thread Cert.CmpTok.nD Cert.CmpTok.τ).loc Cert.CmpTok.main_arg0)
      ∧ r.2.mem ((c.tc : Thread Cert.CmpTok.nD Cert.CmpTok.τ).loc Cert.CmpTok.main_arg1) = m ((c.tc : Thread Cert.CmpTok.nD Cert.CmpTok.τ).loc Cert.CmpTok.main_arg1))
      ∧ r.2.sem = fun _ => 0)

def quiescent_CmpTokIdeal [hCmpTokIdeal : Cert.CmpTokIdeal.Facts] : Prop :=
  ∀ (m : (ℓ : Loc Cert.CmpTokIdeal.nD Cert.CmpTokIdeal.τ Cert.CmpTokIdeal.sig) → Buf (Elt Ideal) ℓ) (g : Dev Cert.CmpTokIdeal.nD → PrngReg), Pre_CmpTokIdeal m →
    θ_run (Cert.CmpTokIdeal.defs (F := Ideal)) (onTc (τ := Cert.CmpTokIdeal.τ) (Cert.CmpTokIdeal.main (F := Ideal))) ⟨m, fun _ => 0, g⟩ (fun r => (∀ c : Dev Cert.CmpTokIdeal.nD,
      r.2.mem ((c.tc : Thread Cert.CmpTokIdeal.nD Cert.CmpTokIdeal.τ).loc Cert.CmpTokIdeal.main_arg0) = m ((c.tc : Thread Cert.CmpTokIdeal.nD Cert.CmpTokIdeal.τ).loc Cert.CmpTokIdeal.main_arg0)
      ∧ r.2.mem ((c.tc : Thread Cert.CmpTokIdeal.nD Cert.CmpTokIdeal.τ).loc Cert.CmpTokIdeal.main_arg1) = m ((c.tc : Thread Cert.CmpTokIdeal.nD Cert.CmpTokIdeal.τ).loc Cert.CmpTokIdeal.main_arg1))
      ∧ r.2.sem = fun _ => 0)

def quiescent_CmpTokRefIdeal [hCmpTokRefIdeal : Cert.CmpTokRefIdeal.Facts] : Prop :=
  ∀ (m : (ℓ : Loc Cert.CmpTokRefIdeal.nD Cert.CmpTokRefIdeal.τ Cert.CmpTokRefIdeal.sig) → Buf (Elt Ideal) ℓ) (g : Dev Cert.CmpTokRefIdeal.nD → PrngReg), Pre_CmpTokRefIdeal m →
    θ_run (Cert.CmpTokRefIdeal.defs (F := Ideal)) (onTc (τ := Cert.CmpTokRefIdeal.τ) (Cert.CmpTokRefIdeal.main (F := Ideal))) ⟨m, fun _ => 0, g⟩ (fun r => (∀ c : Dev Cert.CmpTokRefIdeal.nD,
      r.2.mem ((c.tc : Thread Cert.CmpTokRefIdeal.nD Cert.CmpTokRefIdeal.τ).loc Cert.CmpTokRefIdeal.main_arg0) = m ((c.tc : Thread Cert.CmpTokRefIdeal.nD Cert.CmpTokRefIdeal.τ).loc Cert.CmpTokRefIdeal.main_arg0)
      ∧ r.2.mem ((c.tc : Thread Cert.CmpTokRefIdeal.nD Cert.CmpTokRefIdeal.τ).loc Cert.CmpTokRefIdeal.main_arg1) = m ((c.tc : Thread Cert.CmpTokRefIdeal.nD Cert.CmpTokRefIdeal.τ).loc Cert.CmpTokRefIdeal.main_arg1))
      ∧ r.2.sem = fun _ => 0)

def quiescent_KSlc [hKSlc : Cert.KSlc.Facts] : Prop :=
  ∀ (m : (ℓ : Loc Cert.KSlc.nD Cert.KSlc.τ Cert.KSlc.sig) → Buf (Elt Bits) ℓ) (g : Dev Cert.KSlc.nD → PrngReg), Pre_KSlc m →
    θ_run (Cert.KSlc.defs (F := Bits)) (onTc (τ := Cert.KSlc.τ) (Cert.KSlc.main (F := Bits))) ⟨m, fun _ => 0, g⟩ (fun r => (∀ c : Dev Cert.KSlc.nD,
      r.2.mem ((c.tc : Thread Cert.KSlc.nD Cert.KSlc.τ).loc Cert.KSlc.main_arg0) = m ((c.tc : Thread Cert.KSlc.nD Cert.KSlc.τ).loc Cert.KSlc.main_arg0)
      ∧ r.2.mem ((c.tc : Thread Cert.KSlc.nD Cert.KSlc.τ).loc Cert.KSlc.main_arg1) = m ((c.tc : Thread Cert.KSlc.nD Cert.KSlc.τ).loc Cert.KSlc.main_arg1))
      ∧ r.2.sem = fun _ => 0)

def quiescent_KSlcIdeal [hKSlcIdeal : Cert.KSlcIdeal.Facts] : Prop :=
  ∀ (m : (ℓ : Loc Cert.KSlcIdeal.nD Cert.KSlcIdeal.τ Cert.KSlcIdeal.sig) → Buf (Elt Ideal) ℓ) (g : Dev Cert.KSlcIdeal.nD → PrngReg), Pre_KSlcIdeal m →
    θ_run (Cert.KSlcIdeal.defs (F := Ideal)) (onTc (τ := Cert.KSlcIdeal.τ) (Cert.KSlcIdeal.main (F := Ideal))) ⟨m, fun _ => 0, g⟩ (fun r => (∀ c : Dev Cert.KSlcIdeal.nD,
      r.2.mem ((c.tc : Thread Cert.KSlcIdeal.nD Cert.KSlcIdeal.τ).loc Cert.KSlcIdeal.main_arg0) = m ((c.tc : Thread Cert.KSlcIdeal.nD Cert.KSlcIdeal.τ).loc Cert.KSlcIdeal.main_arg0)
      ∧ r.2.mem ((c.tc : Thread Cert.KSlcIdeal.nD Cert.KSlcIdeal.τ).loc Cert.KSlcIdeal.main_arg1) = m ((c.tc : Thread Cert.KSlcIdeal.nD Cert.KSlcIdeal.τ).loc Cert.KSlcIdeal.main_arg1))
      ∧ r.2.sem = fun _ => 0)

def quiescent_KSlcRefIdeal [hKSlcRefIdeal : Cert.KSlcRefIdeal.Facts] : Prop :=
  ∀ (m : (ℓ : Loc Cert.KSlcRefIdeal.nD Cert.KSlcRefIdeal.τ Cert.KSlcRefIdeal.sig) → Buf (Elt Ideal) ℓ) (g : Dev Cert.KSlcRefIdeal.nD → PrngReg), Pre_KSlcRefIdeal m →
    θ_run (Cert.KSlcRefIdeal.defs (F := Ideal)) (onTc (τ := Cert.KSlcRefIdeal.τ) (Cert.KSlcRefIdeal.main (F := Ideal))) ⟨m, fun _ => 0, g⟩ (fun r => (∀ c : Dev Cert.KSlcRefIdeal.nD,
      r.2.mem ((c.tc : Thread Cert.KSlcRefIdeal.nD Cert.KSlcRefIdeal.τ).loc Cert.KSlcRefIdeal.main_arg0) = m ((c.tc : Thread Cert.KSlcRefIdeal.nD Cert.KSlcRefIdeal.τ).loc Cert.KSlcRefIdeal.main_arg0)
      ∧ r.2.mem ((c.tc : Thread Cert.KSlcRefIdeal.nD Cert.KSlcRefIdeal.τ).loc Cert.KSlcRefIdeal.main_arg1) = m ((c.tc : Thread Cert.KSlcRefIdeal.nD Cert.KSlcRefIdeal.τ).loc Cert.KSlcRefIdeal.main_arg1))
      ∧ r.2.sem = fun _ => 0)

def quiescent_KWin [hKWin : Cert.KWin.Facts] : Prop :=
  ∀ (m : (ℓ : Loc Cert.KWin.nD Cert.KWin.τ Cert.KWin.sig) → Buf (Elt Bits) ℓ) (g : Dev Cert.KWin.nD → PrngReg), Pre_KWin m →
    θ_run (Cert.KWin.defs (F := Bits)) (onTc (τ := Cert.KWin.τ) (Cert.KWin.main (F := Bits))) ⟨m, fun _ => 0, g⟩ (fun r => (∀ c : Dev Cert.KWin.nD,
      r.2.mem ((c.tc : Thread Cert.KWin.nD Cert.KWin.τ).loc Cert.KWin.main_arg0) = m ((c.tc : Thread Cert.KWin.nD Cert.KWin.τ).loc Cert.KWin.main_arg0)
      ∧ r.2.mem ((c.tc : Thread Cert.KWin.nD Cert.KWin.τ).loc Cert.KWin.main_arg1) = m ((c.tc : Thread Cert.KWin.nD Cert.KWin.τ).loc Cert.KWin.main_arg1))
      ∧ r.2.sem = fun _ => 0)

def quiescent_KWinIdeal [hKWinIdeal : Cert.KWinIdeal.Facts] : Prop :=
  ∀ (m : (ℓ : Loc Cert.KWinIdeal.nD Cert.KWinIdeal.τ Cert.KWinIdeal.sig) → Buf (Elt Ideal) ℓ) (g : Dev Cert.KWinIdeal.nD → PrngReg), Pre_KWinIdeal m →
    θ_run (Cert.KWinIdeal.defs (F := Ideal)) (onTc (τ := Cert.KWinIdeal.τ) (Cert.KWinIdeal.main (F := Ideal))) ⟨m, fun _ => 0, g⟩ (fun r => (∀ c : Dev Cert.KWinIdeal.nD,
      r.2.mem ((c.tc : Thread Cert.KWinIdeal.nD Cert.KWinIdeal.τ).loc Cert.KWinIdeal.main_arg0) = m ((c.tc : Thread Cert.KWinIdeal.nD Cert.KWinIdeal.τ).loc Cert.KWinIdeal.main_arg0)
      ∧ r.2.mem ((c.tc : Thread Cert.KWinIdeal.nD Cert.KWinIdeal.τ).loc Cert.KWinIdeal.main_arg1) = m ((c.tc : Thread Cert.KWinIdeal.nD Cert.KWinIdeal.τ).loc Cert.KWinIdeal.main_arg1))
      ∧ r.2.sem = fun _ => 0)

def quiescent_KWinRefIdeal [hKWinRefIdeal : Cert.KWinRefIdeal.Facts] : Prop :=
  ∀ (m : (ℓ : Loc Cert.KWinRefIdeal.nD Cert.KWinRefIdeal.τ Cert.KWinRefIdeal.sig) → Buf (Elt Ideal) ℓ) (g : Dev Cert.KWinRefIdeal.nD → PrngReg), Pre_KWinRefIdeal m →
    θ_run (Cert.KWinRefIdeal.defs (F := Ideal)) (onTc (τ := Cert.KWinRefIdeal.τ) (Cert.KWinRefIdeal.main (F := Ideal))) ⟨m, fun _ => 0, g⟩ (fun r => (∀ c : Dev Cert.KWinRefIdeal.nD,
      r.2.mem ((c.tc : Thread Cert.KWinRefIdeal.nD Cert.KWinRefIdeal.τ).loc Cert.KWinRefIdeal.main_arg0) = m ((c.tc : Thread Cert.KWinRefIdeal.nD Cert.KWinRefIdeal.τ).loc Cert.KWinRefIdeal.main_arg0)
      ∧ r.2.mem ((c.tc : Thread Cert.KWinRefIdeal.nD Cert.KWinRefIdeal.τ).loc Cert.KWinRefIdeal.main_arg1) = m ((c.tc : Thread Cert.KWinRefIdeal.nD Cert.KWinRefIdeal.τ).loc Cert.KWinRefIdeal.main_arg1))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1))
      ∧ r.2.sem = fun _ => 0)

def preserves_Dil1_Dil1Ideal : Prop :=
  True

def algebraic_Dil1Ideal_Dil1RefIdeal_pre_finite1 [hDil1Ideal : Cert.Dil1Ideal.Facts] [hDil1RefIdeal : Cert.Dil1RefIdeal.Facts] [hPre_finite1 : Cert.Pre_finite1.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal_finite1 m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)) →
    ∃ (v0 : (c : Dev Cert.Dil1Ideal.nD) → Buf (Elt Ideal) ((c.tc : Thread Cert.Dil1Ideal.nD Cert.Dil1Ideal.τ).loc Cert.Dil1Ideal.main_v0_0)) (v1 : (c : Dev Cert.Dil1Ideal.nD) → Buf (Elt Ideal) ((c.tc : Thread Cert.Dil1Ideal.nD Cert.Dil1Ideal.τ).loc Cert.Dil1Ideal.main_v0_1)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v0_0) = v0 c
          ∧ r.2.mem ((c.tc : Thread Cert.Dil1Ideal.nD Cert.Dil1Ideal.τ).loc Cert.Dil1Ideal.main_v0_1) = v1 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v59) = v0 c
          ∧ r.2.mem ((c.tc : Thread Cert.Dil1RefIdeal.nD Cert.Dil1RefIdeal.τ).loc Cert.Dil1RefIdeal.main_v60) = v1 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0))

def preserves_Dil4_Dil4Ideal : Prop :=
  True

def algebraic_Dil4Ideal_Dil4RefIdeal_pre_finite4 [hDil4Ideal : Cert.Dil4Ideal.Facts] [hDil4RefIdeal : Cert.Dil4RefIdeal.Facts] [hPre_finite4 : Cert.Pre_finite4.Facts] : Prop :=
  ∀ (m : (ℓ : Loc Cert.Dil4Ideal.nD Cert.Dil4Ideal.τ Cert.Dil4Ideal.sig) → Buf (Elt Ideal) ℓ) (g : Dev Cert.Dil4Ideal.nD → PrngReg)
    (m' : (ℓ : Loc Cert.Dil4RefIdeal.nD Cert.Dil4RefIdeal.τ Cert.Dil4RefIdeal.sig) → Buf (Elt Ideal) ℓ) (g' : Dev Cert.Dil4RefIdeal.nD → PrngReg), Pre_Dil4Ideal_finite4 m →
    (∀ c : Dev Cert.Dil4Ideal.nD,
      m' ((c.tc : Thread Cert.Dil4RefIdeal.nD Cert.Dil4RefIdeal.τ).loc Cert.Dil4RefIdeal.main_arg0) = m ((c.tc : Thread Cert.Dil4Ideal.nD Cert.Dil4Ideal.τ).loc Cert.Dil4Ideal.main_arg0)) →
    ∃ (v0 : (c : Dev Cert.Dil4Ideal.nD) → Buf (Elt Ideal) ((c.tc : Thread Cert.Dil4Ideal.nD Cert.Dil4Ideal.τ).loc Cert.Dil4Ideal.main_v0_0)) (v1 : (c : Dev Cert.Dil4Ideal.nD) → Buf (Elt Ideal) ((c.tc : Thread Cert.Dil4Ideal.nD Cert.Dil4Ideal.τ).loc Cert.Dil4Ideal.main_v0_1)),
      θ_run (Cert.Dil4Ideal.defs (F := Ideal)) (onTc (τ := Cert.Dil4Ideal.τ) (Cert.Dil4Ideal.main (F := Ideal))) ⟨m, fun _ => 0, g⟩ (fun r => ∀ c : Dev Cert.Dil4Ideal.nD,
          r.2.mem ((c.tc : Thread Cert.Dil4Ideal.nD Cert.Dil4Ideal.τ).loc Cert.Dil4Ideal.main_v0_0) = v0 c
          ∧ r.2.mem ((c.tc : Thread Cert.Dil4Ideal.nD Cert.Dil4Ideal.τ).loc Cert.Dil4Ideal.main_v0_1) = v1 c
          ∧ r.2.mem ((c.tc : Thread Cert.Dil4Ideal.nD Cert.Dil4Ideal.τ).loc Cert.Dil4Ideal.main_arg0) = m ((c.tc : Thread Cert.Dil4Ideal.nD Cert.Dil4Ideal.τ).loc Cert.Dil4Ideal.main_arg0))
      ∧ θ_run (Cert.Dil4RefIdeal.defs (F := Ideal)) (onTc (τ := Cert.Dil4RefIdeal.τ) (Cert.Dil4RefIdeal.main (F := Ideal))) ⟨m', fun _ => 0, g'⟩ (fun r => ∀ c : Dev Cert.Dil4RefIdeal.nD,
          r.2.mem ((c.tc : Thread Cert.Dil4RefIdeal.nD Cert.Dil4RefIdeal.τ).loc Cert.Dil4RefIdeal.main_v59) = v0 c
          ∧ r.2.mem ((c.tc : Thread Cert.Dil4RefIdeal.nD Cert.Dil4RefIdeal.τ).loc Cert.Dil4RefIdeal.main_v60) = v1 c
          ∧ r.2.mem ((c.tc : Thread Cert.Dil4RefIdeal.nD Cert.Dil4RefIdeal.τ).loc Cert.Dil4RefIdeal.main_arg0) = m' ((c.tc : Thread Cert.Dil4RefIdeal.nD Cert.Dil4RefIdeal.τ).loc Cert.Dil4RefIdeal.main_arg0))

def preserves_Dil16_Dil16Ideal : Prop :=
  True

def algebraic_Dil16Ideal_Dil16RefIdeal_pre_finite16 [hDil16Ideal : Cert.Dil16Ideal.Facts] [hDil16RefIdeal : Cert.Dil16RefIdeal.Facts] [hPre_finite16 : Cert.Pre_finite16.Facts] : Prop :=
  ∀ (m : (ℓ : Loc Cert.Dil16Ideal.nD Cert.Dil16Ideal.τ Cert.Dil16Ideal.sig) → Buf (Elt Ideal) ℓ) (g : Dev Cert.Dil16Ideal.nD → PrngReg)
    (m' : (ℓ : Loc Cert.Dil16RefIdeal.nD Cert.Dil16RefIdeal.τ Cert.Dil16RefIdeal.sig) → Buf (Elt Ideal) ℓ) (g' : Dev Cert.Dil16RefIdeal.nD → PrngReg), Pre_Dil16Ideal_finite16 m →
    (∀ c : Dev Cert.Dil16Ideal.nD,
      m' ((c.tc : Thread Cert.Dil16RefIdeal.nD Cert.Dil16RefIdeal.τ).loc Cert.Dil16RefIdeal.main_arg0) = m ((c.tc : Thread Cert.Dil16Ideal.nD Cert.Dil16Ideal.τ).loc Cert.Dil16Ideal.main_arg0)) →
    ∃ (v0 : (c : Dev Cert.Dil16Ideal.nD) → Buf (Elt Ideal) ((c.tc : Thread Cert.Dil16Ideal.nD Cert.Dil16Ideal.τ).loc Cert.Dil16Ideal.main_v0_0)) (v1 : (c : Dev Cert.Dil16Ideal.nD) → Buf (Elt Ideal) ((c.tc : Thread Cert.Dil16Ideal.nD Cert.Dil16Ideal.τ).loc Cert.Dil16Ideal.main_v0_1)),
      θ_run (Cert.Dil16Ideal.defs (F := Ideal)) (onTc (τ := Cert.Dil16Ideal.τ) (Cert.Dil16Ideal.main (F := Ideal))) ⟨m, fun _ => 0, g⟩ (fun r => ∀ c : Dev Cert.Dil16Ideal.nD,
          r.2.mem ((c.tc : Thread Cert.Dil16Ideal.nD Cert.Dil16Ideal.τ).loc Cert.Dil16Ideal.main_v0_0) = v0 c
          ∧ r.2.mem ((c.tc : Thread Cert.Dil16Ideal.nD Cert.Dil16Ideal.τ).loc Cert.Dil16Ideal.main_v0_1) = v1 c
          ∧ r.2.mem ((c.tc : Thread Cert.Dil16Ideal.nD Cert.Dil16Ideal.τ).loc Cert.Dil16Ideal.main_arg0) = m ((c.tc : Thread Cert.Dil16Ideal.nD Cert.Dil16Ideal.τ).loc Cert.Dil16Ideal.main_arg0))
      ∧ θ_run (Cert.Dil16RefIdeal.defs (F := Ideal)) (onTc (τ := Cert.Dil16RefIdeal.τ) (Cert.Dil16RefIdeal.main (F := Ideal))) ⟨m', fun _ => 0, g'⟩ (fun r => ∀ c : Dev Cert.Dil16RefIdeal.nD,
          r.2.mem ((c.tc : Thread Cert.Dil16RefIdeal.nD Cert.Dil16RefIdeal.τ).loc Cert.Dil16RefIdeal.main_v59) = v0 c
          ∧ r.2.mem ((c.tc : Thread Cert.Dil16RefIdeal.nD Cert.Dil16RefIdeal.τ).loc Cert.Dil16RefIdeal.main_v60) = v1 c
          ∧ r.2.mem ((c.tc : Thread Cert.Dil16RefIdeal.nD Cert.Dil16RefIdeal.τ).loc Cert.Dil16RefIdeal.main_arg0) = m' ((c.tc : Thread Cert.Dil16RefIdeal.nD Cert.Dil16RefIdeal.τ).loc Cert.Dil16RefIdeal.main_arg0))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)) →
    ∃ (v0 : (c : Dev Cert.Ffn1Ideal.nD) → Buf (Elt Ideal) ((c.tc : Thread Cert.Ffn1Ideal.nD Cert.Ffn1Ideal.τ).loc Cert.Ffn1Ideal.main_v5_0)) (v1 : (c : Dev Cert.Ffn1Ideal.nD) → Buf (Elt Ideal) ((c.tc : Thread Cert.Ffn1Ideal.nD Cert.Ffn1Ideal.τ).loc Cert.Ffn1Ideal.main_v5_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v5_0) = v0 c
          ∧ r.2.mem ((c.tc : Thread Cert.Ffn1Ideal.nD Cert.Ffn1Ideal.τ).loc Cert.Ffn1Ideal.main_v5_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v33) = v0 c
          ∧ r.2.mem ((c.tc : Thread Cert.Ffn1RefIdeal.nD Cert.Ffn1RefIdeal.τ).loc Cert.Ffn1RefIdeal.main_v34) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v5)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v33) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v28) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal_pre_finite_lse [hMergeIdeal : Cert.MergeIdeal.Facts] [hMergeRefIdeal : Cert.MergeRefIdeal.Facts] [hPre_finite_lse : Cert.Pre_finite_lse.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_lse m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_v59) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13))

def preserves_Pdil1_Pdil1Ideal : Prop :=
  True

def algebraic_Pdil1Ideal_Pdil1RefIdeal [hPdil1Ideal : Cert.Pdil1Ideal.Facts] [hPdil1RefIdeal : Cert.Pdil1RefIdeal.Facts] : Prop :=
  ∀ (m : (ℓ : Loc Cert.Pdil1Ideal.nD Cert.Pdil1Ideal.τ Cert.Pdil1Ideal.sig) → Buf (Elt Ideal) ℓ) (g : Dev Cert.Pdil1Ideal.nD → PrngReg)
    (m' : (ℓ : Loc Cert.Pdil1RefIdeal.nD Cert.Pdil1RefIdeal.τ Cert.Pdil1RefIdeal.sig) → Buf (Elt Ideal) ℓ) (g' : Dev Cert.Pdil1RefIdeal.nD → PrngReg), Pre_Pdil1Ideal m →
    (∀ c : Dev Cert.Pdil1Ideal.nD,
      m' ((c.tc : Thread Cert.Pdil1RefIdeal.nD Cert.Pdil1RefIdeal.τ).loc Cert.Pdil1RefIdeal.main_arg0) = m ((c.tc : Thread Cert.Pdil1Ideal.nD Cert.Pdil1Ideal.τ).loc Cert.Pdil1Ideal.main_arg0)
      ∧ m' ((c.tc : Thread Cert.Pdil1RefIdeal.nD Cert.Pdil1RefIdeal.τ).loc Cert.Pdil1RefIdeal.main_arg1) = m ((c.tc : Thread Cert.Pdil1Ideal.nD Cert.Pdil1Ideal.τ).loc Cert.Pdil1Ideal.main_arg1)) →
    ∃ (v0 : (c : Dev Cert.Pdil1Ideal.nD) → Buf (Elt Ideal) ((c.tc : Thread Cert.Pdil1Ideal.nD Cert.Pdil1Ideal.τ).loc Cert.Pdil1Ideal.main_v29)),
      θ_run (Cert.Pdil1Ideal.defs (F := Ideal)) (onTc (τ := Cert.Pdil1Ideal.τ) (Cert.Pdil1Ideal.main (F := Ideal))) ⟨m, fun _ => 0, g⟩ (fun r => ∀ c : Dev Cert.Pdil1Ideal.nD,
          r.2.mem ((c.tc : Thread Cert.Pdil1Ideal.nD Cert.Pdil1Ideal.τ).loc Cert.Pdil1Ideal.main_v29) = v0 c
          ∧ r.2.mem ((c.tc : Thread Cert.Pdil1Ideal.nD Cert.Pdil1Ideal.τ).loc Cert.Pdil1Ideal.main_arg0) = m ((c.tc : Thread Cert.Pdil1Ideal.nD Cert.Pdil1Ideal.τ).loc Cert.Pdil1Ideal.main_arg0)
          ∧ r.2.mem ((c.tc : Thread Cert.Pdil1Ideal.nD Cert.Pdil1Ideal.τ).loc Cert.Pdil1Ideal.main_arg1) = m ((c.tc : Thread Cert.Pdil1Ideal.nD Cert.Pdil1Ideal.τ).loc Cert.Pdil1Ideal.main_arg1))
      ∧ θ_run (Cert.Pdil1RefIdeal.defs (F := Ideal)) (onTc (τ := Cert.Pdil1RefIdeal.τ) (Cert.Pdil1RefIdeal.main (F := Ideal))) ⟨m', fun _ => 0, g'⟩ (fun r => ∀ c : Dev Cert.Pdil1RefIdeal.nD,
          r.2.mem ((c.tc : Thread Cert.Pdil1RefIdeal.nD Cert.Pdil1RefIdeal.τ).loc Cert.Pdil1RefIdeal.main_v98) = v0 c
          ∧ r.2.mem ((c.tc : Thread Cert.Pdil1RefIdeal.nD Cert.Pdil1RefIdeal.τ).loc Cert.Pdil1RefIdeal.main_arg0) = m' ((c.tc : Thread Cert.Pdil1RefIdeal.nD Cert.Pdil1RefIdeal.τ).loc Cert.Pdil1RefIdeal.main_arg0)
          ∧ r.2.mem ((c.tc : Thread Cert.Pdil1RefIdeal.nD Cert.Pdil1RefIdeal.τ).loc Cert.Pdil1RefIdeal.main_arg1) = m' ((c.tc : Thread Cert.Pdil1RefIdeal.nD Cert.Pdil1RefIdeal.τ).loc Cert.Pdil1RefIdeal.main_arg1))

def preserves_Pdil4_Pdil4Ideal : Prop :=
  True

def algebraic_Pdil4Ideal_Pdil4RefIdeal [hPdil4Ideal : Cert.Pdil4Ideal.Facts] [hPdil4RefIdeal : Cert.Pdil4RefIdeal.Facts] : Prop :=
  ∀ (m : (ℓ : Loc Cert.Pdil4Ideal.nD Cert.Pdil4Ideal.τ Cert.Pdil4Ideal.sig) → Buf (Elt Ideal) ℓ) (g : Dev Cert.Pdil4Ideal.nD → PrngReg)
    (m' : (ℓ : Loc Cert.Pdil4RefIdeal.nD Cert.Pdil4RefIdeal.τ Cert.Pdil4RefIdeal.sig) → Buf (Elt Ideal) ℓ) (g' : Dev Cert.Pdil4RefIdeal.nD → PrngReg), Pre_Pdil4Ideal m →
    (∀ c : Dev Cert.Pdil4Ideal.nD,
      m' ((c.tc : Thread Cert.Pdil4RefIdeal.nD Cert.Pdil4RefIdeal.τ).loc Cert.Pdil4RefIdeal.main_arg0) = m ((c.tc : Thread Cert.Pdil4Ideal.nD Cert.Pdil4Ideal.τ).loc Cert.Pdil4Ideal.main_arg0)
      ∧ m' ((c.tc : Thread Cert.Pdil4RefIdeal.nD Cert.Pdil4RefIdeal.τ).loc Cert.Pdil4RefIdeal.main_arg1) = m ((c.tc : Thread Cert.Pdil4Ideal.nD Cert.Pdil4Ideal.τ).loc Cert.Pdil4Ideal.main_arg1)) →
    ∃ (v0 : (c : Dev Cert.Pdil4Ideal.nD) → Buf (Elt Ideal) ((c.tc : Thread Cert.Pdil4Ideal.nD Cert.Pdil4Ideal.τ).loc Cert.Pdil4Ideal.main_v29)),
      θ_run (Cert.Pdil4Ideal.defs (F := Ideal)) (onTc (τ := Cert.Pdil4Ideal.τ) (Cert.Pdil4Ideal.main (F := Ideal))) ⟨m, fun _ => 0, g⟩ (fun r => ∀ c : Dev Cert.Pdil4Ideal.nD,
          r.2.mem ((c.tc : Thread Cert.Pdil4Ideal.nD Cert.Pdil4Ideal.τ).loc Cert.Pdil4Ideal.main_v29) = v0 c
          ∧ r.2.mem ((c.tc : Thread Cert.Pdil4Ideal.nD Cert.Pdil4Ideal.τ).loc Cert.Pdil4Ideal.main_arg0) = m ((c.tc : Thread Cert.Pdil4Ideal.nD Cert.Pdil4Ideal.τ).loc Cert.Pdil4Ideal.main_arg0)
          ∧ r.2.mem ((c.tc : Thread Cert.Pdil4Ideal.nD Cert.Pdil4Ideal.τ).loc Cert.Pdil4Ideal.main_arg1) = m ((c.tc : Thread Cert.Pdil4Ideal.nD Cert.Pdil4Ideal.τ).loc Cert.Pdil4Ideal.main_arg1))
      ∧ θ_run (Cert.Pdil4RefIdeal.defs (F := Ideal)) (onTc (τ := Cert.Pdil4RefIdeal.τ) (Cert.Pdil4RefIdeal.main (F := Ideal))) ⟨m', fun _ => 0, g'⟩ (fun r => ∀ c : Dev Cert.Pdil4RefIdeal.nD,
          r.2.mem ((c.tc : Thread Cert.Pdil4RefIdeal.nD Cert.Pdil4RefIdeal.τ).loc Cert.Pdil4RefIdeal.main_v98) = v0 c
          ∧ r.2.mem ((c.tc : Thread Cert.Pdil4RefIdeal.nD Cert.Pdil4RefIdeal.τ).loc Cert.Pdil4RefIdeal.main_arg0) = m' ((c.tc : Thread Cert.Pdil4RefIdeal.nD Cert.Pdil4RefIdeal.τ).loc Cert.Pdil4RefIdeal.main_arg0)
          ∧ r.2.mem ((c.tc : Thread Cert.Pdil4RefIdeal.nD Cert.Pdil4RefIdeal.τ).loc Cert.Pdil4RefIdeal.main_arg1) = m' ((c.tc : Thread Cert.Pdil4RefIdeal.nD Cert.Pdil4RefIdeal.τ).loc Cert.Pdil4RefIdeal.main_arg1))

def preserves_Pdil16_Pdil16Ideal : Prop :=
  True

def algebraic_Pdil16Ideal_Pdil16RefIdeal [hPdil16Ideal : Cert.Pdil16Ideal.Facts] [hPdil16RefIdeal : Cert.Pdil16RefIdeal.Facts] : Prop :=
  ∀ (m : (ℓ : Loc Cert.Pdil16Ideal.nD Cert.Pdil16Ideal.τ Cert.Pdil16Ideal.sig) → Buf (Elt Ideal) ℓ) (g : Dev Cert.Pdil16Ideal.nD → PrngReg)
    (m' : (ℓ : Loc Cert.Pdil16RefIdeal.nD Cert.Pdil16RefIdeal.τ Cert.Pdil16RefIdeal.sig) → Buf (Elt Ideal) ℓ) (g' : Dev Cert.Pdil16RefIdeal.nD → PrngReg), Pre_Pdil16Ideal m →
    (∀ c : Dev Cert.Pdil16Ideal.nD,
      m' ((c.tc : Thread Cert.Pdil16RefIdeal.nD Cert.Pdil16RefIdeal.τ).loc Cert.Pdil16RefIdeal.main_arg0) = m ((c.tc : Thread Cert.Pdil16Ideal.nD Cert.Pdil16Ideal.τ).loc Cert.Pdil16Ideal.main_arg0)
      ∧ m' ((c.tc : Thread Cert.Pdil16RefIdeal.nD Cert.Pdil16RefIdeal.τ).loc Cert.Pdil16RefIdeal.main_arg1) = m ((c.tc : Thread Cert.Pdil16Ideal.nD Cert.Pdil16Ideal.τ).loc Cert.Pdil16Ideal.main_arg1)) →
    ∃ (v0 : (c : Dev Cert.Pdil16Ideal.nD) → Buf (Elt Ideal) ((c.tc : Thread Cert.Pdil16Ideal.nD Cert.Pdil16Ideal.τ).loc Cert.Pdil16Ideal.main_v29)),
      θ_run (Cert.Pdil16Ideal.defs (F := Ideal)) (onTc (τ := Cert.Pdil16Ideal.τ) (Cert.Pdil16Ideal.main (F := Ideal))) ⟨m, fun _ => 0, g⟩ (fun r => ∀ c : Dev Cert.Pdil16Ideal.nD,
          r.2.mem ((c.tc : Thread Cert.Pdil16Ideal.nD Cert.Pdil16Ideal.τ).loc Cert.Pdil16Ideal.main_v29) = v0 c
          ∧ r.2.mem ((c.tc : Thread Cert.Pdil16Ideal.nD Cert.Pdil16Ideal.τ).loc Cert.Pdil16Ideal.main_arg0) = m ((c.tc : Thread Cert.Pdil16Ideal.nD Cert.Pdil16Ideal.τ).loc Cert.Pdil16Ideal.main_arg0)
          ∧ r.2.mem ((c.tc : Thread Cert.Pdil16Ideal.nD Cert.Pdil16Ideal.τ).loc Cert.Pdil16Ideal.main_arg1) = m ((c.tc : Thread Cert.Pdil16Ideal.nD Cert.Pdil16Ideal.τ).loc Cert.Pdil16Ideal.main_arg1))
      ∧ θ_run (Cert.Pdil16RefIdeal.defs (F := Ideal)) (onTc (τ := Cert.Pdil16RefIdeal.τ) (Cert.Pdil16RefIdeal.main (F := Ideal))) ⟨m', fun _ => 0, g'⟩ (fun r => ∀ c : Dev Cert.Pdil16RefIdeal.nD,
          r.2.mem ((c.tc : Thread Cert.Pdil16RefIdeal.nD Cert.Pdil16RefIdeal.τ).loc Cert.Pdil16RefIdeal.main_v98) = v0 c
          ∧ r.2.mem ((c.tc : Thread Cert.Pdil16RefIdeal.nD Cert.Pdil16RefIdeal.τ).loc Cert.Pdil16RefIdeal.main_arg0) = m' ((c.tc : Thread Cert.Pdil16RefIdeal.nD Cert.Pdil16RefIdeal.τ).loc Cert.Pdil16RefIdeal.main_arg0)
          ∧ r.2.mem ((c.tc : Thread Cert.Pdil16RefIdeal.nD Cert.Pdil16RefIdeal.τ).loc Cert.Pdil16RefIdeal.main_arg1) = m' ((c.tc : Thread Cert.Pdil16RefIdeal.nD Cert.Pdil16RefIdeal.τ).loc Cert.Pdil16RefIdeal.main_arg1))

def preserves_Qa_QaIdeal : Prop :=
  True

def algebraic_QaIdeal_QaRefIdeal [hQaIdeal : Cert.QaIdeal.Facts] [hQaRefIdeal : Cert.QaRefIdeal.Facts] : Prop :=
  ∀ (m : (ℓ : Loc Cert.QaIdeal.nD Cert.QaIdeal.τ Cert.QaIdeal.sig) → Buf (Elt Ideal) ℓ) (g : Dev Cert.QaIdeal.nD → PrngReg)
    (m' : (ℓ : Loc Cert.QaRefIdeal.nD Cert.QaRefIdeal.τ Cert.QaRefIdeal.sig) → Buf (Elt Ideal) ℓ) (g' : Dev Cert.QaRefIdeal.nD → PrngReg), Pre_QaIdeal m →
    (∀ c : Dev Cert.QaIdeal.nD,
      m' ((c.tc : Thread Cert.QaRefIdeal.nD Cert.QaRefIdeal.τ).loc Cert.QaRefIdeal.main_arg0) = m ((c.tc : Thread Cert.QaIdeal.nD Cert.QaIdeal.τ).loc Cert.QaIdeal.main_arg0)
      ∧ m' ((c.tc : Thread Cert.QaRefIdeal.nD Cert.QaRefIdeal.τ).loc Cert.QaRefIdeal.main_arg1) = m ((c.tc : Thread Cert.QaIdeal.nD Cert.QaIdeal.τ).loc Cert.QaIdeal.main_arg1)) →
    ∃ (v0 : (c : Dev Cert.QaIdeal.nD) → Buf (Elt Ideal) ((c.tc : Thread Cert.QaIdeal.nD Cert.QaIdeal.τ).loc Cert.QaIdeal.main_v26_0)) (v1 : (c : Dev Cert.QaIdeal.nD) → Buf (Elt Ideal) ((c.tc : Thread Cert.QaIdeal.nD Cert.QaIdeal.τ).loc Cert.QaIdeal.main_v26_1)),
      θ_run (Cert.QaIdeal.defs (F := Ideal)) (onTc (τ := Cert.QaIdeal.τ) (Cert.QaIdeal.main (F := Ideal))) ⟨m, fun _ => 0, g⟩ (fun r => ∀ c : Dev Cert.QaIdeal.nD,
          r.2.mem ((c.tc : Thread Cert.QaIdeal.nD Cert.QaIdeal.τ).loc Cert.QaIdeal.main_v26_0) = v0 c
          ∧ r.2.mem ((c.tc : Thread Cert.QaIdeal.nD Cert.QaIdeal.τ).loc Cert.QaIdeal.main_v26_1) = v1 c
          ∧ r.2.mem ((c.tc : Thread Cert.QaIdeal.nD Cert.QaIdeal.τ).loc Cert.QaIdeal.main_arg0) = m ((c.tc : Thread Cert.QaIdeal.nD Cert.QaIdeal.τ).loc Cert.QaIdeal.main_arg0)
          ∧ r.2.mem ((c.tc : Thread Cert.QaIdeal.nD Cert.QaIdeal.τ).loc Cert.QaIdeal.main_arg1) = m ((c.tc : Thread Cert.QaIdeal.nD Cert.QaIdeal.τ).loc Cert.QaIdeal.main_arg1))
      ∧ θ_run (Cert.QaRefIdeal.defs (F := Ideal)) (onTc (τ := Cert.QaRefIdeal.τ) (Cert.QaRefIdeal.main (F := Ideal))) ⟨m', fun _ => 0, g'⟩ (fun r => ∀ c : Dev Cert.QaRefIdeal.nD,
          r.2.mem ((c.tc : Thread Cert.QaRefIdeal.nD Cert.QaRefIdeal.τ).loc Cert.QaRefIdeal.main_v21) = v0 c
          ∧ r.2.mem ((c.tc : Thread Cert.QaRefIdeal.nD Cert.QaRefIdeal.τ).loc Cert.QaRefIdeal.main_v61) = v1 c
          ∧ r.2.mem ((c.tc : Thread Cert.QaRefIdeal.nD Cert.QaRefIdeal.τ).loc Cert.QaRefIdeal.main_arg0) = m' ((c.tc : Thread Cert.QaRefIdeal.nD Cert.QaRefIdeal.τ).loc Cert.QaRefIdeal.main_arg0)
          ∧ r.2.mem ((c.tc : Thread Cert.QaRefIdeal.nD Cert.QaRefIdeal.τ).loc Cert.QaRefIdeal.main_arg1) = m' ((c.tc : Thread Cert.QaRefIdeal.nD Cert.QaRefIdeal.τ).loc Cert.QaRefIdeal.main_arg1))

def preserves_CmpTok_CmpTokIdeal : Prop :=
  True

def algebraic_CmpTokIdeal_CmpTokRefIdeal [hCmpTokIdeal : Cert.CmpTokIdeal.Facts] [hCmpTokRefIdeal : Cert.CmpTokRefIdeal.Facts] : Prop :=
  ∀ (m : (ℓ : Loc Cert.CmpTokIdeal.nD Cert.CmpTokIdeal.τ Cert.CmpTokIdeal.sig) → Buf (Elt Ideal) ℓ) (g : Dev Cert.CmpTokIdeal.nD → PrngReg)
    (m' : (ℓ : Loc Cert.CmpTokRefIdeal.nD Cert.CmpTokRefIdeal.τ Cert.CmpTokRefIdeal.sig) → Buf (Elt Ideal) ℓ) (g' : Dev Cert.CmpTokRefIdeal.nD → PrngReg), Pre_CmpTokIdeal m →
    (∀ c : Dev Cert.CmpTokIdeal.nD,
      m' ((c.tc : Thread Cert.CmpTokRefIdeal.nD Cert.CmpTokRefIdeal.τ).loc Cert.CmpTokRefIdeal.main_arg0) = m ((c.tc : Thread Cert.CmpTokIdeal.nD Cert.CmpTokIdeal.τ).loc Cert.CmpTokIdeal.main_arg0)
      ∧ m' ((c.tc : Thread Cert.CmpTokRefIdeal.nD Cert.CmpTokRefIdeal.τ).loc Cert.CmpTokRefIdeal.main_arg1) = m ((c.tc : Thread Cert.CmpTokIdeal.nD Cert.CmpTokIdeal.τ).loc Cert.CmpTokIdeal.main_arg1)) →
    ∃ (v0 : (c : Dev Cert.CmpTokIdeal.nD) → Buf (Elt Ideal) ((c.tc : Thread Cert.CmpTokIdeal.nD Cert.CmpTokIdeal.τ).loc Cert.CmpTokIdeal.main_v4)),
      θ_run (Cert.CmpTokIdeal.defs (F := Ideal)) (onTc (τ := Cert.CmpTokIdeal.τ) (Cert.CmpTokIdeal.main (F := Ideal))) ⟨m, fun _ => 0, g⟩ (fun r => ∀ c : Dev Cert.CmpTokIdeal.nD,
          r.2.mem ((c.tc : Thread Cert.CmpTokIdeal.nD Cert.CmpTokIdeal.τ).loc Cert.CmpTokIdeal.main_v4) = v0 c
          ∧ r.2.mem ((c.tc : Thread Cert.CmpTokIdeal.nD Cert.CmpTokIdeal.τ).loc Cert.CmpTokIdeal.main_arg0) = m ((c.tc : Thread Cert.CmpTokIdeal.nD Cert.CmpTokIdeal.τ).loc Cert.CmpTokIdeal.main_arg0)
          ∧ r.2.mem ((c.tc : Thread Cert.CmpTokIdeal.nD Cert.CmpTokIdeal.τ).loc Cert.CmpTokIdeal.main_arg1) = m ((c.tc : Thread Cert.CmpTokIdeal.nD Cert.CmpTokIdeal.τ).loc Cert.CmpTokIdeal.main_arg1))
      ∧ θ_run (Cert.CmpTokRefIdeal.defs (F := Ideal)) (onTc (τ := Cert.CmpTokRefIdeal.τ) (Cert.CmpTokRefIdeal.main (F := Ideal))) ⟨m', fun _ => 0, g'⟩ (fun r => ∀ c : Dev Cert.CmpTokRefIdeal.nD,
          r.2.mem ((c.tc : Thread Cert.CmpTokRefIdeal.nD Cert.CmpTokRefIdeal.τ).loc Cert.CmpTokRefIdeal.main_v20) = v0 c
          ∧ r.2.mem ((c.tc : Thread Cert.CmpTokRefIdeal.nD Cert.CmpTokRefIdeal.τ).loc Cert.CmpTokRefIdeal.main_arg0) = m' ((c.tc : Thread Cert.CmpTokRefIdeal.nD Cert.CmpTokRefIdeal.τ).loc Cert.CmpTokRefIdeal.main_arg0)
          ∧ r.2.mem ((c.tc : Thread Cert.CmpTokRefIdeal.nD Cert.CmpTokRefIdeal.τ).loc Cert.CmpTokRefIdeal.main_arg1) = m' ((c.tc : Thread Cert.CmpTokRefIdeal.nD Cert.CmpTokRefIdeal.τ).loc Cert.CmpTokRefIdeal.main_arg1))

def preserves_KSlc_KSlcIdeal : Prop :=
  True

def algebraic_KSlcIdeal_KSlcRefIdeal [hKSlcIdeal : Cert.KSlcIdeal.Facts] [hKSlcRefIdeal : Cert.KSlcRefIdeal.Facts] : Prop :=
  ∀ (m : (ℓ : Loc Cert.KSlcIdeal.nD Cert.KSlcIdeal.τ Cert.KSlcIdeal.sig) → Buf (Elt Ideal) ℓ) (g : Dev Cert.KSlcIdeal.nD → PrngReg)
    (m' : (ℓ : Loc Cert.KSlcRefIdeal.nD Cert.KSlcRefIdeal.τ Cert.KSlcRefIdeal.sig) → Buf (Elt Ideal) ℓ) (g' : Dev Cert.KSlcRefIdeal.nD → PrngReg), Pre_KSlcIdeal m →
    (∀ c : Dev Cert.KSlcIdeal.nD,
      m' ((c.tc : Thread Cert.KSlcRefIdeal.nD Cert.KSlcRefIdeal.τ).loc Cert.KSlcRefIdeal.main_arg0) = m ((c.tc : Thread Cert.KSlcIdeal.nD Cert.KSlcIdeal.τ).loc Cert.KSlcIdeal.main_arg0)
      ∧ m' ((c.tc : Thread Cert.KSlcRefIdeal.nD Cert.KSlcRefIdeal.τ).loc Cert.KSlcRefIdeal.main_arg1) = m ((c.tc : Thread Cert.KSlcIdeal.nD Cert.KSlcIdeal.τ).loc Cert.KSlcIdeal.main_arg1)) →
    ∃ (v0 : (c : Dev Cert.KSlcIdeal.nD) → Buf (Elt Ideal) ((c.tc : Thread Cert.KSlcIdeal.nD Cert.KSlcIdeal.τ).loc Cert.KSlcIdeal.main_v23)),
      θ_run (Cert.KSlcIdeal.defs (F := Ideal)) (onTc (τ := Cert.KSlcIdeal.τ) (Cert.KSlcIdeal.main (F := Ideal))) ⟨m, fun _ => 0, g⟩ (fun r => ∀ c : Dev Cert.KSlcIdeal.nD,
          r.2.mem ((c.tc : Thread Cert.KSlcIdeal.nD Cert.KSlcIdeal.τ).loc Cert.KSlcIdeal.main_v23) = v0 c
          ∧ r.2.mem ((c.tc : Thread Cert.KSlcIdeal.nD Cert.KSlcIdeal.τ).loc Cert.KSlcIdeal.main_arg0) = m ((c.tc : Thread Cert.KSlcIdeal.nD Cert.KSlcIdeal.τ).loc Cert.KSlcIdeal.main_arg0)
          ∧ r.2.mem ((c.tc : Thread Cert.KSlcIdeal.nD Cert.KSlcIdeal.τ).loc Cert.KSlcIdeal.main_arg1) = m ((c.tc : Thread Cert.KSlcIdeal.nD Cert.KSlcIdeal.τ).loc Cert.KSlcIdeal.main_arg1))
      ∧ θ_run (Cert.KSlcRefIdeal.defs (F := Ideal)) (onTc (τ := Cert.KSlcRefIdeal.τ) (Cert.KSlcRefIdeal.main (F := Ideal))) ⟨m', fun _ => 0, g'⟩ (fun r => ∀ c : Dev Cert.KSlcRefIdeal.nD,
          r.2.mem ((c.tc : Thread Cert.KSlcRefIdeal.nD Cert.KSlcRefIdeal.τ).loc Cert.KSlcRefIdeal.main_v64) = v0 c
          ∧ r.2.mem ((c.tc : Thread Cert.KSlcRefIdeal.nD Cert.KSlcRefIdeal.τ).loc Cert.KSlcRefIdeal.main_arg0) = m' ((c.tc : Thread Cert.KSlcRefIdeal.nD Cert.KSlcRefIdeal.τ).loc Cert.KSlcRefIdeal.main_arg0)
          ∧ r.2.mem ((c.tc : Thread Cert.KSlcRefIdeal.nD Cert.KSlcRefIdeal.τ).loc Cert.KSlcRefIdeal.main_arg1) = m' ((c.tc : Thread Cert.KSlcRefIdeal.nD Cert.KSlcRefIdeal.τ).loc Cert.KSlcRefIdeal.main_arg1))

def preserves_KWin_KWinIdeal : Prop :=
  True

def algebraic_KWinIdeal_KWinRefIdeal [hKWinIdeal : Cert.KWinIdeal.Facts] [hKWinRefIdeal : Cert.KWinRefIdeal.Facts] : Prop :=
  ∀ (m : (ℓ : Loc Cert.KWinIdeal.nD Cert.KWinIdeal.τ Cert.KWinIdeal.sig) → Buf (Elt Ideal) ℓ) (g : Dev Cert.KWinIdeal.nD → PrngReg)
    (m' : (ℓ : Loc Cert.KWinRefIdeal.nD Cert.KWinRefIdeal.τ Cert.KWinRefIdeal.sig) → Buf (Elt Ideal) ℓ) (g' : Dev Cert.KWinRefIdeal.nD → PrngReg), Pre_KWinIdeal m →
    (∀ c : Dev Cert.KWinIdeal.nD,
      m' ((c.tc : Thread Cert.KWinRefIdeal.nD Cert.KWinRefIdeal.τ).loc Cert.KWinRefIdeal.main_arg0) = m ((c.tc : Thread Cert.KWinIdeal.nD Cert.KWinIdeal.τ).loc Cert.KWinIdeal.main_arg0)
      ∧ m' ((c.tc : Thread Cert.KWinRefIdeal.nD Cert.KWinRefIdeal.τ).loc Cert.KWinRefIdeal.main_arg1) = m ((c.tc : Thread Cert.KWinIdeal.nD Cert.KWinIdeal.τ).loc Cert.KWinIdeal.main_arg1)) →
    ∃ (v0 : (c : Dev Cert.KWinIdeal.nD) → Buf (Elt Ideal) ((c.tc : Thread Cert.KWinIdeal.nD Cert.KWinIdeal.τ).loc Cert.KWinIdeal.main_v23)),
      θ_run (Cert.KWinIdeal.defs (F := Ideal)) (onTc (τ := Cert.KWinIdeal.τ) (Cert.KWinIdeal.main (F := Ideal))) ⟨m, fun _ => 0, g⟩ (fun r => ∀ c : Dev Cert.KWinIdeal.nD,
          r.2.mem ((c.tc : Thread Cert.KWinIdeal.nD Cert.KWinIdeal.τ).loc Cert.KWinIdeal.main_v23) = v0 c
          ∧ r.2.mem ((c.tc : Thread Cert.KWinIdeal.nD Cert.KWinIdeal.τ).loc Cert.KWinIdeal.main_arg0) = m ((c.tc : Thread Cert.KWinIdeal.nD Cert.KWinIdeal.τ).loc Cert.KWinIdeal.main_arg0)
          ∧ r.2.mem ((c.tc : Thread Cert.KWinIdeal.nD Cert.KWinIdeal.τ).loc Cert.KWinIdeal.main_arg1) = m ((c.tc : Thread Cert.KWinIdeal.nD Cert.KWinIdeal.τ).loc Cert.KWinIdeal.main_arg1))
      ∧ θ_run (Cert.KWinRefIdeal.defs (F := Ideal)) (onTc (τ := Cert.KWinRefIdeal.τ) (Cert.KWinRefIdeal.main (F := Ideal))) ⟨m', fun _ => 0, g'⟩ (fun r => ∀ c : Dev Cert.KWinRefIdeal.nD,
          r.2.mem ((c.tc : Thread Cert.KWinRefIdeal.nD Cert.KWinRefIdeal.τ).loc Cert.KWinRefIdeal.main_v52) = v0 c
          ∧ r.2.mem ((c.tc : Thread Cert.KWinRefIdeal.nD Cert.KWinRefIdeal.τ).loc Cert.KWinRefIdeal.main_arg0) = m' ((c.tc : Thread Cert.KWinRefIdeal.nD Cert.KWinRefIdeal.τ).loc Cert.KWinRefIdeal.main_arg0)
          ∧ r.2.mem ((c.tc : Thread Cert.KWinRefIdeal.nD Cert.KWinRefIdeal.τ).loc Cert.KWinRefIdeal.main_arg1) = m' ((c.tc : Thread Cert.KWinRefIdeal.nD Cert.KWinRefIdeal.τ).loc Cert.KWinRefIdeal.main_arg1))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)) →
    ∃ (v0 : (c : Dev Cert.ValsIdeal.nD) → Buf (Elt Ideal) ((c.tc : Thread Cert.ValsIdeal.nD Cert.ValsIdeal.τ).loc Cert.ValsIdeal.main_v5)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v5) = v0 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v17) = v0 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1))

def Claim : Prop :=
  ∃ (hDil1 : Cert.Dil1.Facts) (hDil1Ideal : Cert.Dil1Ideal.Facts) (hDil1RefIdeal : Cert.Dil1RefIdeal.Facts) (hDil4 : Cert.Dil4.Facts) (hDil4Ideal : Cert.Dil4Ideal.Facts) (hDil4RefIdeal : Cert.Dil4RefIdeal.Facts) (hDil16 : Cert.Dil16.Facts) (hDil16Ideal : Cert.Dil16Ideal.Facts) (hDil16RefIdeal : Cert.Dil16RefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hPdil1 : Cert.Pdil1.Facts) (hPdil1Ideal : Cert.Pdil1Ideal.Facts) (hPdil1RefIdeal : Cert.Pdil1RefIdeal.Facts) (hPdil4 : Cert.Pdil4.Facts) (hPdil4Ideal : Cert.Pdil4Ideal.Facts) (hPdil4RefIdeal : Cert.Pdil4RefIdeal.Facts) (hPdil16 : Cert.Pdil16.Facts) (hPdil16Ideal : Cert.Pdil16Ideal.Facts) (hPdil16RefIdeal : Cert.Pdil16RefIdeal.Facts) (hQa : Cert.Qa.Facts) (hQaIdeal : Cert.QaIdeal.Facts) (hQaRefIdeal : Cert.QaRefIdeal.Facts) (hCmpTok : Cert.CmpTok.Facts) (hCmpTokIdeal : Cert.CmpTokIdeal.Facts) (hCmpTokRefIdeal : Cert.CmpTokRefIdeal.Facts) (hKSlc : Cert.KSlc.Facts) (hKSlcIdeal : Cert.KSlcIdeal.Facts) (hKSlcRefIdeal : Cert.KSlcRefIdeal.Facts) (hKWin : Cert.KWin.Facts) (hKWinIdeal : Cert.KWinIdeal.Facts) (hKWinRefIdeal : Cert.KWinRefIdeal.Facts) (hVals : Cert.Vals.Facts) (hValsIdeal : Cert.ValsIdeal.Facts) (hValsRefIdeal : Cert.ValsRefIdeal.Facts) (hPre_finite1 : Cert.Pre_finite1.Facts) (hPre_finite4 : Cert.Pre_finite4.Facts) (hPre_finite16 : Cert.Pre_finite16.Facts) (hPre_finite_lse : Cert.Pre_finite_lse.Facts),
    quiescent_Dil1 (hDil1 := hDil1)
    ∧ quiescent_Dil1Ideal (hDil1Ideal := hDil1Ideal)
    ∧ quiescent_Dil1Ideal_pre_finite1 (hDil1Ideal := hDil1Ideal) (hPre_finite1 := hPre_finite1)
    ∧ quiescent_Dil1RefIdeal (hDil1RefIdeal := hDil1RefIdeal)
    ∧ quiescent_Dil1RefIdeal_pre_finite1 (hDil1RefIdeal := hDil1RefIdeal) (hPre_finite1 := hPre_finite1)
    ∧ quiescent_Dil4 (hDil4 := hDil4)
    ∧ quiescent_Dil4Ideal (hDil4Ideal := hDil4Ideal)
    ∧ quiescent_Dil4Ideal_pre_finite4 (hDil4Ideal := hDil4Ideal) (hPre_finite4 := hPre_finite4)
    ∧ quiescent_Dil4RefIdeal (hDil4RefIdeal := hDil4RefIdeal)
    ∧ quiescent_Dil4RefIdeal_pre_finite4 (hDil4RefIdeal := hDil4RefIdeal) (hPre_finite4 := hPre_finite4)
    ∧ quiescent_Dil16 (hDil16 := hDil16)
    ∧ quiescent_Dil16Ideal (hDil16Ideal := hDil16Ideal)
    ∧ quiescent_Dil16Ideal_pre_finite16 (hDil16Ideal := hDil16Ideal) (hPre_finite16 := hPre_finite16)
    ∧ quiescent_Dil16RefIdeal (hDil16RefIdeal := hDil16RefIdeal)
    ∧ quiescent_Dil16RefIdeal_pre_finite16 (hDil16RefIdeal := hDil16RefIdeal) (hPre_finite16 := hPre_finite16)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeIdeal_pre_finite_lse (hMergeIdeal := hMergeIdeal) (hPre_finite_lse := hPre_finite_lse)
    ∧ quiescent_MergeRefIdeal (hMergeRefIdeal := hMergeRefIdeal)
    ∧ quiescent_MergeRefIdeal_pre_finite_lse (hMergeRefIdeal := hMergeRefIdeal) (hPre_finite_lse := hPre_finite_lse)
    ∧ quiescent_Pdil1 (hPdil1 := hPdil1)
    ∧ quiescent_Pdil1Ideal (hPdil1Ideal := hPdil1Ideal)
    ∧ quiescent_Pdil1RefIdeal (hPdil1RefIdeal := hPdil1RefIdeal)
    ∧ quiescent_Pdil4 (hPdil4 := hPdil4)
    ∧ quiescent_Pdil4Ideal (hPdil4Ideal := hPdil4Ideal)
    ∧ quiescent_Pdil4RefIdeal (hPdil4RefIdeal := hPdil4RefIdeal)
    ∧ quiescent_Pdil16 (hPdil16 := hPdil16)
    ∧ quiescent_Pdil16Ideal (hPdil16Ideal := hPdil16Ideal)
    ∧ quiescent_Pdil16RefIdeal (hPdil16RefIdeal := hPdil16RefIdeal)
    ∧ quiescent_Qa (hQa := hQa)
    ∧ quiescent_QaIdeal (hQaIdeal := hQaIdeal)
    ∧ quiescent_QaRefIdeal (hQaRefIdeal := hQaRefIdeal)
    ∧ quiescent_CmpTok (hCmpTok := hCmpTok)
    ∧ quiescent_CmpTokIdeal (hCmpTokIdeal := hCmpTokIdeal)
    ∧ quiescent_CmpTokRefIdeal (hCmpTokRefIdeal := hCmpTokRefIdeal)
    ∧ quiescent_KSlc (hKSlc := hKSlc)
    ∧ quiescent_KSlcIdeal (hKSlcIdeal := hKSlcIdeal)
    ∧ quiescent_KSlcRefIdeal (hKSlcRefIdeal := hKSlcRefIdeal)
    ∧ quiescent_KWin (hKWin := hKWin)
    ∧ quiescent_KWinIdeal (hKWinIdeal := hKWinIdeal)
    ∧ quiescent_KWinRefIdeal (hKWinRefIdeal := hKWinRefIdeal)
    ∧ quiescent_Vals (hVals := hVals)
    ∧ quiescent_ValsIdeal (hValsIdeal := hValsIdeal)
    ∧ quiescent_ValsRefIdeal (hValsRefIdeal := hValsRefIdeal)
    ∧ preserves_Dil1_Dil1Ideal
    ∧ algebraic_Dil1Ideal_Dil1RefIdeal_pre_finite1 (hDil1Ideal := hDil1Ideal) (hDil1RefIdeal := hDil1RefIdeal) (hPre_finite1 := hPre_finite1)
    ∧ preserves_Dil4_Dil4Ideal
    ∧ algebraic_Dil4Ideal_Dil4RefIdeal_pre_finite4 (hDil4Ideal := hDil4Ideal) (hDil4RefIdeal := hDil4RefIdeal) (hPre_finite4 := hPre_finite4)
    ∧ preserves_Dil16_Dil16Ideal
    ∧ algebraic_Dil16Ideal_Dil16RefIdeal_pre_finite16 (hDil16Ideal := hDil16Ideal) (hDil16RefIdeal := hDil16RefIdeal) (hPre_finite16 := hPre_finite16)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal_pre_finite_lse (hMergeIdeal := hMergeIdeal) (hMergeRefIdeal := hMergeRefIdeal) (hPre_finite_lse := hPre_finite_lse)
    ∧ preserves_Pdil1_Pdil1Ideal
    ∧ algebraic_Pdil1Ideal_Pdil1RefIdeal (hPdil1Ideal := hPdil1Ideal) (hPdil1RefIdeal := hPdil1RefIdeal)
    ∧ preserves_Pdil4_Pdil4Ideal
    ∧ algebraic_Pdil4Ideal_Pdil4RefIdeal (hPdil4Ideal := hPdil4Ideal) (hPdil4RefIdeal := hPdil4RefIdeal)
    ∧ preserves_Pdil16_Pdil16Ideal
    ∧ algebraic_Pdil16Ideal_Pdil16RefIdeal (hPdil16Ideal := hPdil16Ideal) (hPdil16RefIdeal := hPdil16RefIdeal)
    ∧ preserves_Qa_QaIdeal
    ∧ algebraic_QaIdeal_QaRefIdeal (hQaIdeal := hQaIdeal) (hQaRefIdeal := hQaRefIdeal)
    ∧ preserves_CmpTok_CmpTokIdeal
    ∧ algebraic_CmpTokIdeal_CmpTokRefIdeal (hCmpTokIdeal := hCmpTokIdeal) (hCmpTokRefIdeal := hCmpTokRefIdeal)
    ∧ preserves_KSlc_KSlcIdeal
    ∧ algebraic_KSlcIdeal_KSlcRefIdeal (hKSlcIdeal := hKSlcIdeal) (hKSlcRefIdeal := hKSlcRefIdeal)
    ∧ preserves_KWin_KWinIdeal
    ∧ algebraic_KWinIdeal_KWinRefIdeal (hKWinIdeal := hKWinIdeal) (hKWinRefIdeal := hKWinRefIdeal)
    ∧ preserves_Vals_ValsIdeal
    ∧ algebraic_ValsIdeal_ValsRefIdeal (hValsIdeal := hValsIdeal) (hValsRefIdeal := hValsRefIdeal)
-- ==== Pre_finite1.lean ====
abbrev S12x128x128x128 : Shape := ⟨4, ![12, 128, 128, 128]⟩
abbrev S_ : Shape := ⟨0, ![]⟩

class Facts : Prop where
  bitsLt_bf16_f32 : FTy.bits .bf16 < FTy.bits .f32
  bcast_S_S12x128x128x128 : S_.BroadcastsInDim S12x128x128x128 (![] : Fin 0 → Fin S12x128x128x128.rank)

variable [Facts]

def fn {F : FTy → Type} [FloatOps F] (main_arg0 : FVec F S12x128x128x128 .bf16) : IVec S12x128x128x128 1 :=
  let main_v0 : FVec F S12x128x128x128 .f32 := (extf .f32 · bitsLt_bf16_f32) main_arg0
  let main_v1 : FVec F S12x128x128x128 .f32 := Host.absf main_v0
  let main_cst : FVec F S_ .f32 := constant S_ .f32 0x7F800000#32
  let main_v2 : FVec F S12x128x128x128 .f32 := broadcastInDim S12x128x128x128 ![] bcast_S_S12x128x128x128 main_cst
  let main_v3 : IVec S12x128x128x128 1 := cmpf .olt main_v1 main_v2
  main_v3
-- ==== Pre_finite16.lean ====
abbrev S12x8x128x2048 : Shape := ⟨4, ![12, 8, 128, 2048]⟩
abbrev S_ : Shape := ⟨0, ![]⟩

class Facts : Prop where
  bitsLt_bf16_f32 : FTy.bits .bf16 < FTy.bits .f32
  bcast_S_S12x8x128x2048 : S_.BroadcastsInDim S12x8x128x2048 (![] : Fin 0 → Fin S12x8x128x2048.rank)

variable [Facts]

def fn {F : FTy → Type} [FloatOps F] (main_arg0 : FVec F S12x8x128x2048 .bf16) : IVec S12x8x128x2048 1 :=
  let main_v0 : FVec F S12x8x128x2048 .f32 := (extf .f32 · bitsLt_bf16_f32) main_arg0
  let main_v1 : FVec F S12x8x128x2048 .f32 := Host.absf main_v0
  let main_cst : FVec F S_ .f32 := constant S_ .f32 0x7F800000#32
  let main_v2 : FVec F S12x8x128x2048 .f32 := broadcastInDim S12x8x128x2048 ![] bcast_S_S12x8x128x2048 main_cst
  let main_v3 : IVec S12x8x128x2048 1 := cmpf .olt main_v1 main_v2
  main_v3
-- ==== Pre_finite4.lean ====
abbrev S12x32x128x512 : Shape := ⟨4, ![12, 32, 128, 512]⟩
abbrev S_ : Shape := ⟨0, ![]⟩

class Facts : Prop where
  bitsLt_bf16_f32 : FTy.bits .bf16 < FTy.bits .f32
  bcast_S_S12x32x128x512 : S_.BroadcastsInDim S12x32x128x512 (![] : Fin 0 → Fin S12x32x128x512.rank)

variable [Facts]

def fn {F : FTy → Type} [FloatOps F] (main_arg0 : FVec F S12x32x128x512 .bf16) : IVec S12x32x128x512 1 :=
  let main_v0 : FVec F S12x32x128x512 .f32 := (extf .f32 · bitsLt_bf16_f32) main_arg0
  let main_v1 : FVec F S12x32x128x512 .f32 := Host.absf main_v0
  let main_cst : FVec F S_ .f32 := constant S_ .f32 0x7F800000#32
  let main_v2 : FVec F S12x32x128x512 .f32 := broadcastInDim S12x32x128x512 ![] bcast_S_S12x32x128x512 main_cst
  let main_v3 : IVec S12x32x128x512 1 := cmpf .olt main_v1 main_v2
  main_v3
-- ==== Pre_finite_lse.lean ====
abbrev S16384x1024 : Shape := ⟨2, ![16384, 1024]⟩
abbrev S16384x512 : Shape := ⟨2, ![16384, 512]⟩
abbrev S16384x4096 : Shape := ⟨2, ![16384, 4096]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .bf16) (main_arg1 : FVec F S16384x512 .bf16) (main_arg2 : FVec F S16384x512 .bf16) (main_arg3 : FVec F S16384x512 .bf16) (main_arg4 : FVec F S16384x512 .f32) (main_arg5 : FVec F S16384x512 .f32) (main_arg6 : FVec F S16384x512 .f32) (main_arg7 : FVec F S16384x4096 .bf16) (main_arg8 : FVec F S16384x2048 .f32) (main_arg9 : FVec F S1024x2048 .f32) (main_arg10 : FVec F S512x2048 .f32) (main_arg11 : FVec F S2048x2048 .f32) (main_arg12 : FVec F S2048 .f32) (main_arg13 : FVec F S2048 .f32) : IVec S16384x512 1 :=
  let main_v0 : FVec F S16384x512 .f32 := Host.absf main_arg4
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg5
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : IVec S16384x512 1 := andi main_v2 main_v5
  let main_v7 : FVec F S16384x512 .f32 := Host.absf main_arg6
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : IVec S16384x512 1 := andi main_v6 main_v9
  main_v10
-- ==== Dil1.lean ====
abbrev S12x128x128x128 : Shape := ⟨4, ![12, 128, 128, 128]⟩
abbrev S128x128x512 : Shape := ⟨3, ![128, 128, 512]⟩
abbrev S4x4x128x128 : Shape := ⟨4, ![4, 4, 128, 128]⟩
abbrev S4x1x128x128 : Shape := ⟨4, ![4, 1, 128, 128]⟩
abbrev S4x128x512 : Shape := ⟨3, ![4, 128, 512]⟩
abbrev S128x256 : Shape := ⟨2, ![128, 256]⟩
abbrev S1x1x128x128 : Shape := ⟨4, ![1, 1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 14
  | .smem => 0
  | _ => 0

abbrev bufTy : (tb : Table) → Fin (tcTables nBuf tb) → BufTy
  | .hbm, ⟨0, _⟩ => ⟨S12x128x128x128, .bf16⟩
  | .hbm, ⟨1, _⟩ => ⟨S128x128x512, .bf16⟩
  | .hbm, ⟨2, _⟩ => ⟨S128x128x512, .f32⟩
  | .local _ .vmem, ⟨0, _⟩ => ⟨S4x4x128x128, .bf16⟩
  | .local _ .vmem, ⟨1, _⟩ => ⟨S4x4x128x128, .bf16⟩
  | .local _ .vmem, ⟨2, _⟩ => ⟨S4x1x128x128, .bf16⟩
  | .local _ .vmem, ⟨3, _⟩ => ⟨S4x1x128x128, .bf16⟩
  | .local _ .vmem, ⟨4, _⟩ => ⟨S4x4x128x128, .bf16⟩
  | .local _ .vmem, ⟨5, _⟩ => ⟨S4x4x128x128, .bf16⟩
  | .local _ .vmem, ⟨6, _⟩ => ⟨S4x1x128x128, .bf16⟩
  | .local _ .vmem, ⟨7, _⟩ => ⟨S4x1x128x128, .bf16⟩
  | .local _ .vmem, ⟨8, _⟩ => ⟨S4x4x128x128, .bf16⟩
  | .local _ .vmem, ⟨9, _⟩ => ⟨S4x4x128x128, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .f32⟩
  | .local _ .vmem, ⟨13, _⟩ => ⟨S4x128x512, .f32⟩
  | _, _ => ⟨S12x128x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![c0_i32_10.toNat, v9.toNat, c0_i32_11.toNat, v26.toNat]

def cc0_transform_1 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c32_i32_5 : BitVec 32 := 32#32
  let v13 : BitVec 32 := Scalar.divsi arg0 c32_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c32_i32_5 c0_i32_8
  let v20 : BitVec 32 := Scalar.extui v19
  let c0_i32_9 : BitVec 32 := 0#32
  let v21 : BitVec 1 := Scalar.cmpi .slt c32_i32_5 c0_i32_9
  let v22 : BitVec 32 := Scalar.extui v21
  let v23 : BitVec 32 := Scalar.subi v20 v22
  let v24 : BitVec 1 := Scalar.cmpi .ne v18 v23
  let v25 : BitVec 32 := Scalar.remsi arg0 c32_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c1_i32_12 : BitVec 32 := 1#32
  let c0_i32_13 : BitVec 32 := 0#32
  let c0_i32_14 : BitVec 32 := 0#32
  ![c1_i32_12.toNat, v12.toNat, c0_i32_13.toNat, v29.toNat]

def cc0_transform_2 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let c0_i32_11 : BitVec 32 := 0#32
  let c0_i32_12 : BitVec 32 := 0#32
  ![c1_i32_10.toNat, v9.toNat, c0_i32_11.toNat, v26.toNat]

def cc0_transform_3 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c32_i32_5 : BitVec 32 := 32#32
  let v13 : BitVec 32 := Scalar.divsi arg0 c32_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c32_i32_5 c0_i32_8
  let v20 : BitVec 32 := Scalar.extui v19
  let c0_i32_9 : BitVec 32 := 0#32
  let v21 : BitVec 1 := Scalar.cmpi .slt c32_i32_5 c0_i32_9
  let v22 : BitVec 32 := Scalar.extui v21
  let v23 : BitVec 32 := Scalar.subi v20 v22
  let v24 : BitVec 1 := Scalar.cmpi .ne v18 v23
  let v25 : BitVec 32 := Scalar.remsi arg0 c32_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32 : BitVec 32 := 2#32
  let c0_i32_12 : BitVec 32 := 0#32
  let c0_i32_13 : BitVec 32 := 0#32
  ![c2_i32.toNat, v12.toNat, c0_i32_12.toNat, v29.toNat]

def cc0_transform_4 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32 : BitVec 32 := 2#32
  let c0_i32_10 : BitVec 32 := 0#32
  let c0_i32_11 : BitVec 32 := 0#32
  ![c2_i32.toNat, v9.toNat, c0_i32_10.toNat, v26.toNat]

def cc0_transform_5 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_6 (i : grid0.Coords) : Fin 3 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

abbrev stage0_0 : Fin 2 → Memref sig .tc .vmem S4x4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Dil1RefIdeal.lean ====
abbrev S12x128x128x128 : Shape := ⟨4, ![12, 128, 128, 128]⟩
abbrev S3x4x16384x128 : Shape := ⟨4, ![3, 4, 16384, 128]⟩
abbrev S1x4x16384x128 : Shape := ⟨4, ![1, 4, 16384, 128]⟩
abbrev S4x16384x128 : Shape := ⟨3, ![4, 16384, 128]⟩
abbrev S16384 : Shape := ⟨1, ![16384]⟩
abbrev S16384x1 : Shape := ⟨2, ![16384, 1]⟩
abbrev S129 : Shape := ⟨1, ![129]⟩
abbrev S1x129 : Shape := ⟨2, ![1, 129]⟩
abbrev S_ : Shape := ⟨0, ![]⟩
abbrev S16384x129 : Shape := ⟨2, ![16384, 129]⟩
abbrev S16384x129x1 : Shape := ⟨3, ![16384, 129, 1]⟩
abbrev S4x16384x129x128 : Shape := ⟨4, ![4, 16384, 129, 128]⟩
abbrev S4x16384x129 : Shape := ⟨3, ![4, 16384, 129]⟩
abbrev S4x16384 : Shape := ⟨2, ![4, 16384]⟩
abbrev S4x16384x1 : Shape := ⟨3, ![4, 16384, 1]⟩
abbrev S16384x4x128 : Shape := ⟨3, ![16384, 4, 128]⟩
abbrev S16384x4 : Shape := ⟨2, ![16384, 4]⟩
abbrev S16384x4x1 : Shape := ⟨3, ![16384, 4, 1]⟩
abbrev S128x128x512 : Shape := ⟨3, ![128, 128, 512]⟩

abbrev nBuf : Space → Nat
  | .hbm => 79
  | .vmem => 0
  | .smem => 0
  | _ => 0

abbrev bufTy : (tb : Table) → Fin (tcTables nBuf tb) → BufTy
  | .hbm, ⟨0, _⟩ => ⟨S12x128x128x128, .bf16⟩
  | .hbm, ⟨1, _⟩ => ⟨S12x128x128x128, .f32⟩
  | .hbm, ⟨2, _⟩ => ⟨S3x4x16384x128, .f32⟩
  | .hbm, ⟨3, _⟩ => ⟨S1x4x16384x128, .f32⟩
  | .hbm, ⟨4, _⟩ => ⟨S4x16384x128, .f32⟩
  | .hbm, ⟨5, _⟩ => ⟨S1x4x16384x128, .f32⟩
  | .hbm, ⟨6, _⟩ => ⟨S4x16384x128, .f32⟩
  | .hbm, ⟨7, _⟩ => ⟨S1x4x16384x128, .f32⟩
  | .hbm, ⟨8, _⟩ => ⟨S4x16384x128, .f32⟩
  | .hbm, ⟨9, _⟩ => ⟨S16384, .i32⟩
  | .hbm, ⟨10, _⟩ => ⟨S16384x1, .i32⟩
  | .hbm, ⟨11, _⟩ => ⟨S129, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S16384x129, .i32⟩
  | .hbm, ⟨17, _⟩ => ⟨S16384x129, .i32⟩
  | .hbm, ⟨18, _⟩ => ⟨S16384x129, .i32⟩
  | .hbm, ⟨19, _⟩ => ⟨S_, .i32⟩
  | .hbm, ⟨20, _⟩ => ⟨S16384x129, .i32⟩
  | .hbm, ⟨21, _⟩ => ⟨S16384x129, .i32⟩
  | .hbm, ⟨22, _⟩ => ⟨S_, .i32⟩
  | .hbm, ⟨23, _⟩ => ⟨S16384x129, .i32⟩
  | .hbm, ⟨24, _⟩ => ⟨S16384x129, .i1⟩
  | .hbm, ⟨25, _⟩ => ⟨S_, .i32⟩
  | .hbm, ⟨26, _⟩ => ⟨S16384x129, .i32⟩
  | .hbm, ⟨27, _⟩ => ⟨S16384x129, .i32⟩
  | .hbm, ⟨28, _⟩ => ⟨S16384x129, .i32⟩
  | .hbm, ⟨29, _⟩ => ⟨S16384x129x1, .i32⟩
  | .hbm, ⟨30, _⟩ => ⟨S4x16384x129x128, .f32⟩
  | .hbm, ⟨31, _⟩ => ⟨S_, .i32⟩
  | .hbm, ⟨32, _⟩ => ⟨S16384x129, .i32⟩
  | .hbm, ⟨33, _⟩ => ⟨S16384x129, .i1⟩
  | .hbm, ⟨34, _⟩ => ⟨S_, .i32⟩
  | .hbm, ⟨35, _⟩ => ⟨S16384x129, .i32⟩
  | .hbm, ⟨36, _⟩ => ⟨S16384x129, .i32⟩
  | .hbm, ⟨37, _⟩ => ⟨S16384x129, .i32⟩
  | .hbm, ⟨38, _⟩ => ⟨S16384x129x1, .i32⟩
  | .hbm, ⟨39, _⟩ => ⟨S4x16384x129x128, .f32⟩
  | .hbm, ⟨40, _⟩ => ⟨S4x16384x129, .f32⟩
  | .hbm, ⟨41, _⟩ => ⟨S_, .i32⟩
  | .hbm, ⟨42, _⟩ => ⟨S16384x129, .i32⟩
  | .hbm, ⟨43, _⟩ => ⟨S16384x129, .i1⟩
  | .hbm, ⟨44, _⟩ => ⟨S_, .f32⟩
  | .hbm, ⟨45, _⟩ => ⟨S_, .f32⟩
  | .hbm, ⟨46, _⟩ => ⟨S4x16384x129, .i1⟩
  | .hbm, ⟨47, _⟩ => ⟨S4x16384x129, .f32⟩
  | .hbm, ⟨48, _⟩ => ⟨S4x16384x129, .f32⟩
  | .hbm, ⟨49, _⟩ => ⟨S_, .f32⟩
  | .hbm, ⟨50, _⟩ => ⟨S4x16384, .f32⟩
  | .hbm, ⟨51, _⟩ => ⟨S4x16384, .f32⟩
  | .hbm, ⟨52, _⟩ => ⟨S_, .f32⟩
  | .hbm, ⟨53, _⟩ => ⟨S4x16384, .f32⟩
  | .hbm, ⟨54, _⟩ => ⟨S4x16384, .i1⟩
  | .hbm, ⟨55, _⟩ => ⟨S_, .f32⟩
  | .hbm, ⟨56, _⟩ => ⟨S_, .f32⟩
  | .hbm, ⟨57, _⟩ => ⟨S4x16384, .f32⟩
  | .hbm, ⟨58, _⟩ => ⟨S4x16384, .f32⟩
  | .hbm, ⟨59, _⟩ => ⟨S4x16384x1, .f32⟩
  | .hbm, ⟨60, _⟩ => ⟨S4x16384x129, .f32⟩
  | .hbm, ⟨61, _⟩ => ⟨S4x16384x129, .f32⟩
  | .hbm, ⟨62, _⟩ => ⟨S4x16384x129, .f32⟩
  | .hbm, ⟨63, _⟩ => ⟨S_, .f32⟩
  | .hbm, ⟨64, _⟩ => ⟨S4x16384, .f32⟩
  | .hbm, ⟨65, _⟩ => ⟨S4x16384, .f32⟩
  | .hbm, ⟨66, _⟩ => ⟨S4x16384, .f32⟩
  | .hbm, ⟨67, _⟩ => ⟨S4x16384x1, .f32⟩
  | .hbm, ⟨68, _⟩ => ⟨S4x16384x129, .f32⟩
  | .hbm, ⟨69, _⟩ => ⟨S4x16384x129, .f32⟩
  | .hbm, ⟨70, _⟩ => ⟨S4x16384x129, .f32⟩
  | .hbm, ⟨71, _⟩ => ⟨S4x16384x128, .f32⟩
  | .hbm, ⟨72, _⟩ => ⟨S16384x4x128, .f32⟩
  | .hbm, ⟨73, _⟩ => ⟨S16384x4, .f32⟩
  | .hbm, ⟨74, _⟩ => ⟨S16384x4x1, .f32⟩
  | .hbm, ⟨75, _⟩ => ⟨S16384x4x128, .f32⟩
  | .hbm, ⟨76, _⟩ => ⟨S128x128x512, .f32⟩
  | .hbm, ⟨77, _⟩ => ⟨S128x128x512, .bf16⟩
  | .hbm, ⟨78, _⟩ => ⟨S128x128x512, .f32⟩
  | _, _ => ⟨S12x128x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_3 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_5 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Dil4.lean ====
abbrev S12x32x128x512 : Shape := ⟨4, ![12, 32, 128, 512]⟩
abbrev S32x128x2048 : Shape := ⟨3, ![32, 128, 2048]⟩
abbrev S4x4x128x128 : Shape := ⟨4, ![4, 4, 128, 128]⟩
abbrev S4x1x128x128 : Shape := ⟨4, ![4, 1, 128, 128]⟩
abbrev S4x128x512 : Shape := ⟨3, ![4, 128, 512]⟩
abbrev S128x256 : Shape := ⟨2, ![128, 256]⟩
abbrev S1x1x128x128 : Shape := ⟨4, ![1, 1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 14
  | .smem => 0
  | _ => 0

abbrev bufTy : (tb : Table) → Fin (tcTables nBuf tb) → BufTy
  | .hbm, ⟨0, _⟩ => ⟨S12x32x128x512, .bf16⟩
  | .hbm, ⟨1, _⟩ => ⟨S32x128x2048, .bf16⟩
  | .hbm, ⟨2, _⟩ => ⟨S32x128x2048, .f32⟩
  | .local _ .vmem, ⟨0, _⟩ => ⟨S4x4x128x128, .bf16⟩
  | .local _ .vmem, ⟨1, _⟩ => ⟨S4x4x128x128, .bf16⟩
  | .local _ .vmem, ⟨2, _⟩ => ⟨S4x1x128x128, .bf16⟩
  | .local _ .vmem, ⟨3, _⟩ => ⟨S4x1x128x128, .bf16⟩
  | .local _ .vmem, ⟨4, _⟩ => ⟨S4x4x128x128, .bf16⟩
  | .local _ .vmem, ⟨5, _⟩ => ⟨S4x4x128x128, .bf16⟩
  | .local _ .vmem, ⟨6, _⟩ => ⟨S4x1x128x128, .bf16⟩
  | .local _ .vmem, ⟨7, _⟩ => ⟨S4x1x128x128, .bf16⟩
  | .local _ .vmem, ⟨8, _⟩ => ⟨S4x4x128x128, .bf16⟩
  | .local _ .vmem, ⟨9, _⟩ => ⟨S4x4x128x128, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .f32⟩
  | .local _ .vmem, ⟨13, _⟩ => ⟨S4x128x512, .f32⟩
  | _, _ => ⟨S12x32x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![c0_i32_10.toNat, v9.toNat, c0_i32_11.toNat, v26.toNat]

def cc0_transform_1 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c8_i32_5 : BitVec 32 := 8#32
  let v13 : BitVec 32 := Scalar.divsi arg0 c8_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c8_i32_5 c0_i32_8
  let v20 : BitVec 32 := Scalar.extui v19
  let c0_i32_9 : BitVec 32 := 0#32
  let v21 : BitVec 1 := Scalar.cmpi .slt c8_i32_5 c0_i32_9
  let v22 : BitVec 32 := Scalar.extui v21
  let v23 : BitVec 32 := Scalar.subi v20 v22
  let v24 : BitVec 1 := Scalar.cmpi .ne v18 v23
  let v25 : BitVec 32 := Scalar.remsi arg0 c8_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c1_i32_12 : BitVec 32 := 1#32
  let c0_i32_13 : BitVec 32 := 0#32
  let c0_i32_14 : BitVec 32 := 0#32
  ![c1_i32_12.toNat, v12.toNat, c0_i32_13.toNat, v29.toNat]

def cc0_transform_2 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let c0_i32_11 : BitVec 32 := 0#32
  let c0_i32_12 : BitVec 32 := 0#32
  ![c1_i32_10.toNat, v9.toNat, c0_i32_11.toNat, v26.toNat]

def cc0_transform_3 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c8_i32_5 : BitVec 32 := 8#32
  let v13 : BitVec 32 := Scalar.divsi arg0 c8_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c8_i32_5 c0_i32_8
  let v20 : BitVec 32 := Scalar.extui v19
  let c0_i32_9 : BitVec 32 := 0#32
  let v21 : BitVec 1 := Scalar.cmpi .slt c8_i32_5 c0_i32_9
  let v22 : BitVec 32 := Scalar.extui v21
  let v23 : BitVec 32 := Scalar.subi v20 v22
  let v24 : BitVec 1 := Scalar.cmpi .ne v18 v23
  let v25 : BitVec 32 := Scalar.remsi arg0 c8_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32 : BitVec 32 := 2#32
  let c0_i32_12 : BitVec 32 := 0#32
  let c0_i32_13 : BitVec 32 := 0#32
  ![c2_i32.toNat, v12.toNat, c0_i32_12.toNat, v29.toNat]

def cc0_transform_4 (i : grid0.Coords) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32 : BitVec 32 := 2#32
  let c0_i32_10 : BitVec 32 := 0#32
  let c0_i32_11 : BitVec 32 := 0#32
  ![c2_i32.toNat, v9.toNat, c0_i32_10.toNat, v26.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

abbrev stage0_0 : Fin 2 → Memref sig .tc .vmem S4x4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Dil4RefIdeal.lean ====
abbrev S12x32x128x512 : Shape := ⟨4, ![12, 32, 128, 512]⟩
abbrev S3x4x16384x128 : Shape := ⟨4, ![3, 4, 16384, 128]⟩
abbrev S1x4x16384x128 : Shape := ⟨4, ![1, 4, 16384, 128]⟩
abbrev S4x16384x128 : Shape := ⟨3, ![4, 16384, 128]⟩
abbrev S16384 : Shape := ⟨1, ![16384]⟩
abbrev S16384x1 : Shape := ⟨2, ![16384, 1]⟩
abbrev S129 : Shape := ⟨1, ![129]⟩
abbrev S1x129 : Shape := ⟨2, ![1, 129]⟩
abbrev S_ : Shape := ⟨0, ![]⟩
abbrev S16384x129 : Shape := ⟨2, ![16384, 129]⟩
abbrev S16384x129x1 : Shape := ⟨3, ![16384, 129, 1]⟩
abbrev S4x16384x129x128 : Shape := ⟨4, ![4, 16384, 129, 128]⟩
abbrev S4x16384x129 : Shape := ⟨3, ![4, 16384, 129]⟩
abbrev S4x16384 : Shape := ⟨2, ![4, 16384]⟩
abbrev S4x16384x1 : Shape := ⟨3, ![4, 16384, 1]⟩
abbrev S16384x4x128 : Shape := ⟨3, ![16384, 4, 128]⟩
abbrev S16384x4 : Shape := ⟨2, ![16384, 4]⟩
abbrev S16384x4x1 : Shape := ⟨3, ![16384, 4, 1]⟩
abbrev S32x128x2048 : Shape := ⟨3, ![32, 128, 2048]⟩

abbrev nBuf : Space → Nat
  | .hbm => 79
  | .vmem => 0
  | .smem => 0
  | _ => 0

abbrev bufTy : (tb : Table) → Fin (tcTables nBuf tb) → BufTy
  | .hbm, ⟨0, _⟩ => ⟨S12x32x128x512, .bf16⟩
  | .hbm, ⟨1, _⟩ => ⟨S12x32x128x512, .f32⟩
  | .hbm, ⟨2, _⟩ => ⟨S3x4x16384x128, .f32⟩
  | .hbm, ⟨3, _⟩ => ⟨S1x4x16384x128, .f32⟩
  | .hbm, ⟨4, _⟩ => ⟨S4x16384x128, .f32⟩
  | .hbm, ⟨5, _⟩ => ⟨S1x4x16384x128, .f32⟩
  | .hbm, ⟨6, _⟩ => ⟨S4x16384x128, .f32⟩
  | .hbm, ⟨7, _⟩ => ⟨S1x4x16384x128, .f32⟩
  | .hbm, ⟨8, _⟩ => ⟨S4x16384x128, .f32⟩
  | .hbm, ⟨9, _⟩ => ⟨S16384, .i32⟩
  | .hbm, ⟨10, _⟩ => ⟨S16384x1, .i32⟩
  | .hbm, ⟨11, _⟩ => ⟨S129, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S16384x129, .i32⟩
  | .hbm, ⟨17, _⟩ => ⟨S16384x129, .i32⟩
  | .hbm, ⟨18, _⟩ => ⟨S16384x129, .i32⟩
  | .hbm, ⟨19, _⟩ => ⟨S_, .i32⟩
  | .hbm, ⟨20, _⟩ => ⟨S16384x129, .i32⟩
  | .hbm, ⟨21, _⟩ => ⟨S16384x129, .i32⟩
  | .hbm, ⟨22, _⟩ => ⟨S_, .i32⟩
  | .hbm, ⟨23, _⟩ => ⟨S16384x129, .i32⟩
  | .hbm, ⟨24, _⟩ => ⟨S16384x129, .i1⟩
  | .hbm, ⟨25, _⟩ => ⟨S_, .i32⟩
  | .hbm, ⟨26, _⟩ => ⟨S16384x129, .i32⟩
  | .hbm, ⟨27, _⟩ => ⟨S16384x129, .i32⟩
  | .hbm, ⟨28, _⟩ => ⟨S16384x129, .i32⟩
  | .hbm, ⟨29, _⟩ => ⟨S16384x129x1, .i32⟩
  | .hbm, ⟨30, _⟩ => ⟨S4x16384x129x128, .f32⟩
  | .hbm, ⟨31, _⟩ => ⟨S_, .i32⟩
  | .hbm, ⟨32, _⟩ => ⟨S16384x129, .i32⟩
  | .hbm, ⟨33, _⟩ => ⟨S16384x129, .i1⟩
  | .hbm, ⟨34, _⟩ => ⟨S_, .i32⟩
  | .hbm, ⟨35, _⟩ => ⟨S16384x129, .i32⟩
  | .hbm, ⟨36, _⟩ => ⟨S16384x129, .i32⟩
  | .hbm, ⟨37, _⟩ => ⟨S16384x129, .i32⟩
  | .hbm, ⟨38, _⟩ => ⟨S16384x129x1, .i32⟩
  | .hbm, ⟨39, _⟩ => ⟨S4x16384x129x128, .f32⟩
  | .hbm, ⟨40, _⟩ => ⟨S4x16384x129, .f32⟩
  | .hbm, ⟨41, _⟩ => ⟨S_, .i32⟩
  | .hbm, ⟨42, _⟩ => ⟨S16384x129, .i32⟩
  | .hbm, ⟨43, _⟩ => ⟨S16384x129, .i1⟩
  | .hbm, ⟨44, _⟩ => ⟨S_, .f32⟩
  | .hbm, ⟨45, _⟩ => ⟨S_, .f32⟩
  | .hbm, ⟨46, _⟩ => ⟨S4x16384x129, .i1⟩
  | .hbm, ⟨47, _⟩ => ⟨S4x16384x129, .f32⟩
  | .hbm, ⟨48, _⟩ => ⟨S4x16384x129, .f32⟩
  | .hbm, ⟨49, _⟩ => ⟨S_, .f32⟩
  | .hbm, ⟨50, _⟩ => ⟨S4x16384, .f32⟩
  | .hbm, ⟨51, _⟩ => ⟨S4x16384, .f32⟩
  | .hbm, ⟨52, _⟩ => ⟨S_, .f32⟩
  | .hbm, ⟨53, _⟩ => ⟨S4x16384, .f32⟩
  | .hbm, ⟨54, _⟩ => ⟨S4x16384, .i1⟩
  | .hbm, ⟨55, _⟩ => ⟨S_, .f32⟩
  | .hbm, ⟨56, _⟩ => ⟨S_, .f32⟩
  | .hbm, ⟨57, _⟩ => ⟨S4x16384, .f32⟩
  | .hbm, ⟨58, _⟩ => ⟨S4x16384, .f32⟩
  | .hbm, ⟨59, _⟩ => ⟨S4x16384x1, .f32⟩
  | .hbm, ⟨60, _⟩ => ⟨S4x16384x129, .f32⟩
  | .hbm, ⟨61, _⟩ => ⟨S4x16384x129, .f32⟩
  | .hbm, ⟨62, _⟩ => ⟨S4x16384x129, .f32⟩
  | .hbm, ⟨63, _⟩ => ⟨S_, .f32⟩
  | .hbm, ⟨64, _⟩ => ⟨S4x16384, .f32⟩
  | .hbm, ⟨65, _⟩ => ⟨S4x16384, .f32⟩
  | .hbm, ⟨66, _⟩ => ⟨S4x16384, .f32⟩
  | .hbm, ⟨67, _⟩ => ⟨S4x16384x1, .f32⟩
  | .hbm, ⟨68, _⟩ => ⟨S4x16384x129, .f32⟩
  | .hbm, ⟨69, _⟩ => ⟨S4x16384x129, .f32⟩
  | .hbm, ⟨70, _⟩ => ⟨S4x16384x129, .f32⟩
  | .hbm, ⟨71, _⟩ => ⟨S4x16384x128, .f32⟩
  | .hbm, ⟨72, _⟩ => ⟨S16384x4x128, .f32⟩
  | .hbm, ⟨73, _⟩ => ⟨S16384x4, .f32⟩
  | .hbm, ⟨74, _⟩ => ⟨S16384x4x1, .f32⟩
  | .hbm, ⟨75, _⟩ => ⟨S16384x4x128, .f32⟩
  | .hbm, ⟨76, _⟩ => ⟨S32x128x2048, .f32⟩
  | .hbm, ⟨77, _⟩ => ⟨S32x128x2048, .bf16⟩
  | .hbm, ⟨78, _⟩ => ⟨S32x128x2048, .f32⟩
  | _, _ => ⟨S12x32x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_3 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_5 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Dil16.lean ====
abbrev S12x8x128x2048 : Shape := ⟨4, ![12, 8, 128, 2048]⟩
abbrev S8x128x8192 : Shape := ⟨3, ![8, 128, 8192]⟩
abbrev S4x4x128x128 : Shape := ⟨4, ![4, 4, 128, 128]⟩
abbrev S4x1x128x128 : Shape := ⟨4, ![4, 1, 128, 128]⟩
abbrev S4x128x512 : Shape := ⟨3, ![4, 128, 512]⟩
abbrev S128x256 : Shape := ⟨2, ![128, 256]⟩
abbrev S1x1x128x128 : Shape := ⟨4, ![1, 1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 3
  | .vmem => 14
  | .smem => 0
  | _ => 0

abbrev bufTy : (tb : Table) → Fin (tcTables nBuf tb) → BufTy
  | .hbm, ⟨0, _⟩ => ⟨S12x8x128x2048, .bf16⟩
  | .hbm, ⟨1, _⟩ => ⟨S8x128x8192, .bf16⟩
  | .hbm, ⟨2, _⟩ => ⟨S8x128x8192, .f32⟩
  | .local _ .vmem, ⟨0, _⟩ => ⟨S4x4x128x128, .bf16⟩
  | .local _ .vmem, ⟨1, _⟩ => ⟨S4x4x128x128, .bf16⟩
  | .local _ .vmem, ⟨2, _⟩ => ⟨S4x1x128x128, .bf16⟩
  | .local _ .vmem, ⟨3, _⟩ => ⟨S4x1x128x128, .bf16⟩
  | .local _ .vmem, ⟨4, _⟩ => ⟨S4x4x128x128, .bf16⟩
  | .local _ .vmem, ⟨5, _⟩ => ⟨S4x4x128x128, .bf16⟩
  | .local _ .vmem, ⟨6, _⟩ => ⟨S4x1x128x128, .bf16⟩
  | .local _ .vmem, ⟨7, _⟩ => ⟨S4x1x128x128, .bf16⟩
  | .local _ .vmem, ⟨8, _⟩ => ⟨S4x4x128x128, .bf16⟩
  | .local _ .vmem, ⟨9, _⟩ => ⟨S4x4x128x128, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .f32⟩
  | .local _ .vmem, ⟨13, _⟩ => ⟨S4x128x512, .f32⟩
  | _, _ => ⟨S12x8x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![c0_i32_10.toNat, v9.toNat, c0_i32_11.toNat, v26.toNat]

def cc0_transform_1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c2_i32_5 : BitVec 32 := 2#32
  let v13 : BitVec 32 := Scalar.divsi arg0 c2_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c2_i32_5 c0_i32_8
  let v20 : BitVec 32 := Scalar.extui v19
  let c0_i32_9 : BitVec 32 := 0#32
  let v21 : BitVec 1 := Scalar.cmpi .slt c2_i32_5 c0_i32_9
  let v22 : BitVec 32 := Scalar.extui v21
  let v23 : BitVec 32 := Scalar.subi v20 v22
  let v24 : BitVec 1 := Scalar.cmpi .ne v18 v23
  let v25 : BitVec 32 := Scalar.remsi arg0 c2_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c1_i32_12 : BitVec 32 := 1#32
  let c0_i32_13 : BitVec 32 := 0#32
  let c0_i32_14 : BitVec 32 := 0#32
  ![c1_i32_12.toNat, v12.toNat, c0_i32_13.toNat, v29.toNat]

def cc0_transform_2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let c0_i32_11 : BitVec 32 := 0#32
  let c0_i32_12 : BitVec 32 := 0#32
  ![c1_i32_10.toNat, v9.toNat, c0_i32_11.toNat, v26.toNat]

def cc0_transform_3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli c4_i32 v9
  let c1_i32_3 : BitVec 32 := 1#32
  let v11 : BitVec 32 := Scalar.subi v10 c1_i32_3
  let c0_i32_4 : BitVec 32 := 0#32
  let v12 : BitVec 32 := Scalar.maxsi v11 c0_i32_4
  let c2_i32_5 : BitVec 32 := 2#32
  let v13 : BitVec 32 := Scalar.divsi arg0 c2_i32_5
  let c0_i32_6 : BitVec 32 := 0#32
  let v14 : BitVec 1 := Scalar.cmpi .sgt arg0 c0_i32_6
  let v15 : BitVec 32 := Scalar.extui v14
  let c0_i32_7 : BitVec 32 := 0#32
  let v16 : BitVec 1 := Scalar.cmpi .slt arg0 c0_i32_7
  let v17 : BitVec 32 := Scalar.extui v16
  let v18 : BitVec 32 := Scalar.subi v15 v17
  let c0_i32_8 : BitVec 32 := 0#32
  let v19 : BitVec 1 := Scalar.cmpi .sgt c2_i32_5 c0_i32_8
  let v20 : BitVec 32 := Scalar.extui v19
  let c0_i32_9 : BitVec 32 := 0#32
  let v21 : BitVec 1 := Scalar.cmpi .slt c2_i32_5 c0_i32_9
  let v22 : BitVec 32 := Scalar.extui v21
  let v23 : BitVec 32 := Scalar.subi v20 v22
  let v24 : BitVec 1 := Scalar.cmpi .ne v18 v23
  let v25 : BitVec 32 := Scalar.remsi arg0 c2_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c2_i32_12 : BitVec 32 := 2#32
  let c0_i32_13 : BitVec 32 := 0#32
  let c0_i32_14 : BitVec 32 := 0#32
  ![c2_i32_12.toNat, v12.toNat, c0_i32_13.toNat, v29.toNat]

def cc0_transform_4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c2_i32_10 : BitVec 32 := 2#32
  let c0_i32_11 : BitVec 32 := 0#32
  let c0_i32_12 : BitVec 32 := 0#32
  ![c2_i32_10.toNat, v9.toNat, c0_i32_11.toNat, v26.toNat]

def cc0_transform_5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

def cc0_transform_6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, c0_i32_10.toNat, v26.toNat]

abbrev stage0_0 : Fin 2 → Memref sig .tc .vmem S4x4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Dil16RefIdeal.lean ====
abbrev S12x8x128x2048 : Shape := ⟨4, ![12, 8, 128, 2048]⟩
abbrev S3x4x16384x128 : Shape := ⟨4, ![3, 4, 16384, 128]⟩
abbrev S1x4x16384x128 : Shape := ⟨4, ![1, 4, 16384, 128]⟩
abbrev S4x16384x128 : Shape := ⟨3, ![4, 16384, 128]⟩
abbrev S16384 : Shape := ⟨1, ![16384]⟩
abbrev S16384x1 : Shape := ⟨2, ![16384, 1]⟩
abbrev S129 : Shape := ⟨1, ![129]⟩
abbrev S1x129 : Shape := ⟨2, ![1, 129]⟩
abbrev S_ : Shape := ⟨0, ![]⟩
abbrev S16384x129 : Shape := ⟨2, ![16384, 129]⟩
abbrev S16384x129x1 : Shape := ⟨3, ![16384, 129, 1]⟩
abbrev S4x16384x129x128 : Shape := ⟨4, ![4, 16384, 129, 128]⟩
abbrev S4x16384x129 : Shape := ⟨3, ![4, 16384, 129]⟩
abbrev S4x16384 : Shape := ⟨2, ![4, 16384]⟩
abbrev S4x16384x1 : Shape := ⟨3, ![4, 16384, 1]⟩
abbrev S16384x4x128 : Shape := ⟨3, ![16384, 4, 128]⟩
abbrev S16384x4 : Shape := ⟨2, ![16384, 4]⟩
abbrev S16384x4x1 : Shape := ⟨3, ![16384, 4, 1]⟩
abbrev S8x128x8192 : Shape := ⟨3, ![8, 128, 8192]⟩

abbrev nBuf : Space → Nat
  | .hbm => 79
  | .vmem => 0
  | .smem => 0
  | _ => 0

abbrev bufTy : (tb : Table) → Fin (tcTables nBuf tb) → BufTy
  | .hbm, ⟨0, _⟩ => ⟨S12x8x128x2048, .bf16⟩
  | .hbm, ⟨1, _⟩ => ⟨S12x8x128x2048, .f32⟩
  | .hbm, ⟨2, _⟩ => ⟨S3x4x16384x128, .f32⟩
  | .hbm, ⟨3, _⟩ => ⟨S1x4x16384x128, .f32⟩
  | .hbm, ⟨4, _⟩ => ⟨S4x16384x128, .f32⟩
  | .hbm, ⟨5, _⟩ => ⟨S1x4x16384x128, .f32⟩
  | .hbm, ⟨6, _⟩ => ⟨S4x16384x128, .f32⟩
  | .hbm, ⟨7, _⟩ => ⟨S1x4x16384x128, .f32⟩
  | .hbm, ⟨8, _⟩ => ⟨S4x16384x128, .f32⟩
  | .hbm, ⟨9, _⟩ => ⟨S16384, .i32⟩
  | .hbm, ⟨10, _⟩ => ⟨S16384x1, .i32⟩
  | .hbm, ⟨11, _⟩ => ⟨S129, .i32⟩
  | .hbm, ⟨12, _⟩ => ⟨S1x129, .i32⟩
  | .hbm, ⟨13, _⟩ => ⟨S_, .i32⟩
  | .hbm, ⟨14, _⟩ => ⟨S1x129, .i32⟩
  | .hbm, ⟨15, _⟩ => ⟨S1x129, .i32⟩
  | .hbm, ⟨16, _⟩ => ⟨S16384x129, .i32⟩
  | .hbm, ⟨17, _⟩ => ⟨S16384x129, .i32⟩
  | .hbm, ⟨18, _⟩ => ⟨S16384x129, .i32⟩
  | .hbm, ⟨19, _⟩ => ⟨S_, .i32⟩
  | .hbm, ⟨20, _⟩ => ⟨S16384x129, .i32⟩
  | .hbm, ⟨21, _⟩ => ⟨S16384x129, .i32⟩
  | .hbm, ⟨22, _⟩ => ⟨S_, .i32⟩
  | .hbm, ⟨23, _⟩ => ⟨S16384x129, .i32⟩
  | .hbm, ⟨24, _⟩ => ⟨S16384x129, .i1⟩
  | .hbm, ⟨25, _⟩ => ⟨S_, .i32⟩
  | .hbm, ⟨26, _⟩ => ⟨S16384x129, .i32⟩
  | .hbm, ⟨27, _⟩ => ⟨S16384x129, .i32⟩
  | .hbm, ⟨28, _⟩ => ⟨S16384x129, .i32⟩
  | .hbm, ⟨29, _⟩ => ⟨S16384x129x1, .i32⟩
  | .hbm, ⟨30, _⟩ => ⟨S4x16384x129x128, .f32⟩
  | .hbm, ⟨31, _⟩ => ⟨S_, .i32⟩
  | .hbm, ⟨32, _⟩ => ⟨S16384x129, .i32⟩
  | .hbm, ⟨33, _⟩ => ⟨S16384x129, .i1⟩
  | .hbm, ⟨34, _⟩ => ⟨S_, .i32⟩
  | .hbm, ⟨35, _⟩ => ⟨S16384x129, .i32⟩
  | .hbm, ⟨36, _⟩ => ⟨S16384x129, .i32⟩
  | .hbm, ⟨37, _⟩ => ⟨S16384x129, .i32⟩
  | .hbm, ⟨38, _⟩ => ⟨S16384x129x1, .i32⟩
  | .hbm, ⟨39, _⟩ => ⟨S4x16384x129x128, .f32⟩
  | .hbm, ⟨40, _⟩ => ⟨S4x16384x129, .f32⟩
  | .hbm, ⟨41, _⟩ => ⟨S_, .i32⟩
  | .hbm, ⟨42, _⟩ => ⟨S16384x129, .i32⟩
  | .hbm, ⟨43, _⟩ => ⟨S16384x129, .i1⟩
  | .hbm, ⟨44, _⟩ => ⟨S_, .f32⟩
  | .hbm, ⟨45, _⟩ => ⟨S_, .f32⟩
  | .hbm, ⟨46, _⟩ => ⟨S4x16384x129, .i1⟩
  | .hbm, ⟨47, _⟩ => ⟨S4x16384x129, .f32⟩
  | .hbm, ⟨48, _⟩ => ⟨S4x16384x129, .f32⟩
  | .hbm, ⟨49, _⟩ => ⟨S_, .f32⟩
  | .hbm, ⟨50, _⟩ => ⟨S4x16384, .f32⟩
  | .hbm, ⟨51, _⟩ => ⟨S4x16384, .f32⟩
  | .hbm, ⟨52, _⟩ => ⟨S_, .f32⟩
  | .hbm, ⟨53, _⟩ => ⟨S4x16384, .f32⟩
  | .hbm, ⟨54, _⟩ => ⟨S4x16384, .i1⟩
  | .hbm, ⟨55, _⟩ => ⟨S_, .f32⟩
  | .hbm, ⟨56, _⟩ => ⟨S_, .f32⟩
  | .hbm, ⟨57, _⟩ => ⟨S4x16384, .f32⟩
  | .hbm, ⟨58, _⟩ => ⟨S4x16384, .f32⟩
  | .hbm, ⟨59, _⟩ => ⟨S4x16384x1, .f32⟩
  | .hbm, ⟨60, _⟩ => ⟨S4x16384x129, .f32⟩
  | .hbm, ⟨61, _⟩ => ⟨S4x16384x129, .f32⟩
  | .hbm, ⟨62, _⟩ => ⟨S4x16384x129, .f32⟩
  | .hbm, ⟨63, _⟩ => ⟨S_, .f32⟩
  | .hbm, ⟨64, _⟩ => ⟨S4x16384, .f32⟩
  | .hbm, ⟨65, _⟩ => ⟨S4x16384, .f32⟩
  | .hbm, ⟨66, _⟩ => ⟨S4x16384, .f32⟩
  | .hbm, ⟨67, _⟩ => ⟨S4x16384x1, .f32⟩
  | .hbm, ⟨68, _⟩ => ⟨S4x16384x129, .f32⟩
  | .hbm, ⟨69, _⟩ => ⟨S4x16384x129, .f32⟩
  | .hbm, ⟨70, _⟩ => ⟨S4x16384x129, .f32⟩
  | .hbm, ⟨71, _⟩ => ⟨S4x16384x128, .f32⟩
  | .hbm, ⟨72, _⟩ => ⟨S16384x4x128, .f32⟩
  | .hbm, ⟨73, _⟩ => ⟨S16384x4, .f32⟩
  | .hbm, ⟨74, _⟩ => ⟨S16384x4x1, .f32⟩
  | .hbm, ⟨75, _⟩ => ⟨S16384x4x128, .f32⟩
  | .hbm, ⟨76, _⟩ => ⟨S8x128x8192, .f32⟩
  | .hbm, ⟨77, _⟩ => ⟨S8x128x8192, .bf16⟩
  | .hbm, ⟨78, _⟩ => ⟨S8x128x8192, .f32⟩
  | _, _ => ⟨S12x8x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_c_1 : Ref sig .tc := ⟨.hbm, 22, rfl⟩
abbrev main_v19 : Ref sig .tc := ⟨.hbm, 23, rfl⟩
abbrev main_v20 : Ref sig .tc := ⟨.hbm, 24, rfl⟩
abbrev main_c_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_3 : Ref sig .tc := ⟨.hbm, 31, rfl⟩
abbrev main_v26 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_5 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Ffn1.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S256x2048 : Shape := ⟨2, ![256, 2048]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v48 : BitVec 1 := Scalar.cmpi .eq arg1 c10_i32
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Ffn1RefIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | .hbm, ⟨55, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Ffn2.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S256x2048 : Shape := ⟨2, ![256, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v48 : BitVec 1 := Scalar.cmpi .eq arg1 c10_i32
  let v49 : BitVec 32 := Scalar.extui v48
  let c0_i32_28 : BitVec 32 := 0#32
  let v50 : BitVec 1 := Scalar.cmpi .ne v49 c0_i32_28
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Ffn2RefIdeal.lean ====
abbrev S16384x2048 : Shape := ⟨2, ![16384, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S16384x5632 : Shape := ⟨2, ![16384, 5632]⟩
abbrev S16384 : Shape := ⟨1, ![16384]⟩
abbrev S16384x1 : Shape := ⟨2, ![16384, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S16384x2048, .f32⟩
  | .hbm, ⟨8, _⟩ => ⟨S16384x2048, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S_, .f32⟩
  | .hbm, ⟨13, _⟩ => ⟨S16384x5632, .f32⟩
  | .hbm, ⟨14, _⟩ => ⟨S16384x5632, .f32⟩
  | .hbm, ⟨15, _⟩ => ⟨S_, .f32⟩
  | .hbm, ⟨16, _⟩ => ⟨S16384x5632, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Gates.lean ====
abbrev S16384x2048 : Shape := ⟨2, ![16384, 2048]⟩
abbrev S2048x11288 : Shape := ⟨2, ![2048, 11288]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x4096, .bf16⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S_ : Shape := ⟨0, ![]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x4096, .f32⟩
  | .hbm, ⟨34, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x4096 : Shape := ⟨2, ![16384, 4096]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 21
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x4096, .bf16⟩
  | .hbm, ⟨8, _⟩ => ⟨S16384x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S1024x2048, .bf16⟩
  | .hbm, ⟨15, _⟩ => ⟨S512x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S16384x2048, .f32⟩
  | .hbm, ⟨20, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | .local _ .vmem, ⟨20, _⟩ => ⟨S1024x2048, .bf16⟩
  | .local _ .vmem, ⟨21, _⟩ => ⟨S512x2048, .bf16⟩
  | .local _ .vmem, ⟨22, _⟩ => ⟨S2048x2048, .bf16⟩
  | .local _ .vmem, ⟨23, _⟩ => ⟨S1x2048, .f32⟩
  | .local _ .vmem, ⟨24, _⟩ => ⟨S1x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S16384x512 : Shape := ⟨2, ![16384, 512]⟩
abbrev S16384x4096 : Shape := ⟨2, ![16384, 4096]⟩
abbrev S16384x2048 : Shape := ⟨2, ![16384, 2048]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x16384x512 : Shape := ⟨3, ![1, 16384, 512]⟩
abbrev S3x16384x512 : Shape := ⟨3, ![3, 16384, 512]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x4096, .bf16⟩
  | .hbm, ⟨8, _⟩ => ⟨S16384x2048, .f32⟩
  | .hbm, ⟨9, _⟩ => ⟨S1024x2048, .f32⟩
  | .hbm, ⟨10, _⟩ => ⟨S512x2048, .f32⟩
  | .hbm, ⟨11, _⟩ => ⟨S2048x2048, .f32⟩
  | .hbm, ⟨12, _⟩ => ⟨S2048, .f32⟩
  | .hbm, ⟨13, _⟩ => ⟨S2048, .f32⟩
  | .hbm, ⟨14, _⟩ => ⟨S1x16384x512, .f32⟩
  | .hbm, ⟨15, _⟩ => ⟨S1x16384x512, .f32⟩
  | .hbm, ⟨16, _⟩ => ⟨S1x16384x512, .f32⟩
  | .hbm, ⟨17, _⟩ => ⟨S3x16384x512, .f32⟩
  | .hbm, ⟨18, _⟩ => ⟨S_, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S1x16384x512, .f32⟩
  | .hbm, ⟨24, _⟩ => ⟨S3x16384x512, .f32⟩
  | .hbm, ⟨25, _⟩ => ⟨S3x16384x512, .f32⟩
  | .hbm, ⟨26, _⟩ => ⟨S3x16384x512, .f32⟩
  | .hbm, ⟨27, _⟩ => ⟨S_, .f32⟩
  | .hbm, ⟨28, _⟩ => ⟨S16384x512, .f32⟩
  | .hbm, ⟨29, _⟩ => ⟨S1x16384x512, .f32⟩
  | .hbm, ⟨30, _⟩ => ⟨S3x16384x512, .f32⟩
  | .hbm, ⟨31, _⟩ => ⟨S3x16384x512, .f32⟩
  | .hbm, ⟨32, _⟩ => ⟨S1x16384x512, .bf16⟩
  | .hbm, ⟨33, _⟩ => ⟨S1x16384x512, .bf16⟩
  | .hbm, ⟨34, _⟩ => ⟨S1x16384x512, .bf16⟩
  | .hbm, ⟨35, _⟩ => ⟨S3x16384x512, .bf16⟩
  | .hbm, ⟨36, _⟩ => ⟨S3x16384x512, .f32⟩
  | .hbm, ⟨37, _⟩ => ⟨S3x16384x512, .f32⟩
  | .hbm, ⟨38, _⟩ => ⟨S_, .f32⟩
  | .hbm, ⟨39, _⟩ => ⟨S16384x512, .f32⟩
  | .hbm, ⟨40, _⟩ => ⟨S16384x4096, .f32⟩
  | .hbm, ⟨41, _⟩ => ⟨S16384x2048, .f32⟩
  | .hbm, ⟨42, _⟩ => ⟨S16384x2048, .f32⟩
  | .hbm, ⟨43, _⟩ => ⟨S16384x1024, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x2048, .f32⟩
  | .hbm, ⟨76, _⟩ => ⟨S16384x2048, .f32⟩
  | .hbm, ⟨77, _⟩ => ⟨S1x2048, .f32⟩
  | .hbm, ⟨78, _⟩ => ⟨S16384x2048, .f32⟩
  | .hbm, ⟨79, _⟩ => ⟨S16384x2048, .f32⟩
  | .hbm, ⟨80, _⟩ => ⟨S1x2048, .f32⟩
  | .hbm, ⟨81, _⟩ => ⟨S16384x2048, .f32⟩
  | .hbm, ⟨82, _⟩ => ⟨S16384x2048, .f32⟩
  | .hbm, ⟨83, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Pdil1.lean ====
abbrev S16384x2048 : Shape := ⟨2, ![16384, 2048]⟩
abbrev S2048x11288 : Shape := ⟨2, ![2048, 11288]⟩
abbrev S2048x1536 : Shape := ⟨2, ![2048, 1536]⟩
abbrev S2048x512 : Shape := ⟨2, ![2048, 512]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S12x128x128x128 : Shape := ⟨4, ![12, 128, 128, 128]⟩
abbrev S2048x2048 : Shape := ⟨2, ![2048, 2048]⟩
abbrev S2048x128 : Shape := ⟨2, ![2048, 128]⟩
abbrev S4x16x128x128 : Shape := ⟨4, ![4, 16, 128, 128]⟩
abbrev S4x2048x128 : Shape := ⟨3, ![4, 2048, 128]⟩
abbrev S16x128x128 : Shape := ⟨3, ![16, 128, 128]⟩
abbrev S1x16x128x128 : Shape := ⟨4, ![1, 16, 128, 128]⟩

abbrev nBuf : Space → Nat
  | .hbm => 36
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x1536, .bf16⟩
  | .hbm, ⟨4, _⟩ => ⟨S2048x512, .bf16⟩
  | .hbm, ⟨5, _⟩ => ⟨S2048x1536, .bf16⟩
  | .hbm, ⟨6, _⟩ => ⟨S2048x512, .bf16⟩
  | .hbm, ⟨7, _⟩ => ⟨S2048x1536, .bf16⟩
  | .hbm, ⟨8, _⟩ => ⟨S2048x512, .bf16⟩
  | .hbm, ⟨9, _⟩ => ⟨S2048x1536, .bf16⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S16384, .f32⟩
  | .hbm, ⟨25, _⟩ => ⟨S16384x1, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x128, .f32⟩
  | .hbm, ⟨33, _⟩ => ⟨S16384x64, .f32⟩
  | .hbm, ⟨34, _⟩ => ⟨S16384x128, .f32⟩
  | .hbm, ⟨35, _⟩ => ⟨S12x128x128x128, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x16x128x128, .bf16⟩
  | .local _ .vmem, ⟨9, _⟩ => ⟨S4x16x128x128, .bf16⟩
  | .local _ .vmem, ⟨10, _⟩ => ⟨S4x2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Pdil1RefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x12x128 : Shape := ⟨3, ![16384, 12, 128]⟩
abbrev S12x16384x128 : Shape := ⟨3, ![12, 16384, 128]⟩
abbrev S4x16384x128 : Shape := ⟨3, ![4, 16384, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S4x16384x64 : Shape := ⟨3, ![4, 16384, 64]⟩
abbrev S1x16384x64 : Shape := ⟨3, ![1, 16384, 64]⟩
abbrev S12x128x128x128 : Shape := ⟨4, ![12, 128, 128, 128]⟩

abbrev nBuf : Space → Nat
  | .hbm => 110
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x12x128, .f32⟩
  | .hbm, ⟨18, _⟩ => ⟨S12x16384x128, .f32⟩
  | .hbm, ⟨19, _⟩ => ⟨S4x16384x128, .f32⟩
  | .hbm, ⟨20, _⟩ => ⟨S16384x12x128, .f32⟩
  | .hbm, ⟨21, _⟩ => ⟨S12x16384x128, .f32⟩
  | .hbm, ⟨22, _⟩ => ⟨S4x16384x128, .f32⟩
  | .hbm, ⟨23, _⟩ => ⟨S16384x12x128, .f32⟩
  | .hbm, ⟨24, _⟩ => ⟨S12x16384x128, .f32⟩
  | .hbm, ⟨25, _⟩ => ⟨S4x16384x128, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S16384, .f32⟩
  | .hbm, ⟨41, _⟩ => ⟨S16384x1, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S4x16384x64, .f32⟩
  | .hbm, ⟨49, _⟩ => ⟨S4x16384x64, .f32⟩
  | .hbm, ⟨50, _⟩ => ⟨S1x16384x64, .f32⟩
  | .hbm, ⟨51, _⟩ => ⟨S4x16384x64, .f32⟩
  | .hbm, ⟨52, _⟩ => ⟨S4x16384x64, .f32⟩
  | .hbm, ⟨53, _⟩ => ⟨S1x16384x64, .f32⟩
  | .hbm, ⟨54, _⟩ => ⟨S4x16384x64, .f32⟩
  | .hbm, ⟨55, _⟩ => ⟨S4x16384x64, .f32⟩
  | .hbm, ⟨56, _⟩ => ⟨S4x16384x64, .f32⟩
  | .hbm, ⟨57, _⟩ => ⟨S1x16384x64, .f32⟩
  | .hbm, ⟨58, _⟩ => ⟨S4x16384x64, .f32⟩
  | .hbm, ⟨59, _⟩ => ⟨S4x16384x64, .f32⟩
  | .hbm, ⟨60, _⟩ => ⟨S1x16384x64, .f32⟩
  | .hbm, ⟨61, _⟩ => ⟨S4x16384x64, .f32⟩
  | .hbm, ⟨62, _⟩ => ⟨S4x16384x64, .f32⟩
  | .hbm, ⟨63, _⟩ => ⟨S4x16384x64, .f32⟩
  | .hbm, ⟨64, _⟩ => ⟨S4x16384x128, .f32⟩
  | .hbm, ⟨65, _⟩ => ⟨S_, .f32⟩
  | .hbm, ⟨66, _⟩ => ⟨S4x16384x128, .f32⟩
  | .hbm, ⟨67, _⟩ => ⟨S4x16384x128, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S16384, .f32⟩
  | .hbm, ⟨83, _⟩ => ⟨S16384x1, .f32⟩
  | .hbm, ⟨84, _⟩ => ⟨S1x64, .f32⟩
  | .hbm, ⟨85, _⟩ => ⟨S16384x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S4x16384x64, .f32⟩
  | .hbm, ⟨91, _⟩ => ⟨S4x16384x64, .f32⟩
  | .hbm, ⟨92, _⟩ => ⟨S1x16384x64, .f32⟩
  | .hbm, ⟨93, _⟩ => ⟨S4x16384x64, .f32⟩
  | .hbm, ⟨94, _⟩ => ⟨S4x16384x64, .f32⟩
  | .hbm, ⟨95, _⟩ => ⟨S1x16384x64, .f32⟩
  | .hbm, ⟨96, _⟩ => ⟨S4x16384x64, .f32⟩
  | .hbm, ⟨97, _⟩ => ⟨S4x16384x64, .f32⟩
  | .hbm, ⟨98, _⟩ => ⟨S4x16384x64, .f32⟩
  | .hbm, ⟨99, _⟩ => ⟨S1x16384x64, .f32⟩
  | .hbm, ⟨100, _⟩ => ⟨S4x16384x64, .f32⟩
  | .hbm, ⟨101, _⟩ => ⟨S4x16384x64, .f32⟩
  | .hbm, ⟨102, _⟩ => ⟨S1x16384x64, .f32⟩
  | .hbm, ⟨103, _⟩ => ⟨S4x16384x64, .f32⟩
  | .hbm, ⟨104, _⟩ => ⟨S4x16384x64, .f32⟩
  | .hbm, ⟨105, _⟩ => ⟨S4x16384x64, .f32⟩
  | .hbm, ⟨106, _⟩ => ⟨S4x16384x128, .f32⟩
  | .hbm, ⟨107, _⟩ => ⟨S12x16384x128, .f32⟩
  | .hbm, ⟨108, _⟩ => ⟨S12x128x128x128, .f32⟩
  | .hbm, ⟨109, _⟩ => ⟨S12x128x128x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_3 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_4 : Ref sig .tc := ⟨.hbm, 69, rfl⟩
abbrev main_v62 : Ref sig .tc := ⟨.hbm, 70, rfl⟩
abbrev main_v63 : Ref sig .tc := ⟨.hbm, 71, rfl⟩
abbrev main_cst_5 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩

abbrev nD : Nat := 1
abbrev τ : Topo := Topo.v7x

variable {F : FTy → Type} [FloatOps F]
-- ==== Pdil4.lean ====
abbrev S16384x2048 : Shape := ⟨2, ![16384, 2048]⟩
abbrev S2048x11288 : Shape := ⟨2, ![2048, 11288]⟩
abbrev S2048x1536 : Shape := ⟨2, ![2048, 1536]⟩
abbrev S2048x512 : Shape := ⟨2, ![2048, 512]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S12x32x128x512 : Shape := ⟨4, ![12, 32, 128, 512]⟩
abbrev S2048x2048 : Shape := ⟨2, ![2048, 2048]⟩
abbrev S2048x128 : Shape := ⟨2, ![2048, 128]⟩
abbrev S4x4x128x512 : Shape := ⟨4, ![4, 4, 128, 512]⟩
abbrev S4x2048x128 : Shape := ⟨3, ![4, 2048, 128]⟩
abbrev S1x2048x128 : Shape := ⟨3, ![1, 2048, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 36
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x1536, .bf16⟩
  | .hbm, ⟨4, _⟩ => ⟨S2048x512, .bf16⟩
  | .hbm, ⟨5, _⟩ => ⟨S2048x1536, .bf16⟩
  | .hbm, ⟨6, _⟩ => ⟨S2048x512, .bf16⟩
  | .hbm, ⟨7, _⟩ => ⟨S2048x1536, .bf16⟩
  | .hbm, ⟨8, _⟩ => ⟨S2048x512, .bf16⟩
  | .hbm, ⟨9, _⟩ => ⟨S2048x1536, .bf16⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S16384, .f32⟩
  | .hbm, ⟨25, _⟩ => ⟨S16384x1, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x128, .f32⟩
  | .hbm, ⟨33, _⟩ => ⟨S16384x64, .f32⟩
  | .hbm, ⟨34, _⟩ => ⟨S16384x128, .f32⟩
  | .hbm, ⟨35, _⟩ => ⟨S12x32x128x512, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x4x128x512, .bf16⟩
  | .local _ .vmem, ⟨9, _⟩ => ⟨S4x4x128x512, .bf16⟩
  | .local _ .vmem, ⟨10, _⟩ => ⟨S4x2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Pdil4RefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x12x128 : Shape := ⟨3, ![16384, 12, 128]⟩
abbrev S12x16384x128 : Shape := ⟨3, ![12, 16384, 128]⟩
abbrev S4x16384x128 : Shape := ⟨3, ![4, 16384, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S4x16384x64 : Shape := ⟨3, ![4, 16384, 64]⟩
abbrev S1x16384x64 : Shape := ⟨3, ![1, 16384, 64]⟩
abbrev S12x32x128x512 : Shape := ⟨4, ![12, 32, 128, 512]⟩

abbrev nBuf : Space → Nat
  | .hbm => 110
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x12x128, .f32⟩
  | .hbm, ⟨18, _⟩ => ⟨S12x16384x128, .f32⟩
  | .hbm, ⟨19, _⟩ => ⟨S4x16384x128, .f32⟩
  | .hbm, ⟨20, _⟩ => ⟨S16384x12x128, .f32⟩
  | .hbm, ⟨21, _⟩ => ⟨S12x16384x128, .f32⟩
  | .hbm, ⟨22, _⟩ => ⟨S4x16384x128, .f32⟩
  | .hbm, ⟨23, _⟩ => ⟨S16384x12x128, .f32⟩
  | .hbm, ⟨24, _⟩ => ⟨S12x16384x128, .f32⟩
  | .hbm, ⟨25, _⟩ => ⟨S4x16384x128, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S16384, .f32⟩
  | .hbm, ⟨41, _⟩ => ⟨S16384x1, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S4x16384x64, .f32⟩
  | .hbm, ⟨49, _⟩ => ⟨S4x16384x64, .f32⟩
  | .hbm, ⟨50, _⟩ => ⟨S1x16384x64, .f32⟩
  | .hbm, ⟨51, _⟩ => ⟨S4x16384x64, .f32⟩
  | .hbm, ⟨52, _⟩ => ⟨S4x16384x64, .f32⟩
  | .hbm, ⟨53, _⟩ => ⟨S1x16384x64, .f32⟩
  | .hbm, ⟨54, _⟩ => ⟨S4x16384x64, .f32⟩
  | .hbm, ⟨55, _⟩ => ⟨S4x16384x64, .f32⟩
  | .hbm, ⟨56, _⟩ => ⟨S4x16384x64, .f32⟩
  | .hbm, ⟨57, _⟩ => ⟨S1x16384x64, .f32⟩
  | .hbm, ⟨58, _⟩ => ⟨S4x16384x64, .f32⟩
  | .hbm, ⟨59, _⟩ => ⟨S4x16384x64, .f32⟩
  | .hbm, ⟨60, _⟩ => ⟨S1x16384x64, .f32⟩
  | .hbm, ⟨61, _⟩ => ⟨S4x16384x64, .f32⟩
  | .hbm, ⟨62, _⟩ => ⟨S4x16384x64, .f32⟩
  | .hbm, ⟨63, _⟩ => ⟨S4x16384x64, .f32⟩
  | .hbm, ⟨64, _⟩ => ⟨S4x16384x128, .f32⟩
  | .hbm, ⟨65, _⟩ => ⟨S_, .f32⟩
  | .hbm, ⟨66, _⟩ => ⟨S4x16384x128, .f32⟩
  | .hbm, ⟨67, _⟩ => ⟨S4x16384x128, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S16384, .f32⟩
  | .hbm, ⟨83, _⟩ => ⟨S16384x1, .f32⟩
  | .hbm, ⟨84, _⟩ => ⟨S1x64, .f32⟩
  | .hbm, ⟨85, _⟩ => ⟨S16384x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S4x16384x64, .f32⟩
  | .hbm, ⟨91, _⟩ => ⟨S4x16384x64, .f32⟩
  | .hbm, ⟨92, _⟩ => ⟨S1x16384x64, .f32⟩
  | .hbm, ⟨93, _⟩ => ⟨S4x16384x64, .f32⟩
  | .hbm, ⟨94, _⟩ => ⟨S4x16384x64, .f32⟩
  | .hbm, ⟨95, _⟩ => ⟨S1x16384x64, .f32⟩
  | .hbm, ⟨96, _⟩ => ⟨S4x16384x64, .f32⟩
  | .hbm, ⟨97, _⟩ => ⟨S4x16384x64, .f32⟩
  | .hbm, ⟨98, _⟩ => ⟨S4x16384x64, .f32⟩
  | .hbm, ⟨99, _⟩ => ⟨S1x16384x64, .f32⟩
  | .hbm, ⟨100, _⟩ => ⟨S4x16384x64, .f32⟩
  | .hbm, ⟨101, _⟩ => ⟨S4x16384x64, .f32⟩
  | .hbm, ⟨102, _⟩ => ⟨S1x16384x64, .f32⟩
  | .hbm, ⟨103, _⟩ => ⟨S4x16384x64, .f32⟩
  | .hbm, ⟨104, _⟩ => ⟨S4x16384x64, .f32⟩
  | .hbm, ⟨105, _⟩ => ⟨S4x16384x64, .f32⟩
  | .hbm, ⟨106, _⟩ => ⟨S4x16384x128, .f32⟩
  | .hbm, ⟨107, _⟩ => ⟨S12x16384x128, .f32⟩
  | .hbm, ⟨108, _⟩ => ⟨S12x32x128x512, .f32⟩
  | .hbm, ⟨109, _⟩ => ⟨S12x32x128x512, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_3 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_4 : Ref sig .tc := ⟨.hbm, 69, rfl⟩
abbrev main_v62 : Ref sig .tc := ⟨.hbm, 70, rfl⟩
abbrev main_v63 : Ref sig .tc := ⟨.hbm, 71, rfl⟩
abbrev main_cst_5 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩

abbrev nD : Nat := 1
abbrev τ : Topo := Topo.v7x

variable {F : FTy → Type} [FloatOps F]
-- ==== Pdil16.lean ====
abbrev S16384x2048 : Shape := ⟨2, ![16384, 2048]⟩
abbrev S2048x11288 : Shape := ⟨2, ![2048, 11288]⟩
abbrev S2048x1536 : Shape := ⟨2, ![2048, 1536]⟩
abbrev S2048x512 : Shape := ⟨2, ![2048, 512]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S12x8x128x2048 : Shape := ⟨4, ![12, 8, 128, 2048]⟩
abbrev S2048x2048 : Shape := ⟨2, ![2048, 2048]⟩
abbrev S2048x128 : Shape := ⟨2, ![2048, 128]⟩
abbrev S4x1x128x2048 : Shape := ⟨4, ![4, 1, 128, 2048]⟩
abbrev S4x2048x128 : Shape := ⟨3, ![4, 2048, 128]⟩
abbrev S1x2048x128 : Shape := ⟨3, ![1, 2048, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 36
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x1536, .bf16⟩
  | .hbm, ⟨4, _⟩ => ⟨S2048x512, .bf16⟩
  | .hbm, ⟨5, _⟩ => ⟨S2048x1536, .bf16⟩
  | .hbm, ⟨6, _⟩ => ⟨S2048x512, .bf16⟩
  | .hbm, ⟨7, _⟩ => ⟨S2048x1536, .bf16⟩
  | .hbm, ⟨8, _⟩ => ⟨S2048x512, .bf16⟩
  | .hbm, ⟨9, _⟩ => ⟨S2048x1536, .bf16⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S16384, .f32⟩
  | .hbm, ⟨25, _⟩ => ⟨S16384x1, .f32⟩
  | .hbm, ⟨26, _⟩ => ⟨S1x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S16384x128, .f32⟩
  | .hbm, ⟨33, _⟩ => ⟨S16384x64, .f32⟩
  | .hbm, ⟨34, _⟩ => ⟨S16384x128, .f32⟩
  | .hbm, ⟨35, _⟩ => ⟨S12x8x128x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x1x128x2048, .bf16⟩
  | .local _ .vmem, ⟨9, _⟩ => ⟨S4x1x128x2048, .bf16⟩
  | .local _ .vmem, ⟨10, _⟩ => ⟨S4x2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Pdil16RefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x12x128 : Shape := ⟨3, ![16384, 12, 128]⟩
abbrev S12x16384x128 : Shape := ⟨3, ![12, 16384, 128]⟩
abbrev S4x16384x128 : Shape := ⟨3, ![4, 16384, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S4x16384x64 : Shape := ⟨3, ![4, 16384, 64]⟩
abbrev S1x16384x64 : Shape := ⟨3, ![1, 16384, 64]⟩
abbrev S12x8x128x2048 : Shape := ⟨4, ![12, 8, 128, 2048]⟩

abbrev nBuf : Space → Nat
  | .hbm => 110
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x12x128, .f32⟩
  | .hbm, ⟨18, _⟩ => ⟨S12x16384x128, .f32⟩
  | .hbm, ⟨19, _⟩ => ⟨S4x16384x128, .f32⟩
  | .hbm, ⟨20, _⟩ => ⟨S16384x12x128, .f32⟩
  | .hbm, ⟨21, _⟩ => ⟨S12x16384x128, .f32⟩
  | .hbm, ⟨22, _⟩ => ⟨S4x16384x128, .f32⟩
  | .hbm, ⟨23, _⟩ => ⟨S16384x12x128, .f32⟩
  | .hbm, ⟨24, _⟩ => ⟨S12x16384x128, .f32⟩
  | .hbm, ⟨25, _⟩ => ⟨S4x16384x128, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S16384, .f32⟩
  | .hbm, ⟨41, _⟩ => ⟨S16384x1, .f32⟩
  | .hbm, ⟨42, _⟩ => ⟨S1x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S4x16384x64, .f32⟩
  | .hbm, ⟨49, _⟩ => ⟨S4x16384x64, .f32⟩
  | .hbm, ⟨50, _⟩ => ⟨S1x16384x64, .f32⟩
  | .hbm, ⟨51, _⟩ => ⟨S4x16384x64, .f32⟩
  | .hbm, ⟨52, _⟩ => ⟨S4x16384x64, .f32⟩
  | .hbm, ⟨53, _⟩ => ⟨S1x16384x64, .f32⟩
  | .hbm, ⟨54, _⟩ => ⟨S4x16384x64, .f32⟩
  | .hbm, ⟨55, _⟩ => ⟨S4x16384x64, .f32⟩
  | .hbm, ⟨56, _⟩ => ⟨S4x16384x64, .f32⟩
  | .hbm, ⟨57, _⟩ => ⟨S1x16384x64, .f32⟩
  | .hbm, ⟨58, _⟩ => ⟨S4x16384x64, .f32⟩
  | .hbm, ⟨59, _⟩ => ⟨S4x16384x64, .f32⟩
  | .hbm, ⟨60, _⟩ => ⟨S1x16384x64, .f32⟩
  | .hbm, ⟨61, _⟩ => ⟨S4x16384x64, .f32⟩
  | .hbm, ⟨62, _⟩ => ⟨S4x16384x64, .f32⟩
  | .hbm, ⟨63, _⟩ => ⟨S4x16384x64, .f32⟩
  | .hbm, ⟨64, _⟩ => ⟨S4x16384x128, .f32⟩
  | .hbm, ⟨65, _⟩ => ⟨S_, .f32⟩
  | .hbm, ⟨66, _⟩ => ⟨S4x16384x128, .f32⟩
  | .hbm, ⟨67, _⟩ => ⟨S4x16384x128, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S16384, .f32⟩
  | .hbm, ⟨83, _⟩ => ⟨S16384x1, .f32⟩
  | .hbm, ⟨84, _⟩ => ⟨S1x64, .f32⟩
  | .hbm, ⟨85, _⟩ => ⟨S16384x64, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S16384x64, .f32⟩
  | .hbm, ⟨90, _⟩ => ⟨S4x16384x64, .f32⟩
  | .hbm, ⟨91, _⟩ => ⟨S4x16384x64, .f32⟩
  | .hbm, ⟨92, _⟩ => ⟨S1x16384x64, .f32⟩
  | .hbm, ⟨93, _⟩ => ⟨S4x16384x64, .f32⟩
  | .hbm, ⟨94, _⟩ => ⟨S4x16384x64, .f32⟩
  | .hbm, ⟨95, _⟩ => ⟨S1x16384x64, .f32⟩
  | .hbm, ⟨96, _⟩ => ⟨S4x16384x64, .f32⟩
  | .hbm, ⟨97, _⟩ => ⟨S4x16384x64, .f32⟩
  | .hbm, ⟨98, _⟩ => ⟨S4x16384x64, .f32⟩
  | .hbm, ⟨99, _⟩ => ⟨S1x16384x64, .f32⟩
  | .hbm, ⟨100, _⟩ => ⟨S4x16384x64, .f32⟩
  | .hbm, ⟨101, _⟩ => ⟨S4x16384x64, .f32⟩
  | .hbm, ⟨102, _⟩ => ⟨S1x16384x64, .f32⟩
  | .hbm, ⟨103, _⟩ => ⟨S4x16384x64, .f32⟩
  | .hbm, ⟨104, _⟩ => ⟨S4x16384x64, .f32⟩
  | .hbm, ⟨105, _⟩ => ⟨S4x16384x64, .f32⟩
  | .hbm, ⟨106, _⟩ => ⟨S4x16384x128, .f32⟩
  | .hbm, ⟨107, _⟩ => ⟨S12x16384x128, .f32⟩
  | .hbm, ⟨108, _⟩ => ⟨S12x8x128x2048, .f32⟩
  | .hbm, ⟨109, _⟩ => ⟨S12x8x128x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_3 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_4 : Ref sig .tc := ⟨.hbm, 69, rfl⟩
abbrev main_v62 : Ref sig .tc := ⟨.hbm, 70, rfl⟩
abbrev main_v63 : Ref sig .tc := ⟨.hbm, 71, rfl⟩
abbrev main_cst_5 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩

abbrev nD : Nat := 1
abbrev τ : Topo := Topo.v7x

variable {F : FTy → Type} [FloatOps F]
-- ==== Qa.lean ====
abbrev S16384x2048 : Shape := ⟨2, ![16384, 2048]⟩
abbrev S2048x11288 : Shape := ⟨2, ![2048, 11288]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S2048x1024 : Shape := ⟨2, ![2048, 1024]⟩
abbrev S1024x2048 : Shape := ⟨2, ![1024, 2048]⟩
abbrev S128x16384 : Shape := ⟨2, ![128, 16384]⟩
abbrev S1024x16384 : Shape := ⟨2, ![1024, 16384]⟩
abbrev S128x1024 : Shape := ⟨2, ![128, 1024]⟩
abbrev S1024x1024 : Shape := ⟨2, ![1024, 1024]⟩

abbrev nBuf : Space → Nat
  | .hbm => 34
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S16384, .f32⟩
  | .hbm, ⟨17, _⟩ => ⟨S16384x1, .f32⟩
  | .hbm, ⟨18, _⟩ => ⟨S1x64, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x128, .f32⟩
  | .hbm, ⟨25, _⟩ => ⟨S16384x64, .f32⟩
  | .hbm, ⟨26, _⟩ => ⟨S16384x128, .f32⟩
  | .hbm, ⟨27, _⟩ => ⟨S2048x11288, .bf16⟩
  | .hbm, ⟨28, _⟩ => ⟨S2048x1024, .bf16⟩
  | .hbm, ⟨29, _⟩ => ⟨S1024x2048, .bf16⟩
  | .hbm, ⟨30, _⟩ => ⟨S128x16384, .f32⟩
  | .hbm, ⟨31, _⟩ => ⟨S128x16384, .f32⟩
  | .hbm, ⟨32, _⟩ => ⟨S1024x16384, .bf16⟩
  | .hbm, ⟨33, _⟩ => ⟨S1024x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QaRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x8x128 : Shape := ⟨3, ![16384, 8, 128]⟩
abbrev S8x16384x128 : Shape := ⟨3, ![8, 16384, 128]⟩
abbrev S_ : Shape := ⟨0, ![]⟩
abbrev S8x128x16384 : Shape := ⟨3, ![8, 128, 16384]⟩
abbrev S1024x16384 : Shape := ⟨2, ![1024, 16384]⟩
abbrev S64 : Shape := ⟨1, ![64]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S8x16384x64 : Shape := ⟨3, ![8, 16384, 64]⟩
abbrev S1x16384x64 : Shape := ⟨3, ![1, 16384, 64]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x8x128, .f32⟩
  | .hbm, ⟨18, _⟩ => ⟨S8x16384x128, .f32⟩
  | .hbm, ⟨19, _⟩ => ⟨S_, .f32⟩
  | .hbm, ⟨20, _⟩ => ⟨S8x16384x128, .f32⟩
  | .hbm, ⟨21, _⟩ => ⟨S8x16384x128, .f32⟩
  | .hbm, ⟨22, _⟩ => ⟨S8x128x16384, .f32⟩
  | .hbm, ⟨23, _⟩ => ⟨S1024x16384, .f32⟩
  | .hbm, ⟨24, _⟩ => ⟨S1024x16384, .bf16⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S16384, .f32⟩
  | .hbm, ⟨40, _⟩ => ⟨S16384x1, .f32⟩
  | .hbm, ⟨41, _⟩ => ⟨S1x64, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S16384x64, .f32⟩
  | .hbm, ⟨46, _⟩ => ⟨S16384x64, .f32⟩
  | .hbm, ⟨47, _⟩ => ⟨S8x16384x64, .f32⟩
  | .hbm, ⟨48, _⟩ => ⟨S8x16384x64, .f32⟩
  | .hbm, ⟨49, _⟩ => ⟨S1x16384x64, .f32⟩
  | .hbm, ⟨50, _⟩ => ⟨S8x16384x64, .f32⟩
  | .hbm, ⟨51, _⟩ => ⟨S8x16384x64, .f32⟩
  | .hbm, ⟨52, _⟩ => ⟨S1x16384x64, .f32⟩
  | .hbm, ⟨53, _⟩ => ⟨S8x16384x64, .f32⟩
  | .hbm, ⟨54, _⟩ => ⟨S8x16384x64, .f32⟩
  | .hbm, ⟨55, _⟩ => ⟨S8x16384x64, .f32⟩
  | .hbm, ⟨56, _⟩ => ⟨S1x16384x64, .f32⟩
  | .hbm, ⟨57, _⟩ => ⟨S8x16384x64, .f32⟩
  | .hbm, ⟨58, _⟩ => ⟨S8x16384x64, .f32⟩
  | .hbm, ⟨59, _⟩ => ⟨S1x16384x64, .f32⟩
  | .hbm, ⟨60, _⟩ => ⟨S8x16384x64, .f32⟩
  | .hbm, ⟨61, _⟩ => ⟨S8x16384x64, .f32⟩
  | .hbm, ⟨62, _⟩ => ⟨S8x16384x64, .f32⟩
  | .hbm, ⟨63, _⟩ => ⟨S8x16384x128, .f32⟩
  | .hbm, ⟨64, _⟩ => ⟨S_, .f32⟩
  | .hbm, ⟨65, _⟩ => ⟨S8x16384x128, .f32⟩
  | .hbm, ⟨66, _⟩ => ⟨S8x16384x128, .f32⟩
  | .hbm, ⟨67, _⟩ => ⟨S8x128x16384, .f32⟩
  | .hbm, ⟨68, _⟩ => ⟨S1024x16384, .f32⟩
  | .hbm, ⟨69, _⟩ => ⟨S1024x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_4 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩

abbrev nD : Nat := 1
abbrev τ : Topo := Topo.v7x

variable {F : FTy → Type} [FloatOps F]
-- ==== CmpTok.lean ====
abbrev S16384x2048 : Shape := ⟨2, ![16384, 2048]⟩
abbrev S2048x11288 : Shape := ⟨2, ![2048, 11288]⟩
abbrev S2048x256 : Shape := ⟨2, ![2048, 256]⟩
abbrev S2048x512 : Shape := ⟨2, ![2048, 512]⟩
abbrev S4x16384x128 : Shape := ⟨3, ![4, 16384, 128]⟩
abbrev S1024x2048 : Shape := ⟨2, ![1024, 2048]⟩
abbrev S4x1024x128 : Shape := ⟨3, ![4, 1024, 128]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 7
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x256, .bf16⟩
  | .hbm, ⟨4, _⟩ => ⟨S2048x256, .bf16⟩
  | .hbm, ⟨5, _⟩ => ⟨S2048x512, .bf16⟩
  | .hbm, ⟨6, _⟩ => ⟨S4x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S4x1024x128, .bf16⟩
  | .local _ .vmem, ⟨4, _⟩ => ⟨S4x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== CmpTokRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x2x128 : Shape := ⟨3, ![16384, 2, 128]⟩
abbrev S2x16384x128 : Shape := ⟨3, ![2, 16384, 128]⟩
abbrev S4x16384x128 : Shape := ⟨3, ![4, 16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x2x128, .f32⟩
  | .hbm, ⟨18, _⟩ => ⟨S2x16384x128, .f32⟩
  | .hbm, ⟨19, _⟩ => ⟨S16384x2x128, .f32⟩
  | .hbm, ⟨20, _⟩ => ⟨S2x16384x128, .f32⟩
  | .hbm, ⟨21, _⟩ => ⟨S4x16384x128, .f32⟩
  | .hbm, ⟨22, _⟩ => ⟨S4x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩

abbrev nD : Nat := 1
abbrev τ : Topo := Topo.v7x

variable {F : FTy → Type} [FloatOps F]
-- ==== KSlc.lean ====
abbrev S16384x2048 : Shape := ⟨2, ![16384, 2048]⟩
abbrev S2048x11288 : Shape := ⟨2, ![2048, 11288]⟩
abbrev S2048x256 : Shape := ⟨2, ![2048, 256]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S2x16384x256 : Shape := ⟨3, ![2, 16384, 256]⟩
abbrev S1024x2048 : Shape := ⟨2, ![1024, 2048]⟩
abbrev S1024x128 : Shape := ⟨2, ![1024, 128]⟩
abbrev S2x1024x256 : Shape := ⟨3, ![2, 1024, 256]⟩
abbrev S1024x256 : Shape := ⟨2, ![1024, 256]⟩
abbrev S1x1024x128 : Shape := ⟨3, ![1, 1024, 128]⟩

abbrev nBuf : Space → Nat
  | .hbm => 30
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x256, .bf16⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S16384, .f32⟩
  | .hbm, ⟨19, _⟩ => ⟨S16384x1, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x128, .f32⟩
  | .hbm, ⟨27, _⟩ => ⟨S16384x64, .f32⟩
  | .hbm, ⟨28, _⟩ => ⟨S16384x128, .f32⟩
  | .hbm, ⟨29, _⟩ => ⟨S2x16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2x1024x256, .bf16⟩
  | .local _ .vmem, ⟨8, _⟩ => ⟨S2x1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KSlcRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x2x128 : Shape := ⟨3, ![16384, 2, 128]⟩
abbrev S2x16384x128 : Shape := ⟨3, ![2, 16384, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S2x16384x64 : Shape := ⟨3, ![2, 16384, 64]⟩
abbrev S1x16384x64 : Shape := ⟨3, ![1, 16384, 64]⟩
abbrev S128 : Shape := ⟨1, ![128]⟩
abbrev S1x128 : Shape := ⟨2, ![1, 128]⟩
abbrev S16384x128 : Shape := ⟨2, ![16384, 128]⟩
abbrev S2x16384x256 : Shape := ⟨3, ![2, 16384, 256]⟩

abbrev nBuf : Space → Nat
  | .hbm => 109
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x2x128, .f32⟩
  | .hbm, ⟨18, _⟩ => ⟨S2x16384x128, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S16384, .f32⟩
  | .hbm, ⟨34, _⟩ => ⟨S16384x1, .f32⟩
  | .hbm, ⟨35, _⟩ => ⟨S1x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S2x16384x64, .f32⟩
  | .hbm, ⟨42, _⟩ => ⟨S2x16384x64, .f32⟩
  | .hbm, ⟨43, _⟩ => ⟨S1x16384x64, .f32⟩
  | .hbm, ⟨44, _⟩ => ⟨S2x16384x64, .f32⟩
  | .hbm, ⟨45, _⟩ => ⟨S2x16384x64, .f32⟩
  | .hbm, ⟨46, _⟩ => ⟨S1x16384x64, .f32⟩
  | .hbm, ⟨47, _⟩ => ⟨S2x16384x64, .f32⟩
  | .hbm, ⟨48, _⟩ => ⟨S2x16384x64, .f32⟩
  | .hbm, ⟨49, _⟩ => ⟨S2x16384x64, .f32⟩
  | .hbm, ⟨50, _⟩ => ⟨S1x16384x64, .f32⟩
  | .hbm, ⟨51, _⟩ => ⟨S2x16384x64, .f32⟩
  | .hbm, ⟨52, _⟩ => ⟨S2x16384x64, .f32⟩
  | .hbm, ⟨53, _⟩ => ⟨S1x16384x64, .f32⟩
  | .hbm, ⟨54, _⟩ => ⟨S2x16384x64, .f32⟩
  | .hbm, ⟨55, _⟩ => ⟨S2x16384x64, .f32⟩
  | .hbm, ⟨56, _⟩ => ⟨S2x16384x64, .f32⟩
  | .hbm, ⟨57, _⟩ => ⟨S2x16384x128, .f32⟩
  | .hbm, ⟨58, _⟩ => ⟨S16384, .i32⟩
  | .hbm, ⟨59, _⟩ => ⟨S_, .i32⟩
  | .hbm, ⟨60, _⟩ => ⟨S_, .i32⟩
  | .hbm, ⟨61, _⟩ => ⟨S16384, .i32⟩
  | .hbm, ⟨62, _⟩ => ⟨S16384, .i32⟩
  | .hbm, ⟨63, _⟩ => ⟨S16384, .i32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S16384, .i32⟩
  | .hbm, ⟨68, _⟩ => ⟨S16384, .i32⟩
  | .hbm, ⟨69, _⟩ => ⟨S_, .i32⟩
  | .hbm, ⟨70, _⟩ => ⟨S16384, .i32⟩
  | .hbm, ⟨71, _⟩ => ⟨S16384, .i1⟩
  | .hbm, ⟨72, _⟩ => ⟨S16384, .i1⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S16384, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S_, .i32⟩
  | .hbm, ⟨86, _⟩ => ⟨S16384, .i32⟩
  | .hbm, ⟨87, _⟩ => ⟨S16384, .i1⟩
  | .hbm, ⟨88, _⟩ => ⟨S_, .i32⟩
  | .hbm, ⟨89, _⟩ => ⟨S16384, .i32⟩
  | .hbm, ⟨90, _⟩ => ⟨S16384, .i1⟩
  | .hbm, ⟨91, _⟩ => ⟨S_, .i32⟩
  | .hbm, ⟨92, _⟩ => ⟨S_, .i1⟩
  | .hbm, ⟨93, _⟩ => ⟨S16384, .i1⟩
  | .hbm, ⟨94, _⟩ => ⟨S16384, .i1⟩
  | .hbm, ⟨95, _⟩ => ⟨S16384, .i1⟩
  | .hbm, ⟨96, _⟩ => ⟨S16384, .i32⟩
  | .hbm, ⟨97, _⟩ => ⟨S16384, .i32⟩
  | .hbm, ⟨98, _⟩ => ⟨S16384, .i32⟩
  | .hbm, ⟨99, _⟩ => ⟨S16384x1, .i32⟩
  | .hbm, ⟨100, _⟩ => ⟨S128, .i32⟩
  | .hbm, ⟨101, _⟩ => ⟨S1x128, .i32⟩
  | .hbm, ⟨102, _⟩ => ⟨S16384x128, .i32⟩
  | .hbm, ⟨103, _⟩ => ⟨S16384x128, .i32⟩
  | .hbm, ⟨104, _⟩ => ⟨S16384x128, .i1⟩
  | .hbm, ⟨105, _⟩ => ⟨S16384x128, .f32⟩
  | .hbm, ⟨106, _⟩ => ⟨S2x16384x128, .f32⟩
  | .hbm, ⟨107, _⟩ => ⟨S2x16384x256, .f32⟩
  | .hbm, ⟨108, _⟩ => ⟨S2x16384x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_c : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v53 : Ref sig .tc := ⟨.hbm, 76, rfl⟩
abbrev main_c_3 : Ref sig .tc := ⟨.hbm, 77, rfl⟩
abbrev main_call1_v0 : Ref sig .tc := ⟨.hbm, 78, rfl⟩
abbrev main_call1_c : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_1 : Ref sig .tc := ⟨.hbm, 85, rfl⟩
abbrev main_call1_v5 : Ref sig .tc := ⟨.hbm, 86, rfl⟩
abbrev main_call1_v6 : Ref sig .tc := ⟨.hbm, 87, rfl⟩
abbrev main_call1_c_2 : Ref sig .tc := ⟨.hbm, 88, rfl⟩
abbrev main_call1_v7 : Ref sig .tc := ⟨.hbm, 89, rfl⟩
abbrev main_call1_v8 : Ref sig .tc := ⟨.hbm, 90, rfl⟩
abbrev main_call1_c_3 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]
-- ==== KWin.lean ====
abbrev S16384x2048 : Shape := ⟨2, ![16384, 2048]⟩
abbrev S2048x11288 : Shape := ⟨2, ![2048, 11288]⟩
abbrev S2048x256 : Shape := ⟨2, ![2048, 256]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x128 : Shape := ⟨2, ![16384, 128]⟩
abbrev S2x16384x128 : Shape := ⟨3, ![2, 16384, 128]⟩
abbrev S1024x2048 : Shape := ⟨2, ![1024, 2048]⟩
abbrev S1024x128 : Shape := ⟨2, ![1024, 128]⟩
abbrev S2x1024x128 : Shape := ⟨3, ![2, 1024, 128]⟩
abbrev S1024x256 : Shape := ⟨2, ![1024, 256]⟩
abbrev S1x1024x128 : Shape := ⟨3, ![1, 1024, 128]⟩

abbrev nBuf : Space → Nat
  | .hbm => 30
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x256, .bf16⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S16384, .f32⟩
  | .hbm, ⟨19, _⟩ => ⟨S16384x1, .f32⟩
  | .hbm, ⟨20, _⟩ => ⟨S1x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x128, .f32⟩
  | .hbm, ⟨27, _⟩ => ⟨S16384x64, .f32⟩
  | .hbm, ⟨28, _⟩ => ⟨S16384x128, .f32⟩
  | .hbm, ⟨29, _⟩ => ⟨S2x16384x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S2x1024x128, .bf16⟩
  | .local _ .vmem, ⟨8, _⟩ => ⟨S2x1024x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KWinRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x2x128 : Shape := ⟨3, ![16384, 2, 128]⟩
abbrev S2x16384x128 : Shape := ⟨3, ![2, 16384, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S2x16384x64 : Shape := ⟨3, ![2, 16384, 64]⟩
abbrev S1x16384x64 : Shape := ⟨3, ![1, 16384, 64]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x2x128, .f32⟩
  | .hbm, ⟨18, _⟩ => ⟨S2x16384x128, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S16384, .f32⟩
  | .hbm, ⟨34, _⟩ => ⟨S16384x1, .f32⟩
  | .hbm, ⟨35, _⟩ => ⟨S1x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S16384x64, .f32⟩
  | .hbm, ⟨41, _⟩ => ⟨S2x16384x64, .f32⟩
  | .hbm, ⟨42, _⟩ => ⟨S2x16384x64, .f32⟩
  | .hbm, ⟨43, _⟩ => ⟨S1x16384x64, .f32⟩
  | .hbm, ⟨44, _⟩ => ⟨S2x16384x64, .f32⟩
  | .hbm, ⟨45, _⟩ => ⟨S2x16384x64, .f32⟩
  | .hbm, ⟨46, _⟩ => ⟨S1x16384x64, .f32⟩
  | .hbm, ⟨47, _⟩ => ⟨S2x16384x64, .f32⟩
  | .hbm, ⟨48, _⟩ => ⟨S2x16384x64, .f32⟩
  | .hbm, ⟨49, _⟩ => ⟨S2x16384x64, .f32⟩
  | .hbm, ⟨50, _⟩ => ⟨S1x16384x64, .f32⟩
  | .hbm, ⟨51, _⟩ => ⟨S2x16384x64, .f32⟩
  | .hbm, ⟨52, _⟩ => ⟨S2x16384x64, .f32⟩
  | .hbm, ⟨53, _⟩ => ⟨S1x16384x64, .f32⟩
  | .hbm, ⟨54, _⟩ => ⟨S2x16384x64, .f32⟩
  | .hbm, ⟨55, _⟩ => ⟨S2x16384x64, .f32⟩
  | .hbm, ⟨56, _⟩ => ⟨S2x16384x64, .f32⟩
  | .hbm, ⟨57, _⟩ => ⟨S2x16384x128, .f32⟩
  | .hbm, ⟨58, _⟩ => ⟨S2x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩

abbrev nD : Nat := 1
abbrev τ : Topo := Topo.v7x

variable {F : FTy → Type} [FloatOps F]
-- ==== Vals.lean ====
abbrev S16384x2048 : Shape := ⟨2, ![16384, 2048]⟩
abbrev S2048x11288 : Shape := ⟨2, ![2048, 11288]⟩
abbrev S2048x256 : Shape := ⟨2, ![2048, 256]⟩
abbrev S2048x512 : Shape := ⟨2, ![2048, 512]⟩
abbrev S512x2048 : Shape := ⟨2, ![512, 2048]⟩
abbrev S512x16384 : Shape := ⟨2, ![512, 16384]⟩
abbrev S1024x2048 : Shape := ⟨2, ![1024, 2048]⟩
abbrev S512x1024 : Shape := ⟨2, ![512, 1024]⟩

abbrev nBuf : Space → Nat
  | .hbm => 8
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S2048x11288, .bf16⟩
  | .hbm, ⟨3, _⟩ => ⟨S2048x256, .bf16⟩
  | .hbm, ⟨4, _⟩ => ⟨S2048x256, .bf16⟩
  | .hbm, ⟨5, _⟩ => ⟨S2048x512, .bf16⟩
  | .hbm, ⟨6, _⟩ => ⟨S512x2048, .bf16⟩
  | .hbm, ⟨7, _⟩ => ⟨S512x16384, .bf16⟩
  | .local _ .vmem, ⟨0, _⟩ => ⟨S512x2048, .bf16⟩
  | .local _ .vmem, ⟨1, _⟩ => ⟨S1024x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ValsRefIdeal.lean ====
abbrev S16384x2048 : Shape := ⟨2, ![16384, 2048]⟩
abbrev S2048x11288 : Shape := ⟨2, ![2048, 11288]⟩
abbrev S16384x11288 : Shape := ⟨2, ![16384, 11288]⟩
abbrev S16384x1024 : Shape := ⟨2, ![16384, 1024]⟩
abbrev S16384x256 : Shape := ⟨2, ![16384, 256]⟩
abbrev S16384x24 : Shape := ⟨2, ![16384, 24]⟩
abbrev S16384x1536 : Shape := ⟨2, ![16384, 1536]⟩
abbrev S16384x512 : Shape := ⟨2, ![16384, 512]⟩
abbrev S512x16384 : Shape := ⟨2, ![512, 16384]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x11288, .f32⟩
  | .hbm, ⟨2, _⟩ => ⟨S16384x2048, .f32⟩
  | .hbm, ⟨3, _⟩ => ⟨S16384x11288, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .hbm, ⟨9, _⟩ => ⟨S16384x256, .f32⟩
  | .hbm, ⟨10, _⟩ => ⟨S16384x256, .f32⟩
  | .hbm, ⟨11, _⟩ => ⟨S16384x24, .f32⟩
  | .hbm, ⟨12, _⟩ => ⟨S16384x1536, .f32⟩
  | .hbm, ⟨13, _⟩ => ⟨S16384x1536, .f32⟩
  | .hbm, ⟨14, _⟩ => ⟨S16384x1536, .f32⟩
  | .hbm, ⟨15, _⟩ => ⟨S16384x2048, .f32⟩
  | .hbm, ⟨16, _⟩ => ⟨S16384x2048, .f32⟩
  | .hbm, ⟨17, _⟩ => ⟨S16384x512, .f32⟩
  | .hbm, ⟨18, _⟩ => ⟨S512x16384, .f32⟩
  | .hbm, ⟨19, _⟩ => ⟨S512x16384, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Proof.Softmax.lean ====
module

public import Idealize.ShloMosaic.Lib.Pointwise

@[expose] public section

noncomputable section

namespace Cert.Softmax

open Idealize.ShloMosaic

/-- A finite sum of reals, taken among the extended reals. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

section
variable {ι : Type*} [Fintype ι] (P : ι → Prop) [DecidablePred P] (x v : ι → ℝ) (s w : ι → EReal)

/-- The sum of the exponentials of the admitted scores. -/
def mass : ℝ := ∑ i, if P i then Real.exp (x i) else 0

/-- The sum of the values weighted by the exponentials of the admitted scores. -/
def weighted : ℝ := ∑ i, if P i then Real.exp (x i) * v i else 0

theorem mass_pos (hne : ∃ i, P i) : 0 < mass P x := by
  obtain ⟨i, hi⟩ := hne
  refine Finset.sum_pos' (fun j _ => ?_) ⟨i, Finset.mem_univ i, ?_⟩
  · split_ifs
    · exact (Real.exp_pos _).le
    · exact le_refl _
  · rw [if_pos hi]; exact Real.exp_pos _

/-- The largest of scores some of which are finite and the others below everything is finite. -/
theorem max_real (hs : ∀ i, s i = if P i then ((x i : ℝ) : EReal) else ⊥) (hne : ∃ i, P i) :
    ∃ μ : ℝ, Finset.fold max (⊥ : EReal) s Finset.univ = (μ : EReal) := by
  have h1 : Finset.fold max (⊥ : EReal) s Finset.univ < ⊤ := by
    rw [Finset.fold_max_lt]
    refine ⟨bot_lt_top, fun i _ => ?_⟩
    rw [hs]
    split_ifs
    · exact EReal.coe_lt_top _
    · exact bot_lt_top
  have h2 : (⊥ : EReal) < Finset.fold max (⊥ : EReal) s Finset.univ := by
    rw [Finset.lt_fold_max]
    obtain ⟨i, hi⟩ := hne
    refine Or.inr ⟨i, Finset.mem_univ i, ?_⟩
    rw [hs, if_pos hi]
    exact EReal.bot_lt_coe _
  exact ⟨_, (EReal.coe_toReal h1.ne h2.ne').symm⟩

/-- The exponential of a score from which a real is taken. -/
theorem exp_score (hs : ∀ i, s i = if P i then ((x i : ℝ) : EReal) else ⊥) (μ : ℝ) (i : ι) :
    Ideal.exp (s i - (μ : EReal)) = ((if P i then Real.exp (x i) * Real.exp (-μ) else 0 : ℝ) : EReal) := by
  rw [hs]
  split_ifs
  · rw [← EReal.coe_sub, Ideal.exp_coe, sub_eq_add_neg, Real.exp_add]
  · rw [EReal.bot_sub, Ideal.exp_bot, EReal.coe_zero]

theorem sum_exp (hs : ∀ i, s i = if P i then ((x i : ℝ) : EReal) else ⊥) (μ : ℝ) :
    ∑ i, Ideal.exp (s i - (μ : EReal)) = ((mass P x * Real.exp (-μ) : ℝ) : EReal) := by
  simp only [exp_score P x s hs]
  rw [coe_sum, mass, Finset.sum_mul]
  congr 1
  refine Finset.sum_congr rfl fun i _ => ?_
  split_ifs <;> simp

theorem sum_exp_mul (hs : ∀ i, s i = if P i then ((x i : ℝ) : EReal) else ⊥) (hw : ∀ i, w i = ((v i : ℝ) : EReal)) (μ : ℝ) :
    ∑ i, Ideal.exp (s i - (μ : EReal)) * w i = ((weighted P x v * Real.exp (-μ) : ℝ) : EReal) := by
  simp only [exp_score P x s hs, hw, ← EReal.coe_mul]
  rw [coe_sum, weighted, Finset.sum_mul]
  congr 1
  refine Finset.sum_congr rfl fun i _ => ?_
  split_ifs <;> ring

/-- The softmax mean as the kernel computes it: both sums relative to the largest score, then one division. -/
theorem kernel_mean (hs : ∀ i, s i = if P i then ((x i : ℝ) : EReal) else ⊥) (hw : ∀ i, w i = ((v i : ℝ) : EReal))
    (hne : ∃ i, P i) :
    Ideal.div (∑ i, Ideal.exp (s i - Finset.fold max (⊥ : EReal) s Finset.univ) * w i)
      (∑ i, Ideal.exp (s i - Finset.fold max (⊥ : EReal) s Finset.univ)) = ((weighted P x v / mass P x : ℝ) : EReal) := by
  obtain ⟨μ, hμ⟩ := max_real P x s hs hne
  have hp := mass_pos P x hne
  have he := Real.exp_pos (-μ)
  rw [hμ, sum_exp P x s hs, sum_exp_mul P x v s w hs hw, Ideal.div_coe (mul_pos hp he).ne', ← EReal.coe_mul]
  congr 1
  field_simp

/-- The logarithm of the mass, computed relative to the largest score. -/
theorem log_mass (hs : ∀ i, s i = if P i then ((x i : ℝ) : EReal) else ⊥) (hne : ∃ i, P i) (μ : ℝ) :
    (μ : EReal) + Ideal.log (∑ i, Ideal.exp (s i - (μ : EReal))) = ((Real.log (mass P x) : ℝ) : EReal) := by
  have hp := mass_pos P x hne
  have he := Real.exp_pos (-μ)
  rw [sum_exp P x s hs, Ideal.log_coe, if_neg (not_le.mpr (mul_pos hp he)), ← EReal.coe_add,
    Real.log_mul hp.ne' he.ne', Real.log_exp]
  congr 1
  ring

/-- The softmax mean as the plain program computes it: weights relative to the logarithm of the mass. -/
theorem plain_mean (hs : ∀ i, s i = if P i then ((x i : ℝ) : EReal) else ⊥) (hw : ∀ i, w i = ((v i : ℝ) : EReal))
    (hne : ∃ i, P i) :
    ∑ i, Ideal.exp (s i - ((Real.log (mass P x) : ℝ) : EReal)) * w i = ((weighted P x v / mass P x : ℝ) : EReal) := by
  have hp := mass_pos P x hne
  rw [sum_exp_mul P x v s w hs hw, Real.exp_neg, Real.exp_log hp, div_eq_mul_inv]

end

/-- A sum over the 256 keys of a row's two tiles, the admitted ones, is the sum over the 129 distances back. -/
theorem reindex (r : Fin 128) (u : ℕ) (first : Prop) [Decidable first] (hu : r.val ≤ u) (h0 : first → u = r.val)
    (h1 : ¬first → 128 ≤ u) (M : Fin 256 → Prop) [DecidablePred M]
    (hM : ∀ c, M c ↔ (c.val ≤ r.val + 128 ∧ r.val ≤ c.val ∧ (first → 128 ≤ c.val)))
    (f : Fin 256 → ℝ) (g : Fin 129 → ℝ) (hfg : ∀ (c : Fin 256) (k : Fin 129), c.val + k.val = r.val + 128 → k.val ≤ u → f c = g k) :
    (∑ c, if M c then f c else 0) = ∑ k : Fin 129, if k.val ≤ u then g k else 0 := by
  rw [← Finset.sum_filter, ← Finset.sum_filter]
  have hr := r.isLt
  refine Finset.sum_bij' (fun c hc => ⟨r.val + 128 - c.val, ?_⟩) (fun k hk => ⟨r.val + 128 - k.val, ?_⟩) ?_ ?_ ?_ ?_ ?_
  · have := (hM c).mp (Finset.mem_filter.mp hc).2; omega
  · omega
  · intro c hc
    have hm := (hM c).mp (Finset.mem_filter.mp hc).2
    refine Finset.mem_filter.mpr ⟨Finset.mem_univ _, ?_⟩
    show r.val + 128 - c.val ≤ u
    by_cases hf : first
    · have := hm.2.2 hf; have := h0 hf; omega
    · have := h1 hf; omega
  · intro k hk
    have hk' := (Finset.mem_filter.mp hk).2
    refine Finset.mem_filter.mpr ⟨Finset.mem_univ _, (hM _).mpr ?_⟩
    show r.val + 128 - k.val ≤ r.val + 128 ∧ r.val ≤ r.val + 128 - k.val ∧ (first → 128 ≤ r.val + 128 - k.val)
    refine ⟨by omega, by omega, fun hf => ?_⟩
    have := h0 hf
    omega
  · intro c hc
    have hm := (hM c).mp (Finset.mem_filter.mp hc).2
    apply Fin.ext
    show r.val + 128 - (r.val + 128 - c.val) = c.val
    omega
  · intro k hk
    apply Fin.ext
    show r.val + 128 - (r.val + 128 - k.val) = k.val
    omega
  · intro c hc
    have hm := (hM c).mp (Finset.mem_filter.mp hc).2
    refine hfg c _ ?_ ?_
    · show c.val + (r.val + 128 - c.val) = r.val + 128
      omega
    · show r.val + 128 - c.val ≤ u
      by_cases hf : first
      · have := hm.2.2 hf; have := h0 hf; omega
      · have := h1 hf; omega

end Cert.Softmax
-- ==== Proof.DilTile.lean ====
module

public import proofs.«01_k».proof.Proof.Gen.Dil16Ideal.Frame
public import proofs.«01_k».proof.Proof.Softmax
public import Idealize.ShloMosaic.Lib.Pointwise
public import Idealize.ShloMosaic.Lib.Pipeline.ValueKit.Tiles

@[expose] public section

set_option maxRecDepth 16384

noncomputable section

namespace Cert.DilTile

open Cert.Dil16Ideal Cert.Dil16Ideal.Gen Idealize.ShloMosaic

/-- The rows of the previous tile followed by those of the current one. -/
def cat (p c : Fin 128 → EReal) (x : Fin 256) : EReal :=
  if h : x.val < 128 then p ⟨x.val, h⟩ else c ⟨x.val - 128, by omega⟩

/-- A row's score against key `x` of its two tiles, below everything where the mask is off. -/
def score (mask : IVec S128x256 1) (q kp kc : Vec Ideal S1x1x128x128 .bf16) (r : Fin 128) (x : Fin 256) : EReal :=
  Scalar.select (mask (ix2 r x))
    (∑ e, q (ix4 0 0 r e) * cat (fun y => kp (ix4 0 0 y e)) (fun y => kc (ix4 0 0 y e)) x) (Ideal.ofBits .f32 0xFF800000#32)

/-- One head's output tile, entry by entry. -/
theorem o_at (mask : IVec S128x256 1) (q kp kc vp vc : Vec Ideal S1x1x128x128 .bf16) (r d : Fin 128) :
    k0_pay12 mask (k0_pay6 vp) (k0_pay7 kp kc) vc q (ix3 0 r d)
      = Ideal.div (∑ x, Ideal.exp (score mask q kp kc r x
            - Finset.fold max (Ideal.ofBits .f32 0xFF800000#32) (score mask q kp kc r) Finset.univ)
          * cat (fun y => vp (ix4 0 0 y d)) (fun y => vc (ix4 0 0 y d)) x)
        (∑ x, Ideal.exp (score mask q kp kc r x
            - Finset.fold max (Ideal.ofBits .f32 0xFF800000#32) (score mask q kp kc r) Finset.univ)) := by
  rw [Fin.sum_univ_two_halves 128 128 rfl, Fin.sum_univ_two_halves (N := 256) 128 128 rfl]
  unfold score cat
  pointwise [k0_pay12, k0_pay11, k0_pay10, k0_pay9, k0_pay8, k0_pay7, k0_pay6]

/-- One head's log-sum-exp tile, entry by entry. -/
theorem l_at (mask : IVec S128x256 1) (q kp kc : Vec Ideal S1x1x128x128 .bf16) (r d : Fin 128) :
    k0_pay13 mask (k0_pay7 kp kc) q (ix3 0 r d)
      = Finset.fold max (Ideal.ofBits .f32 0xFF800000#32) (score mask q kp kc r) Finset.univ
        + Ideal.log (∑ x, Ideal.exp (score mask q kp kc r x
            - Finset.fold max (Ideal.ofBits .f32 0xFF800000#32) (score mask q kp kc r) Finset.univ)) := by
  rw [Fin.sum_univ_two_halves (N := 256) 128 128 rfl]
  unfold score cat
  pointwise [k0_pay13, k0_pay11, k0_pay10, k0_pay9, k0_pay8, k0_pay7, k0_pay6]

/-- One step's output block: the sixteen tiles, four heads of four tiles of rows. -/
def tileO (mask : IVec S128x256 1) (q kp kc vp vc : Vec Ideal S1x1x128x128 .bf16) : Vec Ideal S1x128x128 .bf16 :=
  k0_pay12 mask (k0_pay6 vp) (k0_pay7 kp kc) vc q

/-- A tile of the log-sum-exps. -/
def tileL (mask : IVec S128x256 1) (q kp kc : Vec Ideal S1x1x128x128 .bf16) : Vec Ideal S1x128x128 .f32 :=
  k0_pay13 mask (k0_pay7 kp kc) q

section
variable (m5 m4 : IVec S128x256 1) (x0 : Vec Ideal S4x4x128x128 .bf16) (x1 : Vec Ideal S4x1x128x128 .bf16)
  (x2 : Vec Ideal S4x4x128x128 .bf16) (x3 : Vec Ideal S4x1x128x128 .bf16) (x4 : Vec Ideal S4x4x128x128 .bf16)

/-- A step's output block as the sixteen stores leave it. -/
def blkO : Vec Ideal S4x128x512 .bf16 :=
  View.canon [⟨r0_35, tileO m4 (View.ld x0 r0_34) (View.ld x2 r0_26) (View.ld x2 r0_34) (View.ld x4 r0_26) (View.ld x4 r0_34)⟩,
    ⟨r0_33, tileO m4 (View.ld x0 r0_32) (View.ld x2 r0_24) (View.ld x2 r0_32) (View.ld x4 r0_24) (View.ld x4 r0_32)⟩,
    ⟨r0_31, tileO m4 (View.ld x0 r0_30) (View.ld x2 r0_22) (View.ld x2 r0_30) (View.ld x4 r0_22) (View.ld x4 r0_30)⟩,
    ⟨r0_29, tileO m4 (View.ld x0 r0_28) (View.ld x2 r0_20) (View.ld x2 r0_28) (View.ld x4 r0_20) (View.ld x4 r0_28)⟩,
    ⟨r0_27, tileO m4 (View.ld x0 r0_26) (View.ld x2 r0_18) (View.ld x2 r0_26) (View.ld x4 r0_18) (View.ld x4 r0_26)⟩,
    ⟨r0_25, tileO m4 (View.ld x0 r0_24) (View.ld x2 r0_16) (View.ld x2 r0_24) (View.ld x4 r0_16) (View.ld x4 r0_24)⟩,
    ⟨r0_23, tileO m4 (View.ld x0 r0_22) (View.ld x2 r0_14) (View.ld x2 r0_22) (View.ld x4 r0_14) (View.ld x4 r0_22)⟩,
    ⟨r0_21, tileO m4 (View.ld x0 r0_20) (View.ld x2 r0_12) (View.ld x2 r0_20) (View.ld x4 r0_12) (View.ld x4 r0_20)⟩,
    ⟨r0_19, tileO m4 (View.ld x0 r0_18) (View.ld x2 r0_10) (View.ld x2 r0_18) (View.ld x4 r0_10) (View.ld x4 r0_18)⟩,
    ⟨r0_17, tileO m4 (View.ld x0 r0_16) (View.ld x2 r0_7) (View.ld x2 r0_16) (View.ld x4 r0_7) (View.ld x4 r0_16)⟩,
    ⟨r0_15, tileO m4 (View.ld x0 r0_14) (View.ld x2 r0_4) (View.ld x2 r0_14) (View.ld x4 r0_4) (View.ld x4 r0_14)⟩,
    ⟨r0_13, tileO m4 (View.ld x0 r0_12) (View.ld x2 r0_1) (View.ld x2 r0_12) (View.ld x4 r0_1) (View.ld x4 r0_12)⟩,
    ⟨r0_11, tileO m5 (View.ld x0 r0_10) (View.ld x1 r0_9) (View.ld x2 r0_10) (View.ld x3 r0_9) (View.ld x4 r0_10)⟩,
    ⟨r0_8, tileO m5 (View.ld x0 r0_7) (View.ld x1 r0_6) (View.ld x2 r0_7) (View.ld x3 r0_6) (View.ld x4 r0_7)⟩,
    ⟨r0_5, tileO m5 (View.ld x0 r0_4) (View.ld x1 r0_3) (View.ld x2 r0_4) (View.ld x3 r0_3) (View.ld x4 r0_4)⟩,
    ⟨r0_2, tileO m5 (View.ld x0 r0_1) (View.ld x1 r0_0) (View.ld x2 r0_1) (View.ld x3 r0_0) (View.ld x4 r0_1)⟩]

/-- A step's block of log-sum-exps as the sixteen stores leave it. -/
def blkL : Vec Ideal S4x128x512 .f32 :=
  View.canon [⟨r0_35, tileL m4 (View.ld x0 r0_34) (View.ld x2 r0_26) (View.ld x2 r0_34)⟩,
    ⟨r0_33, tileL m4 (View.ld x0 r0_32) (View.ld x2 r0_24) (View.ld x2 r0_32)⟩,
    ⟨r0_31, tileL m4 (View.ld x0 r0_30) (View.ld x2 r0_22) (View.ld x2 r0_30)⟩,
    ⟨r0_29, tileL m4 (View.ld x0 r0_28) (View.ld x2 r0_20) (View.ld x2 r0_28)⟩,
    ⟨r0_27, tileL m4 (View.ld x0 r0_26) (View.ld x2 r0_18) (View.ld x2 r0_26)⟩,
    ⟨r0_25, tileL m4 (View.ld x0 r0_24) (View.ld x2 r0_16) (View.ld x2 r0_24)⟩,
    ⟨r0_23, tileL m4 (View.ld x0 r0_22) (View.ld x2 r0_14) (View.ld x2 r0_22)⟩,
    ⟨r0_21, tileL m4 (View.ld x0 r0_20) (View.ld x2 r0_12) (View.ld x2 r0_20)⟩,
    ⟨r0_19, tileL m4 (View.ld x0 r0_18) (View.ld x2 r0_10) (View.ld x2 r0_18)⟩,
    ⟨r0_17, tileL m4 (View.ld x0 r0_16) (View.ld x2 r0_7) (View.ld x2 r0_16)⟩,
    ⟨r0_15, tileL m4 (View.ld x0 r0_14) (View.ld x2 r0_4) (View.ld x2 r0_14)⟩,
    ⟨r0_13, tileL m4 (View.ld x0 r0_12) (View.ld x2 r0_1) (View.ld x2 r0_12)⟩,
    ⟨r0_11, tileL m5 (View.ld x0 r0_10) (View.ld x1 r0_9) (View.ld x2 r0_10)⟩,
    ⟨r0_8, tileL m5 (View.ld x0 r0_7) (View.ld x1 r0_6) (View.ld x2 r0_7)⟩,
    ⟨r0_5, tileL m5 (View.ld x0 r0_4) (View.ld x1 r0_3) (View.ld x2 r0_4)⟩,
    ⟨r0_2, tileL m5 (View.ld x0 r0_1) (View.ld x1 r0_0) (View.ld x2 r0_1)⟩]

/-- Row `y` of the tile before tile `j` of head `h`: it is the extra block's for the first tile. -/
def prev (z1 : Vec Ideal S4x1x128x128 .bf16) (z2 : Vec Ideal S4x4x128x128 .bf16) (j h : Fin 4) (y e : Fin 128) : EReal :=
  if j.val = 0 then z1 (ix4 h 0 y e) else z2 (ix4 h ⟨j.val - 1, by omega⟩ y e)

/-- The score of row `r` of tile `j` of head `h` against key `x` of that tile and the one before it. -/
def rowScore (j h : Fin 4) (r : Fin 128) (x : Fin 256) : EReal :=
  Scalar.select ((if j.val = 0 then m5 else m4) (ix2 r x))
    (∑ e, x0 (ix4 h j r e) * cat (fun y => prev x1 x2 j h y e) (fun y => x2 (ix4 h j y e)) x) (Ideal.ofBits .f32 0xFF800000#32)

/-- The softmax mean a row's tile holds. -/
def meanAt (j h : Fin 4) (r d : Fin 128) : EReal :=
  Ideal.div (∑ x, Ideal.exp (rowScore m5 m4 x0 x1 x2 j h r x
        - Finset.fold max (Ideal.ofBits .f32 0xFF800000#32) (rowScore m5 m4 x0 x1 x2 j h r) Finset.univ)
      * cat (fun y => prev x3 x4 j h y d) (fun y => x4 (ix4 h j y d)) x)
    (∑ x, Ideal.exp (rowScore m5 m4 x0 x1 x2 j h r x
        - Finset.fold max (Ideal.ofBits .f32 0xFF800000#32) (rowScore m5 m4 x0 x1 x2 j h r) Finset.univ))

/-- The log-sum-exp a row's tile holds. -/
def lseAt (j h : Fin 4) (r : Fin 128) : EReal :=
  Finset.fold max (Ideal.ofBits .f32 0xFF800000#32) (rowScore m5 m4 x0 x1 x2 j h r) Finset.univ
    + Ideal.log (∑ x, Ideal.exp (rowScore m5 m4 x0 x1 x2 j h r x
        - Finset.fold max (Ideal.ofBits .f32 0xFF800000#32) (rowScore m5 m4 x0 x1 x2 j h r) Finset.univ))

theorem ld_at4 (X : Vec Ideal S4x4x128x128 .bf16) (H J : Fin 4) (inb) (y e : Fin 128) :
    View.ld X (Rect.unit (s := S4x4x128x128) ![H.val, J.val, 0, 0] S1x1x128x128.size inb) (ix4 0 0 y e) = X (ix4 H J y e) := by
  show X _ = X _
  congr 1
  funext a
  apply Fin.ext
  match a with
  | ⟨0, _⟩ => show H.val + 1 * 0 = H.val; omega
  | ⟨1, _⟩ => show J.val + 1 * 0 = J.val; omega
  | ⟨2, _⟩ => show 0 + 1 * y.val = y.val; omega
  | ⟨3, _⟩ => show 0 + 1 * e.val = e.val; omega

theorem ld_at1 (X : Vec Ideal S4x1x128x128 .bf16) (H : Fin 4) (inb) (y e : Fin 128) :
    View.ld X (Rect.unit (s := S4x1x128x128) ![H.val, 0, 0, 0] S1x1x128x128.size inb) (ix4 0 0 y e) = X (ix4 H 0 y e) := by
  show X _ = X _
  congr 1
  funext a
  apply Fin.ext
  match a with
  | ⟨0, _⟩ => show H.val + 1 * 0 = H.val; omega
  | ⟨1, _⟩ => show 0 + 1 * 0 = 0; omega
  | ⟨2, _⟩ => show 0 + 1 * y.val = y.val; omega
  | ⟨3, _⟩ => show 0 + 1 * e.val = e.val; omega

theorem pieceO (J H : Fin 4) (mask : IVec S128x256 1) (q kp kc vp vc : Vec Ideal S1x1x128x128 .bf16)
    (hm : mask = if J.val = 0 then m5 else m4) (hq : ∀ y e : Fin 128, q (ix4 0 0 y e) = x0 (ix4 H J y e))
    (hkp : ∀ y e : Fin 128, kp (ix4 0 0 y e) = prev x1 x2 J H y e) (hkc : ∀ y e : Fin 128, kc (ix4 0 0 y e) = x2 (ix4 H J y e))
    (hvp : ∀ y e : Fin 128, vp (ix4 0 0 y e) = prev x3 x4 J H y e) (hvc : ∀ y e : Fin 128, vc (ix4 0 0 y e) = x4 (ix4 H J y e))
    (j h : Fin 4) (r d : Fin 128) (x : S1x128x128.Idx) (h0 : j.val = J.val + (x 0).val) (h1 : r.val = (x 1).val)
    (h2 : h.val * 128 + d.val = H.val * 128 + (x 2).val) :
    tileO mask q kp kc vp vc x = meanAt m5 m4 x0 x1 x2 x3 x4 j h r d := by
  obtain ⟨a, r', d', rfl⟩ : ∃ a r' d', x = ix3 a r' d' := ⟨_, _, _, eq_ix3 x⟩
  have h2' : h.val * 128 + d.val = H.val * 128 + d'.val := h2
  have h0' : j.val = J.val + a.val := h0
  obtain rfl : r = r' := Fin.ext h1
  obtain rfl : a = 0 := Subsingleton.elim _ _
  have := d.isLt
  have := d'.isLt
  obtain rfl : j = J := Fin.ext h0'
  obtain rfl : h = H := Fin.ext (by omega)
  obtain rfl : d = d' := Fin.ext (by omega)
  rw [tileO, o_at]
  have hsc : score mask q kp kc r = rowScore m5 m4 x0 x1 x2 j h r := by
    funext x
    simp only [score, rowScore, hm, hq, hkp, hkc]
  simp only [hsc, hvp, hvc]
  rfl

theorem pieceL (J H : Fin 4) (mask : IVec S128x256 1) (q kp kc : Vec Ideal S1x1x128x128 .bf16)
    (hm : mask = if J.val = 0 then m5 else m4) (hq : ∀ y e : Fin 128, q (ix4 0 0 y e) = x0 (ix4 H J y e))
    (hkp : ∀ y e : Fin 128, kp (ix4 0 0 y e) = prev x1 x2 J H y e) (hkc : ∀ y e : Fin 128, kc (ix4 0 0 y e) = x2 (ix4 H J y e))
    (j h : Fin 4) (r d : Fin 128) (x : S1x128x128.Idx) (h0 : j.val = J.val + (x 0).val) (h1 : r.val = (x 1).val)
    (h2 : h.val * 128 + d.val = H.val * 128 + (x 2).val) :
    tileL mask q kp kc x = lseAt m5 m4 x0 x1 x2 j h r := by
  obtain ⟨a, r', d', rfl⟩ : ∃ a r' d', x = ix3 a r' d' := ⟨_, _, _, eq_ix3 x⟩
  have h2' : h.val * 128 + d.val = H.val * 128 + d'.val := h2
  have h0' : j.val = J.val + a.val := h0
  obtain rfl : r = r' := Fin.ext h1
  obtain rfl : a = 0 := Subsingleton.elim _ _
  have := d.isLt
  have := d'.isLt
  obtain rfl : j = J := Fin.ext h0'
  obtain rfl : h = H := Fin.ext (by omega)
  rw [tileL, l_at mask q kp kc]
  have hsc : score mask q kp kc r = rowScore m5 m4 x0 x1 x2 j h r := by
    funext x
    simp only [score, rowScore, hm, hq, hkp, hkc]
  simp only [hsc]
  rfl

/-- The output block, entry by entry. -/
theorem blkO_at (j h : Fin 4) (r d : Fin 128) :
    blkO m5 m4 x0 x1 x2 x3 x4 (ix3 j r ⟨h.val * 128 + d.val, by omega⟩) = meanAt m5 m4 x0 x1 x2 x3 x4 j h r d := by
  unfold blkO
  canon_tiles x h
  · exact pieceO m5 m4 x0 x1 x2 x3 x4 3 3 _ _ _ _ _ _ rfl (fun y e => ld_at4 x0 3 3 _ y e) (fun y e => ld_at4 x2 3 2 _ y e) (fun y e => ld_at4 x2 3 3 _ y e) (fun y e => ld_at4 x4 3 2 _ y e) (fun y e => ld_at4 x4 3 3 _ y e) j h r d x h0 h1 h2
  · exact pieceO m5 m4 x0 x1 x2 x3 x4 3 2 _ _ _ _ _ _ rfl (fun y e => ld_at4 x0 2 3 _ y e) (fun y e => ld_at4 x2 2 2 _ y e) (fun y e => ld_at4 x2 2 3 _ y e) (fun y e => ld_at4 x4 2 2 _ y e) (fun y e => ld_at4 x4 2 3 _ y e) j h r d x h0 h1 h2
  · exact pieceO m5 m4 x0 x1 x2 x3 x4 3 1 _ _ _ _ _ _ rfl (fun y e => ld_at4 x0 1 3 _ y e) (fun y e => ld_at4 x2 1 2 _ y e) (fun y e => ld_at4 x2 1 3 _ y e) (fun y e => ld_at4 x4 1 2 _ y e) (fun y e => ld_at4 x4 1 3 _ y e) j h r d x h0 h1 h2
  · exact pieceO m5 m4 x0 x1 x2 x3 x4 3 0 _ _ _ _ _ _ rfl (fun y e => ld_at4 x0 0 3 _ y e) (fun y e => ld_at4 x2 0 2 _ y e) (fun y e => ld_at4 x2 0 3 _ y e) (fun y e => ld_at4 x4 0 2 _ y e) (fun y e => ld_at4 x4 0 3 _ y e) j h r d x h0 h1 (h2.trans (Nat.zero_add _).symm)
  · exact pieceO m5 m4 x0 x1 x2 x3 x4 2 3 _ _ _ _ _ _ rfl (fun y e => ld_at4 x0 3 2 _ y e) (fun y e => ld_at4 x2 3 1 _ y e) (fun y e => ld_at4 x2 3 2 _ y e) (fun y e => ld_at4 x4 3 1 _ y e) (fun y e => ld_at4 x4 3 2 _ y e) j h r d x h0 h1 h2
  · exact pieceO m5 m4 x0 x1 x2 x3 x4 2 2 _ _ _ _ _ _ rfl (fun y e => ld_at4 x0 2 2 _ y e) (fun y e => ld_at4 x2 2 1 _ y e) (fun y e => ld_at4 x2 2 2 _ y e) (fun y e => ld_at4 x4 2 1 _ y e) (fun y e => ld_at4 x4 2 2 _ y e) j h r d x h0 h1 h2
  · exact pieceO m5 m4 x0 x1 x2 x3 x4 2 1 _ _ _ _ _ _ rfl (fun y e => ld_at4 x0 1 2 _ y e) (fun y e => ld_at4 x2 1 1 _ y e) (fun y e => ld_at4 x2 1 2 _ y e) (fun y e => ld_at4 x4 1 1 _ y e) (fun y e => ld_at4 x4 1 2 _ y e) j h r d x h0 h1 h2
  · exact pieceO m5 m4 x0 x1 x2 x3 x4 2 0 _ _ _ _ _ _ rfl (fun y e => ld_at4 x0 0 2 _ y e) (fun y e => ld_at4 x2 0 1 _ y e) (fun y e => ld_at4 x2 0 2 _ y e) (fun y e => ld_at4 x4 0 1 _ y e) (fun y e => ld_at4 x4 0 2 _ y e) j h r d x h0 h1 (h2.trans (Nat.zero_add _).symm)
  · exact pieceO m5 m4 x0 x1 x2 x3 x4 1 3 _ _ _ _ _ _ rfl (fun y e => ld_at4 x0 3 1 _ y e) (fun y e => ld_at4 x2 3 0 _ y e) (fun y e => ld_at4 x2 3 1 _ y e) (fun y e => ld_at4 x4 3 0 _ y e) (fun y e => ld_at4 x4 3 1 _ y e) j h r d x h0 h1 h2
  · exact pieceO m5 m4 x0 x1 x2 x3 x4 1 2 _ _ _ _ _ _ rfl (fun y e => ld_at4 x0 2 1 _ y e) (fun y e => ld_at4 x2 2 0 _ y e) (fun y e => ld_at4 x2 2 1 _ y e) (fun y e => ld_at4 x4 2 0 _ y e) (fun y e => ld_at4 x4 2 1 _ y e) j h r d x h0 h1 h2
  · exact pieceO m5 m4 x0 x1 x2 x3 x4 1 1 _ _ _ _ _ _ rfl (fun y e => ld_at4 x0 1 1 _ y e) (fun y e => ld_at4 x2 1 0 _ y e) (fun y e => ld_at4 x2 1 1 _ y e) (fun y e => ld_at4 x4 1 0 _ y e) (fun y e => ld_at4 x4 1 1 _ y e) j h r d x h0 h1 h2
  · exact pieceO m5 m4 x0 x1 x2 x3 x4 1 0 _ _ _ _ _ _ rfl (fun y e => ld_at4 x0 0 1 _ y e) (fun y e => ld_at4 x2 0 0 _ y e) (fun y e => ld_at4 x2 0 1 _ y e) (fun y e => ld_at4 x4 0 0 _ y e) (fun y e => ld_at4 x4 0 1 _ y e) j h r d x h0 h1 (h2.trans (Nat.zero_add _).symm)
  · exact pieceO m5 m4 x0 x1 x2 x3 x4 0 3 _ _ _ _ _ _ rfl (fun y e => ld_at4 x0 3 0 _ y e) (fun y e => ld_at1 x1 3 _ y e) (fun y e => ld_at4 x2 3 0 _ y e) (fun y e => ld_at1 x3 3 _ y e) (fun y e => ld_at4 x4 3 0 _ y e) j h r d x (h0.trans (Nat.zero_add _).symm) h1 h2
  · exact pieceO m5 m4 x0 x1 x2 x3 x4 0 2 _ _ _ _ _ _ rfl (fun y e => ld_at4 x0 2 0 _ y e) (fun y e => ld_at1 x1 2 _ y e) (fun y e => ld_at4 x2 2 0 _ y e) (fun y e => ld_at1 x3 2 _ y e) (fun y e => ld_at4 x4 2 0 _ y e) j h r d x (h0.trans (Nat.zero_add _).symm) h1 h2
  · exact pieceO m5 m4 x0 x1 x2 x3 x4 0 1 _ _ _ _ _ _ rfl (fun y e => ld_at4 x0 1 0 _ y e) (fun y e => ld_at1 x1 1 _ y e) (fun y e => ld_at4 x2 1 0 _ y e) (fun y e => ld_at1 x3 1 _ y e) (fun y e => ld_at4 x4 1 0 _ y e) j h r d x (h0.trans (Nat.zero_add _).symm) h1 h2
  · exact pieceO m5 m4 x0 x1 x2 x3 x4 0 0 _ _ _ _ _ _ rfl (fun y e => ld_at4 x0 0 0 _ y e) (fun y e => ld_at1 x1 0 _ y e) (fun y e => ld_at4 x2 0 0 _ y e) (fun y e => ld_at1 x3 0 _ y e) (fun y e => ld_at4 x4 0 0 _ y e) j h r d x (h0.trans (Nat.zero_add _).symm) h1 (h2.trans (Nat.zero_add _).symm)

/-- The block of log-sum-exps, entry by entry. -/
theorem blkL_at (j h : Fin 4) (r d : Fin 128) :
    blkL m5 m4 x0 x1 x2 (ix3 j r ⟨h.val * 128 + d.val, by omega⟩) = lseAt m5 m4 x0 x1 x2 j h r := by
  unfold blkL
  canon_tiles x h
  · exact pieceL m5 m4 x0 x1 x2 3 3 _ _ _ _ rfl (fun y e => ld_at4 x0 3 3 _ y e) (fun y e => ld_at4 x2 3 2 _ y e) (fun y e => ld_at4 x2 3 3 _ y e) j h r d x h0 h1 h2
  · exact pieceL m5 m4 x0 x1 x2 3 2 _ _ _ _ rfl (fun y e => ld_at4 x0 2 3 _ y e) (fun y e => ld_at4 x2 2 2 _ y e) (fun y e => ld_at4 x2 2 3 _ y e) j h r d x h0 h1 h2
  · exact pieceL m5 m4 x0 x1 x2 3 1 _ _ _ _ rfl (fun y e => ld_at4 x0 1 3 _ y e) (fun y e => ld_at4 x2 1 2 _ y e) (fun y e => ld_at4 x2 1 3 _ y e) j h r d x h0 h1 h2
  · exact pieceL m5 m4 x0 x1 x2 3 0 _ _ _ _ rfl (fun y e => ld_at4 x0 0 3 _ y e) (fun y e => ld_at4 x2 0 2 _ y e) (fun y e => ld_at4 x2 0 3 _ y e) j h r d x h0 h1 (h2.trans (Nat.zero_add _).symm)
  · exact pieceL m5 m4 x0 x1 x2 2 3 _ _ _ _ rfl (fun y e => ld_at4 x0 3 2 _ y e) (fun y e => ld_at4 x2 3 1 _ y e) (fun y e => ld_at4 x2 3 2 _ y e) j h r d x h0 h1 h2
  · exact pieceL m5 m4 x0 x1 x2 2 2 _ _ _ _ rfl (fun y e => ld_at4 x0 2 2 _ y e) (fun y e => ld_at4 x2 2 1 _ y e) (fun y e => ld_at4 x2 2 2 _ y e) j h r d x h0 h1 h2
  · exact pieceL m5 m4 x0 x1 x2 2 1 _ _ _ _ rfl (fun y e => ld_at4 x0 1 2 _ y e) (fun y e => ld_at4 x2 1 1 _ y e) (fun y e => ld_at4 x2 1 2 _ y e) j h r d x h0 h1 h2
  · exact pieceL m5 m4 x0 x1 x2 2 0 _ _ _ _ rfl (fun y e => ld_at4 x0 0 2 _ y e) (fun y e => ld_at4 x2 0 1 _ y e) (fun y e => ld_at4 x2 0 2 _ y e) j h r d x h0 h1 (h2.trans (Nat.zero_add _).symm)
  · exact pieceL m5 m4 x0 x1 x2 1 3 _ _ _ _ rfl (fun y e => ld_at4 x0 3 1 _ y e) (fun y e => ld_at4 x2 3 0 _ y e) (fun y e => ld_at4 x2 3 1 _ y e) j h r d x h0 h1 h2
  · exact pieceL m5 m4 x0 x1 x2 1 2 _ _ _ _ rfl (fun y e => ld_at4 x0 2 1 _ y e) (fun y e => ld_at4 x2 2 0 _ y e) (fun y e => ld_at4 x2 2 1 _ y e) j h r d x h0 h1 h2
  · exact pieceL m5 m4 x0 x1 x2 1 1 _ _ _ _ rfl (fun y e => ld_at4 x0 1 1 _ y e) (fun y e => ld_at4 x2 1 0 _ y e) (fun y e => ld_at4 x2 1 1 _ y e) j h r d x h0 h1 h2
  · exact pieceL m5 m4 x0 x1 x2 1 0 _ _ _ _ rfl (fun y e => ld_at4 x0 0 1 _ y e) (fun y e => ld_at4 x2 0 0 _ y e) (fun y e => ld_at4 x2 0 1 _ y e) j h r d x h0 h1 (h2.trans (Nat.zero_add _).symm)
  · exact pieceL m5 m4 x0 x1 x2 0 3 _ _ _ _ rfl (fun y e => ld_at4 x0 3 0 _ y e) (fun y e => ld_at1 x1 3 _ y e) (fun y e => ld_at4 x2 3 0 _ y e) j h r d x (h0.trans (Nat.zero_add _).symm) h1 h2
  · exact pieceL m5 m4 x0 x1 x2 0 2 _ _ _ _ rfl (fun y e => ld_at4 x0 2 0 _ y e) (fun y e => ld_at1 x1 2 _ y e) (fun y e => ld_at4 x2 2 0 _ y e) j h r d x (h0.trans (Nat.zero_add _).symm) h1 h2
  · exact pieceL m5 m4 x0 x1 x2 0 1 _ _ _ _ rfl (fun y e => ld_at4 x0 1 0 _ y e) (fun y e => ld_at1 x1 1 _ y e) (fun y e => ld_at4 x2 1 0 _ y e) j h r d x (h0.trans (Nat.zero_add _).symm) h1 h2
  · exact pieceL m5 m4 x0 x1 x2 0 0 _ _ _ _ rfl (fun y e => ld_at4 x0 0 0 _ y e) (fun y e => ld_at1 x1 0 _ y e) (fun y e => ld_at4 x2 0 0 _ y e) j h r d x (h0.trans (Nat.zero_add _).symm) h1 (h2.trans (Nat.zero_add _).symm)

end

/-- The word of negative infinity is below everything. -/
theorem bot_word : Ideal.ofBits .f32 0xFF800000#32 = ⊥ := by simp [Ideal.ofBits, Ideal.ieee]

/-- The score of a query against the key `k` places back. -/
def back (q : Fin 128 → ℝ) (K : ℕ → Fin 128 → ℝ) (u : ℕ) (k : Fin 129) : ℝ := ∑ e, q e * K (u - k.val) e

/-- The mass of a query: its keys are those up to 128 places back, as far as there are any. -/
def Zd (q : Fin 128 → ℝ) (K : ℕ → Fin 128 → ℝ) (u : ℕ) : ℝ :=
  Softmax.mass (fun k : Fin 129 => k.val ≤ u) (back q K u)

/-- The softmax mean of a query. -/
def Md (q : Fin 128 → ℝ) (K V : ℕ → Fin 128 → ℝ) (u : ℕ) (d : Fin 128) : ℝ :=
  Softmax.weighted (fun k : Fin 129 => k.val ≤ u) (back q K u) (fun k => V (u - k.val) d) / Zd q K u

section
variable (m5 m4 : IVec S128x256 1) (x0 : Vec Ideal S4x4x128x128 .bf16) (x1 : Vec Ideal S4x1x128x128 .bf16)
  (x2 : Vec Ideal S4x4x128x128 .bf16) (x3 : Vec Ideal S4x1x128x128 .bf16) (x4 : Vec Ideal S4x4x128x128 .bf16)

/-- Row `c` of two tiles in a row, of which the later is tile `T`. -/
def catR (K : ℕ → Fin 128 → ℝ) (T : ℕ) (c : Fin 256) (e : Fin 128) : ℝ :=
  if c.val < 128 then K ((T - 1) * 128 + c.val) e else K (T * 128 + (c.val - 128)) e

/-- The keys a row admits among its two tiles. -/
def adm (T : ℕ) (r : Fin 128) (c : Fin 256) : Prop := c.val ≤ r.val + 128 ∧ r.val ≤ c.val ∧ (T = 0 → 128 ≤ c.val)

instance (T : ℕ) (r : Fin 128) : DecidablePred (adm T r) := fun _ => by unfold adm; infer_instance

theorem cat_real (K : ℕ → Fin 128 → ℝ) (T : ℕ) (p z : Fin 128 → EReal) (e : Fin 128)
    (hp : ∀ y : Fin 128, p y = ((K ((T - 1) * 128 + y.val) e : ℝ) : EReal))
    (hz : ∀ y : Fin 128, z y = ((K (T * 128 + y.val) e : ℝ) : EReal)) (c : Fin 256) :
    cat p z c = ((catR K T c e : ℝ) : EReal) := by
  unfold cat catR
  split_ifs with h
  · rw [hp]
  · rw [hz]

theorem rowScore_real (T : ℕ) (j h : Fin 4) (r : Fin 128) (q : Fin 128 → ℝ) (K : ℕ → Fin 128 → ℝ)
    (hm : ∀ x, (if j.val = 0 then m5 else m4) (ix2 r x) = 1#1 ↔ adm T r x)
    (hq : ∀ e, x0 (ix4 h j r e) = ((q e : ℝ) : EReal))
    (hp : ∀ y e : Fin 128, prev x1 x2 j h y e = ((K ((T - 1) * 128 + y.val) e : ℝ) : EReal))
    (hk : ∀ y e : Fin 128, x2 (ix4 h j y e) = ((K (T * 128 + y.val) e : ℝ) : EReal)) (c : Fin 256) :
    rowScore m5 m4 x0 x1 x2 j h r c = if adm T r c then ((∑ e, q e * catR K T c e : ℝ) : EReal) else ⊥ := by
  unfold rowScore
  rw [bot_word, ← Softmax.coe_sum]
  have hs : ∀ e, x0 (ix4 h j r e) * cat (fun y => prev x1 x2 j h y e) (fun y => x2 (ix4 h j y e)) c
      = ((q e * catR K T c e : ℝ) : EReal) := fun e => by
    rw [hq, cat_real K T _ _ e (fun y => hp y e) (fun y => hk y e), EReal.coe_mul]
  simp only [hs]
  by_cases ha : adm T r c
  · rw [if_pos ha, (hm c).mpr ha]; rfl
  · rw [if_neg ha]
    have h1 : (if j.val = 0 then m5 else m4) (ix2 r c) ≠ 1#1 := fun hh => ha ((hm c).mp hh)
    generalize (if j.val = 0 then m5 else m4) (ix2 r c) = b at h1
    have : b = 0#1 := by revert h1; revert b; decide
    rw [this]; rfl

theorem adm_self (T : ℕ) (r : Fin 128) : ∃ c, adm T r c :=
  ⟨⟨r.val + 128, by omega⟩, le_refl _, Nat.le_add_right _ _, fun _ => Nat.le_add_left _ _⟩

theorem catR_back (K : ℕ → Fin 128 → ℝ) (T : ℕ) (r : Fin 128) (c : Fin 256) (k : Fin 129) (hc : c.val + k.val = r.val + 128)
    (hk : k.val ≤ T * 128 + r.val) (e : Fin 128) : catR K T c e = K (T * 128 + r.val - k.val) e := by
  have := c.isLt
  unfold catR
  split_ifs with h
  · congr 1
    obtain _ | T := T
    · omega
    · show (T + 1 - 1) * 128 + c.val = _
      rw [Nat.add_sub_cancel]; omega
  · congr 1
    omega

theorem mass_back (q : Fin 128 → ℝ) (K : ℕ → Fin 128 → ℝ) (T : ℕ) (r : Fin 128) :
    Softmax.mass (adm T r) (fun c => ∑ e, q e * catR K T c e) = Zd q K (T * 128 + r.val) := by
  refine Softmax.reindex r (T * 128 + r.val) (T = 0) (by omega) (fun h => by rw [h]; omega) (fun h => by omega) _
    (fun c => Iff.rfl) (fun c => Real.exp (∑ e, q e * catR K T c e)) (fun k => Real.exp (back q K (T * 128 + r.val) k)) ?_
  intro c k hc hk
  simp only [back, catR_back K T r c k hc hk]

theorem weighted_back (q : Fin 128 → ℝ) (K V : ℕ → Fin 128 → ℝ) (T : ℕ) (r d : Fin 128) :
    Softmax.weighted (adm T r) (fun c => ∑ e, q e * catR K T c e) (fun c => catR V T c d)
      = Softmax.weighted (fun k : Fin 129 => k.val ≤ T * 128 + r.val) (back q K (T * 128 + r.val)) (fun k => V (T * 128 + r.val - k.val) d) := by
  refine Softmax.reindex r (T * 128 + r.val) (T = 0) (by omega) (fun h => by rw [h]; omega) (fun h => by omega) _
    (fun c => Iff.rfl) (fun c => Real.exp (∑ e, q e * catR K T c e) * catR V T c d)
    (fun k => Real.exp (back q K (T * 128 + r.val) k) * V (T * 128 + r.val - k.val) d) ?_
  intro c k hc hk
  simp only [back, catR_back K T r c k hc hk, catR_back V T r c k hc hk]

/-- Over finite queries, keys and values a row's entry is the softmax mean over the keys up to 128 places back. -/
theorem meanAt_real (T : ℕ) (j h : Fin 4) (r d : Fin 128) (q : Fin 128 → ℝ) (K V : ℕ → Fin 128 → ℝ)
    (hm : ∀ x, (if j.val = 0 then m5 else m4) (ix2 r x) = 1#1 ↔ adm T r x)
    (hq : ∀ e, x0 (ix4 h j r e) = ((q e : ℝ) : EReal))
    (hp : ∀ y e : Fin 128, prev x1 x2 j h y e = ((K ((T - 1) * 128 + y.val) e : ℝ) : EReal))
    (hk : ∀ y e : Fin 128, x2 (ix4 h j y e) = ((K (T * 128 + y.val) e : ℝ) : EReal))
    (hpv : ∀ y e : Fin 128, prev x3 x4 j h y e = ((V ((T - 1) * 128 + y.val) e : ℝ) : EReal))
    (hv : ∀ y e : Fin 128, x4 (ix4 h j y e) = ((V (T * 128 + y.val) e : ℝ) : EReal)) :
    meanAt m5 m4 x0 x1 x2 x3 x4 j h r d = ((Md q K V (T * 128 + r.val) d : ℝ) : EReal) := by
  unfold meanAt
  rw [bot_word, Softmax.kernel_mean (adm T r) (fun c => ∑ e, q e * catR K T c e) (fun c => catR V T c d) _ _
    (rowScore_real m5 m4 x0 x1 x2 T j h r q K hm hq hp hk)
    (fun c => cat_real V T _ _ d (fun y => hpv y d) (fun y => hv y d) c) (adm_self T r), mass_back, weighted_back]
  rfl

/-- Over finite queries and keys a row's log-sum-exp is the logarithm of its mass. -/
theorem lseAt_real (T : ℕ) (j h : Fin 4) (r : Fin 128) (q : Fin 128 → ℝ) (K : ℕ → Fin 128 → ℝ)
    (hm : ∀ x, (if j.val = 0 then m5 else m4) (ix2 r x) = 1#1 ↔ adm T r x)
    (hq : ∀ e, x0 (ix4 h j r e) = ((q e : ℝ) : EReal))
    (hp : ∀ y e : Fin 128, prev x1 x2 j h y e = ((K ((T - 1) * 128 + y.val) e : ℝ) : EReal))
    (hk : ∀ y e : Fin 128, x2 (ix4 h j y e) = ((K (T * 128 + y.val) e : ℝ) : EReal)) :
    lseAt m5 m4 x0 x1 x2 j h r = ((Real.log (Zd q K (T * 128 + r.val)) : ℝ) : EReal) := by
  unfold lseAt
  have hs := rowScore_real m5 m4 x0 x1 x2 T j h r q K hm hq hp hk
  obtain ⟨μ, hμ⟩ := Softmax.max_real (adm T r) _ _ hs (adm_self T r)
  rw [bot_word, hμ, Softmax.log_mass (adm T r) _ _ hs (adm_self T r), mass_back]

end

/-! ## The masks -/

/-- The mask of a later tile admits the keys at most 128 places back. -/
theorem mask4 (r : Fin 128) (x : Fin 256) : k0_pay4 (ix2 r x) = 1#1 ↔ (x.val ≤ r.val + 128 ∧ r.val ≤ x.val) := by
  have h : k0_pay4 (ix2 r x) = IntOp.andi
      (IntOp.cmpi CmpIPredicate.sge (IntOp.subi (BitVec.ofNat 32 ↑r) (IntOp.subi (BitVec.ofNat 32 ↑x) 128#32)) 0#32)
      (IntOp.cmpi CmpIPredicate.slt (IntOp.subi (BitVec.ofNat 32 ↑r) (IntOp.subi (BitVec.ofNat 32 ↑x) 128#32)) 129#32) := by
    pointwise [k0_pay4, k0_pay3]
  rw [h]
  exact (by decide +kernel : ∀ (r : Fin 128) (x : Fin 256), IntOp.andi
      (IntOp.cmpi CmpIPredicate.sge (IntOp.subi (BitVec.ofNat 32 ↑r) (IntOp.subi (BitVec.ofNat 32 ↑x) 128#32)) 0#32)
      (IntOp.cmpi CmpIPredicate.slt (IntOp.subi (BitVec.ofNat 32 ↑r) (IntOp.subi (BitVec.ofNat 32 ↑x) 128#32)) 129#32) = 1#1
      ↔ (x.val ≤ r.val + 128 ∧ r.val ≤ x.val)) r x

/-- The mask of a step's first tile, where the bit says whether the step is not a first one. -/
def mask5 (b : BitVec 1) : IVec S128x256 1 :=
  andi k0_pay4 (ori (cmpi .sge k0_pay3 (broadcast S128x256 0#32)) (broadcast S128x256 b))

theorem mask5_at (b : BitVec 1) (r : Fin 128) (x : Fin 256) :
    mask5 b (ix2 r x) = 1#1 ↔ ((x.val ≤ r.val + 128 ∧ r.val ≤ x.val) ∧ (b = 1#1 ∨ 128 ≤ x.val)) := by
  have h : mask5 b (ix2 r x) = IntOp.andi (k0_pay4 (ix2 r x)) (IntOp.ori
      (IntOp.cmpi CmpIPredicate.sge (IntOp.subi (BitVec.ofNat 32 ↑x) 128#32) 0#32) b) := by
    show IntOp.andi (k0_pay4 (ix2 r x)) (ori (cmpi .sge k0_pay3 (broadcast S128x256 0#32)) (broadcast S128x256 b) (ix2 r x)) = _
    congr 1
    pointwise [k0_pay3]
  rw [h, ← mask4]
  generalize k0_pay4 (ix2 r x) = a
  exact (by decide +kernel : ∀ (a b : BitVec 1) (x : Fin 256), IntOp.andi a (IntOp.ori
      (IntOp.cmpi CmpIPredicate.sge (IntOp.subi (BitVec.ofNat 32 ↑x) 128#32) 0#32) b) = 1#1
      ↔ (a = 1#1 ∧ (b = 1#1 ∨ 128 ≤ x.val))) a b x

end Cert.DilTile
-- ==== Proof.Dil1Ker.lean ====
module

public import proofs.«01_k».proof.Proof.Gen.Dil1Ideal.Value
public import proofs.«01_k».proof.Proof.DilTile

@[expose] public section

set_option maxRecDepth 16384

noncomputable section

namespace Cert.Dil1Ideal.Hand

open Cert.Dil1Ideal Cert.Dil1Ideal.Gen Cert.Dil1Ideal.Value Cert.DilTile Idealize.ShloMosaic Idealize.ShloMosaic.TcCoe Idealize.SL.Sem

variable (m : (ℓ : Loc nD τ sig) → Buf (Elt Ideal) ℓ)

/-- Whether a step is not the first of its residue. -/
def later (t : Fin cfg0.N) : BitVec 1 := BitVec.ofBool (decide (t.val % 32 ≠ 0))

theorem pay5_eq (t : Fin cfg0.N) : k0_pay5 (grid0.coords t) = mask5 (later t) := by
  have h : ∀ t : Fin cfg0.N, Scalar.xori
          (Scalar.cmpi CmpIPredicate.eq
            (Scalar.select
              (Scalar.andi
                (Scalar.xori
                  (Scalar.cmpi CmpIPredicate.slt
                    (Scalar.remsi (BitVec.ofNat 32 (grid0.coords t 0).val)
                      (Scalar.select (Scalar.cmpi CmpIPredicate.eq 32#32 0#32) 1#32 32#32))
                    0#32)
                  (Scalar.cmpi CmpIPredicate.slt (Scalar.select (Scalar.cmpi CmpIPredicate.eq 32#32 0#32) 1#32 32#32)
                    0#32))
                (Scalar.cmpi CmpIPredicate.ne
                  (Scalar.remsi (BitVec.ofNat 32 (grid0.coords t 0).val)
                    (Scalar.select (Scalar.cmpi CmpIPredicate.eq 32#32 0#32) 1#32 32#32))
                  0#32))
              (Scalar.addi
                (Scalar.remsi (BitVec.ofNat 32 (grid0.coords t 0).val)
                  (Scalar.select (Scalar.cmpi CmpIPredicate.eq 32#32 0#32) 1#32 32#32))
                (Scalar.select (Scalar.cmpi CmpIPredicate.eq 32#32 0#32) 1#32 32#32))
              (Scalar.remsi (BitVec.ofNat 32 (grid0.coords t 0).val)
                (Scalar.select (Scalar.cmpi CmpIPredicate.eq 32#32 0#32) 1#32 32#32)))
            0#32)
          1#1 = later t :=
    (by decide +kernel : ∀ t : Fin grid0.N, _ = BitVec.ofBool (decide (t.val % 32 ≠ 0)))
  unfold mask5
  rw [← h t]
  rfl

theorem out5_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_5 (grid0.coords t) x0 x1 x2 x3 x4 = blkO (mask5 (later t)) Cert.Dil16Ideal.Gen.k0_pay4 x0 x1 x2 x3 x4 := by
  rw [← pay5_eq]
  rfl

theorem out6_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_6 (grid0.coords t) x0 x1 x2 x3 x4 = blkL (mask5 (later t)) Cert.Dil16Ideal.Gen.k0_pay4 x0 x1 x2 := by
  rw [← pay5_eq]
  rfl

theorem index_facts : ∀ t : Fin cfg0.N,
    (win0_0.index t (0 : Fin 4) = 0 ∧ win0_0.index t (1 : Fin 4) = t.val % 32 ∧ win0_0.index t (2 : Fin 4) = 0 ∧ win0_0.index t (3 : Fin 4) = t.val / 32)
    ∧ (win0_1.index t (0 : Fin 4) = 1 ∧ win0_1.index t (1 : Fin 4) = 4 * (t.val % 32) - 1 ∧ win0_1.index t (2 : Fin 4) = 0 ∧ win0_1.index t (3 : Fin 4) = t.val / 32)
    ∧ (win0_2.index t (0 : Fin 4) = 1 ∧ win0_2.index t (1 : Fin 4) = t.val % 32 ∧ win0_2.index t (2 : Fin 4) = 0 ∧ win0_2.index t (3 : Fin 4) = t.val / 32)
    ∧ (win0_3.index t (0 : Fin 4) = 2 ∧ win0_3.index t (1 : Fin 4) = 4 * (t.val % 32) - 1 ∧ win0_3.index t (2 : Fin 4) = 0 ∧ win0_3.index t (3 : Fin 4) = t.val / 32)
    ∧ (win0_4.index t (0 : Fin 4) = 2 ∧ win0_4.index t (1 : Fin 4) = t.val % 32 ∧ win0_4.index t (2 : Fin 4) = 0 ∧ win0_4.index t (3 : Fin 4) = t.val / 32)
    ∧ (win0_5.index t (0 : Fin 3) = t.val % 32 ∧ win0_5.index t (1 : Fin 3) = 0 ∧ win0_5.index t (2 : Fin 3) = t.val / 32)
    ∧ (win0_6.index t (0 : Fin 3) = t.val % 32 ∧ win0_6.index t (1 : Fin 3) = 0 ∧ win0_6.index t (2 : Fin 3) = t.val / 32)
    ∧ win0_5.flush t = true ∧ win0_6.flush t = true :=
  (by decide +kernel : ∀ t : Fin grid0.N,
    (win0_0.index t (0 : Fin 4) = 0 ∧ win0_0.index t (1 : Fin 4) = t.val % 32 ∧ win0_0.index t (2 : Fin 4) = 0 ∧ win0_0.index t (3 : Fin 4) = t.val / 32)
    ∧ (win0_1.index t (0 : Fin 4) = 1 ∧ win0_1.index t (1 : Fin 4) = 4 * (t.val % 32) - 1 ∧ win0_1.index t (2 : Fin 4) = 0 ∧ win0_1.index t (3 : Fin 4) = t.val / 32)
    ∧ (win0_2.index t (0 : Fin 4) = 1 ∧ win0_2.index t (1 : Fin 4) = t.val % 32 ∧ win0_2.index t (2 : Fin 4) = 0 ∧ win0_2.index t (3 : Fin 4) = t.val / 32)
    ∧ (win0_3.index t (0 : Fin 4) = 2 ∧ win0_3.index t (1 : Fin 4) = 4 * (t.val % 32) - 1 ∧ win0_3.index t (2 : Fin 4) = 0 ∧ win0_3.index t (3 : Fin 4) = t.val / 32)
    ∧ (win0_4.index t (0 : Fin 4) = 2 ∧ win0_4.index t (1 : Fin 4) = t.val % 32 ∧ win0_4.index t (2 : Fin 4) = 0 ∧ win0_4.index t (3 : Fin 4) = t.val / 32)
    ∧ (win0_5.index t (0 : Fin 3) = t.val % 32 ∧ win0_5.index t (1 : Fin 3) = 0 ∧ win0_5.index t (2 : Fin 3) = t.val / 32)
    ∧ (win0_6.index t (0 : Fin 3) = t.val % 32 ∧ win0_6.index t (1 : Fin 3) = 0 ∧ win0_6.index t (2 : Fin 3) = t.val / 32)
    ∧ win0_5.flush t = true ∧ win0_6.flush t = true)

/-- The call's argument: queries, keys and values, four heads each, tiles of 128 positions of one residue. -/
abbrev arg (c : Dev nD) : FVec Ideal S12x128x128x128 .bf16 := m ((c : Thread nD τ).loc main_arg0)

/-- Lane `e` of head `h` of part `k` at place `u` of the residue `s`. -/
def lane (A : FVec Ideal S12x128x128x128 .bf16) (k : Fin 3) (h : Fin 4) (s : Fin 1) (u : ℕ) (e : Fin 128) : ℝ :=
  (A (ix4 ⟨4 * k.val + h.val, by omega⟩ ⟨u / 128 % 128, Nat.mod_lt _ (by decide)⟩ ⟨u % 128, Nat.mod_lt _ (by decide)⟩
    ⟨s.val * 128 + e.val, by omega⟩)).toReal

/-- Every entry of the argument is finite. -/
def Finite (A : FVec Ideal S12x128x128x128 .bf16) : Prop := ∀ i, A i = ((A i).toReal : EReal)

theorem lane_eq (A : FVec Ideal S12x128x128x128 .bf16) (hf : Finite A) (k : Fin 3) (h : Fin 4) (s : Fin 1) (T : Fin 128) (y e : Fin 128)
    (i : (S12x128x128x128).Idx) (hi : i = ix4 ⟨4 * k.val + h.val, by omega⟩ T y ⟨s.val * 128 + e.val, by omega⟩) :
    A i = ((lane A k h s (T.val * 128 + y.val) e : ℝ) : EReal) := by
  rw [hf i, hi]
  have := y.isLt
  have := T.isLt
  have h1 : (⟨(T.val * 128 + y.val) / 128 % 128, Nat.mod_lt _ (by decide)⟩ : Fin 128) = T := Fin.ext (by show (T.val * 128 + y.val) / 128 % 128 = T.val; omega)
  have h2 : (⟨(T.val * 128 + y.val) % 128, Nat.mod_lt _ (by decide)⟩ : Fin 128) = y := Fin.ext (by show (T.val * 128 + y.val) % 128 = y.val; omega)
  unfold lane
  rw [h1, h2]

/-- A lane of a window's block, whole tiles: the place is the block's and the lane the step's residue's. -/
theorem blk0_at (c : Dev nD) (hf : Finite (arg m c)) (t : Fin cfg0.N) (s : Fin 1) (hs : t.val / 32 = s.val) (h j : Fin 4) (y e : Fin 128) :
    (iblk m c 0 t : Vec Ideal S4x4x128x128 .bf16) (ix4 h j y e) = ((lane (arg m c) 0 h s ((4 * (t.val % 32) + j.val) * 128 + y.val) e : ℝ) : EReal) := by
  have hi := (index_facts t).1
  unfold iblk
  rw [View.read_apply]
  refine lane_eq (arg m c) hf 0 h s ⟨4 * (t.val % 32) + j.val, by omega⟩ y e _ ?_
  funext a
  apply Fin.ext
  match a with
  | ⟨0, _⟩ => show win0_0.index t 0 * 4 + 1 * h.val = 4 * 0 + h.val; rw [hi.1]; omega
  | ⟨1, _⟩ => show win0_0.index t 1 * 4 + 1 * j.val = 4 * (t.val % 32) + j.val; rw [hi.2.1]; omega
  | ⟨2, _⟩ => show win0_0.index t 2 * 128 + 1 * y.val = y.val; rw [hi.2.2.1]; omega
  | ⟨3, _⟩ => show win0_0.index t 3 * 128 + 1 * e.val = s.val * 128 + e.val; rw [hi.2.2.2]; omega

theorem blk2_at (c : Dev nD) (hf : Finite (arg m c)) (t : Fin cfg0.N) (s : Fin 1) (hs : t.val / 32 = s.val) (h j : Fin 4) (y e : Fin 128) :
    (iblk m c 2 t : Vec Ideal S4x4x128x128 .bf16) (ix4 h j y e) = ((lane (arg m c) 1 h s ((4 * (t.val % 32) + j.val) * 128 + y.val) e : ℝ) : EReal) := by
  have hi := (index_facts t).2.2.1
  unfold iblk
  rw [View.read_apply]
  refine lane_eq (arg m c) hf 1 h s ⟨4 * (t.val % 32) + j.val, by omega⟩ y e _ ?_
  funext a
  apply Fin.ext
  match a with
  | ⟨0, _⟩ => show win0_2.index t 0 * 4 + 1 * h.val = 4 * 1 + h.val; rw [hi.1]; omega
  | ⟨1, _⟩ => show win0_2.index t 1 * 4 + 1 * j.val = 4 * (t.val % 32) + j.val; rw [hi.2.1]; omega
  | ⟨2, _⟩ => show win0_2.index t 2 * 128 + 1 * y.val = y.val; rw [hi.2.2.1]; omega
  | ⟨3, _⟩ => show win0_2.index t 3 * 128 + 1 * e.val = s.val * 128 + e.val; rw [hi.2.2.2]; omega

theorem blk4_at (c : Dev nD) (hf : Finite (arg m c)) (t : Fin cfg0.N) (s : Fin 1) (hs : t.val / 32 = s.val) (h j : Fin 4) (y e : Fin 128) :
    (iblk m c 4 t : Vec Ideal S4x4x128x128 .bf16) (ix4 h j y e) = ((lane (arg m c) 2 h s ((4 * (t.val % 32) + j.val) * 128 + y.val) e : ℝ) : EReal) := by
  have hi := (index_facts t).2.2.2.2.1
  unfold iblk
  rw [View.read_apply]
  refine lane_eq (arg m c) hf 2 h s ⟨4 * (t.val % 32) + j.val, by omega⟩ y e _ ?_
  funext a
  apply Fin.ext
  match a with
  | ⟨0, _⟩ => show win0_4.index t 0 * 4 + 1 * h.val = 4 * 2 + h.val; rw [hi.1]; omega
  | ⟨1, _⟩ => show win0_4.index t 1 * 4 + 1 * j.val = 4 * (t.val % 32) + j.val; rw [hi.2.1]; omega
  | ⟨2, _⟩ => show win0_4.index t 2 * 128 + 1 * y.val = y.val; rw [hi.2.2.1]; omega
  | ⟨3, _⟩ => show win0_4.index t 3 * 128 + 1 * e.val = s.val * 128 + e.val; rw [hi.2.2.2]; omega

theorem prev1_at (c : Dev nD) (hf : Finite (arg m c)) (t : Fin cfg0.N) (s : Fin 1) (hs : t.val / 32 = s.val) (h j : Fin 4) (y e : Fin 128) :
    prev (iblk m c 1 t) (iblk m c 2 t) j h y e = ((lane (arg m c) 1 h s ((4 * (t.val % 32) + j.val - 1) * 128 + y.val) e : ℝ) : EReal) := by
  unfold prev
  split_ifs with h0
  · have hi := (index_facts t).2.1
    unfold iblk
    rw [View.read_apply]
    have hT : 4 * (t.val % 32) + j.val - 1 < 128 := by omega
    refine lane_eq (arg m c) hf 1 h s ⟨4 * (t.val % 32) + j.val - 1, hT⟩ y e _ ?_
    funext a
    apply Fin.ext
    match a with
    | ⟨0, _⟩ => show win0_1.index t 0 * 4 + 1 * h.val = 4 * 1 + h.val; rw [hi.1]; omega
    | ⟨1, _⟩ => show win0_1.index t 1 * 1 + 1 * 0 = 4 * (t.val % 32) + j.val - 1; rw [hi.2.1]; omega
    | ⟨2, _⟩ => show win0_1.index t 2 * 128 + 1 * y.val = y.val; rw [hi.2.2.1]; omega
    | ⟨3, _⟩ => show win0_1.index t 3 * 128 + 1 * e.val = s.val * 128 + e.val; rw [hi.2.2.2]; omega
  · refine (blk2_at m c hf t s hs h ⟨j.val - 1, by omega⟩ y e).trans ?_
    have : 4 * (t.val % 32) + (j.val - 1) = 4 * (t.val % 32) + j.val - 1 := by omega
    show ((lane (arg m c) 1 h s ((4 * (t.val % 32) + (j.val - 1)) * 128 + y.val) e : ℝ) : EReal) = _
    rw [this]

theorem prev3_at (c : Dev nD) (hf : Finite (arg m c)) (t : Fin cfg0.N) (s : Fin 1) (hs : t.val / 32 = s.val) (h j : Fin 4) (y e : Fin 128) :
    prev (iblk m c 3 t) (iblk m c 4 t) j h y e = ((lane (arg m c) 2 h s ((4 * (t.val % 32) + j.val - 1) * 128 + y.val) e : ℝ) : EReal) := by
  unfold prev
  split_ifs with h0
  · have hi := (index_facts t).2.2.2.1
    unfold iblk
    rw [View.read_apply]
    have hT : 4 * (t.val % 32) + j.val - 1 < 128 := by omega
    refine lane_eq (arg m c) hf 2 h s ⟨4 * (t.val % 32) + j.val - 1, hT⟩ y e _ ?_
    funext a
    apply Fin.ext
    match a with
    | ⟨0, _⟩ => show win0_3.index t 0 * 4 + 1 * h.val = 4 * 2 + h.val; rw [hi.1]; omega
    | ⟨1, _⟩ => show win0_3.index t 1 * 1 + 1 * 0 = 4 * (t.val % 32) + j.val - 1; rw [hi.2.1]; omega
    | ⟨2, _⟩ => show win0_3.index t 2 * 128 + 1 * y.val = y.val; rw [hi.2.2.1]; omega
    | ⟨3, _⟩ => show win0_3.index t 3 * 128 + 1 * e.val = s.val * 128 + e.val; rw [hi.2.2.2]; omega
  · refine (blk4_at m c hf t s hs h ⟨j.val - 1, by omega⟩ y e).trans ?_
    have : 4 * (t.val % 32) + (j.val - 1) = 4 * (t.val % 32) + j.val - 1 := by omega
    show ((lane (arg m c) 2 h s ((4 * (t.val % 32) + (j.val - 1)) * 128 + y.val) e : ℝ) : EReal) = _
    rw [this]

theorem masks (t : Fin cfg0.N) (j : Fin 4) (r : Fin 128) (x : Fin 256) :
    (if j.val = 0 then mask5 (later t) else Cert.Dil16Ideal.Gen.k0_pay4) (ix2 r x) = 1#1 ↔ adm (4 * (t.val % 32) + j.val) r x := by
  unfold adm
  split_ifs with h0
  · rw [mask5_at]
    have hl : later t = 1#1 ↔ t.val % 32 ≠ 0 := by
      unfold later
      by_cases h : t.val % 32 ≠ 0
      · simp [h]
      · simp [h]
    rw [hl]
    constructor
    · rintro ⟨⟨h1, h2⟩, h3⟩
      exact ⟨h1, h2, fun h4 => by omega⟩
    · rintro ⟨h1, h2, h3⟩
      refine ⟨⟨h1, h2⟩, ?_⟩
      by_cases h : t.val % 32 = 0
      · exact Or.inr (h3 (by omega))
      · exact Or.inl h
  · rw [mask4]
    exact ⟨fun h => ⟨h.1, h.2, fun h4 => by omega⟩, fun h => ⟨h.1, h.2.1⟩⟩

/-- The step that computes tile `T` of residue `s`. -/
def stepOf (T : Fin 128) (s : Fin 1) : Fin cfg0.N := ⟨s.val * 32 + T.val / 4, by have hN : cfg0.N = 32 := N_0; have := T.isLt; have := s.isLt; omega⟩

theorem stepOf_mod (T : Fin 128) (s : Fin 1) : (stepOf T s).val % 32 = T.val / 4 := by
  show (s.val * 32 + T.val / 4) % 32 = _
  have := T.isLt
  omega

theorem stepOf_div (T : Fin 128) (s : Fin 1) : (stepOf T s).val / 32 = s.val := by
  show (s.val * 32 + T.val / 4) / 32 = _
  have := T.isLt
  omega

/-- The kernel's first output over finite arguments: the softmax means. -/
theorem mean_at (c : Dev nD) (hf : Finite (arg m c)) (T : Fin 128) (r : Fin 128) (s : Fin 1) (h : Fin 4) (d : Fin 128) :
    ((dats m 0 c).arrAt 5 cfg0.N : FVec Ideal S128x128x512 .bf16) (ix3 T r ⟨s.val * 512 + h.val * 128 + d.val, by omega⟩)
      = ((Md (lane (arg m c) 0 h s (T.val * 128 + r.val)) (lane (arg m c) 1 h s) (lane (arg m c) 2 h s) (T.val * 128 + r.val) d : ℝ) : EReal) := by
  have hm := stepOf_mod T s
  have hd := stepOf_div T s
  have hi := (index_facts (stepOf T s)).2.2.2.2.2.1
  have hb := congrFun (blocks5 m c (stepOf T s) (index_facts (stepOf T s)).2.2.2.2.2.2.2.1)
    (ix3 (⟨T.val % 4, Nat.mod_lt _ (by decide)⟩ : Fin 4) r (⟨h.val * 128 + d.val, by omega⟩ : Fin 512))
  rw [View.read_apply] at hb
  have hT : 4 * ((stepOf T s).val % 32) + T.val % 4 = T.val := by rw [hm]; omega
  refine Eq.trans ?_ (hb.trans ?_)
  · congr 1
    funext a
    apply Fin.ext
    match a with
    | ⟨0, _⟩ => show T.val = win0_5.index (stepOf T s) 0 * 4 + 1 * (T.val % 4); rw [hi.1, hm]; omega
    | ⟨1, _⟩ => show r.val = win0_5.index (stepOf T s) 1 * 128 + 1 * r.val; rw [hi.2.1]; omega
    | ⟨2, _⟩ => show s.val * 512 + h.val * 128 + d.val = win0_5.index (stepOf T s) 2 * 512 + 1 * (h.val * 128 + d.val); rw [hi.2.2, hd]; omega
  · rw [flushed5]
    show out0_5 (grid0.coords (stepOf T s)) _ _ _ _ _ (ix3 (⟨T.val % 4, Nat.mod_lt _ (by decide)⟩ : Fin 4) r (⟨h.val * 128 + d.val, by omega⟩ : Fin 512)) = _
    rw [out5_eq, blkO_at]
    generalize stepOf T s = t at hm hd hT
    refine (meanAt_real (mask5 (later t)) Cert.Dil16Ideal.Gen.k0_pay4 (iblk m c 0 t) (iblk m c 1 t) (iblk m c 2 t) (iblk m c 3 t) (iblk m c 4 t)
      (4 * (t.val % 32) + T.val % 4) ⟨T.val % 4, Nat.mod_lt _ (by decide)⟩ h r d (lane (arg m c) 0 h s (T.val * 128 + r.val))
      (lane (arg m c) 1 h s) (lane (arg m c) 2 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)
      (fun y e => prev3_at m c hf t s hd h ⟨T.val % 4, Nat.mod_lt _ (by decide)⟩ y e) (fun y e => blk4_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 32) + T.val % 4) * 128 + r.val) e : ℝ) : EReal) = _
      rw [hT]
    · rw [hT]

/-- The kernel's second output over finite arguments: the log-sum-exps. -/
theorem lse_at (c : Dev nD) (hf : Finite (arg m c)) (T : Fin 128) (r : Fin 128) (s : Fin 1) (h : Fin 4) (d : Fin 128) :
    ((dats m 0 c).arrAt 6 cfg0.N : FVec Ideal S128x128x512 .f32) (ix3 T r ⟨s.val * 512 + h.val * 128 + d.val, by omega⟩)
      = ((Real.log (Zd (lane (arg m c) 0 h s (T.val * 128 + r.val)) (lane (arg m c) 1 h s) (T.val * 128 + r.val)) : ℝ) : EReal) := by
  have hm := stepOf_mod T s
  have hd := stepOf_div T s
  have hi := (index_facts (stepOf T s)).2.2.2.2.2.2.1
  have hb := congrFun (blocks6 m c (stepOf T s) (index_facts (stepOf T s)).2.2.2.2.2.2.2.2)
    (ix3 (⟨T.val % 4, Nat.mod_lt _ (by decide)⟩ : Fin 4) r (⟨h.val * 128 + d.val, by omega⟩ : Fin 512))
  rw [View.read_apply] at hb
  have hT : 4 * ((stepOf T s).val % 32) + T.val % 4 = T.val := by rw [hm]; omega
  refine Eq.trans ?_ (hb.trans ?_)
  · congr 1
    funext a
    apply Fin.ext
    match a with
    | ⟨0, _⟩ => show T.val = win0_6.index (stepOf T s) 0 * 4 + 1 * (T.val % 4); rw [hi.1, hm]; omega
    | ⟨1, _⟩ => show r.val = win0_6.index (stepOf T s) 1 * 128 + 1 * r.val; rw [hi.2.1]; omega
    | ⟨2, _⟩ => show s.val * 512 + h.val * 128 + d.val = win0_6.index (stepOf T s) 2 * 512 + 1 * (h.val * 128 + d.val); rw [hi.2.2, hd]; omega
  · rw [flushed6]
    show out0_6 (grid0.coords (stepOf T s)) _ _ _ _ _ (ix3 (⟨T.val % 4, Nat.mod_lt _ (by decide)⟩ : Fin 4) r (⟨h.val * 128 + d.val, by omega⟩ : Fin 512)) = _
    rw [out6_eq, blkL_at]
    generalize stepOf T s = t at hm hd hT
    refine (lseAt_real (mask5 (later t)) Cert.Dil16Ideal.Gen.k0_pay4 (iblk m c 0 t) (iblk m c 1 t) (iblk m c 2 t)
      (4 * (t.val % 32) + T.val % 4) ⟨T.val % 4, Nat.mod_lt _ (by decide)⟩ h r (lane (arg m c) 0 h s (T.val * 128 + r.val))
      (lane (arg m c) 1 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 32) + T.val % 4) * 128 + r.val) e : ℝ) : EReal) = _
      rw [hT]
    · rw [hT]

end Cert.Dil1Ideal.Hand
-- ==== Proof.TakeMid.lean ====
module

public import Idealize.ShloMosaic.Lib.Pointwise
public import Idealize.ShloMosaic.PureOps

@[expose] public section

noncomputable section

namespace Cert.TakeMid

open Idealize.ShloMosaic

variable {α : Type} {H N R C D : Nat}

/-- The dimension numbers of reading the middle axis of `[H, N, D]` at integers `[R, C, 1]`, into `[H, R, C, D]`. -/
abbrev midDims (H N R C D : Nat)
    (wf : GatherDims.WF ⟨3, ![H, N, D]⟩ ⟨3, ![R, C, 1]⟩ ⟨4, ![H, R, C, D]⟩ [0, 3] [1] [] [1] [] 2 ![H, 1, D]) :
    GatherDims ⟨3, ![H, N, D]⟩ ⟨3, ![R, C, 1]⟩ ⟨4, ![H, R, C, D]⟩ where
  offsetDims := [0, 3]
  collapsedSliceDims := [1]
  operandBatchingDims := []
  startIndicesBatchingDims := []
  startIndexMap := [1]
  indexVectorDim := 2
  sliceSizes := ![H, 1, D]
  wf := wf

/-- Such a read at an index: the operand at the integer, read signed and clamped to the axis. -/
theorem gather_mid_apply {w : Nat} (hN : 0 < N)
    (wf : GatherDims.WF ⟨3, ![H, N, D]⟩ ⟨3, ![R, C, 1]⟩ ⟨4, ![H, R, C, D]⟩ [0, 3] [1] [] [1] [] 2 ![H, 1, D])
    (x : (⟨3, ![H, N, D]⟩ : Shape).Idx → α) (idx : IVec ⟨3, ![R, C, 1]⟩ w) (h : Fin H) (t : Fin R) (k : Fin C) (e : Fin D) :
    Host.gather (midDims H N R C D wf) x idx (ix4 h t k e)
      = x (ix3 h ⟨min (idx (ix3 t k 0)).toInt.toNat (N - 1), by omega⟩ e) := by
  unfold Host.gather
  congr 1
  funext a
  refine Fin.ext ?_
  show (midDims H N R C D wf).start (ix4 h t k e) idx a + (midDims H N R C D wf).batchCoord (ix4 h t k e) a
    + (midDims H N R C D wf).offCoord (ix4 h t k e) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · have hs : (midDims H N R C D wf).start (ix4 h t k e) idx 0 = 0 := by
      unfold GatherDims.start
      rw [dif_neg (show (0 : Fin 3) ∉ (midDims H N R C D wf).startIndexMap from (by decide : (0 : Fin 3) ∉ ([1] : List (Fin 3))))]
    have ho : (midDims H N R C D wf).offCoord (ix4 h t k e) 0 = h.val := by
      unfold GatherDims.offCoord
      rw [dif_pos ((GatherDims.mem_sKept _ _).mpr ⟨(by decide : (0 : Fin 3) ∉ ([1] : List (Fin 3))), List.not_mem_nil⟩)]
      rfl
    rw [hs, ho, Nat.add_zero, Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims H N R C D wf).startIndexMap from List.mem_singleton.mpr rfl)]
    have hsi : (midDims H N R C D wf).siIdx (ix4 h t k e) ⟨List.idxOf (1 : Fin 3) (midDims H N R C D wf).startIndexMap,
        List.idxOf_lt_length_iff.2 (List.mem_singleton.mpr rfl)⟩ = ix3 t k 0 := by
      funext b; refine Fin.ext ?_
      match b with
      | ⟨0, _⟩ => rfl
      | ⟨1, _⟩ => rfl
      | ⟨2, _⟩ => rfl
    rw [hsi]
    rfl
  · have hs : (midDims H N R C D wf).start (ix4 h t k e) idx 2 = 0 := by
      unfold GatherDims.start
      rw [dif_neg (show (2 : Fin 3) ∉ (midDims H N R C D wf).startIndexMap from (by decide : (2 : Fin 3) ∉ ([1] : List (Fin 3))))]
    have ho : (midDims H N R C D wf).offCoord (ix4 h t k e) 2 = e.val := by
      unfold GatherDims.offCoord
      rw [dif_pos ((GatherDims.mem_sKept _ _).mpr ⟨(by decide : (2 : Fin 3) ∉ ([1] : List (Fin 3))), List.not_mem_nil⟩)]
      rfl
    rw [hs, ho, Nat.add_zero, Nat.zero_add]
    rfl

end Cert.TakeMid
-- ==== Proof.DilRef.lean ====
module

public import proofs.«01_k».proof.Proof.Gen.Dil16RefIdeal.Run
public import proofs.«01_k».proof.Proof.DilTile
public import proofs.«01_k».proof.Proof.TakeMid
public import Idealize.ShloMosaic.Lib.Tactic.WordOmega

@[expose] public section

set_option maxRecDepth 16384

noncomputable section

namespace Cert.DilRef

open Cert.Dil16RefIdeal Cert.Dil16RefIdeal.Gen Cert.Dil16RefIdeal.Value Idealize.ShloMosaic Idealize.ShloMosaic.TcCoe Idealize.SL.Sem

/-- The position of key `k` of query `t`, with the dilation as a word; negative where there is none. -/
def kpos (w : BitVec 32) : IVec S16384x129 32 :=
  subi (broadcastInDim S16384x129 ![0, 1] bcast_S16384x1_S16384x129_0_1 (broadcastInDim S16384x1 ![0] bcast_S16384_S16384x1_0 (iotaInDim S16384 32 0)))
    (broadcastInDim S16384x129 ![0, 1] bcast_S1x129_S16384x129_0_1 (muli (broadcastInDim S1x129 ![] bcast_S_S1x129 (constantI S_ 32 w)) (broadcastInDim S1x129 ![1] bcast_S129_S1x129_1 (iotaInDim S129 32 0))))

/-- Whether there is such a key. -/
def has (w : BitVec 32) : IVec S16384x129 1 := cmpi .sge (kpos w) (broadcastInDim S16384x129 ![] bcast_S_S16384x129 (constantI S_ 32 0#32))

/-- The row that is read for it. -/
def row (w : BitVec 32) : IVec S16384x129x1 32 :=
  broadcastInDim S16384x129x1 ![0, 1] bcast_S16384x129_S16384x129x1_0_1
    (select (cmpi .slt (maxsi (kpos w) (broadcastInDim S16384x129 ![] bcast_S_S16384x129 (constantI S_ 32 0#32))) (broadcastInDim S16384x129 ![] bcast_S_S16384x129 (constantI S_ 32 0#32)))
      (addi (maxsi (kpos w) (broadcastInDim S16384x129 ![] bcast_S_S16384x129 (constantI S_ 32 0#32))) (broadcastInDim S16384x129 ![] bcast_S_S16384x129 (constantI S_ 32 16384#32)))
      (maxsi (kpos w) (broadcastInDim S16384x129 ![] bcast_S_S16384x129 (constantI S_ 32 0#32))))

/-- The rows read. -/
def rows (w : BitVec 32) (K : FVec Ideal S4x16384x128 .f32) : FVec Ideal S4x16384x129x128 .f32 :=
  Host.gather gather_S4x16384x128_S16384x129x1_S4x16384x129x128_03_1_n_n_1_2_41128 K (row w)

/-- The scores. -/
def sc (w : BitVec 32) (Q K : FVec Ideal S4x16384x128 .f32) : FVec Ideal S4x16384x129 .f32 :=
  select (broadcastInDim S4x16384x129 ![1, 2] bcast_S16384x129_S4x16384x129_1_2 (has w))
    (Host.dotGeneral dot_S4x16384x128_S4x16384x129x128_S4x16384x129_2_3_n_2_01_01 none Q (rows w K))
    (broadcastInDim S4x16384x129 ![] bcast_S_S4x16384x129 (id (constant S_ .f32 0xFF800000#32)))

/-- The largest score. -/
def biggest (s : FVec Ideal S4x16384x129 .f32) : FVec Ideal S4x16384 .f32 :=
  Host.reduce FloatOps.maximumf s (constant S_ .f32 0xFF800000#32) reducesTo_S4x16384x129_S4x16384_d2 h_S_

/-- The largest score, zero if it is not finite. -/
def top (s : FVec Ideal S4x16384x129 .f32) : FVec Ideal S4x16384 .f32 :=
  select (cmpf .olt (Host.absf (biggest s)) (broadcastInDim S4x16384 ![] bcast_S_S4x16384 (constant S_ .f32 0x7F800000#32)))
    (biggest s) (broadcastInDim S4x16384 ![] bcast_S_S4x16384 (id (constant S_ .f32 0x00000000#32)))

/-- One value for each key from one for each query. -/
def spread (x : FVec Ideal S4x16384 .f32) : FVec Ideal S4x16384x129 .f32 :=
  broadcastInDim S4x16384x129 ![0, 1, 2] bcast_S4x16384x1_S4x16384x129_0_1_2 (broadcastInDim S4x16384x1 ![0, 1] bcast_S4x16384_S4x16384x1_0_1 x)

/-- The sum over the keys. -/
def total (x : FVec Ideal S4x16384x129 .f32) : FVec Ideal S4x16384 .f32 :=
  Host.reduceAdd x (constant S_ .f32 0x00000000#32) reducesTo_S4x16384x129_S4x16384_d2 h_S_

/-- The log-sum-exp of the scores. -/
def lse (s : FVec Ideal S4x16384x129 .f32) : FVec Ideal S4x16384 .f32 :=
  addf (top s) (Host.log (total (Host.exp (subf s (spread (top s))))))

/-- The weighted means, queries first. -/
def mean (w : BitVec 32) (Q K V : FVec Ideal S4x16384x128 .f32) : FVec Ideal S16384x4x128 .f32 :=
  transpose S16384x4x128 [1, 0, 2] (Host.dotGeneral dot_S4x16384x129_S4x16384x129x128_S4x16384x128_2_2_n_3_01_01 none
    (Host.exp (subf (sc w Q K) (spread (lse (sc w Q K))))) (rows w V)) transposes_S4x16384x128_S16384x4x128_1_0_2

/-- The log-sum-exps over the lanes, queries first. -/
def lses (w : BitVec 32) (Q K : FVec Ideal S4x16384x128 .f32) : FVec Ideal S16384x4x128 .f32 :=
  broadcastInDim S16384x4x128 ![0, 1, 2] bcast_S16384x4x1_S16384x4x128_0_1_2 (broadcastInDim S16384x4x1 ![0, 1] bcast_S16384x4_S16384x4x1_0_1
    (transpose S16384x4 [1, 0] (lse (sc w Q K)) transposes_S4x16384_S16384x4_1_0))

/-- Four heads of part `k` of the argument. -/
def part0 (A : FVec Ideal S3x4x16384x128 .f32) : FVec Ideal S4x16384x128 .f32 :=
  shapeCast _ (extractStridedSlice S1x4x16384x128 ![0, 0, 0, 0] A slices_S3x4x16384x128_S1x4x16384x128_0_0_0_0) shapeCasts_S1x4x16384x128_S4x16384x128
@[inherit_doc part0] def part1 (A : FVec Ideal S3x4x16384x128 .f32) : FVec Ideal S4x16384x128 .f32 :=
  shapeCast _ (extractStridedSlice S1x4x16384x128 ![1, 0, 0, 0] A slices_S3x4x16384x128_S1x4x16384x128_1_0_0_0) shapeCasts_S1x4x16384x128_S4x16384x128
@[inherit_doc part0] def part2 (A : FVec Ideal S3x4x16384x128 .f32) : FVec Ideal S4x16384x128 .f32 :=
  shapeCast _ (extractStridedSlice S1x4x16384x128 ![2, 0, 0, 0] A slices_S3x4x16384x128_S1x4x16384x128_2_0_0_0) shapeCasts_S1x4x16384x128_S4x16384x128

theorem part0_at (A : FVec Ideal S3x4x16384x128 .f32) (h : Fin 4) (t : Fin 16384) (e : Fin 128) : part0 A (ix3 h t e) = A (ix4 0 h t e) := by
  pointwise [part0]
theorem part1_at (A : FVec Ideal S3x4x16384x128 .f32) (h : Fin 4) (t : Fin 16384) (e : Fin 128) : part1 A (ix3 h t e) = A (ix4 1 h t e) := by
  pointwise [part1]
theorem part2_at (A : FVec Ideal S3x4x16384x128 .f32) (h : Fin 4) (t : Fin 16384) (e : Fin 128) : part2 A (ix3 h t e) = A (ix4 2 h t e) := by
  pointwise [part2]

theorem kpos_at (w : BitVec 32) (t : Fin 16384) (k : Fin 129) :
    kpos w (ix2 t k) = IntOp.subi (BitVec.ofNat 32 t.val) (IntOp.muli w (BitVec.ofNat 32 k.val)) := by
  pointwise [kpos]

theorem has_at (w : BitVec 32) (t : Fin 16384) (k : Fin 129) :
    has w (ix2 t k) = IntOp.cmpi .sge (kpos w (ix2 t k)) 0#32 := by
  unfold has
  generalize kpos w = z
  pointwise []

theorem row_at (w : BitVec 32) (t : Fin 16384) (k : Fin 129) :
    row w (ix3 t k 0) = Scalar.select (IntOp.cmpi .slt (IntOp.maxsi (kpos w (ix2 t k)) 0#32) 0#32)
      (IntOp.addi (IntOp.maxsi (kpos w (ix2 t k)) 0#32) 16384#32) (IntOp.maxsi (kpos w (ix2 t k)) 0#32) := by
  unfold row
  generalize kpos w = z
  pointwise []

theorem sc_at (w : BitVec 32) (Q K : FVec Ideal S4x16384x128 .f32) (h : Fin 4) (t : Fin 16384) (k : Fin 129) :
    sc w Q K (ix3 h t k) = Scalar.select (has w (ix2 t k)) (∑ e : Fin 128, Q (ix3 h t e) * rows w K (ix4 h t k e)) (Ideal.ofBits .f32 0xFF800000#32) := by
  unfold sc
  generalize rows w K = z
  generalize has w = y
  simp only [id]
  pointwise []

theorem biggest_at (s : FVec Ideal S4x16384x129 .f32) (h : Fin 4) (t : Fin 16384) :
    biggest s (ix2 h t) = Finset.univ.fold max (Ideal.ofBits .f32 0xFF800000#32) (fun k => s (ix3 h t k)) := by
  pointwise [biggest]

theorem total_at (s : FVec Ideal S4x16384x129 .f32) (h : Fin 4) (t : Fin 16384) : total s (ix2 h t) = ∑ k, s (ix3 h t k) := by
  pointwise [total]

theorem spread_at (x : FVec Ideal S4x16384 .f32) (h : Fin 4) (t : Fin 16384) (k : Fin 129) : spread x (ix3 h t k) = x (ix2 h t) := by
  pointwise [spread]

theorem guard_at (z : FVec Ideal S4x16384 .f32) (h : Fin 4) (t : Fin 16384) :
    select (cmpf .olt (Host.absf z) (broadcastInDim S4x16384 ![] bcast_S_S4x16384 (constant S_ .f32 0x7F800000#32)))
      z (broadcastInDim S4x16384 ![] bcast_S_S4x16384 (id (constant S_ .f32 0x00000000#32))) (ix2 h t)
      = if FloatOps.absf (F := Ideal) (φ := .f32) (z (ix2 h t)) < Ideal.ofBits .f32 0x7F800000#32 then z (ix2 h t) else 0 := by
  simp only [id]
  pointwise []

theorem abs_lt_top (μ : ℝ) : FloatOps.absf (F := Ideal) (φ := .f32) ((μ : EReal) : Ideal .f32) < Ideal.ofBits .f32 0x7F800000#32 := by
  rw [show Ideal.ofBits .f32 0x7F800000#32 = ⊤ by simp [Ideal.ofBits, Ideal.ieee]]
  exact max_lt (EReal.coe_lt_top μ) (by rw [← EReal.coe_neg]; exact EReal.coe_lt_top _)

theorem top_at (s : FVec Ideal S4x16384x129 .f32) (h : Fin 4) (t : Fin 16384) (μ : ℝ) (hμ : biggest s (ix2 h t) = (μ : EReal)) :
    top s (ix2 h t) = (μ : EReal) := by
  unfold top
  rw [guard_at, hμ]
  exact if_pos (abs_lt_top μ)

theorem log_at {S : Shape} (x : FVec Ideal S .f32) (i : S.Idx) : Host.log x i = Ideal.log (x i) := rfl

theorem exp_at {S : Shape} (x : FVec Ideal S .f32) (i : S.Idx) : Host.exp x i = Ideal.exp (x i) := rfl

theorem sub_at {S : Shape} (x y : FVec Ideal S .f32) (i : S.Idx) : subf x y i = x i - y i := rfl

theorem add_at {S : Shape} (x y : FVec Ideal S .f32) (i : S.Idx) : addf x y i = x i + y i := rfl

theorem lse_at (s : FVec Ideal S4x16384x129 .f32) (h : Fin 4) (t : Fin 16384) :
    lse s (ix2 h t) = top s (ix2 h t) + Ideal.log (∑ k : Fin 129, Ideal.exp (s (ix3 h t k) - top s (ix2 h t))) := by
  unfold lse
  rw [add_at, log_at, total_at]
  simp only [exp_at, sub_at, spread_at]

theorem product_at (q : FVec Ideal S4x16384x129 .f32) (z : FVec Ideal S4x16384x129x128 .f32) (h : Fin 4) (t : Fin 16384) (d : Fin 128) :
    transpose S16384x4x128 [1, 0, 2] (Host.dotGeneral dot_S4x16384x129_S4x16384x129x128_S4x16384x128_2_2_n_3_01_01 none q z)
      transposes_S4x16384x128_S16384x4x128_1_0_2 (ix3 t h d) = ∑ k : Fin 129, q (ix3 h t k) * z (ix4 h t k d) := by
  pointwise []

theorem mean_at (w : BitVec 32) (Q K V : FVec Ideal S4x16384x128 .f32) (h : Fin 4) (t : Fin 16384) (d : Fin 128) :
    mean w Q K V (ix3 t h d) = ∑ k : Fin 129, Ideal.exp (sc w Q K (ix3 h t k) - lse (sc w Q K) (ix2 h t)) * rows w V (ix4 h t k d) := by
  unfold mean
  rw [product_at]
  simp only [exp_at, sub_at, spread_at]

theorem lses_at (w : BitVec 32) (Q K : FVec Ideal S4x16384x128 .f32) (h : Fin 4) (t : Fin 16384) (d : Fin 128) :
    lses w Q K (ix3 t h d) = lse (sc w Q K) (ix2 h t) := by
  unfold lses
  generalize lse (sc w Q K) = y
  pointwise []

theorem rows_at (w : BitVec 32) (K : FVec Ideal S4x16384x128 .f32) (h : Fin 4) (t : Fin 16384) (k : Fin 129) (e : Fin 128) :
    rows w K (ix4 h t k e) = K (ix3 h ⟨min (row w (ix3 t k 0)).toInt.toNat (16384 - 1), by omega⟩ e) :=
  TakeMid.gather_mid_apply (by decide) gather_S4x16384x128_S16384x129x1_S4x16384x129x128_03_1_n_n_1_2_41128_wf K (row w) h t k e

theorem kpos_int (dil : ℕ) (hd : dil ≤ 16) (t : Fin 16384) (k : Fin 129) :
    (kpos (BitVec.ofNat 32 dil) (ix2 t k)).toInt = (t.val : ℤ) - ((dil * k.val : ℕ) : ℤ) := by
  have ht := t.isLt
  have hk := k.isLt
  have hp : dil * k.val ≤ 16 * 128 := Nat.mul_le_mul hd (by omega)
  rw [kpos_at]
  show (BitVec.ofNat 32 t.val - BitVec.ofNat 32 dil * BitVec.ofNat 32 k.val).toInt = _
  rw [← BitVec.ofNat_mul]
  generalize dil * k.val = p at hp
  rw [BitVec.toInt_eq_toNat_cond, BitVec.toNat_sub, BitVec.toNat_ofNat, BitVec.toNat_ofNat]
  split_ifs <;> omega

theorem has_iff (dil : ℕ) (hd : dil ≤ 16) (t : Fin 16384) (k : Fin 129) :
    has (BitVec.ofNat 32 dil) (ix2 t k) = 1#1 ↔ dil * k.val ≤ t.val := by
  have hi := kpos_int dil hd t k
  rw [has_at]
  generalize kpos (BitVec.ofNat 32 dil) (ix2 t k) = x at hi
  generalize dil * k.val = p at hi
  have h : IntOp.cmpi .sge x 0#32 = BitVec.ofBool (decide ((0 : ℤ) ≤ x.toInt)) := rfl
  rw [h]
  by_cases h0 : (0 : ℤ) ≤ x.toInt
  · rw [decide_eq_true h0]; exact ⟨fun _ => by omega, fun _ => rfl⟩
  · rw [decide_eq_false h0]; exact ⟨fun h => absurd h (by decide), fun _ => absurd h0 (by omega)⟩

theorem row_nat (dil : ℕ) (hd : dil ≤ 16) (t : Fin 16384) (k : Fin 129) (h : dil * k.val ≤ t.val) :
    min (row (BitVec.ofNat 32 dil) (ix3 t k 0)).toInt.toNat (16384 - 1) = t.val - dil * k.val := by
  have hi := kpos_int dil hd t k
  have ht := t.isLt
  rw [row_at]
  generalize kpos (BitVec.ofNat 32 dil) (ix2 t k) = x at hi
  generalize dil * k.val = p at hi h
  have hm : IntOp.maxsi x 0#32 = x := by
    show (if (0#32).slt x then x else 0#32) = x
    split_ifs with hx
    · rfl
    · simp only [BitVec.slt, BitVec.toInt_zero, decide_eq_true_eq] at hx
      exact BitVec.eq_of_toInt_eq (by rw [BitVec.toInt_zero]; omega)
  rw [hm]
  have hc : IntOp.cmpi .slt x 0#32 = 0#1 := by
    show BitVec.ofBool (x.slt 0#32) = 0#1
    have : x.slt 0#32 = false := by
      simp only [BitVec.slt, BitVec.toInt_zero, decide_eq_false_iff_not]
      omega
    rw [this]; rfl
  rw [hc]
  show min x.toInt.toNat (16384 - 1) = _
  omega

section
variable (dil : ℕ) (hd : dil ≤ 16) (Q K V : FVec Ideal S4x16384x128 .f32) (h : Fin 4) (t : Fin 16384)
  (q : Fin 128 → ℝ) (Kf Vf : ℕ → Fin 128 → ℝ) (u s : ℕ) (hs : s < dil) (ht : t.val = u * dil + s)
  (hQ : ∀ e, Q (ix3 h t e) = ((q e : ℝ) : EReal)) (hK : ∀ (t' : Fin 16384) e, K (ix3 h t' e) = ((Kf t'.val e : ℝ) : EReal))
  (hV : ∀ (t' : Fin 16384) e, V (ix3 h t' e) = ((Vf t'.val e : ℝ) : EReal))

include hs ht in
theorem key_iff (k : Fin 129) : dil * k.val ≤ t.val ↔ k.val ≤ u := by
  rw [ht, Nat.mul_comm]
  constructor
  · intro hk
    by_contra hn
    have := Nat.mul_le_mul_right dil (show u + 1 ≤ k.val by omega)
    rw [Nat.add_mul] at this
    omega
  · intro hk
    have := Nat.mul_le_mul_right dil hk
    omega

include ht in
theorem key_row (k : Fin 129) (hk : k.val ≤ u) : t.val - dil * k.val = (u - k.val) * dil + s := by
  rw [ht, Nat.sub_mul, Nat.mul_comm dil]
  have := Nat.mul_le_mul_right dil hk
  omega

include hd hs ht hQ hK in
theorem score_real (k : Fin 129) :
    sc (BitVec.ofNat 32 dil) Q K (ix3 h t k)
      = if k.val ≤ u then ((DilTile.back q (fun u' => Kf (u' * dil + s)) u k : ℝ) : EReal) else ⊥ := by
  have hh := has_iff dil hd t k
  rw [sc_at]
  split_ifs with hk
  · have hk' := (key_iff dil t u s hs ht k).mpr hk
    rw [hh.mpr hk']
    show ∑ e : Fin 128, Q (ix3 h t e) * rows (BitVec.ofNat 32 dil) K (ix4 h t k e) = _
    unfold DilTile.back
    rw [← Softmax.coe_sum]
    refine Finset.sum_congr rfl fun e _ => ?_
    rw [rows_at, hK, hQ, ← EReal.coe_mul]
    simp only [row_nat dil hd t k hk', key_row dil t u s ht k hk]
  · have hz : has (BitVec.ofNat 32 dil) (ix2 t k) = 0#1 := by
      have := fun h1 => hk ((key_iff dil t u s hs ht k).mp (hh.mp h1))
      generalize has (BitVec.ofNat 32 dil) (ix2 t k) = b at this
      revert this
      revert b
      decide
    rw [hz]
    exact DilTile.bot_word

include hd hs ht hQ hK in
/-- The reference's log-sum-exp over finite arguments. -/
theorem lse_real : lse (sc (BitVec.ofNat 32 dil) Q K) (ix2 h t) = ((Real.log (DilTile.Zd q (fun u' => Kf (u' * dil + s)) u) : ℝ) : EReal) := by
  have hsc := score_real dil hd Q K h t q Kf u s hs ht hQ hK
  have hne : ∃ k : Fin 129, k.val ≤ u := ⟨0, Nat.zero_le _⟩
  obtain ⟨μ, hμ⟩ := Softmax.max_real (fun k : Fin 129 => k.val ≤ u) _ _ hsc hne
  have hb : biggest (sc (BitVec.ofNat 32 dil) Q K) (ix2 h t) = (μ : EReal) := by
    rw [biggest_at, DilTile.bot_word]
    exact hμ
  rw [lse_at, top_at _ h t μ hb]
  exact Softmax.log_mass (fun k : Fin 129 => k.val ≤ u) _ _ hsc hne μ

include hd hs ht hQ hK hV in
/-- The reference's softmax mean over finite arguments. -/
theorem mean_real (d : Fin 128) :
    mean (BitVec.ofNat 32 dil) Q K V (ix3 t h d)
      = ((DilTile.Md q (fun u' => Kf (u' * dil + s)) (fun u' => Vf (u' * dil + s)) u d : ℝ) : EReal) := by
  have hsc := score_real dil hd Q K h t q Kf u s hs ht hQ hK
  have hne : ∃ k : Fin 129, k.val ≤ u := ⟨0, Nat.zero_le _⟩
  rw [mean_at, lse_real dil hd Q K h t q Kf u s hs ht hQ hK]
  refine (Softmax.plain_mean (fun k : Fin 129 => k.val ≤ u) (DilTile.back q (fun u' => Kf (u' * dil + s)) u)
    (fun k => Vf (min (row (BitVec.ofNat 32 dil) (ix3 t k 0)).toInt.toNat (16384 - 1)) d) _ _ hsc
    (fun k => by rw [rows_at, hV]) hne).trans ?_
  unfold DilTile.Md DilTile.Zd Softmax.weighted
  refine congrArg (fun x : ℝ => ((x / _ : ℝ) : EReal)) (Finset.sum_congr rfl fun k _ => ?_)
  split_ifs with hk
  · dsimp only
    rw [row_nat dil hd t k ((key_iff dil t u s hs ht k).mpr hk), key_row dil t u s ht k hk]
  · rfl

end

end Cert.DilRef
-- ==== Proof.Dil1Claim.lean ====
module

public import proofs.«01_k».proof.Defs
public import proofs.«01_k».proof.Proof.Gen.Dil1RefIdeal.Run
public import proofs.«01_k».proof.Proof.Dil1Ker
public import proofs.«01_k».proof.Proof.DilRef

@[expose] public section

set_option maxRecDepth 16384

noncomputable section

namespace Cert.Dil1RefIdeal.Hand

open Cert.Dil1RefIdeal Cert.Dil1RefIdeal.Gen Cert.Dil1RefIdeal.Value Idealize.ShloMosaic Idealize.ShloMosaic.TcCoe Idealize.SL.Sem

variable (m : (ℓ : Loc nD τ sig) → Buf (Elt Ideal) ℓ) (c : Dev nD)

/-- The argument: queries, keys and values, split by position modulo the dilation. -/
def arg : FVec Ideal S12x128x128x128 .bf16 := m ((c.tc : Thread nD τ).loc main_arg0)

/-- The argument with its positions back in sequence. -/
def seq (A : FVec Ideal S12x128x128x128 .bf16) : FVec Ideal S3x4x16384x128 .f32 :=
  shapeCast _ (extf .f32 A bitsLt_bf16_f32) shapeCasts_S12x128x128x128_S3x4x16384x128

theorem out0_eq : res_out0 m c = truncf .bf16 (shapeCast S128x128x512 (DilRef.mean (BitVec.ofNat 32 1) (DilRef.part0 (seq (arg m c))) (DilRef.part1 (seq (arg m c))) (DilRef.part2 (seq (arg m c))))
    shapeCasts_S16384x4x128_S128x128x512) bitsLt_bf16_f32 := rfl

theorem out1_eq : res_out1 m c = shapeCast S128x128x512 (DilRef.lses (BitVec.ofNat 32 1) (DilRef.part0 (seq (arg m c))) (DilRef.part1 (seq (arg m c))))
    shapeCasts_S16384x4x128_S128x128x512 := rfl

/-- The position of lane position `T * 128 + r` of residue `s`. -/
def pos (T : Fin 128) (r : Fin 128) (s : Fin 1) : Fin 16384 := ⟨(T.val * 128 + r.val) * 1 + s.val, by omega⟩

theorem out_at (x : FVec Ideal S16384x4x128 .f32) (T : Fin 128) (r : Fin 128) (s : Fin 1) (h : Fin 4) (d : Fin 128) :
    (shapeCast S128x128x512 x shapeCasts_S16384x4x128_S128x128x512) (ix3 T r ⟨s.val * 512 + h.val * 128 + d.val, by omega⟩) = x (ix3 (pos T r s) h d) := by
  refine shapeCast_apply x _ _ _ ?_
  rw [Shape.rowMajor_val_three, Shape.rowMajor_val_three]
  show (((T.val * 128 + r.val) * 1 + s.val) * 4 + h.val) * 128 + d.val = (T.val * 128 + r.val) * 512 + (s.val * 512 + h.val * 128 + d.val)
  omega

theorem narrow_at (x : FVec Ideal S128x128x512 .f32) (i : (S128x128x512).Idx) : truncf .bf16 x bitsLt_bf16_f32 i = x i := rfl

theorem seq_at (A : FVec Ideal S12x128x128x128 .bf16) (k : Fin 3) (h : Fin 4) (T : Fin 128) (r : Fin 128) (s : Fin 1) (e : Fin 128) :
    seq A (ix4 k h (pos T r s) e) = A (ix4 ⟨4 * k.val + h.val, by omega⟩ T r ⟨s.val * 128 + e.val, by omega⟩) := by
  refine shapeCast_apply (extf .f32 A bitsLt_bf16_f32) _ _ (ix4 ⟨4 * k.val + h.val, by omega⟩ T r ⟨s.val * 128 + e.val, by omega⟩) ?_
  rw [Shape.rowMajor_val_four, Shape.rowMajor_val_four]
  show ((((4 * k.val + h.val) * 128) + T.val) * 128 + r.val) * 128 + (s.val * 128 + e.val) = ((k.val * 4 + h.val) * 16384 + ((T.val * 128 + r.val) * 1 + s.val)) * 128 + e.val
  omega

/-- Row `t` of a part of the argument, as reals. -/
def line (A : FVec Ideal S12x128x128x128 .bf16) (k : Fin 3) (h : Fin 4) (t : ℕ) (e : Fin 128) : ℝ :=
  Cert.Dil1Ideal.Hand.lane A k h ⟨t % 1, Nat.mod_lt _ (by decide)⟩ (t / 1) e

theorem line_lane (A : FVec Ideal S12x128x128x128 .bf16) (k : Fin 3) (h : Fin 4) (s : Fin 1) :
    (fun u => line A k h (u * 1 + s.val)) = Cert.Dil1Ideal.Hand.lane A k h s := by
  funext u e
  unfold line
  have h1 : (⟨(u * 1 + s.val) % 1, Nat.mod_lt _ (by decide)⟩ : Fin 1) = s := Fin.ext (by show (u * 1 + s.val) % 1 = s.val; omega)
  have h2 : (u * 1 + s.val) / 1 = u := by omega
  rw [h1, h2]

theorem seq_line (A : FVec Ideal S12x128x128x128 .bf16) (hf : Cert.Dil1Ideal.Hand.Finite A) (k : Fin 3) (h : Fin 4) (t : Fin 16384) (e : Fin 128) :
    seq A (ix4 k h t e) = ((line A k h t.val e : ℝ) : EReal) := by
  obtain ⟨T, r, s, rfl⟩ : ∃ (T : Fin 128) (r : Fin 128) (s : Fin 1), t = pos T r s :=
    ⟨⟨t.val / 1 / 128, by omega⟩, ⟨t.val / 1 % 128, by omega⟩, ⟨t.val % 1, by omega⟩, Fin.ext (by
      show t.val = (t.val / 1 / 128 * 128 + t.val / 1 % 128) * 1 + t.val % 1
      omega)⟩
  rw [seq_at, Cert.Dil1Ideal.Hand.lane_eq A hf k h s T r e _ rfl]
  exact congrArg (fun x : ℝ => (x : EReal)) (congrFun (congrFun (line_lane A k h s) (T.val * 128 + r.val)) e).symm

theorem part0_line (A : FVec Ideal S12x128x128x128 .bf16) (hf : Cert.Dil1Ideal.Hand.Finite A) (h : Fin 4) (t : Fin 16384) (e : Fin 128) :
    DilRef.part0 (seq A) (ix3 h t e) = ((line A 0 h t.val e : ℝ) : EReal) := (DilRef.part0_at _ h t e).trans (seq_line A hf 0 h t e)
theorem part1_line (A : FVec Ideal S12x128x128x128 .bf16) (hf : Cert.Dil1Ideal.Hand.Finite A) (h : Fin 4) (t : Fin 16384) (e : Fin 128) :
    DilRef.part1 (seq A) (ix3 h t e) = ((line A 1 h t.val e : ℝ) : EReal) := (DilRef.part1_at _ h t e).trans (seq_line A hf 1 h t e)
theorem part2_line (A : FVec Ideal S12x128x128x128 .bf16) (hf : Cert.Dil1Ideal.Hand.Finite A) (h : Fin 4) (t : Fin 16384) (e : Fin 128) :
    DilRef.part2 (seq A) (ix3 h t e) = ((line A 2 h t.val e : ℝ) : EReal) := (DilRef.part2_at _ h t e).trans (seq_line A hf 2 h t e)

/-- The plain program's first result over finite arguments: the softmax means. -/
theorem mean_at (hf : Cert.Dil1Ideal.Hand.Finite (arg m c)) (T : Fin 128) (r : Fin 128) (s : Fin 1) (h : Fin 4) (d : Fin 128) :
    (res_out0 m c : FVec Ideal S128x128x512 .bf16) (ix3 T r ⟨s.val * 512 + h.val * 128 + d.val, by omega⟩)
      = ((DilTile.Md (Cert.Dil1Ideal.Hand.lane (arg m c) 0 h s (T.val * 128 + r.val)) (Cert.Dil1Ideal.Hand.lane (arg m c) 1 h s)
          (Cert.Dil1Ideal.Hand.lane (arg m c) 2 h s) (T.val * 128 + r.val) d : ℝ) : EReal) := by
  refine (congrFun (out0_eq m c) _).trans ?_
  refine (narrow_at _ _).trans ?_
  refine (out_at _ T r s h d).trans ?_
  refine (DilRef.mean_real 1 (by decide) _ _ _ h (pos T r s) (line (arg m c) 0 h (pos T r s).val) (line (arg m c) 1 h) (line (arg m c) 2 h)
    (T.val * 128 + r.val) s.val s.isLt rfl (fun e => part0_line _ hf h _ e) (fun t e => part1_line _ hf h t e) (fun t e => part2_line _ hf h t e) d).trans ?_
  have h0 : line (arg m c) 0 h (pos T r s).val = Cert.Dil1Ideal.Hand.lane (arg m c) 0 h s (T.val * 128 + r.val) :=
    congrFun (line_lane (arg m c) 0 h s) (T.val * 128 + r.val)
  rw [h0, line_lane, line_lane]

/-- The plain program's second result over finite arguments: the log-sum-exps. -/
theorem lse_at (hf : Cert.Dil1Ideal.Hand.Finite (arg m c)) (T : Fin 128) (r : Fin 128) (s : Fin 1) (h : Fin 4) (d : Fin 128) :
    (res_out1 m c : FVec Ideal S128x128x512 .f32) (ix3 T r ⟨s.val * 512 + h.val * 128 + d.val, by omega⟩)
      = ((Real.log (DilTile.Zd (Cert.Dil1Ideal.Hand.lane (arg m c) 0 h s (T.val * 128 + r.val)) (Cert.Dil1Ideal.Hand.lane (arg m c) 1 h s)
          (T.val * 128 + r.val)) : ℝ) : EReal) := by
  refine (congrFun (out1_eq m c) _).trans ?_
  refine (out_at _ T r s h d).trans ?_
  refine (DilRef.lses_at _ _ _ h (pos T r s) d).trans ?_
  refine (DilRef.lse_real 1 (by decide) _ _ h (pos T r s) (line (arg m c) 0 h (pos T r s).val) (line (arg m c) 1 h)
    (T.val * 128 + r.val) s.val s.isLt rfl (fun e => part0_line _ hf h _ e) (fun t e => part1_line _ hf h t e)).trans ?_
  have h0 : line (arg m c) 0 h (pos T r s).val = Cert.Dil1Ideal.Hand.lane (arg m c) 0 h s (T.val * 128 + r.val) :=
    congrFun (line_lane (arg m c) 0 h s) (T.val * 128 + r.val)
  rw [h0, line_lane]

end Cert.Dil1RefIdeal.Hand

namespace Cert.Proof.Dil1

open Idealize.ShloMosaic Idealize.ShloMosaic.TcCoe Idealize.SL.Sem

/-- The precondition says that every entry is a real number. -/
theorem finite_of_pre [Cert.Pre_finite1.Facts] (A : FVec Ideal Cert.Dil1Ideal.S12x128x128x128 .bf16) (h : Cert.Pre_finite1.fn (F := Ideal) A = fun _ => 1#1) :
    Cert.Dil1Ideal.Hand.Finite A := by
  intro i
  have hi : BitVec.ofBool (decide (max (A i : EReal) (-(A i : EReal)) < Ideal.ofBits .f32 0x7F800000#32)) = 1#1 := congrFun h i
  rw [show Ideal.ofBits .f32 0x7F800000#32 = ⊤ by simp [Ideal.ofBits, Ideal.ieee]] at hi
  have hlt : max (A i : EReal) (-(A i : EReal)) < ⊤ := by
    by_contra hn
    rw [decide_eq_false hn] at hi
    exact absurd hi (by decide)
  have h1 := lt_of_le_of_lt (le_max_left _ _) hlt
  have h2 := lt_of_le_of_lt (le_max_right _ _) hlt
  refine (EReal.coe_toReal h1.ne ?_).symm
  intro hb
  rw [hb] at h2
  exact absurd h2 (by simp)

/-- The attention at dilation 1 over finite arguments: kernel and plain program compute the same two arrays over the reals. -/
theorem algebraic [Cert.Pre_finite1.Facts] : Cert.algebraic_Dil1Ideal_Dil1RefIdeal_pre_finite1 := by
  intro m ρ m' ρ' hpre hag
  have hf : ∀ c, Cert.Dil1Ideal.Hand.Finite (Cert.Dil1Ideal.Hand.arg m c) := fun c => finite_of_pre _ (hpre c)
  have ha : ∀ c, Cert.Dil1RefIdeal.Hand.arg m' c = Cert.Dil1Ideal.Hand.arg m c := fun c => hag c
  have hsplit : ∀ i : Fin 512, ∃ (s : Fin 1) (h : Fin 4) (d : Fin 128), i = ⟨s.val * 512 + h.val * 128 + d.val, by omega⟩ := fun i =>
    ⟨⟨i.val / 512, by omega⟩, ⟨i.val % 512 / 128, by omega⟩, ⟨i.val % 128, by omega⟩, Fin.ext (by
      show i.val = i.val / 512 * 512 + i.val % 512 / 128 * 128 + i.val % 128
      omega)⟩
  refine ⟨_, _, Cert.Dil1Ideal.Value.run_blocks m ρ,
    (θ_run _ _ _).mono (fun _ h c => ⟨(h c).1.trans ?_, (h c).2.1.trans ?_, (h c).2.2⟩) (Cert.Dil1RefIdeal.Value.run m' ρ')⟩
  · funext i
    obtain ⟨T, r, x, rfl⟩ : ∃ (T : Fin 128) (r : Fin 128) (x : Fin 512), i = ix3 T r x := ⟨i 0, i 1, i 2, eq_ix3 i⟩
    obtain ⟨s, h, d, rfl⟩ := hsplit x
    refine (Cert.Dil1RefIdeal.Hand.mean_at m' c ((ha c).symm ▸ hf c) T r s h d).trans ?_
    rw [ha]
    exact (Cert.Dil1Ideal.Hand.mean_at m c (hf c) T r s h d).symm
  · funext i
    obtain ⟨T, r, x, rfl⟩ : ∃ (T : Fin 128) (r : Fin 128) (x : Fin 512), i = ix3 T r x := ⟨i 0, i 1, i 2, eq_ix3 i⟩
    obtain ⟨s, h, d, rfl⟩ := hsplit x
    refine (Cert.Dil1RefIdeal.Hand.lse_at m' c ((ha c).symm ▸ hf c) T r s h d).trans ?_
    rw [ha]
    exact (Cert.Dil1Ideal.Hand.lse_at m c (hf c) T r s h d).symm

end Cert.Proof.Dil1
-- ==== Proof.Dil4Ker.lean ====
module

public import proofs.«01_k».proof.Proof.Gen.Dil4Ideal.Value
public import proofs.«01_k».proof.Proof.DilTile

@[expose] public section

set_option maxRecDepth 16384

noncomputable section

namespace Cert.Dil4Ideal.Hand

open Cert.Dil4Ideal Cert.Dil4Ideal.Gen Cert.Dil4Ideal.Value Cert.DilTile Idealize.ShloMosaic Idealize.ShloMosaic.TcCoe Idealize.SL.Sem

variable (m : (ℓ : Loc nD τ sig) → Buf (Elt Ideal) ℓ)

/-- Whether a step is not the first of its residue. -/
def later (t : Fin cfg0.N) : BitVec 1 := BitVec.ofBool (decide (t.val % 8 ≠ 0))

theorem pay5_eq (t : Fin cfg0.N) : k0_pay5 (grid0.coords t) = mask5 (later t) := by
  have h : ∀ t : Fin cfg0.N, Scalar.xori
          (Scalar.cmpi CmpIPredicate.eq
            (Scalar.select
              (Scalar.andi
                (Scalar.xori
                  (Scalar.cmpi CmpIPredicate.slt
                    (Scalar.remsi (BitVec.ofNat 32 (grid0.coords t 0).val)
                      (Scalar.select (Scalar.cmpi CmpIPredicate.eq 8#32 0#32) 1#32 8#32))
                    0#32)
                  (Scalar.cmpi CmpIPredicate.slt (Scalar.select (Scalar.cmpi CmpIPredicate.eq 8#32 0#32) 1#32 8#32)
                    0#32))
                (Scalar.cmpi CmpIPredicate.ne
                  (Scalar.remsi (BitVec.ofNat 32 (grid0.coords t 0).val)
                    (Scalar.select (Scalar.cmpi CmpIPredicate.eq 8#32 0#32) 1#32 8#32))
                  0#32))
              (Scalar.addi
                (Scalar.remsi (BitVec.ofNat 32 (grid0.coords t 0).val)
                  (Scalar.select (Scalar.cmpi CmpIPredicate.eq 8#32 0#32) 1#32 8#32))
                (Scalar.select (Scalar.cmpi CmpIPredicate.eq 8#32 0#32) 1#32 8#32))
              (Scalar.remsi (BitVec.ofNat 32 (grid0.coords t 0).val)
                (Scalar.select (Scalar.cmpi CmpIPredicate.eq 8#32 0#32) 1#32 8#32)))
            0#32)
          1#1 = later t :=
    (by decide +kernel : ∀ t : Fin grid0.N, _ = BitVec.ofBool (decide (t.val % 8 ≠ 0)))
  unfold mask5
  rw [← h t]
  rfl

theorem out5_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_5 (grid0.coords t) x0 x1 x2 x3 x4 = blkO (mask5 (later t)) Cert.Dil16Ideal.Gen.k0_pay4 x0 x1 x2 x3 x4 := by
  rw [← pay5_eq]
  rfl

theorem out6_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_6 (grid0.coords t) x0 x1 x2 x3 x4 = blkL (mask5 (later t)) Cert.Dil16Ideal.Gen.k0_pay4 x0 x1 x2 := by
  rw [← pay5_eq]
  rfl

theorem index_facts : ∀ t : Fin cfg0.N,
    (win0_0.index t (0 : Fin 4) = 0 ∧ win0_0.index t (1 : Fin 4) = t.val % 8 ∧ win0_0.index t (2 : Fin 4) = 0 ∧ win0_0.index t (3 : Fin 4) = t.val / 8)
    ∧ (win0_1.index t (0 : Fin 4) = 1 ∧ win0_1.index t (1 : Fin 4) = 4 * (t.val % 8) - 1 ∧ win0_1.index t (2 : Fin 4) = 0 ∧ win0_1.index t (3 : Fin 4) = t.val / 8)
    ∧ (win0_2.index t (0 : Fin 4) = 1 ∧ win0_2.index t (1 : Fin 4) = t.val % 8 ∧ win0_2.index t (2 : Fin 4) = 0 ∧ win0_2.index t (3 : Fin 4) = t.val / 8)
    ∧ (win0_3.index t (0 : Fin 4) = 2 ∧ win0_3.index t (1 : Fin 4) = 4 * (t.val % 8) - 1 ∧ win0_3.index t (2 : Fin 4) = 0 ∧ win0_3.index t (3 : Fin 4) = t.val / 8)
    ∧ (win0_4.index t (0 : Fin 4) = 2 ∧ win0_4.index t (1 : Fin 4) = t.val % 8 ∧ win0_4.index t (2 : Fin 4) = 0 ∧ win0_4.index t (3 : Fin 4) = t.val / 8)
    ∧ (win0_5.index t (0 : Fin 3) = t.val % 8 ∧ win0_5.index t (1 : Fin 3) = 0 ∧ win0_5.index t (2 : Fin 3) = t.val / 8)
    ∧ (win0_6.index t (0 : Fin 3) = t.val % 8 ∧ win0_6.index t (1 : Fin 3) = 0 ∧ win0_6.index t (2 : Fin 3) = t.val / 8)
    ∧ win0_5.flush t = true ∧ win0_6.flush t = true :=
  (by decide +kernel : ∀ t : Fin grid0.N,
    (win0_0.index t (0 : Fin 4) = 0 ∧ win0_0.index t (1 : Fin 4) = t.val % 8 ∧ win0_0.index t (2 : Fin 4) = 0 ∧ win0_0.index t (3 : Fin 4) = t.val / 8)
    ∧ (win0_1.index t (0 : Fin 4) = 1 ∧ win0_1.index t (1 : Fin 4) = 4 * (t.val % 8) - 1 ∧ win0_1.index t (2 : Fin 4) = 0 ∧ win0_1.index t (3 : Fin 4) = t.val / 8)
    ∧ (win0_2.index t (0 : Fin 4) = 1 ∧ win0_2.index t (1 : Fin 4) = t.val % 8 ∧ win0_2.index t (2 : Fin 4) = 0 ∧ win0_2.index t (3 : Fin 4) = t.val / 8)
    ∧ (win0_3.index t (0 : Fin 4) = 2 ∧ win0_3.index t (1 : Fin 4) = 4 * (t.val % 8) - 1 ∧ win0_3.index t (2 : Fin 4) = 0 ∧ win0_3.index t (3 : Fin 4) = t.val / 8)
    ∧ (win0_4.index t (0 : Fin 4) = 2 ∧ win0_4.index t (1 : Fin 4) = t.val % 8 ∧ win0_4.index t (2 : Fin 4) = 0 ∧ win0_4.index t (3 : Fin 4) = t.val / 8)
    ∧ (win0_5.index t (0 : Fin 3) = t.val % 8 ∧ win0_5.index t (1 : Fin 3) = 0 ∧ win0_5.index t (2 : Fin 3) = t.val / 8)
    ∧ (win0_6.index t (0 : Fin 3) = t.val % 8 ∧ win0_6.index t (1 : Fin 3) = 0 ∧ win0_6.index t (2 : Fin 3) = t.val / 8)
    ∧ win0_5.flush t = true ∧ win0_6.flush t = true)

/-- The call's argument: queries, keys and values, four heads each, tiles of 128 positions of one residue. -/
abbrev arg (c : Dev nD) : FVec Ideal S12x32x128x512 .bf16 := m ((c : Thread nD τ).loc main_arg0)

/-- Lane `e` of head `h` of part `k` at place `u` of the residue `s`. -/
def lane (A : FVec Ideal S12x32x128x512 .bf16) (k : Fin 3) (h : Fin 4) (s : Fin 4) (u : ℕ) (e : Fin 128) : ℝ :=
  (A (ix4 ⟨4 * k.val + h.val, by omega⟩ ⟨u / 128 % 32, Nat.mod_lt _ (by decide)⟩ ⟨u % 128, Nat.mod_lt _ (by decide)⟩
    ⟨s.val * 128 + e.val, by omega⟩)).toReal

/-- Every entry of the argument is finite. -/
def Finite (A : FVec Ideal S12x32x128x512 .bf16) : Prop := ∀ i, A i = ((A i).toReal : EReal)

theorem lane_eq (A : FVec Ideal S12x32x128x512 .bf16) (hf : Finite A) (k : Fin 3) (h : Fin 4) (s : Fin 4) (T : Fin 32) (y e : Fin 128)
    (i : (S12x32x128x512).Idx) (hi : i = ix4 ⟨4 * k.val + h.val, by omega⟩ T y ⟨s.val * 128 + e.val, by omega⟩) :
    A i = ((lane A k h s (T.val * 128 + y.val) e : ℝ) : EReal) := by
  rw [hf i, hi]
  have := y.isLt
  have := T.isLt
  have h1 : (⟨(T.val * 128 + y.val) / 128 % 32, Nat.mod_lt _ (by decide)⟩ : Fin 32) = T := Fin.ext (by show (T.val * 128 + y.val) / 128 % 32 = T.val; omega)
  have h2 : (⟨(T.val * 128 + y.val) % 128, Nat.mod_lt _ (by decide)⟩ : Fin 128) = y := Fin.ext (by show (T.val * 128 + y.val) % 128 = y.val; omega)
  unfold lane
  rw [h1, h2]

/-- A lane of a window's block, whole tiles: the place is the block's and the lane the step's residue's. -/
theorem blk0_at (c : Dev nD) (hf : Finite (arg m c)) (t : Fin cfg0.N) (s : Fin 4) (hs : t.val / 8 = s.val) (h j : Fin 4) (y e : Fin 128) :
    (iblk m c 0 t : Vec Ideal S4x4x128x128 .bf16) (ix4 h j y e) = ((lane (arg m c) 0 h s ((4 * (t.val % 8) + j.val) * 128 + y.val) e : ℝ) : EReal) := by
  have hi := (index_facts t).1
  unfold iblk
  rw [View.read_apply]
  refine lane_eq (arg m c) hf 0 h s ⟨4 * (t.val % 8) + j.val, by omega⟩ y e _ ?_
  funext a
  apply Fin.ext
  match a with
  | ⟨0, _⟩ => show win0_0.index t 0 * 4 + 1 * h.val = 4 * 0 + h.val; rw [hi.1]; omega
  | ⟨1, _⟩ => show win0_0.index t 1 * 4 + 1 * j.val = 4 * (t.val % 8) + j.val; rw [hi.2.1]; omega
  | ⟨2, _⟩ => show win0_0.index t 2 * 128 + 1 * y.val = y.val; rw [hi.2.2.1]; omega
  | ⟨3, _⟩ => show win0_0.index t 3 * 128 + 1 * e.val = s.val * 128 + e.val; rw [hi.2.2.2]; omega

theorem blk2_at (c : Dev nD) (hf : Finite (arg m c)) (t : Fin cfg0.N) (s : Fin 4) (hs : t.val / 8 = s.val) (h j : Fin 4) (y e : Fin 128) :
    (iblk m c 2 t : Vec Ideal S4x4x128x128 .bf16) (ix4 h j y e) = ((lane (arg m c) 1 h s ((4 * (t.val % 8) + j.val) * 128 + y.val) e : ℝ) : EReal) := by
  have hi := (index_facts t).2.2.1
  unfold iblk
  rw [View.read_apply]
  refine lane_eq (arg m c) hf 1 h s ⟨4 * (t.val % 8) + j.val, by omega⟩ y e _ ?_
  funext a
  apply Fin.ext
  match a with
  | ⟨0, _⟩ => show win0_2.index t 0 * 4 + 1 * h.val = 4 * 1 + h.val; rw [hi.1]; omega
  | ⟨1, _⟩ => show win0_2.index t 1 * 4 + 1 * j.val = 4 * (t.val % 8) + j.val; rw [hi.2.1]; omega
  | ⟨2, _⟩ => show win0_2.index t 2 * 128 + 1 * y.val = y.val; rw [hi.2.2.1]; omega
  | ⟨3, _⟩ => show win0_2.index t 3 * 128 + 1 * e.val = s.val * 128 + e.val; rw [hi.2.2.2]; omega

theorem blk4_at (c : Dev nD) (hf : Finite (arg m c)) (t : Fin cfg0.N) (s : Fin 4) (hs : t.val / 8 = s.val) (h j : Fin 4) (y e : Fin 128) :
    (iblk m c 4 t : Vec Ideal S4x4x128x128 .bf16) (ix4 h j y e) = ((lane (arg m c) 2 h s ((4 * (t.val % 8) + j.val) * 128 + y.val) e : ℝ) : EReal) := by
  have hi := (index_facts t).2.2.2.2.1
  unfold iblk
  rw [View.read_apply]
  refine lane_eq (arg m c) hf 2 h s ⟨4 * (t.val % 8) + j.val, by omega⟩ y e _ ?_
  funext a
  apply Fin.ext
  match a with
  | ⟨0, _⟩ => show win0_4.index t 0 * 4 + 1 * h.val = 4 * 2 + h.val; rw [hi.1]; omega
  | ⟨1, _⟩ => show win0_4.index t 1 * 4 + 1 * j.val = 4 * (t.val % 8) + j.val; rw [hi.2.1]; omega
  | ⟨2, _⟩ => show win0_4.index t 2 * 128 + 1 * y.val = y.val; rw [hi.2.2.1]; omega
  | ⟨3, _⟩ => show win0_4.index t 3 * 128 + 1 * e.val = s.val * 128 + e.val; rw [hi.2.2.2]; omega

theorem prev1_at (c : Dev nD) (hf : Finite (arg m c)) (t : Fin cfg0.N) (s : Fin 4) (hs : t.val / 8 = s.val) (h j : Fin 4) (y e : Fin 128) :
    prev (iblk m c 1 t) (iblk m c 2 t) j h y e = ((lane (arg m c) 1 h s ((4 * (t.val % 8) + j.val - 1) * 128 + y.val) e : ℝ) : EReal) := by
  unfold prev
  split_ifs with h0
  · have hi := (index_facts t).2.1
    unfold iblk
    rw [View.read_apply]
    have hT : 4 * (t.val % 8) + j.val - 1 < 32 := by omega
    refine lane_eq (arg m c) hf 1 h s ⟨4 * (t.val % 8) + j.val - 1, hT⟩ y e _ ?_
    funext a
    apply Fin.ext
    match a with
    | ⟨0, _⟩ => show win0_1.index t 0 * 4 + 1 * h.val = 4 * 1 + h.val; rw [hi.1]; omega
    | ⟨1, _⟩ => show win0_1.index t 1 * 1 + 1 * 0 = 4 * (t.val % 8) + j.val - 1; rw [hi.2.1]; omega
    | ⟨2, _⟩ => show win0_1.index t 2 * 128 + 1 * y.val = y.val; rw [hi.2.2.1]; omega
    | ⟨3, _⟩ => show win0_1.index t 3 * 128 + 1 * e.val = s.val * 128 + e.val; rw [hi.2.2.2]; omega
  · refine (blk2_at m c hf t s hs h ⟨j.val - 1, by omega⟩ y e).trans ?_
    have : 4 * (t.val % 8) + (j.val - 1) = 4 * (t.val % 8) + j.val - 1 := by omega
    show ((lane (arg m c) 1 h s ((4 * (t.val % 8) + (j.val - 1)) * 128 + y.val) e : ℝ) : EReal) = _
    rw [this]

theorem prev3_at (c : Dev nD) (hf : Finite (arg m c)) (t : Fin cfg0.N) (s : Fin 4) (hs : t.val / 8 = s.val) (h j : Fin 4) (y e : Fin 128) :
    prev (iblk m c 3 t) (iblk m c 4 t) j h y e = ((lane (arg m c) 2 h s ((4 * (t.val % 8) + j.val - 1) * 128 + y.val) e : ℝ) : EReal) := by
  unfold prev
  split_ifs with h0
  · have hi := (index_facts t).2.2.2.1
    unfold iblk
    rw [View.read_apply]
    have hT : 4 * (t.val % 8) + j.val - 1 < 32 := by omega
    refine lane_eq (arg m c) hf 2 h s ⟨4 * (t.val % 8) + j.val - 1, hT⟩ y e _ ?_
    funext a
    apply Fin.ext
    match a with
    | ⟨0, _⟩ => show win0_3.index t 0 * 4 + 1 * h.val = 4 * 2 + h.val; rw [hi.1]; omega
    | ⟨1, _⟩ => show win0_3.index t 1 * 1 + 1 * 0 = 4 * (t.val % 8) + j.val - 1; rw [hi.2.1]; omega
    | ⟨2, _⟩ => show win0_3.index t 2 * 128 + 1 * y.val = y.val; rw [hi.2.2.1]; omega
    | ⟨3, _⟩ => show win0_3.index t 3 * 128 + 1 * e.val = s.val * 128 + e.val; rw [hi.2.2.2]; omega
  · refine (blk4_at m c hf t s hs h ⟨j.val - 1, by omega⟩ y e).trans ?_
    have : 4 * (t.val % 8) + (j.val - 1) = 4 * (t.val % 8) + j.val - 1 := by omega
    show ((lane (arg m c) 2 h s ((4 * (t.val % 8) + (j.val - 1)) * 128 + y.val) e : ℝ) : EReal) = _
    rw [this]

theorem masks (t : Fin cfg0.N) (j : Fin 4) (r : Fin 128) (x : Fin 256) :
    (if j.val = 0 then mask5 (later t) else Cert.Dil16Ideal.Gen.k0_pay4) (ix2 r x) = 1#1 ↔ adm (4 * (t.val % 8) + j.val) r x := by
  unfold adm
  split_ifs with h0
  · rw [mask5_at]
    have hl : later t = 1#1 ↔ t.val % 8 ≠ 0 := by
      unfold later
      by_cases h : t.val % 8 ≠ 0
      · simp [h]
      · simp [h]
    rw [hl]
    constructor
    · rintro ⟨⟨h1, h2⟩, h3⟩
      exact ⟨h1, h2, fun h4 => by omega⟩
    · rintro ⟨h1, h2, h3⟩
      refine ⟨⟨h1, h2⟩, ?_⟩
      by_cases h : t.val % 8 = 0
      · exact Or.inr (h3 (by omega))
      · exact Or.inl h
  · rw [mask4]
    exact ⟨fun h => ⟨h.1, h.2, fun h4 => by omega⟩, fun h => ⟨h.1, h.2.1⟩⟩

/-- The step that computes tile `T` of residue `s`. -/
def stepOf (T : Fin 32) (s : Fin 4) : Fin cfg0.N := ⟨s.val * 8 + T.val / 4, by have hN : cfg0.N = 32 := N_0; have := T.isLt; have := s.isLt; omega⟩

theorem stepOf_mod (T : Fin 32) (s : Fin 4) : (stepOf T s).val % 8 = T.val / 4 := by
  show (s.val * 8 + T.val / 4) % 8 = _
  have := T.isLt
  omega

theorem stepOf_div (T : Fin 32) (s : Fin 4) : (stepOf T s).val / 8 = s.val := by
  show (s.val * 8 + T.val / 4) / 8 = _
  have := T.isLt
  omega

/-- The kernel's first output over finite arguments: the softmax means. -/
theorem mean_at (c : Dev nD) (hf : Finite (arg m c)) (T : Fin 32) (r : Fin 128) (s : Fin 4) (h : Fin 4) (d : Fin 128) :
    ((dats m 0 c).arrAt 5 cfg0.N : FVec Ideal S32x128x2048 .bf16) (ix3 T r ⟨s.val * 512 + h.val * 128 + d.val, by omega⟩)
      = ((Md (lane (arg m c) 0 h s (T.val * 128 + r.val)) (lane (arg m c) 1 h s) (lane (arg m c) 2 h s) (T.val * 128 + r.val) d : ℝ) : EReal) := by
  have hm := stepOf_mod T s
  have hd := stepOf_div T s
  have hi := (index_facts (stepOf T s)).2.2.2.2.2.1
  have hb := congrFun (blocks5 m c (stepOf T s) (index_facts (stepOf T s)).2.2.2.2.2.2.2.1)
    (ix3 (⟨T.val % 4, Nat.mod_lt _ (by decide)⟩ : Fin 4) r (⟨h.val * 128 + d.val, by omega⟩ : Fin 512))
  rw [View.read_apply] at hb
  have hT : 4 * ((stepOf T s).val % 8) + T.val % 4 = T.val := by rw [hm]; omega
  refine Eq.trans ?_ (hb.trans ?_)
  · congr 1
    funext a
    apply Fin.ext
    match a with
    | ⟨0, _⟩ => show T.val = win0_5.index (stepOf T s) 0 * 4 + 1 * (T.val % 4); rw [hi.1, hm]; omega
    | ⟨1, _⟩ => show r.val = win0_5.index (stepOf T s) 1 * 128 + 1 * r.val; rw [hi.2.1]; omega
    | ⟨2, _⟩ => show s.val * 512 + h.val * 128 + d.val = win0_5.index (stepOf T s) 2 * 512 + 1 * (h.val * 128 + d.val); rw [hi.2.2, hd]; omega
  · rw [flushed5]
    show out0_5 (grid0.coords (stepOf T s)) _ _ _ _ _ (ix3 (⟨T.val % 4, Nat.mod_lt _ (by decide)⟩ : Fin 4) r (⟨h.val * 128 + d.val, by omega⟩ : Fin 512)) = _
    rw [out5_eq, blkO_at]
    generalize stepOf T s = t at hm hd hT
    refine (meanAt_real (mask5 (later t)) Cert.Dil16Ideal.Gen.k0_pay4 (iblk m c 0 t) (iblk m c 1 t) (iblk m c 2 t) (iblk m c 3 t) (iblk m c 4 t)
      (4 * (t.val % 8) + T.val % 4) ⟨T.val % 4, Nat.mod_lt _ (by decide)⟩ h r d (lane (arg m c) 0 h s (T.val * 128 + r.val))
      (lane (arg m c) 1 h s) (lane (arg m c) 2 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)
      (fun y e => prev3_at m c hf t s hd h ⟨T.val % 4, Nat.mod_lt _ (by decide)⟩ y e) (fun y e => blk4_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 8) + T.val % 4) * 128 + r.val) e : ℝ) : EReal) = _
      rw [hT]
    · rw [hT]

/-- The kernel's second output over finite arguments: the log-sum-exps. -/
theorem lse_at (c : Dev nD) (hf : Finite (arg m c)) (T : Fin 32) (r : Fin 128) (s : Fin 4) (h : Fin 4) (d : Fin 128) :
    ((dats m 0 c).arrAt 6 cfg0.N : FVec Ideal S32x128x2048 .f32) (ix3 T r ⟨s.val * 512 + h.val * 128 + d.val, by omega⟩)
      = ((Real.log (Zd (lane (arg m c) 0 h s (T.val * 128 + r.val)) (lane (arg m c) 1 h s) (T.val * 128 + r.val)) : ℝ) : EReal) := by
  have hm := stepOf_mod T s
  have hd := stepOf_div T s
  have hi := (index_facts (stepOf T s)).2.2.2.2.2.2.1
  have hb := congrFun (blocks6 m c (stepOf T s) (index_facts (stepOf T s)).2.2.2.2.2.2.2.2)
    (ix3 (⟨T.val % 4, Nat.mod_lt _ (by decide)⟩ : Fin 4) r (⟨h.val * 128 + d.val, by omega⟩ : Fin 512))
  rw [View.read_apply] at hb
  have hT : 4 * ((stepOf T s).val % 8) + T.val % 4 = T.val := by rw [hm]; omega
  refine Eq.trans ?_ (hb.trans ?_)
  · congr 1
    funext a
    apply Fin.ext
    match a with
    | ⟨0, _⟩ => show T.val = win0_6.index (stepOf T s) 0 * 4 + 1 * (T.val % 4); rw [hi.1, hm]; omega
    | ⟨1, _⟩ => show r.val = win0_6.index (stepOf T s) 1 * 128 + 1 * r.val; rw [hi.2.1]; omega
    | ⟨2, _⟩ => show s.val * 512 + h.val * 128 + d.val = win0_6.index (stepOf T s) 2 * 512 + 1 * (h.val * 128 + d.val); rw [hi.2.2, hd]; omega
  · rw [flushed6]
    show out0_6 (grid0.coords (stepOf T s)) _ _ _ _ _ (ix3 (⟨T.val % 4, Nat.mod_lt _ (by decide)⟩ : Fin 4) r (⟨h.val * 128 + d.val, by omega⟩ : Fin 512)) = _
    rw [out6_eq, blkL_at]
    generalize stepOf T s = t at hm hd hT
    refine (lseAt_real (mask5 (later t)) Cert.Dil16Ideal.Gen.k0_pay4 (iblk m c 0 t) (iblk m c 1 t) (iblk m c 2 t)
      (4 * (t.val % 8) + T.val % 4) ⟨T.val % 4, Nat.mod_lt _ (by decide)⟩ h r (lane (arg m c) 0 h s (T.val * 128 + r.val))
      (lane (arg m c) 1 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 8) + T.val % 4) * 128 + r.val) e : ℝ) : EReal) = _
      rw [hT]
    · rw [hT]

end Cert.Dil4Ideal.Hand
-- ==== Proof.Dil4Claim.lean ====
module

public import proofs.«01_k».proof.Defs
public import proofs.«01_k».proof.Proof.Gen.Dil4RefIdeal.Run
public import proofs.«01_k».proof.Proof.Dil4Ker
public import proofs.«01_k».proof.Proof.DilRef

@[expose] public section

set_option maxRecDepth 16384

noncomputable section

namespace Cert.Dil4RefIdeal.Hand

open Cert.Dil4RefIdeal Cert.Dil4RefIdeal.Gen Cert.Dil4RefIdeal.Value Idealize.ShloMosaic Idealize.ShloMosaic.TcCoe Idealize.SL.Sem

variable (m : (ℓ : Loc nD τ sig) → Buf (Elt Ideal) ℓ) (c : Dev nD)

/-- The argument: queries, keys and values, split by position modulo the dilation. -/
def arg : FVec Ideal S12x32x128x512 .bf16 := m ((c.tc : Thread nD τ).loc main_arg0)

/-- The argument with its positions back in sequence. -/
def seq (A : FVec Ideal S12x32x128x512 .bf16) : FVec Ideal S3x4x16384x128 .f32 :=
  shapeCast _ (extf .f32 A bitsLt_bf16_f32) shapeCasts_S12x32x128x512_S3x4x16384x128

theorem out0_eq : res_out0 m c = truncf .bf16 (shapeCast S32x128x2048 (DilRef.mean (BitVec.ofNat 32 4) (DilRef.part0 (seq (arg m c))) (DilRef.part1 (seq (arg m c))) (DilRef.part2 (seq (arg m c))))
    shapeCasts_S16384x4x128_S32x128x2048) bitsLt_bf16_f32 := rfl

theorem out1_eq : res_out1 m c = shapeCast S32x128x2048 (DilRef.lses (BitVec.ofNat 32 4) (DilRef.part0 (seq (arg m c))) (DilRef.part1 (seq (arg m c))))
    shapeCasts_S16384x4x128_S32x128x2048 := rfl

/-- The position of lane position `T * 128 + r` of residue `s`. -/
def pos (T : Fin 32) (r : Fin 128) (s : Fin 4) : Fin 16384 := ⟨(T.val * 128 + r.val) * 4 + s.val, by omega⟩

theorem out_at (x : FVec Ideal S16384x4x128 .f32) (T : Fin 32) (r : Fin 128) (s : Fin 4) (h : Fin 4) (d : Fin 128) :
    (shapeCast S32x128x2048 x shapeCasts_S16384x4x128_S32x128x2048) (ix3 T r ⟨s.val * 512 + h.val * 128 + d.val, by omega⟩) = x (ix3 (pos T r s) h d) := by
  refine shapeCast_apply x _ _ _ ?_
  rw [Shape.rowMajor_val_three, Shape.rowMajor_val_three]
  show (((T.val * 128 + r.val) * 4 + s.val) * 4 + h.val) * 128 + d.val = (T.val * 128 + r.val) * 2048 + (s.val * 512 + h.val * 128 + d.val)
  omega

theorem narrow_at (x : FVec Ideal S32x128x2048 .f32) (i : (S32x128x2048).Idx) : truncf .bf16 x bitsLt_bf16_f32 i = x i := rfl

theorem seq_at (A : FVec Ideal S12x32x128x512 .bf16) (k : Fin 3) (h : Fin 4) (T : Fin 32) (r : Fin 128) (s : Fin 4) (e : Fin 128) :
    seq A (ix4 k h (pos T r s) e) = A (ix4 ⟨4 * k.val + h.val, by omega⟩ T r ⟨s.val * 128 + e.val, by omega⟩) := by
  refine shapeCast_apply (extf .f32 A bitsLt_bf16_f32) _ _ (ix4 ⟨4 * k.val + h.val, by omega⟩ T r ⟨s.val * 128 + e.val, by omega⟩) ?_
  rw [Shape.rowMajor_val_four, Shape.rowMajor_val_four]
  show ((((4 * k.val + h.val) * 32) + T.val) * 128 + r.val) * 512 + (s.val * 128 + e.val) = ((k.val * 4 + h.val) * 16384 + ((T.val * 128 + r.val) * 4 + s.val)) * 128 + e.val
  omega

/-- Row `t` of a part of the argument, as reals. -/
def line (A : FVec Ideal S12x32x128x512 .bf16) (k : Fin 3) (h : Fin 4) (t : ℕ) (e : Fin 128) : ℝ :=
  Cert.Dil4Ideal.Hand.lane A k h ⟨t % 4, Nat.mod_lt _ (by decide)⟩ (t / 4) e

theorem line_lane (A : FVec Ideal S12x32x128x512 .bf16) (k : Fin 3) (h : Fin 4) (s : Fin 4) :
    (fun u => line A k h (u * 4 + s.val)) = Cert.Dil4Ideal.Hand.lane A k h s := by
  funext u e
  unfold line
  have h1 : (⟨(u * 4 + s.val) % 4, Nat.mod_lt _ (by decide)⟩ : Fin 4) = s := Fin.ext (by show (u * 4 + s.val) % 4 = s.val; omega)
  have h2 : (u * 4 + s.val) / 4 = u := by omega
  rw [h1, h2]

theorem seq_line (A : FVec Ideal S12x32x128x512 .bf16) (hf : Cert.Dil4Ideal.Hand.Finite A) (k : Fin 3) (h : Fin 4) (t : Fin 16384) (e : Fin 128) :
    seq A (ix4 k h t e) = ((line A k h t.val e : ℝ) : EReal) := by
  obtain ⟨T, r, s, rfl⟩ : ∃ (T : Fin 32) (r : Fin 128) (s : Fin 4), t = pos T r s :=
    ⟨⟨t.val / 4 / 128, by omega⟩, ⟨t.val / 4 % 128, by omega⟩, ⟨t.val % 4, by omega⟩, Fin.ext (by
      show t.val = (t.val / 4 / 128 * 128 + t.val / 4 % 128) * 4 + t.val % 4
      omega)⟩
  rw [seq_at, Cert.Dil4Ideal.Hand.lane_eq A hf k h s T r e _ rfl]
  exact congrArg (fun x : ℝ => (x : EReal)) (congrFun (congrFun (line_lane A k h s) (T.val * 128 + r.val)) e).symm

theorem part0_line (A : FVec Ideal S12x32x128x512 .bf16) (hf : Cert.Dil4Ideal.Hand.Finite A) (h : Fin 4) (t : Fin 16384) (e : Fin 128) :
    DilRef.part0 (seq A) (ix3 h t e) = ((line A 0 h t.val e : ℝ) : EReal) := (DilRef.part0_at _ h t e).trans (seq_line A hf 0 h t e)
theorem part1_line (A : FVec Ideal S12x32x128x512 .bf16) (hf : Cert.Dil4Ideal.Hand.Finite A) (h : Fin 4) (t : Fin 16384) (e : Fin 128) :
    DilRef.part1 (seq A) (ix3 h t e) = ((line A 1 h t.val e : ℝ) : EReal) := (DilRef.part1_at _ h t e).trans (seq_line A hf 1 h t e)
theorem part2_line (A : FVec Ideal S12x32x128x512 .bf16) (hf : Cert.Dil4Ideal.Hand.Finite A) (h : Fin 4) (t : Fin 16384) (e : Fin 128) :
    DilRef.part2 (seq A) (ix3 h t e) = ((line A 2 h t.val e : ℝ) : EReal) := (DilRef.part2_at _ h t e).trans (seq_line A hf 2 h t e)

/-- The plain program's first result over finite arguments: the softmax means. -/
theorem mean_at (hf : Cert.Dil4Ideal.Hand.Finite (arg m c)) (T : Fin 32) (r : Fin 128) (s : Fin 4) (h : Fin 4) (d : Fin 128) :
    (res_out0 m c : FVec Ideal S32x128x2048 .bf16) (ix3 T r ⟨s.val * 512 + h.val * 128 + d.val, by omega⟩)
      = ((DilTile.Md (Cert.Dil4Ideal.Hand.lane (arg m c) 0 h s (T.val * 128 + r.val)) (Cert.Dil4Ideal.Hand.lane (arg m c) 1 h s)
          (Cert.Dil4Ideal.Hand.lane (arg m c) 2 h s) (T.val * 128 + r.val) d : ℝ) : EReal) := by
  refine (congrFun (out0_eq m c) _).trans ?_
  refine (narrow_at _ _).trans ?_
  refine (out_at _ T r s h d).trans ?_
  refine (DilRef.mean_real 4 (by decide) _ _ _ h (pos T r s) (line (arg m c) 0 h (pos T r s).val) (line (arg m c) 1 h) (line (arg m c) 2 h)
    (T.val * 128 + r.val) s.val s.isLt rfl (fun e => part0_line _ hf h _ e) (fun t e => part1_line _ hf h t e) (fun t e => part2_line _ hf h t e) d).trans ?_
  have h0 : line (arg m c) 0 h (pos T r s).val = Cert.Dil4Ideal.Hand.lane (arg m c) 0 h s (T.val * 128 + r.val) :=
    congrFun (line_lane (arg m c) 0 h s) (T.val * 128 + r.val)
  rw [h0, line_lane, line_lane]

/-- The plain program's second result over finite arguments: the log-sum-exps. -/
theorem lse_at (hf : Cert.Dil4Ideal.Hand.Finite (arg m c)) (T : Fin 32) (r : Fin 128) (s : Fin 4) (h : Fin 4) (d : Fin 128) :
    (res_out1 m c : FVec Ideal S32x128x2048 .f32) (ix3 T r ⟨s.val * 512 + h.val * 128 + d.val, by omega⟩)
      = ((Real.log (DilTile.Zd (Cert.Dil4Ideal.Hand.lane (arg m c) 0 h s (T.val * 128 + r.val)) (Cert.Dil4Ideal.Hand.lane (arg m c) 1 h s)
          (T.val * 128 + r.val)) : ℝ) : EReal) := by
  refine (congrFun (out1_eq m c) _).trans ?_
  refine (out_at _ T r s h d).trans ?_
  refine (DilRef.lses_at _ _ _ h (pos T r s) d).trans ?_
  refine (DilRef.lse_real 4 (by decide) _ _ h (pos T r s) (line (arg m c) 0 h (pos T r s).val) (line (arg m c) 1 h)
    (T.val * 128 + r.val) s.val s.isLt rfl (fun e => part0_line _ hf h _ e) (fun t e => part1_line _ hf h t e)).trans ?_
  have h0 : line (arg m c) 0 h (pos T r s).val = Cert.Dil4Ideal.Hand.lane (arg m c) 0 h s (T.val * 128 + r.val) :=
    congrFun (line_lane (arg m c) 0 h s) (T.val * 128 + r.val)
  rw [h0, line_lane]

end Cert.Dil4RefIdeal.Hand

namespace Cert.Proof.Dil4

open Idealize.ShloMosaic Idealize.ShloMosaic.TcCoe Idealize.SL.Sem

/-- The precondition says that every entry is a real number. -/
theorem finite_of_pre [Cert.Pre_finite4.Facts] (A : FVec Ideal Cert.Dil4Ideal.S12x32x128x512 .bf16) (h : Cert.Pre_finite4.fn (F := Ideal) A = fun _ => 1#1) :
    Cert.Dil4Ideal.Hand.Finite A := by
  intro i
  have hi : BitVec.ofBool (decide (max (A i : EReal) (-(A i : EReal)) < Ideal.ofBits .f32 0x7F800000#32)) = 1#1 := congrFun h i
  rw [show Ideal.ofBits .f32 0x7F800000#32 = ⊤ by simp [Ideal.ofBits, Ideal.ieee]] at hi
  have hlt : max (A i : EReal) (-(A i : EReal)) < ⊤ := by
    by_contra hn
    rw [decide_eq_false hn] at hi
    exact absurd hi (by decide)
  have h1 := lt_of_le_of_lt (le_max_left _ _) hlt
  have h2 := lt_of_le_of_lt (le_max_right _ _) hlt
  refine (EReal.coe_toReal h1.ne ?_).symm
  intro hb
  rw [hb] at h2
  exact absurd h2 (by simp)

/-- The attention at dilation 4 over finite arguments: kernel and plain program compute the same two arrays over the reals. -/
theorem algebraic [Cert.Pre_finite4.Facts] : Cert.algebraic_Dil4Ideal_Dil4RefIdeal_pre_finite4 := by
  intro m ρ m' ρ' hpre hag
  have hf : ∀ c, Cert.Dil4Ideal.Hand.Finite (Cert.Dil4Ideal.Hand.arg m c) := fun c => finite_of_pre _ (hpre c)
  have ha : ∀ c, Cert.Dil4RefIdeal.Hand.arg m' c = Cert.Dil4Ideal.Hand.arg m c := fun c => hag c
  have hsplit : ∀ i : Fin 2048, ∃ (s : Fin 4) (h : Fin 4) (d : Fin 128), i = ⟨s.val * 512 + h.val * 128 + d.val, by omega⟩ := fun i =>
    ⟨⟨i.val / 512, by omega⟩, ⟨i.val % 512 / 128, by omega⟩, ⟨i.val % 128, by omega⟩, Fin.ext (by
      show i.val = i.val / 512 * 512 + i.val % 512 / 128 * 128 + i.val % 128
      omega)⟩
  refine ⟨_, _, Cert.Dil4Ideal.Value.run_blocks m ρ,
    (θ_run _ _ _).mono (fun _ h c => ⟨(h c).1.trans ?_, (h c).2.1.trans ?_, (h c).2.2⟩) (Cert.Dil4RefIdeal.Value.run m' ρ')⟩
  · funext i
    obtain ⟨T, r, x, rfl⟩ : ∃ (T : Fin 32) (r : Fin 128) (x : Fin 2048), i = ix3 T r x := ⟨i 0, i 1, i 2, eq_ix3 i⟩
    obtain ⟨s, h, d, rfl⟩ := hsplit x
    refine (Cert.Dil4RefIdeal.Hand.mean_at m' c ((ha c).symm ▸ hf c) T r s h d).trans ?_
    rw [ha]
    exact (Cert.Dil4Ideal.Hand.mean_at m c (hf c) T r s h d).symm
  · funext i
    obtain ⟨T, r, x, rfl⟩ : ∃ (T : Fin 32) (r : Fin 128) (x : Fin 2048), i = ix3 T r x := ⟨i 0, i 1, i 2, eq_ix3 i⟩
    obtain ⟨s, h, d, rfl⟩ := hsplit x
    refine (Cert.Dil4RefIdeal.Hand.lse_at m' c ((ha c).symm ▸ hf c) T r s h d).trans ?_
    rw [ha]
    exact (Cert.Dil4Ideal.Hand.lse_at m c (hf c) T r s h d).symm

end Cert.Proof.Dil4
-- ==== Proof.Dil16Ker.lean ====
module

public import proofs.«01_k».proof.Proof.Gen.Dil16Ideal.Value
public import proofs.«01_k».proof.Proof.DilTile

@[expose] public section

set_option maxRecDepth 16384

noncomputable section

namespace Cert.Dil16Ideal.Hand

open Cert.Dil16Ideal Cert.Dil16Ideal.Gen Cert.Dil16Ideal.Value Cert.DilTile Idealize.ShloMosaic Idealize.ShloMosaic.TcCoe Idealize.SL.Sem

variable (m : (ℓ : Loc nD τ sig) → Buf (Elt Ideal) ℓ)

/-- Whether a step is not the first of its residue. -/
def later (t : Fin cfg0.N) : BitVec 1 := BitVec.ofBool (decide (t.val % 2 ≠ 0))

theorem pay5_eq (t : Fin cfg0.N) : k0_pay5 (grid0.coords t) = mask5 (later t) := by
  have h : ∀ t : Fin cfg0.N, Scalar.xori
          (Scalar.cmpi CmpIPredicate.eq
            (Scalar.select
              (Scalar.andi
                (Scalar.xori
                  (Scalar.cmpi CmpIPredicate.slt
                    (Scalar.remsi (BitVec.ofNat 32 (grid0.coords t 0).val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (Scalar.cmpi CmpIPredicate.ne
                  (Scalar.remsi (BitVec.ofNat 32 (grid0.coords t 0).val)
                    (Scalar.select (Scalar.cmpi CmpIPredicate.eq 2#32 0#32) 1#32 2#32))
                  0#32))
              (Scalar.addi
                (Scalar.remsi (BitVec.ofNat 32 (grid0.coords t 0).val)
                  (Scalar.select (Scalar.cmpi CmpIPredicate.eq 2#32 0#32) 1#32 2#32))
                (Scalar.select (Scalar.cmpi CmpIPredicate.eq 2#32 0#32) 1#32 2#32))
              (Scalar.remsi (BitVec.ofNat 32 (grid0.coords t 0).val)
                (Scalar.select (Scalar.cmpi CmpIPredicate.eq 2#32 0#32) 1#32 2#32)))
            0#32)
          1#1 = later t :=
    (by decide +kernel : ∀ t : Fin grid0.N, _ = BitVec.ofBool (decide (t.val % 2 ≠ 0)))
  unfold mask5
  rw [← h t]
  rfl

theorem out5_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_5 (grid0.coords t) x0 x1 x2 x3 x4 = blkO (mask5 (later t)) Cert.Dil16Ideal.Gen.k0_pay4 x0 x1 x2 x3 x4 := by
  rw [← pay5_eq]
  rfl

theorem out6_eq (t : Fin cfg0.N) (x0 : Vec Ideal S4x4x128x128 .bf16) (x1 : Vec Ideal S4x1x128x128 .bf16)
    (x2 : Vec Ideal S4x4x128x128 .bf16) (x3 : Vec Ideal S4x1x128x128 .bf16) (x4 : Vec Ideal S4x4x128x128 .bf16) :
    out0_6 (grid0.coords t) x0 x1 x2 x3 x4 = blkL (mask5 (later t)) Cert.Dil16Ideal.Gen.k0_pay4 x0 x1 x2 := by
  rw [← pay5_eq]
  rfl

theorem index_facts : ∀ t : Fin cfg0.N,
    (win0_0.index t (0 : Fin 4) = 0 ∧ win0_0.index t (1 : Fin 4) = t.val % 2 ∧ win0_0.index t (2 : Fin 4) = 0 ∧ win0_0.index t (3 : Fin 4) = t.val / 2)
    ∧ (win0_1.index t (0 : Fin 4) = 1 ∧ win0_1.index t (1 : Fin 4) = 4 * (t.val % 2) - 1 ∧ win0_1.index t (2 : Fin 4) = 0 ∧ win0_1.index t (3 : Fin 4) = t.val / 2)
    ∧ (win0_2.index t (0 : Fin 4) = 1 ∧ win0_2.index t (1 : Fin 4) = t.val % 2 ∧ win0_2.index t (2 : Fin 4) = 0 ∧ win0_2.index t (3 : Fin 4) = t.val / 2)
    ∧ (win0_3.index t (0 : Fin 4) = 2 ∧ win0_3.index t (1 : Fin 4) = 4 * (t.val % 2) - 1 ∧ win0_3.index t (2 : Fin 4) = 0 ∧ win0_3.index t (3 : Fin 4) = t.val / 2)
    ∧ (win0_4.index t (0 : Fin 4) = 2 ∧ win0_4.index t (1 : Fin 4) = t.val % 2 ∧ win0_4.index t (2 : Fin 4) = 0 ∧ win0_4.index t (3 : Fin 4) = t.val / 2)
    ∧ (win0_5.index t (0 : Fin 3) = t.val % 2 ∧ win0_5.index t (1 : Fin 3) = 0 ∧ win0_5.index t (2 : Fin 3) = t.val / 2)
    ∧ (win0_6.index t (0 : Fin 3) = t.val % 2 ∧ win0_6.index t (1 : Fin 3) = 0 ∧ win0_6.index t (2 : Fin 3) = t.val / 2)
    ∧ win0_5.flush t = true ∧ win0_6.flush t = true :=
  (by decide +kernel : ∀ t : Fin grid0.N,
    (win0_0.index t (0 : Fin 4) = 0 ∧ win0_0.index t (1 : Fin 4) = t.val % 2 ∧ win0_0.index t (2 : Fin 4) = 0 ∧ win0_0.index t (3 : Fin 4) = t.val / 2)
    ∧ (win0_1.index t (0 : Fin 4) = 1 ∧ win0_1.index t (1 : Fin 4) = 4 * (t.val % 2) - 1 ∧ win0_1.index t (2 : Fin 4) = 0 ∧ win0_1.index t (3 : Fin 4) = t.val / 2)
    ∧ (win0_2.index t (0 : Fin 4) = 1 ∧ win0_2.index t (1 : Fin 4) = t.val % 2 ∧ win0_2.index t (2 : Fin 4) = 0 ∧ win0_2.index t (3 : Fin 4) = t.val / 2)
    ∧ (win0_3.index t (0 : Fin 4) = 2 ∧ win0_3.index t (1 : Fin 4) = 4 * (t.val % 2) - 1 ∧ win0_3.index t (2 : Fin 4) = 0 ∧ win0_3.index t (3 : Fin 4) = t.val / 2)
    ∧ (win0_4.index t (0 : Fin 4) = 2 ∧ win0_4.index t (1 : Fin 4) = t.val % 2 ∧ win0_4.index t (2 : Fin 4) = 0 ∧ win0_4.index t (3 : Fin 4) = t.val / 2)
    ∧ (win0_5.index t (0 : Fin 3) = t.val % 2 ∧ win0_5.index t (1 : Fin 3) = 0 ∧ win0_5.index t (2 : Fin 3) = t.val / 2)
    ∧ (win0_6.index t (0 : Fin 3) = t.val % 2 ∧ win0_6.index t (1 : Fin 3) = 0 ∧ win0_6.index t (2 : Fin 3) = t.val / 2)
    ∧ win0_5.flush t = true ∧ win0_6.flush t = true)

/-- The call's argument: queries, keys and values, four heads each, tiles of 128 positions of one residue. -/
abbrev arg (c : Dev nD) : FVec Ideal S12x8x128x2048 .bf16 := m ((c : Thread nD τ).loc main_arg0)

/-- Lane `e` of head `h` of part `k` at place `u` of the residue `s`. -/
def lane (A : FVec Ideal S12x8x128x2048 .bf16) (k : Fin 3) (h : Fin 4) (s : Fin 16) (u : ℕ) (e : Fin 128) : ℝ :=
  (A (ix4 ⟨4 * k.val + h.val, by omega⟩ ⟨u / 128 % 8, Nat.mod_lt _ (by decide)⟩ ⟨u % 128, Nat.mod_lt _ (by decide)⟩
    ⟨s.val * 128 + e.val, by omega⟩)).toReal

/-- Every entry of the argument is finite. -/
def Finite (A : FVec Ideal S12x8x128x2048 .bf16) : Prop := ∀ i, A i = ((A i).toReal : EReal)

theorem lane_eq (A : FVec Ideal S12x8x128x2048 .bf16) (hf : Finite A) (k : Fin 3) (h : Fin 4) (s : Fin 16) (T : Fin 8) (y e : Fin 128)
    (i : (S12x8x128x2048).Idx) (hi : i = ix4 ⟨4 * k.val + h.val, by omega⟩ T y ⟨s.val * 128 + e.val, by omega⟩) :
    A i = ((lane A k h s (T.val * 128 + y.val) e : ℝ) : EReal) := by
  rw [hf i, hi]
  have := y.isLt
  have := T.isLt
  have h1 : (⟨(T.val * 128 + y.val) / 128 % 8, Nat.mod_lt _ (by decide)⟩ : Fin 8) = T := Fin.ext (by show (T.val * 128 + y.val) / 128 % 8 = T.val; omega)
  have h2 : (⟨(T.val * 128 + y.val) % 128, Nat.mod_lt _ (by decide)⟩ : Fin 128) = y := Fin.ext (by show (T.val * 128 + y.val) % 128 = y.val; omega)
  unfold lane
  rw [h1, h2]

/-- A lane of a window's block, whole tiles: the place is the block's and the lane the step's residue's. -/
theorem blk0_at (c : Dev nD) (hf : Finite (arg m c)) (t : Fin cfg0.N) (s : Fin 16) (hs : t.val / 2 = s.val) (h j : Fin 4) (y e : Fin 128) :
    (iblk m c 0 t : Vec Ideal S4x4x128x128 .bf16) (ix4 h j y e) = ((lane (arg m c) 0 h s ((4 * (t.val % 2) + j.val) * 128 + y.val) e : ℝ) : EReal) := by
  have hi := (index_facts t).1
  unfold iblk
  rw [View.read_apply]
  refine lane_eq (arg m c) hf 0 h s ⟨4 * (t.val % 2) + j.val, by omega⟩ y e _ ?_
  funext a
  apply Fin.ext
  match a with
  | ⟨0, _⟩ => show win0_0.index t 0 * 4 + 1 * h.val = 4 * 0 + h.val; rw [hi.1]; omega
  | ⟨1, _⟩ => show win0_0.index t 1 * 4 + 1 * j.val = 4 * (t.val % 2) + j.val; rw [hi.2.1]; omega
  | ⟨2, _⟩ => show win0_0.index t 2 * 128 + 1 * y.val = y.val; rw [hi.2.2.1]; omega
  | ⟨3, _⟩ => show win0_0.index t 3 * 128 + 1 * e.val = s.val * 128 + e.val; rw [hi.2.2.2]; omega

theorem blk2_at (c : Dev nD) (hf : Finite (arg m c)) (t : Fin cfg0.N) (s : Fin 16) (hs : t.val / 2 = s.val) (h j : Fin 4) (y e : Fin 128) :
    (iblk m c 2 t : Vec Ideal S4x4x128x128 .bf16) (ix4 h j y e) = ((lane (arg m c) 1 h s ((4 * (t.val % 2) + j.val) * 128 + y.val) e : ℝ) : EReal) := by
  have hi := (index_facts t).2.2.1
  unfold iblk
  rw [View.read_apply]
  refine lane_eq (arg m c) hf 1 h s ⟨4 * (t.val % 2) + j.val, by omega⟩ y e _ ?_
  funext a
  apply Fin.ext
  match a with
  | ⟨0, _⟩ => show win0_2.index t 0 * 4 + 1 * h.val = 4 * 1 + h.val; rw [hi.1]; omega
  | ⟨1, _⟩ => show win0_2.index t 1 * 4 + 1 * j.val = 4 * (t.val % 2) + j.val; rw [hi.2.1]; omega
  | ⟨2, _⟩ => show win0_2.index t 2 * 128 + 1 * y.val = y.val; rw [hi.2.2.1]; omega
  | ⟨3, _⟩ => show win0_2.index t 3 * 128 + 1 * e.val = s.val * 128 + e.val; rw [hi.2.2.2]; omega

theorem blk4_at (c : Dev nD) (hf : Finite (arg m c)) (t : Fin cfg0.N) (s : Fin 16) (hs : t.val / 2 = s.val) (h j : Fin 4) (y e : Fin 128) :
    (iblk m c 4 t : Vec Ideal S4x4x128x128 .bf16) (ix4 h j y e) = ((lane (arg m c) 2 h s ((4 * (t.val % 2) + j.val) * 128 + y.val) e : ℝ) : EReal) := by
  have hi := (index_facts t).2.2.2.2.1
  unfold iblk
  rw [View.read_apply]
  refine lane_eq (arg m c) hf 2 h s ⟨4 * (t.val % 2) + j.val, by omega⟩ y e _ ?_
  funext a
  apply Fin.ext
  match a with
  | ⟨0, _⟩ => show win0_4.index t 0 * 4 + 1 * h.val = 4 * 2 + h.val; rw [hi.1]; omega
  | ⟨1, _⟩ => show win0_4.index t 1 * 4 + 1 * j.val = 4 * (t.val % 2) + j.val; rw [hi.2.1]; omega
  | ⟨2, _⟩ => show win0_4.index t 2 * 128 + 1 * y.val = y.val; rw [hi.2.2.1]; omega
  | ⟨3, _⟩ => show win0_4.index t 3 * 128 + 1 * e.val = s.val * 128 + e.val; rw [hi.2.2.2]; omega

theorem prev1_at (c : Dev nD) (hf : Finite (arg m c)) (t : Fin cfg0.N) (s : Fin 16) (hs : t.val / 2 = s.val) (h j : Fin 4) (y e : Fin 128) :
    prev (iblk m c 1 t) (iblk m c 2 t) j h y e = ((lane (arg m c) 1 h s ((4 * (t.val % 2) + j.val - 1) * 128 + y.val) e : ℝ) : EReal) := by
  unfold prev
  split_ifs with h0
  · have hi := (index_facts t).2.1
    unfold iblk
    rw [View.read_apply]
    have hT : 4 * (t.val % 2) + j.val - 1 < 8 := by omega
    refine lane_eq (arg m c) hf 1 h s ⟨4 * (t.val % 2) + j.val - 1, hT⟩ y e _ ?_
    funext a
    apply Fin.ext
    match a with
    | ⟨0, _⟩ => show win0_1.index t 0 * 4 + 1 * h.val = 4 * 1 + h.val; rw [hi.1]; omega
    | ⟨1, _⟩ => show win0_1.index t 1 * 1 + 1 * 0 = 4 * (t.val % 2) + j.val - 1; rw [hi.2.1]; omega
    | ⟨2, _⟩ => show win0_1.index t 2 * 128 + 1 * y.val = y.val; rw [hi.2.2.1]; omega
    | ⟨3, _⟩ => show win0_1.index t 3 * 128 + 1 * e.val = s.val * 128 + e.val; rw [hi.2.2.2]; omega
  · refine (blk2_at m c hf t s hs h ⟨j.val - 1, by omega⟩ y e).trans ?_
    have : 4 * (t.val % 2) + (j.val - 1) = 4 * (t.val % 2) + j.val - 1 := by omega
    show ((lane (arg m c) 1 h s ((4 * (t.val % 2) + (j.val - 1)) * 128 + y.val) e : ℝ) : EReal) = _
    rw [this]

theorem prev3_at (c : Dev nD) (hf : Finite (arg m c)) (t : Fin cfg0.N) (s : Fin 16) (hs : t.val / 2 = s.val) (h j : Fin 4) (y e : Fin 128) :
    prev (iblk m c 3 t) (iblk m c 4 t) j h y e = ((lane (arg m c) 2 h s ((4 * (t.val % 2) + j.val - 1) * 128 + y.val) e : ℝ) : EReal) := by
  unfold prev
  split_ifs with h0
  · have hi := (index_facts t).2.2.2.1
    unfold iblk
    rw [View.read_apply]
    have hT : 4 * (t.val % 2) + j.val - 1 < 8 := by omega
    refine lane_eq (arg m c) hf 2 h s ⟨4 * (t.val % 2) + j.val - 1, hT⟩ y e _ ?_
    funext a
    apply Fin.ext
    match a with
    | ⟨0, _⟩ => show win0_3.index t 0 * 4 + 1 * h.val = 4 * 2 + h.val; rw [hi.1]; omega
    | ⟨1, _⟩ => show win0_3.index t 1 * 1 + 1 * 0 = 4 * (t.val % 2) + j.val - 1; rw [hi.2.1]; omega
    | ⟨2, _⟩ => show win0_3.index t 2 * 128 + 1 * y.val = y.val; rw [hi.2.2.1]; omega
    | ⟨3, _⟩ => show win0_3.index t 3 * 128 + 1 * e.val = s.val * 128 + e.val; rw [hi.2.2.2]; omega
  · refine (blk4_at m c hf t s hs h ⟨j.val - 1, by omega⟩ y e).trans ?_
    have : 4 * (t.val % 2) + (j.val - 1) = 4 * (t.val % 2) + j.val - 1 := by omega
    show ((lane (arg m c) 2 h s ((4 * (t.val % 2) + (j.val - 1)) * 128 + y.val) e : ℝ) : EReal) = _
    rw [this]

theorem masks (t : Fin cfg0.N) (j : Fin 4) (r : Fin 128) (x : Fin 256) :
    (if j.val = 0 then mask5 (later t) else Cert.Dil16Ideal.Gen.k0_pay4) (ix2 r x) = 1#1 ↔ adm (4 * (t.val % 2) + j.val) r x := by
  unfold adm
  split_ifs with h0
  · rw [mask5_at]
    have hl : later t = 1#1 ↔ t.val % 2 ≠ 0 := by
      unfold later
      by_cases h : t.val % 2 ≠ 0
      · simp [h]
      · simp [h]
    rw [hl]
    constructor
    · rintro ⟨⟨h1, h2⟩, h3⟩
      exact ⟨h1, h2, fun h4 => by omega⟩
    · rintro ⟨h1, h2, h3⟩
      refine ⟨⟨h1, h2⟩, ?_⟩
      by_cases h : t.val % 2 = 0
      · exact Or.inr (h3 (by omega))
      · exact Or.inl h
  · rw [mask4]
    exact ⟨fun h => ⟨h.1, h.2, fun h4 => by omega⟩, fun h => ⟨h.1, h.2.1⟩⟩

/-- The step that computes tile `T` of residue `s`. -/
def stepOf (T : Fin 8) (s : Fin 16) : Fin cfg0.N := ⟨s.val * 2 + T.val / 4, by have hN : cfg0.N = 32 := N_0; have := T.isLt; have := s.isLt; omega⟩

theorem stepOf_mod (T : Fin 8) (s : Fin 16) : (stepOf T s).val % 2 = T.val / 4 := by
  show (s.val * 2 + T.val / 4) % 2 = _
  have := T.isLt
  omega

theorem stepOf_div (T : Fin 8) (s : Fin 16) : (stepOf T s).val / 2 = s.val := by
  show (s.val * 2 + T.val / 4) / 2 = _
  have := T.isLt
  omega

/-- The kernel's first output over finite arguments: the softmax means. -/
theorem mean_at (c : Dev nD) (hf : Finite (arg m c)) (T : Fin 8) (r : Fin 128) (s : Fin 16) (h : Fin 4) (d : Fin 128) :
    ((dats m 0 c).arrAt 5 cfg0.N : FVec Ideal S8x128x8192 .bf16) (ix3 T r ⟨s.val * 512 + h.val * 128 + d.val, by omega⟩)
      = ((Md (lane (arg m c) 0 h s (T.val * 128 + r.val)) (lane (arg m c) 1 h s) (lane (arg m c) 2 h s) (T.val * 128 + r.val) d : ℝ) : EReal) := by
  have hm := stepOf_mod T s
  have hd := stepOf_div T s
  have hi := (index_facts (stepOf T s)).2.2.2.2.2.1
  have hb := congrFun (blocks5 m c (stepOf T s) (index_facts (stepOf T s)).2.2.2.2.2.2.2.1)
    (ix3 (⟨T.val % 4, Nat.mod_lt _ (by decide)⟩ : Fin 4) r (⟨h.val * 128 + d.val, by omega⟩ : Fin 512))
  rw [View.read_apply] at hb
  have hT : 4 * ((stepOf T s).val % 2) + T.val % 4 = T.val := by rw [hm]; omega
  refine Eq.trans ?_ (hb.trans ?_)
  · congr 1
    funext a
    apply Fin.ext
    match a with
    | ⟨0, _⟩ => show T.val = win0_5.index (stepOf T s) 0 * 4 + 1 * (T.val % 4); rw [hi.1, hm]; omega
    | ⟨1, _⟩ => show r.val = win0_5.index (stepOf T s) 1 * 128 + 1 * r.val; rw [hi.2.1]; omega
    | ⟨2, _⟩ => show s.val * 512 + h.val * 128 + d.val = win0_5.index (stepOf T s) 2 * 512 + 1 * (h.val * 128 + d.val); rw [hi.2.2, hd]; omega
  · rw [flushed5]
    show out0_5 (grid0.coords (stepOf T s)) _ _ _ _ _ (ix3 (⟨T.val % 4, Nat.mod_lt _ (by decide)⟩ : Fin 4) r (⟨h.val * 128 + d.val, by omega⟩ : Fin 512)) = _
    rw [out5_eq, blkO_at]
    generalize stepOf T s = t at hm hd hT
    refine (meanAt_real (mask5 (later t)) Cert.Dil16Ideal.Gen.k0_pay4 (iblk m c 0 t) (iblk m c 1 t) (iblk m c 2 t) (iblk m c 3 t) (iblk m c 4 t)
      (4 * (t.val % 2) + T.val % 4) ⟨T.val % 4, Nat.mod_lt _ (by decide)⟩ h r d (lane (arg m c) 0 h s (T.val * 128 + r.val))
      (lane (arg m c) 1 h s) (lane (arg m c) 2 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)
      (fun y e => prev3_at m c hf t s hd h ⟨T.val % 4, Nat.mod_lt _ (by decide)⟩ y e) (fun y e => blk4_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 2) + T.val % 4) * 128 + r.val) e : ℝ) : EReal) = _
      rw [hT]
    · rw [hT]

/-- The kernel's second output over finite arguments: the log-sum-exps. -/
theorem lse_at (c : Dev nD) (hf : Finite (arg m c)) (T : Fin 8) (r : Fin 128) (s : Fin 16) (h : Fin 4) (d : Fin 128) :
    ((dats m 0 c).arrAt 6 cfg0.N : FVec Ideal S8x128x8192 .f32) (ix3 T r ⟨s.val * 512 + h.val * 128 + d.val, by omega⟩)
      = ((Real.log (Zd (lane (arg m c) 0 h s (T.val * 128 + r.val)) (lane (arg m c) 1 h s) (T.val * 128 + r.val)) : ℝ) : EReal) := by
  have hm := stepOf_mod T s
  have hd := stepOf_div T s
  have hi := (index_facts (stepOf T s)).2.2.2.2.2.2.1
  have hb := congrFun (blocks6 m c (stepOf T s) (index_facts (stepOf T s)).2.2.2.2.2.2.2.2)
    (ix3 (⟨T.val % 4, Nat.mod_lt _ (by decide)⟩ : Fin 4) r (⟨h.val * 128 + d.val, by omega⟩ : Fin 512))
  rw [View.read_apply] at hb
  have hT : 4 * ((stepOf T s).val % 2) + T.val % 4 = T.val := by rw [hm]; omega
  refine Eq.trans ?_ (hb.trans ?_)
  · congr 1
    funext a
    apply Fin.ext
    match a with
    | ⟨0, _⟩ => show T.val = win0_6.index (stepOf T s) 0 * 4 + 1 * (T.val % 4); rw [hi.1, hm]; omega
    | ⟨1, _⟩ => show r.val = win0_6.index (stepOf T s) 1 * 128 + 1 * r.val; rw [hi.2.1]; omega
    | ⟨2, _⟩ => show s.val * 512 + h.val * 128 + d.val = win0_6.index (stepOf T s) 2 * 512 + 1 * (h.val * 128 + d.val); rw [hi.2.2, hd]; omega
  · rw [flushed6]
    show out0_6 (grid0.coords (stepOf T s)) _ _ _ _ _ (ix3 (⟨T.val % 4, Nat.mod_lt _ (by decide)⟩ : Fin 4) r (⟨h.val * 128 + d.val, by omega⟩ : Fin 512)) = _
    rw [out6_eq, blkL_at]
    generalize stepOf T s = t at hm hd hT
    refine (lseAt_real (mask5 (later t)) Cert.Dil16Ideal.Gen.k0_pay4 (iblk m c 0 t) (iblk m c 1 t) (iblk m c 2 t)
      (4 * (t.val % 2) + T.val % 4) ⟨T.val % 4, Nat.mod_lt _ (by decide)⟩ h r (lane (arg m c) 0 h s (T.val * 128 + r.val))
      (lane (arg m c) 1 h s) (masks t ⟨T.val % 4, Nat.mod_lt _ (by decide)⟩ r) (fun e => ?_)
      (fun y e => prev1_at m c hf t s hd h ⟨T.val % 4, Nat.mod_lt _ (by decide)⟩ y e) (fun y e => blk2_at m c hf t s hd h ⟨T.val % 4, Nat.mod_lt _ (by decide)⟩ y e)).trans ?_
    · refine (blk0_at m c hf t s hd h ⟨T.val % 4, Nat.mod_lt _ (by decide)⟩ r e).trans ?_
      show ((lane (arg m c) 0 h s ((4 * (t.val % 2) + T.val % 4) * 128 + r.val) e : ℝ) : EReal) = _
      rw [hT]
    · rw [hT]

end Cert.Dil16Ideal.Hand
-- ==== Proof.Dil16Claim.lean ====
module

public import proofs.«01_k».proof.Defs
public import proofs.«01_k».proof.Proof.Gen.Dil16RefIdeal.Run
public import proofs.«01_k».proof.Proof.Dil16Ker
public import proofs.«01_k».proof.Proof.DilRef

@[expose] public section

set_option maxRecDepth 16384

noncomputable section

namespace Cert.Dil16RefIdeal.Hand

open Cert.Dil16RefIdeal Cert.Dil16RefIdeal.Gen Cert.Dil16RefIdeal.Value Idealize.ShloMosaic Idealize.ShloMosaic.TcCoe Idealize.SL.Sem

variable (m : (ℓ : Loc nD τ sig) → Buf (Elt Ideal) ℓ) (c : Dev nD)

/-- The argument: queries, keys and values, split by position modulo the dilation. -/
def arg : FVec Ideal S12x8x128x2048 .bf16 := m ((c.tc : Thread nD τ).loc main_arg0)

/-- The argument with its positions back in sequence. -/
def seq (A : FVec Ideal S12x8x128x2048 .bf16) : FVec Ideal S3x4x16384x128 .f32 :=
  shapeCast _ (extf .f32 A bitsLt_bf16_f32) shapeCasts_S12x8x128x2048_S3x4x16384x128

theorem out0_eq : res_out0 m c = truncf .bf16 (shapeCast S8x128x8192 (DilRef.mean (BitVec.ofNat 32 16) (DilRef.part0 (seq (arg m c))) (DilRef.part1 (seq (arg m c))) (DilRef.part2 (seq (arg m c))))
    shapeCasts_S16384x4x128_S8x128x8192) bitsLt_bf16_f32 := rfl

theorem out1_eq : res_out1 m c = shapeCast S8x128x8192 (DilRef.lses (BitVec.ofNat 32 16) (DilRef.part0 (seq (arg m c))) (DilRef.part1 (seq (arg m c))))
    shapeCasts_S16384x4x128_S8x128x8192 := rfl

/-- The position of lane position `T * 128 + r` of residue `s`. -/
def pos (T : Fin 8) (r : Fin 128) (s : Fin 16) : Fin 16384 := ⟨(T.val * 128 + r.val) * 16 + s.val, by omega⟩

theorem out_at (x : FVec Ideal S16384x4x128 .f32) (T : Fin 8) (r : Fin 128) (s : Fin 16) (h : Fin 4) (d : Fin 128) :
    (shapeCast S8x128x8192 x shapeCasts_S16384x4x128_S8x128x8192) (ix3 T r ⟨s.val * 512 + h.val * 128 + d.val, by omega⟩) = x (ix3 (pos T r s) h d) := by
  refine shapeCast_apply x _ _ _ ?_
  rw [Shape.rowMajor_val_three, Shape.rowMajor_val_three]
  show (((T.val * 128 + r.val) * 16 + s.val) * 4 + h.val) * 128 + d.val = (T.val * 128 + r.val) * 8192 + (s.val * 512 + h.val * 128 + d.val)
  omega

theorem narrow_at (x : FVec Ideal S8x128x8192 .f32) (i : (S8x128x8192).Idx) : truncf .bf16 x bitsLt_bf16_f32 i = x i := rfl

theorem seq_at (A : FVec Ideal S12x8x128x2048 .bf16) (k : Fin 3) (h : Fin 4) (T : Fin 8) (r : Fin 128) (s : Fin 16) (e : Fin 128) :
    seq A (ix4 k h (pos T r s) e) = A (ix4 ⟨4 * k.val + h.val, by omega⟩ T r ⟨s.val * 128 + e.val, by omega⟩) := by
  refine shapeCast_apply (extf .f32 A bitsLt_bf16_f32) _ _ (ix4 ⟨4 * k.val + h.val, by omega⟩ T r ⟨s.val * 128 + e.val, by omega⟩) ?_
  rw [Shape.rowMajor_val_four, Shape.rowMajor_val_four]
  show ((((4 * k.val + h.val) * 8) + T.val) * 128 + r.val) * 2048 + (s.val * 128 + e.val) = ((k.val * 4 + h.val) * 16384 + ((T.val * 128 + r.val) * 16 + s.val)) * 128 + e.val
  omega

/-- Row `t` of a part of the argument, as reals. -/
def line (A : FVec Ideal S12x8x128x2048 .bf16) (k : Fin 3) (h : Fin 4) (t : ℕ) (e : Fin 128) : ℝ :=
  Cert.Dil16Ideal.Hand.lane A k h ⟨t % 16, Nat.mod_lt _ (by decide)⟩ (t / 16) e

theorem line_lane (A : FVec Ideal S12x8x128x2048 .bf16) (k : Fin 3) (h : Fin 4) (s : Fin 16) :
    (fun u => line A k h (u * 16 + s.val)) = Cert.Dil16Ideal.Hand.lane A k h s := by
  funext u e
  unfold line
  have h1 : (⟨(u * 16 + s.val) % 16, Nat.mod_lt _ (by decide)⟩ : Fin 16) = s := Fin.ext (by show (u * 16 + s.val) % 16 = s.val; omega)
  have h2 : (u * 16 + s.val) / 16 = u := by omega
  rw [h1, h2]

theorem seq_line (A : FVec Ideal S12x8x128x2048 .bf16) (hf : Cert.Dil16Ideal.Hand.Finite A) (k : Fin 3) (h : Fin 4) (t : Fin 16384) (e : Fin 128) :
    seq A (ix4 k h t e) = ((line A k h t.val e : ℝ) : EReal) := by
  obtain ⟨T, r, s, rfl⟩ : ∃ (T : Fin 8) (r : Fin 128) (s : Fin 16), t = pos T r s :=
    ⟨⟨t.val / 16 / 128, by omega⟩, ⟨t.val / 16 % 128, by omega⟩, ⟨t.val % 16, by omega⟩, Fin.ext (by
      show t.val = (t.val / 16 / 128 * 128 + t.val / 16 % 128) * 16 + t.val % 16
      omega)⟩
  rw [seq_at, Cert.Dil16Ideal.Hand.lane_eq A hf k h s T r e _ rfl]
  exact congrArg (fun x : ℝ => (x : EReal)) (congrFun (congrFun (line_lane A k h s) (T.val * 128 + r.val)) e).symm

theorem part0_line (A : FVec Ideal S12x8x128x2048 .bf16) (hf : Cert.Dil16Ideal.Hand.Finite A) (h : Fin 4) (t : Fin 16384) (e : Fin 128) :
    DilRef.part0 (seq A) (ix3 h t e) = ((line A 0 h t.val e : ℝ) : EReal) := (DilRef.part0_at _ h t e).trans (seq_line A hf 0 h t e)
theorem part1_line (A : FVec Ideal S12x8x128x2048 .bf16) (hf : Cert.Dil16Ideal.Hand.Finite A) (h : Fin 4) (t : Fin 16384) (e : Fin 128) :
    DilRef.part1 (seq A) (ix3 h t e) = ((line A 1 h t.val e : ℝ) : EReal) := (DilRef.part1_at _ h t e).trans (seq_line A hf 1 h t e)
theorem part2_line (A : FVec Ideal S12x8x128x2048 .bf16) (hf : Cert.Dil16Ideal.Hand.Finite A) (h : Fin 4) (t : Fin 16384) (e : Fin 128) :
    DilRef.part2 (seq A) (ix3 h t e) = ((line A 2 h t.val e : ℝ) : EReal) := (DilRef.part2_at _ h t e).trans (seq_line A hf 2 h t e)

/-- The plain program's first result over finite arguments: the softmax means. -/
theorem mean_at (hf : Cert.Dil16Ideal.Hand.Finite (arg m c)) (T : Fin 8) (r : Fin 128) (s : Fin 16) (h : Fin 4) (d : Fin 128) :
    (res_out0 m c : FVec Ideal S8x128x8192 .bf16) (ix3 T r ⟨s.val * 512 + h.val * 128 + d.val, by omega⟩)
      = ((DilTile.Md (Cert.Dil16Ideal.Hand.lane (arg m c) 0 h s (T.val * 128 + r.val)) (Cert.Dil16Ideal.Hand.lane (arg m c) 1 h s)
          (Cert.Dil16Ideal.Hand.lane (arg m c) 2 h s) (T.val * 128 + r.val) d : ℝ) : EReal) := by
  refine (congrFun (out0_eq m c) _).trans ?_
  refine (narrow_at _ _).trans ?_
  refine (out_at _ T r s h d).trans ?_
  refine (DilRef.mean_real 16 (by decide) _ _ _ h (pos T r s) (line (arg m c) 0 h (pos T r s).val) (line (arg m c) 1 h) (line (arg m c) 2 h)
    (T.val * 128 + r.val) s.val s.isLt rfl (fun e => part0_line _ hf h _ e) (fun t e => part1_line _ hf h t e) (fun t e => part2_line _ hf h t e) d).trans ?_
  have h0 : line (arg m c) 0 h (pos T r s).val = Cert.Dil16Ideal.Hand.lane (arg m c) 0 h s (T.val * 128 + r.val) :=
    congrFun (line_lane (arg m c) 0 h s) (T.val * 128 + r.val)
  rw [h0, line_lane, line_lane]

/-- The plain program's second result over finite arguments: the log-sum-exps. -/
theorem lse_at (hf : Cert.Dil16Ideal.Hand.Finite (arg m c)) (T : Fin 8) (r : Fin 128) (s : Fin 16) (h : Fin 4) (d : Fin 128) :
    (res_out1 m c : FVec Ideal S8x128x8192 .f32) (ix3 T r ⟨s.val * 512 + h.val * 128 + d.val, by omega⟩)
      = ((Real.log (DilTile.Zd (Cert.Dil16Ideal.Hand.lane (arg m c) 0 h s (T.val * 128 + r.val)) (Cert.Dil16Ideal.Hand.lane (arg m c) 1 h s)
          (T.val * 128 + r.val)) : ℝ) : EReal) := by
  refine (congrFun (out1_eq m c) _).trans ?_
  refine (out_at _ T r s h d).trans ?_
  refine (DilRef.lses_at _ _ _ h (pos T r s) d).trans ?_
  refine (DilRef.lse_real 16 (by decide) _ _ h (pos T r s) (line (arg m c) 0 h (pos T r s).val) (line (arg m c) 1 h)
    (T.val * 128 + r.val) s.val s.isLt rfl (fun e => part0_line _ hf h _ e) (fun t e => part1_line _ hf h t e)).trans ?_
  have h0 : line (arg m c) 0 h (pos T r s).val = Cert.Dil16Ideal.Hand.lane (arg m c) 0 h s (T.val * 128 + r.val) :=
    congrFun (line_lane (arg m c) 0 h s) (T.val * 128 + r.val)
  rw [h0, line_lane]

end Cert.Dil16RefIdeal.Hand

namespace Cert.Proof.Dil16

open Idealize.ShloMosaic Idealize.ShloMosaic.TcCoe Idealize.SL.Sem

/-- The precondition says that every entry is a real number. -/
theorem finite_of_pre [Cert.Pre_finite16.Facts] (A : FVec Ideal Cert.Dil16Ideal.S12x8x128x2048 .bf16) (h : Cert.Pre_finite16.fn (F := Ideal) A = fun _ => 1#1) :
    Cert.Dil16Ideal.Hand.Finite A := by
  intro i
  have hi : BitVec.ofBool (decide (max (A i : EReal) (-(A i : EReal)) < Ideal.ofBits .f32 0x7F800000#32)) = 1#1 := congrFun h i
  rw [show Ideal.ofBits .f32 0x7F800000#32 = ⊤ by simp [Ideal.ofBits, Ideal.ieee]] at hi
  have hlt : max (A i : EReal) (-(A i : EReal)) < ⊤ := by
    by_contra hn
    rw [decide_eq_false hn] at hi
    exact absurd hi (by decide)
  have h1 := lt_of_le_of_lt (le_max_left _ _) hlt
  have h2 := lt_of_le_of_lt (le_max_right _ _) hlt
  refine (EReal.coe_toReal h1.ne ?_).symm
  intro hb
  rw [hb] at h2
  exact absurd h2 (by simp)

/-- The attention at dilation 16 over finite arguments: kernel and plain program compute the same two arrays over the reals. -/
theorem algebraic [Cert.Pre_finite16.Facts] : Cert.algebraic_Dil16Ideal_Dil16RefIdeal_pre_finite16 := by
  intro m ρ m' ρ' hpre hag
  have hf : ∀ c, Cert.Dil16Ideal.Hand.Finite (Cert.Dil16Ideal.Hand.arg m c) := fun c => finite_of_pre _ (hpre c)
  have ha : ∀ c, Cert.Dil16RefIdeal.Hand.arg m' c = Cert.Dil16Ideal.Hand.arg m c := fun c => hag c
  have hsplit : ∀ i : Fin 8192, ∃ (s : Fin 16) (h : Fin 4) (d : Fin 128), i = ⟨s.val * 512 + h.val * 128 + d.val, by omega⟩ := fun i =>
    ⟨⟨i.val / 512, by omega⟩, ⟨i.val % 512 / 128, by omega⟩, ⟨i.val % 128, by omega⟩, Fin.ext (by
      show i.val = i.val / 512 * 512 + i.val % 512 / 128 * 128 + i.val % 128
      omega)⟩
  refine ⟨_, _, Cert.Dil16Ideal.Value.run_blocks m ρ,
    (θ_run _ _ _).mono (fun _ h c => ⟨(h c).1.trans ?_, (h c).2.1.trans ?_, (h c).2.2⟩) (Cert.Dil16RefIdeal.Value.run m' ρ')⟩
  · funext i
    obtain ⟨T, r, x, rfl⟩ : ∃ (T : Fin 8) (r : Fin 128) (x : Fin 8192), i = ix3 T r x := ⟨i 0, i 1, i 2, eq_ix3 i⟩
    obtain ⟨s, h, d, rfl⟩ := hsplit x
    refine (Cert.Dil16RefIdeal.Hand.mean_at m' c ((ha c).symm ▸ hf c) T r s h d).trans ?_
    rw [ha]
    exact (Cert.Dil16Ideal.Hand.mean_at m c (hf c) T r s h d).symm
  · funext i
    obtain ⟨T, r, x, rfl⟩ : ∃ (T : Fin 8) (r : Fin 128) (x : Fin 8192), i = ix3 T r x := ⟨i 0, i 1, i 2, eq_ix3 i⟩
    obtain ⟨s, h, d, rfl⟩ := hsplit x
    refine (Cert.Dil16RefIdeal.Hand.lse_at m' c ((ha c).symm ▸ hf c) T r s h d).trans ?_
    rw [ha]
    exact (Cert.Dil16Ideal.Hand.lse_at m c (hf c) T r s h d).symm

end Cert.Proof.Dil16
-- ==== Proof.FfnMath.lean ====
module

public import Idealize.ShloMosaic.Lib.Pointwise

@[expose] public section

noncomputable section

namespace Cert.FfnMath

open Idealize.ShloMosaic

/-- One hidden unit of the gated layer at a row `x`: `silu (x · g) * (x · u)`. -/
def hid (x g u : Fin 2048 → EReal) : EReal :=
  (∑ e, x e * g e) * Ideal.div 1 (1 + Ideal.exp (-∑ e, x e * g e)) * ∑ e, x e * u e

/-- The residual mix: the input scaled plus half the layer's own result. -/
def mix (x y : EReal) : EReal := Ideal.ofBits .f32 0x3F9837F0#32 * x + Ideal.ofBits .f32 0x3F000000#32 * y

/-- Entry `d` of the layer normalisation of the row `y`, with gain `g` and offset `b`. -/
def normed (y : Fin 2048 → EReal) (g b : EReal) (d : Fin 2048) : EReal :=
  (y d - Ideal.div (∑ e, y e) (Ideal.ofBits .f32 0x45000000#32))
      * Ideal.rsqrt (Ideal.div (∑ e, (y e - Ideal.div (∑ e', y e') (Ideal.ofBits .f32 0x45000000#32))
            * (y e - Ideal.div (∑ e', y e') (Ideal.ofBits .f32 0x45000000#32))) (Ideal.ofBits .f32 0x45000000#32)
          + Ideal.ofBits .f32 0x3727C5AC#32)
    * g + b

/-- A function on the hidden units read at a natural number, zero past the end. -/
def ext (f : Fin 5632 → EReal) (n : ℕ) : EReal := if h : n < 5632 then f ⟨n, h⟩ else 0

/-- Inside the range it is the function. -/
theorem ext_of_lt (f : Fin 5632 → EReal) (n : ℕ) (h : n < 5632) : ext f n = f ⟨n, h⟩ := dif_pos h

/-- The hidden units summed chunk by chunk are all of them summed. -/
theorem sum_chunks (f : Fin 5632 → EReal) :
    ∑ k ∈ Finset.range 11, ∑ j : Fin 512, ext f (512 * k + j.val) = ∑ n, f n := by
  rw [Fin.sum_univ_tiles 11 512 (by norm_num) f, Finset.sum_range]
  refine Finset.sum_congr rfl fun k _ => Finset.sum_congr rfl fun j _ => ?_
  rw [ext_of_lt f _ (by omega)]
  congr 1
  apply Fin.ext
  dsimp only
  omega

end Cert.FfnMath
-- ==== Proof.Ffn1Val.lean ====
module

public import proofs.«01_k».proof.Proof.Gen.Ffn1Ideal.Value
public import proofs.«01_k».proof.Proof.FfnMath
public import Idealize.ShloMosaic.Lib.Pointwise

@[expose] public section

set_option maxRecDepth 16384

noncomputable section

namespace Cert.Ffn1Ideal.Hand

open Cert.Ffn1Ideal Cert.Ffn1Ideal.Gen Cert.Ffn1Ideal.Value Cert.FfnMath Idealize.ShloMosaic Idealize.ShloMosaic.TcCoe Idealize.SL.Sem

variable (m : (ℓ : Loc nD τ sig) → Buf (Elt Ideal) ℓ)

/-- The offsets of a load of a whole block. -/
theorem hz : (![0, 0] : Fin 2 → Nat) = fun _ => 0 := funext fun a => by fin_cases a <;> rfl

/-- The accumulator after one chunk of hidden units. -/
def step (xb : FVec Ideal S512x2048 .bf16) (wg wu : FVec Ideal S2048x512 .bf16) (wd : FVec Ideal S512x2048 .bf16)
    (acc : FVec Ideal S512x2048 .f32) : FVec Ideal S512x2048 .f32 :=
  k0_pay1 (k0_pay6 xb (View.ld wg (Rect.unit (s := S2048x512) ![0, 0] S2048x256.size inb_S2048x512_S2048x256_0_0)) (View.ld wu (Rect.unit (s := S2048x512) ![0, 0] S2048x256.size inb_S2048x512_S2048x256_0_0)) (View.ld wd (Rect.unit (s := S512x2048) ![0, 0] S256x2048.size inb_S512x2048_S256x2048_0_0)))
    (k0_pay7 xb (View.ld wg (Rect.unit (s := S2048x512) ![0, 256] S2048x256.size inb_S2048x512_S2048x256_0_256))) (k0_pay8 xb (View.ld wu (Rect.unit (s := S2048x512) ![0, 256] S2048x256.size inb_S2048x512_S2048x256_0_256))) (k0_pay9 xb (View.ld wg (Rect.unit (s := S2048x512) ![0, 256] S2048x256.size inb_S2048x512_S2048x256_0_256))) k0_pay10
    (View.ld wd (Rect.unit (s := S512x2048) ![256, 0] S256x2048.size inb_S512x2048_S256x2048_256_0)) acc

/-- At the first chunk the carried activations are the block's. -/
theorem A_xb (c : Dev nD) (t : Fin cfg0.N) (acc) (h0 : t.val % 11 = 0) (h1 : ¬t.val % 11 = 10) :
    (stAt0 m c t.val t.isLt acc).2.2.1 = k0_pay4 (iblk m c 0 t) := by
  rw [stAt0_A m c t acc h0 h1]
  dsimp only
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 t).read_unread, View.ld_unit_zero (S := S512x2048) hz]

/-- At the first chunk the accumulator is one step from nothing. -/
theorem A_acc (c : Dev nD) (t : Fin cfg0.N) (acc) (h0 : t.val % 11 = 0) (h1 : ¬t.val % 11 = 10) :
    (stAt0 m c t.val t.isLt acc).2.2.2
      = step (k0_pay4 (iblk m c 0 t)) (iblk m c 1 t) (iblk m c 2 t) (iblk m c 3 t) k0_pay5 := by
  rw [stAt0_A m c t acc h0 h1]
  dsimp only
  unfold sout0_A_1
  rw [View.read_writes_eq_canon _ _ _ (fun y => scover0_A_1 (y := y) ..)]
  unfold kernelRun0_A
  dsimp only
  sl_unfold_words
  rw [View.canon_cons_unit_zero (S := S512x2048) hz]
  simp only [View.readAt_eq_ld, (hs0_0 t).read_unread, (hs0_1 t).read_unread, (hs0_2 t).read_unread,
    (hs0_3 t).read_unread, View.ld_unit_zero (S := S512x2048) hz, View.readCov_unit_zero (S := S512x2048) _ hz]
  rfl

/-- At a later chunk the carried activations stay. -/
theorem B_xb (c : Dev nD) (t : Fin cfg0.N) (acc) (h0 : ¬ t.val % 11 = 0) (h1 : ¬t.val % 11 = 10) :
    (stAt0 m c t.val t.isLt acc).2.2.1 = acc.2.2.1 := by
  rw [stAt0_B m c t acc h0 h1]
  rfl

/-- At a later chunk the accumulator steps. -/
theorem B_acc (c : Dev nD) (t : Fin cfg0.N) (acc) (h0 : ¬ t.val % 11 = 0) (h1 : ¬t.val % 11 = 10) :
    (stAt0 m c t.val t.isLt acc).2.2.2
      = step acc.2.2.1 (iblk m c 1 t) (iblk m c 2 t) (iblk m c 3 t) acc.2.2.2 := by
  rw [stAt0_B m c t acc h0 h1]
  dsimp only
  unfold sout0_B_1
  rw [View.read_writes_eq_canon _ _ _ (fun y => scover0_B_1 (y := y) ..)]
  unfold kernelRun0_B
  dsimp only
  sl_unfold_words
  rw [View.canon_unit_zero (S := S512x2048) hz]
  simp only [View.readAt_eq_ld, (hs0_0 t).read_unread, (hs0_1 t).read_unread, (hs0_2 t).read_unread,
    (hs0_3 t).read_unread, (Memref.isWhole_whole _).read_unread, View.ld_unit_zero (S := S512x2048) hz,
    View.readCov_unit_zero (S := S512x2048) _ hz]
  rfl

/-- At the last chunk the carried activations stay. -/
theorem C_xb (c : Dev nD) (t : Fin cfg0.N) (acc) (h0 : ¬ t.val % 11 = 0) (h1 : t.val % 11 = 10) :
    (stAt0 m c t.val t.isLt acc).2.2.1 = acc.2.2.1 := by
  rw [stAt0_C m c t acc h0 h1]
  rfl

/-- At the last chunk the accumulator steps. -/
theorem C_acc (c : Dev nD) (t : Fin cfg0.N) (acc) (h0 : ¬ t.val % 11 = 0) (h1 : t.val % 11 = 10) :
    (stAt0 m c t.val t.isLt acc).2.2.2
      = step acc.2.2.1 (iblk m c 1 t) (iblk m c 2 t) (iblk m c 3 t) acc.2.2.2 := by
  rw [stAt0_C m c t acc h0 h1]
  dsimp only
  unfold sout0_C_1
  rw [View.read_writes_eq_canon _ _ _ (fun y => scover0_C_1 (y := y) ..)]
  unfold kernelRun0_C
  dsimp only
  sl_unfold_words
  rw [View.canon_unit_zero (S := S512x2048) hz]
  simp only [View.readAt_eq_ld, (hs0_0 t).read_unread, (hs0_1 t).read_unread, (hs0_2 t).read_unread,
    (hs0_3 t).read_unread, (Memref.isWhole_whole _).read_unread, View.ld_unit_zero (S := S512x2048) hz,
    View.readCov_unit_zero (S := S512x2048) _ hz]
  rfl

set_option maxHeartbeats 1600000 in
/-- At the last chunk the first output is the normalised sum of the input and the new accumulator. -/
theorem C_out6 (c : Dev nD) (t : Fin cfg0.N) (acc) (h0 : ¬ t.val % 11 = 0) (h1 : t.val % 11 = 10) :
    (stAt0 m c t.val t.isLt acc).1
      = k0_pay2 (iblk m c 0 t) (step acc.2.2.1 (iblk m c 1 t) (iblk m c 2 t) (iblk m c 3 t) acc.2.2.2)
          (iblk m c 4 t) (iblk m c 5 t) := by
  rw [stAt0_C m c t acc h0 h1]
  dsimp only
  unfold out0_C_6
  rw [View.read_writes_eq_canon _ _ _ (fun y => cover0_C_6 (y := y) ..)]
  unfold kernelRun0_C
  dsimp only
  sl_unfold_words
  rw [View.canon_unit_zero (S := S512x2048) hz]
  simp only [View.readAt_eq_ld, (hs0_0 t).read_unread, (hs0_1 t).read_unread, (hs0_2 t).read_unread,
    (hs0_3 t).read_unread, (hs0_4 t).read_unread, (hs0_5 t).read_unread, (Memref.isWhole_whole _).read_unread,
    View.ld_unit_zero (S := S512x2048) hz, View.ld_unit_zero (S := S1x2048) hz,
    View.readCov_unit_zero (S := S512x2048) _ hz]
  rfl

set_option maxHeartbeats 1600000 in
/-- At the last chunk the second output is the first. -/
theorem C_out7 (c : Dev nD) (t : Fin cfg0.N) (acc) (h0 : ¬ t.val % 11 = 0) (h1 : t.val % 11 = 10) :
    (stAt0 m c t.val t.isLt acc).2.1
      = k0_pay3 (iblk m c 0 t) (step acc.2.2.1 (iblk m c 1 t) (iblk m c 2 t) (iblk m c 3 t) acc.2.2.2)
          (iblk m c 4 t) (iblk m c 5 t) := by
  rw [stAt0_C m c t acc h0 h1]
  dsimp only
  unfold out0_C_7
  rw [View.read_writes_eq_canon _ _ _ (fun y => cover0_C_7 (y := y) ..)]
  unfold kernelRun0_C
  dsimp only
  sl_unfold_words
  rw [View.canon_unit_zero (S := S512x2048) hz]
  simp only [View.readAt_eq_ld, (hs0_0 t).read_unread, (hs0_1 t).read_unread, (hs0_2 t).read_unread,
    (hs0_3 t).read_unread, (hs0_4 t).read_unread, (hs0_5 t).read_unread, (Memref.isWhole_whole _).read_unread,
    View.ld_unit_zero (S := S512x2048) hz, View.ld_unit_zero (S := S1x2048) hz,
    View.readCov_unit_zero (S := S512x2048) _ hz]
  rfl

/-- One step read at an entry: the chunk's hidden units times the down weights are added. -/
theorem step_at (xb : FVec Ideal S512x2048 .bf16) (wg wu : FVec Ideal S2048x512 .bf16)
    (wd : FVec Ideal S512x2048 .bf16) (acc : FVec Ideal S512x2048 .f32) (r : Fin 512) (d : Fin 2048) :
    step xb wg wu wd acc (ix2 r d)
      = acc (ix2 r d) + ∑ j : Fin 512, hid (fun e => xb (ix2 r e)) (fun e => wg (ix2 e j)) (fun e => wu (ix2 e j))
          * wd (ix2 j d) := by
  unfold step
  pointwise [k0_pay1, k0_pay6, k0_pay7, k0_pay8, k0_pay9, k0_pay10]
  rw [Fin.sum_univ_two_halves 256 256 rfl]
  simp only [hid, zero_sub]

/-- The accumulator starts at zero. -/
theorem pay5_at (r : Fin 512) (d : Fin 2048) : k0_pay5 (F := Ideal) (ix2 r d) = 0 := by
  pointwise [k0_pay5]

/-- The carried activations are the block's. -/
theorem pay4_at (x : FVec Ideal S512x2048 .f32) (r : Fin 512) (d : Fin 2048) : k0_pay4 (F := Ideal) x (ix2 r d) = x (ix2 r d) := by
  pointwise [k0_pay4]

/-- The output block at an entry: layer normalisation of the scaled input plus half the accumulator. -/
theorem pay2_at (x acc : FVec Ideal S512x2048 .f32) (g b : FVec Ideal S1x2048 .f32) (r : Fin 512) (d : Fin 2048) :
    k0_pay2 (F := Ideal) x acc g b (ix2 r d)
      = normed (fun e => mix (x (ix2 r e)) (acc (ix2 r e))) (g (ix2 0 d)) (b (ix2 0 d)) d := by
  unfold normed mix
  pointwise [k0_pay2]

/-- The second output block is the first. -/
theorem pay3_at (x acc : FVec Ideal S512x2048 .f32) (g b : FVec Ideal S1x2048 .f32) (r : Fin 512) (d : Fin 2048) :
    k0_pay3 (F := Ideal) x acc g b (ix2 r d) = k0_pay2 (F := Ideal) x acc g b (ix2 r d) := by
  pointwise [k0_pay3]

/-- Where each input's block lies at a grid point. -/
theorem index_facts : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)

/-- The number of grid points. -/
theorem lt_N (t : Fin cfg0.N) : t.val < 352 := lt_of_lt_of_eq t.isLt (show cfg0.N = 352 from N_0)

/-- The arguments, as arrays. -/
def X (c : Dev nD) : FVec Ideal S16384x2048 .f32 := m ((c : Thread nD τ).loc main_arg0)
@[inherit_doc X] def Wg (c : Dev nD) : FVec Ideal S2048x5632 .f32 := m ((c : Thread nD τ).loc main_arg1)
@[inherit_doc X] def Wu (c : Dev nD) : FVec Ideal S2048x5632 .f32 := m ((c : Thread nD τ).loc main_arg2)
@[inherit_doc X] def Wd (c : Dev nD) : FVec Ideal S5632x2048 .f32 := m ((c : Thread nD τ).loc main_arg3)
@[inherit_doc X] def Ga (c : Dev nD) : FVec Ideal S2048 .f32 := m ((c : Thread nD τ).loc main_arg4)
@[inherit_doc X] def Be (c : Dev nD) : FVec Ideal S2048 .f32 := m ((c : Thread nD τ).loc main_arg5)

/-- What the host hands the call for the gate weights. -/
theorem V0 (c : Dev nD) : V m c main_v0 = (truncf .bf16 (Wg m c) bitsLt_bf16_f32 : FVec Ideal S2048x5632 .bf16) := by
  unfold_abbrev_sides; after_results; rfl
@[inherit_doc V0] theorem V1 (c : Dev nD) : V m c main_v1 = (truncf .bf16 (Wu m c) bitsLt_bf16_f32 : FVec Ideal S2048x5632 .bf16) := by
  unfold_abbrev_sides; after_results; rfl
@[inherit_doc V0] theorem V2 (c : Dev nD) : V m c main_v2 = (truncf .bf16 (Wd m c) bitsLt_bf16_f32 : FVec Ideal S5632x2048 .bf16) := by
  unfold_abbrev_sides; after_results; rfl
/-- What the host hands the call for the gain and the offset. -/
theorem V3 (c : Dev nD) : V m c main_v3 = (shapeCast S1x2048 (Ga m c) shapeCasts_S2048_S1x2048 : FVec Ideal S1x2048 .f32) := by
  unfold_abbrev_sides; after_results; rfl
@[inherit_doc V3] theorem V4 (c : Dev nD) : V m c main_v4 = (shapeCast S1x2048 (Be m c) shapeCasts_S2048_S1x2048 : FVec Ideal S1x2048 .f32) := by
  unfold_abbrev_sides; after_results; rfl

/-- The activations' block at an entry. -/
theorem blk0 (c : Dev nD) (t : Fin cfg0.N) (r : Fin 512) (e : Fin 2048) :
    (iblk m c 0 t : FVec Ideal S512x2048 .f32) (ix2 r e)
      = X m c (ix2 ⟨512 * (t.val / 11) + r.val, by have := lt_N t; omega⟩ e) := by
  have hi := index_facts t
  unfold iblk
  rw [View.read_apply]
  show X m c _ = _
  congr 1
  funext a
  apply Fin.ext
  match a with
  | ⟨0, _⟩ => show win0_0.index t 0 * 512 + 1 * r.val = _; rw [hi.1]; show _ = 512 * (t.val / 11) + r.val; omega
  | ⟨1, _⟩ => show win0_0.index t 1 * 2048 + 1 * e.val = e.val; rw [hi.2.1]; omega

/-- The gate weights' block at an entry. -/
theorem blk1 (c : Dev nD) (t : Fin cfg0.N) (e : Fin 2048) (j : Fin 512) :
    (iblk m c 1 t : FVec Ideal S2048x512 .bf16) (ix2 e j)
      = Wg m c (ix2 e ⟨512 * (t.val % 11) + j.val, by omega⟩) := by
  have hi := index_facts t
  unfold iblk
  rw [View.read_apply]
  show V m c main_v0 _ = _
  rw [V0]
  show Wg m c _ = _
  congr 1
  funext a
  apply Fin.ext
  match a with
  | ⟨0, _⟩ => show win0_1.index t 0 * 2048 + 1 * e.val = e.val; rw [hi.2.2.1]; omega
  | ⟨1, _⟩ => show win0_1.index t 1 * 512 + 1 * j.val = 512 * (t.val % 11) + j.val; rw [hi.2.2.2.1]; omega

/-- The up weights' block at an entry. -/
theorem blk2 (c : Dev nD) (t : Fin cfg0.N) (e : Fin 2048) (j : Fin 512) :
    (iblk m c 2 t : FVec Ideal S2048x512 .bf16) (ix2 e j)
      = Wu m c (ix2 e ⟨512 * (t.val % 11) + j.val, by omega⟩) := by
  have hi := index_facts t
  unfold iblk
  rw [View.read_apply]
  show V m c main_v1 _ = _
  rw [V1]
  show Wu m c _ = _
  congr 1
  funext a
  apply Fin.ext
  match a with
  | ⟨0, _⟩ => show win0_2.index t 0 * 2048 + 1 * e.val = e.val; rw [hi.2.2.2.2.1]; omega
  | ⟨1, _⟩ => show win0_2.index t 1 * 512 + 1 * j.val = 512 * (t.val % 11) + j.val; rw [hi.2.2.2.2.2.1]; omega

/-- The down weights' block at an entry. -/
theorem blk3 (c : Dev nD) (t : Fin cfg0.N) (j : Fin 512) (d : Fin 2048) :
    (iblk m c 3 t : FVec Ideal S512x2048 .bf16) (ix2 j d)
      = Wd m c (ix2 ⟨512 * (t.val % 11) + j.val, by omega⟩ d) := by
  have hi := index_facts t
  unfold iblk
  rw [View.read_apply]
  show V m c main_v2 _ = _
  rw [V2]
  show Wd m c _ = _
  congr 1
  funext a
  apply Fin.ext
  match a with
  | ⟨0, _⟩ => show win0_3.index t 0 * 512 + 1 * j.val = 512 * (t.val % 11) + j.val; rw [hi.2.2.2.2.2.2.1]; omega
  | ⟨1, _⟩ => show win0_3.index t 1 * 2048 + 1 * d.val = d.val; rw [hi.2.2.2.2.2.2.2.1]; omega

/-- The gain's block at an entry. -/
theorem blk4 (c : Dev nD) (t : Fin cfg0.N) (d : Fin 2048) :
    (iblk m c 4 t : FVec Ideal S1x2048 .f32) (ix2 0 d) = Ga m c (ix1 d) := by
  have hi := index_facts t
  have e : (iblk m c 4 t : FVec Ideal S1x2048 .f32) (ix2 0 d) = V m c main_v3 (ix2 0 d) := by
    unfold iblk
    rw [View.read_apply]
    show V m c main_v3 _ = _
    congr 1
    funext a
    apply Fin.ext
    match a with
    | ⟨0, _⟩ => show win0_4.index t 0 * 1 + 1 * 0 = 0; rw [hi.2.2.2.2.2.2.2.2.1]
    | ⟨1, _⟩ => show win0_4.index t 1 * 2048 + 1 * d.val = d.val; rw [hi.2.2.2.2.2.2.2.2.2.1]; omega
  rw [e, V3]
  pointwise

/-- The offset's block at an entry. -/
theorem blk5 (c : Dev nD) (t : Fin cfg0.N) (d : Fin 2048) :
    (iblk m c 5 t : FVec Ideal S1x2048 .f32) (ix2 0 d) = Be m c (ix1 d) := by
  have hi := index_facts t
  have e : (iblk m c 5 t : FVec Ideal S1x2048 .f32) (ix2 0 d) = V m c main_v4 (ix2 0 d) := by
    unfold iblk
    rw [View.read_apply]
    show V m c main_v4 _ = _
    congr 1
    funext a
    apply Fin.ext
    match a with
    | ⟨0, _⟩ => show win0_5.index t 0 * 1 + 1 * 0 = 0; rw [hi.2.2.2.2.2.2.2.2.2.2.1]
    | ⟨1, _⟩ => show win0_5.index t 1 * 2048 + 1 * d.val = d.val; rw [hi.2.2.2.2.2.2.2.2.2.2.2]; omega
  rw [e, V4]
  pointwise

/-- What hidden unit `n` adds to entry `d` of row `r`. -/
def unit (c : Dev nD) (r : Fin 16384) (d : Fin 2048) (n : Fin 5632) : EReal :=
  hid (fun e => X m c (ix2 r e)) (fun e => Wg m c (ix2 e n)) (fun e => Wu m c (ix2 e n)) * Wd m c (ix2 n d)

/-- Row `r` of the block of rows that grid point `n` works on. -/
def rowOf (n : ℕ) (h : n < 352) (r : Fin 512) : Fin 16384 := ⟨512 * (n / 11) + r.val, by omega⟩

/-- A step on the block's activations adds the point's chunk of hidden units. -/
theorem step_chunk (c : Dev nD) (t : Fin cfg0.N) (xb : FVec Ideal S512x2048 .bf16) (acc : FVec Ideal S512x2048 .f32)
    (hx : ∀ (r : Fin 512) (e : Fin 2048), xb (ix2 r e) = X m c (ix2 (rowOf t.val (lt_N t) r) e)) (r : Fin 512) (d : Fin 2048) :
    step xb (iblk m c 1 t) (iblk m c 2 t) (iblk m c 3 t) acc (ix2 r d)
      = acc (ix2 r d) + ∑ j : Fin 512, ext (unit m c (rowOf t.val (lt_N t) r) d) (512 * (t.val % 11) + j.val) := by
  rw [step_at]
  congr 1
  refine Finset.sum_congr rfl fun j _ => ?_
  rw [ext_of_lt _ _ (by omega), unit, blk3]
  simp only [hx, blk1, blk2]

/-- The state after point `n`, from the first. -/
abbrev stateAt (c : Dev nD) (n : ℕ) (h : 0 + n < cfg0.N) :=
  Pipeline.accAt (fun n h => stAt0 m c n h junk0) (stAt0 m c) 0 n h

/-- After point `n` the carried activations are its block's, and the accumulator holds the chunks up to its own. -/
theorem state_eq (c : Dev nD) : ∀ (n : ℕ) (h : 0 + n < cfg0.N) (hn : n < 352),
    (∀ (r : Fin 512) (e : Fin 2048), (stateAt m c n h).2.2.1 (ix2 r e) = X m c (ix2 (rowOf n hn r) e))
    ∧ ∀ (r : Fin 512) (d : Fin 2048), (stateAt m c n h).2.2.2 (ix2 r d)
      = ∑ k ∈ Finset.range (n % 11 + 1), ∑ j : Fin 512, ext (unit m c (rowOf n hn r) d) (512 * k + j.val) := by
  have first : ∀ (n : ℕ) (hb : n < cfg0.N) (hn : n < 352) (acc), n % 11 = 0 →
      (∀ (r : Fin 512) (e : Fin 2048), (stAt0 m c n hb acc).2.2.1 (ix2 r e) = X m c (ix2 (rowOf n hn r) e))
      ∧ ∀ (r : Fin 512) (d : Fin 2048), (stAt0 m c n hb acc).2.2.2 (ix2 r d)
        = ∑ k ∈ Finset.range (n % 11 + 1), ∑ j : Fin 512, ext (unit m c (rowOf n hn r) d) (512 * k + j.val) := by
    intro n hb hn acc h0
    have hx : ∀ (r : Fin 512) (e : Fin 2048), k0_pay4 (F := Ideal) (iblk m c 0 ⟨n, hb⟩) (ix2 r e) = X m c (ix2 (rowOf n hn r) e) :=
      fun r e => (pay4_at _ r e).trans (blk0 m c ⟨n, hb⟩ r e)
    refine ⟨fun r e => ?_, fun r d => ?_⟩
    · rw [A_xb m c ⟨n, hb⟩ acc h0 (by dsimp only; omega)]; exact hx r e
    · rw [A_acc m c ⟨n, hb⟩ acc h0 (by dsimp only; omega), step_chunk m c ⟨n, hb⟩ _ _ hx, pay5_at, zero_add, h0,
        Finset.sum_range_one]
  intro n
  induction n with
  | zero => intro h hn; exact first 0 h hn _ rfl
  | succ n ih =>
    intro h hn
    have e0 : 0 + (n + 1) = n + 1 := Nat.zero_add _
    obtain ⟨ix, ia⟩ := ih (by omega) (by omega)
    have hst : stateAt m c (n + 1) h = stAt0 m c (n + 1) (by omega) (stateAt m c n (by omega)) := by
      unfold stateAt; rw [Pipeline.accAt_succ]; congr 1
    rw [hst]
    by_cases h0 : (n + 1) % 11 = 0
    · exact first (n + 1) (by omega) hn _ h0
    · have hrow : ∀ r, rowOf (n + 1) hn r = rowOf n (by omega) r := fun r => by
        unfold rowOf; apply Fin.ext; dsimp only; omega
      have hk : (n + 1) % 11 = n % 11 + 1 := by omega
      have hb : n + 1 < cfg0.N := by omega
      have hx : ∀ (r : Fin 512) (e : Fin 2048), (stateAt m c n (by omega)).2.2.1 (ix2 r e) = X m c (ix2 (rowOf (n + 1) hn r) e) :=
        fun r e => by rw [hrow]; exact ix r e
      have hs : ∀ (r : Fin 512) (d : Fin 2048), step (stateAt m c n (by omega)).2.2.1 (iblk m c 1 ⟨n + 1, hb⟩)
          (iblk m c 2 ⟨n + 1, hb⟩) (iblk m c 3 ⟨n + 1, hb⟩) (stateAt m c n (by omega)).2.2.2 (ix2 r d)
          = ∑ k ∈ Finset.range ((n + 1) % 11 + 1), ∑ j : Fin 512, ext (unit m c (rowOf (n + 1) hn r) d) (512 * k + j.val) := by
        intro r d
        rw [step_chunk m c ⟨n + 1, hb⟩ _ _ hx, ia, Finset.sum_range_succ _ ((n + 1) % 11)]
        dsimp only
        rw [hk, hrow]
      by_cases h1 : (n + 1) % 11 = 10
      · refine ⟨fun r e => ?_, fun r d => ?_⟩
        · rw [C_xb m c ⟨n + 1, hb⟩ _ h0 h1]; exact hx r e
        · rw [C_acc m c ⟨n + 1, hb⟩ _ h0 h1]; exact hs r d
      · refine ⟨fun r e => ?_, fun r d => ?_⟩
        · rw [B_xb m c ⟨n + 1, hb⟩ _ h0 h1]; exact hx r e
        · rw [B_acc m c ⟨n + 1, hb⟩ _ h0 h1]; exact hs r d

/-- The layer's value at an entry. -/
def val (c : Dev nD) (r : Fin 16384) (d : Fin 2048) : EReal :=
  normed (fun e => mix (X m c (ix2 r e)) (∑ n, unit m c r e n)) (Ga m c (ix1 d)) (Be m c (ix1 d)) d

/-- At the last chunk of a block of rows, what goes into the output block is the layer's value there. -/
theorem last_eq (c : Dev nD) (n : ℕ) (h : 0 + (n + 1) < cfg0.N) (hn : n + 1 < 352) (h1 : (n + 1) % 11 = 10)
    (r : Fin 512) (d : Fin 2048) :
    (stateAt m c (n + 1) h).1 (ix2 r d) = val m c (rowOf (n + 1) hn r) d
    ∧ (stateAt m c (n + 1) h).2.1 (ix2 r d) = val m c (rowOf (n + 1) hn r) d := by
  have hb : n + 1 < cfg0.N := by omega
  have h0 : ¬ (n + 1) % 11 = 0 := by omega
  have hst : stateAt m c (n + 1) h = stAt0 m c (n + 1) hb (stateAt m c n (by omega)) := by
    have e0 : 0 + (n + 1) = n + 1 := Nat.zero_add _
    unfold stateAt; rw [Pipeline.accAt_succ]; congr 1
  have ha := (state_eq m c (n + 1) h hn).2
  rw [hst, C_acc m c ⟨n + 1, hb⟩ _ h0 h1] at ha
  have key : k0_pay2 (F := Ideal) (iblk m c 0 ⟨n + 1, hb⟩) (step (stateAt m c n (by omega)).2.2.1 (iblk m c 1 ⟨n + 1, hb⟩)
      (iblk m c 2 ⟨n + 1, hb⟩) (iblk m c 3 ⟨n + 1, hb⟩) (stateAt m c n (by omega)).2.2.2)
          (iblk m c 4 ⟨n + 1, hb⟩) (iblk m c 5 ⟨n + 1, hb⟩) (ix2 r d) = val m c (rowOf (n + 1) hn r) d := by
    rw [pay2_at, val]
    have h11 : (n + 1) % 11 + 1 = 11 := by omega
    simp only [ha, blk0, blk4, blk5, h11, sum_chunks]
    rfl
  rw [hst, C_out6 m c ⟨n + 1, hb⟩ _ h0 h1, C_out7 m c ⟨n + 1, hb⟩ _ h0 h1, pay3_at]
  exact ⟨key, key⟩

/-- The place of row `r` in its block. -/
theorem row_split (r : Fin 16384) (hn : 11 * (r.val / 512) + 9 + 1 < 352) :
    rowOf (11 * (r.val / 512) + 9 + 1) hn ⟨r.val % 512, Nat.mod_lt _ (by decide)⟩ = r := by
  unfold rowOf; apply Fin.ext; dsimp only; omega

/-- The first result is the layer's value everywhere. -/
theorem G6_eq (c : Dev nD) (r : Fin 16384) (d : Fin 2048) : G6 m c (ix2 r d) = val m c r d := by
  have hN : cfg0.N = 352 := N_0
  have hp : pt6Of (ix2 r d) = 11 * (r.val / 512) + 9 + 1 := by
    show 11 * (1 * (r.val / 512 - 0) + 1 * (d.val / 2048 - 0)) + 10 = _; omega
  have hl : loc6Of (ix2 r d) = ix2 ⟨r.val % 512, Nat.mod_lt _ (by decide)⟩ d := by
    funext a; apply Fin.ext
    match a with
    | ⟨0, _⟩ => rfl
    | ⟨1, _⟩ => show d.val % 2048 = d.val; omega
  have hn : 11 * (r.val / 512) + 9 + 1 < 352 := by omega
  unfold G6
  rw [dif_pos (by omega), hl, fold0_congr m c _ _ _ (by omega) hp]
  exact (last_eq m c _ _ hn (by omega) _ d).1.trans (by rw [row_split])

/-- The second result is the layer's value everywhere. -/
theorem G7_eq (c : Dev nD) (r : Fin 16384) (d : Fin 2048) : G7 m c (ix2 r d) = val m c r d := by
  have hN : cfg0.N = 352 := N_0
  have hp : pt7Of (ix2 r d) = 11 * (r.val / 512) + 9 + 1 := by
    show 11 * (1 * (r.val / 512 - 0) + 1 * (d.val / 2048 - 0)) + 10 = _; omega
  have hl : loc7Of (ix2 r d) = ix2 ⟨r.val % 512, Nat.mod_lt _ (by decide)⟩ d := by
    funext a; apply Fin.ext
    match a with
    | ⟨0, _⟩ => rfl
    | ⟨1, _⟩ => show d.val % 2048 = d.val; omega
  have hn : 11 * (r.val / 512) + 9 + 1 < 352 := by omega
  unfold G7
  rw [dif_pos (by omega), hl, fold0_congr m c _ _ _ (by omega) hp]
  exact (last_eq m c _ _ hn (by omega) _ d).2.trans (by rw [row_split])

end Cert.Ffn1Ideal.Hand
-- ==== Proof.Ffn1Ref.lean ====
module

public import proofs.«01_k».proof.Proof.Gen.Ffn1RefIdeal.Run
public import proofs.«01_k».proof.Proof.FfnMath
public import Idealize.ShloMosaic.Lib.Pointwise

@[expose] public section

set_option maxRecDepth 16384

noncomputable section

namespace Cert.Ffn1RefIdeal.Hand

open Cert.Ffn1RefIdeal Cert.Ffn1RefIdeal.Gen Cert.Ffn1RefIdeal.Value Cert.FfnMath Idealize.ShloMosaic Idealize.ShloMosaic.TcCoe Idealize.SL.Sem

/-- The hidden units of the plain program. -/
def hidden (x : FVec Ideal S16384x2048 .f32) (wg wu : FVec Ideal S2048x5632 .f32) : FVec Ideal S16384x5632 .f32 :=
  mulf (mulf (Host.dotGeneral dot_S16384x2048_S2048x5632_S16384x5632_1_0_0_1_n_n none x wg) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral dot_S16384x2048_S2048x5632_S16384x5632_1_0_0_1_n_n none x wg)))))) (Host.dotGeneral dot_S16384x2048_S2048x5632_S16384x5632_1_0_0_1_n_n none x wu)

/-- The plain program's input to the layer normalisation. -/
def mixed (x : FVec Ideal S16384x2048 .f32) (h : FVec Ideal S16384x5632 .f32) (wd : FVec Ideal S5632x2048 .f32) :
    FVec Ideal S16384x2048 .f32 :=
  addf (mulf (broadcastInDim S16384x2048 ![] bcast_S_S16384x2048 (constant S_ .f32 0x3F9837F0#32)) x) (mulf (broadcastInDim S16384x2048 ![] bcast_S_S16384x2048 (constant S_ .f32 0x3F000000#32)) (Host.dotGeneral dot_S16384x5632_S5632x2048_S16384x2048_1_0_0_1_n_n none h wd))

/-- The plain program's layer normalisation, up to the gain and the offset. -/
def centred (y : FVec Ideal S16384x2048 .f32) : FVec Ideal S16384x2048 .f32 :=
  subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32))))

theorem hidden_at (x : FVec Ideal S16384x2048 .f32) (wg wu : FVec Ideal S2048x5632 .f32) (r : Fin 16384) (n : Fin 5632) :
    hidden x wg wu (ix2 r n) = hid (fun e => x (ix2 r e)) (fun e => wg (ix2 e n)) (fun e => wu (ix2 e n)) := by
  unfold hid
  pointwise [hidden]

theorem mixed_at (x : FVec Ideal S16384x2048 .f32) (h : FVec Ideal S16384x5632 .f32) (wd : FVec Ideal S5632x2048 .f32)
    (r : Fin 16384) (d : Fin 2048) : mixed x h wd (ix2 r d) = mix (x (ix2 r d)) (∑ n, h (ix2 r n) * wd (ix2 n d)) := by
  unfold mix
  pointwise [mixed]

theorem centred_at (y : FVec Ideal S16384x2048 .f32) (r : Fin 16384) (d : Fin 2048) :
    centred y (ix2 r d) = y (ix2 r d) - Ideal.div (∑ e, y (ix2 r e)) (Ideal.ofBits .f32 0x45000000#32) := by
  pointwise [centred]

/-- The plain program's layer normalisation with gain and offset. -/
def normedOf (y : FVec Ideal S16384x2048 .f32) (g b : FVec Ideal S2048 .f32) : FVec Ideal S16384x2048 .f32 :=
  addf (mulf (mulf (centred y) (broadcastInDim S16384x2048 ![0, 1] bcast_S16384x1_S16384x2048_0_1 (Host.rsqrt (addf (Host.divf (broadcastInDim S16384x1 ![0] bcast_S16384_S16384x1_0 (Host.reduceAdd (mulf (centred y) (centred y)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem normedOf_at (y : FVec Ideal S16384x2048 .f32) (g b : FVec Ideal S2048 .f32) (r : Fin 16384) (d : Fin 2048) :
    normedOf y g b (ix2 r d) = normed (fun e => y (ix2 r e)) (g (ix1 d)) (b (ix1 d)) d := by
  unfold normed
  pointwise [normedOf]
  simp only [centred_at]

variable (m : (ℓ : Loc nD τ sig) → Buf (Elt Ideal) ℓ)

/-- The arguments, as arrays. -/
def X (c : Dev nD) : FVec Ideal S16384x2048 .f32 := m ((c.tc : Thread nD τ).loc main_arg0)
@[inherit_doc X] def Wg (c : Dev nD) : FVec Ideal S2048x5632 .f32 := m ((c.tc : Thread nD τ).loc main_arg1)
@[inherit_doc X] def Wu (c : Dev nD) : FVec Ideal S2048x5632 .f32 := m ((c.tc : Thread nD τ).loc main_arg2)
@[inherit_doc X] def Wd (c : Dev nD) : FVec Ideal S5632x2048 .f32 := m ((c.tc : Thread nD τ).loc main_arg3)
@[inherit_doc X] def Ga (c : Dev nD) : FVec Ideal S2048 .f32 := m ((c.tc : Thread nD τ).loc main_arg4)
@[inherit_doc X] def Be (c : Dev nD) : FVec Ideal S2048 .f32 := m ((c.tc : Thread nD τ).loc main_arg5)

/-- The plain program's first result, in stages. -/
theorem out0_eq (c : Dev nD) :
    res_out0 m c = normedOf (mixed (X m c) (hidden (X m c) (Wg m c) (Wu m c)) (Wd m c)) (Ga m c) (Be m c) := rfl

/-- The plain program's second result is its first, cast. -/
theorem out1_eq (c : Dev nD) :
    res_out1 m c = truncf .bf16 (normedOf (mixed (X m c) (hidden (X m c) (Wg m c) (Wu m c)) (Wd m c)) (Ga m c) (Be m c))
      bitsLt_bf16_f32 := rfl

/-- The plain program's results at an entry. -/
theorem out_at (c : Dev nD) (r : Fin 16384) (d : Fin 2048) :
    normedOf (mixed (X m c) (hidden (X m c) (Wg m c) (Wu m c)) (Wd m c)) (Ga m c) (Be m c) (ix2 r d)
      = normed (fun e => mix (X m c (ix2 r e)) (∑ n, hid (fun e => X m c (ix2 r e)) (fun e => Wg m c (ix2 e n))
          (fun e => Wu m c (ix2 e n)) * Wd m c (ix2 n e))) (Ga m c (ix1 d)) (Be m c (ix1 d)) d := by
  rw [normedOf_at]
  simp only [mixed_at, hidden_at]

end Cert.Ffn1RefIdeal.Hand
-- ==== Proof.Ffn1Claim.lean ====
module

public import proofs.«01_k».proof.Defs
public import proofs.«01_k».proof.Proof.Ffn1Val
public import proofs.«01_k».proof.Proof.Ffn1Ref

@[expose] public section

set_option maxRecDepth 16384

noncomputable section

namespace Cert.Proof.Ffn1

open Idealize.ShloMosaic Idealize.ShloMosaic.TcCoe Idealize.SL.Sem

/-- From the same arguments, the kernel's value at an entry is the plain program's. -/
theorem val_eq (m : (ℓ : Loc Cert.Ffn1Ideal.nD Cert.Ffn1Ideal.τ Cert.Ffn1Ideal.sig) → Buf (Elt Ideal) ℓ)
    (m' : (ℓ : Loc Cert.Ffn1RefIdeal.nD Cert.Ffn1RefIdeal.τ Cert.Ffn1RefIdeal.sig) → Buf (Elt Ideal) ℓ) (c : Dev Cert.Ffn1Ideal.nD)
    (hX : Cert.Ffn1RefIdeal.Hand.X m' c = Cert.Ffn1Ideal.Hand.X m c)
    (hG : Cert.Ffn1RefIdeal.Hand.Wg m' c = Cert.Ffn1Ideal.Hand.Wg m c)
    (hU : Cert.Ffn1RefIdeal.Hand.Wu m' c = Cert.Ffn1Ideal.Hand.Wu m c)
    (hD : Cert.Ffn1RefIdeal.Hand.Wd m' c = Cert.Ffn1Ideal.Hand.Wd m c)
    (hA : Cert.Ffn1RefIdeal.Hand.Ga m' c = Cert.Ffn1Ideal.Hand.Ga m c)
    (hB : Cert.Ffn1RefIdeal.Hand.Be m' c = Cert.Ffn1Ideal.Hand.Be m c) (r : Fin 16384) (d : Fin 2048) :
    Cert.Ffn1Ideal.Hand.val m c r d
      = Cert.Ffn1RefIdeal.Hand.normedOf (Cert.Ffn1RefIdeal.Hand.mixed (Cert.Ffn1RefIdeal.Hand.X m' c)
          (Cert.Ffn1RefIdeal.Hand.hidden (Cert.Ffn1RefIdeal.Hand.X m' c) (Cert.Ffn1RefIdeal.Hand.Wg m' c)
            (Cert.Ffn1RefIdeal.Hand.Wu m' c)) (Cert.Ffn1RefIdeal.Hand.Wd m' c)) (Cert.Ffn1RefIdeal.Hand.Ga m' c)
          (Cert.Ffn1RefIdeal.Hand.Be m' c) (ix2 r d) := by
  rw [Cert.Ffn1RefIdeal.Hand.out_at, hX, hG, hU, hD, hA, hB]
  rfl

/-- The gated layer with its layer normalisation: kernel and plain program compute the same array over the reals. -/
theorem algebraic : Cert.algebraic_Ffn1Ideal_Ffn1RefIdeal := by
  intro m ρ m' ρ' _ hag
  have hv := fun (c : Dev Cert.Ffn1Ideal.nD) => val_eq m m' c (hag c).1 (hag c).2.1 (hag c).2.2.1 (hag c).2.2.2.1 (hag c).2.2.2.2.1
    (hag c).2.2.2.2.2
  refine ⟨fun c => Cert.Ffn1Ideal.Value.G6 m c, fun c => Cert.Ffn1Ideal.Value.G7 m c, Cert.Ffn1Ideal.Value.run m ρ,
    (θ_run _ _ _).mono (fun _ h c => ⟨(h c).1.trans ?_, (h c).2.1.trans ?_, (h c).2.2⟩) (Cert.Ffn1RefIdeal.Value.run m' ρ')⟩
  · funext i
    obtain ⟨r, d, rfl⟩ : ∃ (r : Fin 16384) (d : Fin 2048), i = ix2 r d := ⟨i 0, i 1, eq_ix2 i⟩
    exact (congrFun (Cert.Ffn1RefIdeal.Hand.out0_eq m' c) _).trans ((hv c r d).symm.trans (Cert.Ffn1Ideal.Hand.G6_eq m c r d).symm)
  · funext i
    obtain ⟨r, d, rfl⟩ : ∃ (r : Fin 16384) (d : Fin 2048), i = ix2 r d := ⟨i 0, i 1, eq_ix2 i⟩
    exact (congrFun (Cert.Ffn1RefIdeal.Hand.out1_eq m' c) _).trans ((hv c r d).symm.trans (Cert.Ffn1Ideal.Hand.G7_eq m c r d).symm)

end Cert.Proof.Ffn1
-- ==== Proof.Ffn2Val.lean ====
module

public import proofs.«01_k».proof.Proof.Gen.Ffn2Ideal.Value
public import proofs.«01_k».proof.Proof.FfnMath
public import Idealize.ShloMosaic.Lib.Pointwise

@[expose] public section

set_option maxRecDepth 16384

noncomputable section

namespace Cert.Ffn2Ideal.Hand

open Cert.Ffn2Ideal Cert.Ffn2Ideal.Gen Cert.Ffn2Ideal.Value Cert.FfnMath Idealize.ShloMosaic Idealize.ShloMosaic.TcCoe Idealize.SL.Sem

variable (m : (ℓ : Loc nD τ sig) → Buf (Elt Ideal) ℓ)

/-- The offsets of a load of a whole block. -/
theorem hz : (![0, 0] : Fin 2 → Nat) = fun _ => 0 := funext fun a => by fin_cases a <;> rfl

/-- The accumulator after one chunk of hidden units. -/
def step (xb : FVec Ideal S512x2048 .bf16) (wg wu : FVec Ideal S2048x512 .bf16) (wd : FVec Ideal S512x2048 .bf16)
    (acc : FVec Ideal S512x2048 .f32) : FVec Ideal S512x2048 .f32 :=
  k0_pay1 (k0_pay5 xb (View.ld wg (Rect.unit (s := S2048x512) ![0, 0] S2048x256.size inb_S2048x512_S2048x256_0_0)) (View.ld wu (Rect.unit (s := S2048x512) ![0, 0] S2048x256.size inb_S2048x512_S2048x256_0_0)) (View.ld wd (Rect.unit (s := S512x2048) ![0, 0] S256x2048.size inb_S512x2048_S256x2048_0_0)))
    (k0_pay6 xb (View.ld wg (Rect.unit (s := S2048x512) ![0, 256] S2048x256.size inb_S2048x512_S2048x256_0_256))) (k0_pay7 xb (View.ld wu (Rect.unit (s := S2048x512) ![0, 256] S2048x256.size inb_S2048x512_S2048x256_0_256))) (k0_pay8 xb (View.ld wg (Rect.unit (s := S2048x512) ![0, 256] S2048x256.size inb_S2048x512_S2048x256_0_256))) k0_pay9
    (View.ld wd (Rect.unit (s := S512x2048) ![256, 0] S256x2048.size inb_S512x2048_S256x2048_256_0)) acc

/-- At the first chunk the carried activations are the block's. -/
theorem A_xb (c : Dev nD) (t : Fin cfg0.N) (acc) (h0 : t.val % 11 = 0) (h1 : ¬t.val % 11 = 10) :
    (stAt0 m c t.val t.isLt acc).2.1 = k0_pay3 (iblk m c 0 t) := by
  rw [stAt0_A m c t acc h0 h1]
  dsimp only
  unfold sout0_A_0
  rw [View.read_writes_eq_canon _ _ _ (fun y => scover0_A_0 (y := y) ..)]
  unfold kernelRun0_A
  dsimp only
  sl_unfold_words
  rw [View.canon_unit_zero hz]
  simp only [View.readAt_eq_ld, (hs0_0 t).read_unread, View.ld_unit_zero (S := S512x2048) hz]

/-- At the first chunk the accumulator is one step from nothing. -/
theorem A_acc (c : Dev nD) (t : Fin cfg0.N) (acc) (h0 : t.val % 11 = 0) (h1 : ¬t.val % 11 = 10) :
    (stAt0 m c t.val t.isLt acc).2.2
      = step (k0_pay3 (iblk m c 0 t)) (iblk m c 1 t) (iblk m c 2 t) (iblk m c 3 t) k0_pay4 := by
  rw [stAt0_A m c t acc h0 h1]
  dsimp only
  unfold sout0_A_1
  rw [View.read_writes_eq_canon _ _ _ (fun y => scover0_A_1 (y := y) ..)]
  unfold kernelRun0_A
  dsimp only
  sl_unfold_words
  rw [View.canon_cons_unit_zero (S := S512x2048) hz]
  simp only [View.readAt_eq_ld, (hs0_0 t).read_unread, (hs0_1 t).read_unread, (hs0_2 t).read_unread,
    (hs0_3 t).read_unread, View.ld_unit_zero (S := S512x2048) hz, View.readCov_unit_zero (S := S512x2048) _ hz]
  rfl

/-- At a later chunk the carried activations stay. -/
theorem B_xb (c : Dev nD) (t : Fin cfg0.N) (acc) (h0 : ¬ t.val % 11 = 0) (h1 : ¬t.val % 11 = 10) :
    (stAt0 m c t.val t.isLt acc).2.1 = acc.2.1 := by
  rw [stAt0_B m c t acc h0 h1]
  rfl

/-- At a later chunk the accumulator steps. -/
theorem B_acc (c : Dev nD) (t : Fin cfg0.N) (acc) (h0 : ¬ t.val % 11 = 0) (h1 : ¬t.val % 11 = 10) :
    (stAt0 m c t.val t.isLt acc).2.2
      = step acc.2.1 (iblk m c 1 t) (iblk m c 2 t) (iblk m c 3 t) acc.2.2 := by
  rw [stAt0_B m c t acc h0 h1]
  dsimp only
  unfold sout0_B_1
  rw [View.read_writes_eq_canon _ _ _ (fun y => scover0_B_1 (y := y) ..)]
  unfold kernelRun0_B
  dsimp only
  sl_unfold_words
  rw [View.canon_unit_zero (S := S512x2048) hz]
  simp only [View.readAt_eq_ld, (hs0_0 t).read_unread, (hs0_1 t).read_unread, (hs0_2 t).read_unread,
    (hs0_3 t).read_unread, (Memref.isWhole_whole _).read_unread, View.ld_unit_zero (S := S512x2048) hz,
    View.readCov_unit_zero (S := S512x2048) _ hz]
  rfl

/-- At the last chunk the carried activations stay. -/
theorem C_xb (c : Dev nD) (t : Fin cfg0.N) (acc) (h0 : ¬ t.val % 11 = 0) (h1 : t.val % 11 = 10) :
    (stAt0 m c t.val t.isLt acc).2.1 = acc.2.1 := by
  rw [stAt0_C m c t acc h0 h1]
  rfl

/-- At the last chunk the accumulator steps. -/
theorem C_acc (c : Dev nD) (t : Fin cfg0.N) (acc) (h0 : ¬ t.val % 11 = 0) (h1 : t.val % 11 = 10) :
    (stAt0 m c t.val t.isLt acc).2.2
      = step acc.2.1 (iblk m c 1 t) (iblk m c 2 t) (iblk m c 3 t) acc.2.2 := by
  rw [stAt0_C m c t acc h0 h1]
  dsimp only
  unfold sout0_C_1
  rw [View.read_writes_eq_canon _ _ _ (fun y => scover0_C_1 (y := y) ..)]
  unfold kernelRun0_C
  dsimp only
  sl_unfold_words
  rw [View.canon_unit_zero (S := S512x2048) hz]
  simp only [View.readAt_eq_ld, (hs0_0 t).read_unread, (hs0_1 t).read_unread, (hs0_2 t).read_unread,
    (hs0_3 t).read_unread, (Memref.isWhole_whole _).read_unread, View.ld_unit_zero (S := S512x2048) hz,
    View.readCov_unit_zero (S := S512x2048) _ hz]
  rfl

set_option maxHeartbeats 1600000 in
/-- At the last chunk the output is the normalised sum of the input and the new accumulator. -/
theorem C_out6 (c : Dev nD) (t : Fin cfg0.N) (acc) (h0 : ¬ t.val % 11 = 0) (h1 : t.val % 11 = 10) :
    (stAt0 m c t.val t.isLt acc).1
      = k0_pay2 (iblk m c 0 t) (step acc.2.1 (iblk m c 1 t) (iblk m c 2 t) (iblk m c 3 t) acc.2.2)
          (iblk m c 4 t) (iblk m c 5 t) := by
  rw [stAt0_C m c t acc h0 h1]
  dsimp only
  unfold out0_C_6
  rw [View.read_writes_eq_canon _ _ _ (fun y => cover0_C_6 (y := y) ..)]
  unfold kernelRun0_C
  dsimp only
  sl_unfold_words
  rw [View.canon_unit_zero (S := S512x2048) hz]
  simp only [View.readAt_eq_ld, (hs0_0 t).read_unread, (hs0_1 t).read_unread, (hs0_2 t).read_unread,
    (hs0_3 t).read_unread, (hs0_4 t).read_unread, (hs0_5 t).read_unread, (Memref.isWhole_whole _).read_unread,
    View.ld_unit_zero (S := S512x2048) hz, View.ld_unit_zero (S := S1x2048) hz,
    View.readCov_unit_zero (S := S512x2048) _ hz]
  rfl

/-- One step read at an entry: the chunk's hidden units times the down weights are added. -/
theorem step_at (xb : FVec Ideal S512x2048 .bf16) (wg wu : FVec Ideal S2048x512 .bf16)
    (wd : FVec Ideal S512x2048 .bf16) (acc : FVec Ideal S512x2048 .f32) (r : Fin 512) (d : Fin 2048) :
    step xb wg wu wd acc (ix2 r d)
      = acc (ix2 r d) + ∑ j : Fin 512, hid (fun e => xb (ix2 r e)) (fun e => wg (ix2 e j)) (fun e => wu (ix2 e j))
          * wd (ix2 j d) := by
  unfold step
  pointwise [k0_pay1, k0_pay5, k0_pay6, k0_pay7, k0_pay8, k0_pay9]
  rw [Fin.sum_univ_two_halves 256 256 rfl]
  simp only [hid, zero_sub]

/-- The accumulator starts at zero. -/
theorem pay5_at (r : Fin 512) (d : Fin 2048) : k0_pay4 (F := Ideal) (ix2 r d) = 0 := by
  pointwise [k0_pay4]

/-- The carried activations are the block's. -/
theorem pay4_at (x : FVec Ideal S512x2048 .f32) (r : Fin 512) (d : Fin 2048) : k0_pay3 (F := Ideal) x (ix2 r d) = x (ix2 r d) := by
  pointwise [k0_pay3]

/-- The output block at an entry: layer normalisation of the scaled input plus half the accumulator. -/
theorem pay2_at (x acc : FVec Ideal S512x2048 .f32) (g b : FVec Ideal S1x2048 .f32) (r : Fin 512) (d : Fin 2048) :
    k0_pay2 (F := Ideal) x acc g b (ix2 r d)
      = normed (fun e => mix (x (ix2 r e)) (acc (ix2 r e))) (g (ix2 0 d)) (b (ix2 0 d)) d := by
  unfold normed mix
  pointwise [k0_pay2]

/-- Where each input's block lies at a grid point. -/
theorem index_facts : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val % 11 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0)

/-- The number of grid points. -/
theorem lt_N (t : Fin cfg0.N) : t.val < 352 := lt_of_lt_of_eq t.isLt (show cfg0.N = 352 from N_0)

/-- The arguments, as arrays. -/
def X (c : Dev nD) : FVec Ideal S16384x2048 .f32 := m ((c : Thread nD τ).loc main_arg0)
@[inherit_doc X] def Wg (c : Dev nD) : FVec Ideal S2048x5632 .f32 := m ((c : Thread nD τ).loc main_arg1)
@[inherit_doc X] def Wu (c : Dev nD) : FVec Ideal S2048x5632 .f32 := m ((c : Thread nD τ).loc main_arg2)
@[inherit_doc X] def Wd (c : Dev nD) : FVec Ideal S5632x2048 .f32 := m ((c : Thread nD τ).loc main_arg3)
@[inherit_doc X] def Ga (c : Dev nD) : FVec Ideal S2048 .f32 := m ((c : Thread nD τ).loc main_arg4)
@[inherit_doc X] def Be (c : Dev nD) : FVec Ideal S2048 .f32 := m ((c : Thread nD τ).loc main_arg5)

/-- What the host hands the call for the gate weights. -/
theorem V0 (c : Dev nD) : V m c main_v0 = (truncf .bf16 (Wg m c) bitsLt_bf16_f32 : FVec Ideal S2048x5632 .bf16) := by
  unfold_abbrev_sides; after_results; rfl
@[inherit_doc V0] theorem V1 (c : Dev nD) : V m c main_v1 = (truncf .bf16 (Wu m c) bitsLt_bf16_f32 : FVec Ideal S2048x5632 .bf16) := by
  unfold_abbrev_sides; after_results; rfl
@[inherit_doc V0] theorem V2 (c : Dev nD) : V m c main_v2 = (truncf .bf16 (Wd m c) bitsLt_bf16_f32 : FVec Ideal S5632x2048 .bf16) := by
  unfold_abbrev_sides; after_results; rfl
/-- What the host hands the call for the gain and the offset. -/
theorem V3 (c : Dev nD) : V m c main_v3 = (shapeCast S1x2048 (Ga m c) shapeCasts_S2048_S1x2048 : FVec Ideal S1x2048 .f32) := by
  unfold_abbrev_sides; after_results; rfl
@[inherit_doc V3] theorem V4 (c : Dev nD) : V m c main_v4 = (shapeCast S1x2048 (Be m c) shapeCasts_S2048_S1x2048 : FVec Ideal S1x2048 .f32) := by
  unfold_abbrev_sides; after_results; rfl

/-- The activations' block at an entry. -/
theorem blk0 (c : Dev nD) (t : Fin cfg0.N) (r : Fin 512) (e : Fin 2048) :
    (iblk m c 0 t : FVec Ideal S512x2048 .f32) (ix2 r e)
      = X m c (ix2 ⟨512 * (t.val / 11) + r.val, by have := lt_N t; omega⟩ e) := by
  have hi := index_facts t
  unfold iblk
  rw [View.read_apply]
  show X m c _ = _
  congr 1
  funext a
  apply Fin.ext
  match a with
  | ⟨0, _⟩ => show win0_0.index t 0 * 512 + 1 * r.val = _; rw [hi.1]; show _ = 512 * (t.val / 11) + r.val; omega
  | ⟨1, _⟩ => show win0_0.index t 1 * 2048 + 1 * e.val = e.val; rw [hi.2.1]; omega

/-- The gate weights' block at an entry. -/
theorem blk1 (c : Dev nD) (t : Fin cfg0.N) (e : Fin 2048) (j : Fin 512) :
    (iblk m c 1 t : FVec Ideal S2048x512 .bf16) (ix2 e j)
      = Wg m c (ix2 e ⟨512 * (t.val % 11) + j.val, by omega⟩) := by
  have hi := index_facts t
  unfold iblk
  rw [View.read_apply]
  show V m c main_v0 _ = _
  rw [V0]
  show Wg m c _ = _
  congr 1
  funext a
  apply Fin.ext
  match a with
  | ⟨0, _⟩ => show win0_1.index t 0 * 2048 + 1 * e.val = e.val; rw [hi.2.2.1]; omega
  | ⟨1, _⟩ => show win0_1.index t 1 * 512 + 1 * j.val = 512 * (t.val % 11) + j.val; rw [hi.2.2.2.1]; omega

/-- The up weights' block at an entry. -/
theorem blk2 (c : Dev nD) (t : Fin cfg0.N) (e : Fin 2048) (j : Fin 512) :
    (iblk m c 2 t : FVec Ideal S2048x512 .bf16) (ix2 e j)
      = Wu m c (ix2 e ⟨512 * (t.val % 11) + j.val, by omega⟩) := by
  have hi := index_facts t
  unfold iblk
  rw [View.read_apply]
  show V m c main_v1 _ = _
  rw [V1]
  show Wu m c _ = _
  congr 1
  funext a
  apply Fin.ext
  match a with
  | ⟨0, _⟩ => show win0_2.index t 0 * 2048 + 1 * e.val = e.val; rw [hi.2.2.2.2.1]; omega
  | ⟨1, _⟩ => show win0_2.index t 1 * 512 + 1 * j.val = 512 * (t.val % 11) + j.val; rw [hi.2.2.2.2.2.1]; omega

/-- The down weights' block at an entry. -/
theorem blk3 (c : Dev nD) (t : Fin cfg0.N) (j : Fin 512) (d : Fin 2048) :
    (iblk m c 3 t : FVec Ideal S512x2048 .bf16) (ix2 j d)
      = Wd m c (ix2 ⟨512 * (t.val % 11) + j.val, by omega⟩ d) := by
  have hi := index_facts t
  unfold iblk
  rw [View.read_apply]
  show V m c main_v2 _ = _
  rw [V2]
  show Wd m c _ = _
  congr 1
  funext a
  apply Fin.ext
  match a with
  | ⟨0, _⟩ => show win0_3.index t 0 * 512 + 1 * j.val = 512 * (t.val % 11) + j.val; rw [hi.2.2.2.2.2.2.1]; omega
  | ⟨1, _⟩ => show win0_3.index t 1 * 2048 + 1 * d.val = d.val; rw [hi.2.2.2.2.2.2.2.1]; omega

/-- The gain's block at an entry. -/
theorem blk4 (c : Dev nD) (t : Fin cfg0.N) (d : Fin 2048) :
    (iblk m c 4 t : FVec Ideal S1x2048 .f32) (ix2 0 d) = Ga m c (ix1 d) := by
  have hi := index_facts t
  have e : (iblk m c 4 t : FVec Ideal S1x2048 .f32) (ix2 0 d) = V m c main_v3 (ix2 0 d) := by
    unfold iblk
    rw [View.read_apply]
    show V m c main_v3 _ = _
    congr 1
    funext a
    apply Fin.ext
    match a with
    | ⟨0, _⟩ => show win0_4.index t 0 * 1 + 1 * 0 = 0; rw [hi.2.2.2.2.2.2.2.2.1]
    | ⟨1, _⟩ => show win0_4.index t 1 * 2048 + 1 * d.val = d.val; rw [hi.2.2.2.2.2.2.2.2.2.1]; omega
  rw [e, V3]
  pointwise

/-- The offset's block at an entry. -/
theorem blk5 (c : Dev nD) (t : Fin cfg0.N) (d : Fin 2048) :
    (iblk m c 5 t : FVec Ideal S1x2048 .f32) (ix2 0 d) = Be m c (ix1 d) := by
  have hi := index_facts t
  have e : (iblk m c 5 t : FVec Ideal S1x2048 .f32) (ix2 0 d) = V m c main_v4 (ix2 0 d) := by
    unfold iblk
    rw [View.read_apply]
    show V m c main_v4 _ = _
    congr 1
    funext a
    apply Fin.ext
    match a with
    | ⟨0, _⟩ => show win0_5.index t 0 * 1 + 1 * 0 = 0; rw [hi.2.2.2.2.2.2.2.2.2.2.1]
    | ⟨1, _⟩ => show win0_5.index t 1 * 2048 + 1 * d.val = d.val; rw [hi.2.2.2.2.2.2.2.2.2.2.2]; omega
  rw [e, V4]
  pointwise

/-- What hidden unit `n` adds to entry `d` of row `r`. -/
def unit (c : Dev nD) (r : Fin 16384) (d : Fin 2048) (n : Fin 5632) : EReal :=
  hid (fun e => X m c (ix2 r e)) (fun e => Wg m c (ix2 e n)) (fun e => Wu m c (ix2 e n)) * Wd m c (ix2 n d)

/-- Row `r` of the block of rows that grid point `n` works on. -/
def rowOf (n : ℕ) (h : n < 352) (r : Fin 512) : Fin 16384 := ⟨512 * (n / 11) + r.val, by omega⟩

/-- A step on the block's activations adds the point's chunk of hidden units. -/
theorem step_chunk (c : Dev nD) (t : Fin cfg0.N) (xb : FVec Ideal S512x2048 .bf16) (acc : FVec Ideal S512x2048 .f32)
    (hx : ∀ (r : Fin 512) (e : Fin 2048), xb (ix2 r e) = X m c (ix2 (rowOf t.val (lt_N t) r) e)) (r : Fin 512) (d : Fin 2048) :
    step xb (iblk m c 1 t) (iblk m c 2 t) (iblk m c 3 t) acc (ix2 r d)
      = acc (ix2 r d) + ∑ j : Fin 512, ext (unit m c (rowOf t.val (lt_N t) r) d) (512 * (t.val % 11) + j.val) := by
  rw [step_at]
  congr 1
  refine Finset.sum_congr rfl fun j _ => ?_
  rw [ext_of_lt _ _ (by omega), unit, blk3]
  simp only [hx, blk1, blk2]

/-- The state after point `n`, from the first. -/
abbrev stateAt (c : Dev nD) (n : ℕ) (h : 0 + n < cfg0.N) :=
  Pipeline.accAt (fun n h => stAt0 m c n h junk0) (stAt0 m c) 0 n h

/-- After point `n` the carried activations are its block's, and the accumulator holds the chunks up to its own. -/
theorem state_eq (c : Dev nD) : ∀ (n : ℕ) (h : 0 + n < cfg0.N) (hn : n < 352),
    (∀ (r : Fin 512) (e : Fin 2048), (stateAt m c n h).2.1 (ix2 r e) = X m c (ix2 (rowOf n hn r) e))
    ∧ ∀ (r : Fin 512) (d : Fin 2048), (stateAt m c n h).2.2 (ix2 r d)
      = ∑ k ∈ Finset.range (n % 11 + 1), ∑ j : Fin 512, ext (unit m c (rowOf n hn r) d) (512 * k + j.val) := by
  have first : ∀ (n : ℕ) (hb : n < cfg0.N) (hn : n < 352) (acc), n % 11 = 0 →
      (∀ (r : Fin 512) (e : Fin 2048), (stAt0 m c n hb acc).2.1 (ix2 r e) = X m c (ix2 (rowOf n hn r) e))
      ∧ ∀ (r : Fin 512) (d : Fin 2048), (stAt0 m c n hb acc).2.2 (ix2 r d)
        = ∑ k ∈ Finset.range (n % 11 + 1), ∑ j : Fin 512, ext (unit m c (rowOf n hn r) d) (512 * k + j.val) := by
    intro n hb hn acc h0
    have hx : ∀ (r : Fin 512) (e : Fin 2048), k0_pay3 (F := Ideal) (iblk m c 0 ⟨n, hb⟩) (ix2 r e) = X m c (ix2 (rowOf n hn r) e) :=
      fun r e => (pay4_at _ r e).trans (blk0 m c ⟨n, hb⟩ r e)
    refine ⟨fun r e => ?_, fun r d => ?_⟩
    · rw [A_xb m c ⟨n, hb⟩ acc h0 (by dsimp only; omega)]; exact hx r e
    · rw [A_acc m c ⟨n, hb⟩ acc h0 (by dsimp only; omega), step_chunk m c ⟨n, hb⟩ _ _ hx, pay5_at, zero_add, h0,
        Finset.sum_range_one]
  intro n
  induction n with
  | zero => intro h hn; exact first 0 h hn _ rfl
  | succ n ih =>
    intro h hn
    have e0 : 0 + (n + 1) = n + 1 := Nat.zero_add _
    obtain ⟨ix, ia⟩ := ih (by omega) (by omega)
    have hst : stateAt m c (n + 1) h = stAt0 m c (n + 1) (by omega) (stateAt m c n (by omega)) := by
      unfold stateAt; rw [Pipeline.accAt_succ]; congr 1
    rw [hst]
    by_cases h0 : (n + 1) % 11 = 0
    · exact first (n + 1) (by omega) hn _ h0
    · have hrow : ∀ r, rowOf (n + 1) hn r = rowOf n (by omega) r := fun r => by
        unfold rowOf; apply Fin.ext; dsimp only; omega
      have hk : (n + 1) % 11 = n % 11 + 1 := by omega
      have hb : n + 1 < cfg0.N := by omega
      have hx : ∀ (r : Fin 512) (e : Fin 2048), (stateAt m c n (by omega)).2.1 (ix2 r e) = X m c (ix2 (rowOf (n + 1) hn r) e) :=
        fun r e => by rw [hrow]; exact ix r e
      have hs : ∀ (r : Fin 512) (d : Fin 2048), step (stateAt m c n (by omega)).2.1 (iblk m c 1 ⟨n + 1, hb⟩)
          (iblk m c 2 ⟨n + 1, hb⟩) (iblk m c 3 ⟨n + 1, hb⟩) (stateAt m c n (by omega)).2.2 (ix2 r d)
          = ∑ k ∈ Finset.range ((n + 1) % 11 + 1), ∑ j : Fin 512, ext (unit m c (rowOf (n + 1) hn r) d) (512 * k + j.val) := by
        intro r d
        rw [step_chunk m c ⟨n + 1, hb⟩ _ _ hx, ia, Finset.sum_range_succ _ ((n + 1) % 11)]
        dsimp only
        rw [hk, hrow]
      by_cases h1 : (n + 1) % 11 = 10
      · refine ⟨fun r e => ?_, fun r d => ?_⟩
        · rw [C_xb m c ⟨n + 1, hb⟩ _ h0 h1]; exact hx r e
        · rw [C_acc m c ⟨n + 1, hb⟩ _ h0 h1]; exact hs r d
      · refine ⟨fun r e => ?_, fun r d => ?_⟩
        · rw [B_xb m c ⟨n + 1, hb⟩ _ h0 h1]; exact hx r e
        · rw [B_acc m c ⟨n + 1, hb⟩ _ h0 h1]; exact hs r d

/-- The layer's value at an entry. -/
def val (c : Dev nD) (r : Fin 16384) (d : Fin 2048) : EReal :=
  normed (fun e => mix (X m c (ix2 r e)) (∑ n, unit m c r e n)) (Ga m c (ix1 d)) (Be m c (ix1 d)) d

/-- At the last chunk of a block of rows, what goes into the output block is the layer's value there. -/
theorem last_eq (c : Dev nD) (n : ℕ) (h : 0 + (n + 1) < cfg0.N) (hn : n + 1 < 352) (h1 : (n + 1) % 11 = 10)
    (r : Fin 512) (d : Fin 2048) :
    (stateAt m c (n + 1) h).1 (ix2 r d) = val m c (rowOf (n + 1) hn r) d := by
  have hb : n + 1 < cfg0.N := by omega
  have h0 : ¬ (n + 1) % 11 = 0 := by omega
  have hst : stateAt m c (n + 1) h = stAt0 m c (n + 1) hb (stateAt m c n (by omega)) := by
    have e0 : 0 + (n + 1) = n + 1 := Nat.zero_add _
    unfold stateAt; rw [Pipeline.accAt_succ]; congr 1
  have ha := (state_eq m c (n + 1) h hn).2
  rw [hst, C_acc m c ⟨n + 1, hb⟩ _ h0 h1] at ha
  have key : k0_pay2 (F := Ideal) (iblk m c 0 ⟨n + 1, hb⟩) (step (stateAt m c n (by omega)).2.1 (iblk m c 1 ⟨n + 1, hb⟩)
      (iblk m c 2 ⟨n + 1, hb⟩) (iblk m c 3 ⟨n + 1, hb⟩) (stateAt m c n (by omega)).2.2)
          (iblk m c 4 ⟨n + 1, hb⟩) (iblk m c 5 ⟨n + 1, hb⟩) (ix2 r d) = val m c (rowOf (n + 1) hn r) d := by
    rw [pay2_at, val]
    have h11 : (n + 1) % 11 + 1 = 11 := by omega
    simp only [ha, blk0, blk4, blk5, h11, sum_chunks]
    rfl
  rw [hst, C_out6 m c ⟨n + 1, hb⟩ _ h0 h1]
  exact key

/-- The place of row `r` in its block. -/
theorem row_split (r : Fin 16384) (hn : 11 * (r.val / 512) + 9 + 1 < 352) :
    rowOf (11 * (r.val / 512) + 9 + 1) hn ⟨r.val % 512, Nat.mod_lt _ (by decide)⟩ = r := by
  unfold rowOf; apply Fin.ext; dsimp only; omega

/-- The result is the layer's value everywhere. -/
theorem G6_eq (c : Dev nD) (r : Fin 16384) (d : Fin 2048) : G6 m c (ix2 r d) = val m c r d := by
  have hN : cfg0.N = 352 := N_0
  have hp : pt6Of (ix2 r d) = 11 * (r.val / 512) + 9 + 1 := by
    show 11 * (1 * (r.val / 512 - 0) + 1 * (d.val / 2048 - 0)) + 10 = _; omega
  have hl : loc6Of (ix2 r d) = ix2 ⟨r.val % 512, Nat.mod_lt _ (by decide)⟩ d := by
    funext a; apply Fin.ext
    match a with
    | ⟨0, _⟩ => rfl
    | ⟨1, _⟩ => show d.val % 2048 = d.val; omega
  have hn : 11 * (r.val / 512) + 9 + 1 < 352 := by omega
  unfold G6
  rw [dif_pos (by omega), hl, fold0_congr m c _ _ _ (by omega) hp]
  exact (last_eq m c _ _ hn (by omega) _ d).trans (by rw [row_split])

end Cert.Ffn2Ideal.Hand
-- ==== Proof.Ffn2Ref.lean ====
module

public import proofs.«01_k».proof.Proof.Gen.Ffn2RefIdeal.Run
public import proofs.«01_k».proof.Proof.FfnMath
public import Idealize.ShloMosaic.Lib.Pointwise

@[expose] public section

set_option maxRecDepth 16384

noncomputable section

namespace Cert.Ffn2RefIdeal.Hand

open Cert.Ffn2RefIdeal Cert.Ffn2RefIdeal.Gen Cert.Ffn2RefIdeal.Value Cert.FfnMath Idealize.ShloMosaic Idealize.ShloMosaic.TcCoe Idealize.SL.Sem

/-- The hidden units of the plain program. -/
def hidden (x : FVec Ideal S16384x2048 .f32) (wg wu : FVec Ideal S2048x5632 .f32) : FVec Ideal S16384x5632 .f32 :=
  mulf (mulf (Host.dotGeneral dot_S16384x2048_S2048x5632_S16384x5632_1_0_0_1_n_n none x wg) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral dot_S16384x2048_S2048x5632_S16384x5632_1_0_0_1_n_n none x wg)))))) (Host.dotGeneral dot_S16384x2048_S2048x5632_S16384x5632_1_0_0_1_n_n none x wu)

/-- The plain program's input to the layer normalisation. -/
def mixed (x : FVec Ideal S16384x2048 .f32) (h : FVec Ideal S16384x5632 .f32) (wd : FVec Ideal S5632x2048 .f32) :
    FVec Ideal S16384x2048 .f32 :=
  addf (mulf (broadcastInDim S16384x2048 ![] bcast_S_S16384x2048 (constant S_ .f32 0x3F9837F0#32)) x) (mulf (broadcastInDim S16384x2048 ![] bcast_S_S16384x2048 (constant S_ .f32 0x3F000000#32)) (Host.dotGeneral dot_S16384x5632_S5632x2048_S16384x2048_1_0_0_1_n_n none h wd))

/-- The plain program's layer normalisation, up to the gain and the offset. -/
def centred (y : FVec Ideal S16384x2048 .f32) : FVec Ideal S16384x2048 .f32 :=
  subf y (broadcastInDim S16384x2048 ![0, 1] bcast_S16384x1_S16384x2048_0_1 (Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32))))

theorem hidden_at (x : FVec Ideal S16384x2048 .f32) (wg wu : FVec Ideal S2048x5632 .f32) (r : Fin 16384) (n : Fin 5632) :
    hidden x wg wu (ix2 r n) = hid (fun e => x (ix2 r e)) (fun e => wg (ix2 e n)) (fun e => wu (ix2 e n)) := by
  unfold hid
  pointwise [hidden]

theorem mixed_at (x : FVec Ideal S16384x2048 .f32) (h : FVec Ideal S16384x5632 .f32) (wd : FVec Ideal S5632x2048 .f32)
    (r : Fin 16384) (d : Fin 2048) : mixed x h wd (ix2 r d) = mix (x (ix2 r d)) (∑ n, h (ix2 r n) * wd (ix2 n d)) := by
  unfold mix
  pointwise [mixed]

theorem centred_at (y : FVec Ideal S16384x2048 .f32) (r : Fin 16384) (d : Fin 2048) :
    centred y (ix2 r d) = y (ix2 r d) - Ideal.div (∑ e, y (ix2 r e)) (Ideal.ofBits .f32 0x45000000#32) := by
  pointwise [centred]

/-- The plain program's layer normalisation with gain and offset. -/
def normedOf (y : FVec Ideal S16384x2048 .f32) (g b : FVec Ideal S2048 .f32) : FVec Ideal S16384x2048 .f32 :=
  addf (mulf (mulf (centred y) (broadcastInDim S16384x2048 ![0, 1] bcast_S16384x1_S16384x2048_0_1 (Host.rsqrt (addf (Host.divf (broadcastInDim S16384x1 ![0] bcast_S16384_S16384x1_0 (Host.reduceAdd (mulf (centred y) (centred y)) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem normedOf_at (y : FVec Ideal S16384x2048 .f32) (g b : FVec Ideal S2048 .f32) (r : Fin 16384) (d : Fin 2048) :
    normedOf y g b (ix2 r d) = normed (fun e => y (ix2 r e)) (g (ix1 d)) (b (ix1 d)) d := by
  unfold normed
  pointwise [normedOf]
  simp only [centred_at]

variable (m : (ℓ : Loc nD τ sig) → Buf (Elt Ideal) ℓ)

/-- The arguments, as arrays. -/
def X (c : Dev nD) : FVec Ideal S16384x2048 .f32 := m ((c.tc : Thread nD τ).loc main_arg0)
@[inherit_doc X] def Wg (c : Dev nD) : FVec Ideal S2048x5632 .f32 := m ((c.tc : Thread nD τ).loc main_arg1)
@[inherit_doc X] def Wu (c : Dev nD) : FVec Ideal S2048x5632 .f32 := m ((c.tc : Thread nD τ).loc main_arg2)
@[inherit_doc X] def Wd (c : Dev nD) : FVec Ideal S5632x2048 .f32 := m ((c.tc : Thread nD τ).loc main_arg3)
@[inherit_doc X] def Ga (c : Dev nD) : FVec Ideal S2048 .f32 := m ((c.tc : Thread nD τ).loc main_arg4)
@[inherit_doc X] def Be (c : Dev nD) : FVec Ideal S2048 .f32 := m ((c.tc : Thread nD τ).loc main_arg5)

/-- The plain program's result, in stages. -/
theorem out0_eq (c : Dev nD) :
    res_out0 m c = normedOf (mixed (X m c) (hidden (X m c) (Wg m c) (Wu m c)) (Wd m c)) (Ga m c) (Be m c) := rfl

/-- The plain program's result at an entry. -/
theorem out_at (c : Dev nD) (r : Fin 16384) (d : Fin 2048) :
    normedOf (mixed (X m c) (hidden (X m c) (Wg m c) (Wu m c)) (Wd m c)) (Ga m c) (Be m c) (ix2 r d)
      = normed (fun e => mix (X m c (ix2 r e)) (∑ n, hid (fun e => X m c (ix2 r e)) (fun e => Wg m c (ix2 e n))
          (fun e => Wu m c (ix2 e n)) * Wd m c (ix2 n e))) (Ga m c (ix1 d)) (Be m c (ix1 d)) d := by
  rw [normedOf_at]
  simp only [mixed_at, hidden_at]

end Cert.Ffn2RefIdeal.Hand
-- ==== Proof.Ffn2Claim.lean ====
module

public import proofs.«01_k».proof.Defs
public import proofs.«01_k».proof.Proof.Ffn2Val
public import proofs.«01_k».proof.Proof.Ffn2Ref

@[expose] public section

set_option maxRecDepth 16384

noncomputable section

namespace Cert.Proof.Ffn2

open Idealize.ShloMosaic Idealize.ShloMosaic.TcCoe Idealize.SL.Sem

/-- From the same arguments, the kernel's value at an entry is the plain program's. -/
theorem val_eq (m : (ℓ : Loc Cert.Ffn2Ideal.nD Cert.Ffn2Ideal.τ Cert.Ffn2Ideal.sig) → Buf (Elt Ideal) ℓ)
    (m' : (ℓ : Loc Cert.Ffn2RefIdeal.nD Cert.Ffn2RefIdeal.τ Cert.Ffn2RefIdeal.sig) → Buf (Elt Ideal) ℓ) (c : Dev Cert.Ffn2Ideal.nD)
    (hX : Cert.Ffn2RefIdeal.Hand.X m' c = Cert.Ffn2Ideal.Hand.X m c)
    (hG : Cert.Ffn2RefIdeal.Hand.Wg m' c = Cert.Ffn2Ideal.Hand.Wg m c)
    (hU : Cert.Ffn2RefIdeal.Hand.Wu m' c = Cert.Ffn2Ideal.Hand.Wu m c)
    (hD : Cert.Ffn2RefIdeal.Hand.Wd m' c = Cert.Ffn2Ideal.Hand.Wd m c)
    (hA : Cert.Ffn2RefIdeal.Hand.Ga m' c = Cert.Ffn2Ideal.Hand.Ga m c)
    (hB : Cert.Ffn2RefIdeal.Hand.Be m' c = Cert.Ffn2Ideal.Hand.Be m c) (r : Fin 16384) (d : Fin 2048) :
    Cert.Ffn2Ideal.Hand.val m c r d
      = Cert.Ffn2RefIdeal.Hand.normedOf (Cert.Ffn2RefIdeal.Hand.mixed (Cert.Ffn2RefIdeal.Hand.X m' c)
          (Cert.Ffn2RefIdeal.Hand.hidden (Cert.Ffn2RefIdeal.Hand.X m' c) (Cert.Ffn2RefIdeal.Hand.Wg m' c)
            (Cert.Ffn2RefIdeal.Hand.Wu m' c)) (Cert.Ffn2RefIdeal.Hand.Wd m' c)) (Cert.Ffn2RefIdeal.Hand.Ga m' c)
          (Cert.Ffn2RefIdeal.Hand.Be m' c) (ix2 r d) := by
  rw [Cert.Ffn2RefIdeal.Hand.out_at, hX, hG, hU, hD, hA, hB]
  rfl

/-- The gated layer with its layer normalisation: kernel and plain program compute the same array over the reals. -/
theorem algebraic : Cert.algebraic_Ffn2Ideal_Ffn2RefIdeal := by
  intro m ρ m' ρ' _ hag
  have hv := fun (c : Dev Cert.Ffn2Ideal.nD) => val_eq m m' c (hag c).1 (hag c).2.1 (hag c).2.2.1 (hag c).2.2.2.1 (hag c).2.2.2.2.1
    (hag c).2.2.2.2.2
  refine ⟨fun c => Cert.Ffn2Ideal.Value.G6 m c, Cert.Ffn2Ideal.Value.run m ρ,
    (θ_run _ _ _).mono (fun _ h c => ⟨(h c).1.trans ?_, (h c).2⟩) (Cert.Ffn2RefIdeal.Value.run m' ρ')⟩
  funext i
  obtain ⟨r, d, rfl⟩ : ∃ (r : Fin 16384) (d : Fin 2048), i = ix2 r d := ⟨i 0, i 1, eq_ix2 i⟩
  exact (congrFun (Cert.Ffn2RefIdeal.Hand.out0_eq m' c) _).trans ((hv c r d).symm.trans (Cert.Ffn2Ideal.Hand.G6_eq m c r d).symm)

end Cert.Proof.Ffn2
-- ==== Proof.ProjMath.lean ====
module

public import Idealize.ShloMosaic.Lib.Pointwise
public import Idealize.ShloMosaic.PureOps

@[expose] public section

noncomputable section

namespace Cert.Proj

open Idealize.ShloMosaic

/-- Column `n` of the combined input projection of row `t`. -/
def dot (h : FVec Ideal ⟨2, ![16384, 2048]⟩ .bf16) (w : FVec Ideal ⟨2, ![2048, 11288]⟩ .f32) (t : Fin 16384) (n : Fin 11288) : EReal :=
  ∑ k : Fin 2048, h (ix2 t k) * w (ix2 k n)

/-- The sigmoid, as both programs write it. -/
def sigmoid (x : EReal) : EReal := Ideal.div 1 (1 + Ideal.exp (-x))

end Cert.Proj
-- ==== Proof.GatesClaim.lean ====
module

public import proofs.«01_k».proof.Defs
public import proofs.«01_k».proof.Proof.Gen.GatesIdeal.Value
public import proofs.«01_k».proof.Proof.Gen.GatesRefIdeal.Run
public import proofs.«01_k».proof.Proof.ProjMath
public import Idealize.ShloMosaic.Lib.Pipeline.ValueKit.Tiles

@[expose] public section

set_option maxRecDepth 16384

noncomputable section

namespace Cert.GatesIdeal.Hand

open Cert.GatesIdeal Cert.GatesIdeal.Gen Cert.GatesIdeal.Value Idealize.ShloMosaic Idealize.ShloMosaic.TcCoe Idealize.SL.Sem

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- What the host hands the call: the columns of the two gates. -/
theorem V1 : V m c main_v1 = (extractStridedSlice S2048x4096 ![0, 7192] (truncf .bf16 (W m c) bitsLt_bf16_f32 : FVec Ideal S2048x11288 .bf16)
    slices_S2048x11288_S2048x4096_0_7192 : FVec Ideal S2048x4096 .bf16) := by
  unfold_abbrev_sides; after_results

theorem cols_at (w : FVec Ideal S2048x11288 .f32) (k : Fin 2048) (n : Fin 4096) :
    extractStridedSlice S2048x4096 ![0, 7192] (truncf .bf16 w bitsLt_bf16_f32 : FVec Ideal S2048x11288 .bf16) slices_S2048x11288_S2048x4096_0_7192 (ix2 k n)
      = w (ix2 k ⟨7192 + n.val, by omega⟩) := by
  pointwise []

theorem index_facts : ∀ t : Fin cfg0.N,
    win0_0.index t (0 : Fin 2) = t.val / 4 ∧ win0_0.index t (1 : Fin 2) = 0 ∧ win0_1.index t (0 : Fin 2) = 0 ∧ win0_1.index t (1 : Fin 2) = t.val % 4
    ∧ win0_2.index t (0 : Fin 2) = t.val / 4 ∧ win0_2.index t (1 : Fin 2) = t.val % 4 ∧ win0_2.flush t = true :=
  (by decide +kernel : ∀ t : Fin grid0.N,
    win0_0.index t (0 : Fin 2) = t.val / 4 ∧ win0_0.index t (1 : Fin 2) = 0 ∧ win0_1.index t (0 : Fin 2) = 0 ∧ win0_1.index t (1 : Fin 2) = t.val % 4
    ∧ win0_2.index t (0 : Fin 2) = t.val / 4 ∧ win0_2.index t (1 : Fin 2) = t.val % 4 ∧ win0_2.flush t = true)

theorem lt_N (t : Fin cfg0.N) : t.val < 64 := by have hN : cfg0.N = 64 := N_0; have := t.isLt; omega

theorem blk0_at (t : Fin cfg0.N) (r : Fin 1024) (k : Fin 2048) :
    (iblk m c 0 t : FVec Ideal S1024x2048 .bf16) (ix2 r k) = X m c (ix2 ⟨1024 * (t.val / 4) + r.val, by have := lt_N t; omega⟩ k) := by
  have hi := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 4) + r.val; rw [hi.1]; omega
  | ⟨1, _⟩ => show win0_0.index t 1 * 2048 + 1 * k.val = k.val; rw [hi.2.1]; omega

theorem blk1_at (t : Fin cfg0.N) (k : Fin 2048) (j : Fin 1024) :
    (iblk m c 1 t : FVec Ideal S2048x1024 .bf16) (ix2 k j) = W m c (ix2 k ⟨7192 + (1024 * (t.val % 4) + j.val), by omega⟩) := by
  have hi := index_facts t
  unfold iblk
  rw [View.read_apply]
  show V m c main_v1 _ = _
  rw [V1]
  refine Eq.trans ?_ (cols_at (W m c) k ⟨1024 * (t.val % 4) + j.val, by omega⟩)
  congr 1
  funext a
  apply Fin.ext
  match a with
  | ⟨0, _⟩ => show win0_1.index t 0 * 2048 + 1 * k.val = k.val; rw [hi.2.2.1]; omega
  | ⟨1, _⟩ => show win0_1.index t 1 * 1024 + 1 * j.val = 1024 * (t.val % 4) + j.val; rw [hi.2.2.2.1]; omega

theorem pay_at (x : FVec Ideal S1024x2048 .bf16) (w : FVec Ideal S2048x1024 .bf16) (r j : Fin 1024) :
    (k0_pay1 x w : FVec Ideal S1024x1024 .bf16) (ix2 r j) = Proj.sigmoid (∑ k : Fin 2048, x (ix2 r k) * w (ix2 k j)) := by
  unfold Proj.sigmoid
  rw [← zero_sub]
  pointwise [k0_pay1]

theorem out_eq (x : FVec Ideal S1024x2048 .bf16) (w : FVec Ideal S2048x1024 .bf16) :
    (out0_2 (F := Ideal) x w : Vec Ideal S1024x1024 .bf16) = k0_pay1 (F := Ideal) x w := by
  have hz : (![0, 0] : Fin 2 → ℕ) = 0 := by decide
  unfold out0_2
  rw [View.canon_unit_zero (S := S1024x1024) hz]
  simp only [View.ld_unit_zero (S := S1024x2048) hz, View.ld_unit_zero (S := S2048x1024) hz]

/-- The kernel's result: the sigmoids of the gates' columns. -/
theorem val_at (t : Fin 16384) (n : Fin 4096) :
    ((dats m 0 c).arrAt 2 cfg0.N : FVec Ideal S16384x4096 .bf16) (ix2 t n) = Proj.sigmoid (Proj.dot (X m c) (W m c) t ⟨7192 + n.val, by omega⟩) := by
  have hN : cfg0.N = 64 := N_0
  obtain ⟨u, r, j, hu, ht, hn⟩ : ∃ (u : Fin cfg0.N) (r j : Fin 1024), True ∧ t.val = 1024 * (u.val / 4) + r.val ∧ n.val = 1024 * (u.val % 4) + j.val :=
    ⟨⟨4 * (t.val / 1024) + n.val / 1024, by omega⟩, ⟨t.val % 1024, by omega⟩, ⟨n.val % 1024, by omega⟩, trivial,
      by show t.val = 1024 * ((4 * (t.val / 1024) + n.val / 1024) / 4) + t.val % 1024; omega,
      by show n.val = 1024 * ((4 * (t.val / 1024) + n.val / 1024) % 4) + n.val % 1024; omega⟩
  have hi := index_facts u
  have hb := congrFun (blocks2 m c u hi.2.2.2.2.2.2) (ix2 r j)
  rw [View.read_apply] at hb
  refine Eq.trans ?_ (hb.trans ?_)
  · congr 1
    funext a
    apply Fin.ext
    match a with
    | ⟨0, _⟩ => show t.val = win0_2.index u 0 * 1024 + 1 * r.val; rw [hi.2.2.2.2.1]; omega
    | ⟨1, _⟩ => show n.val = win0_2.index u 1 * 1024 + 1 * j.val; rw [hi.2.2.2.2.2.1]; omega
  · rw [flushed2]
    show out0_2 _ _ (ix2 r j) = _
    rw [out_eq, pay_at]
    unfold Proj.dot
    refine congrArg Proj.sigmoid (Finset.sum_congr rfl fun k _ => ?_)
    refine congrArg₂ (fun a b : EReal => a * b) ((blk0_at m c u r k).trans ?_) ((blk1_at m c u k j).trans ?_)
    · exact congrArg (fun i => X m c (ix2 i k)) (Fin.ext ht.symm)
    · exact congrArg (fun i => W m c (ix2 k i)) (Fin.ext (by show 7192 + (1024 * (u.val % 4) + j.val) = 7192 + n.val; omega))

end Cert.GatesIdeal.Hand

namespace Cert.GatesRefIdeal.Hand

open Cert.GatesRefIdeal Cert.GatesRefIdeal.Gen Cert.GatesRefIdeal.Value Idealize.ShloMosaic Idealize.ShloMosaic.TcCoe Idealize.SL.Sem

/-- All columns of the combined projection. -/
def proj (x : FVec Ideal S16384x2048 .bf16) (w : FVec Ideal S2048x11288 .f32) : FVec Ideal S16384x11288 .f32 :=
  Host.dotGeneral dot_S16384x2048_S2048x11288_S16384x11288_1_0_0_1_n_n none (extf .f32 x bitsLt_bf16_f32) w

theorem proj_at (x : FVec Ideal S16384x2048 .bf16) (w : FVec Ideal S2048x11288 .f32) (t : Fin 16384) (n : Fin 11288) :
    proj x w (ix2 t n) = Proj.dot x w t n := by
  unfold Proj.dot
  pointwise [proj]

/-- The sigmoids of an array. -/
def sig (x : FVec Ideal S16384x2048 .f32) : FVec Ideal S16384x2048 .f32 :=
  Host.divf (broadcastInDim S16384x2048 ![] bcast_S_S16384x2048 (constant S_ .f32 0x3F800000#32))
    (addf (broadcastInDim S16384x2048 ![] bcast_S_S16384x2048 (constant S_ .f32 0x3F800000#32)) (Host.exp (Host.negf x)))

theorem sig_at (x : FVec Ideal S16384x2048 .f32) (t : Fin 16384) (n : Fin 2048) : sig x (ix2 t n) = Proj.sigmoid (x (ix2 t n)) := by
  unfold Proj.sigmoid
  pointwise [sig]

/-- The plain program's result, in terms of all columns. -/
def res (p : FVec Ideal S16384x11288 .f32) : FVec Ideal S16384x4096 .bf16 :=
  truncf .bf16 (concatenate S16384x4096 1
    [⟨S16384x2048, sig (extractStridedSlice S16384x2048 ![0, 7192] p slices_S16384x11288_S16384x2048_0_7192)⟩,
     ⟨S16384x2048, sig (extractStridedSlice S16384x2048 ![0, 9240] p slices_S16384x11288_S16384x2048_0_9240)⟩]
    concatenates_S16384x2048_S16384x2048_S16384x4096_d1) bitsLt_bf16_f32

theorem res_at (p : FVec Ideal S16384x11288 .f32) (t : Fin 16384) (n : Fin 4096) :
    res p (ix2 t n) = Proj.sigmoid (p (ix2 t ⟨7192 + n.val, by omega⟩)) := by
  have h1 : ∀ j : Fin 2048, sig (extractStridedSlice S16384x2048 ![0, 7192] p slices_S16384x11288_S16384x2048_0_7192) (ix2 t j) = Proj.sigmoid (p (ix2 t ⟨7192 + j.val, by omega⟩)) := fun j => by
    rw [sig_at]
    pointwise []
  have h2 : ∀ j : Fin 2048, sig (extractStridedSlice S16384x2048 ![0, 9240] p slices_S16384x11288_S16384x2048_0_9240) (ix2 t j) = Proj.sigmoid (p (ix2 t ⟨9240 + j.val, by omega⟩)) := fun j => by
    rw [sig_at]
    pointwise []
  unfold res
  generalize sig (extractStridedSlice S16384x2048 ![0, 7192] p slices_S16384x11288_S16384x2048_0_7192) = a at h1
  generalize sig (extractStridedSlice S16384x2048 ![0, 9240] p slices_S16384x11288_S16384x2048_0_9240) = b at h2
  have hc : (truncf .bf16 (concatenate S16384x4096 1 [⟨S16384x2048, a⟩, ⟨S16384x2048, b⟩] concatenates_S16384x2048_S16384x2048_S16384x4096_d1) bitsLt_bf16_f32 : FVec Ideal S16384x4096 .bf16) (ix2 t n)
      = if h : n.val < 2048 then a (ix2 t ⟨n.val, h⟩) else b (ix2 t ⟨n.val - 2048, by omega⟩) := by pointwise []
  refine hc.trans ?_
  split
  · exact h1 _
  · rw [h2]
    exact congrArg (fun j => Proj.sigmoid (p (ix2 t j))) (Fin.ext (by show 9240 + (n.val - 2048) = 7192 + n.val; omega))

end Cert.GatesRefIdeal.Hand

namespace Cert.Proof.Gates

open Idealize.ShloMosaic Idealize.ShloMosaic.TcCoe Idealize.SL.Sem

/-- The gates' sigmoids: kernel and plain program compute the same array over the reals. -/
theorem algebraic : Cert.algebraic_GatesIdeal_GatesRefIdeal := by
  intro m ρ m' ρ' _ hag
  refine ⟨_, Cert.GatesIdeal.Value.run_blocks m ρ,
    (θ_run _ _ _).mono (fun _ h c => ⟨(h c).1.trans ?_, (h c).2⟩) (Cert.GatesRefIdeal.Value.run m' ρ')⟩
  funext i
  obtain ⟨t, n, rfl⟩ : ∃ (t : Fin 16384) (n : Fin 4096), i = ix2 t n := ⟨i 0, i 1, eq_ix2 i⟩
  rw [(hag c).1, (hag c).2]
  refine (Cert.GatesRefIdeal.Hand.res_at (Cert.GatesRefIdeal.Hand.proj (Cert.GatesIdeal.Hand.X m c) (Cert.GatesIdeal.Hand.W m c)) t n).trans ?_
  rw [Cert.GatesRefIdeal.Hand.proj_at]
  exact (Cert.GatesIdeal.Hand.val_at m c t n).symm

end Cert.Proof.Gates
-- ==== Proof.MergeMath.lean ====
module

public import proofs.«01_k».proof.Proof.FfnMath
public import proofs.«01_k».proof.Proof.DilTile

@[expose] public section

noncomputable section

namespace Cert.MergeMath

open Idealize.ShloMosaic

/-- The largest of three log-sum-exps. -/
def big (a b c : EReal) : EReal := max (max a b) c

/-- The mean of three values weighted by their log-sum-exps: the weighted sum over the sum of the weights. -/
def mean3 (a b c x y z : EReal) : EReal :=
  Ideal.div (Ideal.exp (a - big a b c) * x + Ideal.exp (b - big a b c) * y + Ideal.exp (c - big a b c) * z)
    (Ideal.exp (a - big a b c) + Ideal.exp (b - big a b c) + Ideal.exp (c - big a b c))

/-- The largest of a list of three, as a fold. -/
theorem fold3 (f : Fin 3 → EReal) : Finset.univ.fold max ⊥ f = big (f 0) (f 1) (f 2) := by
  have hu : (Finset.univ : Finset (Fin 3)) = insert 0 (insert 1 {2}) := by decide
  unfold big
  rw [hu, Finset.fold_insert (by decide), Finset.fold_insert (by decide), Finset.fold_singleton, max_eq_left (bot_le (a := f 2)), max_assoc]

/-- For real log-sum-exps the weights may be normalised first. -/
theorem mean3_eq (a b c x y z : EReal) (ha : (a.toReal : EReal) = a) (hb : (b.toReal : EReal) = b) (hc : (c.toReal : EReal) = c) :
    Ideal.div (Ideal.exp (a - big a b c)) (Ideal.exp (a - big a b c) + Ideal.exp (b - big a b c) + Ideal.exp (c - big a b c)) * x
      + Ideal.div (Ideal.exp (b - big a b c)) (Ideal.exp (a - big a b c) + Ideal.exp (b - big a b c) + Ideal.exp (c - big a b c)) * y
      + Ideal.div (Ideal.exp (c - big a b c)) (Ideal.exp (a - big a b c) + Ideal.exp (b - big a b c) + Ideal.exp (c - big a b c)) * z
      = mean3 a b c x y z := by
  unfold mean3
  have hM : ∃ μ : ℝ, big a b c = (μ : EReal) := by
    unfold big
    rcases max_choice (max a b) c with h | h
    · rcases max_choice a b with h' | h'
      · exact ⟨a.toReal, by rw [h, h', ha]⟩
      · exact ⟨b.toReal, by rw [h, h', hb]⟩
    · exact ⟨c.toReal, by rw [h, hc]⟩
  obtain ⟨μ, hμ⟩ := hM
  rw [hμ, ← ha, ← hb, ← hc, ← EReal.coe_sub, ← EReal.coe_sub, ← EReal.coe_sub, Ideal.exp_coe, Ideal.exp_coe, Ideal.exp_coe,
    ← EReal.coe_add, ← EReal.coe_add]
  have h1 := Real.exp_pos (a.toReal - μ)
  have h2 := Real.exp_pos (b.toReal - μ)
  have h3 := Real.exp_pos (c.toReal - μ)
  generalize Real.exp (a.toReal - μ) = p at *
  generalize Real.exp (b.toReal - μ) = q at *
  generalize Real.exp (c.toReal - μ) = r at *
  have hne : p + q + r ≠ 0 := by positivity
  have h0 : (0 : EReal) ≤ ((1 / (p + q + r) : ℝ) : EReal) := EReal.coe_nonneg.mpr (by positivity)
  rw [Ideal.div_coe hne, Ideal.div_coe hne, Ideal.div_coe hne, Ideal.div_coe hne,
    EReal.right_distrib_of_nonneg_of_ne_top h0 (EReal.coe_ne_top _), EReal.right_distrib_of_nonneg_of_ne_top h0 (EReal.coe_ne_top _)]
  simp only [mul_right_comm]

/-- Entry `d` of the row that is normalised: the input scaled, plus the gated merge of the two branches through the output weights. -/
def pre (oa : Fin 1024 → EReal) (ob : Fin 512 → EReal) (ga gb h : Fin 2048 → EReal) (wa : Fin 1024 → Fin 2048 → EReal)
    (wb : Fin 512 → Fin 2048 → EReal) (wo : Fin 2048 → Fin 2048 → EReal) (d : Fin 2048) : EReal :=
  Ideal.ofBits .f32 0x3F9837F0#32 * h d + ∑ e, (ga e * (∑ k, oa k * wa k e) + gb e * (∑ k, ob k * wb k e)) * wo e d

end Cert.MergeMath
-- ==== Proof.MergeRef.lean ====
module

public import proofs.«01_k».proof.Proof.Gen.MergeRefIdeal.Run
public import proofs.«01_k».proof.Proof.Ffn1Ref
public import proofs.«01_k».proof.Proof.DilRef
public import proofs.«01_k».proof.Proof.MergeMath

@[expose] public section

set_option maxRecDepth 16384

noncomputable section

namespace Cert.MergeRefIdeal.Hand

open Cert.MergeRefIdeal Cert.MergeRefIdeal.Gen Cert.MergeRefIdeal.Value Cert.MergeMath Idealize.ShloMosaic Idealize.ShloMosaic.TcCoe Idealize.SL.Sem

/-- Three arrays stacked. -/
def stk (a b c : FVec Ideal S16384x512 .f32) : FVec Ideal S3x16384x512 .f32 :=
  concatenate S3x16384x512 0 [⟨S1x16384x512, broadcastInDim S1x16384x512 ![1, 2] bcast_S16384x512_S1x16384x512_1_2 a⟩,
    ⟨S1x16384x512, broadcastInDim S1x16384x512 ![1, 2] bcast_S16384x512_S1x16384x512_1_2 b⟩,
    ⟨S1x16384x512, broadcastInDim S1x16384x512 ![1, 2] bcast_S16384x512_S1x16384x512_1_2 c⟩] concatenates_S1x16384x512_S1x16384x512_S1x16384x512_S3x16384x512_d0

@[inherit_doc stk] def stkB (a b c : FVec Ideal S16384x512 .bf16) : FVec Ideal S3x16384x512 .bf16 :=
  concatenate S3x16384x512 0 [⟨S1x16384x512, broadcastInDim S1x16384x512 ![1, 2] bcast_S16384x512_S1x16384x512_1_2 a⟩,
    ⟨S1x16384x512, broadcastInDim S1x16384x512 ![1, 2] bcast_S16384x512_S1x16384x512_1_2 b⟩,
    ⟨S1x16384x512, broadcastInDim S1x16384x512 ![1, 2] bcast_S16384x512_S1x16384x512_1_2 c⟩] concatenates_S1x16384x512_S1x16384x512_S1x16384x512_S3x16384x512_d0

/-- One value for each of the three from one for all. -/
def spread (x : FVec Ideal S16384x512 .f32) : FVec Ideal S3x16384x512 .f32 :=
  broadcastInDim S3x16384x512 ![0, 1, 2] bcast_S1x16384x512_S3x16384x512_0_1_2 (broadcastInDim S1x16384x512 ![1, 2] bcast_S16384x512_S1x16384x512_1_2 x)

/-- The largest of the three. -/
def top (s : FVec Ideal S3x16384x512 .f32) : FVec Ideal S16384x512 .f32 :=
  maximumf (broadcastInDim S16384x512 ![] bcast_S_S16384x512 (constant S_ .f32 0xFF800000#32))
    (Host.reduce FloatOps.maximumf s (constant S_ .f32 0xFF800000#32) reducesTo_S3x16384x512_S16384x512_d0 h_S_)

/-- The sum of the three. -/
def total (s : FVec Ideal S3x16384x512 .f32) : FVec Ideal S16384x512 .f32 :=
  Host.reduceAdd s (constant S_ .f32 0x00000000#32) reducesTo_S3x16384x512_S16384x512_d0 h_S_

/-- The unnormalised weights. -/
def ex (s : FVec Ideal S3x16384x512 .f32) : FVec Ideal S3x16384x512 .f32 := Host.exp (subf s (spread (top s)))

/-- The merged dilated branch. -/
def ob (s : FVec Ideal S3x16384x512 .f32) (o : FVec Ideal S3x16384x512 .bf16) : FVec Ideal S16384x512 .f32 :=
  total (mulf (Host.divf (ex s) (spread (total (ex s)))) (extf .f32 o bitsLt_bf16_f32))

/-- The row that is normalised. -/
def row (oa : FVec Ideal S16384x1024 .bf16) (ob : FVec Ideal S16384x512 .f32) (gab : FVec Ideal S16384x4096 .bf16) (h : FVec Ideal S16384x2048 .f32)
    (wa : FVec Ideal S1024x2048 .f32) (wb : FVec Ideal S512x2048 .f32) (wo : FVec Ideal S2048x2048 .f32) : FVec Ideal S16384x2048 .f32 :=
  addf (mulf (broadcastInDim S16384x2048 ![] bcast_S_S16384x2048 (constant S_ .f32 0x3F9837F0#32)) h)
    (Host.dotGeneral dot_S16384x2048_S2048x2048_S16384x2048_1_0_0_1_n_n none
      (addf (mulf (extractStridedSlice S16384x2048 ![0, 0] (extf .f32 gab bitsLt_bf16_f32) slices_S16384x4096_S16384x2048_0_0)
          (Host.dotGeneral dot_S16384x1024_S1024x2048_S16384x2048_1_0_0_1_n_n none (extf .f32 oa bitsLt_bf16_f32) wa))
        (mulf (extractStridedSlice S16384x2048 ![0, 2048] (extf .f32 gab bitsLt_bf16_f32) slices_S16384x4096_S16384x2048_0_2048)
          (Host.dotGeneral dot_S16384x512_S512x2048_S16384x2048_1_0_0_1_n_n none ob wb))) wo)

theorem cat_at {φ : FTy} (a b c : FVec Ideal S1x16384x512 φ) (t : Fin 16384) (j : Fin 512) :
    (concatenate S3x16384x512 0 [⟨S1x16384x512, a⟩, ⟨S1x16384x512, b⟩, ⟨S1x16384x512, c⟩] concatenates_S1x16384x512_S1x16384x512_S1x16384x512_S3x16384x512_d0 : FVec Ideal S3x16384x512 φ) (ix3 0 t j) = a (ix3 0 t j)
    ∧ (concatenate S3x16384x512 0 [⟨S1x16384x512, a⟩, ⟨S1x16384x512, b⟩, ⟨S1x16384x512, c⟩] concatenates_S1x16384x512_S1x16384x512_S1x16384x512_S3x16384x512_d0 : FVec Ideal S3x16384x512 φ) (ix3 1 t j) = b (ix3 0 t j)
    ∧ (concatenate S3x16384x512 0 [⟨S1x16384x512, a⟩, ⟨S1x16384x512, b⟩, ⟨S1x16384x512, c⟩] concatenates_S1x16384x512_S1x16384x512_S1x16384x512_S3x16384x512_d0 : FVec Ideal S3x16384x512 φ) (ix3 2 t j) = c (ix3 0 t j) := by
  refine ⟨?_, ?_, ?_⟩
  · pointwise []
  · pointwise []
  · pointwise []

theorem layer_at {φ : FTy} (a : FVec Ideal S16384x512 φ) (t : Fin 16384) (j : Fin 512) :
    (broadcastInDim S1x16384x512 ![1, 2] bcast_S16384x512_S1x16384x512_1_2 a : FVec Ideal S1x16384x512 φ) (ix3 0 t j) = a (ix2 t j) := by
  pointwise []

theorem stk_at (a b c : FVec Ideal S16384x512 .f32) (t : Fin 16384) (j : Fin 512) :
    stk a b c (ix3 0 t j) = a (ix2 t j) ∧ stk a b c (ix3 1 t j) = b (ix2 t j) ∧ stk a b c (ix3 2 t j) = c (ix2 t j) := by
  have h := cat_at (φ := .f32) (broadcastInDim S1x16384x512 ![1, 2] bcast_S16384x512_S1x16384x512_1_2 a)
    (broadcastInDim S1x16384x512 ![1, 2] bcast_S16384x512_S1x16384x512_1_2 b) (broadcastInDim S1x16384x512 ![1, 2] bcast_S16384x512_S1x16384x512_1_2 c) t j
  exact ⟨h.1.trans (layer_at a t j), h.2.1.trans (layer_at b t j), h.2.2.trans (layer_at c t j)⟩

theorem stkB_at (a b c : FVec Ideal S16384x512 .bf16) (t : Fin 16384) (j : Fin 512) :
    stkB a b c (ix3 0 t j) = a (ix2 t j) ∧ stkB a b c (ix3 1 t j) = b (ix2 t j) ∧ stkB a b c (ix3 2 t j) = c (ix2 t j) := by
  have h := cat_at (φ := .bf16) (broadcastInDim S1x16384x512 ![1, 2] bcast_S16384x512_S1x16384x512_1_2 a)
    (broadcastInDim S1x16384x512 ![1, 2] bcast_S16384x512_S1x16384x512_1_2 b) (broadcastInDim S1x16384x512 ![1, 2] bcast_S16384x512_S1x16384x512_1_2 c) t j
  exact ⟨h.1.trans (layer_at a t j), h.2.1.trans (layer_at b t j), h.2.2.trans (layer_at c t j)⟩

theorem spread_at (x : FVec Ideal S16384x512 .f32) (k : Fin 3) (t : Fin 16384) (j : Fin 512) : spread x (ix3 k t j) = x (ix2 t j) := by
  pointwise [spread]

theorem biggest_at (s : FVec Ideal S3x16384x512 .f32) (t : Fin 16384) (j : Fin 512) :
    Host.reduce FloatOps.maximumf s (constant S_ .f32 0xFF800000#32) reducesTo_S3x16384x512_S16384x512_d0 h_S_ (ix2 t j)
      = Finset.univ.fold max (Ideal.ofBits .f32 0xFF800000#32) (fun k => s (ix3 k t j)) := by
  pointwise []

theorem max_at (x : FVec Ideal S16384x512 .f32) (t : Fin 16384) (j : Fin 512) :
    maximumf (broadcastInDim S16384x512 ![] bcast_S_S16384x512 (constant S_ .f32 0xFF800000#32)) x (ix2 t j) = max (Ideal.ofBits .f32 0xFF800000#32) (x (ix2 t j)) := by
  pointwise []

theorem top_at (s : FVec Ideal S3x16384x512 .f32) (t : Fin 16384) (j : Fin 512) :
    top s (ix2 t j) = big (s (ix3 0 t j)) (s (ix3 1 t j)) (s (ix3 2 t j)) := by
  unfold top
  rw [max_at, biggest_at, DilTile.bot_word, fold3]
  exact max_eq_right bot_le

theorem total_at (s : FVec Ideal S3x16384x512 .f32) (t : Fin 16384) (j : Fin 512) : total s (ix2 t j) = ∑ k : Fin 3, s (ix3 k t j) := by
  pointwise [total]

theorem ex_at (s : FVec Ideal S3x16384x512 .f32) (k : Fin 3) (t : Fin 16384) (j : Fin 512) :
    ex s (ix3 k t j) = Ideal.exp (s (ix3 k t j) - big (s (ix3 0 t j)) (s (ix3 1 t j)) (s (ix3 2 t j))) := by
  unfold ex
  rw [DilRef.exp_at, DilRef.sub_at, spread_at, top_at]

theorem part_at (e : FVec Ideal S3x16384x512 .f32) (z : FVec Ideal S3x16384x512 .f32) (o : FVec Ideal S3x16384x512 .bf16) (i : S3x16384x512.Idx) :
    mulf (Host.divf e z) (extf .f32 o bitsLt_bf16_f32) i = Ideal.div (e i) (z i) * o i := rfl

theorem ob_at (a b c : FVec Ideal S16384x512 .f32) (x y z : FVec Ideal S16384x512 .bf16) (t : Fin 16384) (j : Fin 512)
    (ha : ((a (ix2 t j) : EReal).toReal : EReal) = a (ix2 t j)) (hb : ((b (ix2 t j) : EReal).toReal : EReal) = b (ix2 t j))
    (hc : ((c (ix2 t j) : EReal).toReal : EReal) = c (ix2 t j)) :
    ob (stk a b c) (stkB x y z) (ix2 t j) = mean3 (a (ix2 t j)) (b (ix2 t j)) (c (ix2 t j)) (x (ix2 t j)) (y (ix2 t j)) (z (ix2 t j)) := by
  obtain ⟨a0, a1, a2⟩ := stk_at a b c t j
  obtain ⟨x0, x1, x2⟩ := stkB_at x y z t j
  unfold ob
  rw [total_at]
  simp only [part_at, spread_at, total_at, ex_at, Fin.sum_univ_three, a0, a1, a2, x0, x1, x2]
  exact mean3_eq _ _ _ _ _ _ ha hb hc

theorem row_at (oa : FVec Ideal S16384x1024 .bf16) (ob : FVec Ideal S16384x512 .f32) (gab : FVec Ideal S16384x4096 .bf16) (h : FVec Ideal S16384x2048 .f32)
    (wa : FVec Ideal S1024x2048 .f32) (wb : FVec Ideal S512x2048 .f32) (wo : FVec Ideal S2048x2048 .f32) (t : Fin 16384) (d : Fin 2048) :
    row oa ob gab h wa wb wo (ix2 t d) = pre (fun k => oa (ix2 t k)) (fun k => ob (ix2 t k)) (fun e => gab (ix2 t ⟨e.val, by omega⟩)) (fun e => gab (ix2 t ⟨2048 + e.val, by omega⟩))
      (fun e => h (ix2 t e)) (fun k e => wa (ix2 k e)) (fun k e => wb (ix2 k e)) (fun k e => wo (ix2 k e)) d := by
  unfold pre
  pointwise [row]

variable (m : (ℓ : Loc nD τ sig) → Buf (Elt Ideal) ℓ) (c : Dev nD)

/-- The plain program's first result, in stages. -/
def res : FVec Ideal S16384x2048 .f32 :=
  Ffn1RefIdeal.Hand.normedOf (row (m ((c.tc : Thread nD τ).loc main_arg0))
    (ob (stk (m ((c.tc : Thread nD τ).loc main_arg4)) (m ((c.tc : Thread nD τ).loc main_arg5)) (m ((c.tc : Thread nD τ).loc main_arg6)))
      (stkB (m ((c.tc : Thread nD τ).loc main_arg1)) (m ((c.tc : Thread nD τ).loc main_arg2)) (m ((c.tc : Thread nD τ).loc main_arg3))))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11))) (m ((c.tc : Thread nD τ).loc main_arg12)) (m ((c.tc : Thread nD τ).loc main_arg13))

theorem out0_eq : res_out0 m c = res m c := rfl

/-- The second result is the first, cast. -/
theorem out1_eq : res_out1 m c = truncf .bf16 (res m c) bitsLt_bf16_f32 := rfl

end Cert.MergeRefIdeal.Hand
-- ==== Proof.MergeClaim.lean ====
module

public import proofs.«01_k».proof.Defs
public import proofs.«01_k».proof.Proof.Gen.MergeIdeal.Value
public import proofs.«01_k».proof.Proof.MergeRef

@[expose] public section

set_option maxRecDepth 16384

noncomputable section

namespace Cert.MergeIdeal.Hand

open Cert.MergeIdeal Cert.MergeIdeal.Gen Cert.MergeIdeal.Value Cert.MergeMath Cert.FfnMath Idealize.ShloMosaic Idealize.ShloMosaic.TcCoe Idealize.SL.Sem

theorem pay1_at (a b c : FVec Ideal S256x512 .f32) (x y z : FVec Ideal S256x512 .bf16) (w : FVec Ideal S512x2048 .bf16) (r : Fin 256) (e : Fin 2048) :
    (k0_pay1 a b c x y z w : FVec Ideal S256x2048 .f32) (ix2 r e)
      = ∑ k : Fin 512, mean3 (a (ix2 r k)) (b (ix2 r k)) (c (ix2 r k)) (x (ix2 r k)) (y (ix2 r k)) (z (ix2 r k)) * w (ix2 k e) := by
  unfold mean3 big
  pointwise [k0_pay1]

theorem pay2_at (x : FVec Ideal S256x1024 .bf16) (w : FVec Ideal S1024x2048 .bf16) (g : FVec Ideal S256x2048 .bf16) (r : Fin 256) (e : Fin 2048) :
    (k0_pay2 x w g : FVec Ideal S256x2048 .f32) (ix2 r e) = g (ix2 r e) * ∑ k : Fin 1024, x (ix2 r k) * w (ix2 k e) := by
  pointwise [k0_pay2]

theorem pay3_at (v w : FVec Ideal S256x2048 .f32) (g : FVec Ideal S256x2048 .bf16) (wo : FVec Ideal S2048x2048 .bf16) (h : FVec Ideal S256x2048 .f32)
    (ga be : FVec Ideal S1x2048 .f32) (r : Fin 256) (d : Fin 2048) :
    (k0_pay3 v w g wo h ga be : FVec Ideal S256x2048 .f32) (ix2 r d)
      = normed (fun d => Ideal.ofBits .f32 0x3F9837F0#32 * h (ix2 r d) + ∑ e : Fin 2048, (w (ix2 r e) + g (ix2 r e) * v (ix2 r e)) * wo (ix2 e d))
          (ga (ix2 0 d)) (be (ix2 0 d)) d := by
  unfold normed
  pointwise [k0_pay3]

variable (m : (ℓ : Loc nD τ sig) → Buf (Elt Ideal) ℓ) (c : Dev nD)

/-- The arguments: the two branches and their log-sum-exps, the gates, the residual, the weights, the gain and the offset. -/
abbrev Oa : FVec Ideal S16384x1024 .bf16 := m ((c : Thread nD τ).loc main_arg0)
@[inherit_doc Oa] abbrev O0 : FVec Ideal S16384x512 .bf16 := m ((c : Thread nD τ).loc main_arg1)
@[inherit_doc Oa] abbrev O1 : FVec Ideal S16384x512 .bf16 := m ((c : Thread nD τ).loc main_arg2)
@[inherit_doc Oa] abbrev O2 : FVec Ideal S16384x512 .bf16 := m ((c : Thread nD τ).loc main_arg3)
@[inherit_doc Oa] abbrev L0 : FVec Ideal S16384x512 .f32 := m ((c : Thread nD τ).loc main_arg4)
@[inherit_doc Oa] abbrev L1 : FVec Ideal S16384x512 .f32 := m ((c : Thread nD τ).loc main_arg5)
@[inherit_doc Oa] abbrev L2 : FVec Ideal S16384x512 .f32 := m ((c : Thread nD τ).loc main_arg6)
@[inherit_doc Oa] abbrev Gab : FVec Ideal S16384x4096 .bf16 := m ((c : Thread nD τ).loc main_arg7)
@[inherit_doc Oa] abbrev H : FVec Ideal S16384x2048 .f32 := m ((c : Thread nD τ).loc main_arg8)
@[inherit_doc Oa] abbrev Wa : FVec Ideal S1024x2048 .f32 := m ((c : Thread nD τ).loc main_arg9)
@[inherit_doc Oa] abbrev Wb : FVec Ideal S512x2048 .f32 := m ((c : Thread nD τ).loc main_arg10)
@[inherit_doc Oa] abbrev Wo : FVec Ideal S2048x2048 .f32 := m ((c : Thread nD τ).loc main_arg11)
@[inherit_doc Oa] abbrev Ga : FVec Ideal S2048 .f32 := m ((c : Thread nD τ).loc main_arg12)
@[inherit_doc Oa] abbrev Be : FVec Ideal S2048 .f32 := m ((c : Thread nD τ).loc main_arg13)

theorem V_wa : V m c main_v0 = (truncf .bf16 (Wa m c) bitsLt_bf16_f32 : FVec Ideal S1024x2048 .bf16) := by
  unfold_abbrev_sides; after_results
theorem V_wb : V m c main_v1 = (truncf .bf16 (Wb m c) bitsLt_bf16_f32 : FVec Ideal S512x2048 .bf16) := by
  unfold_abbrev_sides; after_results
theorem V_wo : V m c main_v2 = (truncf .bf16 (Wo m c) bitsLt_bf16_f32 : FVec Ideal S2048x2048 .bf16) := by
  unfold_abbrev_sides; after_results
theorem V_ga : V m c main_v3 = (shapeCast S1x2048 (Ga m c) shapeCasts_S2048_S1x2048 : FVec Ideal S1x2048 .f32) := by
  unfold_abbrev_sides; after_results; rfl
theorem V_be : V m c main_v4 = (shapeCast S1x2048 (Be m c) shapeCasts_S2048_S1x2048 : FVec Ideal S1x2048 .f32) := by
  unfold_abbrev_sides; after_results; rfl

theorem vec_at (x : FVec Ideal S2048 .f32) (d : Fin 2048) : shapeCast S1x2048 x shapeCasts_S2048_S1x2048 (ix2 0 d) = x (ix1 d) := by
  pointwise []

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem idx7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem idx8 : ∀ t : Fin cfg0.N, win0_8.index t (0 : Fin 2) = t.val ∧ win0_8.index t (1 : Fin 2) = 1 :=
  (by decide +kernel : ∀ t : Fin grid0.N, win0_8.index t (0 : Fin 2) = t.val ∧ win0_8.index t (1 : Fin 2) = 1)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx15 : ∀ t : Fin cfg0.N, win0_15.index t (0 : Fin 2) = t.val ∧ win0_15.index t (1 : Fin 2) = 0 ∧ win0_15.flush t = true :=
  (by decide +kernel : ∀ t : Fin grid0.N, win0_15.index t (0 : Fin 2) = t.val ∧ win0_15.index t (1 : Fin 2) = 0 ∧ win0_15.flush t = true)
theorem idx16 : ∀ t : Fin cfg0.N, win0_16.index t (0 : Fin 2) = t.val ∧ win0_16.index t (1 : Fin 2) = 0 ∧ win0_16.flush t = true :=
  (by decide +kernel : ∀ t : Fin grid0.N, win0_16.index t (0 : Fin 2) = t.val ∧ win0_16.index t (1 : Fin 2) = 0 ∧ win0_16.flush t = true)

theorem lt_N (t : Fin cfg0.N) : t.val < 64 := by have hN : cfg0.N = 64 := N_0; have := t.isLt; omega

/-- Row `r` of the block of grid point `t`. -/
def rowOf (t : Fin cfg0.N) (r : Fin 256) : Fin 16384 := ⟨256 * t.val + r.val, by have := lt_N t; omega⟩

theorem blk0 (t : Fin cfg0.N) (r : Fin 256) (k : Fin 1024) :
    (iblk m c 0 t : FVec Ideal S256x1024 .bf16) (ix2 r k) = Oa m c (ix2 (rowOf t r) k) := by
  have hi := idx0 t
  unfold iblk
  rw [View.read_apply]
  show V m c main_arg0 _ = _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 1024 + 1 * k.val = k.val; rw [hi.2]; omega

theorem blk1 (t : Fin cfg0.N) (r : Fin 256) (k : Fin 512) :
    (iblk m c 1 t : FVec Ideal S256x512 .bf16) (ix2 r k) = O0 m c (ix2 (rowOf t r) k) := by
  have hi := idx1 t
  unfold iblk
  rw [View.read_apply]
  show V m c main_arg1 _ = _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 512 + 1 * k.val = k.val; rw [hi.2]; omega

theorem blk2 (t : Fin cfg0.N) (r : Fin 256) (k : Fin 512) :
    (iblk m c 2 t : FVec Ideal S256x512 .bf16) (ix2 r k) = O1 m c (ix2 (rowOf t r) k) := by
  have hi := idx2 t
  unfold iblk
  rw [View.read_apply]
  show V m c main_arg2 _ = _
  rw [V_main_arg2]
  congr 1
  funext a
  apply Fin.ext
  match a with
  | ⟨0, _⟩ => show win0_2.index t 0 * 256 + 1 * r.val = 256 * t.val + r.val; rw [hi.1]; omega
  | ⟨1, _⟩ => show win0_2.index t 1 * 512 + 1 * k.val = k.val; rw [hi.2]; omega

theorem blk3 (t : Fin cfg0.N) (r : Fin 256) (k : Fin 512) :
    (iblk m c 3 t : FVec Ideal S256x512 .bf16) (ix2 r k) = O2 m c (ix2 (rowOf t r) k) := by
  have hi := idx3 t
  unfold iblk
  rw [View.read_apply]
  show V m c main_arg3 _ = _
  rw [V_main_arg3]
  congr 1
  funext a
  apply Fin.ext
  match a with
  | ⟨0, _⟩ => show win0_3.index t 0 * 256 + 1 * r.val = 256 * t.val + r.val; rw [hi.1]; omega
  | ⟨1, _⟩ => show win0_3.index t 1 * 512 + 1 * k.val = k.val; rw [hi.2]; omega

theorem blk4 (t : Fin cfg0.N) (r : Fin 256) (k : Fin 512) :
    (iblk m c 4 t : FVec Ideal S256x512 .f32) (ix2 r k) = L0 m c (ix2 (rowOf t r) k) := by
  have hi := idx4 t
  unfold iblk
  rw [View.read_apply]
  show V m c main_arg4 _ = _
  rw [V_main_arg4]
  congr 1
  funext a
  apply Fin.ext
  match a with
  | ⟨0, _⟩ => show win0_4.index t 0 * 256 + 1 * r.val = 256 * t.val + r.val; rw [hi.1]; omega
  | ⟨1, _⟩ => show win0_4.index t 1 * 512 + 1 * k.val = k.val; rw [hi.2]; omega

theorem blk5 (t : Fin cfg0.N) (r : Fin 256) (k : Fin 512) :
    (iblk m c 5 t : FVec Ideal S256x512 .f32) (ix2 r k) = L1 m c (ix2 (rowOf t r) k) := by
  have hi := idx5 t
  unfold iblk
  rw [View.read_apply]
  show V m c main_arg5 _ = _
  rw [V_main_arg5]
  congr 1
  funext a
  apply Fin.ext
  match a with
  | ⟨0, _⟩ => show win0_5.index t 0 * 256 + 1 * r.val = 256 * t.val + r.val; rw [hi.1]; omega
  | ⟨1, _⟩ => show win0_5.index t 1 * 512 + 1 * k.val = k.val; rw [hi.2]; omega

theorem blk6 (t : Fin cfg0.N) (r : Fin 256) (k : Fin 512) :
    (iblk m c 6 t : FVec Ideal S256x512 .f32) (ix2 r k) = L2 m c (ix2 (rowOf t r) k) := by
  have hi := idx6 t
  unfold iblk
  rw [View.read_apply]
  show V m c main_arg6 _ = _
  rw [V_main_arg6]
  congr 1
  funext a
  apply Fin.ext
  match a with
  | ⟨0, _⟩ => show win0_6.index t 0 * 256 + 1 * r.val = 256 * t.val + r.val; rw [hi.1]; omega
  | ⟨1, _⟩ => show win0_6.index t 1 * 512 + 1 * k.val = k.val; rw [hi.2]; omega

theorem blk7 (t : Fin cfg0.N) (r : Fin 256) (k : Fin 2048) :
    (iblk m c 7 t : FVec Ideal S256x2048 .bf16) (ix2 r k) = Gab m c (ix2 (rowOf t r) ⟨k.val, by omega⟩) := by
  have hi := idx7 t
  unfold iblk
  rw [View.read_apply]
  show V m c main_arg7 _ = _
  rw [V_main_arg7]
  congr 1
  funext a
  apply Fin.ext
  match a with
  | ⟨0, _⟩ => show win0_7.index t 0 * 256 + 1 * r.val = 256 * t.val + r.val; rw [hi.1]; omega
  | ⟨1, _⟩ => show win0_7.index t 1 * 2048 + 1 * k.val = k.val; rw [hi.2]; omega

theorem blk8 (t : Fin cfg0.N) (r : Fin 256) (k : Fin 2048) :
    (iblk m c 8 t : FVec Ideal S256x2048 .bf16) (ix2 r k) = Gab m c (ix2 (rowOf t r) ⟨2048 + k.val, by omega⟩) := by
  have hi := idx8 t
  unfold iblk
  rw [View.read_apply]
  show V m c main_arg7 _ = _
  rw [V_main_arg7]
  congr 1
  funext a
  apply Fin.ext
  match a with
  | ⟨0, _⟩ => show win0_8.index t 0 * 256 + 1 * r.val = 256 * t.val + r.val; rw [hi.1]; omega
  | ⟨1, _⟩ => show win0_8.index t 1 * 2048 + 1 * k.val = 2048 + k.val; rw [hi.2]; omega

theorem blk9 (t : Fin cfg0.N) (r : Fin 256) (k : Fin 2048) :
    (iblk m c 9 t : FVec Ideal S256x2048 .f32) (ix2 r k) = H m c (ix2 (rowOf t r) k) := by
  have hi := idx9 t
  unfold iblk
  rw [View.read_apply]
  show V m c main_arg8 _ = _
  rw [V_main_arg8]
  congr 1
  funext a
  apply Fin.ext
  match a with
  | ⟨0, _⟩ => show win0_9.index t 0 * 256 + 1 * r.val = 256 * t.val + r.val; rw [hi.1]; omega
  | ⟨1, _⟩ => show win0_9.index t 1 * 2048 + 1 * k.val = k.val; rw [hi.2]; omega

theorem blk10 (t : Fin cfg0.N) (k : Fin 1024) (e : Fin 2048) :
    (iblk m c 10 t : FVec Ideal S1024x2048 .bf16) (ix2 k e) = Wa m c (ix2 k e) := by
  have hi := idx10 t
  unfold iblk
  rw [View.read_apply]
  show V m c main_v0 _ = _
  rw [V_wa]
  show Wa m c _ = _
  congr 1
  funext a
  apply Fin.ext
  match a with
  | ⟨0, _⟩ => show win0_10.index t 0 * 1024 + 1 * k.val = k.val; rw [hi.1]; omega
  | ⟨1, _⟩ => show win0_10.index t 1 * 2048 + 1 * e.val = e.val; rw [hi.2]; omega

theorem blk11 (t : Fin cfg0.N) (k : Fin 512) (e : Fin 2048) :
    (iblk m c 11 t : FVec Ideal S512x2048 .bf16) (ix2 k e) = Wb m c (ix2 k e) := by
  have hi := idx11 t
  unfold iblk
  rw [View.read_apply]
  show V m c main_v1 _ = _
  rw [V_wb]
  show Wb m c _ = _
  congr 1
  funext a
  apply Fin.ext
  match a with
  | ⟨0, _⟩ => show win0_11.index t 0 * 512 + 1 * k.val = k.val; rw [hi.1]; omega
  | ⟨1, _⟩ => show win0_11.index t 1 * 2048 + 1 * e.val = e.val; rw [hi.2]; omega

theorem blk12 (t : Fin cfg0.N) (k : Fin 2048) (e : Fin 2048) :
    (iblk m c 12 t : FVec Ideal S2048x2048 .bf16) (ix2 k e) = Wo m c (ix2 k e) := by
  have hi := idx12 t
  unfold iblk
  rw [View.read_apply]
  show V m c main_v2 _ = _
  rw [V_wo]
  show Wo m c _ = _
  congr 1
  funext a
  apply Fin.ext
  match a with
  | ⟨0, _⟩ => show win0_12.index t 0 * 2048 + 1 * k.val = k.val; rw [hi.1]; omega
  | ⟨1, _⟩ => show win0_12.index t 1 * 2048 + 1 * e.val = e.val; rw [hi.2]; omega

theorem blk13 (t : Fin cfg0.N) (d : Fin 2048) :
    (iblk m c 13 t : FVec Ideal S1x2048 .f32) (ix2 0 d) = Ga m c (ix1 d) := by
  have hi := idx13 t
  unfold iblk
  rw [View.read_apply]
  show V m c main_v3 _ = _
  rw [V_ga]
  refine Eq.trans ?_ (vec_at (Ga m c) d)
  congr 1
  funext a
  apply Fin.ext
  match a with
  | ⟨0, _⟩ => show win0_13.index t 0 * 1 + 1 * 0 = 0; rw [hi.1]
  | ⟨1, _⟩ => show win0_13.index t 1 * 2048 + 1 * d.val = d.val; rw [hi.2]; omega

theorem blk14 (t : Fin cfg0.N) (d : Fin 2048) :
    (iblk m c 14 t : FVec Ideal S1x2048 .f32) (ix2 0 d) = Be m c (ix1 d) := by
  have hi := idx14 t
  unfold iblk
  rw [View.read_apply]
  show V m c main_v4 _ = _
  rw [V_be]
  refine Eq.trans ?_ (vec_at (Be m c) d)
  congr 1
  funext a
  apply Fin.ext
  match a with
  | ⟨0, _⟩ => show win0_14.index t 0 * 1 + 1 * 0 = 0; rw [hi.1]
  | ⟨1, _⟩ => show win0_14.index t 1 * 2048 + 1 * d.val = d.val; rw [hi.2]; omega

/-- What a grid point writes, from its blocks. -/
def blkOut (x0 : FVec Ideal S256x1024 .bf16) (x1 : FVec Ideal S256x512 .bf16) (x2 : FVec Ideal S256x512 .bf16) (x3 : FVec Ideal S256x512 .bf16) (x4 : FVec Ideal S256x512 .f32) (x5 : FVec Ideal S256x512 .f32) (x6 : FVec Ideal S256x512 .f32) (x7 : FVec Ideal S256x2048 .bf16) (x8 : FVec Ideal S256x2048 .bf16) (x9 : FVec Ideal S256x2048 .f32) (x10 : FVec Ideal S1024x2048 .bf16) (x11 : FVec Ideal S512x2048 .bf16) (x12 : FVec Ideal S2048x2048 .bf16) (x13 x14 : FVec Ideal S1x2048 .f32) : FVec Ideal S256x2048 .f32 :=
  k0_pay3 (F := Ideal) (k0_pay1 (F := Ideal) x4 x5 x6 x1 x2 x3 x11) (k0_pay2 (F := Ideal) x0 x10 x7) x8 x12 x9 x13 x14

theorem out15_eq (x0 : FVec Ideal S256x1024 .bf16) (x1 : FVec Ideal S256x512 .bf16) (x2 : FVec Ideal S256x512 .bf16) (x3 : FVec Ideal S256x512 .bf16) (x4 : FVec Ideal S256x512 .f32) (x5 : FVec Ideal S256x512 .f32) (x6 : FVec Ideal S256x512 .f32) (x7 : FVec Ideal S256x2048 .bf16) (x8 : FVec Ideal S256x2048 .bf16) (x9 : FVec Ideal S256x2048 .f32) (x10 : FVec Ideal S1024x2048 .bf16) (x11 : FVec Ideal S512x2048 .bf16) (x12 : FVec Ideal S2048x2048 .bf16) (x13 x14 : FVec Ideal S1x2048 .f32) :
    (out0_15 (F := Ideal) x0 x1 x2 x3 x4 x5 x6 x7 x8 x9 x10 x11 x12 x13 x14 : Vec Ideal S256x2048 .f32) = blkOut x0 x1 x2 x3 x4 x5 x6 x7 x8 x9 x10 x11 x12 x13 x14 := by
  have hz : (![0, 0] : Fin 2 → ℕ) = 0 := by decide
  unfold out0_15 k0_pay5 k0_pay6 blkOut
  rw [View.canon_unit_zero (S := S256x2048) hz]
  simp only [View.ld_unit_zero (S := S256x512) hz, View.ld_unit_zero (S := S256x1024) hz, View.ld_unit_zero (S := S1024x2048) hz, View.ld_unit_zero (S := S512x2048) hz,
    View.ld_unit_zero (S := S256x2048) hz, View.ld_unit_zero (S := S2048x2048) hz, View.ld_unit_zero (S := S1x2048) hz]

theorem out16_eq (x0 : FVec Ideal S256x1024 .bf16) (x1 : FVec Ideal S256x512 .bf16) (x2 : FVec Ideal S256x512 .bf16) (x3 : FVec Ideal S256x512 .bf16) (x4 : FVec Ideal S256x512 .f32) (x5 : FVec Ideal S256x512 .f32) (x6 : FVec Ideal S256x512 .f32) (x7 : FVec Ideal S256x2048 .bf16) (x8 : FVec Ideal S256x2048 .bf16) (x9 : FVec Ideal S256x2048 .f32) (x10 : FVec Ideal S1024x2048 .bf16) (x11 : FVec Ideal S512x2048 .bf16) (x12 : FVec Ideal S2048x2048 .bf16) (x13 x14 : FVec Ideal S1x2048 .f32) :
    (out0_16 (F := Ideal) x0 x1 x2 x3 x4 x5 x6 x7 x8 x9 x10 x11 x12 x13 x14 : Vec Ideal S256x2048 .bf16) = truncf .bf16 (blkOut x0 x1 x2 x3 x4 x5 x6 x7 x8 x9 x10 x11 x12 x13 x14) bitsLt_bf16_f32 := by
  have hz : (![0, 0] : Fin 2 → ℕ) = 0 := by decide
  unfold out0_16 k0_pay5 k0_pay6 blkOut
  rw [View.canon_unit_zero (S := S256x2048) hz]
  simp only [View.ld_unit_zero (S := S256x512) hz, View.ld_unit_zero (S := S256x1024) hz, View.ld_unit_zero (S := S1024x2048) hz, View.ld_unit_zero (S := S512x2048) hz,
    View.ld_unit_zero (S := S256x2048) hz, View.ld_unit_zero (S := S2048x2048) hz, View.ld_unit_zero (S := S1x2048) hz]
  rfl

/-- Entry `d` of row `t` of the result, from the arguments. -/
def val (t : Fin 16384) (d : Fin 2048) : EReal :=
  normed (pre (fun k => Oa m c (ix2 t k)) (fun k => mean3 (L0 m c (ix2 t k)) (L1 m c (ix2 t k)) (L2 m c (ix2 t k)) (O0 m c (ix2 t k)) (O1 m c (ix2 t k)) (O2 m c (ix2 t k)))
    (fun e => Gab m c (ix2 t ⟨e.val, by omega⟩)) (fun e => Gab m c (ix2 t ⟨2048 + e.val, by omega⟩)) (fun e => H m c (ix2 t e))
    (fun k e => Wa m c (ix2 k e)) (fun k e => Wb m c (ix2 k e)) (fun k e => Wo m c (ix2 k e))) (Ga m c (ix1 d)) (Be m c (ix1 d)) d

theorem blkOut_at (t : Fin cfg0.N) (r : Fin 256) (d : Fin 2048) :
    blkOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r d) = val m c (rowOf t r) d := by
  unfold blkOut val pre
  rw [pay3_at]
  simp only [pay1_at, pay2_at]
  have h0 := blk0 m c t r
  have h1 := blk1 m c t r
  have h2 := blk2 m c t r
  have h3 := blk3 m c t r
  have h4 := blk4 m c t r
  have h5 := blk5 m c t r
  have h6 := blk6 m c t r
  have h7 := blk7 m c t r
  have h8 := blk8 m c t r
  have h9 := blk9 m c t r
  have h10 := blk10 m c t
  have h11 := blk11 m c t
  have h12 := blk12 m c t
  have h13 := blk13 m c t
  have h14 := blk14 m c t
  simp only [h0, h1, h2, h3, h4, h5, h6, h7, h8, h9, h10, h11, h12, h13, h14]

/-- The kernel's result at an entry. -/
theorem val15_at (t : Fin 16384) (d : Fin 2048) : ((dats m 0 c).arrAt 15 cfg0.N : FVec Ideal S16384x2048 .f32) (ix2 t d) = val m c t d := by
  have hN : cfg0.N = 64 := N_0
  obtain ⟨u, r, rfl⟩ : ∃ (u : Fin cfg0.N) (r : Fin 256), t = rowOf u r :=
    ⟨⟨t.val / 256, by omega⟩, ⟨t.val % 256, by omega⟩, Fin.ext (by show t.val = 256 * (t.val / 256) + t.val % 256; omega)⟩
  have hi := idx15 u
  have hb := congrFun (blocks15 m c u hi.2.2) (ix2 r d)
  rw [View.read_apply] at hb
  refine Eq.trans ?_ (hb.trans ?_)
  · congr 1
    funext a
    apply Fin.ext
    match a with
    | ⟨0, _⟩ => show 256 * u.val + r.val = win0_15.index u 0 * 256 + 1 * r.val; rw [hi.1]; omega
    | ⟨1, _⟩ => show d.val = win0_15.index u 1 * 2048 + 1 * d.val; rw [hi.2.1]; omega
  · rw [flushed15]
    show out0_15 _ _ _ _ _ _ _ _ _ _ _ _ _ _ _ (ix2 r d) = _
    rw [out15_eq]
    exact blkOut_at m c u r d

/-- The kernel's result at an entry. -/
theorem val16_at (t : Fin 16384) (d : Fin 2048) : ((dats m 0 c).arrAt 16 cfg0.N : FVec Ideal S16384x2048 .bf16) (ix2 t d) = val m c t d := by
  have hN : cfg0.N = 64 := N_0
  obtain ⟨u, r, rfl⟩ : ∃ (u : Fin cfg0.N) (r : Fin 256), t = rowOf u r :=
    ⟨⟨t.val / 256, by omega⟩, ⟨t.val % 256, by omega⟩, Fin.ext (by show t.val = 256 * (t.val / 256) + t.val % 256; omega)⟩
  have hi := idx16 u
  have hb := congrFun (blocks16 m c u hi.2.2) (ix2 r d)
  rw [View.read_apply] at hb
  refine Eq.trans ?_ (hb.trans ?_)
  · congr 1
    funext a
    apply Fin.ext
    match a with
    | ⟨0, _⟩ => show 256 * u.val + r.val = win0_16.index u 0 * 256 + 1 * r.val; rw [hi.1]; omega
    | ⟨1, _⟩ => show d.val = win0_16.index u 1 * 2048 + 1 * d.val; rw [hi.2.1]; omega
  · rw [flushed16]
    show out0_16 _ _ _ _ _ _ _ _ _ _ _ _ _ _ _ (ix2 r d) = _
    rw [out16_eq]
    exact blkOut_at m c u r d

end Cert.MergeIdeal.Hand

namespace Cert.Proof.Merge

open Idealize.ShloMosaic Idealize.ShloMosaic.TcCoe Idealize.SL.Sem

/-- A magnitude below infinity is a real number's. -/
theorem real_of_abs (x : EReal) (h : max x (-x) < ⊤) : (x.toReal : EReal) = x := by
  refine EReal.coe_toReal (lt_of_le_of_lt (le_max_left _ _) h).ne ?_
  intro hb
  rw [hb] at h
  exact absurd h (by simp)

/-- Three flags that hold together hold. -/
theorem flags (p q r : Prop) [Decidable p] [Decidable q] [Decidable r]
    (h : BitVec.ofBool (decide p) &&& BitVec.ofBool (decide q) &&& BitVec.ofBool (decide r) = 1#1) : p ∧ q ∧ r := by
  by_cases hp : p <;> by_cases hq : q <;> by_cases hr : r <;> simp_all

/-- The precondition says that every log-sum-exp is a real number. -/
theorem real_of_pre [Cert.Pre_finite_lse.Facts] (m : (ℓ : Loc Cert.MergeIdeal.nD Cert.MergeIdeal.τ Cert.MergeIdeal.sig) → Buf (Elt Ideal) ℓ) (h : Cert.Pre_MergeIdeal_finite_lse m)
    (c : Dev Cert.MergeIdeal.nD) (i : Cert.MergeIdeal.S16384x512.Idx) :
    ((Cert.MergeIdeal.Hand.L0 m c i : EReal).toReal : EReal) = Cert.MergeIdeal.Hand.L0 m c i ∧ ((Cert.MergeIdeal.Hand.L1 m c i : EReal).toReal : EReal) = Cert.MergeIdeal.Hand.L1 m c i
      ∧ ((Cert.MergeIdeal.Hand.L2 m c i : EReal).toReal : EReal) = Cert.MergeIdeal.Hand.L2 m c i := by
  have hi := flags (max (Cert.MergeIdeal.Hand.L0 m c i : EReal) (-(Cert.MergeIdeal.Hand.L0 m c i : EReal)) < Ideal.ofBits .f32 0x7F800000#32)
    (max (Cert.MergeIdeal.Hand.L1 m c i : EReal) (-(Cert.MergeIdeal.Hand.L1 m c i : EReal)) < Ideal.ofBits .f32 0x7F800000#32)
    (max (Cert.MergeIdeal.Hand.L2 m c i : EReal) (-(Cert.MergeIdeal.Hand.L2 m c i : EReal)) < Ideal.ofBits .f32 0x7F800000#32) (congrFun (h c) i)
  rw [show Ideal.ofBits .f32 0x7F800000#32 = ⊤ by simp [Ideal.ofBits, Ideal.ieee]] at hi
  exact ⟨real_of_abs _ hi.1, real_of_abs _ hi.2.1, real_of_abs _ hi.2.2⟩

/-- The merge of the branches, the output projection and the layer normalisation over finite log-sum-exps: kernel and plain program compute the same two arrays over the reals. -/
theorem algebraic [Cert.Pre_finite_lse.Facts] : Cert.algebraic_MergeIdeal_MergeRefIdeal_pre_finite_lse := by
  intro m ρ m' ρ' hpre hag
  have hr := real_of_pre m hpre
  have key : ∀ (c : Dev Cert.MergeIdeal.nD) (t : Fin 16384) (d : Fin 2048), Cert.MergeRefIdeal.Hand.res m' c (ix2 t d) = Cert.MergeIdeal.Hand.val m c t d := by
    intro c t d
    unfold Cert.MergeRefIdeal.Hand.res
    rw [((hag c).1), ((hag c).2.1), ((hag c).2.2.1), ((hag c).2.2.2.1), ((hag c).2.2.2.2.1), ((hag c).2.2.2.2.2.1), ((hag c).2.2.2.2.2.2.1), ((hag c).2.2.2.2.2.2.2.1), ((hag c).2.2.2.2.2.2.2.2.1), ((hag c).2.2.2.2.2.2.2.2.2.1), ((hag c).2.2.2.2.2.2.2.2.2.2.1), ((hag c).2.2.2.2.2.2.2.2.2.2.2.1), ((hag c).2.2.2.2.2.2.2.2.2.2.2.2.1), ((hag c).2.2.2.2.2.2.2.2.2.2.2.2.2)]
    unfold Cert.MergeIdeal.Hand.val
    rw [Cert.Ffn1RefIdeal.Hand.normedOf_at]
    simp only [Cert.MergeRefIdeal.Hand.row_at]
    have ho : (fun k : Fin 512 => Cert.MergeRefIdeal.Hand.ob (Cert.MergeRefIdeal.Hand.stk (Cert.MergeIdeal.Hand.L0 m c) (Cert.MergeIdeal.Hand.L1 m c) (Cert.MergeIdeal.Hand.L2 m c))
        (Cert.MergeRefIdeal.Hand.stkB (Cert.MergeIdeal.Hand.O0 m c) (Cert.MergeIdeal.Hand.O1 m c) (Cert.MergeIdeal.Hand.O2 m c)) (ix2 t k))
        = fun k => MergeMath.mean3 (Cert.MergeIdeal.Hand.L0 m c (ix2 t k)) (Cert.MergeIdeal.Hand.L1 m c (ix2 t k)) (Cert.MergeIdeal.Hand.L2 m c (ix2 t k))
          (Cert.MergeIdeal.Hand.O0 m c (ix2 t k)) (Cert.MergeIdeal.Hand.O1 m c (ix2 t k)) (Cert.MergeIdeal.Hand.O2 m c (ix2 t k)) :=
      funext fun k => Cert.MergeRefIdeal.Hand.ob_at _ _ _ _ _ _ t k (hr c _).1 (hr c _).2.1 (hr c _).2.2
    rw [← ho]
  refine ⟨_, _, Cert.MergeIdeal.Value.run_blocks m ρ,
    (θ_run _ _ _).mono (fun _ h c => ⟨(h c).1.trans ?_, (h c).2.1.trans ?_, (h c).2.2⟩) (Cert.MergeRefIdeal.Value.run m' ρ')⟩
  · funext i
    obtain ⟨t, d, rfl⟩ : ∃ (t : Fin 16384) (d : Fin 2048), i = ix2 t d := ⟨i 0, i 1, eq_ix2 i⟩
    exact (key c t d).trans (Cert.MergeIdeal.Hand.val15_at m c t d).symm
  · funext i
    obtain ⟨t, d, rfl⟩ : ∃ (t : Fin 16384) (d : Fin 2048), i = ix2 t d := ⟨i 0, i 1, eq_ix2 i⟩
    exact (key c t d).trans (Cert.MergeIdeal.Hand.val16_at m c t d).symm

end Cert.Proof.Merge
-- ==== Proof.ProjRope.lean ====
module

public import proofs.«01_k».proof.Proof.ProjMath
public import Idealize.ShloMosaic.Lib.KernelVsHost

@[expose] public section

noncomputable section

namespace Cert.Proj

open Idealize.ShloMosaic

/-- The lane half a head away. -/
def opp (d : Fin 128) : Fin 128 := ⟨(d.val + 64) % 128, Nat.mod_lt _ (by decide)⟩

/-- The lane in its half. -/
def low (d : Fin 128) : Fin 64 := ⟨d.val % 64, Nat.mod_lt _ (by decide)⟩

/-- Lane `d` of the rotated head `x`, with the cosines `c` and the sines `s` of the half lanes. -/
def rot (x : Fin 128 → EReal) (c s : Fin 64 → EReal) (d : Fin 128) : EReal :=
  x d * c (low d) + x (opp d) * (if d.val < 64 then -s (low d) else s (low d))

/-- The rotation as the kernels compute it: the lanes times one table, plus the lanes moved by half a head times the other. -/
theorem rotate_at {n : ℕ} (x a b : FVec Ideal ⟨2, ![n, 128]⟩ .f32) (h : Shape.Rotates ⟨2, ![n, 128]⟩ 1 none) (r : Fin n) (d : Fin 128) :
    addf (mulf x a) (mulf (dynamicRotate 1 64#32 none x h) b) (ix2 r d) = x (ix2 r d) * a (ix2 r d) + x (ix2 r (opp d)) * b (ix2 r d) := by
  have hr : dynamicRotate 1 64#32 none x h (ix2 r d) = x (ix2 r (opp d)) :=
    dynamicRotate_apply 1 64#32 x h (ix2 r d) (ix2 r (opp d)) fun e => by
      match e with
      | ⟨0, _⟩ => rfl
      | ⟨1, _⟩ => show (d.val + 64) % 128 = (d.val + 128 - 64 % 128) % 128; omega
  show x (ix2 r d) * a (ix2 r d) + dynamicRotate 1 64#32 none x h (ix2 r d) * b (ix2 r d) = _
  rw [hr]

/-- The rotation of lanes that lie first, positions second. -/
theorem rotate_at_t {n : ℕ} (x a b : FVec Ideal ⟨2, ![128, n]⟩ .f32) (h : Shape.Rotates ⟨2, ![128, n]⟩ 0 none) (d : Fin 128) (r : Fin n) :
    addf (mulf x a) (mulf (dynamicRotate 0 64#32 none x h) b) (ix2 d r) = x (ix2 d r) * a (ix2 d r) + x (ix2 (opp d) r) * b (ix2 d r) := by
  have hr : dynamicRotate 0 64#32 none x h (ix2 d r) = x (ix2 (opp d) r) :=
    dynamicRotate_apply 0 64#32 x h (ix2 d r) (ix2 (opp d) r) fun e => by
      match e with
      | ⟨0, _⟩ => show (d.val + 64) % 128 = (d.val + 128 - 64 % 128) % 128; omega
      | ⟨1, _⟩ => rfl
  show x (ix2 d r) * a (ix2 d r) + dynamicRotate 0 64#32 none x h (ix2 d r) * b (ix2 d r) = _
  rw [hr]

end Cert.Proj
-- ==== Proof.RopeHeads.lean ====
module

public import proofs.«01_k».proof.Proof.ProjRope

@[expose] public section

set_option maxRecDepth 16384

noncomputable section

namespace Cert.Proj

open Idealize.ShloMosaic

/-- Columns `o, o + 1, …` of `p`, split into heads of 128 lanes and laid out head first. -/
theorem heads_at {W H : ℕ} (o : ℕ) (p : FVec Ideal ⟨2, ![16384, 11288]⟩ .f32) (hs : Shape.Slices ⟨2, ![16384, 11288]⟩ ![0, o] ⟨2, ![16384, W]⟩)
    (hc : Shape.ShapeCasts ⟨2, ![16384, W]⟩ ⟨3, ![16384, H, 128]⟩) (ht : Shape.Transposes ⟨3, ![16384, H, 128]⟩ [1, 0, 2] ⟨3, ![H, 16384, 128]⟩)
    (hW : W = H * 128) (ho : o + W ≤ 11288) (h : Fin H) (t : Fin 16384) (d : Fin 128) :
    transpose ⟨3, ![H, 16384, 128]⟩ [1, 0, 2] (shapeCast ⟨3, ![16384, H, 128]⟩ (extractStridedSlice ⟨2, ![16384, W]⟩ ![0, o] p hs) hc) ht (ix3 h t d)
      = p (ix2 t ⟨o + (128 * h.val + d.val), by have := h.isLt; omega⟩) := by
  have hh := h.isLt
  subst hW
  have e1 : transpose ⟨3, ![H, 16384, 128]⟩ [1, 0, 2] (shapeCast ⟨3, ![16384, H, 128]⟩ (extractStridedSlice ⟨2, ![16384, H * 128]⟩ ![0, o] p hs) hc) ht (ix3 h t d)
      = shapeCast ⟨3, ![16384, H, 128]⟩ (extractStridedSlice ⟨2, ![16384, H * 128]⟩ ![0, o] p hs) hc (ix3 t h d) :=
    transpose_apply _ _ ht _ _ fun b => by
      match b with
      | ⟨0, _⟩ => rfl
      | ⟨1, _⟩ => rfl
      | ⟨2, _⟩ => rfl
  rw [e1]
  rw [shapeCast_apply _ hc (ix3 t h d) (ix2 t ⟨128 * h.val + d.val, by omega⟩) ?_]
  · pointwise []
  · rw [Shape.rowMajor_val_three, Shape.rowMajor_val_two]
    show t.val * (H * 128) + (128 * h.val + d.val) = (t.val * H + h.val) * 128 + d.val
    ring

/-- The rotary embedding as the plain program writes it, for any number of heads. -/
theorem rope_at {H : ℕ} (x : FVec Ideal ⟨3, ![H, 16384, 128]⟩ .f32) (cs sn : FVec Ideal ⟨2, ![16384, 64]⟩ .f32)
    (h0 : Shape.Slices ⟨3, ![H, 16384, 128]⟩ ![0, 0, 0] ⟨3, ![H, 16384, 64]⟩) (h1 : Shape.Slices ⟨3, ![H, 16384, 128]⟩ ![0, 0, 64] ⟨3, ![H, 16384, 64]⟩)
    (b1 : Shape.BroadcastsInDim ⟨2, ![16384, 64]⟩ ⟨3, ![1, 16384, 64]⟩ ![1, 2]) (b2 : Shape.BroadcastsInDim ⟨3, ![1, 16384, 64]⟩ ⟨3, ![H, 16384, 64]⟩ ![0, 1, 2])
    (hc : Shape.Concatenates [⟨3, ![H, 16384, 64]⟩, ⟨3, ![H, 16384, 64]⟩] ⟨3, ![H, 16384, 128]⟩ 2) (h : Fin H) (t : Fin 16384) (d : Fin 128) :
    concatenate ⟨3, ![H, 16384, 128]⟩ 2
      [⟨⟨3, ![H, 16384, 64]⟩, subf (mulf (extractStridedSlice ⟨3, ![H, 16384, 64]⟩ ![0, 0, 0] x h0) (broadcastInDim ⟨3, ![H, 16384, 64]⟩ ![0, 1, 2] b2 (broadcastInDim ⟨3, ![1, 16384, 64]⟩ ![1, 2] b1 cs)))
          (mulf (extractStridedSlice ⟨3, ![H, 16384, 64]⟩ ![0, 0, 64] x h1) (broadcastInDim ⟨3, ![H, 16384, 64]⟩ ![0, 1, 2] b2 (broadcastInDim ⟨3, ![1, 16384, 64]⟩ ![1, 2] b1 sn)))⟩,
       ⟨⟨3, ![H, 16384, 64]⟩, addf (mulf (extractStridedSlice ⟨3, ![H, 16384, 64]⟩ ![0, 0, 64] x h1) (broadcastInDim ⟨3, ![H, 16384, 64]⟩ ![0, 1, 2] b2 (broadcastInDim ⟨3, ![1, 16384, 64]⟩ ![1, 2] b1 cs)))
          (mulf (extractStridedSlice ⟨3, ![H, 16384, 64]⟩ ![0, 0, 0] x h0) (broadcastInDim ⟨3, ![H, 16384, 64]⟩ ![0, 1, 2] b2 (broadcastInDim ⟨3, ![1, 16384, 64]⟩ ![1, 2] b1 sn)))⟩] hc (ix3 h t d)
      = rot (fun e => x (ix3 h t e)) (fun j => cs (ix2 t j)) (fun j => sn (ix2 t j)) d := by
  have hb : ∀ (y : FVec Ideal ⟨2, ![16384, 64]⟩ .f32) (j : Fin 64), broadcastInDim ⟨3, ![H, 16384, 64]⟩ ![0, 1, 2] b2 (broadcastInDim ⟨3, ![1, 16384, 64]⟩ ![1, 2] b1 y) (ix3 h t j) = y (ix2 t j) := fun y j => by
    pointwise []
  have e0 : ∀ j : Fin 64, extractStridedSlice ⟨3, ![H, 16384, 64]⟩ ![0, 0, 0] x h0 (ix3 h t j) = x (ix3 h t ⟨j.val, by omega⟩) := fun j =>
    extractStridedSlice_apply _ x h0 _ _ fun a => by
      match a with
      | ⟨0, _⟩ => exact (Nat.zero_add _).symm
      | ⟨1, _⟩ => exact (Nat.zero_add _).symm
      | ⟨2, _⟩ => exact (Nat.zero_add _).symm
  have e1 : ∀ j : Fin 64, extractStridedSlice ⟨3, ![H, 16384, 64]⟩ ![0, 0, 64] x h1 (ix3 h t j) = x (ix3 h t ⟨64 + j.val, by omega⟩) := fun j =>
    extractStridedSlice_apply _ x h1 _ _ fun a => by
      match a with
      | ⟨0, _⟩ => exact (Nat.zero_add _).symm
      | ⟨1, _⟩ => exact (Nat.zero_add _).symm
      | ⟨2, _⟩ => rfl
  have hcat : ∀ a b : FVec Ideal ⟨3, ![H, 16384, 64]⟩ .f32, concatenate ⟨3, ![H, 16384, 128]⟩ 2 [⟨⟨3, ![H, 16384, 64]⟩, a⟩, ⟨⟨3, ![H, 16384, 64]⟩, b⟩] hc (ix3 h t d)
      = if hd : d.val < 64 then a (ix3 h t ⟨d.val, hd⟩) else b (ix3 h t ⟨d.val - 64, by omega⟩) := fun a b => by
    split
    · exact concatenate_pair_apply_left _ a b hc _ rfl _ fun e => by
        match e with
        | ⟨0, _⟩ => rfl
        | ⟨1, _⟩ => rfl
        | ⟨2, _⟩ => rfl
    · exact concatenate_pair_apply_right _ a b hc _ rfl rfl _ (fun e => by
        match e with
        | ⟨0, _⟩ => exact fun _ => rfl
        | ⟨1, _⟩ => exact fun _ => rfl
        | ⟨2, _⟩ => exact fun hn => absurd rfl hn) (by show d.val - 64 + 64 = d.val; omega)
  refine (hcat _ _).trans ?_
  have hd := d.isLt
  unfold rot
  split
  · next hl =>
    have l : low d = ⟨d.val, hl⟩ := Fin.ext (Nat.mod_eq_of_lt hl)
    have o : opp d = ⟨64 + d.val, by omega⟩ := Fin.ext (by show (d.val + 64) % 128 = 64 + d.val; omega)
    rw [l, o]
    show extractStridedSlice _ _ x h0 _ * broadcastInDim _ _ b2 (broadcastInDim _ _ b1 cs) _ - extractStridedSlice _ _ x h1 _ * broadcastInDim _ _ b2 (broadcastInDim _ _ b1 sn) _ = _
    rw [e0, e1, hb, hb, sub_eq_add_neg, ← mul_neg]
  · next hl =>
    have l : low d = ⟨d.val - 64, by omega⟩ := Fin.ext (by show d.val % 64 = d.val - 64; omega)
    have o : opp d = ⟨d.val - 64, by omega⟩ := Fin.ext (by show (d.val + 64) % 128 = d.val - 64; omega)
    have k : d = ⟨64 + (d.val - 64), by omega⟩ := Fin.ext (by show d.val = 64 + (d.val - 64); omega)
    rw [l, o]
    show extractStridedSlice _ _ x h1 _ * broadcastInDim _ _ b2 (broadcastInDim _ _ b1 cs) _ + extractStridedSlice _ _ x h0 _ * broadcastInDim _ _ b2 (broadcastInDim _ _ b1 sn) _ = _
    rw [e0, e1, hb, hb]
    exact congrArg (fun e => x (ix3 h t e) * cs (ix2 t ⟨d.val - 64, by omega⟩) + x (ix3 h t ⟨d.val - 64, by omega⟩) * sn (ix2 t ⟨d.val - 64, by omega⟩)) k.symm

/-- The kernels' table of cosines. -/
theorem cos_table_at (c : FVec Ideal ⟨2, ![16384, 64]⟩ .f32) (hc : Shape.Concatenates [⟨2, ![16384, 64]⟩, ⟨2, ![16384, 64]⟩] ⟨2, ![16384, 128]⟩ 1) (t : Fin 16384) (d : Fin 128) :
    concatenate ⟨2, ![16384, 128]⟩ 1 [⟨⟨2, ![16384, 64]⟩, c⟩, ⟨⟨2, ![16384, 64]⟩, c⟩] hc (ix2 t d) = c (ix2 t (low d)) := by
  have h : concatenate ⟨2, ![16384, 128]⟩ 1 [⟨⟨2, ![16384, 64]⟩, c⟩, ⟨⟨2, ![16384, 64]⟩, c⟩] hc (ix2 t d)
      = if hd : d.val < 64 then c (ix2 t ⟨d.val, hd⟩) else c (ix2 t ⟨d.val - 64, by omega⟩) := by pointwise []
  refine h.trans ?_
  split
  · exact congrArg (fun j => c (ix2 t j)) (Fin.ext (by show d.val = d.val % 64; omega))
  · exact congrArg (fun j => c (ix2 t j)) (Fin.ext (by show d.val - 64 = d.val % 64; omega))

/-- The kernels' table of sines, the first half with its sign turned. -/
theorem sin_table_at (s : FVec Ideal ⟨2, ![16384, 64]⟩ .f32) (hc : Shape.Concatenates [⟨2, ![16384, 64]⟩, ⟨2, ![16384, 64]⟩] ⟨2, ![16384, 128]⟩ 1) (t : Fin 16384) (d : Fin 128) :
    concatenate ⟨2, ![16384, 128]⟩ 1 [⟨⟨2, ![16384, 64]⟩, Host.negf s⟩, ⟨⟨2, ![16384, 64]⟩, s⟩] hc (ix2 t d)
      = if d.val < 64 then -s (ix2 t (low d)) else s (ix2 t (low d)) := by
  have h : ∀ a : FVec Ideal ⟨2, ![16384, 64]⟩ .f32, concatenate ⟨2, ![16384, 128]⟩ 1 [⟨⟨2, ![16384, 64]⟩, a⟩, ⟨⟨2, ![16384, 64]⟩, s⟩] hc (ix2 t d)
      = if hd : d.val < 64 then a (ix2 t ⟨d.val, hd⟩) else s (ix2 t ⟨d.val - 64, by omega⟩) := fun a => by pointwise []
  refine (h _).trans ?_
  split
  · exact congrArg (fun j => -s (ix2 t j)) (Fin.ext (by show d.val = d.val % 64; omega))
  · exact congrArg (fun j => s (ix2 t j)) (Fin.ext (by show d.val - 64 = d.val % 64; omega))

end Cert.Proj
-- ==== Proof.RopeTables.lean ====
module

public import proofs.«01_k».proof.Proof.Gen.KWinRefIdeal.Run
public import proofs.«01_k».proof.Proof.RopeHeads

@[expose] public section

set_option maxRecDepth 16384

noncomputable section

namespace Cert.KWinRefIdeal.Hand

open Cert.KWinRefIdeal Cert.KWinRefIdeal.Gen Cert.KWinRefIdeal.Value Idealize.ShloMosaic Idealize.ShloMosaic.TcCoe Idealize.SL.Sem

/-- The angles of the rotary embedding, position by half lane. -/
def ang : FVec Ideal S16384x64 .f32 :=
  mulf (broadcastInDim S16384x64 ![0, 1] bcast_S16384x1_S16384x64_0_1 (broadcastInDim S16384x1 ![0] bcast_S16384_S16384x1_0 (sitofp .f32 (iotaInDim S16384 32 0))))
    (broadcastInDim S16384x64 ![0, 1] bcast_S1x64_S16384x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
          (mulf (broadcastInDim S64 ![] bcast_S_S64 (constant S_ .f32 0x40000000#32)) (sitofp .f32 (iotaInDim S64 32 0)))))
          (broadcastInDim S64 ![] bcast_S_S64 (constant S_ .f32 0x43000000#32))))))

/-- Their cosines and sines. -/
def cosT : FVec Ideal S16384x64 .f32 := Host.cos ang
@[inherit_doc cosT] def sinT : FVec Ideal S16384x64 .f32 := Host.sin ang

/-- Lane `d` of the rotated head `x` at position `t`. -/
def rotAt (x : Fin 128 → EReal) (t : Fin 16384) (d : Fin 128) : EReal :=
  Proj.rot x (fun j => cosT (ix2 t j)) (fun j => sinT (ix2 t j)) d

end Cert.KWinRefIdeal.Hand
-- ==== Proof.Pdil1Claim.lean ====
module

public import proofs.«01_k».proof.Defs
public import proofs.«01_k».proof.Proof.Gen.Pdil1Ideal.Value
public import proofs.«01_k».proof.Proof.Gen.Pdil1RefIdeal.Run
public import proofs.«01_k».proof.Proof.GatesClaim
public import proofs.«01_k».proof.Proof.RopeTables
public import Idealize.ShloMosaic.Lib.Pipeline.ValueKit.Tiles

@[expose] public section

set_option maxRecDepth 16384

noncomputable section

namespace Cert.Pdil1Ideal.Hand

open Cert.Pdil1Ideal Cert.Pdil1Ideal.Gen Cert.Pdil1Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The factor of the queries. -/
def sc : EReal := Scalar.ofBits (F := Ideal) .f32 0x3DB504F3#32

/-- The column of the combined projection that column `n` of the call's matrix is. -/
def col (n : Fin 1536) : Fin 11288 := ⟨2584 + 1536 * (n.val / 512) + 0 + n.val % 512, by omega⟩

/-- The columns of the group's queries, keys and values. -/
def cols (w : FVec Ideal S2048x11288 .f32) : FVec Ideal S2048x1536 .bf16 :=
  concatenate S2048x1536 1
    [⟨S2048x512, extractStridedSlice S2048x512 ![0, 0] (extractStridedSlice S2048x1536 ![0, 2584] (truncf .bf16 w bitsLt_bf16_f32 : FVec Ideal S2048x11288 .bf16) slices_S2048x11288_S2048x1536_0_2584) slices_S2048x1536_S2048x512_0_0⟩,
     ⟨S2048x512, extractStridedSlice S2048x512 ![0, 0] (extractStridedSlice S2048x1536 ![0, 4120] (truncf .bf16 w bitsLt_bf16_f32 : FVec Ideal S2048x11288 .bf16) slices_S2048x11288_S2048x1536_0_4120) slices_S2048x1536_S2048x512_0_0⟩,
     ⟨S2048x512, extractStridedSlice S2048x512 ![0, 0] (extractStridedSlice S2048x1536 ![0, 5656] (truncf .bf16 w bitsLt_bf16_f32 : FVec Ideal S2048x11288 .bf16) slices_S2048x11288_S2048x1536_0_5656) slices_S2048x1536_S2048x512_0_0⟩]
    concatenates_S2048x512_S2048x512_S2048x512_S2048x1536_d1

/-- What the host hands the call: the columns and the tables of cosines and of signed sines. -/
theorem V7 : V m c main_v7 = cols (W m c) := by
  unfold_abbrev_sides; after_results; rfl

@[inherit_doc V7] theorem V26 : V m c main_v26 = ((concatenate S16384x128 1 [⟨S16384x64, cosT⟩, ⟨S16384x64, cosT⟩] concatenates_S16384x64_S16384x64_S16384x128_d1) : FVec Ideal S16384x128 .f32) := by
  unfold_abbrev_sides; after_results; rfl

@[inherit_doc V7] theorem V28 : V m c main_v28 = ((concatenate S16384x128 1 [⟨S16384x64, Host.negf sinT⟩, ⟨S16384x64, sinT⟩] concatenates_S16384x64_S16384x64_S16384x128_d1) : FVec Ideal S16384x128 .f32) := by
  unfold_abbrev_sides; after_results; rfl

theorem part_at (w : FVec Ideal S2048x11288 .f32) (o : ℕ) (ho : o + 1536 ≤ 11288) (hs : Shape.Slices S2048x11288 ![0, o] S2048x1536) (k : Fin 2048) (n : Fin 512) :
    extractStridedSlice S2048x512 ![0, 0] (extractStridedSlice S2048x1536 ![0, o] (truncf .bf16 w bitsLt_bf16_f32 : FVec Ideal S2048x11288 .bf16) hs) slices_S2048x1536_S2048x512_0_0 (ix2 k n)
      = w (ix2 k ⟨o + (0 + n.val), by omega⟩) := by
  pointwise []

theorem cols_at (w : FVec Ideal S2048x11288 .f32) (k : Fin 2048) (n : Fin 1536) : cols w (ix2 k n) = w (ix2 k (col n)) := by
  unfold cols
  have e1 := part_at w 2584 (by decide) slices_S2048x11288_S2048x1536_0_2584
  have e2 := part_at w 4120 (by decide) slices_S2048x11288_S2048x1536_0_4120
  have e3 := part_at w 5656 (by decide) slices_S2048x11288_S2048x1536_0_5656
  generalize extractStridedSlice S2048x512 ![0, 0] (extractStridedSlice S2048x1536 ![0, 2584] (truncf .bf16 w bitsLt_bf16_f32 : FVec Ideal S2048x11288 .bf16) slices_S2048x11288_S2048x1536_0_2584) slices_S2048x1536_S2048x512_0_0 = y1 at e1 ⊢
  generalize extractStridedSlice S2048x512 ![0, 0] (extractStridedSlice S2048x1536 ![0, 4120] (truncf .bf16 w bitsLt_bf16_f32 : FVec Ideal S2048x11288 .bf16) slices_S2048x11288_S2048x1536_0_4120) slices_S2048x1536_S2048x512_0_0 = y2 at e2 ⊢
  generalize extractStridedSlice S2048x512 ![0, 0] (extractStridedSlice S2048x1536 ![0, 5656] (truncf .bf16 w bitsLt_bf16_f32 : FVec Ideal S2048x11288 .bf16) slices_S2048x11288_S2048x1536_0_5656) slices_S2048x1536_S2048x512_0_0 = y3 at e3 ⊢
  have hc : concatenate S2048x1536 1 [⟨S2048x512, y1⟩, ⟨S2048x512, y2⟩, ⟨S2048x512, y3⟩] concatenates_S2048x512_S2048x512_S2048x512_S2048x1536_d1 (ix2 k n)
      = if h : n.val < 512 then y1 (ix2 k ⟨n.val, h⟩) else if h' : n.val - 512 < 512 then y2 (ix2 k ⟨n.val - 512, h'⟩) else y3 (ix2 k ⟨n.val - 512 - 512, by omega⟩) := by
    pointwise []
  refine hc.trans ?_
  by_cases h1 : n.val < 512
  · rw [dif_pos h1, e1]; exact congrArg (fun j => w (ix2 k j)) (Fin.ext (by show 2584 + (0 + n.val) = 2584 + 1536 * (n.val / 512) + 0 + n.val % 512; omega))
  · rw [dif_neg h1]
    by_cases h2 : n.val - 512 < 512
    · rw [dif_pos h2, e2]; exact congrArg (fun j => w (ix2 k j)) (Fin.ext (by show 4120 + (0 + (n.val - 512)) = 2584 + 1536 * (n.val / 512) + 0 + n.val % 512; omega))
    · rw [dif_neg h2, e3]; exact congrArg (fun j => w (ix2 k j)) (Fin.ext (by show 5656 + (0 + (n.val - 512 - 512)) = 2584 + 1536 * (n.val / 512) + 0 + n.val % 512; omega))

theorem index_facts : ∀ t : Fin cfg0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true :=
  (by decide +kernel : ∀ t : Fin grid0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true)

theorem lt_N (t : Fin cfg0.N) : t.val < 24 := by have hN : cfg0.N = 24 := N_0; have := t.isLt; omega

/-- Row `r` of the rows of point `t`. -/
abbrev row (t : Fin cfg0.N) (r : Fin 2048) : Fin 16384 := ⟨2048 * (t.val / 3) + r.val, by have := lt_N t; omega⟩

theorem blk0_at (t : Fin cfg0.N) (r k : Fin 2048) :
    (iblk m c 0 t : FVec Ideal S2048x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 3) + r.val; rw [hi.1]; omega
  | ⟨1, _⟩ => show win0_0.index t 1 * 2048 + 1 * k.val = k.val; rw [hi.2.1]; omega

theorem blk1_at (t : Fin cfg0.N) (k : Fin 2048) (n : Fin 512) :
    (iblk m c 1 t : FVec Ideal S2048x512 .bf16) (ix2 k n) = W m c (ix2 k (col ⟨512 * (t.val % 3) + n.val, by omega⟩)) := by
  have hi := index_facts t
  unfold iblk
  rw [View.read_apply]
  show V m c main_v7 _ = _
  rw [V7]
  refine Eq.trans ?_ (cols_at (W m c) k ⟨512 * (t.val % 3) + n.val, by omega⟩)
  congr 1
  funext a
  apply Fin.ext
  match a with
  | ⟨0, _⟩ => show win0_1.index t 0 * 2048 + 1 * k.val = k.val; rw [hi.2.2.1]; omega
  | ⟨1, _⟩ => show win0_1.index t 1 * 512 + 1 * n.val = 512 * (t.val % 3) + n.val; rw [hi.2.2.2.1]; omega

theorem blk2_at (t : Fin cfg0.N) (r : Fin 2048) (d : Fin 128) :
    (iblk m c 2 t : FVec Ideal S2048x128 .f32) (ix2 r d) = cosT (ix2 (row t r) (Proj.low d)) := by
  have hi := index_facts t
  unfold iblk
  rw [View.read_apply]
  show V m c main_v26 _ = _
  rw [V26]
  refine Eq.trans ?_ (Proj.cos_table_at cosT concatenates_S16384x64_S16384x64_S16384x128_d1 (row t r) d)
  congr 1
  funext a
  apply Fin.ext
  match a with
  | ⟨0, _⟩ => show win0_2.index t 0 * 2048 + 1 * r.val = 2048 * (t.val / 3) + r.val; rw [hi.2.2.2.2.1]; omega
  | ⟨1, _⟩ => show win0_2.index t 1 * 128 + 1 * d.val = d.val; rw [hi.2.2.2.2.2.1]; omega

theorem blk3_at (t : Fin cfg0.N) (r : Fin 2048) (d : Fin 128) :
    (iblk m c 3 t : FVec Ideal S2048x128 .f32) (ix2 r d) = if d.val < 64 then -sinT (ix2 (row t r) (Proj.low d)) else sinT (ix2 (row t r) (Proj.low d)) := by
  have hi := index_facts t
  unfold iblk
  rw [View.read_apply]
  show V m c main_v28 _ = _
  rw [V28]
  refine Eq.trans ?_ (Proj.sin_table_at sinT concatenates_S16384x64_S16384x64_S16384x128_d1 (row t r) d)
  congr 1
  funext a
  apply Fin.ext
  match a with
  | ⟨0, _⟩ => show win0_3.index t 0 * 2048 + 1 * r.val = 2048 * (t.val / 3) + r.val; rw [hi.2.2.2.2.2.2.1]; omega
  | ⟨1, _⟩ => show win0_3.index t 1 * 128 + 1 * d.val = d.val; rw [hi.2.2.2.2.2.2.2.1]; omega

/-- The point's product. -/
def prod (x : FVec Ideal S2048x2048 .bf16) (w : FVec Ideal S2048x512 .bf16) : FVec Ideal S2048x512 .f32 :=
  matmul dot_S2048x2048_S2048x512_S2048x512_1_0_0_1_n_n none x (shapeCast S2048x512 w shapeCasts_S2048x512_S2048x512) (constant S2048x512 .f32 0x00000000#32)

theorem prod_at (x : FVec Ideal S2048x2048 .bf16) (w : FVec Ideal S2048x512 .bf16) (r : Fin 2048) (n : Fin 512) :
    prod x w (ix2 r n) = ∑ k : Fin 2048, x (ix2 r k) * w (ix2 k n) := by
  pointwise [prod]

theorem slice_at (p : FVec Ideal S2048x512 .f32) (o : ℕ) (ho : o + 128 ≤ 512) (hs : Shape.Slices S2048x512 ![0, o] S2048x128) (r : Fin 2048) (d : Fin 128) :
    extractStridedSlice S2048x128 ![0, o] p hs (ix2 r d) = p (ix2 r ⟨o + d.val, by omega⟩) := by
  pointwise []

/-- A head's rotated lanes. -/
def rotH (y : FVec Ideal S2048x128 .f32) (a b : FVec Ideal S2048x128 .f32) : FVec Ideal S2048x128 .f32 :=
  addf (mulf y (shapeCast S2048x128 a shapeCasts_S2048x128_S2048x128)) (mulf (dynamicRotate 1 64#32 none y rotates_S2048x128_d1) (shapeCast S2048x128 b shapeCasts_S2048x128_S2048x128))

theorem rotH_at (y a b : FVec Ideal S2048x128 .f32) (r : Fin 2048) (d : Fin 128) :
    rotH y a b (ix2 r d) = y (ix2 r d) * a (ix2 r d) + y (ix2 r (Proj.opp d)) * b (ix2 r d) := by
  have hr := Proj.rotate_at y (shapeCast S2048x128 a shapeCasts_S2048x128_S2048x128) (shapeCast S2048x128 b shapeCasts_S2048x128_S2048x128) rotates_S2048x128_d1 r d
  have hc : ∀ y : FVec Ideal S2048x128 .f32, shapeCast S2048x128 y shapeCasts_S2048x128_S2048x128 (ix2 r d) = y (ix2 r d) := fun y => by pointwise []
  rw [hc, hc] at hr
  exact hr

/-- What step `k` leaves for lane `d` of head `j` in row `r`: the queries rotated and scaled, the keys rotated, the values. -/
def headAt (k : Fin 3) (p : FVec Ideal S2048x512 .f32) (a b : FVec Ideal S2048x128 .f32) (j : Fin 4) (r : Fin 2048) (d : Fin 128) : EReal :=
  match k with
  | 0 => (p (ix2 r ⟨128 * j.val + d.val, by omega⟩) * a (ix2 r d) + p (ix2 r ⟨128 * j.val + (Proj.opp d).val, by omega⟩) * b (ix2 r d)) * sc
  | 1 => p (ix2 r ⟨128 * j.val + d.val, by omega⟩) * a (ix2 r d) + p (ix2 r ⟨128 * j.val + (Proj.opp d).val, by omega⟩) * b (ix2 r d)
  | 2 => p (ix2 r ⟨128 * j.val + d.val, by omega⟩)

/-- The lane within the head. -/
def lane (l : Fin 128) : Fin 128 := ⟨l.val % 128, by omega⟩

/-- Head `j` as step `k` stores it. -/
def headV (k : Fin 3) (p : FVec Ideal S2048x512 .f32) (a b : FVec Ideal S2048x128 .f32) (o : ℕ) (hs : Shape.Slices S2048x512 ![0, o] S2048x128) : FVec Ideal S2048x128 .f32 :=
  match k with
  | 0 => mulf (rotH (extractStridedSlice S2048x128 ![0, o] p hs) a b) (broadcast S2048x128 (Scalar.ofBits (F := Ideal) .f32 0x3DB504F3#32))
  | 1 => rotH (extractStridedSlice S2048x128 ![0, o] p hs) a b
  | 2 => extractStridedSlice S2048x128 ![0, o] p hs

theorem headV_at (k : Fin 3) (p : FVec Ideal S2048x512 .f32) (a b : FVec Ideal S2048x128 .f32) (j : Fin 4) (hs : Shape.Slices S2048x512 ![0, 128 * j.val] S2048x128) (r : Fin 2048) (d : Fin 128) :
    headV k p a b (128 * j.val) hs (ix2 r d) = headAt k p a b j r d := by
  have e := fun d => slice_at p (128 * j.val) (by omega) hs r d
  match k with
  | 0 =>
    show rotH _ a b (ix2 r d) * sc = _
    rw [rotH_at, e, e]; rfl
  | 1 =>
    show rotH _ a b (ix2 r d) = _
    rw [rotH_at, e, e]; rfl
  | 2 => exact e d

/-- A head's rows in blocks of 128. -/
theorem pack_at (y : FVec Ideal S2048x128 .f32) (z : Fin 1) (a : Fin 16) (q d : Fin 128) :
    (shapeCast S1x16x128x128 (truncf .bf16 (shapeCast S16x128x128 y shapeCasts_S2048x128_S16x128x128) bitsLt_bf16_f32 : FVec Ideal S16x128x128 .bf16) shapeCasts_S16x128x128_S1x16x128x128 : FVec Ideal S1x16x128x128 .bf16) (ix4 z a q d)
      = y (ix2 ⟨128 * a.val + q.val, by omega⟩ d) := by
  have h0 : shapeCast S16x128x128 y shapeCasts_S2048x128_S16x128x128 (ix3 a q d) = y (ix2 ⟨128 * a.val + q.val, by omega⟩ d) := by
    refine shapeCast_apply y shapeCasts_S2048x128_S16x128x128 _ _ ?_
    rw [Shape.rowMajor_val_three, Shape.rowMajor_val_two]
    show (128 * a.val + q.val) * 128 + d.val = (a.val * 128 + q.val) * 128 + d.val
    ring
  refine Eq.trans ?_ h0
  generalize shapeCast S16x128x128 y shapeCasts_S2048x128_S16x128x128 = v
  pointwise []

theorem outA_at (t : Fin cfg0.N) (h0 : t.val % 3 = 0) (h1 : ¬t.val % 3 = 1) (h2 : ¬t.val % 3 = 2) (j : Fin 4) (a : Fin 16) (q d : Fin 128) :
    (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) : Vec Ideal S4x16x128x128 .bf16) (ix4 j a q d)
      = headAt 0 (prod (iblk m c 0 t) (iblk m c 1 t)) (iblk m c 2 t) (iblk m c 3 t) j ⟨128 * a.val + q.val, by omega⟩ d := by
  have hz : (![0, 0] : Fin 2 → ℕ) = 0 := by decide
  unfold out0_A_4
  rw [View.read_writes_eq_canon _ _ _ (fun y => cover0_A_4 (y := y) ..)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z, a', q', d', rfl⟩ : ∃ (z : Fin 1) (a' : Fin 16) (q' d' : Fin 128), y = ix4 z a' q' d' := ⟨y 0, y 1, y 2, y 3, eq_ix4 y⟩
    obtain rfl : j = 3 := Fin.ext (by have := z.isLt; have : j.val = 3 + z.val := e0; show j.val = 3; omega)
    obtain rfl : a = a' := Fin.ext e1
    obtain rfl : q = q' := Fin.ext e2
    obtain rfl : d = d' := Fin.ext e3
    exact (pack_at (headV 0 (prod (iblk m c 0 t) (iblk m c 1 t)) (iblk m c 2 t) (iblk m c 3 t) 384 slices_S2048x512_o0_384_S2048x128) z a q d).trans (headV_at 0 _ _ _ 3 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 2 := Fin.ext (by have := z.isLt; have : j.val = 2 + z.val := e0; show j.val = 2; omega)
    obtain rfl : a = a' := Fin.ext e1
    obtain rfl : q = q' := Fin.ext e2
    obtain rfl : d = d' := Fin.ext e3
    exact (pack_at (headV 0 (prod (iblk m c 0 t) (iblk m c 1 t)) (iblk m c 2 t) (iblk m c 3 t) 256 slices_S2048x512_o0_256_S2048x128) z a q d).trans (headV_at 0 _ _ _ 2 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 1 := Fin.ext (by have := z.isLt; have : j.val = 1 + z.val := e0; show j.val = 1; omega)
    obtain rfl : a = a' := Fin.ext e1
    obtain rfl : q = q' := Fin.ext e2
    obtain rfl : d = d' := Fin.ext e3
    exact (pack_at (headV 0 (prod (iblk m c 0 t) (iblk m c 1 t)) (iblk m c 2 t) (iblk m c 3 t) 128 slices_S2048x512_o0_128_S2048x128) z a q d).trans (headV_at 0 _ _ _ 1 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 0 := Fin.ext (by have := z.isLt; have : j.val = 0 + z.val := Eq.trans e0 (Nat.zero_add _).symm; show j.val = 0; omega)
    obtain rfl : a = a' := Fin.ext e1
    obtain rfl : q = q' := Fin.ext e2
    obtain rfl : d = d' := Fin.ext e3
    exact (pack_at (headV 0 (prod (iblk m c 0 t) (iblk m c 1 t)) (iblk m c 2 t) (iblk m c 3 t) 0 slices_S2048x512_o0_0_S2048x128) z a q d).trans (headV_at 0 _ _ _ 0 _ _ d)

theorem outB_at (t : Fin cfg0.N) (h0 : ¬t.val % 3 = 0) (h1 : t.val % 3 = 1) (h2 : ¬t.val % 3 = 2) (j : Fin 4) (a : Fin 16) (q d : Fin 128) :
    (out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) : Vec Ideal S4x16x128x128 .bf16) (ix4 j a q d)
      = headAt 1 (prod (iblk m c 0 t) (iblk m c 1 t)) (iblk m c 2 t) (iblk m c 3 t) j ⟨128 * a.val + q.val, by omega⟩ d := by
  have hz : (![0, 0] : Fin 2 → ℕ) = 0 := by decide
  unfold out0_B_4
  rw [View.read_writes_eq_canon _ _ _ (fun y => cover0_B_4 (y := y) ..)]
  unfold kernelRun0_B
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z, a', q', d', rfl⟩ : ∃ (z : Fin 1) (a' : Fin 16) (q' d' : Fin 128), y = ix4 z a' q' d' := ⟨y 0, y 1, y 2, y 3, eq_ix4 y⟩
    obtain rfl : j = 3 := Fin.ext (by have := z.isLt; have : j.val = 3 + z.val := e0; show j.val = 3; omega)
    obtain rfl : a = a' := Fin.ext e1
    obtain rfl : q = q' := Fin.ext e2
    obtain rfl : d = d' := Fin.ext e3
    exact (pack_at (headV 1 (prod (iblk m c 0 t) (iblk m c 1 t)) (iblk m c 2 t) (iblk m c 3 t) 384 slices_S2048x512_o0_384_S2048x128) z a q d).trans (headV_at 1 _ _ _ 3 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 2 := Fin.ext (by have := z.isLt; have : j.val = 2 + z.val := e0; show j.val = 2; omega)
    obtain rfl : a = a' := Fin.ext e1
    obtain rfl : q = q' := Fin.ext e2
    obtain rfl : d = d' := Fin.ext e3
    exact (pack_at (headV 1 (prod (iblk m c 0 t) (iblk m c 1 t)) (iblk m c 2 t) (iblk m c 3 t) 256 slices_S2048x512_o0_256_S2048x128) z a q d).trans (headV_at 1 _ _ _ 2 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 1 := Fin.ext (by have := z.isLt; have : j.val = 1 + z.val := e0; show j.val = 1; omega)
    obtain rfl : a = a' := Fin.ext e1
    obtain rfl : q = q' := Fin.ext e2
    obtain rfl : d = d' := Fin.ext e3
    exact (pack_at (headV 1 (prod (iblk m c 0 t) (iblk m c 1 t)) (iblk m c 2 t) (iblk m c 3 t) 128 slices_S2048x512_o0_128_S2048x128) z a q d).trans (headV_at 1 _ _ _ 1 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 0 := Fin.ext (by have := z.isLt; have : j.val = 0 + z.val := Eq.trans e0 (Nat.zero_add _).symm; show j.val = 0; omega)
    obtain rfl : a = a' := Fin.ext e1
    obtain rfl : q = q' := Fin.ext e2
    obtain rfl : d = d' := Fin.ext e3
    exact (pack_at (headV 1 (prod (iblk m c 0 t) (iblk m c 1 t)) (iblk m c 2 t) (iblk m c 3 t) 0 slices_S2048x512_o0_0_S2048x128) z a q d).trans (headV_at 1 _ _ _ 0 _ _ d)

theorem outC_at (t : Fin cfg0.N) (h0 : ¬t.val % 3 = 0) (h1 : ¬t.val % 3 = 1) (h2 : t.val % 3 = 2) (j : Fin 4) (a : Fin 16) (q d : Fin 128) :
    (out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) : Vec Ideal S4x16x128x128 .bf16) (ix4 j a q d)
      = headAt 2 (prod (iblk m c 0 t) (iblk m c 1 t)) (iblk m c 2 t) (iblk m c 3 t) j ⟨128 * a.val + q.val, by omega⟩ d := by
  have hz : (![0, 0] : Fin 2 → ℕ) = 0 := by decide
  unfold out0_C_4
  rw [View.read_writes_eq_canon _ _ _ (fun y => cover0_C_4 (y := y) ..)]
  unfold kernelRun0_C
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z, a', q', d', rfl⟩ : ∃ (z : Fin 1) (a' : Fin 16) (q' d' : Fin 128), y = ix4 z a' q' d' := ⟨y 0, y 1, y 2, y 3, eq_ix4 y⟩
    obtain rfl : j = 3 := Fin.ext (by have := z.isLt; have : j.val = 3 + z.val := e0; show j.val = 3; omega)
    obtain rfl : a = a' := Fin.ext e1
    obtain rfl : q = q' := Fin.ext e2
    obtain rfl : d = d' := Fin.ext e3
    exact (pack_at (headV 2 (prod (iblk m c 0 t) (iblk m c 1 t)) (iblk m c 2 t) (iblk m c 3 t) 384 slices_S2048x512_o0_384_S2048x128) z a q d).trans (headV_at 2 _ _ _ 3 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 2 := Fin.ext (by have := z.isLt; have : j.val = 2 + z.val := e0; show j.val = 2; omega)
    obtain rfl : a = a' := Fin.ext e1
    obtain rfl : q = q' := Fin.ext e2
    obtain rfl : d = d' := Fin.ext e3
    exact (pack_at (headV 2 (prod (iblk m c 0 t) (iblk m c 1 t)) (iblk m c 2 t) (iblk m c 3 t) 256 slices_S2048x512_o0_256_S2048x128) z a q d).trans (headV_at 2 _ _ _ 2 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 1 := Fin.ext (by have := z.isLt; have : j.val = 1 + z.val := e0; show j.val = 1; omega)
    obtain rfl : a = a' := Fin.ext e1
    obtain rfl : q = q' := Fin.ext e2
    obtain rfl : d = d' := Fin.ext e3
    exact (pack_at (headV 2 (prod (iblk m c 0 t) (iblk m c 1 t)) (iblk m c 2 t) (iblk m c 3 t) 128 slices_S2048x512_o0_128_S2048x128) z a q d).trans (headV_at 2 _ _ _ 1 _ _ d)
  · obtain ⟨z, a', q', d', rfl⟩ : ∃ (z : Fin 1) (a' : Fin 16) (q' d' : Fin 128), y = ix4 z a' q' d' := ⟨y 0, y 1, y 2, y 3, eq_ix4 y⟩
    obtain rfl : j = 0 := Fin.ext (by have := z.isLt; have : j.val = 0 + z.val := Eq.trans e0 (Nat.zero_add _).symm; show j.val = 0; omega)
    obtain rfl : a = a' := Fin.ext e1
    obtain rfl : q = q' := Fin.ext e2
    obtain rfl : d = d' := Fin.ext e3
    exact (pack_at (headV 2 (prod (iblk m c 0 t) (iblk m c 1 t)) (iblk m c 2 t) (iblk m c 3 t) 0 slices_S2048x512_o0_0_S2048x128) z a q d).trans (headV_at 2 _ _ _ 0 _ _ d)

/-- The point's rows and columns. -/
abbrev xblk (t : Fin cfg0.N) : FVec Ideal S2048x2048 .bf16 := iblk m c 0 t
@[inherit_doc xblk] abbrev wblk (t : Fin cfg0.N) : FVec Ideal S2048x512 .bf16 := iblk m c 1 t

theorem dot_at (u : Fin cfg0.N) (r : Fin 2048) (n : Fin 512) :
    prod (iblk m c 0 u) (iblk m c 1 u) (ix2 r n) = Proj.dot (X m c) (W m c) (row u r) (col ⟨512 * (u.val % 3) + n.val, by omega⟩) := by
  refine (prod_at (xblk m c u) (wblk m c u) r n).trans ?_
  unfold Proj.dot
  exact Finset.sum_congr rfl fun k _ => congrArg₂ (fun a b : EReal => a * b) (blk0_at m c u r k) (blk1_at m c u k n)

/-- Lane `d` of head `h` at position `t`: the queries rotated and scaled, the keys rotated, the values; `x` gives the projected lanes. -/
def want (x : Fin 12 → Fin 16384 → Fin 128 → EReal) (h : Fin 12) (t : Fin 16384) (d : Fin 128) : EReal :=
  if h.val < 4 then rotAt (x h t) t d * sc else if h.val < 8 then rotAt (x h t) t d else x h t d

/-- The column that lane `d` of head `h` comes from. -/
def src (h : Fin 12) (d : Fin 128) : Fin 11288 := ⟨2584 + 1536 * (h.val / 4) + 0 + 128 * (h.val % 4) + d.val, by omega⟩

/-- The position that row block `A`, row `q` and lane `l` stand for. -/
def pos (A : Fin 128) (q : Fin 128) (l : Fin 128) : Fin 16384 := ⟨128 * A.val + 1 * q.val + l.val / 128, by omega⟩

theorem want_at (u : Fin cfg0.N) (j : Fin 4) (h : Fin 12) (e : h.val = 4 * (u.val % 3) + j.val) (k : Fin 3) (ek : k.val = u.val % 3) (r : Fin 2048) (d : Fin 128) :
    headAt k (prod (iblk m c 0 u) (iblk m c 1 u)) (iblk m c 2 u) (iblk m c 3 u) j r d = want (fun h t d => Proj.dot (X m c) (W m c) t (src h d)) h (row u r) d := by
  have hd : ∀ d : Fin 128, prod (iblk m c 0 u) (iblk m c 1 u) (ix2 r ⟨128 * j.val + d.val, by omega⟩) = Proj.dot (X m c) (W m c) (row u r) (src h d) := fun d =>
    (dot_at m c u r ⟨128 * j.val + d.val, by omega⟩).trans (congrArg (Proj.dot (X m c) (W m c) (row u r)) (Fin.ext (by
      show 2584 + 1536 * ((512 * (u.val % 3) + (128 * j.val + d.val)) / 512) + 0 + (512 * (u.val % 3) + (128 * j.val + d.val)) % 512 = 2584 + 1536 * (h.val / 4) + 0 + 128 * (h.val % 4) + d.val
      omega)))
  have h2 := blk2_at m c u r d
  have h3 := blk3_at m c u r d
  match k, ek with
  | 0, ek =>
    have ek : 0 = u.val % 3 := ek
    unfold want headAt
    rw [if_pos (by omega)]
    rw [hd, hd, h2, h3]; rfl
  | 1, ek =>
    have ek : 1 = u.val % 3 := ek
    unfold want headAt
    rw [if_neg (by omega), if_pos (by omega)]
    rw [hd, hd, h2, h3]; rfl
  | 2, ek =>
    have ek : 2 = u.val % 3 := ek
    unfold want headAt
    rw [if_neg (by omega), if_neg (by omega)]
    rw [hd]

/-- With one residue class the lane is the whole lane. -/
theorem rowEq (k : Fin 3) (p : FVec Ideal S2048x512 .f32) (x y : FVec Ideal S2048x128 .f32) {j : Fin 4} (a : Fin 16) (q l : Fin 128) :
    headAt k p x y j ⟨128 * a.val + q.val, by omega⟩ l = headAt k p x y j ⟨128 * a.val + 1 * q.val + l.val / 128, by omega⟩ (lane l) := by
  have e1 : (⟨128 * a.val + q.val, by omega⟩ : Fin 2048) = ⟨128 * a.val + 1 * q.val + l.val / 128, by omega⟩ := Fin.ext (by show 128 * a.val + q.val = 128 * a.val + 1 * q.val + l.val / 128; omega)
  have e2 : l = lane l := Fin.ext (by show l.val = l.val % 128; omega)
  rw [← e1, ← e2]

/-- The kernel's result. -/
theorem val_at (h : Fin 12) (A : Fin 128) (q : Fin 128) (l : Fin 128) :
    ((dats m 0 c).arrAt 4 cfg0.N : FVec Ideal S12x128x128x128 .bf16) (ix4 h A q l) = want (fun h t d => Proj.dot (X m c) (W m c) t (src h d)) h (pos A q l) (lane l) := by
  have hN : cfg0.N = 24 := N_0
  obtain ⟨u, hu⟩ : ∃ u : Fin cfg0.N, u.val = 3 * (A.val / 16) + h.val / 4 := ⟨⟨3 * (A.val / 16) + h.val / 4, by omega⟩, rfl⟩
  obtain ⟨j, hj⟩ : ∃ j : Fin 4, j.val = h.val % 4 := ⟨⟨h.val % 4, by omega⟩, rfl⟩
  obtain ⟨a, ha⟩ : ∃ a : Fin 16, a.val = A.val % 16 := ⟨⟨A.val % 16, by omega⟩, rfl⟩
  have hi := index_facts u
  have hb := congrFun (blocks4 m c u hi.2.2.2.2.2.2.2.2.2.2.2.2) (ix4 j a q l)
  rw [View.read_apply] at hb
  refine Eq.trans ?_ (hb.trans ?_)
  · congr 1
    funext b
    apply Fin.ext
    match b with
    | ⟨0, _⟩ => show h.val = win0_4.index u 0 * 4 + 1 * j.val; rw [hi.2.2.2.2.2.2.2.2.1]; omega
    | ⟨1, _⟩ => show A.val = win0_4.index u 1 * 16 + 1 * a.val; rw [hi.2.2.2.2.2.2.2.2.2.1]; omega
    | ⟨2, _⟩ => show q.val = win0_4.index u 2 * 128 + 1 * q.val; rw [hi.2.2.2.2.2.2.2.2.2.2.1]; omega
    | ⟨3, _⟩ => show l.val = win0_4.index u 3 * 128 + 1 * l.val; rw [hi.2.2.2.2.2.2.2.2.2.2.2.1]; omega
  · have hr : row u ⟨128 * a.val + 1 * q.val + l.val / 128, by omega⟩ = pos A q l := Fin.ext (by show 2048 * (u.val / 3) + (128 * a.val + 1 * q.val + l.val / 128) = 128 * A.val + 1 * q.val + l.val / 128; omega)
    rw [← hr]
    obtain hk | hk | hk : u.val % 3 = 0 ∨ u.val % 3 = 1 ∨ u.val % 3 = 2 := by omega
    · rw [flushed4_A m c u hk (by omega) (by omega)]
      exact (outA_at m c u hk (by omega) (by omega) j a q l).trans ((rowEq _ _ _ _ a q l).trans (want_at m c u j h (by omega) 0 hk.symm _ _))
    · rw [flushed4_B m c u (by omega) hk (by omega)]
      exact (outB_at m c u (by omega) hk (by omega) j a q l).trans ((rowEq _ _ _ _ a q l).trans (want_at m c u j h (by omega) 1 hk.symm _ _))
    · rw [flushed4_C m c u (by omega) (by omega) hk]
      exact (outC_at m c u (by omega) (by omega) hk j a q l).trans ((rowEq _ _ _ _ a q l).trans (want_at m c u j h (by omega) 2 hk.symm _ _))

end Cert.Pdil1Ideal.Hand

namespace Cert.Pdil1RefIdeal.Hand

open Cert.Pdil1RefIdeal Cert.Pdil1RefIdeal.Gen Cert.Pdil1RefIdeal.Value Idealize.ShloMosaic Idealize.ShloMosaic.TcCoe Idealize.SL.Sem
open Cert.KWinRefIdeal.Hand (cosT sinT rotAt)
open Cert.Pdil1Ideal.Hand (sc want src pos lane)

/-- The split into heads, head first. -/
def heads (y : FVec Ideal S16384x1536 .f32) : FVec Ideal S12x16384x128 .f32 :=
  transpose S12x16384x128 [1, 0, 2] (shapeCast S16384x12x128 y shapeCasts_S16384x1536_S16384x12x128) transposes_S16384x12x128_S12x16384x128_1_0_2

/-- The group's heads. -/
def grp (x : FVec Ideal S12x16384x128 .f32) : FVec Ideal S4x16384x128 .f32 :=
  extractStridedSlice S4x16384x128 ![0, 0, 0] x slices_S12x16384x128_S4x16384x128_0_0_0

theorem grp_at (x : FVec Ideal S12x16384x128 .f32) (h : Fin 4) (t : Fin 16384) (d : Fin 128) : grp x (ix3 h t d) = x (ix3 ⟨0 + h.val, by omega⟩ t d) := by
  pointwise [grp]

theorem lanes_at (p : FVec Ideal S16384x11288 .f32) (o : ℕ) (ho : o + 1536 ≤ 11288) (hs : Shape.Slices S16384x11288 ![0, o] S16384x1536) (h : Fin 4) (t : Fin 16384) (d : Fin 128) :
    grp (heads (extractStridedSlice S16384x1536 ![0, o] p hs)) (ix3 h t d) = p (ix2 t ⟨o + (128 * (0 + h.val) + d.val), by omega⟩) :=
  (grp_at _ h t d).trans (Proj.heads_at o p hs shapeCasts_S16384x1536_S16384x12x128 transposes_S16384x12x128_S12x16384x128_1_0_2 rfl ho ⟨0 + h.val, by omega⟩ t d)

/-- The rotary embedding of four heads. -/
def rope4 (x : FVec Ideal S4x16384x128 .f32) : FVec Ideal S4x16384x128 .f32 :=
  concatenate S4x16384x128 2
    [⟨S4x16384x64, subf (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 sinT)))⟩,
     ⟨S4x16384x64, addf (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 sinT)))⟩]
    concatenates_S4x16384x64_S4x16384x64_S4x16384x128_d2

theorem rope4_at (x : FVec Ideal S4x16384x128 .f32) (h : Fin 4) (t : Fin 16384) (d : Fin 128) : rope4 x (ix3 h t d) = rotAt (fun e => x (ix3 h t e)) t d :=
  Proj.rope_at x cosT sinT _ _ _ _ _ h t d

/-- The twelve heads: rotated and scaled queries, rotated keys, values. -/
def all (p : FVec Ideal S16384x11288 .f32) : FVec Ideal S12x16384x128 .f32 :=
  concatenate S12x16384x128 0
    [⟨S4x16384x128, mulf (rope4 (grp (heads (extractStridedSlice S16384x1536 ![0, 2584] p slices_S16384x11288_S16384x1536_0_2584)))) (broadcastInDim S4x16384x128 ![] bcast_S_S4x16384x128 (constant S_ .f32 0x3DB504F3#32))⟩,
     ⟨S4x16384x128, rope4 (grp (heads (extractStridedSlice S16384x1536 ![0, 4120] p slices_S16384x11288_S16384x1536_0_4120)))⟩,
     ⟨S4x16384x128, (grp (heads (extractStridedSlice S16384x1536 ![0, 5656] p slices_S16384x11288_S16384x1536_0_5656)))⟩]
    concatenates_S4x16384x128_S4x16384x128_S4x16384x128_S12x16384x128_d0

theorem all_at (p : FVec Ideal S16384x11288 .f32) (h : Fin 12) (t : Fin 16384) (d : Fin 128) : all p (ix3 h t d) = want (fun h t d => p (ix2 t (src h d))) h t d := by
  have e1 : ∀ (h : Fin 4) (d : Fin 128), mulf (rope4 (grp (heads (extractStridedSlice S16384x1536 ![0, 2584] p slices_S16384x11288_S16384x1536_0_2584)))) (broadcastInDim S4x16384x128 ![] bcast_S_S4x16384x128 (constant S_ .f32 0x3DB504F3#32)) (ix3 h t d)
      = rotAt (fun e => (grp (heads (extractStridedSlice S16384x1536 ![0, 2584] p slices_S16384x11288_S16384x1536_0_2584))) (ix3 h t e)) t d * sc := fun h d => congrArg (fun v : EReal => v * sc) (rope4_at _ h t d)
  have e2 := fun h : Fin 4 => rope4_at (grp (heads (extractStridedSlice S16384x1536 ![0, 4120] p slices_S16384x11288_S16384x1536_0_4120))) h t d
  have f1 := lanes_at p 2584 (by decide) slices_S16384x11288_S16384x1536_0_2584
  have f2 := lanes_at p 4120 (by decide) slices_S16384x11288_S16384x1536_0_4120
  have f3 := lanes_at p 5656 (by decide) slices_S16384x11288_S16384x1536_0_5656
  unfold all
  generalize mulf (rope4 (grp (heads (extractStridedSlice S16384x1536 ![0, 2584] p slices_S16384x11288_S16384x1536_0_2584)))) (broadcastInDim S4x16384x128 ![] bcast_S_S4x16384x128 (constant S_ .f32 0x3DB504F3#32)) = y1 at e1 ⊢
  generalize rope4 (grp (heads (extractStridedSlice S16384x1536 ![0, 4120] p slices_S16384x11288_S16384x1536_0_4120))) = y2 at e2 ⊢
  generalize (grp (heads (extractStridedSlice S16384x1536 ![0, 5656] p slices_S16384x11288_S16384x1536_0_5656))) = y3 at f3 ⊢
  have hc : concatenate S12x16384x128 0 [⟨S4x16384x128, y1⟩, ⟨S4x16384x128, y2⟩, ⟨S4x16384x128, y3⟩] concatenates_S4x16384x128_S4x16384x128_S4x16384x128_S12x16384x128_d0 (ix3 h t d)
      = if h' : h.val < 4 then y1 (ix3 ⟨h.val, h'⟩ t d) else if h'' : h.val - 4 < 4 then y2 (ix3 ⟨h.val - 4, h''⟩ t d) else y3 (ix3 ⟨h.val - 4 - 4, by omega⟩ t d) := by
    pointwise []
  refine hc.trans ?_
  unfold want
  have hx : ∀ (o : ℕ) (i : Fin 4) (d : Fin 128) (hb : o + (128 * (0 + i.val) + d.val) < 11288), o + 128 * i.val = 2584 + 1536 * (h.val / 4) + 128 * (h.val % 4) →
      p (ix2 t ⟨o + (128 * (0 + i.val) + d.val), hb⟩) = p (ix2 t (src h d)) := fun o i d hb ho =>
    congrArg (fun j => p (ix2 t j)) (Fin.ext (by show o + (128 * (0 + i.val) + d.val) = 2584 + 1536 * (h.val / 4) + 0 + 128 * (h.val % 4) + d.val; omega))
  by_cases h1 : h.val < 4
  · rw [dif_pos h1, if_pos h1, e1]
    refine congrArg (fun x => rotAt x t d * sc) (funext fun e => ?_)
    rw [f1]
    exact hx 2584 ⟨h.val, h1⟩ e _ (by show 2584 + 128 * h.val = _; omega)
  · rw [dif_neg h1, if_neg h1]
    by_cases h2 : h.val - 4 < 4
    · rw [dif_pos h2, if_pos (by omega), e2]
      refine congrArg (fun x => rotAt x t d) (funext fun e => ?_)
      rw [f2]
      exact hx 4120 ⟨h.val - 4, h2⟩ e _ (by show 4120 + 128 * (h.val - 4) = _; omega)
    · rw [dif_neg h2, if_neg (by omega), f3]
      exact hx 5656 ⟨h.val - 4 - 4, by omega⟩ d _ (by show 5656 + 128 * (h.val - 4 - 4) = _; omega)

/-- The plain program's result, in terms of all columns. -/
def res (p : FVec Ideal S16384x11288 .f32) : FVec Ideal S12x128x128x128 .bf16 :=
  truncf .bf16 (shapeCast S12x128x128x128 (all p) shapeCasts_S12x16384x128_S12x128x128x128) bitsLt_bf16_f32

theorem res_at (p : FVec Ideal S16384x11288 .f32) (h : Fin 12) (A : Fin 128) (q : Fin 128) (l : Fin 128) :
    res p (ix4 h A q l) = want (fun h t d => p (ix2 t (src h d))) h (pos A q l) (lane l) := by
  refine Eq.trans ?_ (all_at p h (pos A q l) (lane l))
  unfold res
  generalize all p = y
  show shapeCast S12x128x128x128 y shapeCasts_S12x16384x128_S12x128x128x128 _ = _
  refine shapeCast_apply y shapeCasts_S12x16384x128_S12x128x128x128 _ _ ?_
  rw [Shape.rowMajor_val_three, Shape.rowMajor_val_four]
  show (h.val * 16384 + (128 * A.val + 1 * q.val + l.val / 128)) * 128 + l.val % 128 = ((h.val * 128 + A.val) * 128 + q.val) * 128 + l.val
  omega

end Cert.Pdil1RefIdeal.Hand

namespace Cert.Proof.Pdil1

open Idealize.ShloMosaic Idealize.ShloMosaic.TcCoe Idealize.SL.Sem

/-- The rotated queries and keys and the values of one group of the dilated attention: kernel and plain program compute the
same array over the reals. -/
theorem algebraic : Cert.algebraic_Pdil1Ideal_Pdil1RefIdeal := by
  intro m ρ m' ρ' _ hag
  refine ⟨_, Cert.Pdil1Ideal.Value.run_blocks m ρ,
    (θ_run _ _ _).mono (fun _ h c => ⟨(h c).1.trans ?_, (h c).2⟩) (Cert.Pdil1RefIdeal.Value.run m' ρ')⟩
  funext i
  obtain ⟨h, A, q, l, rfl⟩ : ∃ (h : Fin 12) (A : Fin 128) (q : Fin 128) (l : Fin 128), i = ix4 h A q l := ⟨i 0, i 1, i 2, i 3, eq_ix4 i⟩
  refine (Cert.Pdil1RefIdeal.Hand.res_at (Cert.GatesRefIdeal.Hand.proj (m' ((c.tc : Thread Cert.Pdil1RefIdeal.nD Cert.Pdil1RefIdeal.τ).loc Cert.Pdil1RefIdeal.main_arg0)) (m' ((c.tc : Thread Cert.Pdil1RefIdeal.nD Cert.Pdil1RefIdeal.τ).loc Cert.Pdil1RefIdeal.main_arg1))) h A q l).trans ?_
  rw [(hag c).1, (hag c).2]
  simp only [Cert.GatesRefIdeal.Hand.proj_at]
  exact (Cert.Pdil1Ideal.Hand.val_at m c h A q l).symm

end Cert.Proof.Pdil1
-- ==== Proof.Pdil4Ker.lean ====
module

public import proofs.«01_k».proof.Defs
public import proofs.«01_k».proof.Proof.Gen.Pdil4Ideal.Value
public import proofs.«01_k».proof.Proof.GatesClaim
public import proofs.«01_k».proof.Proof.RopeTables
public import Idealize.ShloMosaic.Lib.Pipeline.ValueKit.Tiles

@[expose] public section

set_option maxRecDepth 16384

noncomputable section

namespace Cert.Pdil4Ideal.Hand

open Cert.Pdil4Ideal Cert.Pdil4Ideal.Gen Cert.Pdil4Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The factor of the queries. -/
def sc : EReal := Scalar.ofBits (F := Ideal) .f32 0x3DB504F3#32

/-- The column of the combined projection that column `n` of the call's matrix is. -/
def col (n : Fin 1536) : Fin 11288 := ⟨2584 + 1536 * (n.val / 512) + 512 + n.val % 512, by omega⟩

/-- The columns of the group's queries, keys and values. -/
def cols (w : FVec Ideal S2048x11288 .f32) : FVec Ideal S2048x1536 .bf16 :=
  concatenate S2048x1536 1
    [⟨S2048x512, extractStridedSlice S2048x512 ![0, 512] (extractStridedSlice S2048x1536 ![0, 2584] (truncf .bf16 w bitsLt_bf16_f32 : FVec Ideal S2048x11288 .bf16) slices_S2048x11288_S2048x1536_0_2584) slices_S2048x1536_S2048x512_0_512⟩,
     ⟨S2048x512, extractStridedSlice S2048x512 ![0, 512] (extractStridedSlice S2048x1536 ![0, 4120] (truncf .bf16 w bitsLt_bf16_f32 : FVec Ideal S2048x11288 .bf16) slices_S2048x11288_S2048x1536_0_4120) slices_S2048x1536_S2048x512_0_512⟩,
     ⟨S2048x512, extractStridedSlice S2048x512 ![0, 512] (extractStridedSlice S2048x1536 ![0, 5656] (truncf .bf16 w bitsLt_bf16_f32 : FVec Ideal S2048x11288 .bf16) slices_S2048x11288_S2048x1536_0_5656) slices_S2048x1536_S2048x512_0_512⟩]
    concatenates_S2048x512_S2048x512_S2048x512_S2048x1536_d1

/-- What the host hands the call: the columns and the tables of cosines and of signed sines. -/
theorem V7 : V m c main_v7 = cols (W m c) := by
  unfold_abbrev_sides; after_results; rfl

@[inherit_doc V7] theorem V26 : V m c main_v26 = ((concatenate S16384x128 1 [⟨S16384x64, cosT⟩, ⟨S16384x64, cosT⟩] concatenates_S16384x64_S16384x64_S16384x128_d1) : FVec Ideal S16384x128 .f32) := by
  unfold_abbrev_sides; after_results; rfl

@[inherit_doc V7] theorem V28 : V m c main_v28 = ((concatenate S16384x128 1 [⟨S16384x64, Host.negf sinT⟩, ⟨S16384x64, sinT⟩] concatenates_S16384x64_S16384x64_S16384x128_d1) : FVec Ideal S16384x128 .f32) := by
  unfold_abbrev_sides; after_results; rfl

theorem part_at (w : FVec Ideal S2048x11288 .f32) (o : ℕ) (ho : o + 1536 ≤ 11288) (hs : Shape.Slices S2048x11288 ![0, o] S2048x1536) (k : Fin 2048) (n : Fin 512) :
    extractStridedSlice S2048x512 ![0, 512] (extractStridedSlice S2048x1536 ![0, o] (truncf .bf16 w bitsLt_bf16_f32 : FVec Ideal S2048x11288 .bf16) hs) slices_S2048x1536_S2048x512_0_512 (ix2 k n)
      = w (ix2 k ⟨o + (512 + n.val), by omega⟩) := by
  pointwise []

theorem cols_at (w : FVec Ideal S2048x11288 .f32) (k : Fin 2048) (n : Fin 1536) : cols w (ix2 k n) = w (ix2 k (col n)) := by
  unfold cols
  have e1 := part_at w 2584 (by decide) slices_S2048x11288_S2048x1536_0_2584
  have e2 := part_at w 4120 (by decide) slices_S2048x11288_S2048x1536_0_4120
  have e3 := part_at w 5656 (by decide) slices_S2048x11288_S2048x1536_0_5656
  generalize extractStridedSlice S2048x512 ![0, 512] (extractStridedSlice S2048x1536 ![0, 2584] (truncf .bf16 w bitsLt_bf16_f32 : FVec Ideal S2048x11288 .bf16) slices_S2048x11288_S2048x1536_0_2584) slices_S2048x1536_S2048x512_0_512 = y1 at e1 ⊢
  generalize extractStridedSlice S2048x512 ![0, 512] (extractStridedSlice S2048x1536 ![0, 4120] (truncf .bf16 w bitsLt_bf16_f32 : FVec Ideal S2048x11288 .bf16) slices_S2048x11288_S2048x1536_0_4120) slices_S2048x1536_S2048x512_0_512 = y2 at e2 ⊢
  generalize extractStridedSlice S2048x512 ![0, 512] (extractStridedSlice S2048x1536 ![0, 5656] (truncf .bf16 w bitsLt_bf16_f32 : FVec Ideal S2048x11288 .bf16) slices_S2048x11288_S2048x1536_0_5656) slices_S2048x1536_S2048x512_0_512 = y3 at e3 ⊢
  have hc : concatenate S2048x1536 1 [⟨S2048x512, y1⟩, ⟨S2048x512, y2⟩, ⟨S2048x512, y3⟩] concatenates_S2048x512_S2048x512_S2048x512_S2048x1536_d1 (ix2 k n)
      = if h : n.val < 512 then y1 (ix2 k ⟨n.val, h⟩) else if h' : n.val - 512 < 512 then y2 (ix2 k ⟨n.val - 512, h'⟩) else y3 (ix2 k ⟨n.val - 512 - 512, by omega⟩) := by
    pointwise []
  refine hc.trans ?_
  by_cases h1 : n.val < 512
  · rw [dif_pos h1, e1]; exact congrArg (fun j => w (ix2 k j)) (Fin.ext (by show 2584 + (512 + n.val) = 2584 + 1536 * (n.val / 512) + 512 + n.val % 512; omega))
  · rw [dif_neg h1]
    by_cases h2 : n.val - 512 < 512
    · rw [dif_pos h2, e2]; exact congrArg (fun j => w (ix2 k j)) (Fin.ext (by show 4120 + (512 + (n.val - 512)) = 2584 + 1536 * (n.val / 512) + 512 + n.val % 512; omega))
    · rw [dif_neg h2, e3]; exact congrArg (fun j => w (ix2 k j)) (Fin.ext (by show 5656 + (512 + (n.val - 512 - 512)) = 2584 + 1536 * (n.val / 512) + 512 + n.val % 512; omega))

theorem index_facts : ∀ t : Fin cfg0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true :=
  (by decide +kernel : ∀ t : Fin grid0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true)

theorem lt_N (t : Fin cfg0.N) : t.val < 24 := by have hN : cfg0.N = 24 := N_0; have := t.isLt; omega

/-- Row `r` of the rows of point `t`. -/
abbrev row (t : Fin cfg0.N) (r : Fin 2048) : Fin 16384 := ⟨2048 * (t.val / 3) + r.val, by have := lt_N t; omega⟩

theorem blk0_at (t : Fin cfg0.N) (r k : Fin 2048) :
    (iblk m c 0 t : FVec Ideal S2048x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 3) + r.val; rw [hi.1]; omega
  | ⟨1, _⟩ => show win0_0.index t 1 * 2048 + 1 * k.val = k.val; rw [hi.2.1]; omega

theorem blk1_at (t : Fin cfg0.N) (k : Fin 2048) (n : Fin 512) :
    (iblk m c 1 t : FVec Ideal S2048x512 .bf16) (ix2 k n) = W m c (ix2 k (col ⟨512 * (t.val % 3) + n.val, by omega⟩)) := by
  have hi := index_facts t
  unfold iblk
  rw [View.read_apply]
  show V m c main_v7 _ = _
  rw [V7]
  refine Eq.trans ?_ (cols_at (W m c) k ⟨512 * (t.val % 3) + n.val, by omega⟩)
  congr 1
  funext a
  apply Fin.ext
  match a with
  | ⟨0, _⟩ => show win0_1.index t 0 * 2048 + 1 * k.val = k.val; rw [hi.2.2.1]; omega
  | ⟨1, _⟩ => show win0_1.index t 1 * 512 + 1 * n.val = 512 * (t.val % 3) + n.val; rw [hi.2.2.2.1]; omega

theorem blk2_at (t : Fin cfg0.N) (r : Fin 2048) (d : Fin 128) :
    (iblk m c 2 t : FVec Ideal S2048x128 .f32) (ix2 r d) = cosT (ix2 (row t r) (Proj.low d)) := by
  have hi := index_facts t
  unfold iblk
  rw [View.read_apply]
  show V m c main_v26 _ = _
  rw [V26]
  refine Eq.trans ?_ (Proj.cos_table_at cosT concatenates_S16384x64_S16384x64_S16384x128_d1 (row t r) d)
  congr 1
  funext a
  apply Fin.ext
  match a with
  | ⟨0, _⟩ => show win0_2.index t 0 * 2048 + 1 * r.val = 2048 * (t.val / 3) + r.val; rw [hi.2.2.2.2.1]; omega
  | ⟨1, _⟩ => show win0_2.index t 1 * 128 + 1 * d.val = d.val; rw [hi.2.2.2.2.2.1]; omega

theorem blk3_at (t : Fin cfg0.N) (r : Fin 2048) (d : Fin 128) :
    (iblk m c 3 t : FVec Ideal S2048x128 .f32) (ix2 r d) = if d.val < 64 then -sinT (ix2 (row t r) (Proj.low d)) else sinT (ix2 (row t r) (Proj.low d)) := by
  have hi := index_facts t
  unfold iblk
  rw [View.read_apply]
  show V m c main_v28 _ = _
  rw [V28]
  refine Eq.trans ?_ (Proj.sin_table_at sinT concatenates_S16384x64_S16384x64_S16384x128_d1 (row t r) d)
  congr 1
  funext a
  apply Fin.ext
  match a with
  | ⟨0, _⟩ => show win0_3.index t 0 * 2048 + 1 * r.val = 2048 * (t.val / 3) + r.val; rw [hi.2.2.2.2.2.2.1]; omega
  | ⟨1, _⟩ => show win0_3.index t 1 * 128 + 1 * d.val = d.val; rw [hi.2.2.2.2.2.2.2.1]; omega

/-- The point's product. -/
def prod (x : FVec Ideal S2048x2048 .bf16) (w : FVec Ideal S2048x512 .bf16) : FVec Ideal S2048x512 .f32 :=
  matmul dot_S2048x2048_S2048x512_S2048x512_1_0_0_1_n_n none x (shapeCast S2048x512 w shapeCasts_S2048x512_S2048x512) (constant S2048x512 .f32 0x00000000#32)

theorem prod_at (x : FVec Ideal S2048x2048 .bf16) (w : FVec Ideal S2048x512 .bf16) (r : Fin 2048) (n : Fin 512) :
    prod x w (ix2 r n) = ∑ k : Fin 2048, x (ix2 r k) * w (ix2 k n) := by
  pointwise [prod]

theorem slice_at (p : FVec Ideal S2048x512 .f32) (o : ℕ) (ho : o + 128 ≤ 512) (hs : Shape.Slices S2048x512 ![0, o] S2048x128) (r : Fin 2048) (d : Fin 128) :
    extractStridedSlice S2048x128 ![0, o] p hs (ix2 r d) = p (ix2 r ⟨o + d.val, by omega⟩) := by
  pointwise []

/-- A head's rotated lanes. -/
def rotH (y : FVec Ideal S2048x128 .f32) (a b : FVec Ideal S2048x128 .f32) : FVec Ideal S2048x128 .f32 :=
  addf (mulf y (shapeCast S2048x128 a shapeCasts_S2048x128_S2048x128)) (mulf (dynamicRotate 1 64#32 none y rotates_S2048x128_d1) (shapeCast S2048x128 b shapeCasts_S2048x128_S2048x128))

theorem rotH_at (y a b : FVec Ideal S2048x128 .f32) (r : Fin 2048) (d : Fin 128) :
    rotH y a b (ix2 r d) = y (ix2 r d) * a (ix2 r d) + y (ix2 r (Proj.opp d)) * b (ix2 r d) := by
  have hr := Proj.rotate_at y (shapeCast S2048x128 a shapeCasts_S2048x128_S2048x128) (shapeCast S2048x128 b shapeCasts_S2048x128_S2048x128) rotates_S2048x128_d1 r d
  have hc : ∀ y : FVec Ideal S2048x128 .f32, shapeCast S2048x128 y shapeCasts_S2048x128_S2048x128 (ix2 r d) = y (ix2 r d) := fun y => by pointwise []
  rw [hc, hc] at hr
  exact hr

/-- What step `k` leaves for lane `d` of head `j` in row `r`: the queries rotated and scaled, the keys rotated, the values. -/
def headAt (k : Fin 3) (p : FVec Ideal S2048x512 .f32) (a b : FVec Ideal S2048x128 .f32) (j : Fin 4) (r : Fin 2048) (d : Fin 128) : EReal :=
  match k with
  | 0 => (p (ix2 r ⟨128 * j.val + d.val, by omega⟩) * a (ix2 r d) + p (ix2 r ⟨128 * j.val + (Proj.opp d).val, by omega⟩) * b (ix2 r d)) * sc
  | 1 => p (ix2 r ⟨128 * j.val + d.val, by omega⟩) * a (ix2 r d) + p (ix2 r ⟨128 * j.val + (Proj.opp d).val, by omega⟩) * b (ix2 r d)
  | 2 => p (ix2 r ⟨128 * j.val + d.val, by omega⟩)

/-- The lane within the head. -/
def lane (l : Fin 512) : Fin 128 := ⟨l.val % 128, by omega⟩

/-- Head `j` as step `k` stores it. -/
def headV (k : Fin 3) (p : FVec Ideal S2048x512 .f32) (a b : FVec Ideal S2048x128 .f32) (o : ℕ) (hs : Shape.Slices S2048x512 ![0, o] S2048x128) : FVec Ideal S2048x128 .f32 :=
  match k with
  | 0 => mulf (rotH (extractStridedSlice S2048x128 ![0, o] p hs) a b) (broadcast S2048x128 (Scalar.ofBits (F := Ideal) .f32 0x3DB504F3#32))
  | 1 => rotH (extractStridedSlice S2048x128 ![0, o] p hs) a b
  | 2 => extractStridedSlice S2048x128 ![0, o] p hs

theorem headV_at (k : Fin 3) (p : FVec Ideal S2048x512 .f32) (a b : FVec Ideal S2048x128 .f32) (j : Fin 4) (hs : Shape.Slices S2048x512 ![0, 128 * j.val] S2048x128) (r : Fin 2048) (d : Fin 128) :
    headV k p a b (128 * j.val) hs (ix2 r d) = headAt k p a b j r d := by
  have e := fun d => slice_at p (128 * j.val) (by omega) hs r d
  match k with
  | 0 =>
    show rotH _ a b (ix2 r d) * sc = _
    rw [rotH_at, e, e]; rfl
  | 1 =>
    show rotH _ a b (ix2 r d) = _
    rw [rotH_at, e, e]; rfl
  | 2 => exact e d

/-- An entry of a stored piece by its coordinates. -/
theorem four (y : S1x1x128x128.Idx) : ∃ (z0 z1 : Fin 1) (q d : Fin 128), y = ix4 z0 z1 q d := ⟨y 0, y 1, y 2, y 3, eq_ix4 y⟩

/-- An offset of zero. -/
theorem Z {a b : ℕ} (e : a = b) : a = 0 + b := e.trans (Nat.zero_add _).symm

/-- An entry of the block in a stored piece: its head, row block and lane, from the piece's offsets. -/
theorem fin_at {j : Fin 4} {a : Fin 4} {q q' : Fin 128} {l : Fin 512} {d : Fin 128} {z0 z1 : Fin 1} (h : Fin 4) (a0 r : ℕ)
    (e0 : j.val = h.val + z0.val) (e1 : a.val = a0 + z1.val) (e2 : q.val = q'.val) (e3 : l.val = 128 * r + d.val) :
    j = h ∧ q = q' ∧ 512 * a0 + r = 512 * a.val + l.val / 128 ∧ l.val % 128 = d.val := by
  have := z0.isLt
  have := z1.isLt
  exact ⟨Fin.ext (by omega), Fin.ext e2, by omega, by omega⟩

/-- The scratch after head `j`'s store, read a residue class at a time: those rows of the head, as the call stores them. -/
theorem piece_at (k : Fin 3) (v : View sig .tc .vmem S4x2048x128 .f32) (p : FVec Ideal S2048x512 .f32) (x y : FVec Ideal S2048x128 .f32) (j : Fin 4) (hs : Shape.Slices S2048x512 ![0, 128 * j.val] S2048x128)
    (inbS : ∀ a, (![j.val, 0, 0] : Fin 3 → ℕ) a + S1x2048x128.size a ≤ S4x2048x128.size a) (rest : List (View.Piece (Elt Ideal) S4x2048x128 .f32)) (o : ℕ)
    (inb : ∀ a, S1x128x128.size a = 0 ∨ (![j.val, o, 0] : Fin 3 → ℕ) a + (![1, 4, 1] : Fin 3 → ℕ) a * (S1x128x128.size a - 1) < S4x2048x128.size a)
    (a : Fin 4) (q : Fin 128) (l : Fin 512) (z0 z1 : Fin 1) (d : Fin 128) (ho : o = 512 * a.val + l.val / 128) (hd : l.val % 128 = d.val) :
    (shapeCast S1x1x128x128 (truncf .bf16 (shapeCast S128x128 (View.readCov v ((⟨Rect.unit (s := S4x2048x128) ![j.val, 0, 0] S1x2048x128.size inbS, (shapeCast S1x2048x128 (headV k p x y (128 * j.val) hs) shapeCasts_S2048x128_S1x2048x128 : FVec Ideal S1x2048x128 .f32)⟩ : View.Piece (Elt Ideal) S4x2048x128 .f32) :: rest)
        (⟨![j.val, o, 0], S1x128x128.size, ![1, 4, 1], inb⟩ : LoadRect S4x2048x128) : FVec Ideal S1x128x128 .f32) shapeCasts_S1x128x128_S128x128) bitsLt_bf16_f32 : FVec Ideal S128x128 .bf16) shapeCasts_S128x128_S1x1x128x128 : FVec Ideal S1x1x128x128 .bf16) (ix4 z0 z1 q d)
      = headAt k p x y j ⟨512 * a.val + 4 * q.val + l.val / 128, by omega⟩ (lane l) := by
  obtain rfl : z0 = 0 := Subsingleton.elim _ _
  obtain rfl : z1 = 0 := Subsingleton.elim _ _
  have hr : o + 4 * q.val < 2048 := by omega
  have hw : shapeCast S1x2048x128 (headV k p x y (128 * j.val) hs) shapeCasts_S2048x128_S1x2048x128 (ix3 0 ⟨o + 4 * q.val, hr⟩ d) = headAt k p x y j ⟨o + 4 * q.val, hr⟩ d := by
    refine Eq.trans ?_ (headV_at k p x y j hs ⟨o + 4 * q.val, hr⟩ d)
    generalize headV k p x y (128 * j.val) hs = w
    pointwise []
  rw [View.readCov_eq_canon']
  have hc := View.canon_cons_emb (Val := Elt Ideal) (Rect.unit (s := S4x2048x128) ![j.val, 0, 0] S1x2048x128.size inbS) (shapeCast S1x2048x128 (headV k p x y (128 * j.val) hs) shapeCasts_S2048x128_S1x2048x128 : FVec Ideal S1x2048x128 .f32) rest (ix3 0 ⟨o + 4 * q.val, hr⟩ d)
  have hfin : headAt k p x y j ⟨o + 4 * q.val, hr⟩ d = headAt k p x y j ⟨512 * a.val + 4 * q.val + l.val / 128, by omega⟩ (lane l) := by
    have e1 : (⟨o + 4 * q.val, hr⟩ : Fin 2048) = ⟨512 * a.val + 4 * q.val + l.val / 128, by omega⟩ := Fin.ext (by show o + 4 * q.val = 512 * a.val + 4 * q.val + l.val / 128; omega)
    have e2 : d = lane l := Fin.ext hd.symm
    rw [← e1, ← e2]
  refine Eq.trans ?_ (hc.trans (hw.trans hfin))
  generalize View.canon ((⟨Rect.unit (s := S4x2048x128) ![j.val, 0, 0] S1x2048x128.size inbS, (shapeCast S1x2048x128 (headV k p x y (128 * j.val) hs) shapeCasts_S2048x128_S1x2048x128 : FVec Ideal S1x2048x128 .f32)⟩ : View.Piece (Elt Ideal) S4x2048x128 .f32) :: rest) = C
  have hf : ∀ f : FVec Ideal S1x128x128 .f32, (shapeCast S1x1x128x128 (truncf .bf16 (shapeCast S128x128 f shapeCasts_S1x128x128_S128x128) bitsLt_bf16_f32 : FVec Ideal S128x128 .bf16) shapeCasts_S128x128_S1x1x128x128 : FVec Ideal S1x1x128x128 .bf16) (ix4 0 0 q d) = f (ix3 0 q d) := fun f => by pointwise []
  refine (hf _).trans ?_
  refine congrArg C (funext fun b => Fin.ext ?_)
  match b with
  | ⟨0, _⟩ => show j.val + 1 * 0 = j.val + 1 * 0; rfl
  | ⟨1, _⟩ => show o + 4 * q.val = 0 + 1 * (o + 4 * q.val); omega
  | ⟨2, _⟩ => show 0 + 1 * d.val = 0 + 1 * d.val; rfl

end Cert.Pdil4Ideal.Hand

end
-- ==== Proof.Pdil4A.lean ====
module

public import proofs.«01_k».proof.Defs
public import proofs.«01_k».proof.Proof.Gen.Pdil4Ideal.Value
public import proofs.«01_k».proof.Proof.GatesClaim
public import proofs.«01_k».proof.Proof.Pdil4Ker
public import Idealize.ShloMosaic.Lib.Pipeline.ValueKit.Tiles

@[expose] public section

set_option maxRecDepth 16384

noncomputable section

namespace Cert.Pdil4Ideal.Hand

open Cert.Pdil4Ideal Cert.Pdil4Ideal.Gen Cert.Pdil4Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 0 leaves the rotated and scaled queries of its heads. -/
theorem outA_at (t : Fin cfg0.N) (h0 : t.val % 3 = 0) (h1 : ¬t.val % 3 = 1) (h2 : ¬t.val % 3 = 2) (j : Fin 4) (a : Fin 4) (q : Fin 128) (l : Fin 512) :
    (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) : Vec Ideal S4x4x128x512 .bf16) (ix4 j a q l)
      = headAt 0 (prod (iblk m c 0 t) (iblk m c 1 t)) (iblk m c 2 t) (iblk m c 3 t) j ⟨512 * a.val + 4 * q.val + l.val / 128, by omega⟩ (lane l) := by
  have hz : (![0, 0] : Fin 2 → ℕ) = 0 := by decide
  unfold out0_A_4
  rw [View.read_writes_eq_canon _ _ _ (fun y => cover0_A_4 (y := y) ..)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 3 3 e0 e1 e2 e3
    exact piece_at 0 _ (prod (iblk m c 0 t) (iblk m c 1 t)) (iblk m c 2 t) (iblk m c 3 t) 3 slices_S2048x512_o0_384_S2048x128 _ _ 1539 _ a q l z0 z1 d' ho hd
  · obtain ⟨z0, z1, q', d', rfl⟩ := four y
    obtain ⟨rfl, rfl, ho, hd⟩ := fin_at 3 3 2 e0 e1 e2 e3
    exact piece_at 0 _ (prod (iblk m c 0 t) (iblk m c 1 t)) (iblk m c 2 t) (iblk m c 3 t) 3 slices_S2048x512_o0_384_S2048x128 _ _ 1538 _ a q l z0 z1 d' ho hd
  · obtain ⟨z0, z1, q', d', rfl⟩ := four y
    obtain ⟨rfl, rfl, ho, hd⟩ := fin_at 3 3 1 e0 e1 e2 e3
    exact piece_at 0 _ (prod (iblk m c 0 t) (iblk m c 1 t)) (iblk m c 2 t) (iblk m c 3 t) 3 slices_S2048x512_o0_384_S2048x128 _ _ 1537 _ a q l z0 z1 d' ho hd
  · obtain ⟨z0, z1, q', d', rfl⟩ := four y
    obtain ⟨rfl, rfl, ho, hd⟩ := fin_at 3 3 0 e0 e1 e2 (Z e3)
    exact piece_at 0 _ (prod (iblk m c 0 t) (iblk m c 1 t)) (iblk m c 2 t) (iblk m c 3 t) 3 slices_S2048x512_o0_384_S2048x128 _ _ 1536 _ a q l z0 z1 d' ho hd
  · obtain ⟨z0, z1, q', d', rfl⟩ := four y
    obtain ⟨rfl, rfl, ho, hd⟩ := fin_at 3 2 3 e0 e1 e2 e3
    exact piece_at 0 _ (prod (iblk m c 0 t) (iblk m c 1 t)) (iblk m c 2 t) (iblk m c 3 t) 3 slices_S2048x512_o0_384_S2048x128 _ _ 1027 _ a q l z0 z1 d' ho hd
  · obtain ⟨z0, z1, q', d', rfl⟩ := four y
    obtain ⟨rfl, rfl, ho, hd⟩ := fin_at 3 2 2 e0 e1 e2 e3
    exact piece_at 0 _ (prod (iblk m c 0 t) (iblk m c 1 t)) (iblk m c 2 t) (iblk m c 3 t) 3 slices_S2048x512_o0_384_S2048x128 _ _ 1026 _ a q l z0 z1 d' ho hd
  · obtain ⟨z0, z1, q', d', rfl⟩ := four y
    obtain ⟨rfl, rfl, ho, hd⟩ := fin_at 3 2 1 e0 e1 e2 e3
    exact piece_at 0 _ (prod (iblk m c 0 t) (iblk m c 1 t)) (iblk m c 2 t) (iblk m c 3 t) 3 slices_S2048x512_o0_384_S2048x128 _ _ 1025 _ a q l z0 z1 d' ho hd
  · obtain ⟨z0, z1, q', d', rfl⟩ := four y
    obtain ⟨rfl, rfl, ho, hd⟩ := fin_at 3 2 0 e0 e1 e2 (Z e3)
    exact piece_at 0 _ (prod (iblk m c 0 t) (iblk m c 1 t)) (iblk m c 2 t) (iblk m c 3 t) 3 slices_S2048x512_o0_384_S2048x128 _ _ 1024 _ a q l z0 z1 d' ho hd
  · obtain ⟨z0, z1, q', d', rfl⟩ := four y
    obtain ⟨rfl, rfl, ho, hd⟩ := fin_at 3 1 3 e0 e1 e2 e3
    exact piece_at 0 _ (prod (iblk m c 0 t) (iblk m c 1 t)) (iblk m c 2 t) (iblk m c 3 t) 3 slices_S2048x512_o0_384_S2048x128 _ _ 515 _ a q l z0 z1 d' ho hd
  · obtain ⟨z0, z1, q', d', rfl⟩ := four y
    obtain ⟨rfl, rfl, ho, hd⟩ := fin_at 3 1 2 e0 e1 e2 e3
    exact piece_at 0 _ (prod (iblk m c 0 t) (iblk m c 1 t)) (iblk m c 2 t) (iblk m c 3 t) 3 slices_S2048x512_o0_384_S2048x128 _ _ 514 _ a q l z0 z1 d' ho hd
  · obtain ⟨z0, z1, q', d', rfl⟩ := four y
    obtain ⟨rfl, rfl, ho, hd⟩ := fin_at 3 1 1 e0 e1 e2 e3
    exact piece_at 0 _ (prod (iblk m c 0 t) (iblk m c 1 t)) (iblk m c 2 t) (iblk m c 3 t) 3 slices_S2048x512_o0_384_S2048x128 _ _ 513 _ a q l z0 z1 d' ho hd
  · obtain ⟨z0, z1, q', d', rfl⟩ := four y
    obtain ⟨rfl, rfl, ho, hd⟩ := fin_at 3 1 0 e0 e1 e2 (Z e3)
    exact piece_at 0 _ (prod (iblk m c 0 t) (iblk m c 1 t)) (iblk m c 2 t) (iblk m c 3 t) 3 slices_S2048x512_o0_384_S2048x128 _ _ 512 _ a q l z0 z1 d' ho hd
  · obtain ⟨z0, z1, q', d', rfl⟩ := four y
    obtain ⟨rfl, rfl, ho, hd⟩ := fin_at 3 0 3 e0 (Z e1) e2 e3
    exact piece_at 0 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 0 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 0 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 0 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 3 3 e0 e1 e2 e3
    exact piece_at 0 _ (prod (iblk m c 0 t) (iblk m c 1 t)) (iblk m c 2 t) (iblk m c 3 t) 2 slices_S2048x512_o0_256_S2048x128 _ _ 1539 _ a q l z0 z1 d' ho hd
  · obtain ⟨z0, z1, q', d', rfl⟩ := four y
    obtain ⟨rfl, rfl, ho, hd⟩ := fin_at 2 3 2 e0 e1 e2 e3
    exact piece_at 0 _ (prod (iblk m c 0 t) (iblk m c 1 t)) (iblk m c 2 t) (iblk m c 3 t) 2 slices_S2048x512_o0_256_S2048x128 _ _ 1538 _ a q l z0 z1 d' ho hd
  · obtain ⟨z0, z1, q', d', rfl⟩ := four y
    obtain ⟨rfl, rfl, ho, hd⟩ := fin_at 2 3 1 e0 e1 e2 e3
    exact piece_at 0 _ (prod (iblk m c 0 t) (iblk m c 1 t)) (iblk m c 2 t) (iblk m c 3 t) 2 slices_S2048x512_o0_256_S2048x128 _ _ 1537 _ a q l z0 z1 d' ho hd
  · obtain ⟨z0, z1, q', d', rfl⟩ := four y
    obtain ⟨rfl, rfl, ho, hd⟩ := fin_at 2 3 0 e0 e1 e2 (Z e3)
    exact piece_at 0 _ (prod (iblk m c 0 t) (iblk m c 1 t)) (iblk m c 2 t) (iblk m c 3 t) 2 slices_S2048x512_o0_256_S2048x128 _ _ 1536 _ a q l z0 z1 d' ho hd
  · obtain ⟨z0, z1, q', d', rfl⟩ := four y
    obtain ⟨rfl, rfl, ho, hd⟩ := fin_at 2 2 3 e0 e1 e2 e3
    exact piece_at 0 _ (prod (iblk m c 0 t) (iblk m c 1 t)) (iblk m c 2 t) (iblk m c 3 t) 2 slices_S2048x512_o0_256_S2048x128 _ _ 1027 _ a q l z0 z1 d' ho hd
  · obtain ⟨z0, z1, q', d', rfl⟩ := four y
    obtain ⟨rfl, rfl, ho, hd⟩ := fin_at 2 2 2 e0 e1 e2 e3
    exact piece_at 0 _ (prod (iblk m c 0 t) (iblk m c 1 t)) (iblk m c 2 t) (iblk m c 3 t) 2 slices_S2048x512_o0_256_S2048x128 _ _ 1026 _ a q l z0 z1 d' ho hd
  · obtain ⟨z0, z1, q', d', rfl⟩ := four y
    obtain ⟨rfl, rfl, ho, hd⟩ := fin_at 2 2 1 e0 e1 e2 e3
    exact piece_at 0 _ (prod (iblk m c 0 t) (iblk m c 1 t)) (iblk m c 2 t) (iblk m c 3 t) 2 slices_S2048x512_o0_256_S2048x128 _ _ 1025 _ a q l z0 z1 d' ho hd
  · obtain ⟨z0, z1, q', d', rfl⟩ := four y
    obtain ⟨rfl, rfl, ho, hd⟩ := fin_at 2 2 0 e0 e1 e2 (Z e3)
    exact piece_at 0 _ (prod (iblk m c 0 t) (iblk m c 1 t)) (iblk m c 2 t) (iblk m c 3 t) 2 slices_S2048x512_o0_256_S2048x128 _ _ 1024 _ a q l z0 z1 d' ho hd
  · obtain ⟨z0, z1, q', d', rfl⟩ := four y
    obtain ⟨rfl, rfl, ho, hd⟩ := fin_at 2 1 3 e0 e1 e2 e3
    exact piece_at 0 _ (prod (iblk m c 0 t) (iblk m c 1 t)) (iblk m c 2 t) (iblk m c 3 t) 2 slices_S2048x512_o0_256_S2048x128 _ _ 515 _ a q l z0 z1 d' ho hd
  · obtain ⟨z0, z1, q', d', rfl⟩ := four y
    obtain ⟨rfl, rfl, ho, hd⟩ := fin_at 2 1 2 e0 e1 e2 e3
    exact piece_at 0 _ (prod (iblk m c 0 t) (iblk m c 1 t)) (iblk m c 2 t) (iblk m c 3 t) 2 slices_S2048x512_o0_256_S2048x128 _ _ 514 _ a q l z0 z1 d' ho hd
  · obtain ⟨z0, z1, q', d', rfl⟩ := four y
    obtain ⟨rfl, rfl, ho, hd⟩ := fin_at 2 1 1 e0 e1 e2 e3
    exact piece_at 0 _ (prod (iblk m c 0 t) (iblk m c 1 t)) (iblk m c 2 t) (iblk m c 3 t) 2 slices_S2048x512_o0_256_S2048x128 _ _ 513 _ a q l z0 z1 d' ho hd
  · obtain ⟨z0, z1, q', d', rfl⟩ := four y
    obtain ⟨rfl, rfl, ho, hd⟩ := fin_at 2 1 0 e0 e1 e2 (Z e3)
    exact piece_at 0 _ (prod (iblk m c 0 t) (iblk m c 1 t)) (iblk m c 2 t) (iblk m c 3 t) 2 slices_S2048x512_o0_256_S2048x128 _ _ 512 _ a q l z0 z1 d' ho hd
  · obtain ⟨z0, z1, q', d', rfl⟩ := four y
    obtain ⟨rfl, rfl, ho, hd⟩ := fin_at 2 0 3 e0 (Z e1) e2 e3
    exact piece_at 0 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 0 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 0 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 0 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 3 3 e0 e1 e2 e3
    exact piece_at 0 _ (prod (iblk m c 0 t) (iblk m c 1 t)) (iblk m c 2 t) (iblk m c 3 t) 1 slices_S2048x512_o0_128_S2048x128 _ _ 1539 _ a q l z0 z1 d' ho hd
  · obtain ⟨z0, z1, q', d', rfl⟩ := four y
    obtain ⟨rfl, rfl, ho, hd⟩ := fin_at 1 3 2 e0 e1 e2 e3
    exact piece_at 0 _ (prod (iblk m c 0 t) (iblk m c 1 t)) (iblk m c 2 t) (iblk m c 3 t) 1 slices_S2048x512_o0_128_S2048x128 _ _ 1538 _ a q l z0 z1 d' ho hd
  · obtain ⟨z0, z1, q', d', rfl⟩ := four y
    obtain ⟨rfl, rfl, ho, hd⟩ := fin_at 1 3 1 e0 e1 e2 e3
    exact piece_at 0 _ (prod (iblk m c 0 t) (iblk m c 1 t)) (iblk m c 2 t) (iblk m c 3 t) 1 slices_S2048x512_o0_128_S2048x128 _ _ 1537 _ a q l z0 z1 d' ho hd
  · obtain ⟨z0, z1, q', d', rfl⟩ := four y
    obtain ⟨rfl, rfl, ho, hd⟩ := fin_at 1 3 0 e0 e1 e2 (Z e3)
    exact piece_at 0 _ (prod (iblk m c 0 t) (iblk m c 1 t)) (iblk m c 2 t) (iblk m c 3 t) 1 slices_S2048x512_o0_128_S2048x128 _ _ 1536 _ a q l z0 z1 d' ho hd
  · obtain ⟨z0, z1, q', d', rfl⟩ := four y
    obtain ⟨rfl, rfl, ho, hd⟩ := fin_at 1 2 3 e0 e1 e2 e3
    exact piece_at 0 _ (prod (iblk m c 0 t) (iblk m c 1 t)) (iblk m c 2 t) (iblk m c 3 t) 1 slices_S2048x512_o0_128_S2048x128 _ _ 1027 _ a q l z0 z1 d' ho hd
  · obtain ⟨z0, z1, q', d', rfl⟩ := four y
    obtain ⟨rfl, rfl, ho, hd⟩ := fin_at 1 2 2 e0 e1 e2 e3
    exact piece_at 0 _ (prod (iblk m c 0 t) (iblk m c 1 t)) (iblk m c 2 t) (iblk m c 3 t) 1 slices_S2048x512_o0_128_S2048x128 _ _ 1026 _ a q l z0 z1 d' ho hd
  · obtain ⟨z0, z1, q', d', rfl⟩ := four y
    obtain ⟨rfl, rfl, ho, hd⟩ := fin_at 1 2 1 e0 e1 e2 e3
    exact piece_at 0 _ (prod (iblk m c 0 t) (iblk m c 1 t)) (iblk m c 2 t) (iblk m c 3 t) 1 slices_S2048x512_o0_128_S2048x128 _ _ 1025 _ a q l z0 z1 d' ho hd
  · obtain ⟨z0, z1, q', d', rfl⟩ := four y
    obtain ⟨rfl, rfl, ho, hd⟩ := fin_at 1 2 0 e0 e1 e2 (Z e3)
    exact piece_at 0 _ (prod (iblk m c 0 t) (iblk m c 1 t)) (iblk m c 2 t) (iblk m c 3 t) 1 slices_S2048x512_o0_128_S2048x128 _ _ 1024 _ a q l z0 z1 d' ho hd
  · obtain ⟨z0, z1, q', d', rfl⟩ := four y
    obtain ⟨rfl, rfl, ho, hd⟩ := fin_at 1 1 3 e0 e1 e2 e3
    exact piece_at 0 _ (prod (iblk m c 0 t) (iblk m c 1 t)) (iblk m c 2 t) (iblk m c 3 t) 1 slices_S2048x512_o0_128_S2048x128 _ _ 515 _ a q l z0 z1 d' ho hd
  · obtain ⟨z0, z1, q', d', rfl⟩ := four y
    obtain ⟨rfl, rfl, ho, hd⟩ := fin_at 1 1 2 e0 e1 e2 e3
    exact piece_at 0 _ (prod (iblk m c 0 t) (iblk m c 1 t)) (iblk m c 2 t) (iblk m c 3 t) 1 slices_S2048x512_o0_128_S2048x128 _ _ 514 _ a q l z0 z1 d' ho hd
  · obtain ⟨z0, z1, q', d', rfl⟩ := four y
    obtain ⟨rfl, rfl, ho, hd⟩ := fin_at 1 1 1 e0 e1 e2 e3
    exact piece_at 0 _ (prod (iblk m c 0 t) (iblk m c 1 t)) (iblk m c 2 t) (iblk m c 3 t) 1 slices_S2048x512_o0_128_S2048x128 _ _ 513 _ a q l z0 z1 d' ho hd
  · obtain ⟨z0, z1, q', d', rfl⟩ := four y
    obtain ⟨rfl, rfl, ho, hd⟩ := fin_at 1 1 0 e0 e1 e2 (Z e3)
    exact piece_at 0 _ (prod (iblk m c 0 t) (iblk m c 1 t)) (iblk m c 2 t) (iblk m c 3 t) 1 slices_S2048x512_o0_128_S2048x128 _ _ 512 _ a q l z0 z1 d' ho hd
  · obtain ⟨z0, z1, q', d', rfl⟩ := four y
    obtain ⟨rfl, rfl, ho, hd⟩ := fin_at 1 0 3 e0 (Z e1) e2 e3
    exact piece_at 0 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 0 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 0 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 0 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 3 3 (Z e0) e1 e2 e3
    exact piece_at 0 _ (prod (iblk m c 0 t) (iblk m c 1 t)) (iblk m c 2 t) (iblk m c 3 t) 0 slices_S2048x512_o0_0_S2048x128 _ _ 1539 _ a q l z0 z1 d' ho hd
  · obtain ⟨z0, z1, q', d', rfl⟩ := four y
    obtain ⟨rfl, rfl, ho, hd⟩ := fin_at 0 3 2 (Z e0) e1 e2 e3
    exact piece_at 0 _ (prod (iblk m c 0 t) (iblk m c 1 t)) (iblk m c 2 t) (iblk m c 3 t) 0 slices_S2048x512_o0_0_S2048x128 _ _ 1538 _ a q l z0 z1 d' ho hd
  · obtain ⟨z0, z1, q', d', rfl⟩ := four y
    obtain ⟨rfl, rfl, ho, hd⟩ := fin_at 0 3 1 (Z e0) e1 e2 e3
    exact piece_at 0 _ (prod (iblk m c 0 t) (iblk m c 1 t)) (iblk m c 2 t) (iblk m c 3 t) 0 slices_S2048x512_o0_0_S2048x128 _ _ 1537 _ a q l z0 z1 d' ho hd
  · obtain ⟨z0, z1, q', d', rfl⟩ := four y
    obtain ⟨rfl, rfl, ho, hd⟩ := fin_at 0 3 0 (Z e0) e1 e2 (Z e3)
    exact piece_at 0 _ (prod (iblk m c 0 t) (iblk m c 1 t)) (iblk m c 2 t) (iblk m c 3 t) 0 slices_S2048x512_o0_0_S2048x128 _ _ 1536 _ a q l z0 z1 d' ho hd
  · obtain ⟨z0, z1, q', d', rfl⟩ := four y
    obtain ⟨rfl, rfl, ho, hd⟩ := fin_at 0 2 3 (Z e0) e1 e2 e3
    exact piece_at 0 _ (prod (iblk m c 0 t) (iblk m c 1 t)) (iblk m c 2 t) (iblk m c 3 t) 0 slices_S2048x512_o0_0_S2048x128 _ _ 1027 _ a q l z0 z1 d' ho hd
  · obtain ⟨z0, z1, q', d', rfl⟩ := four y
    obtain ⟨rfl, rfl, ho, hd⟩ := fin_at 0 2 2 (Z e0) e1 e2 e3
    exact piece_at 0 _ (prod (iblk m c 0 t) (iblk m c 1 t)) (iblk m c 2 t) (iblk m c 3 t) 0 slices_S2048x512_o0_0_S2048x128 _ _ 1026 _ a q l z0 z1 d' ho hd
  · obtain ⟨z0, z1, q', d', rfl⟩ := four y
    obtain ⟨rfl, rfl, ho, hd⟩ := fin_at 0 2 1 (Z e0) e1 e2 e3
    exact piece_at 0 _ (prod (iblk m c 0 t) (iblk m c 1 t)) (iblk m c 2 t) (iblk m c 3 t) 0 slices_S2048x512_o0_0_S2048x128 _ _ 1025 _ a q l z0 z1 d' ho hd
  · obtain ⟨z0, z1, q', d', rfl⟩ := four y
    obtain ⟨rfl, rfl, ho, hd⟩ := fin_at 0 2 0 (Z e0) e1 e2 (Z e3)
    exact piece_at 0 _ (prod (iblk m c 0 t) (iblk m c 1 t)) (iblk m c 2 t) (iblk m c 3 t) 0 slices_S2048x512_o0_0_S2048x128 _ _ 1024 _ a q l z0 z1 d' ho hd
  · obtain ⟨z0, z1, q', d', rfl⟩ := four y
    obtain ⟨rfl, rfl, ho, hd⟩ := fin_at 0 1 3 (Z e0) e1 e2 e3
    exact piece_at 0 _ (prod (iblk m c 0 t) (iblk m c 1 t)) (iblk m c 2 t) (iblk m c 3 t) 0 slices_S2048x512_o0_0_S2048x128 _ _ 515 _ a q l z0 z1 d' ho hd
  · obtain ⟨z0, z1, q', d', rfl⟩ := four y
    obtain ⟨rfl, rfl, ho, hd⟩ := fin_at 0 1 2 (Z e0) e1 e2 e3
    exact piece_at 0 _ (prod (iblk m c 0 t) (iblk m c 1 t)) (iblk m c 2 t) (iblk m c 3 t) 0 slices_S2048x512_o0_0_S2048x128 _ _ 514 _ a q l z0 z1 d' ho hd
  · obtain ⟨z0, z1, q', d', rfl⟩ := four y
    obtain ⟨rfl, rfl, ho, hd⟩ := fin_at 0 1 1 (Z e0) e1 e2 e3
    exact piece_at 0 _ (prod (iblk m c 0 t) (iblk m c 1 t)) (iblk m c 2 t) (iblk m c 3 t) 0 slices_S2048x512_o0_0_S2048x128 _ _ 513 _ a q l z0 z1 d' ho hd
  · obtain ⟨z0, z1, q', d', rfl⟩ := four y
    obtain ⟨rfl, rfl, ho, hd⟩ := fin_at 0 1 0 (Z e0) e1 e2 (Z e3)
    exact piece_at 0 _ (prod (iblk m c 0 t) (iblk m c 1 t)) (iblk m c 2 t) (iblk m c 3 t) 0 slices_S2048x512_o0_0_S2048x128 _ _ 512 _ a q l z0 z1 d' ho hd
  · obtain ⟨z0, z1, q', d', rfl⟩ := four y
    obtain ⟨rfl, rfl, ho, hd⟩ := fin_at 0 0 3 (Z e0) (Z e1) e2 e3
    exact piece_at 0 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 0 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 0 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 0 _ (prod (iblk m c 0 t) (iblk m c 1 t)) (iblk m c 2 t) (iblk m c 3 t) 0 slices_S2048x512_o0_0_S2048x128 _ _ 0 _ a q l z0 z1 d' ho hd

end Cert.Pdil4Ideal.Hand

end
-- ==== Proof.Pdil4B.lean ====
module

public import proofs.«01_k».proof.Defs
public import proofs.«01_k».proof.Proof.Gen.Pdil4Ideal.Value
public import proofs.«01_k».proof.Proof.GatesClaim
public import proofs.«01_k».proof.Proof.Pdil4Ker
public import Idealize.ShloMosaic.Lib.Pipeline.ValueKit.Tiles

@[expose] public section

set_option maxRecDepth 16384

noncomputable section

namespace Cert.Pdil4Ideal.Hand

open Cert.Pdil4Ideal Cert.Pdil4Ideal.Gen Cert.Pdil4Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 1 leaves the rotated keys of its heads. -/
theorem outB_at (t : Fin cfg0.N) (h0 : ¬t.val % 3 = 0) (h1 : t.val % 3 = 1) (h2 : ¬t.val % 3 = 2) (j : Fin 4) (a : Fin 4) (q : Fin 128) (l : Fin 512) :
    (out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) : Vec Ideal S4x4x128x512 .bf16) (ix4 j a q l)
      = headAt 1 (prod (iblk m c 0 t) (iblk m c 1 t)) (iblk m c 2 t) (iblk m c 3 t) j ⟨512 * a.val + 4 * q.val + l.val / 128, by omega⟩ (lane l) := by
  have hz : (![0, 0] : Fin 2 → ℕ) = 0 := by decide
  unfold out0_B_4
  rw [View.read_writes_eq_canon _ _ _ (fun y => cover0_B_4 (y := y) ..)]
  unfold kernelRun0_B
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 3 3 e0 e1 e2 e3
    exact piece_at 1 _ (prod (iblk m c 0 t) (iblk m c 1 t)) (iblk m c 2 t) (iblk m c 3 t) 3 slices_S2048x512_o0_384_S2048x128 _ _ 1539 _ a q l z0 z1 d' ho hd
  · obtain ⟨z0, z1, q', d', rfl⟩ := four y
    obtain ⟨rfl, rfl, ho, hd⟩ := fin_at 3 3 2 e0 e1 e2 e3
    exact piece_at 1 _ (prod (iblk m c 0 t) (iblk m c 1 t)) (iblk m c 2 t) (iblk m c 3 t) 3 slices_S2048x512_o0_384_S2048x128 _ _ 1538 _ a q l z0 z1 d' ho hd
  · obtain ⟨z0, z1, q', d', rfl⟩ := four y
    obtain ⟨rfl, rfl, ho, hd⟩ := fin_at 3 3 1 e0 e1 e2 e3
    exact piece_at 1 _ (prod (iblk m c 0 t) (iblk m c 1 t)) (iblk m c 2 t) (iblk m c 3 t) 3 slices_S2048x512_o0_384_S2048x128 _ _ 1537 _ a q l z0 z1 d' ho hd
  · obtain ⟨z0, z1, q', d', rfl⟩ := four y
    obtain ⟨rfl, rfl, ho, hd⟩ := fin_at 3 3 0 e0 e1 e2 (Z e3)
    exact piece_at 1 _ (prod (iblk m c 0 t) (iblk m c 1 t)) (iblk m c 2 t) (iblk m c 3 t) 3 slices_S2048x512_o0_384_S2048x128 _ _ 1536 _ a q l z0 z1 d' ho hd
  · obtain ⟨z0, z1, q', d', rfl⟩ := four y
    obtain ⟨rfl, rfl, ho, hd⟩ := fin_at 3 2 3 e0 e1 e2 e3
    exact piece_at 1 _ (prod (iblk m c 0 t) (iblk m c 1 t)) (iblk m c 2 t) (iblk m c 3 t) 3 slices_S2048x512_o0_384_S2048x128 _ _ 1027 _ a q l z0 z1 d' ho hd
  · obtain ⟨z0, z1, q', d', rfl⟩ := four y
    obtain ⟨rfl, rfl, ho, hd⟩ := fin_at 3 2 2 e0 e1 e2 e3
    exact piece_at 1 _ (prod (iblk m c 0 t) (iblk m c 1 t)) (iblk m c 2 t) (iblk m c 3 t) 3 slices_S2048x512_o0_384_S2048x128 _ _ 1026 _ a q l z0 z1 d' ho hd
  · obtain ⟨z0, z1, q', d', rfl⟩ := four y
    obtain ⟨rfl, rfl, ho, hd⟩ := fin_at 3 2 1 e0 e1 e2 e3
    exact piece_at 1 _ (prod (iblk m c 0 t) (iblk m c 1 t)) (iblk m c 2 t) (iblk m c 3 t) 3 slices_S2048x512_o0_384_S2048x128 _ _ 1025 _ a q l z0 z1 d' ho hd
  · obtain ⟨z0, z1, q', d', rfl⟩ := four y
    obtain ⟨rfl, rfl, ho, hd⟩ := fin_at 3 2 0 e0 e1 e2 (Z e3)
    exact piece_at 1 _ (prod (iblk m c 0 t) (iblk m c 1 t)) (iblk m c 2 t) (iblk m c 3 t) 3 slices_S2048x512_o0_384_S2048x128 _ _ 1024 _ a q l z0 z1 d' ho hd
  · obtain ⟨z0, z1, q', d', rfl⟩ := four y
    obtain ⟨rfl, rfl, ho, hd⟩ := fin_at 3 1 3 e0 e1 e2 e3
    exact piece_at 1 _ (prod (iblk m c 0 t) (iblk m c 1 t)) (iblk m c 2 t) (iblk m c 3 t) 3 slices_S2048x512_o0_384_S2048x128 _ _ 515 _ a q l z0 z1 d' ho hd
  · obtain ⟨z0, z1, q', d', rfl⟩ := four y
    obtain ⟨rfl, rfl, ho, hd⟩ := fin_at 3 1 2 e0 e1 e2 e3
    exact piece_at 1 _ (prod (iblk m c 0 t) (iblk m c 1 t)) (iblk m c 2 t) (iblk m c 3 t) 3 slices_S2048x512_o0_384_S2048x128 _ _ 514 _ a q l z0 z1 d' ho hd
  · obtain ⟨z0, z1, q', d', rfl⟩ := four y
    obtain ⟨rfl, rfl, ho, hd⟩ := fin_at 3 1 1 e0 e1 e2 e3
    exact piece_at 1 _ (prod (iblk m c 0 t) (iblk m c 1 t)) (iblk m c 2 t) (iblk m c 3 t) 3 slices_S2048x512_o0_384_S2048x128 _ _ 513 _ a q l z0 z1 d' ho hd
  · obtain ⟨z0, z1, q', d', rfl⟩ := four y
    obtain ⟨rfl, rfl, ho, hd⟩ := fin_at 3 1 0 e0 e1 e2 (Z e3)
    exact piece_at 1 _ (prod (iblk m c 0 t) (iblk m c 1 t)) (iblk m c 2 t) (iblk m c 3 t) 3 slices_S2048x512_o0_384_S2048x128 _ _ 512 _ a q l z0 z1 d' ho hd
  · obtain ⟨z0, z1, q', d', rfl⟩ := four y
    obtain ⟨rfl, rfl, ho, hd⟩ := fin_at 3 0 3 e0 (Z e1) e2 e3
    exact piece_at 1 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 1 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 1 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 1 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 3 3 e0 e1 e2 e3
    exact piece_at 1 _ (prod (iblk m c 0 t) (iblk m c 1 t)) (iblk m c 2 t) (iblk m c 3 t) 2 slices_S2048x512_o0_256_S2048x128 _ _ 1539 _ a q l z0 z1 d' ho hd
  · obtain ⟨z0, z1, q', d', rfl⟩ := four y
    obtain ⟨rfl, rfl, ho, hd⟩ := fin_at 2 3 2 e0 e1 e2 e3
    exact piece_at 1 _ (prod (iblk m c 0 t) (iblk m c 1 t)) (iblk m c 2 t) (iblk m c 3 t) 2 slices_S2048x512_o0_256_S2048x128 _ _ 1538 _ a q l z0 z1 d' ho hd
  · obtain ⟨z0, z1, q', d', rfl⟩ := four y
    obtain ⟨rfl, rfl, ho, hd⟩ := fin_at 2 3 1 e0 e1 e2 e3
    exact piece_at 1 _ (prod (iblk m c 0 t) (iblk m c 1 t)) (iblk m c 2 t) (iblk m c 3 t) 2 slices_S2048x512_o0_256_S2048x128 _ _ 1537 _ a q l z0 z1 d' ho hd
  · obtain ⟨z0, z1, q', d', rfl⟩ := four y
    obtain ⟨rfl, rfl, ho, hd⟩ := fin_at 2 3 0 e0 e1 e2 (Z e3)
    exact piece_at 1 _ (prod (iblk m c 0 t) (iblk m c 1 t)) (iblk m c 2 t) (iblk m c 3 t) 2 slices_S2048x512_o0_256_S2048x128 _ _ 1536 _ a q l z0 z1 d' ho hd
  · obtain ⟨z0, z1, q', d', rfl⟩ := four y
    obtain ⟨rfl, rfl, ho, hd⟩ := fin_at 2 2 3 e0 e1 e2 e3
    exact piece_at 1 _ (prod (iblk m c 0 t) (iblk m c 1 t)) (iblk m c 2 t) (iblk m c 3 t) 2 slices_S2048x512_o0_256_S2048x128 _ _ 1027 _ a q l z0 z1 d' ho hd
  · obtain ⟨z0, z1, q', d', rfl⟩ := four y
    obtain ⟨rfl, rfl, ho, hd⟩ := fin_at 2 2 2 e0 e1 e2 e3
    exact piece_at 1 _ (prod (iblk m c 0 t) (iblk m c 1 t)) (iblk m c 2 t) (iblk m c 3 t) 2 slices_S2048x512_o0_256_S2048x128 _ _ 1026 _ a q l z0 z1 d' ho hd
  · obtain ⟨z0, z1, q', d', rfl⟩ := four y
    obtain ⟨rfl, rfl, ho, hd⟩ := fin_at 2 2 1 e0 e1 e2 e3
    exact piece_at 1 _ (prod (iblk m c 0 t) (iblk m c 1 t)) (iblk m c 2 t) (iblk m c 3 t) 2 slices_S2048x512_o0_256_S2048x128 _ _ 1025 _ a q l z0 z1 d' ho hd
  · obtain ⟨z0, z1, q', d', rfl⟩ := four y
    obtain ⟨rfl, rfl, ho, hd⟩ := fin_at 2 2 0 e0 e1 e2 (Z e3)
    exact piece_at 1 _ (prod (iblk m c 0 t) (iblk m c 1 t)) (iblk m c 2 t) (iblk m c 3 t) 2 slices_S2048x512_o0_256_S2048x128 _ _ 1024 _ a q l z0 z1 d' ho hd
  · obtain ⟨z0, z1, q', d', rfl⟩ := four y
    obtain ⟨rfl, rfl, ho, hd⟩ := fin_at 2 1 3 e0 e1 e2 e3
    exact piece_at 1 _ (prod (iblk m c 0 t) (iblk m c 1 t)) (iblk m c 2 t) (iblk m c 3 t) 2 slices_S2048x512_o0_256_S2048x128 _ _ 515 _ a q l z0 z1 d' ho hd
  · obtain ⟨z0, z1, q', d', rfl⟩ := four y
    obtain ⟨rfl, rfl, ho, hd⟩ := fin_at 2 1 2 e0 e1 e2 e3
    exact piece_at 1 _ (prod (iblk m c 0 t) (iblk m c 1 t)) (iblk m c 2 t) (iblk m c 3 t) 2 slices_S2048x512_o0_256_S2048x128 _ _ 514 _ a q l z0 z1 d' ho hd
  · obtain ⟨z0, z1, q', d', rfl⟩ := four y
    obtain ⟨rfl, rfl, ho, hd⟩ := fin_at 2 1 1 e0 e1 e2 e3
    exact piece_at 1 _ (prod (iblk m c 0 t) (iblk m c 1 t)) (iblk m c 2 t) (iblk m c 3 t) 2 slices_S2048x512_o0_256_S2048x128 _ _ 513 _ a q l z0 z1 d' ho hd
  · obtain ⟨z0, z1, q', d', rfl⟩ := four y
    obtain ⟨rfl, rfl, ho, hd⟩ := fin_at 2 1 0 e0 e1 e2 (Z e3)
    exact piece_at 1 _ (prod (iblk m c 0 t) (iblk m c 1 t)) (iblk m c 2 t) (iblk m c 3 t) 2 slices_S2048x512_o0_256_S2048x128 _ _ 512 _ a q l z0 z1 d' ho hd
  · obtain ⟨z0, z1, q', d', rfl⟩ := four y
    obtain ⟨rfl, rfl, ho, hd⟩ := fin_at 2 0 3 e0 (Z e1) e2 e3
    exact piece_at 1 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 1 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 1 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 1 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 3 3 e0 e1 e2 e3
    exact piece_at 1 _ (prod (iblk m c 0 t) (iblk m c 1 t)) (iblk m c 2 t) (iblk m c 3 t) 1 slices_S2048x512_o0_128_S2048x128 _ _ 1539 _ a q l z0 z1 d' ho hd
  · obtain ⟨z0, z1, q', d', rfl⟩ := four y
    obtain ⟨rfl, rfl, ho, hd⟩ := fin_at 1 3 2 e0 e1 e2 e3
    exact piece_at 1 _ (prod (iblk m c 0 t) (iblk m c 1 t)) (iblk m c 2 t) (iblk m c 3 t) 1 slices_S2048x512_o0_128_S2048x128 _ _ 1538 _ a q l z0 z1 d' ho hd
  · obtain ⟨z0, z1, q', d', rfl⟩ := four y
    obtain ⟨rfl, rfl, ho, hd⟩ := fin_at 1 3 1 e0 e1 e2 e3
    exact piece_at 1 _ (prod (iblk m c 0 t) (iblk m c 1 t)) (iblk m c 2 t) (iblk m c 3 t) 1 slices_S2048x512_o0_128_S2048x128 _ _ 1537 _ a q l z0 z1 d' ho hd
  · obtain ⟨z0, z1, q', d', rfl⟩ := four y
    obtain ⟨rfl, rfl, ho, hd⟩ := fin_at 1 3 0 e0 e1 e2 (Z e3)
    exact piece_at 1 _ (prod (iblk m c 0 t) (iblk m c 1 t)) (iblk m c 2 t) (iblk m c 3 t) 1 slices_S2048x512_o0_128_S2048x128 _ _ 1536 _ a q l z0 z1 d' ho hd
  · obtain ⟨z0, z1, q', d', rfl⟩ := four y
    obtain ⟨rfl, rfl, ho, hd⟩ := fin_at 1 2 3 e0 e1 e2 e3
    exact piece_at 1 _ (prod (iblk m c 0 t) (iblk m c 1 t)) (iblk m c 2 t) (iblk m c 3 t) 1 slices_S2048x512_o0_128_S2048x128 _ _ 1027 _ a q l z0 z1 d' ho hd
  · obtain ⟨z0, z1, q', d', rfl⟩ := four y
    obtain ⟨rfl, rfl, ho, hd⟩ := fin_at 1 2 2 e0 e1 e2 e3
    exact piece_at 1 _ (prod (iblk m c 0 t) (iblk m c 1 t)) (iblk m c 2 t) (iblk m c 3 t) 1 slices_S2048x512_o0_128_S2048x128 _ _ 1026 _ a q l z0 z1 d' ho hd
  · obtain ⟨z0, z1, q', d', rfl⟩ := four y
    obtain ⟨rfl, rfl, ho, hd⟩ := fin_at 1 2 1 e0 e1 e2 e3
    exact piece_at 1 _ (prod (iblk m c 0 t) (iblk m c 1 t)) (iblk m c 2 t) (iblk m c 3 t) 1 slices_S2048x512_o0_128_S2048x128 _ _ 1025 _ a q l z0 z1 d' ho hd
  · obtain ⟨z0, z1, q', d', rfl⟩ := four y
    obtain ⟨rfl, rfl, ho, hd⟩ := fin_at 1 2 0 e0 e1 e2 (Z e3)
    exact piece_at 1 _ (prod (iblk m c 0 t) (iblk m c 1 t)) (iblk m c 2 t) (iblk m c 3 t) 1 slices_S2048x512_o0_128_S2048x128 _ _ 1024 _ a q l z0 z1 d' ho hd
  · obtain ⟨z0, z1, q', d', rfl⟩ := four y
    obtain ⟨rfl, rfl, ho, hd⟩ := fin_at 1 1 3 e0 e1 e2 e3
    exact piece_at 1 _ (prod (iblk m c 0 t) (iblk m c 1 t)) (iblk m c 2 t) (iblk m c 3 t) 1 slices_S2048x512_o0_128_S2048x128 _ _ 515 _ a q l z0 z1 d' ho hd
  · obtain ⟨z0, z1, q', d', rfl⟩ := four y
    obtain ⟨rfl, rfl, ho, hd⟩ := fin_at 1 1 2 e0 e1 e2 e3
    exact piece_at 1 _ (prod (iblk m c 0 t) (iblk m c 1 t)) (iblk m c 2 t) (iblk m c 3 t) 1 slices_S2048x512_o0_128_S2048x128 _ _ 514 _ a q l z0 z1 d' ho hd
  · obtain ⟨z0, z1, q', d', rfl⟩ := four y
    obtain ⟨rfl, rfl, ho, hd⟩ := fin_at 1 1 1 e0 e1 e2 e3
    exact piece_at 1 _ (prod (iblk m c 0 t) (iblk m c 1 t)) (iblk m c 2 t) (iblk m c 3 t) 1 slices_S2048x512_o0_128_S2048x128 _ _ 513 _ a q l z0 z1 d' ho hd
  · obtain ⟨z0, z1, q', d', rfl⟩ := four y
    obtain ⟨rfl, rfl, ho, hd⟩ := fin_at 1 1 0 e0 e1 e2 (Z e3)
    exact piece_at 1 _ (prod (iblk m c 0 t) (iblk m c 1 t)) (iblk m c 2 t) (iblk m c 3 t) 1 slices_S2048x512_o0_128_S2048x128 _ _ 512 _ a q l z0 z1 d' ho hd
  · obtain ⟨z0, z1, q', d', rfl⟩ := four y
    obtain ⟨rfl, rfl, ho, hd⟩ := fin_at 1 0 3 e0 (Z e1) e2 e3
    exact piece_at 1 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 1 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 1 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 1 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 3 3 (Z e0) e1 e2 e3
    exact piece_at 1 _ (prod (iblk m c 0 t) (iblk m c 1 t)) (iblk m c 2 t) (iblk m c 3 t) 0 slices_S2048x512_o0_0_S2048x128 _ _ 1539 _ a q l z0 z1 d' ho hd
  · obtain ⟨z0, z1, q', d', rfl⟩ := four y
    obtain ⟨rfl, rfl, ho, hd⟩ := fin_at 0 3 2 (Z e0) e1 e2 e3
    exact piece_at 1 _ (prod (iblk m c 0 t) (iblk m c 1 t)) (iblk m c 2 t) (iblk m c 3 t) 0 slices_S2048x512_o0_0_S2048x128 _ _ 1538 _ a q l z0 z1 d' ho hd
  · obtain ⟨z0, z1, q', d', rfl⟩ := four y
    obtain ⟨rfl, rfl, ho, hd⟩ := fin_at 0 3 1 (Z e0) e1 e2 e3
    exact piece_at 1 _ (prod (iblk m c 0 t) (iblk m c 1 t)) (iblk m c 2 t) (iblk m c 3 t) 0 slices_S2048x512_o0_0_S2048x128 _ _ 1537 _ a q l z0 z1 d' ho hd
  · obtain ⟨z0, z1, q', d', rfl⟩ := four y
    obtain ⟨rfl, rfl, ho, hd⟩ := fin_at 0 3 0 (Z e0) e1 e2 (Z e3)
    exact piece_at 1 _ (prod (iblk m c 0 t) (iblk m c 1 t)) (iblk m c 2 t) (iblk m c 3 t) 0 slices_S2048x512_o0_0_S2048x128 _ _ 1536 _ a q l z0 z1 d' ho hd
  · obtain ⟨z0, z1, q', d', rfl⟩ := four y
    obtain ⟨rfl, rfl, ho, hd⟩ := fin_at 0 2 3 (Z e0) e1 e2 e3
    exact piece_at 1 _ (prod (iblk m c 0 t) (iblk m c 1 t)) (iblk m c 2 t) (iblk m c 3 t) 0 slices_S2048x512_o0_0_S2048x128 _ _ 1027 _ a q l z0 z1 d' ho hd
  · obtain ⟨z0, z1, q', d', rfl⟩ := four y
    obtain ⟨rfl, rfl, ho, hd⟩ := fin_at 0 2 2 (Z e0) e1 e2 e3
    exact piece_at 1 _ (prod (iblk m c 0 t) (iblk m c 1 t)) (iblk m c 2 t) (iblk m c 3 t) 0 slices_S2048x512_o0_0_S2048x128 _ _ 1026 _ a q l z0 z1 d' ho hd
  · obtain ⟨z0, z1, q', d', rfl⟩ := four y
    obtain ⟨rfl, rfl, ho, hd⟩ := fin_at 0 2 1 (Z e0) e1 e2 e3
    exact piece_at 1 _ (prod (iblk m c 0 t) (iblk m c 1 t)) (iblk m c 2 t) (iblk m c 3 t) 0 slices_S2048x512_o0_0_S2048x128 _ _ 1025 _ a q l z0 z1 d' ho hd
  · obtain ⟨z0, z1, q', d', rfl⟩ := four y
    obtain ⟨rfl, rfl, ho, hd⟩ := fin_at 0 2 0 (Z e0) e1 e2 (Z e3)
    exact piece_at 1 _ (prod (iblk m c 0 t) (iblk m c 1 t)) (iblk m c 2 t) (iblk m c 3 t) 0 slices_S2048x512_o0_0_S2048x128 _ _ 1024 _ a q l z0 z1 d' ho hd
  · obtain ⟨z0, z1, q', d', rfl⟩ := four y
    obtain ⟨rfl, rfl, ho, hd⟩ := fin_at 0 1 3 (Z e0) e1 e2 e3
    exact piece_at 1 _ (prod (iblk m c 0 t) (iblk m c 1 t)) (iblk m c 2 t) (iblk m c 3 t) 0 slices_S2048x512_o0_0_S2048x128 _ _ 515 _ a q l z0 z1 d' ho hd
  · obtain ⟨z0, z1, q', d', rfl⟩ := four y
    obtain ⟨rfl, rfl, ho, hd⟩ := fin_at 0 1 2 (Z e0) e1 e2 e3
    exact piece_at 1 _ (prod (iblk m c 0 t) (iblk m c 1 t)) (iblk m c 2 t) (iblk m c 3 t) 0 slices_S2048x512_o0_0_S2048x128 _ _ 514 _ a q l z0 z1 d' ho hd
  · obtain ⟨z0, z1, q', d', rfl⟩ := four y
    obtain ⟨rfl, rfl, ho, hd⟩ := fin_at 0 1 1 (Z e0) e1 e2 e3
    exact piece_at 1 _ (prod (iblk m c 0 t) (iblk m c 1 t)) (iblk m c 2 t) (iblk m c 3 t) 0 slices_S2048x512_o0_0_S2048x128 _ _ 513 _ a q l z0 z1 d' ho hd
  · obtain ⟨z0, z1, q', d', rfl⟩ := four y
    obtain ⟨rfl, rfl, ho, hd⟩ := fin_at 0 1 0 (Z e0) e1 e2 (Z e3)
    exact piece_at 1 _ (prod (iblk m c 0 t) (iblk m c 1 t)) (iblk m c 2 t) (iblk m c 3 t) 0 slices_S2048x512_o0_0_S2048x128 _ _ 512 _ a q l z0 z1 d' ho hd
  · obtain ⟨z0, z1, q', d', rfl⟩ := four y
    obtain ⟨rfl, rfl, ho, hd⟩ := fin_at 0 0 3 (Z e0) (Z e1) e2 e3
    exact piece_at 1 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 1 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 1 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 1 _ (prod (iblk m c 0 t) (iblk m c 1 t)) (iblk m c 2 t) (iblk m c 3 t) 0 slices_S2048x512_o0_0_S2048x128 _ _ 0 _ a q l z0 z1 d' ho hd

end Cert.Pdil4Ideal.Hand

end
-- ==== Proof.Pdil4C.lean ====
module

public import proofs.«01_k».proof.Defs
public import proofs.«01_k».proof.Proof.Gen.Pdil4Ideal.Value
public import proofs.«01_k».proof.Proof.GatesClaim
public import proofs.«01_k».proof.Proof.Pdil4Ker
public import Idealize.ShloMosaic.Lib.Pipeline.ValueKit.Tiles

@[expose] public section

set_option maxRecDepth 16384

noncomputable section

namespace Cert.Pdil4Ideal.Hand

open Cert.Pdil4Ideal Cert.Pdil4Ideal.Gen Cert.Pdil4Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 2 leaves the values of its heads. -/
theorem outC_at (t : Fin cfg0.N) (h0 : ¬t.val % 3 = 0) (h1 : ¬t.val % 3 = 1) (h2 : t.val % 3 = 2) (j : Fin 4) (a : Fin 4) (q : Fin 128) (l : Fin 512) :
    (out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) : Vec Ideal S4x4x128x512 .bf16) (ix4 j a q l)
      = headAt 2 (prod (iblk m c 0 t) (iblk m c 1 t)) (iblk m c 2 t) (iblk m c 3 t) j ⟨512 * a.val + 4 * q.val + l.val / 128, by omega⟩ (lane l) := by
  have hz : (![0, 0] : Fin 2 → ℕ) = 0 := by decide
  unfold out0_C_4
  rw [View.read_writes_eq_canon _ _ _ (fun y => cover0_C_4 (y := y) ..)]
  unfold kernelRun0_C
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 3 3 e0 e1 e2 e3
    exact piece_at 2 _ (prod (iblk m c 0 t) (iblk m c 1 t)) (iblk m c 2 t) (iblk m c 3 t) 3 slices_S2048x512_o0_384_S2048x128 _ _ 1539 _ a q l z0 z1 d' ho hd
  · obtain ⟨z0, z1, q', d', rfl⟩ := four y
    obtain ⟨rfl, rfl, ho, hd⟩ := fin_at 3 3 2 e0 e1 e2 e3
    exact piece_at 2 _ (prod (iblk m c 0 t) (iblk m c 1 t)) (iblk m c 2 t) (iblk m c 3 t) 3 slices_S2048x512_o0_384_S2048x128 _ _ 1538 _ a q l z0 z1 d' ho hd
  · obtain ⟨z0, z1, q', d', rfl⟩ := four y
    obtain ⟨rfl, rfl, ho, hd⟩ := fin_at 3 3 1 e0 e1 e2 e3
    exact piece_at 2 _ (prod (iblk m c 0 t) (iblk m c 1 t)) (iblk m c 2 t) (iblk m c 3 t) 3 slices_S2048x512_o0_384_S2048x128 _ _ 1537 _ a q l z0 z1 d' ho hd
  · obtain ⟨z0, z1, q', d', rfl⟩ := four y
    obtain ⟨rfl, rfl, ho, hd⟩ := fin_at 3 3 0 e0 e1 e2 (Z e3)
    exact piece_at 2 _ (prod (iblk m c 0 t) (iblk m c 1 t)) (iblk m c 2 t) (iblk m c 3 t) 3 slices_S2048x512_o0_384_S2048x128 _ _ 1536 _ a q l z0 z1 d' ho hd
  · obtain ⟨z0, z1, q', d', rfl⟩ := four y
    obtain ⟨rfl, rfl, ho, hd⟩ := fin_at 3 2 3 e0 e1 e2 e3
    exact piece_at 2 _ (prod (iblk m c 0 t) (iblk m c 1 t)) (iblk m c 2 t) (iblk m c 3 t) 3 slices_S2048x512_o0_384_S2048x128 _ _ 1027 _ a q l z0 z1 d' ho hd
  · obtain ⟨z0, z1, q', d', rfl⟩ := four y
    obtain ⟨rfl, rfl, ho, hd⟩ := fin_at 3 2 2 e0 e1 e2 e3
    exact piece_at 2 _ (prod (iblk m c 0 t) (iblk m c 1 t)) (iblk m c 2 t) (iblk m c 3 t) 3 slices_S2048x512_o0_384_S2048x128 _ _ 1026 _ a q l z0 z1 d' ho hd
  · obtain ⟨z0, z1, q', d', rfl⟩ := four y
    obtain ⟨rfl, rfl, ho, hd⟩ := fin_at 3 2 1 e0 e1 e2 e3
    exact piece_at 2 _ (prod (iblk m c 0 t) (iblk m c 1 t)) (iblk m c 2 t) (iblk m c 3 t) 3 slices_S2048x512_o0_384_S2048x128 _ _ 1025 _ a q l z0 z1 d' ho hd
  · obtain ⟨z0, z1, q', d', rfl⟩ := four y
    obtain ⟨rfl, rfl, ho, hd⟩ := fin_at 3 2 0 e0 e1 e2 (Z e3)
    exact piece_at 2 _ (prod (iblk m c 0 t) (iblk m c 1 t)) (iblk m c 2 t) (iblk m c 3 t) 3 slices_S2048x512_o0_384_S2048x128 _ _ 1024 _ a q l z0 z1 d' ho hd
  · obtain ⟨z0, z1, q', d', rfl⟩ := four y
    obtain ⟨rfl, rfl, ho, hd⟩ := fin_at 3 1 3 e0 e1 e2 e3
    exact piece_at 2 _ (prod (iblk m c 0 t) (iblk m c 1 t)) (iblk m c 2 t) (iblk m c 3 t) 3 slices_S2048x512_o0_384_S2048x128 _ _ 515 _ a q l z0 z1 d' ho hd
  · obtain ⟨z0, z1, q', d', rfl⟩ := four y
    obtain ⟨rfl, rfl, ho, hd⟩ := fin_at 3 1 2 e0 e1 e2 e3
    exact piece_at 2 _ (prod (iblk m c 0 t) (iblk m c 1 t)) (iblk m c 2 t) (iblk m c 3 t) 3 slices_S2048x512_o0_384_S2048x128 _ _ 514 _ a q l z0 z1 d' ho hd
  · obtain ⟨z0, z1, q', d', rfl⟩ := four y
    obtain ⟨rfl, rfl, ho, hd⟩ := fin_at 3 1 1 e0 e1 e2 e3
    exact piece_at 2 _ (prod (iblk m c 0 t) (iblk m c 1 t)) (iblk m c 2 t) (iblk m c 3 t) 3 slices_S2048x512_o0_384_S2048x128 _ _ 513 _ a q l z0 z1 d' ho hd
  · obtain ⟨z0, z1, q', d', rfl⟩ := four y
    obtain ⟨rfl, rfl, ho, hd⟩ := fin_at 3 1 0 e0 e1 e2 (Z e3)
    exact piece_at 2 _ (prod (iblk m c 0 t) (iblk m c 1 t)) (iblk m c 2 t) (iblk m c 3 t) 3 slices_S2048x512_o0_384_S2048x128 _ _ 512 _ a q l z0 z1 d' ho hd
  · obtain ⟨z0, z1, q', d', rfl⟩ := four y
    obtain ⟨rfl, rfl, ho, hd⟩ := fin_at 3 0 3 e0 (Z e1) e2 e3
    exact piece_at 2 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 2 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 2 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 2 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 3 3 e0 e1 e2 e3
    exact piece_at 2 _ (prod (iblk m c 0 t) (iblk m c 1 t)) (iblk m c 2 t) (iblk m c 3 t) 2 slices_S2048x512_o0_256_S2048x128 _ _ 1539 _ a q l z0 z1 d' ho hd
  · obtain ⟨z0, z1, q', d', rfl⟩ := four y
    obtain ⟨rfl, rfl, ho, hd⟩ := fin_at 2 3 2 e0 e1 e2 e3
    exact piece_at 2 _ (prod (iblk m c 0 t) (iblk m c 1 t)) (iblk m c 2 t) (iblk m c 3 t) 2 slices_S2048x512_o0_256_S2048x128 _ _ 1538 _ a q l z0 z1 d' ho hd
  · obtain ⟨z0, z1, q', d', rfl⟩ := four y
    obtain ⟨rfl, rfl, ho, hd⟩ := fin_at 2 3 1 e0 e1 e2 e3
    exact piece_at 2 _ (prod (iblk m c 0 t) (iblk m c 1 t)) (iblk m c 2 t) (iblk m c 3 t) 2 slices_S2048x512_o0_256_S2048x128 _ _ 1537 _ a q l z0 z1 d' ho hd
  · obtain ⟨z0, z1, q', d', rfl⟩ := four y
    obtain ⟨rfl, rfl, ho, hd⟩ := fin_at 2 3 0 e0 e1 e2 (Z e3)
    exact piece_at 2 _ (prod (iblk m c 0 t) (iblk m c 1 t)) (iblk m c 2 t) (iblk m c 3 t) 2 slices_S2048x512_o0_256_S2048x128 _ _ 1536 _ a q l z0 z1 d' ho hd
  · obtain ⟨z0, z1, q', d', rfl⟩ := four y
    obtain ⟨rfl, rfl, ho, hd⟩ := fin_at 2 2 3 e0 e1 e2 e3
    exact piece_at 2 _ (prod (iblk m c 0 t) (iblk m c 1 t)) (iblk m c 2 t) (iblk m c 3 t) 2 slices_S2048x512_o0_256_S2048x128 _ _ 1027 _ a q l z0 z1 d' ho hd
  · obtain ⟨z0, z1, q', d', rfl⟩ := four y
    obtain ⟨rfl, rfl, ho, hd⟩ := fin_at 2 2 2 e0 e1 e2 e3
    exact piece_at 2 _ (prod (iblk m c 0 t) (iblk m c 1 t)) (iblk m c 2 t) (iblk m c 3 t) 2 slices_S2048x512_o0_256_S2048x128 _ _ 1026 _ a q l z0 z1 d' ho hd
  · obtain ⟨z0, z1, q', d', rfl⟩ := four y
    obtain ⟨rfl, rfl, ho, hd⟩ := fin_at 2 2 1 e0 e1 e2 e3
    exact piece_at 2 _ (prod (iblk m c 0 t) (iblk m c 1 t)) (iblk m c 2 t) (iblk m c 3 t) 2 slices_S2048x512_o0_256_S2048x128 _ _ 1025 _ a q l z0 z1 d' ho hd
  · obtain ⟨z0, z1, q', d', rfl⟩ := four y
    obtain ⟨rfl, rfl, ho, hd⟩ := fin_at 2 2 0 e0 e1 e2 (Z e3)
    exact piece_at 2 _ (prod (iblk m c 0 t) (iblk m c 1 t)) (iblk m c 2 t) (iblk m c 3 t) 2 slices_S2048x512_o0_256_S2048x128 _ _ 1024 _ a q l z0 z1 d' ho hd
  · obtain ⟨z0, z1, q', d', rfl⟩ := four y
    obtain ⟨rfl, rfl, ho, hd⟩ := fin_at 2 1 3 e0 e1 e2 e3
    exact piece_at 2 _ (prod (iblk m c 0 t) (iblk m c 1 t)) (iblk m c 2 t) (iblk m c 3 t) 2 slices_S2048x512_o0_256_S2048x128 _ _ 515 _ a q l z0 z1 d' ho hd
  · obtain ⟨z0, z1, q', d', rfl⟩ := four y
    obtain ⟨rfl, rfl, ho, hd⟩ := fin_at 2 1 2 e0 e1 e2 e3
    exact piece_at 2 _ (prod (iblk m c 0 t) (iblk m c 1 t)) (iblk m c 2 t) (iblk m c 3 t) 2 slices_S2048x512_o0_256_S2048x128 _ _ 514 _ a q l z0 z1 d' ho hd
  · obtain ⟨z0, z1, q', d', rfl⟩ := four y
    obtain ⟨rfl, rfl, ho, hd⟩ := fin_at 2 1 1 e0 e1 e2 e3
    exact piece_at 2 _ (prod (iblk m c 0 t) (iblk m c 1 t)) (iblk m c 2 t) (iblk m c 3 t) 2 slices_S2048x512_o0_256_S2048x128 _ _ 513 _ a q l z0 z1 d' ho hd
  · obtain ⟨z0, z1, q', d', rfl⟩ := four y
    obtain ⟨rfl, rfl, ho, hd⟩ := fin_at 2 1 0 e0 e1 e2 (Z e3)
    exact piece_at 2 _ (prod (iblk m c 0 t) (iblk m c 1 t)) (iblk m c 2 t) (iblk m c 3 t) 2 slices_S2048x512_o0_256_S2048x128 _ _ 512 _ a q l z0 z1 d' ho hd
  · obtain ⟨z0, z1, q', d', rfl⟩ := four y
    obtain ⟨rfl, rfl, ho, hd⟩ := fin_at 2 0 3 e0 (Z e1) e2 e3
    exact piece_at 2 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 2 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 2 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 2 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 3 3 e0 e1 e2 e3
    exact piece_at 2 _ (prod (iblk m c 0 t) (iblk m c 1 t)) (iblk m c 2 t) (iblk m c 3 t) 1 slices_S2048x512_o0_128_S2048x128 _ _ 1539 _ a q l z0 z1 d' ho hd
  · obtain ⟨z0, z1, q', d', rfl⟩ := four y
    obtain ⟨rfl, rfl, ho, hd⟩ := fin_at 1 3 2 e0 e1 e2 e3
    exact piece_at 2 _ (prod (iblk m c 0 t) (iblk m c 1 t)) (iblk m c 2 t) (iblk m c 3 t) 1 slices_S2048x512_o0_128_S2048x128 _ _ 1538 _ a q l z0 z1 d' ho hd
  · obtain ⟨z0, z1, q', d', rfl⟩ := four y
    obtain ⟨rfl, rfl, ho, hd⟩ := fin_at 1 3 1 e0 e1 e2 e3
    exact piece_at 2 _ (prod (iblk m c 0 t) (iblk m c 1 t)) (iblk m c 2 t) (iblk m c 3 t) 1 slices_S2048x512_o0_128_S2048x128 _ _ 1537 _ a q l z0 z1 d' ho hd
  · obtain ⟨z0, z1, q', d', rfl⟩ := four y
    obtain ⟨rfl, rfl, ho, hd⟩ := fin_at 1 3 0 e0 e1 e2 (Z e3)
    exact piece_at 2 _ (prod (iblk m c 0 t) (iblk m c 1 t)) (iblk m c 2 t) (iblk m c 3 t) 1 slices_S2048x512_o0_128_S2048x128 _ _ 1536 _ a q l z0 z1 d' ho hd
  · obtain ⟨z0, z1, q', d', rfl⟩ := four y
    obtain ⟨rfl, rfl, ho, hd⟩ := fin_at 1 2 3 e0 e1 e2 e3
    exact piece_at 2 _ (prod (iblk m c 0 t) (iblk m c 1 t)) (iblk m c 2 t) (iblk m c 3 t) 1 slices_S2048x512_o0_128_S2048x128 _ _ 1027 _ a q l z0 z1 d' ho hd
  · obtain ⟨z0, z1, q', d', rfl⟩ := four y
    obtain ⟨rfl, rfl, ho, hd⟩ := fin_at 1 2 2 e0 e1 e2 e3
    exact piece_at 2 _ (prod (iblk m c 0 t) (iblk m c 1 t)) (iblk m c 2 t) (iblk m c 3 t) 1 slices_S2048x512_o0_128_S2048x128 _ _ 1026 _ a q l z0 z1 d' ho hd
  · obtain ⟨z0, z1, q', d', rfl⟩ := four y
    obtain ⟨rfl, rfl, ho, hd⟩ := fin_at 1 2 1 e0 e1 e2 e3
    exact piece_at 2 _ (prod (iblk m c 0 t) (iblk m c 1 t)) (iblk m c 2 t) (iblk m c 3 t) 1 slices_S2048x512_o0_128_S2048x128 _ _ 1025 _ a q l z0 z1 d' ho hd
  · obtain ⟨z0, z1, q', d', rfl⟩ := four y
    obtain ⟨rfl, rfl, ho, hd⟩ := fin_at 1 2 0 e0 e1 e2 (Z e3)
    exact piece_at 2 _ (prod (iblk m c 0 t) (iblk m c 1 t)) (iblk m c 2 t) (iblk m c 3 t) 1 slices_S2048x512_o0_128_S2048x128 _ _ 1024 _ a q l z0 z1 d' ho hd
  · obtain ⟨z0, z1, q', d', rfl⟩ := four y
    obtain ⟨rfl, rfl, ho, hd⟩ := fin_at 1 1 3 e0 e1 e2 e3
    exact piece_at 2 _ (prod (iblk m c 0 t) (iblk m c 1 t)) (iblk m c 2 t) (iblk m c 3 t) 1 slices_S2048x512_o0_128_S2048x128 _ _ 515 _ a q l z0 z1 d' ho hd
  · obtain ⟨z0, z1, q', d', rfl⟩ := four y
    obtain ⟨rfl, rfl, ho, hd⟩ := fin_at 1 1 2 e0 e1 e2 e3
    exact piece_at 2 _ (prod (iblk m c 0 t) (iblk m c 1 t)) (iblk m c 2 t) (iblk m c 3 t) 1 slices_S2048x512_o0_128_S2048x128 _ _ 514 _ a q l z0 z1 d' ho hd
  · obtain ⟨z0, z1, q', d', rfl⟩ := four y
    obtain ⟨rfl, rfl, ho, hd⟩ := fin_at 1 1 1 e0 e1 e2 e3
    exact piece_at 2 _ (prod (iblk m c 0 t) (iblk m c 1 t)) (iblk m c 2 t) (iblk m c 3 t) 1 slices_S2048x512_o0_128_S2048x128 _ _ 513 _ a q l z0 z1 d' ho hd
  · obtain ⟨z0, z1, q', d', rfl⟩ := four y
    obtain ⟨rfl, rfl, ho, hd⟩ := fin_at 1 1 0 e0 e1 e2 (Z e3)
    exact piece_at 2 _ (prod (iblk m c 0 t) (iblk m c 1 t)) (iblk m c 2 t) (iblk m c 3 t) 1 slices_S2048x512_o0_128_S2048x128 _ _ 512 _ a q l z0 z1 d' ho hd
  · obtain ⟨z0, z1, q', d', rfl⟩ := four y
    obtain ⟨rfl, rfl, ho, hd⟩ := fin_at 1 0 3 e0 (Z e1) e2 e3
    exact piece_at 2 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 2 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 2 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 2 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 3 3 (Z e0) e1 e2 e3
    exact piece_at 2 _ (prod (iblk m c 0 t) (iblk m c 1 t)) (iblk m c 2 t) (iblk m c 3 t) 0 slices_S2048x512_o0_0_S2048x128 _ _ 1539 _ a q l z0 z1 d' ho hd
  · obtain ⟨z0, z1, q', d', rfl⟩ := four y
    obtain ⟨rfl, rfl, ho, hd⟩ := fin_at 0 3 2 (Z e0) e1 e2 e3
    exact piece_at 2 _ (prod (iblk m c 0 t) (iblk m c 1 t)) (iblk m c 2 t) (iblk m c 3 t) 0 slices_S2048x512_o0_0_S2048x128 _ _ 1538 _ a q l z0 z1 d' ho hd
  · obtain ⟨z0, z1, q', d', rfl⟩ := four y
    obtain ⟨rfl, rfl, ho, hd⟩ := fin_at 0 3 1 (Z e0) e1 e2 e3
    exact piece_at 2 _ (prod (iblk m c 0 t) (iblk m c 1 t)) (iblk m c 2 t) (iblk m c 3 t) 0 slices_S2048x512_o0_0_S2048x128 _ _ 1537 _ a q l z0 z1 d' ho hd
  · obtain ⟨z0, z1, q', d', rfl⟩ := four y
    obtain ⟨rfl, rfl, ho, hd⟩ := fin_at 0 3 0 (Z e0) e1 e2 (Z e3)
    exact piece_at 2 _ (prod (iblk m c 0 t) (iblk m c 1 t)) (iblk m c 2 t) (iblk m c 3 t) 0 slices_S2048x512_o0_0_S2048x128 _ _ 1536 _ a q l z0 z1 d' ho hd
  · obtain ⟨z0, z1, q', d', rfl⟩ := four y
    obtain ⟨rfl, rfl, ho, hd⟩ := fin_at 0 2 3 (Z e0) e1 e2 e3
    exact piece_at 2 _ (prod (iblk m c 0 t) (iblk m c 1 t)) (iblk m c 2 t) (iblk m c 3 t) 0 slices_S2048x512_o0_0_S2048x128 _ _ 1027 _ a q l z0 z1 d' ho hd
  · obtain ⟨z0, z1, q', d', rfl⟩ := four y
    obtain ⟨rfl, rfl, ho, hd⟩ := fin_at 0 2 2 (Z e0) e1 e2 e3
    exact piece_at 2 _ (prod (iblk m c 0 t) (iblk m c 1 t)) (iblk m c 2 t) (iblk m c 3 t) 0 slices_S2048x512_o0_0_S2048x128 _ _ 1026 _ a q l z0 z1 d' ho hd
  · obtain ⟨z0, z1, q', d', rfl⟩ := four y
    obtain ⟨rfl, rfl, ho, hd⟩ := fin_at 0 2 1 (Z e0) e1 e2 e3
    exact piece_at 2 _ (prod (iblk m c 0 t) (iblk m c 1 t)) (iblk m c 2 t) (iblk m c 3 t) 0 slices_S2048x512_o0_0_S2048x128 _ _ 1025 _ a q l z0 z1 d' ho hd
  · obtain ⟨z0, z1, q', d', rfl⟩ := four y
    obtain ⟨rfl, rfl, ho, hd⟩ := fin_at 0 2 0 (Z e0) e1 e2 (Z e3)
    exact piece_at 2 _ (prod (iblk m c 0 t) (iblk m c 1 t)) (iblk m c 2 t) (iblk m c 3 t) 0 slices_S2048x512_o0_0_S2048x128 _ _ 1024 _ a q l z0 z1 d' ho hd
  · obtain ⟨z0, z1, q', d', rfl⟩ := four y
    obtain ⟨rfl, rfl, ho, hd⟩ := fin_at 0 1 3 (Z e0) e1 e2 e3
    exact piece_at 2 _ (prod (iblk m c 0 t) (iblk m c 1 t)) (iblk m c 2 t) (iblk m c 3 t) 0 slices_S2048x512_o0_0_S2048x128 _ _ 515 _ a q l z0 z1 d' ho hd
  · obtain ⟨z0, z1, q', d', rfl⟩ := four y
    obtain ⟨rfl, rfl, ho, hd⟩ := fin_at 0 1 2 (Z e0) e1 e2 e3
    exact piece_at 2 _ (prod (iblk m c 0 t) (iblk m c 1 t)) (iblk m c 2 t) (iblk m c 3 t) 0 slices_S2048x512_o0_0_S2048x128 _ _ 514 _ a q l z0 z1 d' ho hd
  · obtain ⟨z0, z1, q', d', rfl⟩ := four y
    obtain ⟨rfl, rfl, ho, hd⟩ := fin_at 0 1 1 (Z e0) e1 e2 e3
    exact piece_at 2 _ (prod (iblk m c 0 t) (iblk m c 1 t)) (iblk m c 2 t) (iblk m c 3 t) 0 slices_S2048x512_o0_0_S2048x128 _ _ 513 _ a q l z0 z1 d' ho hd
  · obtain ⟨z0, z1, q', d', rfl⟩ := four y
    obtain ⟨rfl, rfl, ho, hd⟩ := fin_at 0 1 0 (Z e0) e1 e2 (Z e3)
    exact piece_at 2 _ (prod (iblk m c 0 t) (iblk m c 1 t)) (iblk m c 2 t) (iblk m c 3 t) 0 slices_S2048x512_o0_0_S2048x128 _ _ 512 _ a q l z0 z1 d' ho hd
  · obtain ⟨z0, z1, q', d', rfl⟩ := four y
    obtain ⟨rfl, rfl, ho, hd⟩ := fin_at 0 0 3 (Z e0) (Z e1) e2 e3
    exact piece_at 2 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 2 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 2 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 2 _ (prod (iblk m c 0 t) (iblk m c 1 t)) (iblk m c 2 t) (iblk m c 3 t) 0 slices_S2048x512_o0_0_S2048x128 _ _ 0 _ a q l z0 z1 d' ho hd

end Cert.Pdil4Ideal.Hand

end
-- ==== Proof.Pdil4Claim.lean ====
module

public import proofs.«01_k».proof.Defs
public import proofs.«01_k».proof.Proof.Gen.Pdil4Ideal.Value
public import proofs.«01_k».proof.Proof.Gen.Pdil4RefIdeal.Run
public import proofs.«01_k».proof.Proof.GatesClaim
public import proofs.«01_k».proof.Proof.Pdil4A
public import proofs.«01_k».proof.Proof.Pdil4B
public import proofs.«01_k».proof.Proof.Pdil4C
public import Idealize.ShloMosaic.Lib.Pipeline.ValueKit.Tiles

@[expose] public section

set_option maxRecDepth 16384

noncomputable section

namespace Cert.Pdil4Ideal.Hand

open Cert.Pdil4Ideal Cert.Pdil4Ideal.Gen Cert.Pdil4Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The point's rows and columns. -/
abbrev xblk (t : Fin cfg0.N) : FVec Ideal S2048x2048 .bf16 := iblk m c 0 t
@[inherit_doc xblk] abbrev wblk (t : Fin cfg0.N) : FVec Ideal S2048x512 .bf16 := iblk m c 1 t

theorem dot_at (u : Fin cfg0.N) (r : Fin 2048) (n : Fin 512) :
    prod (iblk m c 0 u) (iblk m c 1 u) (ix2 r n) = Proj.dot (X m c) (W m c) (row u r) (col ⟨512 * (u.val % 3) + n.val, by omega⟩) := by
  refine (prod_at (xblk m c u) (wblk m c u) r n).trans ?_
  unfold Proj.dot
  exact Finset.sum_congr rfl fun k _ => congrArg₂ (fun a b : EReal => a * b) (blk0_at m c u r k) (blk1_at m c u k n)

/-- Lane `d` of head `h` at position `t`: the queries rotated and scaled, the keys rotated, the values; `x` gives the projected lanes. -/
def want (x : Fin 12 → Fin 16384 → Fin 128 → EReal) (h : Fin 12) (t : Fin 16384) (d : Fin 128) : EReal :=
  if h.val < 4 then rotAt (x h t) t d * sc else if h.val < 8 then rotAt (x h t) t d else x h t d

/-- The column that lane `d` of head `h` comes from. -/
def src (h : Fin 12) (d : Fin 128) : Fin 11288 := ⟨2584 + 1536 * (h.val / 4) + 512 + 128 * (h.val % 4) + d.val, by omega⟩

/-- The position that row block `A`, row `q` and lane `l` stand for. -/
def pos (A : Fin 32) (q : Fin 128) (l : Fin 512) : Fin 16384 := ⟨512 * A.val + 4 * q.val + l.val / 128, by omega⟩

theorem want_at (u : Fin cfg0.N) (j : Fin 4) (h : Fin 12) (e : h.val = 4 * (u.val % 3) + j.val) (k : Fin 3) (ek : k.val = u.val % 3) (r : Fin 2048) (d : Fin 128) :
    headAt k (prod (iblk m c 0 u) (iblk m c 1 u)) (iblk m c 2 u) (iblk m c 3 u) j r d = want (fun h t d => Proj.dot (X m c) (W m c) t (src h d)) h (row u r) d := by
  have hd : ∀ d : Fin 128, prod (iblk m c 0 u) (iblk m c 1 u) (ix2 r ⟨128 * j.val + d.val, by omega⟩) = Proj.dot (X m c) (W m c) (row u r) (src h d) := fun d =>
    (dot_at m c u r ⟨128 * j.val + d.val, by omega⟩).trans (congrArg (Proj.dot (X m c) (W m c) (row u r)) (Fin.ext (by
      show 2584 + 1536 * ((512 * (u.val % 3) + (128 * j.val + d.val)) / 512) + 512 + (512 * (u.val % 3) + (128 * j.val + d.val)) % 512 = 2584 + 1536 * (h.val / 4) + 512 + 128 * (h.val % 4) + d.val
      omega)))
  have h2 := blk2_at m c u r d
  have h3 := blk3_at m c u r d
  match k, ek with
  | 0, ek =>
    have ek : 0 = u.val % 3 := ek
    unfold want headAt
    rw [if_pos (by omega)]
    rw [hd, hd, h2, h3]; rfl
  | 1, ek =>
    have ek : 1 = u.val % 3 := ek
    unfold want headAt
    rw [if_neg (by omega), if_pos (by omega)]
    rw [hd, hd, h2, h3]; rfl
  | 2, ek =>
    have ek : 2 = u.val % 3 := ek
    unfold want headAt
    rw [if_neg (by omega), if_neg (by omega)]
    rw [hd]

/-- The kernel's result. -/
theorem val_at (h : Fin 12) (A : Fin 32) (q : Fin 128) (l : Fin 512) :
    ((dats m 0 c).arrAt 4 cfg0.N : FVec Ideal S12x32x128x512 .bf16) (ix4 h A q l) = want (fun h t d => Proj.dot (X m c) (W m c) t (src h d)) h (pos A q l) (lane l) := by
  have hN : cfg0.N = 24 := N_0
  obtain ⟨u, hu⟩ : ∃ u : Fin cfg0.N, u.val = 3 * (A.val / 4) + h.val / 4 := ⟨⟨3 * (A.val / 4) + h.val / 4, by omega⟩, rfl⟩
  obtain ⟨j, hj⟩ : ∃ j : Fin 4, j.val = h.val % 4 := ⟨⟨h.val % 4, by omega⟩, rfl⟩
  obtain ⟨a, ha⟩ : ∃ a : Fin 4, a.val = A.val % 4 := ⟨⟨A.val % 4, by omega⟩, rfl⟩
  have hi := index_facts u
  have hb := congrFun (blocks4 m c u hi.2.2.2.2.2.2.2.2.2.2.2.2) (ix4 j a q l)
  rw [View.read_apply] at hb
  refine Eq.trans ?_ (hb.trans ?_)
  · congr 1
    funext b
    apply Fin.ext
    match b with
    | ⟨0, _⟩ => show h.val = win0_4.index u 0 * 4 + 1 * j.val; rw [hi.2.2.2.2.2.2.2.2.1]; omega
    | ⟨1, _⟩ => show A.val = win0_4.index u 1 * 4 + 1 * a.val; rw [hi.2.2.2.2.2.2.2.2.2.1]; omega
    | ⟨2, _⟩ => show q.val = win0_4.index u 2 * 128 + 1 * q.val; rw [hi.2.2.2.2.2.2.2.2.2.2.1]; omega
    | ⟨3, _⟩ => show l.val = win0_4.index u 3 * 512 + 1 * l.val; rw [hi.2.2.2.2.2.2.2.2.2.2.2.1]; omega
  · have hr : row u ⟨512 * a.val + 4 * q.val + l.val / 128, by omega⟩ = pos A q l := Fin.ext (by show 2048 * (u.val / 3) + (512 * a.val + 4 * q.val + l.val / 128) = 512 * A.val + 4 * q.val + l.val / 128; omega)
    rw [← hr]
    obtain hk | hk | hk : u.val % 3 = 0 ∨ u.val % 3 = 1 ∨ u.val % 3 = 2 := by omega
    · rw [flushed4_A m c u hk (by omega) (by omega)]
      exact (outA_at m c u hk (by omega) (by omega) j a q l).trans (want_at m c u j h (by omega) 0 hk.symm _ _)
    · rw [flushed4_B m c u (by omega) hk (by omega)]
      exact (outB_at m c u (by omega) hk (by omega) j a q l).trans (want_at m c u j h (by omega) 1 hk.symm _ _)
    · rw [flushed4_C m c u (by omega) (by omega) hk]
      exact (outC_at m c u (by omega) (by omega) hk j a q l).trans (want_at m c u j h (by omega) 2 hk.symm _ _)

end Cert.Pdil4Ideal.Hand

namespace Cert.Pdil4RefIdeal.Hand

open Cert.Pdil4RefIdeal Cert.Pdil4RefIdeal.Gen Cert.Pdil4RefIdeal.Value Idealize.ShloMosaic Idealize.ShloMosaic.TcCoe Idealize.SL.Sem
open Cert.KWinRefIdeal.Hand (cosT sinT rotAt)
open Cert.Pdil4Ideal.Hand (sc want src pos lane)

/-- The split into heads, head first. -/
def heads (y : FVec Ideal S16384x1536 .f32) : FVec Ideal S12x16384x128 .f32 :=
  transpose S12x16384x128 [1, 0, 2] (shapeCast S16384x12x128 y shapeCasts_S16384x1536_S16384x12x128) transposes_S16384x12x128_S12x16384x128_1_0_2

/-- The group's heads. -/
def grp (x : FVec Ideal S12x16384x128 .f32) : FVec Ideal S4x16384x128 .f32 :=
  extractStridedSlice S4x16384x128 ![4, 0, 0] x slices_S12x16384x128_S4x16384x128_4_0_0

theorem grp_at (x : FVec Ideal S12x16384x128 .f32) (h : Fin 4) (t : Fin 16384) (d : Fin 128) : grp x (ix3 h t d) = x (ix3 ⟨4 + h.val, by omega⟩ t d) := by
  pointwise [grp]

theorem lanes_at (p : FVec Ideal S16384x11288 .f32) (o : ℕ) (ho : o + 1536 ≤ 11288) (hs : Shape.Slices S16384x11288 ![0, o] S16384x1536) (h : Fin 4) (t : Fin 16384) (d : Fin 128) :
    grp (heads (extractStridedSlice S16384x1536 ![0, o] p hs)) (ix3 h t d) = p (ix2 t ⟨o + (128 * (4 + h.val) + d.val), by omega⟩) :=
  (grp_at _ h t d).trans (Proj.heads_at o p hs shapeCasts_S16384x1536_S16384x12x128 transposes_S16384x12x128_S12x16384x128_1_0_2 rfl ho ⟨4 + h.val, by omega⟩ t d)

/-- The rotary embedding of four heads. -/
def rope4 (x : FVec Ideal S4x16384x128 .f32) : FVec Ideal S4x16384x128 .f32 :=
  concatenate S4x16384x128 2
    [⟨S4x16384x64, subf (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 sinT)))⟩,
     ⟨S4x16384x64, addf (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 sinT)))⟩]
    concatenates_S4x16384x64_S4x16384x64_S4x16384x128_d2

theorem rope4_at (x : FVec Ideal S4x16384x128 .f32) (h : Fin 4) (t : Fin 16384) (d : Fin 128) : rope4 x (ix3 h t d) = rotAt (fun e => x (ix3 h t e)) t d :=
  Proj.rope_at x cosT sinT _ _ _ _ _ h t d

/-- The twelve heads: rotated and scaled queries, rotated keys, values. -/
def all (p : FVec Ideal S16384x11288 .f32) : FVec Ideal S12x16384x128 .f32 :=
  concatenate S12x16384x128 0
    [⟨S4x16384x128, mulf (rope4 (grp (heads (extractStridedSlice S16384x1536 ![0, 2584] p slices_S16384x11288_S16384x1536_0_2584)))) (broadcastInDim S4x16384x128 ![] bcast_S_S4x16384x128 (constant S_ .f32 0x3DB504F3#32))⟩,
     ⟨S4x16384x128, rope4 (grp (heads (extractStridedSlice S16384x1536 ![0, 4120] p slices_S16384x11288_S16384x1536_0_4120)))⟩,
     ⟨S4x16384x128, (grp (heads (extractStridedSlice S16384x1536 ![0, 5656] p slices_S16384x11288_S16384x1536_0_5656)))⟩]
    concatenates_S4x16384x128_S4x16384x128_S4x16384x128_S12x16384x128_d0

theorem all_at (p : FVec Ideal S16384x11288 .f32) (h : Fin 12) (t : Fin 16384) (d : Fin 128) : all p (ix3 h t d) = want (fun h t d => p (ix2 t (src h d))) h t d := by
  have e1 : ∀ (h : Fin 4) (d : Fin 128), mulf (rope4 (grp (heads (extractStridedSlice S16384x1536 ![0, 2584] p slices_S16384x11288_S16384x1536_0_2584)))) (broadcastInDim S4x16384x128 ![] bcast_S_S4x16384x128 (constant S_ .f32 0x3DB504F3#32)) (ix3 h t d)
      = rotAt (fun e => (grp (heads (extractStridedSlice S16384x1536 ![0, 2584] p slices_S16384x11288_S16384x1536_0_2584))) (ix3 h t e)) t d * sc := fun h d => congrArg (fun v : EReal => v * sc) (rope4_at _ h t d)
  have e2 := fun h : Fin 4 => rope4_at (grp (heads (extractStridedSlice S16384x1536 ![0, 4120] p slices_S16384x11288_S16384x1536_0_4120))) h t d
  have f1 := lanes_at p 2584 (by decide) slices_S16384x11288_S16384x1536_0_2584
  have f2 := lanes_at p 4120 (by decide) slices_S16384x11288_S16384x1536_0_4120
  have f3 := lanes_at p 5656 (by decide) slices_S16384x11288_S16384x1536_0_5656
  unfold all
  generalize mulf (rope4 (grp (heads (extractStridedSlice S16384x1536 ![0, 2584] p slices_S16384x11288_S16384x1536_0_2584)))) (broadcastInDim S4x16384x128 ![] bcast_S_S4x16384x128 (constant S_ .f32 0x3DB504F3#32)) = y1 at e1 ⊢
  generalize rope4 (grp (heads (extractStridedSlice S16384x1536 ![0, 4120] p slices_S16384x11288_S16384x1536_0_4120))) = y2 at e2 ⊢
  generalize (grp (heads (extractStridedSlice S16384x1536 ![0, 5656] p slices_S16384x11288_S16384x1536_0_5656))) = y3 at f3 ⊢
  have hc : concatenate S12x16384x128 0 [⟨S4x16384x128, y1⟩, ⟨S4x16384x128, y2⟩, ⟨S4x16384x128, y3⟩] concatenates_S4x16384x128_S4x16384x128_S4x16384x128_S12x16384x128_d0 (ix3 h t d)
      = if h' : h.val < 4 then y1 (ix3 ⟨h.val, h'⟩ t d) else if h'' : h.val - 4 < 4 then y2 (ix3 ⟨h.val - 4, h''⟩ t d) else y3 (ix3 ⟨h.val - 4 - 4, by omega⟩ t d) := by
    pointwise []
  refine hc.trans ?_
  unfold want
  have hx : ∀ (o : ℕ) (i : Fin 4) (d : Fin 128) (hb : o + (128 * (4 + i.val) + d.val) < 11288), o + 128 * i.val = 2584 + 1536 * (h.val / 4) + 128 * (h.val % 4) →
      p (ix2 t ⟨o + (128 * (4 + i.val) + d.val), hb⟩) = p (ix2 t (src h d)) := fun o i d hb ho =>
    congrArg (fun j => p (ix2 t j)) (Fin.ext (by show o + (128 * (4 + i.val) + d.val) = 2584 + 1536 * (h.val / 4) + 512 + 128 * (h.val % 4) + d.val; omega))
  by_cases h1 : h.val < 4
  · rw [dif_pos h1, if_pos h1, e1]
    refine congrArg (fun x => rotAt x t d * sc) (funext fun e => ?_)
    rw [f1]
    exact hx 2584 ⟨h.val, h1⟩ e _ (by show 2584 + 128 * h.val = _; omega)
  · rw [dif_neg h1, if_neg h1]
    by_cases h2 : h.val - 4 < 4
    · rw [dif_pos h2, if_pos (by omega), e2]
      refine congrArg (fun x => rotAt x t d) (funext fun e => ?_)
      rw [f2]
      exact hx 4120 ⟨h.val - 4, h2⟩ e _ (by show 4120 + 128 * (h.val - 4) = _; omega)
    · rw [dif_neg h2, if_neg (by omega), f3]
      exact hx 5656 ⟨h.val - 4 - 4, by omega⟩ d _ (by show 5656 + 128 * (h.val - 4 - 4) = _; omega)

/-- The plain program's result, in terms of all columns. -/
def res (p : FVec Ideal S16384x11288 .f32) : FVec Ideal S12x32x128x512 .bf16 :=
  truncf .bf16 (shapeCast S12x32x128x512 (all p) shapeCasts_S12x16384x128_S12x32x128x512) bitsLt_bf16_f32

theorem res_at (p : FVec Ideal S16384x11288 .f32) (h : Fin 12) (A : Fin 32) (q : Fin 128) (l : Fin 512) :
    res p (ix4 h A q l) = want (fun h t d => p (ix2 t (src h d))) h (pos A q l) (lane l) := by
  refine Eq.trans ?_ (all_at p h (pos A q l) (lane l))
  unfold res
  generalize all p = y
  show shapeCast S12x32x128x512 y shapeCasts_S12x16384x128_S12x32x128x512 _ = _
  refine shapeCast_apply y shapeCasts_S12x16384x128_S12x32x128x512 _ _ ?_
  rw [Shape.rowMajor_val_three, Shape.rowMajor_val_four]
  show (h.val * 16384 + (512 * A.val + 4 * q.val + l.val / 128)) * 128 + l.val % 128 = ((h.val * 32 + A.val) * 128 + q.val) * 512 + l.val
  omega

end Cert.Pdil4RefIdeal.Hand

namespace Cert.Proof.Pdil4

open Idealize.ShloMosaic Idealize.ShloMosaic.TcCoe Idealize.SL.Sem

/-- The rotated queries and keys and the values of one group of the dilated attention: kernel and plain program compute the
same array over the reals. -/
theorem algebraic : Cert.algebraic_Pdil4Ideal_Pdil4RefIdeal := by
  intro m ρ m' ρ' _ hag
  refine ⟨_, Cert.Pdil4Ideal.Value.run_blocks m ρ,
    (θ_run _ _ _).mono (fun _ h c => ⟨(h c).1.trans ?_, (h c).2⟩) (Cert.Pdil4RefIdeal.Value.run m' ρ')⟩
  funext i
  obtain ⟨h, A, q, l, rfl⟩ : ∃ (h : Fin 12) (A : Fin 32) (q : Fin 128) (l : Fin 512), i = ix4 h A q l := ⟨i 0, i 1, i 2, i 3, eq_ix4 i⟩
  refine (Cert.Pdil4RefIdeal.Hand.res_at (Cert.GatesRefIdeal.Hand.proj (m' ((c.tc : Thread Cert.Pdil4RefIdeal.nD Cert.Pdil4RefIdeal.τ).loc Cert.Pdil4RefIdeal.main_arg0)) (m' ((c.tc : Thread Cert.Pdil4RefIdeal.nD Cert.Pdil4RefIdeal.τ).loc Cert.Pdil4RefIdeal.main_arg1))) h A q l).trans ?_
  rw [(hag c).1, (hag c).2]
  simp only [Cert.GatesRefIdeal.Hand.proj_at]
  exact (Cert.Pdil4Ideal.Hand.val_at m c h A q l).symm

end Cert.Proof.Pdil4
-- ==== Proof.Pdil16Ker.lean ====
module

public import proofs.«01_k».proof.Defs
public import proofs.«01_k».proof.Proof.Gen.Pdil16Ideal.Value
public import proofs.«01_k».proof.Proof.GatesClaim
public import proofs.«01_k».proof.Proof.RopeTables
public import Idealize.ShloMosaic.Lib.Pipeline.ValueKit.Tiles

@[expose] public section

set_option maxRecDepth 16384

noncomputable section

namespace Cert.Pdil16Ideal.Hand

open Cert.Pdil16Ideal Cert.Pdil16Ideal.Gen Cert.Pdil16Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The factor of the queries. -/
def sc : EReal := Scalar.ofBits (F := Ideal) .f32 0x3DB504F3#32

/-- The column of the combined projection that column `n` of the call's matrix is. -/
def col (n : Fin 1536) : Fin 11288 := ⟨2584 + 1536 * (n.val / 512) + 1024 + n.val % 512, by omega⟩

/-- The columns of the group's queries, keys and values. -/
def cols (w : FVec Ideal S2048x11288 .f32) : FVec Ideal S2048x1536 .bf16 :=
  concatenate S2048x1536 1
    [⟨S2048x512, extractStridedSlice S2048x512 ![0, 1024] (extractStridedSlice S2048x1536 ![0, 2584] (truncf .bf16 w bitsLt_bf16_f32 : FVec Ideal S2048x11288 .bf16) slices_S2048x11288_S2048x1536_0_2584) slices_S2048x1536_S2048x512_0_1024⟩,
     ⟨S2048x512, extractStridedSlice S2048x512 ![0, 1024] (extractStridedSlice S2048x1536 ![0, 4120] (truncf .bf16 w bitsLt_bf16_f32 : FVec Ideal S2048x11288 .bf16) slices_S2048x11288_S2048x1536_0_4120) slices_S2048x1536_S2048x512_0_1024⟩,
     ⟨S2048x512, extractStridedSlice S2048x512 ![0, 1024] (extractStridedSlice S2048x1536 ![0, 5656] (truncf .bf16 w bitsLt_bf16_f32 : FVec Ideal S2048x11288 .bf16) slices_S2048x11288_S2048x1536_0_5656) slices_S2048x1536_S2048x512_0_1024⟩]
    concatenates_S2048x512_S2048x512_S2048x512_S2048x1536_d1

/-- What the host hands the call: the columns and the tables of cosines and of signed sines. -/
theorem V7 : V m c main_v7 = cols (W m c) := by
  unfold_abbrev_sides; after_results; rfl

@[inherit_doc V7] theorem V26 : V m c main_v26 = ((concatenate S16384x128 1 [⟨S16384x64, cosT⟩, ⟨S16384x64, cosT⟩] concatenates_S16384x64_S16384x64_S16384x128_d1) : FVec Ideal S16384x128 .f32) := by
  unfold_abbrev_sides; after_results; rfl

@[inherit_doc V7] theorem V28 : V m c main_v28 = ((concatenate S16384x128 1 [⟨S16384x64, Host.negf sinT⟩, ⟨S16384x64, sinT⟩] concatenates_S16384x64_S16384x64_S16384x128_d1) : FVec Ideal S16384x128 .f32) := by
  unfold_abbrev_sides; after_results; rfl

theorem part_at (w : FVec Ideal S2048x11288 .f32) (o : ℕ) (ho : o + 1536 ≤ 11288) (hs : Shape.Slices S2048x11288 ![0, o] S2048x1536) (k : Fin 2048) (n : Fin 512) :
    extractStridedSlice S2048x512 ![0, 1024] (extractStridedSlice S2048x1536 ![0, o] (truncf .bf16 w bitsLt_bf16_f32 : FVec Ideal S2048x11288 .bf16) hs) slices_S2048x1536_S2048x512_0_1024 (ix2 k n)
      = w (ix2 k ⟨o + (1024 + n.val), by omega⟩) := by
  pointwise []

theorem cols_at (w : FVec Ideal S2048x11288 .f32) (k : Fin 2048) (n : Fin 1536) : cols w (ix2 k n) = w (ix2 k (col n)) := by
  unfold cols
  have e1 := part_at w 2584 (by decide) slices_S2048x11288_S2048x1536_0_2584
  have e2 := part_at w 4120 (by decide) slices_S2048x11288_S2048x1536_0_4120
  have e3 := part_at w 5656 (by decide) slices_S2048x11288_S2048x1536_0_5656
  generalize extractStridedSlice S2048x512 ![0, 1024] (extractStridedSlice S2048x1536 ![0, 2584] (truncf .bf16 w bitsLt_bf16_f32 : FVec Ideal S2048x11288 .bf16) slices_S2048x11288_S2048x1536_0_2584) slices_S2048x1536_S2048x512_0_1024 = y1 at e1 ⊢
  generalize extractStridedSlice S2048x512 ![0, 1024] (extractStridedSlice S2048x1536 ![0, 4120] (truncf .bf16 w bitsLt_bf16_f32 : FVec Ideal S2048x11288 .bf16) slices_S2048x11288_S2048x1536_0_4120) slices_S2048x1536_S2048x512_0_1024 = y2 at e2 ⊢
  generalize extractStridedSlice S2048x512 ![0, 1024] (extractStridedSlice S2048x1536 ![0, 5656] (truncf .bf16 w bitsLt_bf16_f32 : FVec Ideal S2048x11288 .bf16) slices_S2048x11288_S2048x1536_0_5656) slices_S2048x1536_S2048x512_0_1024 = y3 at e3 ⊢
  have hc : concatenate S2048x1536 1 [⟨S2048x512, y1⟩, ⟨S2048x512, y2⟩, ⟨S2048x512, y3⟩] concatenates_S2048x512_S2048x512_S2048x512_S2048x1536_d1 (ix2 k n)
      = if h : n.val < 512 then y1 (ix2 k ⟨n.val, h⟩) else if h' : n.val - 512 < 512 then y2 (ix2 k ⟨n.val - 512, h'⟩) else y3 (ix2 k ⟨n.val - 512 - 512, by omega⟩) := by
    pointwise []
  refine hc.trans ?_
  by_cases h1 : n.val < 512
  · rw [dif_pos h1, e1]; exact congrArg (fun j => w (ix2 k j)) (Fin.ext (by show 2584 + (1024 + n.val) = 2584 + 1536 * (n.val / 512) + 1024 + n.val % 512; omega))
  · rw [dif_neg h1]
    by_cases h2 : n.val - 512 < 512
    · rw [dif_pos h2, e2]; exact congrArg (fun j => w (ix2 k j)) (Fin.ext (by show 4120 + (1024 + (n.val - 512)) = 2584 + 1536 * (n.val / 512) + 1024 + n.val % 512; omega))
    · rw [dif_neg h2, e3]; exact congrArg (fun j => w (ix2 k j)) (Fin.ext (by show 5656 + (1024 + (n.val - 512 - 512)) = 2584 + 1536 * (n.val / 512) + 1024 + n.val % 512; omega))

theorem index_facts : ∀ t : Fin cfg0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true :=
  (by decide +kernel : ∀ t : Fin grid0.N, win0_0.index t (0 : Fin 2) = t.val / 3 ∧ win0_0.index t (1 : Fin 2) = 0 ∧ win0_1.index t (0 : Fin 2) = 0 ∧ win0_1.index t (1 : Fin 2) = t.val % 3 ∧ win0_2.index t (0 : Fin 2) = t.val / 3 ∧ win0_2.index t (1 : Fin 2) = 0 ∧ win0_3.index t (0 : Fin 2) = t.val / 3 ∧ win0_3.index t (1 : Fin 2) = 0 ∧ win0_4.index t (0 : Fin 4) = t.val % 3 ∧ win0_4.index t (1 : Fin 4) = t.val / 3 ∧ win0_4.index t (2 : Fin 4) = 0 ∧ win0_4.index t (3 : Fin 4) = 0 ∧ win0_4.flush t = true)

theorem lt_N (t : Fin cfg0.N) : t.val < 24 := by have hN : cfg0.N = 24 := N_0; have := t.isLt; omega

/-- Row `r` of the rows of point `t`. -/
abbrev row (t : Fin cfg0.N) (r : Fin 2048) : Fin 16384 := ⟨2048 * (t.val / 3) + r.val, by have := lt_N t; omega⟩

theorem blk0_at (t : Fin cfg0.N) (r k : Fin 2048) :
    (iblk m c 0 t : FVec Ideal S2048x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 3) + r.val; rw [hi.1]; omega
  | ⟨1, _⟩ => show win0_0.index t 1 * 2048 + 1 * k.val = k.val; rw [hi.2.1]; omega

theorem blk1_at (t : Fin cfg0.N) (k : Fin 2048) (n : Fin 512) :
    (iblk m c 1 t : FVec Ideal S2048x512 .bf16) (ix2 k n) = W m c (ix2 k (col ⟨512 * (t.val % 3) + n.val, by omega⟩)) := by
  have hi := index_facts t
  unfold iblk
  rw [View.read_apply]
  show V m c main_v7 _ = _
  rw [V7]
  refine Eq.trans ?_ (cols_at (W m c) k ⟨512 * (t.val % 3) + n.val, by omega⟩)
  congr 1
  funext a
  apply Fin.ext
  match a with
  | ⟨0, _⟩ => show win0_1.index t 0 * 2048 + 1 * k.val = k.val; rw [hi.2.2.1]; omega
  | ⟨1, _⟩ => show win0_1.index t 1 * 512 + 1 * n.val = 512 * (t.val % 3) + n.val; rw [hi.2.2.2.1]; omega

theorem blk2_at (t : Fin cfg0.N) (r : Fin 2048) (d : Fin 128) :
    (iblk m c 2 t : FVec Ideal S2048x128 .f32) (ix2 r d) = cosT (ix2 (row t r) (Proj.low d)) := by
  have hi := index_facts t
  unfold iblk
  rw [View.read_apply]
  show V m c main_v26 _ = _
  rw [V26]
  refine Eq.trans ?_ (Proj.cos_table_at cosT concatenates_S16384x64_S16384x64_S16384x128_d1 (row t r) d)
  congr 1
  funext a
  apply Fin.ext
  match a with
  | ⟨0, _⟩ => show win0_2.index t 0 * 2048 + 1 * r.val = 2048 * (t.val / 3) + r.val; rw [hi.2.2.2.2.1]; omega
  | ⟨1, _⟩ => show win0_2.index t 1 * 128 + 1 * d.val = d.val; rw [hi.2.2.2.2.2.1]; omega

theorem blk3_at (t : Fin cfg0.N) (r : Fin 2048) (d : Fin 128) :
    (iblk m c 3 t : FVec Ideal S2048x128 .f32) (ix2 r d) = if d.val < 64 then -sinT (ix2 (row t r) (Proj.low d)) else sinT (ix2 (row t r) (Proj.low d)) := by
  have hi := index_facts t
  unfold iblk
  rw [View.read_apply]
  show V m c main_v28 _ = _
  rw [V28]
  refine Eq.trans ?_ (Proj.sin_table_at sinT concatenates_S16384x64_S16384x64_S16384x128_d1 (row t r) d)
  congr 1
  funext a
  apply Fin.ext
  match a with
  | ⟨0, _⟩ => show win0_3.index t 0 * 2048 + 1 * r.val = 2048 * (t.val / 3) + r.val; rw [hi.2.2.2.2.2.2.1]; omega
  | ⟨1, _⟩ => show win0_3.index t 1 * 128 + 1 * d.val = d.val; rw [hi.2.2.2.2.2.2.2.1]; omega

/-- The point's product. -/
def prod (x : FVec Ideal S2048x2048 .bf16) (w : FVec Ideal S2048x512 .bf16) : FVec Ideal S2048x512 .f32 :=
  matmul dot_S2048x2048_S2048x512_S2048x512_1_0_0_1_n_n none x (shapeCast S2048x512 w shapeCasts_S2048x512_S2048x512) (constant S2048x512 .f32 0x00000000#32)

theorem prod_at (x : FVec Ideal S2048x2048 .bf16) (w : FVec Ideal S2048x512 .bf16) (r : Fin 2048) (n : Fin 512) :
    prod x w (ix2 r n) = ∑ k : Fin 2048, x (ix2 r k) * w (ix2 k n) := by
  pointwise [prod]

theorem slice_at (p : FVec Ideal S2048x512 .f32) (o : ℕ) (ho : o + 128 ≤ 512) (hs : Shape.Slices S2048x512 ![0, o] S2048x128) (r : Fin 2048) (d : Fin 128) :
    extractStridedSlice S2048x128 ![0, o] p hs (ix2 r d) = p (ix2 r ⟨o + d.val, by omega⟩) := by
  pointwise []

/-- A head's rotated lanes. -/
def rotH (y : FVec Ideal S2048x128 .f32) (a b : FVec Ideal S2048x128 .f32) : FVec Ideal S2048x128 .f32 :=
  addf (mulf y (shapeCast S2048x128 a shapeCasts_S2048x128_S2048x128)) (mulf (dynamicRotate 1 64#32 none y rotates_S2048x128_d1) (shapeCast S2048x128 b shapeCasts_S2048x128_S2048x128))

theorem rotH_at (y a b : FVec Ideal S2048x128 .f32) (r : Fin 2048) (d : Fin 128) :
    rotH y a b (ix2 r d) = y (ix2 r d) * a (ix2 r d) + y (ix2 r (Proj.opp d)) * b (ix2 r d) := by
  have hr := Proj.rotate_at y (shapeCast S2048x128 a shapeCasts_S2048x128_S2048x128) (shapeCast S2048x128 b shapeCasts_S2048x128_S2048x128) rotates_S2048x128_d1 r d
  have hc : ∀ y : FVec Ideal S2048x128 .f32, shapeCast S2048x128 y shapeCasts_S2048x128_S2048x128 (ix2 r d) = y (ix2 r d) := fun y => by pointwise []
  rw [hc, hc] at hr
  exact hr

/-- What step `k` leaves for lane `d` of head `j` in row `r`: the queries rotated and scaled, the keys rotated, the values. -/
def headAt (k : Fin 3) (p : FVec Ideal S2048x512 .f32) (a b : FVec Ideal S2048x128 .f32) (j : Fin 4) (r : Fin 2048) (d : Fin 128) : EReal :=
  match k with
  | 0 => (p (ix2 r ⟨128 * j.val + d.val, by omega⟩) * a (ix2 r d) + p (ix2 r ⟨128 * j.val + (Proj.opp d).val, by omega⟩) * b (ix2 r d)) * sc
  | 1 => p (ix2 r ⟨128 * j.val + d.val, by omega⟩) * a (ix2 r d) + p (ix2 r ⟨128 * j.val + (Proj.opp d).val, by omega⟩) * b (ix2 r d)
  | 2 => p (ix2 r ⟨128 * j.val + d.val, by omega⟩)

/-- The lane within the head. -/
def lane (l : Fin 2048) : Fin 128 := ⟨l.val % 128, by omega⟩

/-- Head `j` as step `k` stores it. -/
def headV (k : Fin 3) (p : FVec Ideal S2048x512 .f32) (a b : FVec Ideal S2048x128 .f32) (o : ℕ) (hs : Shape.Slices S2048x512 ![0, o] S2048x128) : FVec Ideal S2048x128 .f32 :=
  match k with
  | 0 => mulf (rotH (extractStridedSlice S2048x128 ![0, o] p hs) a b) (broadcast S2048x128 (Scalar.ofBits (F := Ideal) .f32 0x3DB504F3#32))
  | 1 => rotH (extractStridedSlice S2048x128 ![0, o] p hs) a b
  | 2 => extractStridedSlice S2048x128 ![0, o] p hs

theorem headV_at (k : Fin 3) (p : FVec Ideal S2048x512 .f32) (a b : FVec Ideal S2048x128 .f32) (j : Fin 4) (hs : Shape.Slices S2048x512 ![0, 128 * j.val] S2048x128) (r : Fin 2048) (d : Fin 128) :
    headV k p a b (128 * j.val) hs (ix2 r d) = headAt k p a b j r d := by
  have e := fun d => slice_at p (128 * j.val) (by omega) hs r d
  match k with
  | 0 =>
    show rotH _ a b (ix2 r d) * sc = _
    rw [rotH_at, e, e]; rfl
  | 1 =>
    show rotH _ a b (ix2 r d) = _
    rw [rotH_at, e, e]; rfl
  | 2 => exact e d

/-- An entry of a stored piece by its coordinates. -/
theorem four (y : S1x1x128x128.Idx) : ∃ (z0 z1 : Fin 1) (q d : Fin 128), y = ix4 z0 z1 q d := ⟨y 0, y 1, y 2, y 3, eq_ix4 y⟩

/-- An offset of zero. -/
theorem Z {a b : ℕ} (e : a = b) : a = 0 + b := e.trans (Nat.zero_add _).symm

/-- An entry of the block in a stored piece: its head, row block and lane, from the piece's offsets. -/
theorem fin_at {j : Fin 4} {a : Fin 1} {q q' : Fin 128} {l : Fin 2048} {d : Fin 128} {z0 z1 : Fin 1} (h : Fin 4) (a0 r : ℕ)
    (e0 : j.val = h.val + z0.val) (e1 : a.val = a0 + z1.val) (e2 : q.val = q'.val) (e3 : l.val = 128 * r + d.val) :
    j = h ∧ q = q' ∧ 2048 * a0 + r = 2048 * a.val + l.val / 128 ∧ l.val % 128 = d.val := by
  have := z0.isLt
  have := z1.isLt
  exact ⟨Fin.ext (by omega), Fin.ext e2, by omega, by omega⟩

/-- The scratch after head `j`'s store, read a residue class at a time: those rows of the head, as the call stores them. -/
theorem piece_at (k : Fin 3) (v : View sig .tc .vmem S4x2048x128 .f32) (p : FVec Ideal S2048x512 .f32) (x y : FVec Ideal S2048x128 .f32) (j : Fin 4) (hs : Shape.Slices S2048x512 ![0, 128 * j.val] S2048x128)
    (inbS : ∀ a, (![j.val, 0, 0] : Fin 3 → ℕ) a + S1x2048x128.size a ≤ S4x2048x128.size a) (rest : List (View.Piece (Elt Ideal) S4x2048x128 .f32)) (o : ℕ)
    (inb : ∀ a, S1x128x128.size a = 0 ∨ (![j.val, o, 0] : Fin 3 → ℕ) a + (![1, 16, 1] : Fin 3 → ℕ) a * (S1x128x128.size a - 1) < S4x2048x128.size a)
    (a : Fin 1) (q : Fin 128) (l : Fin 2048) (z0 z1 : Fin 1) (d : Fin 128) (ho : o = 2048 * a.val + l.val / 128) (hd : l.val % 128 = d.val) :
    (shapeCast S1x1x128x128 (truncf .bf16 (shapeCast S128x128 (View.readCov v ((⟨Rect.unit (s := S4x2048x128) ![j.val, 0, 0] S1x2048x128.size inbS, (shapeCast S1x2048x128 (headV k p x y (128 * j.val) hs) shapeCasts_S2048x128_S1x2048x128 : FVec Ideal S1x2048x128 .f32)⟩ : View.Piece (Elt Ideal) S4x2048x128 .f32) :: rest)
        (⟨![j.val, o, 0], S1x128x128.size, ![1, 16, 1], inb⟩ : LoadRect S4x2048x128) : FVec Ideal S1x128x128 .f32) shapeCasts_S1x128x128_S128x128) bitsLt_bf16_f32 : FVec Ideal S128x128 .bf16) shapeCasts_S128x128_S1x1x128x128 : FVec Ideal S1x1x128x128 .bf16) (ix4 z0 z1 q d)
      = headAt k p x y j ⟨2048 * a.val + 16 * q.val + l.val / 128, by omega⟩ (lane l) := by
  obtain rfl : z0 = 0 := Subsingleton.elim _ _
  obtain rfl : z1 = 0 := Subsingleton.elim _ _
  have hr : o + 16 * q.val < 2048 := by omega
  have hw : shapeCast S1x2048x128 (headV k p x y (128 * j.val) hs) shapeCasts_S2048x128_S1x2048x128 (ix3 0 ⟨o + 16 * q.val, hr⟩ d) = headAt k p x y j ⟨o + 16 * q.val, hr⟩ d := by
    refine Eq.trans ?_ (headV_at k p x y j hs ⟨o + 16 * q.val, hr⟩ d)
    generalize headV k p x y (128 * j.val) hs = w
    pointwise []
  rw [View.readCov_eq_canon']
  have hc := View.canon_cons_emb (Val := Elt Ideal) (Rect.unit (s := S4x2048x128) ![j.val, 0, 0] S1x2048x128.size inbS) (shapeCast S1x2048x128 (headV k p x y (128 * j.val) hs) shapeCasts_S2048x128_S1x2048x128 : FVec Ideal S1x2048x128 .f32) rest (ix3 0 ⟨o + 16 * q.val, hr⟩ d)
  have hfin : headAt k p x y j ⟨o + 16 * q.val, hr⟩ d = headAt k p x y j ⟨2048 * a.val + 16 * q.val + l.val / 128, by omega⟩ (lane l) := by
    have e1 : (⟨o + 16 * q.val, hr⟩ : Fin 2048) = ⟨2048 * a.val + 16 * q.val + l.val / 128, by omega⟩ := Fin.ext (by show o + 16 * q.val = 2048 * a.val + 16 * q.val + l.val / 128; omega)
    have e2 : d = lane l := Fin.ext hd.symm
    rw [← e1, ← e2]
  refine Eq.trans ?_ (hc.trans (hw.trans hfin))
  generalize View.canon ((⟨Rect.unit (s := S4x2048x128) ![j.val, 0, 0] S1x2048x128.size inbS, (shapeCast S1x2048x128 (headV k p x y (128 * j.val) hs) shapeCasts_S2048x128_S1x2048x128 : FVec Ideal S1x2048x128 .f32)⟩ : View.Piece (Elt Ideal) S4x2048x128 .f32) :: rest) = C
  have hf : ∀ f : FVec Ideal S1x128x128 .f32, (shapeCast S1x1x128x128 (truncf .bf16 (shapeCast S128x128 f shapeCasts_S1x128x128_S128x128) bitsLt_bf16_f32 : FVec Ideal S128x128 .bf16) shapeCasts_S128x128_S1x1x128x128 : FVec Ideal S1x1x128x128 .bf16) (ix4 0 0 q d) = f (ix3 0 q d) := fun f => by pointwise []
  refine (hf _).trans ?_
  refine congrArg C (funext fun b => Fin.ext ?_)
  match b with
  | ⟨0, _⟩ => show j.val + 1 * 0 = j.val + 1 * 0; rfl
  | ⟨1, _⟩ => show o + 16 * q.val = 0 + 1 * (o + 16 * q.val); omega
  | ⟨2, _⟩ => show 0 + 1 * d.val = 0 + 1 * d.val; rfl

end Cert.Pdil16Ideal.Hand

end
-- ==== Proof.Pdil16A.lean ====
module

public import proofs.«01_k».proof.Defs
public import proofs.«01_k».proof.Proof.Gen.Pdil16Ideal.Value
public import proofs.«01_k».proof.Proof.GatesClaim
public import proofs.«01_k».proof.Proof.Pdil16Ker
public import Idealize.ShloMosaic.Lib.Pipeline.ValueKit.Tiles

@[expose] public section

set_option maxRecDepth 16384

noncomputable section

namespace Cert.Pdil16Ideal.Hand

open Cert.Pdil16Ideal Cert.Pdil16Ideal.Gen Cert.Pdil16Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 0 leaves the rotated and scaled queries of its heads. -/
theorem outA_at (t : Fin cfg0.N) (h0 : t.val % 3 = 0) (h1 : ¬t.val % 3 = 1) (h2 : ¬t.val % 3 = 2) (j : Fin 4) (a : Fin 1) (q : Fin 128) (l : Fin 2048) :
    (out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) : Vec Ideal S4x1x128x2048 .bf16) (ix4 j a q l)
      = headAt 0 (prod (iblk m c 0 t) (iblk m c 1 t)) (iblk m c 2 t) (iblk m c 3 t) j ⟨2048 * a.val + 16 * q.val + l.val / 128, by omega⟩ (lane l) := by
  have hz : (![0, 0] : Fin 2 → ℕ) = 0 := by decide
  unfold out0_A_4
  rw [View.read_writes_eq_canon _ _ _ (fun y => cover0_A_4 (y := y) ..)]
  unfold kernelRun0_A
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 0 15 e0 (Z e1) e2 e3
    exact piece_at 0 _ (prod (iblk m c 0 t) (iblk m c 1 t)) (iblk m c 2 t) (iblk m c 3 t) 3 slices_S2048x512_o0_384_S2048x128 _ _ 15 _ a q l z0 z1 d' ho hd
  · obtain ⟨z0, z1, q', d', rfl⟩ := four y
    obtain ⟨rfl, rfl, ho, hd⟩ := fin_at 3 0 14 e0 (Z e1) e2 e3
    exact piece_at 0 _ (prod (iblk m c 0 t) (iblk m c 1 t)) (iblk m c 2 t) (iblk m c 3 t) 3 slices_S2048x512_o0_384_S2048x128 _ _ 14 _ a q l z0 z1 d' ho hd
  · obtain ⟨z0, z1, q', d', rfl⟩ := four y
    obtain ⟨rfl, rfl, ho, hd⟩ := fin_at 3 0 13 e0 (Z e1) e2 e3
    exact piece_at 0 _ (prod (iblk m c 0 t) (iblk m c 1 t)) (iblk m c 2 t) (iblk m c 3 t) 3 slices_S2048x512_o0_384_S2048x128 _ _ 13 _ a q l z0 z1 d' ho hd
  · obtain ⟨z0, z1, q', d', rfl⟩ := four y
    obtain ⟨rfl, rfl, ho, hd⟩ := fin_at 3 0 12 e0 (Z e1) e2 e3
    exact piece_at 0 _ (prod (iblk m c 0 t) (iblk m c 1 t)) (iblk m c 2 t) (iblk m c 3 t) 3 slices_S2048x512_o0_384_S2048x128 _ _ 12 _ a q l z0 z1 d' ho hd
  · obtain ⟨z0, z1, q', d', rfl⟩ := four y
    obtain ⟨rfl, rfl, ho, hd⟩ := fin_at 3 0 11 e0 (Z e1) e2 e3
    exact piece_at 0 _ (prod (iblk m c 0 t) (iblk m c 1 t)) (iblk m c 2 t) (iblk m c 3 t) 3 slices_S2048x512_o0_384_S2048x128 _ _ 11 _ a q l z0 z1 d' ho hd
  · obtain ⟨z0, z1, q', d', rfl⟩ := four y
    obtain ⟨rfl, rfl, ho, hd⟩ := fin_at 3 0 10 e0 (Z e1) e2 e3
    exact piece_at 0 _ (prod (iblk m c 0 t) (iblk m c 1 t)) (iblk m c 2 t) (iblk m c 3 t) 3 slices_S2048x512_o0_384_S2048x128 _ _ 10 _ a q l z0 z1 d' ho hd
  · obtain ⟨z0, z1, q', d', rfl⟩ := four y
    obtain ⟨rfl, rfl, ho, hd⟩ := fin_at 3 0 9 e0 (Z e1) e2 e3
    exact piece_at 0 _ (prod (iblk m c 0 t) (iblk m c 1 t)) (iblk m c 2 t) (iblk m c 3 t) 3 slices_S2048x512_o0_384_S2048x128 _ _ 9 _ a q l z0 z1 d' ho hd
  · obtain ⟨z0, z1, q', d', rfl⟩ := four y
    obtain ⟨rfl, rfl, ho, hd⟩ := fin_at 3 0 8 e0 (Z e1) e2 e3
    exact piece_at 0 _ (prod (iblk m c 0 t) (iblk m c 1 t)) (iblk m c 2 t) (iblk m c 3 t) 3 slices_S2048x512_o0_384_S2048x128 _ _ 8 _ a q l z0 z1 d' ho hd
  · obtain ⟨z0, z1, q', d', rfl⟩ := four y
    obtain ⟨rfl, rfl, ho, hd⟩ := fin_at 3 0 7 e0 (Z e1) e2 e3
    exact piece_at 0 _ (prod (iblk m c 0 t) (iblk m c 1 t)) (iblk m c 2 t) (iblk m c 3 t) 3 slices_S2048x512_o0_384_S2048x128 _ _ 7 _ a q l z0 z1 d' ho hd
  · obtain ⟨z0, z1, q', d', rfl⟩ := four y
    obtain ⟨rfl, rfl, ho, hd⟩ := fin_at 3 0 6 e0 (Z e1) e2 e3
    exact piece_at 0 _ (prod (iblk m c 0 t) (iblk m c 1 t)) (iblk m c 2 t) (iblk m c 3 t) 3 slices_S2048x512_o0_384_S2048x128 _ _ 6 _ a q l z0 z1 d' ho hd
  · obtain ⟨z0, z1, q', d', rfl⟩ := four y
    obtain ⟨rfl, rfl, ho, hd⟩ := fin_at 3 0 5 e0 (Z e1) e2 e3
    exact piece_at 0 _ (prod (iblk m c 0 t) (iblk m c 1 t)) (iblk m c 2 t) (iblk m c 3 t) 3 slices_S2048x512_o0_384_S2048x128 _ _ 5 _ a q l z0 z1 d' ho hd
  · obtain ⟨z0, z1, q', d', rfl⟩ := four y
    obtain ⟨rfl, rfl, ho, hd⟩ := fin_at 3 0 4 e0 (Z e1) e2 e3
    exact piece_at 0 _ (prod (iblk m c 0 t) (iblk m c 1 t)) (iblk m c 2 t) (iblk m c 3 t) 3 slices_S2048x512_o0_384_S2048x128 _ _ 4 _ a q l z0 z1 d' ho hd
  · obtain ⟨z0, z1, q', d', rfl⟩ := four y
    obtain ⟨rfl, rfl, ho, hd⟩ := fin_at 3 0 3 e0 (Z e1) e2 e3
    exact piece_at 0 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 0 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 0 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 0 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 0 15 e0 (Z e1) e2 e3
    exact piece_at 0 _ (prod (iblk m c 0 t) (iblk m c 1 t)) (iblk m c 2 t) (iblk m c 3 t) 2 slices_S2048x512_o0_256_S2048x128 _ _ 15 _ a q l z0 z1 d' ho hd
  · obtain ⟨z0, z1, q', d', rfl⟩ := four y
    obtain ⟨rfl, rfl, ho, hd⟩ := fin_at 2 0 14 e0 (Z e1) e2 e3
    exact piece_at 0 _ (prod (iblk m c 0 t) (iblk m c 1 t)) (iblk m c 2 t) (iblk m c 3 t) 2 slices_S2048x512_o0_256_S2048x128 _ _ 14 _ a q l z0 z1 d' ho hd
  · obtain ⟨z0, z1, q', d', rfl⟩ := four y
    obtain ⟨rfl, rfl, ho, hd⟩ := fin_at 2 0 13 e0 (Z e1) e2 e3
    exact piece_at 0 _ (prod (iblk m c 0 t) (iblk m c 1 t)) (iblk m c 2 t) (iblk m c 3 t) 2 slices_S2048x512_o0_256_S2048x128 _ _ 13 _ a q l z0 z1 d' ho hd
  · obtain ⟨z0, z1, q', d', rfl⟩ := four y
    obtain ⟨rfl, rfl, ho, hd⟩ := fin_at 2 0 12 e0 (Z e1) e2 e3
    exact piece_at 0 _ (prod (iblk m c 0 t) (iblk m c 1 t)) (iblk m c 2 t) (iblk m c 3 t) 2 slices_S2048x512_o0_256_S2048x128 _ _ 12 _ a q l z0 z1 d' ho hd
  · obtain ⟨z0, z1, q', d', rfl⟩ := four y
    obtain ⟨rfl, rfl, ho, hd⟩ := fin_at 2 0 11 e0 (Z e1) e2 e3
    exact piece_at 0 _ (prod (iblk m c 0 t) (iblk m c 1 t)) (iblk m c 2 t) (iblk m c 3 t) 2 slices_S2048x512_o0_256_S2048x128 _ _ 11 _ a q l z0 z1 d' ho hd
  · obtain ⟨z0, z1, q', d', rfl⟩ := four y
    obtain ⟨rfl, rfl, ho, hd⟩ := fin_at 2 0 10 e0 (Z e1) e2 e3
    exact piece_at 0 _ (prod (iblk m c 0 t) (iblk m c 1 t)) (iblk m c 2 t) (iblk m c 3 t) 2 slices_S2048x512_o0_256_S2048x128 _ _ 10 _ a q l z0 z1 d' ho hd
  · obtain ⟨z0, z1, q', d', rfl⟩ := four y
    obtain ⟨rfl, rfl, ho, hd⟩ := fin_at 2 0 9 e0 (Z e1) e2 e3
    exact piece_at 0 _ (prod (iblk m c 0 t) (iblk m c 1 t)) (iblk m c 2 t) (iblk m c 3 t) 2 slices_S2048x512_o0_256_S2048x128 _ _ 9 _ a q l z0 z1 d' ho hd
  · obtain ⟨z0, z1, q', d', rfl⟩ := four y
    obtain ⟨rfl, rfl, ho, hd⟩ := fin_at 2 0 8 e0 (Z e1) e2 e3
    exact piece_at 0 _ (prod (iblk m c 0 t) (iblk m c 1 t)) (iblk m c 2 t) (iblk m c 3 t) 2 slices_S2048x512_o0_256_S2048x128 _ _ 8 _ a q l z0 z1 d' ho hd
  · obtain ⟨z0, z1, q', d', rfl⟩ := four y
    obtain ⟨rfl, rfl, ho, hd⟩ := fin_at 2 0 7 e0 (Z e1) e2 e3
    exact piece_at 0 _ (prod (iblk m c 0 t) (iblk m c 1 t)) (iblk m c 2 t) (iblk m c 3 t) 2 slices_S2048x512_o0_256_S2048x128 _ _ 7 _ a q l z0 z1 d' ho hd
  · obtain ⟨z0, z1, q', d', rfl⟩ := four y
    obtain ⟨rfl, rfl, ho, hd⟩ := fin_at 2 0 6 e0 (Z e1) e2 e3
    exact piece_at 0 _ (prod (iblk m c 0 t) (iblk m c 1 t)) (iblk m c 2 t) (iblk m c 3 t) 2 slices_S2048x512_o0_256_S2048x128 _ _ 6 _ a q l z0 z1 d' ho hd
  · obtain ⟨z0, z1, q', d', rfl⟩ := four y
    obtain ⟨rfl, rfl, ho, hd⟩ := fin_at 2 0 5 e0 (Z e1) e2 e3
    exact piece_at 0 _ (prod (iblk m c 0 t) (iblk m c 1 t)) (iblk m c 2 t) (iblk m c 3 t) 2 slices_S2048x512_o0_256_S2048x128 _ _ 5 _ a q l z0 z1 d' ho hd
  · obtain ⟨z0, z1, q', d', rfl⟩ := four y
    obtain ⟨rfl, rfl, ho, hd⟩ := fin_at 2 0 4 e0 (Z e1) e2 e3
    exact piece_at 0 _ (prod (iblk m c 0 t) (iblk m c 1 t)) (iblk m c 2 t) (iblk m c 3 t) 2 slices_S2048x512_o0_256_S2048x128 _ _ 4 _ a q l z0 z1 d' ho hd
  · obtain ⟨z0, z1, q', d', rfl⟩ := four y
    obtain ⟨rfl, rfl, ho, hd⟩ := fin_at 2 0 3 e0 (Z e1) e2 e3
    exact piece_at 0 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 0 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 0 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 0 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 0 15 e0 (Z e1) e2 e3
    exact piece_at 0 _ (prod (iblk m c 0 t) (iblk m c 1 t)) (iblk m c 2 t) (iblk m c 3 t) 1 slices_S2048x512_o0_128_S2048x128 _ _ 15 _ a q l z0 z1 d' ho hd
  · obtain ⟨z0, z1, q', d', rfl⟩ := four y
    obtain ⟨rfl, rfl, ho, hd⟩ := fin_at 1 0 14 e0 (Z e1) e2 e3
    exact piece_at 0 _ (prod (iblk m c 0 t) (iblk m c 1 t)) (iblk m c 2 t) (iblk m c 3 t) 1 slices_S2048x512_o0_128_S2048x128 _ _ 14 _ a q l z0 z1 d' ho hd
  · obtain ⟨z0, z1, q', d', rfl⟩ := four y
    obtain ⟨rfl, rfl, ho, hd⟩ := fin_at 1 0 13 e0 (Z e1) e2 e3
    exact piece_at 0 _ (prod (iblk m c 0 t) (iblk m c 1 t)) (iblk m c 2 t) (iblk m c 3 t) 1 slices_S2048x512_o0_128_S2048x128 _ _ 13 _ a q l z0 z1 d' ho hd
  · obtain ⟨z0, z1, q', d', rfl⟩ := four y
    obtain ⟨rfl, rfl, ho, hd⟩ := fin_at 1 0 12 e0 (Z e1) e2 e3
    exact piece_at 0 _ (prod (iblk m c 0 t) (iblk m c 1 t)) (iblk m c 2 t) (iblk m c 3 t) 1 slices_S2048x512_o0_128_S2048x128 _ _ 12 _ a q l z0 z1 d' ho hd
  · obtain ⟨z0, z1, q', d', rfl⟩ := four y
    obtain ⟨rfl, rfl, ho, hd⟩ := fin_at 1 0 11 e0 (Z e1) e2 e3
    exact piece_at 0 _ (prod (iblk m c 0 t) (iblk m c 1 t)) (iblk m c 2 t) (iblk m c 3 t) 1 slices_S2048x512_o0_128_S2048x128 _ _ 11 _ a q l z0 z1 d' ho hd
  · obtain ⟨z0, z1, q', d', rfl⟩ := four y
    obtain ⟨rfl, rfl, ho, hd⟩ := fin_at 1 0 10 e0 (Z e1) e2 e3
    exact piece_at 0 _ (prod (iblk m c 0 t) (iblk m c 1 t)) (iblk m c 2 t) (iblk m c 3 t) 1 slices_S2048x512_o0_128_S2048x128 _ _ 10 _ a q l z0 z1 d' ho hd
  · obtain ⟨z0, z1, q', d', rfl⟩ := four y
    obtain ⟨rfl, rfl, ho, hd⟩ := fin_at 1 0 9 e0 (Z e1) e2 e3
    exact piece_at 0 _ (prod (iblk m c 0 t) (iblk m c 1 t)) (iblk m c 2 t) (iblk m c 3 t) 1 slices_S2048x512_o0_128_S2048x128 _ _ 9 _ a q l z0 z1 d' ho hd
  · obtain ⟨z0, z1, q', d', rfl⟩ := four y
    obtain ⟨rfl, rfl, ho, hd⟩ := fin_at 1 0 8 e0 (Z e1) e2 e3
    exact piece_at 0 _ (prod (iblk m c 0 t) (iblk m c 1 t)) (iblk m c 2 t) (iblk m c 3 t) 1 slices_S2048x512_o0_128_S2048x128 _ _ 8 _ a q l z0 z1 d' ho hd
  · obtain ⟨z0, z1, q', d', rfl⟩ := four y
    obtain ⟨rfl, rfl, ho, hd⟩ := fin_at 1 0 7 e0 (Z e1) e2 e3
    exact piece_at 0 _ (prod (iblk m c 0 t) (iblk m c 1 t)) (iblk m c 2 t) (iblk m c 3 t) 1 slices_S2048x512_o0_128_S2048x128 _ _ 7 _ a q l z0 z1 d' ho hd
  · obtain ⟨z0, z1, q', d', rfl⟩ := four y
    obtain ⟨rfl, rfl, ho, hd⟩ := fin_at 1 0 6 e0 (Z e1) e2 e3
    exact piece_at 0 _ (prod (iblk m c 0 t) (iblk m c 1 t)) (iblk m c 2 t) (iblk m c 3 t) 1 slices_S2048x512_o0_128_S2048x128 _ _ 6 _ a q l z0 z1 d' ho hd
  · obtain ⟨z0, z1, q', d', rfl⟩ := four y
    obtain ⟨rfl, rfl, ho, hd⟩ := fin_at 1 0 5 e0 (Z e1) e2 e3
    exact piece_at 0 _ (prod (iblk m c 0 t) (iblk m c 1 t)) (iblk m c 2 t) (iblk m c 3 t) 1 slices_S2048x512_o0_128_S2048x128 _ _ 5 _ a q l z0 z1 d' ho hd
  · obtain ⟨z0, z1, q', d', rfl⟩ := four y
    obtain ⟨rfl, rfl, ho, hd⟩ := fin_at 1 0 4 e0 (Z e1) e2 e3
    exact piece_at 0 _ (prod (iblk m c 0 t) (iblk m c 1 t)) (iblk m c 2 t) (iblk m c 3 t) 1 slices_S2048x512_o0_128_S2048x128 _ _ 4 _ a q l z0 z1 d' ho hd
  · obtain ⟨z0, z1, q', d', rfl⟩ := four y
    obtain ⟨rfl, rfl, ho, hd⟩ := fin_at 1 0 3 e0 (Z e1) e2 e3
    exact piece_at 0 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 0 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 0 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 0 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 0 15 (Z e0) (Z e1) e2 e3
    exact piece_at 0 _ (prod (iblk m c 0 t) (iblk m c 1 t)) (iblk m c 2 t) (iblk m c 3 t) 0 slices_S2048x512_o0_0_S2048x128 _ _ 15 _ a q l z0 z1 d' ho hd
  · obtain ⟨z0, z1, q', d', rfl⟩ := four y
    obtain ⟨rfl, rfl, ho, hd⟩ := fin_at 0 0 14 (Z e0) (Z e1) e2 e3
    exact piece_at 0 _ (prod (iblk m c 0 t) (iblk m c 1 t)) (iblk m c 2 t) (iblk m c 3 t) 0 slices_S2048x512_o0_0_S2048x128 _ _ 14 _ a q l z0 z1 d' ho hd
  · obtain ⟨z0, z1, q', d', rfl⟩ := four y
    obtain ⟨rfl, rfl, ho, hd⟩ := fin_at 0 0 13 (Z e0) (Z e1) e2 e3
    exact piece_at 0 _ (prod (iblk m c 0 t) (iblk m c 1 t)) (iblk m c 2 t) (iblk m c 3 t) 0 slices_S2048x512_o0_0_S2048x128 _ _ 13 _ a q l z0 z1 d' ho hd
  · obtain ⟨z0, z1, q', d', rfl⟩ := four y
    obtain ⟨rfl, rfl, ho, hd⟩ := fin_at 0 0 12 (Z e0) (Z e1) e2 e3
    exact piece_at 0 _ (prod (iblk m c 0 t) (iblk m c 1 t)) (iblk m c 2 t) (iblk m c 3 t) 0 slices_S2048x512_o0_0_S2048x128 _ _ 12 _ a q l z0 z1 d' ho hd
  · obtain ⟨z0, z1, q', d', rfl⟩ := four y
    obtain ⟨rfl, rfl, ho, hd⟩ := fin_at 0 0 11 (Z e0) (Z e1) e2 e3
    exact piece_at 0 _ (prod (iblk m c 0 t) (iblk m c 1 t)) (iblk m c 2 t) (iblk m c 3 t) 0 slices_S2048x512_o0_0_S2048x128 _ _ 11 _ a q l z0 z1 d' ho hd
  · obtain ⟨z0, z1, q', d', rfl⟩ := four y
    obtain ⟨rfl, rfl, ho, hd⟩ := fin_at 0 0 10 (Z e0) (Z e1) e2 e3
    exact piece_at 0 _ (prod (iblk m c 0 t) (iblk m c 1 t)) (iblk m c 2 t) (iblk m c 3 t) 0 slices_S2048x512_o0_0_S2048x128 _ _ 10 _ a q l z0 z1 d' ho hd
  · obtain ⟨z0, z1, q', d', rfl⟩ := four y
    obtain ⟨rfl, rfl, ho, hd⟩ := fin_at 0 0 9 (Z e0) (Z e1) e2 e3
    exact piece_at 0 _ (prod (iblk m c 0 t) (iblk m c 1 t)) (iblk m c 2 t) (iblk m c 3 t) 0 slices_S2048x512_o0_0_S2048x128 _ _ 9 _ a q l z0 z1 d' ho hd
  · obtain ⟨z0, z1, q', d', rfl⟩ := four y
    obtain ⟨rfl, rfl, ho, hd⟩ := fin_at 0 0 8 (Z e0) (Z e1) e2 e3
    exact piece_at 0 _ (prod (iblk m c 0 t) (iblk m c 1 t)) (iblk m c 2 t) (iblk m c 3 t) 0 slices_S2048x512_o0_0_S2048x128 _ _ 8 _ a q l z0 z1 d' ho hd
  · obtain ⟨z0, z1, q', d', rfl⟩ := four y
    obtain ⟨rfl, rfl, ho, hd⟩ := fin_at 0 0 7 (Z e0) (Z e1) e2 e3
    exact piece_at 0 _ (prod (iblk m c 0 t) (iblk m c 1 t)) (iblk m c 2 t) (iblk m c 3 t) 0 slices_S2048x512_o0_0_S2048x128 _ _ 7 _ a q l z0 z1 d' ho hd
  · obtain ⟨z0, z1, q', d', rfl⟩ := four y
    obtain ⟨rfl, rfl, ho, hd⟩ := fin_at 0 0 6 (Z e0) (Z e1) e2 e3
    exact piece_at 0 _ (prod (iblk m c 0 t) (iblk m c 1 t)) (iblk m c 2 t) (iblk m c 3 t) 0 slices_S2048x512_o0_0_S2048x128 _ _ 6 _ a q l z0 z1 d' ho hd
  · obtain ⟨z0, z1, q', d', rfl⟩ := four y
    obtain ⟨rfl, rfl, ho, hd⟩ := fin_at 0 0 5 (Z e0) (Z e1) e2 e3
    exact piece_at 0 _ (prod (iblk m c 0 t) (iblk m c 1 t)) (iblk m c 2 t) (iblk m c 3 t) 0 slices_S2048x512_o0_0_S2048x128 _ _ 5 _ a q l z0 z1 d' ho hd
  · obtain ⟨z0, z1, q', d', rfl⟩ := four y
    obtain ⟨rfl, rfl, ho, hd⟩ := fin_at 0 0 4 (Z e0) (Z e1) e2 e3
    exact piece_at 0 _ (prod (iblk m c 0 t) (iblk m c 1 t)) (iblk m c 2 t) (iblk m c 3 t) 0 slices_S2048x512_o0_0_S2048x128 _ _ 4 _ a q l z0 z1 d' ho hd
  · obtain ⟨z0, z1, q', d', rfl⟩ := four y
    obtain ⟨rfl, rfl, ho, hd⟩ := fin_at 0 0 3 (Z e0) (Z e1) e2 e3
    exact piece_at 0 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 0 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 0 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 0 _ (prod (iblk m c 0 t) (iblk m c 1 t)) (iblk m c 2 t) (iblk m c 3 t) 0 slices_S2048x512_o0_0_S2048x128 _ _ 0 _ a q l z0 z1 d' ho hd

end Cert.Pdil16Ideal.Hand

end
-- ==== Proof.Pdil16B.lean ====
module

public import proofs.«01_k».proof.Defs
public import proofs.«01_k».proof.Proof.Gen.Pdil16Ideal.Value
public import proofs.«01_k».proof.Proof.GatesClaim
public import proofs.«01_k».proof.Proof.Pdil16Ker
public import Idealize.ShloMosaic.Lib.Pipeline.ValueKit.Tiles

@[expose] public section

set_option maxRecDepth 16384

noncomputable section

namespace Cert.Pdil16Ideal.Hand

open Cert.Pdil16Ideal Cert.Pdil16Ideal.Gen Cert.Pdil16Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 1 leaves the rotated keys of its heads. -/
theorem outB_at (t : Fin cfg0.N) (h0 : ¬t.val % 3 = 0) (h1 : t.val % 3 = 1) (h2 : ¬t.val % 3 = 2) (j : Fin 4) (a : Fin 1) (q : Fin 128) (l : Fin 2048) :
    (out0_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) : Vec Ideal S4x1x128x2048 .bf16) (ix4 j a q l)
      = headAt 1 (prod (iblk m c 0 t) (iblk m c 1 t)) (iblk m c 2 t) (iblk m c 3 t) j ⟨2048 * a.val + 16 * q.val + l.val / 128, by omega⟩ (lane l) := by
  have hz : (![0, 0] : Fin 2 → ℕ) = 0 := by decide
  unfold out0_B_4
  rw [View.read_writes_eq_canon _ _ _ (fun y => cover0_B_4 (y := y) ..)]
  unfold kernelRun0_B
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 0 15 e0 (Z e1) e2 e3
    exact piece_at 1 _ (prod (iblk m c 0 t) (iblk m c 1 t)) (iblk m c 2 t) (iblk m c 3 t) 3 slices_S2048x512_o0_384_S2048x128 _ _ 15 _ a q l z0 z1 d' ho hd
  · obtain ⟨z0, z1, q', d', rfl⟩ := four y
    obtain ⟨rfl, rfl, ho, hd⟩ := fin_at 3 0 14 e0 (Z e1) e2 e3
    exact piece_at 1 _ (prod (iblk m c 0 t) (iblk m c 1 t)) (iblk m c 2 t) (iblk m c 3 t) 3 slices_S2048x512_o0_384_S2048x128 _ _ 14 _ a q l z0 z1 d' ho hd
  · obtain ⟨z0, z1, q', d', rfl⟩ := four y
    obtain ⟨rfl, rfl, ho, hd⟩ := fin_at 3 0 13 e0 (Z e1) e2 e3
    exact piece_at 1 _ (prod (iblk m c 0 t) (iblk m c 1 t)) (iblk m c 2 t) (iblk m c 3 t) 3 slices_S2048x512_o0_384_S2048x128 _ _ 13 _ a q l z0 z1 d' ho hd
  · obtain ⟨z0, z1, q', d', rfl⟩ := four y
    obtain ⟨rfl, rfl, ho, hd⟩ := fin_at 3 0 12 e0 (Z e1) e2 e3
    exact piece_at 1 _ (prod (iblk m c 0 t) (iblk m c 1 t)) (iblk m c 2 t) (iblk m c 3 t) 3 slices_S2048x512_o0_384_S2048x128 _ _ 12 _ a q l z0 z1 d' ho hd
  · obtain ⟨z0, z1, q', d', rfl⟩ := four y
    obtain ⟨rfl, rfl, ho, hd⟩ := fin_at 3 0 11 e0 (Z e1) e2 e3
    exact piece_at 1 _ (prod (iblk m c 0 t) (iblk m c 1 t)) (iblk m c 2 t) (iblk m c 3 t) 3 slices_S2048x512_o0_384_S2048x128 _ _ 11 _ a q l z0 z1 d' ho hd
  · obtain ⟨z0, z1, q', d', rfl⟩ := four y
    obtain ⟨rfl, rfl, ho, hd⟩ := fin_at 3 0 10 e0 (Z e1) e2 e3
    exact piece_at 1 _ (prod (iblk m c 0 t) (iblk m c 1 t)) (iblk m c 2 t) (iblk m c 3 t) 3 slices_S2048x512_o0_384_S2048x128 _ _ 10 _ a q l z0 z1 d' ho hd
  · obtain ⟨z0, z1, q', d', rfl⟩ := four y
    obtain ⟨rfl, rfl, ho, hd⟩ := fin_at 3 0 9 e0 (Z e1) e2 e3
    exact piece_at 1 _ (prod (iblk m c 0 t) (iblk m c 1 t)) (iblk m c 2 t) (iblk m c 3 t) 3 slices_S2048x512_o0_384_S2048x128 _ _ 9 _ a q l z0 z1 d' ho hd
  · obtain ⟨z0, z1, q', d', rfl⟩ := four y
    obtain ⟨rfl, rfl, ho, hd⟩ := fin_at 3 0 8 e0 (Z e1) e2 e3
    exact piece_at 1 _ (prod (iblk m c 0 t) (iblk m c 1 t)) (iblk m c 2 t) (iblk m c 3 t) 3 slices_S2048x512_o0_384_S2048x128 _ _ 8 _ a q l z0 z1 d' ho hd
  · obtain ⟨z0, z1, q', d', rfl⟩ := four y
    obtain ⟨rfl, rfl, ho, hd⟩ := fin_at 3 0 7 e0 (Z e1) e2 e3
    exact piece_at 1 _ (prod (iblk m c 0 t) (iblk m c 1 t)) (iblk m c 2 t) (iblk m c 3 t) 3 slices_S2048x512_o0_384_S2048x128 _ _ 7 _ a q l z0 z1 d' ho hd
  · obtain ⟨z0, z1, q', d', rfl⟩ := four y
    obtain ⟨rfl, rfl, ho, hd⟩ := fin_at 3 0 6 e0 (Z e1) e2 e3
    exact piece_at 1 _ (prod (iblk m c 0 t) (iblk m c 1 t)) (iblk m c 2 t) (iblk m c 3 t) 3 slices_S2048x512_o0_384_S2048x128 _ _ 6 _ a q l z0 z1 d' ho hd
  · obtain ⟨z0, z1, q', d', rfl⟩ := four y
    obtain ⟨rfl, rfl, ho, hd⟩ := fin_at 3 0 5 e0 (Z e1) e2 e3
    exact piece_at 1 _ (prod (iblk m c 0 t) (iblk m c 1 t)) (iblk m c 2 t) (iblk m c 3 t) 3 slices_S2048x512_o0_384_S2048x128 _ _ 5 _ a q l z0 z1 d' ho hd
  · obtain ⟨z0, z1, q', d', rfl⟩ := four y
    obtain ⟨rfl, rfl, ho, hd⟩ := fin_at 3 0 4 e0 (Z e1) e2 e3
    exact piece_at 1 _ (prod (iblk m c 0 t) (iblk m c 1 t)) (iblk m c 2 t) (iblk m c 3 t) 3 slices_S2048x512_o0_384_S2048x128 _ _ 4 _ a q l z0 z1 d' ho hd
  · obtain ⟨z0, z1, q', d', rfl⟩ := four y
    obtain ⟨rfl, rfl, ho, hd⟩ := fin_at 3 0 3 e0 (Z e1) e2 e3
    exact piece_at 1 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 1 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 1 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 1 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 0 15 e0 (Z e1) e2 e3
    exact piece_at 1 _ (prod (iblk m c 0 t) (iblk m c 1 t)) (iblk m c 2 t) (iblk m c 3 t) 2 slices_S2048x512_o0_256_S2048x128 _ _ 15 _ a q l z0 z1 d' ho hd
  · obtain ⟨z0, z1, q', d', rfl⟩ := four y
    obtain ⟨rfl, rfl, ho, hd⟩ := fin_at 2 0 14 e0 (Z e1) e2 e3
    exact piece_at 1 _ (prod (iblk m c 0 t) (iblk m c 1 t)) (iblk m c 2 t) (iblk m c 3 t) 2 slices_S2048x512_o0_256_S2048x128 _ _ 14 _ a q l z0 z1 d' ho hd
  · obtain ⟨z0, z1, q', d', rfl⟩ := four y
    obtain ⟨rfl, rfl, ho, hd⟩ := fin_at 2 0 13 e0 (Z e1) e2 e3
    exact piece_at 1 _ (prod (iblk m c 0 t) (iblk m c 1 t)) (iblk m c 2 t) (iblk m c 3 t) 2 slices_S2048x512_o0_256_S2048x128 _ _ 13 _ a q l z0 z1 d' ho hd
  · obtain ⟨z0, z1, q', d', rfl⟩ := four y
    obtain ⟨rfl, rfl, ho, hd⟩ := fin_at 2 0 12 e0 (Z e1) e2 e3
    exact piece_at 1 _ (prod (iblk m c 0 t) (iblk m c 1 t)) (iblk m c 2 t) (iblk m c 3 t) 2 slices_S2048x512_o0_256_S2048x128 _ _ 12 _ a q l z0 z1 d' ho hd
  · obtain ⟨z0, z1, q', d', rfl⟩ := four y
    obtain ⟨rfl, rfl, ho, hd⟩ := fin_at 2 0 11 e0 (Z e1) e2 e3
    exact piece_at 1 _ (prod (iblk m c 0 t) (iblk m c 1 t)) (iblk m c 2 t) (iblk m c 3 t) 2 slices_S2048x512_o0_256_S2048x128 _ _ 11 _ a q l z0 z1 d' ho hd
  · obtain ⟨z0, z1, q', d', rfl⟩ := four y
    obtain ⟨rfl, rfl, ho, hd⟩ := fin_at 2 0 10 e0 (Z e1) e2 e3
    exact piece_at 1 _ (prod (iblk m c 0 t) (iblk m c 1 t)) (iblk m c 2 t) (iblk m c 3 t) 2 slices_S2048x512_o0_256_S2048x128 _ _ 10 _ a q l z0 z1 d' ho hd
  · obtain ⟨z0, z1, q', d', rfl⟩ := four y
    obtain ⟨rfl, rfl, ho, hd⟩ := fin_at 2 0 9 e0 (Z e1) e2 e3
    exact piece_at 1 _ (prod (iblk m c 0 t) (iblk m c 1 t)) (iblk m c 2 t) (iblk m c 3 t) 2 slices_S2048x512_o0_256_S2048x128 _ _ 9 _ a q l z0 z1 d' ho hd
  · obtain ⟨z0, z1, q', d', rfl⟩ := four y
    obtain ⟨rfl, rfl, ho, hd⟩ := fin_at 2 0 8 e0 (Z e1) e2 e3
    exact piece_at 1 _ (prod (iblk m c 0 t) (iblk m c 1 t)) (iblk m c 2 t) (iblk m c 3 t) 2 slices_S2048x512_o0_256_S2048x128 _ _ 8 _ a q l z0 z1 d' ho hd
  · obtain ⟨z0, z1, q', d', rfl⟩ := four y
    obtain ⟨rfl, rfl, ho, hd⟩ := fin_at 2 0 7 e0 (Z e1) e2 e3
    exact piece_at 1 _ (prod (iblk m c 0 t) (iblk m c 1 t)) (iblk m c 2 t) (iblk m c 3 t) 2 slices_S2048x512_o0_256_S2048x128 _ _ 7 _ a q l z0 z1 d' ho hd
  · obtain ⟨z0, z1, q', d', rfl⟩ := four y
    obtain ⟨rfl, rfl, ho, hd⟩ := fin_at 2 0 6 e0 (Z e1) e2 e3
    exact piece_at 1 _ (prod (iblk m c 0 t) (iblk m c 1 t)) (iblk m c 2 t) (iblk m c 3 t) 2 slices_S2048x512_o0_256_S2048x128 _ _ 6 _ a q l z0 z1 d' ho hd
  · obtain ⟨z0, z1, q', d', rfl⟩ := four y
    obtain ⟨rfl, rfl, ho, hd⟩ := fin_at 2 0 5 e0 (Z e1) e2 e3
    exact piece_at 1 _ (prod (iblk m c 0 t) (iblk m c 1 t)) (iblk m c 2 t) (iblk m c 3 t) 2 slices_S2048x512_o0_256_S2048x128 _ _ 5 _ a q l z0 z1 d' ho hd
  · obtain ⟨z0, z1, q', d', rfl⟩ := four y
    obtain ⟨rfl, rfl, ho, hd⟩ := fin_at 2 0 4 e0 (Z e1) e2 e3
    exact piece_at 1 _ (prod (iblk m c 0 t) (iblk m c 1 t)) (iblk m c 2 t) (iblk m c 3 t) 2 slices_S2048x512_o0_256_S2048x128 _ _ 4 _ a q l z0 z1 d' ho hd
  · obtain ⟨z0, z1, q', d', rfl⟩ := four y
    obtain ⟨rfl, rfl, ho, hd⟩ := fin_at 2 0 3 e0 (Z e1) e2 e3
    exact piece_at 1 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 1 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 1 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 1 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 0 15 e0 (Z e1) e2 e3
    exact piece_at 1 _ (prod (iblk m c 0 t) (iblk m c 1 t)) (iblk m c 2 t) (iblk m c 3 t) 1 slices_S2048x512_o0_128_S2048x128 _ _ 15 _ a q l z0 z1 d' ho hd
  · obtain ⟨z0, z1, q', d', rfl⟩ := four y
    obtain ⟨rfl, rfl, ho, hd⟩ := fin_at 1 0 14 e0 (Z e1) e2 e3
    exact piece_at 1 _ (prod (iblk m c 0 t) (iblk m c 1 t)) (iblk m c 2 t) (iblk m c 3 t) 1 slices_S2048x512_o0_128_S2048x128 _ _ 14 _ a q l z0 z1 d' ho hd
  · obtain ⟨z0, z1, q', d', rfl⟩ := four y
    obtain ⟨rfl, rfl, ho, hd⟩ := fin_at 1 0 13 e0 (Z e1) e2 e3
    exact piece_at 1 _ (prod (iblk m c 0 t) (iblk m c 1 t)) (iblk m c 2 t) (iblk m c 3 t) 1 slices_S2048x512_o0_128_S2048x128 _ _ 13 _ a q l z0 z1 d' ho hd
  · obtain ⟨z0, z1, q', d', rfl⟩ := four y
    obtain ⟨rfl, rfl, ho, hd⟩ := fin_at 1 0 12 e0 (Z e1) e2 e3
    exact piece_at 1 _ (prod (iblk m c 0 t) (iblk m c 1 t)) (iblk m c 2 t) (iblk m c 3 t) 1 slices_S2048x512_o0_128_S2048x128 _ _ 12 _ a q l z0 z1 d' ho hd
  · obtain ⟨z0, z1, q', d', rfl⟩ := four y
    obtain ⟨rfl, rfl, ho, hd⟩ := fin_at 1 0 11 e0 (Z e1) e2 e3
    exact piece_at 1 _ (prod (iblk m c 0 t) (iblk m c 1 t)) (iblk m c 2 t) (iblk m c 3 t) 1 slices_S2048x512_o0_128_S2048x128 _ _ 11 _ a q l z0 z1 d' ho hd
  · obtain ⟨z0, z1, q', d', rfl⟩ := four y
    obtain ⟨rfl, rfl, ho, hd⟩ := fin_at 1 0 10 e0 (Z e1) e2 e3
    exact piece_at 1 _ (prod (iblk m c 0 t) (iblk m c 1 t)) (iblk m c 2 t) (iblk m c 3 t) 1 slices_S2048x512_o0_128_S2048x128 _ _ 10 _ a q l z0 z1 d' ho hd
  · obtain ⟨z0, z1, q', d', rfl⟩ := four y
    obtain ⟨rfl, rfl, ho, hd⟩ := fin_at 1 0 9 e0 (Z e1) e2 e3
    exact piece_at 1 _ (prod (iblk m c 0 t) (iblk m c 1 t)) (iblk m c 2 t) (iblk m c 3 t) 1 slices_S2048x512_o0_128_S2048x128 _ _ 9 _ a q l z0 z1 d' ho hd
  · obtain ⟨z0, z1, q', d', rfl⟩ := four y
    obtain ⟨rfl, rfl, ho, hd⟩ := fin_at 1 0 8 e0 (Z e1) e2 e3
    exact piece_at 1 _ (prod (iblk m c 0 t) (iblk m c 1 t)) (iblk m c 2 t) (iblk m c 3 t) 1 slices_S2048x512_o0_128_S2048x128 _ _ 8 _ a q l z0 z1 d' ho hd
  · obtain ⟨z0, z1, q', d', rfl⟩ := four y
    obtain ⟨rfl, rfl, ho, hd⟩ := fin_at 1 0 7 e0 (Z e1) e2 e3
    exact piece_at 1 _ (prod (iblk m c 0 t) (iblk m c 1 t)) (iblk m c 2 t) (iblk m c 3 t) 1 slices_S2048x512_o0_128_S2048x128 _ _ 7 _ a q l z0 z1 d' ho hd
  · obtain ⟨z0, z1, q', d', rfl⟩ := four y
    obtain ⟨rfl, rfl, ho, hd⟩ := fin_at 1 0 6 e0 (Z e1) e2 e3
    exact piece_at 1 _ (prod (iblk m c 0 t) (iblk m c 1 t)) (iblk m c 2 t) (iblk m c 3 t) 1 slices_S2048x512_o0_128_S2048x128 _ _ 6 _ a q l z0 z1 d' ho hd
  · obtain ⟨z0, z1, q', d', rfl⟩ := four y
    obtain ⟨rfl, rfl, ho, hd⟩ := fin_at 1 0 5 e0 (Z e1) e2 e3
    exact piece_at 1 _ (prod (iblk m c 0 t) (iblk m c 1 t)) (iblk m c 2 t) (iblk m c 3 t) 1 slices_S2048x512_o0_128_S2048x128 _ _ 5 _ a q l z0 z1 d' ho hd
  · obtain ⟨z0, z1, q', d', rfl⟩ := four y
    obtain ⟨rfl, rfl, ho, hd⟩ := fin_at 1 0 4 e0 (Z e1) e2 e3
    exact piece_at 1 _ (prod (iblk m c 0 t) (iblk m c 1 t)) (iblk m c 2 t) (iblk m c 3 t) 1 slices_S2048x512_o0_128_S2048x128 _ _ 4 _ a q l z0 z1 d' ho hd
  · obtain ⟨z0, z1, q', d', rfl⟩ := four y
    obtain ⟨rfl, rfl, ho, hd⟩ := fin_at 1 0 3 e0 (Z e1) e2 e3
    exact piece_at 1 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 1 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 1 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 1 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 0 15 (Z e0) (Z e1) e2 e3
    exact piece_at 1 _ (prod (iblk m c 0 t) (iblk m c 1 t)) (iblk m c 2 t) (iblk m c 3 t) 0 slices_S2048x512_o0_0_S2048x128 _ _ 15 _ a q l z0 z1 d' ho hd
  · obtain ⟨z0, z1, q', d', rfl⟩ := four y
    obtain ⟨rfl, rfl, ho, hd⟩ := fin_at 0 0 14 (Z e0) (Z e1) e2 e3
    exact piece_at 1 _ (prod (iblk m c 0 t) (iblk m c 1 t)) (iblk m c 2 t) (iblk m c 3 t) 0 slices_S2048x512_o0_0_S2048x128 _ _ 14 _ a q l z0 z1 d' ho hd
  · obtain ⟨z0, z1, q', d', rfl⟩ := four y
    obtain ⟨rfl, rfl, ho, hd⟩ := fin_at 0 0 13 (Z e0) (Z e1) e2 e3
    exact piece_at 1 _ (prod (iblk m c 0 t) (iblk m c 1 t)) (iblk m c 2 t) (iblk m c 3 t) 0 slices_S2048x512_o0_0_S2048x128 _ _ 13 _ a q l z0 z1 d' ho hd
  · obtain ⟨z0, z1, q', d', rfl⟩ := four y
    obtain ⟨rfl, rfl, ho, hd⟩ := fin_at 0 0 12 (Z e0) (Z e1) e2 e3
    exact piece_at 1 _ (prod (iblk m c 0 t) (iblk m c 1 t)) (iblk m c 2 t) (iblk m c 3 t) 0 slices_S2048x512_o0_0_S2048x128 _ _ 12 _ a q l z0 z1 d' ho hd
  · obtain ⟨z0, z1, q', d', rfl⟩ := four y
    obtain ⟨rfl, rfl, ho, hd⟩ := fin_at 0 0 11 (Z e0) (Z e1) e2 e3
    exact piece_at 1 _ (prod (iblk m c 0 t) (iblk m c 1 t)) (iblk m c 2 t) (iblk m c 3 t) 0 slices_S2048x512_o0_0_S2048x128 _ _ 11 _ a q l z0 z1 d' ho hd
  · obtain ⟨z0, z1, q', d', rfl⟩ := four y
    obtain ⟨rfl, rfl, ho, hd⟩ := fin_at 0 0 10 (Z e0) (Z e1) e2 e3
    exact piece_at 1 _ (prod (iblk m c 0 t) (iblk m c 1 t)) (iblk m c 2 t) (iblk m c 3 t) 0 slices_S2048x512_o0_0_S2048x128 _ _ 10 _ a q l z0 z1 d' ho hd
  · obtain ⟨z0, z1, q', d', rfl⟩ := four y
    obtain ⟨rfl, rfl, ho, hd⟩ := fin_at 0 0 9 (Z e0) (Z e1) e2 e3
    exact piece_at 1 _ (prod (iblk m c 0 t) (iblk m c 1 t)) (iblk m c 2 t) (iblk m c 3 t) 0 slices_S2048x512_o0_0_S2048x128 _ _ 9 _ a q l z0 z1 d' ho hd
  · obtain ⟨z0, z1, q', d', rfl⟩ := four y
    obtain ⟨rfl, rfl, ho, hd⟩ := fin_at 0 0 8 (Z e0) (Z e1) e2 e3
    exact piece_at 1 _ (prod (iblk m c 0 t) (iblk m c 1 t)) (iblk m c 2 t) (iblk m c 3 t) 0 slices_S2048x512_o0_0_S2048x128 _ _ 8 _ a q l z0 z1 d' ho hd
  · obtain ⟨z0, z1, q', d', rfl⟩ := four y
    obtain ⟨rfl, rfl, ho, hd⟩ := fin_at 0 0 7 (Z e0) (Z e1) e2 e3
    exact piece_at 1 _ (prod (iblk m c 0 t) (iblk m c 1 t)) (iblk m c 2 t) (iblk m c 3 t) 0 slices_S2048x512_o0_0_S2048x128 _ _ 7 _ a q l z0 z1 d' ho hd
  · obtain ⟨z0, z1, q', d', rfl⟩ := four y
    obtain ⟨rfl, rfl, ho, hd⟩ := fin_at 0 0 6 (Z e0) (Z e1) e2 e3
    exact piece_at 1 _ (prod (iblk m c 0 t) (iblk m c 1 t)) (iblk m c 2 t) (iblk m c 3 t) 0 slices_S2048x512_o0_0_S2048x128 _ _ 6 _ a q l z0 z1 d' ho hd
  · obtain ⟨z0, z1, q', d', rfl⟩ := four y
    obtain ⟨rfl, rfl, ho, hd⟩ := fin_at 0 0 5 (Z e0) (Z e1) e2 e3
    exact piece_at 1 _ (prod (iblk m c 0 t) (iblk m c 1 t)) (iblk m c 2 t) (iblk m c 3 t) 0 slices_S2048x512_o0_0_S2048x128 _ _ 5 _ a q l z0 z1 d' ho hd
  · obtain ⟨z0, z1, q', d', rfl⟩ := four y
    obtain ⟨rfl, rfl, ho, hd⟩ := fin_at 0 0 4 (Z e0) (Z e1) e2 e3
    exact piece_at 1 _ (prod (iblk m c 0 t) (iblk m c 1 t)) (iblk m c 2 t) (iblk m c 3 t) 0 slices_S2048x512_o0_0_S2048x128 _ _ 4 _ a q l z0 z1 d' ho hd
  · obtain ⟨z0, z1, q', d', rfl⟩ := four y
    obtain ⟨rfl, rfl, ho, hd⟩ := fin_at 0 0 3 (Z e0) (Z e1) e2 e3
    exact piece_at 1 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 1 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 1 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 1 _ (prod (iblk m c 0 t) (iblk m c 1 t)) (iblk m c 2 t) (iblk m c 3 t) 0 slices_S2048x512_o0_0_S2048x128 _ _ 0 _ a q l z0 z1 d' ho hd

end Cert.Pdil16Ideal.Hand

end
-- ==== Proof.Pdil16C.lean ====
module

public import proofs.«01_k».proof.Defs
public import proofs.«01_k».proof.Proof.Gen.Pdil16Ideal.Value
public import proofs.«01_k».proof.Proof.GatesClaim
public import proofs.«01_k».proof.Proof.Pdil16Ker
public import Idealize.ShloMosaic.Lib.Pipeline.ValueKit.Tiles

@[expose] public section

set_option maxRecDepth 16384

noncomputable section

namespace Cert.Pdil16Ideal.Hand

open Cert.Pdil16Ideal Cert.Pdil16Ideal.Gen Cert.Pdil16Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

set_option maxHeartbeats 4000000 in
/-- A point of step 2 leaves the values of its heads. -/
theorem outC_at (t : Fin cfg0.N) (h0 : ¬t.val % 3 = 0) (h1 : ¬t.val % 3 = 1) (h2 : t.val % 3 = 2) (j : Fin 4) (a : Fin 1) (q : Fin 128) (l : Fin 2048) :
    (out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) : Vec Ideal S4x1x128x2048 .bf16) (ix4 j a q l)
      = headAt 2 (prod (iblk m c 0 t) (iblk m c 1 t)) (iblk m c 2 t) (iblk m c 3 t) j ⟨2048 * a.val + 16 * q.val + l.val / 128, by omega⟩ (lane l) := by
  have hz : (![0, 0] : Fin 2 → ℕ) = 0 := by decide
  unfold out0_C_4
  rw [View.read_writes_eq_canon _ _ _ (fun y => cover0_C_4 (y := y) ..)]
  unfold kernelRun0_C
  dsimp only
  sl_unfold_words
  simp only [View.readAt_eq_ld, (hs0_0 t).read_unread, (hs0_1 t).read_unread, (hs0_2 t).read_unread, (hs0_3 t).read_unread,
    View.ld_unit_zero (S := S2048x2048) hz, View.ld_unit_zero (S := S2048x512) hz, View.ld_unit_zero (S := S2048x128) hz]
  canon_tiles y e
  · obtain ⟨z0, z1, q', d', rfl⟩ := four y
    obtain ⟨rfl, rfl, ho, hd⟩ := fin_at 3 0 15 e0 (Z e1) e2 e3
    exact piece_at 2 _ (prod (iblk m c 0 t) (iblk m c 1 t)) (iblk m c 2 t) (iblk m c 3 t) 3 slices_S2048x512_o0_384_S2048x128 _ _ 15 _ a q l z0 z1 d' ho hd
  · obtain ⟨z0, z1, q', d', rfl⟩ := four y
    obtain ⟨rfl, rfl, ho, hd⟩ := fin_at 3 0 14 e0 (Z e1) e2 e3
    exact piece_at 2 _ (prod (iblk m c 0 t) (iblk m c 1 t)) (iblk m c 2 t) (iblk m c 3 t) 3 slices_S2048x512_o0_384_S2048x128 _ _ 14 _ a q l z0 z1 d' ho hd
  · obtain ⟨z0, z1, q', d', rfl⟩ := four y
    obtain ⟨rfl, rfl, ho, hd⟩ := fin_at 3 0 13 e0 (Z e1) e2 e3
    exact piece_at 2 _ (prod (iblk m c 0 t) (iblk m c 1 t)) (iblk m c 2 t) (iblk m c 3 t) 3 slices_S2048x512_o0_384_S2048x128 _ _ 13 _ a q l z0 z1 d' ho hd
  · obtain ⟨z0, z1, q', d', rfl⟩ := four y
    obtain ⟨rfl, rfl, ho, hd⟩ := fin_at 3 0 12 e0 (Z e1) e2 e3
    exact piece_at 2 _ (prod (iblk m c 0 t) (iblk m c 1 t)) (iblk m c 2 t) (iblk m c 3 t) 3 slices_S2048x512_o0_384_S2048x128 _ _ 12 _ a q l z0 z1 d' ho hd
  · obtain ⟨z0, z1, q', d', rfl⟩ := four y
    obtain ⟨rfl, rfl, ho, hd⟩ := fin_at 3 0 11 e0 (Z e1) e2 e3
    exact piece_at 2 _ (prod (iblk m c 0 t) (iblk m c 1 t)) (iblk m c 2 t) (iblk m c 3 t) 3 slices_S2048x512_o0_384_S2048x128 _ _ 11 _ a q l z0 z1 d' ho hd
  · obtain ⟨z0, z1, q', d', rfl⟩ := four y
    obtain ⟨rfl, rfl, ho, hd⟩ := fin_at 3 0 10 e0 (Z e1) e2 e3
    exact piece_at 2 _ (prod (iblk m c 0 t) (iblk m c 1 t)) (iblk m c 2 t) (iblk m c 3 t) 3 slices_S2048x512_o0_384_S2048x128 _ _ 10 _ a q l z0 z1 d' ho hd
  · obtain ⟨z0, z1, q', d', rfl⟩ := four y
    obtain ⟨rfl, rfl, ho, hd⟩ := fin_at 3 0 9 e0 (Z e1) e2 e3
    exact piece_at 2 _ (prod (iblk m c 0 t) (iblk m c 1 t)) (iblk m c 2 t) (iblk m c 3 t) 3 slices_S2048x512_o0_384_S2048x128 _ _ 9 _ a q l z0 z1 d' ho hd
  · obtain ⟨z0, z1, q', d', rfl⟩ := four y
    obtain ⟨rfl, rfl, ho, hd⟩ := fin_at 3 0 8 e0 (Z e1) e2 e3
    exact piece_at 2 _ (prod (iblk m c 0 t) (iblk m c 1 t)) (iblk m c 2 t) (iblk m c 3 t) 3 slices_S2048x512_o0_384_S2048x128 _ _ 8 _ a q l z0 z1 d' ho hd
  · obtain ⟨z0, z1, q', d', rfl⟩ := four y
    obtain ⟨rfl, rfl, ho, hd⟩ := fin_at 3 0 7 e0 (Z e1) e2 e3
    exact piece_at 2 _ (prod (iblk m c 0 t) (iblk m c 1 t)) (iblk m c 2 t) (iblk m c 3 t) 3 slices_S2048x512_o0_384_S2048x128 _ _ 7 _ a q l z0 z1 d' ho hd
  · obtain ⟨z0, z1, q', d', rfl⟩ := four y
    obtain ⟨rfl, rfl, ho, hd⟩ := fin_at 3 0 6 e0 (Z e1) e2 e3
    exact piece_at 2 _ (prod (iblk m c 0 t) (iblk m c 1 t)) (iblk m c 2 t) (iblk m c 3 t) 3 slices_S2048x512_o0_384_S2048x128 _ _ 6 _ a q l z0 z1 d' ho hd
  · obtain ⟨z0, z1, q', d', rfl⟩ := four y
    obtain ⟨rfl, rfl, ho, hd⟩ := fin_at 3 0 5 e0 (Z e1) e2 e3
    exact piece_at 2 _ (prod (iblk m c 0 t) (iblk m c 1 t)) (iblk m c 2 t) (iblk m c 3 t) 3 slices_S2048x512_o0_384_S2048x128 _ _ 5 _ a q l z0 z1 d' ho hd
  · obtain ⟨z0, z1, q', d', rfl⟩ := four y
    obtain ⟨rfl, rfl, ho, hd⟩ := fin_at 3 0 4 e0 (Z e1) e2 e3
    exact piece_at 2 _ (prod (iblk m c 0 t) (iblk m c 1 t)) (iblk m c 2 t) (iblk m c 3 t) 3 slices_S2048x512_o0_384_S2048x128 _ _ 4 _ a q l z0 z1 d' ho hd
  · obtain ⟨z0, z1, q', d', rfl⟩ := four y
    obtain ⟨rfl, rfl, ho, hd⟩ := fin_at 3 0 3 e0 (Z e1) e2 e3
    exact piece_at 2 _ (prod (iblk m c 0 t) (iblk m c 1 t)) (iblk m c 2 t) (iblk m c 3 t) 3 slices_S2048x512_o0_384_S2048x128 _ _ 3 _ a q l z0 z1 d' ho hd
  · obtain ⟨z0, z1, q', d', rfl⟩ := four y
    obtain ⟨rfl, rfl, ho, hd⟩ := fin_at 3 0 2 e0 (Z e1) e2 e3
    exact piece_at 2 _ (prod (iblk m c 0 t) (iblk m c 1 t)) (iblk m c 2 t) (iblk m c 3 t) 3 slices_S2048x512_o0_384_S2048x128 _ _ 2 _ a q l z0 z1 d' ho hd
  · obtain ⟨z0, z1, q', d', rfl⟩ := four y
    obtain ⟨rfl, rfl, ho, hd⟩ := fin_at 3 0 1 e0 (Z e1) e2 e3
    exact piece_at 2 _ (prod (iblk m c 0 t) (iblk m c 1 t)) (iblk m c 2 t) (iblk m c 3 t) 3 slices_S2048x512_o0_384_S2048x128 _ _ 1 _ a q l z0 z1 d' ho hd
  · obtain ⟨z0, z1, q', d', rfl⟩ := four y
    obtain ⟨rfl, rfl, ho, hd⟩ := fin_at 3 0 0 e0 (Z e1) e2 (Z e3)
    exact piece_at 2 _ (prod (iblk m c 0 t) (iblk m c 1 t)) (iblk m c 2 t) (iblk m c 3 t) 3 slices_S2048x512_o0_384_S2048x128 _ _ 0 _ a q l z0 z1 d' ho hd
  · obtain ⟨z0, z1, q', d', rfl⟩ := four y
    obtain ⟨rfl, rfl, ho, hd⟩ := fin_at 2 0 15 e0 (Z e1) e2 e3
    exact piece_at 2 _ (prod (iblk m c 0 t) (iblk m c 1 t)) (iblk m c 2 t) (iblk m c 3 t) 2 slices_S2048x512_o0_256_S2048x128 _ _ 15 _ a q l z0 z1 d' ho hd
  · obtain ⟨z0, z1, q', d', rfl⟩ := four y
    obtain ⟨rfl, rfl, ho, hd⟩ := fin_at 2 0 14 e0 (Z e1) e2 e3
    exact piece_at 2 _ (prod (iblk m c 0 t) (iblk m c 1 t)) (iblk m c 2 t) (iblk m c 3 t) 2 slices_S2048x512_o0_256_S2048x128 _ _ 14 _ a q l z0 z1 d' ho hd
  · obtain ⟨z0, z1, q', d', rfl⟩ := four y
    obtain ⟨rfl, rfl, ho, hd⟩ := fin_at 2 0 13 e0 (Z e1) e2 e3
    exact piece_at 2 _ (prod (iblk m c 0 t) (iblk m c 1 t)) (iblk m c 2 t) (iblk m c 3 t) 2 slices_S2048x512_o0_256_S2048x128 _ _ 13 _ a q l z0 z1 d' ho hd
  · obtain ⟨z0, z1, q', d', rfl⟩ := four y
    obtain ⟨rfl, rfl, ho, hd⟩ := fin_at 2 0 12 e0 (Z e1) e2 e3
    exact piece_at 2 _ (prod (iblk m c 0 t) (iblk m c 1 t)) (iblk m c 2 t) (iblk m c 3 t) 2 slices_S2048x512_o0_256_S2048x128 _ _ 12 _ a q l z0 z1 d' ho hd
  · obtain ⟨z0, z1, q', d', rfl⟩ := four y
    obtain ⟨rfl, rfl, ho, hd⟩ := fin_at 2 0 11 e0 (Z e1) e2 e3
    exact piece_at 2 _ (prod (iblk m c 0 t) (iblk m c 1 t)) (iblk m c 2 t) (iblk m c 3 t) 2 slices_S2048x512_o0_256_S2048x128 _ _ 11 _ a q l z0 z1 d' ho hd
  · obtain ⟨z0, z1, q', d', rfl⟩ := four y
    obtain ⟨rfl, rfl, ho, hd⟩ := fin_at 2 0 10 e0 (Z e1) e2 e3
    exact piece_at 2 _ (prod (iblk m c 0 t) (iblk m c 1 t)) (iblk m c 2 t) (iblk m c 3 t) 2 slices_S2048x512_o0_256_S2048x128 _ _ 10 _ a q l z0 z1 d' ho hd
  · obtain ⟨z0, z1, q', d', rfl⟩ := four y
    obtain ⟨rfl, rfl, ho, hd⟩ := fin_at 2 0 9 e0 (Z e1) e2 e3
    exact piece_at 2 _ (prod (iblk m c 0 t) (iblk m c 1 t)) (iblk m c 2 t) (iblk m c 3 t) 2 slices_S2048x512_o0_256_S2048x128 _ _ 9 _ a q l z0 z1 d' ho hd
  · obtain ⟨z0, z1, q', d', rfl⟩ := four y
    obtain ⟨rfl, rfl, ho, hd⟩ := fin_at 2 0 8 e0 (Z e1) e2 e3
    exact piece_at 2 _ (prod (iblk m c 0 t) (iblk m c 1 t)) (iblk m c 2 t) (iblk m c 3 t) 2 slices_S2048x512_o0_256_S2048x128 _ _ 8 _ a q l z0 z1 d' ho hd
  · obtain ⟨z0, z1, q', d', rfl⟩ := four y
    obtain ⟨rfl, rfl, ho, hd⟩ := fin_at 2 0 7 e0 (Z e1) e2 e3
    exact piece_at 2 _ (prod (iblk m c 0 t) (iblk m c 1 t)) (iblk m c 2 t) (iblk m c 3 t) 2 slices_S2048x512_o0_256_S2048x128 _ _ 7 _ a q l z0 z1 d' ho hd
  · obtain ⟨z0, z1, q', d', rfl⟩ := four y
    obtain ⟨rfl, rfl, ho, hd⟩ := fin_at 2 0 6 e0 (Z e1) e2 e3
    exact piece_at 2 _ (prod (iblk m c 0 t) (iblk m c 1 t)) (iblk m c 2 t) (iblk m c 3 t) 2 slices_S2048x512_o0_256_S2048x128 _ _ 6 _ a q l z0 z1 d' ho hd
  · obtain ⟨z0, z1, q', d', rfl⟩ := four y
    obtain ⟨rfl, rfl, ho, hd⟩ := fin_at 2 0 5 e0 (Z e1) e2 e3
    exact piece_at 2 _ (prod (iblk m c 0 t) (iblk m c 1 t)) (iblk m c 2 t) (iblk m c 3 t) 2 slices_S2048x512_o0_256_S2048x128 _ _ 5 _ a q l z0 z1 d' ho hd
  · obtain ⟨z0, z1, q', d', rfl⟩ := four y
    obtain ⟨rfl, rfl, ho, hd⟩ := fin_at 2 0 4 e0 (Z e1) e2 e3
    exact piece_at 2 _ (prod (iblk m c 0 t) (iblk m c 1 t)) (iblk m c 2 t) (iblk m c 3 t) 2 slices_S2048x512_o0_256_S2048x128 _ _ 4 _ a q l z0 z1 d' ho hd
  · obtain ⟨z0, z1, q', d', rfl⟩ := four y
    obtain ⟨rfl, rfl, ho, hd⟩ := fin_at 2 0 3 e0 (Z e1) e2 e3
    exact piece_at 2 _ (prod (iblk m c 0 t) (iblk m c 1 t)) (iblk m c 2 t) (iblk m c 3 t) 2 slices_S2048x512_o0_256_S2048x128 _ _ 3 _ a q l z0 z1 d' ho hd
  · obtain ⟨z0, z1, q', d', rfl⟩ := four y
    obtain ⟨rfl, rfl, ho, hd⟩ := fin_at 2 0 2 e0 (Z e1) e2 e3
    exact piece_at 2 _ (prod (iblk m c 0 t) (iblk m c 1 t)) (iblk m c 2 t) (iblk m c 3 t) 2 slices_S2048x512_o0_256_S2048x128 _ _ 2 _ a q l z0 z1 d' ho hd
  · obtain ⟨z0, z1, q', d', rfl⟩ := four y
    obtain ⟨rfl, rfl, ho, hd⟩ := fin_at 2 0 1 e0 (Z e1) e2 e3
    exact piece_at 2 _ (prod (iblk m c 0 t) (iblk m c 1 t)) (iblk m c 2 t) (iblk m c 3 t) 2 slices_S2048x512_o0_256_S2048x128 _ _ 1 _ a q l z0 z1 d' ho hd
  · obtain ⟨z0, z1, q', d', rfl⟩ := four y
    obtain ⟨rfl, rfl, ho, hd⟩ := fin_at 2 0 0 e0 (Z e1) e2 (Z e3)
    exact piece_at 2 _ (prod (iblk m c 0 t) (iblk m c 1 t)) (iblk m c 2 t) (iblk m c 3 t) 2 slices_S2048x512_o0_256_S2048x128 _ _ 0 _ a q l z0 z1 d' ho hd
  · obtain ⟨z0, z1, q', d', rfl⟩ := four y
    obtain ⟨rfl, rfl, ho, hd⟩ := fin_at 1 0 15 e0 (Z e1) e2 e3
    exact piece_at 2 _ (prod (iblk m c 0 t) (iblk m c 1 t)) (iblk m c 2 t) (iblk m c 3 t) 1 slices_S2048x512_o0_128_S2048x128 _ _ 15 _ a q l z0 z1 d' ho hd
  · obtain ⟨z0, z1, q', d', rfl⟩ := four y
    obtain ⟨rfl, rfl, ho, hd⟩ := fin_at 1 0 14 e0 (Z e1) e2 e3
    exact piece_at 2 _ (prod (iblk m c 0 t) (iblk m c 1 t)) (iblk m c 2 t) (iblk m c 3 t) 1 slices_S2048x512_o0_128_S2048x128 _ _ 14 _ a q l z0 z1 d' ho hd
  · obtain ⟨z0, z1, q', d', rfl⟩ := four y
    obtain ⟨rfl, rfl, ho, hd⟩ := fin_at 1 0 13 e0 (Z e1) e2 e3
    exact piece_at 2 _ (prod (iblk m c 0 t) (iblk m c 1 t)) (iblk m c 2 t) (iblk m c 3 t) 1 slices_S2048x512_o0_128_S2048x128 _ _ 13 _ a q l z0 z1 d' ho hd
  · obtain ⟨z0, z1, q', d', rfl⟩ := four y
    obtain ⟨rfl, rfl, ho, hd⟩ := fin_at 1 0 12 e0 (Z e1) e2 e3
    exact piece_at 2 _ (prod (iblk m c 0 t) (iblk m c 1 t)) (iblk m c 2 t) (iblk m c 3 t) 1 slices_S2048x512_o0_128_S2048x128 _ _ 12 _ a q l z0 z1 d' ho hd
  · obtain ⟨z0, z1, q', d', rfl⟩ := four y
    obtain ⟨rfl, rfl, ho, hd⟩ := fin_at 1 0 11 e0 (Z e1) e2 e3
    exact piece_at 2 _ (prod (iblk m c 0 t) (iblk m c 1 t)) (iblk m c 2 t) (iblk m c 3 t) 1 slices_S2048x512_o0_128_S2048x128 _ _ 11 _ a q l z0 z1 d' ho hd
  · obtain ⟨z0, z1, q', d', rfl⟩ := four y
    obtain ⟨rfl, rfl, ho, hd⟩ := fin_at 1 0 10 e0 (Z e1) e2 e3
    exact piece_at 2 _ (prod (iblk m c 0 t) (iblk m c 1 t)) (iblk m c 2 t) (iblk m c 3 t) 1 slices_S2048x512_o0_128_S2048x128 _ _ 10 _ a q l z0 z1 d' ho hd
  · obtain ⟨z0, z1, q', d', rfl⟩ := four y
    obtain ⟨rfl, rfl, ho, hd⟩ := fin_at 1 0 9 e0 (Z e1) e2 e3
    exact piece_at 2 _ (prod (iblk m c 0 t) (iblk m c 1 t)) (iblk m c 2 t) (iblk m c 3 t) 1 slices_S2048x512_o0_128_S2048x128 _ _ 9 _ a q l z0 z1 d' ho hd
  · obtain ⟨z0, z1, q', d', rfl⟩ := four y
    obtain ⟨rfl, rfl, ho, hd⟩ := fin_at 1 0 8 e0 (Z e1) e2 e3
    exact piece_at 2 _ (prod (iblk m c 0 t) (iblk m c 1 t)) (iblk m c 2 t) (iblk m c 3 t) 1 slices_S2048x512_o0_128_S2048x128 _ _ 8 _ a q l z0 z1 d' ho hd
  · obtain ⟨z0, z1, q', d', rfl⟩ := four y
    obtain ⟨rfl, rfl, ho, hd⟩ := fin_at 1 0 7 e0 (Z e1) e2 e3
    exact piece_at 2 _ (prod (iblk m c 0 t) (iblk m c 1 t)) (iblk m c 2 t) (iblk m c 3 t) 1 slices_S2048x512_o0_128_S2048x128 _ _ 7 _ a q l z0 z1 d' ho hd
  · obtain ⟨z0, z1, q', d', rfl⟩ := four y
    obtain ⟨rfl, rfl, ho, hd⟩ := fin_at 1 0 6 e0 (Z e1) e2 e3
    exact piece_at 2 _ (prod (iblk m c 0 t) (iblk m c 1 t)) (iblk m c 2 t) (iblk m c 3 t) 1 slices_S2048x512_o0_128_S2048x128 _ _ 6 _ a q l z0 z1 d' ho hd
  · obtain ⟨z0, z1, q', d', rfl⟩ := four y
    obtain ⟨rfl, rfl, ho, hd⟩ := fin_at 1 0 5 e0 (Z e1) e2 e3
    exact piece_at 2 _ (prod (iblk m c 0 t) (iblk m c 1 t)) (iblk m c 2 t) (iblk m c 3 t) 1 slices_S2048x512_o0_128_S2048x128 _ _ 5 _ a q l z0 z1 d' ho hd
  · obtain ⟨z0, z1, q', d', rfl⟩ := four y
    obtain ⟨rfl, rfl, ho, hd⟩ := fin_at 1 0 4 e0 (Z e1) e2 e3
    exact piece_at 2 _ (prod (iblk m c 0 t) (iblk m c 1 t)) (iblk m c 2 t) (iblk m c 3 t) 1 slices_S2048x512_o0_128_S2048x128 _ _ 4 _ a q l z0 z1 d' ho hd
  · obtain ⟨z0, z1, q', d', rfl⟩ := four y
    obtain ⟨rfl, rfl, ho, hd⟩ := fin_at 1 0 3 e0 (Z e1) e2 e3
    exact piece_at 2 _ (prod (iblk m c 0 t) (iblk m c 1 t)) (iblk m c 2 t) (iblk m c 3 t) 1 slices_S2048x512_o0_128_S2048x128 _ _ 3 _ a q l z0 z1 d' ho hd
  · obtain ⟨z0, z1, q', d', rfl⟩ := four y
    obtain ⟨rfl, rfl, ho, hd⟩ := fin_at 1 0 2 e0 (Z e1) e2 e3
    exact piece_at 2 _ (prod (iblk m c 0 t) (iblk m c 1 t)) (iblk m c 2 t) (iblk m c 3 t) 1 slices_S2048x512_o0_128_S2048x128 _ _ 2 _ a q l z0 z1 d' ho hd
  · obtain ⟨z0, z1, q', d', rfl⟩ := four y
    obtain ⟨rfl, rfl, ho, hd⟩ := fin_at 1 0 1 e0 (Z e1) e2 e3
    exact piece_at 2 _ (prod (iblk m c 0 t) (iblk m c 1 t)) (iblk m c 2 t) (iblk m c 3 t) 1 slices_S2048x512_o0_128_S2048x128 _ _ 1 _ a q l z0 z1 d' ho hd
  · obtain ⟨z0, z1, q', d', rfl⟩ := four y
    obtain ⟨rfl, rfl, ho, hd⟩ := fin_at 1 0 0 e0 (Z e1) e2 (Z e3)
    exact piece_at 2 _ (prod (iblk m c 0 t) (iblk m c 1 t)) (iblk m c 2 t) (iblk m c 3 t) 1 slices_S2048x512_o0_128_S2048x128 _ _ 0 _ a q l z0 z1 d' ho hd
  · obtain ⟨z0, z1, q', d', rfl⟩ := four y
    obtain ⟨rfl, rfl, ho, hd⟩ := fin_at 0 0 15 (Z e0) (Z e1) e2 e3
    exact piece_at 2 _ (prod (iblk m c 0 t) (iblk m c 1 t)) (iblk m c 2 t) (iblk m c 3 t) 0 slices_S2048x512_o0_0_S2048x128 _ _ 15 _ a q l z0 z1 d' ho hd
  · obtain ⟨z0, z1, q', d', rfl⟩ := four y
    obtain ⟨rfl, rfl, ho, hd⟩ := fin_at 0 0 14 (Z e0) (Z e1) e2 e3
    exact piece_at 2 _ (prod (iblk m c 0 t) (iblk m c 1 t)) (iblk m c 2 t) (iblk m c 3 t) 0 slices_S2048x512_o0_0_S2048x128 _ _ 14 _ a q l z0 z1 d' ho hd
  · obtain ⟨z0, z1, q', d', rfl⟩ := four y
    obtain ⟨rfl, rfl, ho, hd⟩ := fin_at 0 0 13 (Z e0) (Z e1) e2 e3
    exact piece_at 2 _ (prod (iblk m c 0 t) (iblk m c 1 t)) (iblk m c 2 t) (iblk m c 3 t) 0 slices_S2048x512_o0_0_S2048x128 _ _ 13 _ a q l z0 z1 d' ho hd
  · obtain ⟨z0, z1, q', d', rfl⟩ := four y
    obtain ⟨rfl, rfl, ho, hd⟩ := fin_at 0 0 12 (Z e0) (Z e1) e2 e3
    exact piece_at 2 _ (prod (iblk m c 0 t) (iblk m c 1 t)) (iblk m c 2 t) (iblk m c 3 t) 0 slices_S2048x512_o0_0_S2048x128 _ _ 12 _ a q l z0 z1 d' ho hd
  · obtain ⟨z0, z1, q', d', rfl⟩ := four y
    obtain ⟨rfl, rfl, ho, hd⟩ := fin_at 0 0 11 (Z e0) (Z e1) e2 e3
    exact piece_at 2 _ (prod (iblk m c 0 t) (iblk m c 1 t)) (iblk m c 2 t) (iblk m c 3 t) 0 slices_S2048x512_o0_0_S2048x128 _ _ 11 _ a q l z0 z1 d' ho hd
  · obtain ⟨z0, z1, q', d', rfl⟩ := four y
    obtain ⟨rfl, rfl, ho, hd⟩ := fin_at 0 0 10 (Z e0) (Z e1) e2 e3
    exact piece_at 2 _ (prod (iblk m c 0 t) (iblk m c 1 t)) (iblk m c 2 t) (iblk m c 3 t) 0 slices_S2048x512_o0_0_S2048x128 _ _ 10 _ a q l z0 z1 d' ho hd
  · obtain ⟨z0, z1, q', d', rfl⟩ := four y
    obtain ⟨rfl, rfl, ho, hd⟩ := fin_at 0 0 9 (Z e0) (Z e1) e2 e3
    exact piece_at 2 _ (prod (iblk m c 0 t) (iblk m c 1 t)) (iblk m c 2 t) (iblk m c 3 t) 0 slices_S2048x512_o0_0_S2048x128 _ _ 9 _ a q l z0 z1 d' ho hd
  · obtain ⟨z0, z1, q', d', rfl⟩ := four y
    obtain ⟨rfl, rfl, ho, hd⟩ := fin_at 0 0 8 (Z e0) (Z e1) e2 e3
    exact piece_at 2 _ (prod (iblk m c 0 t) (iblk m c 1 t)) (iblk m c 2 t) (iblk m c 3 t) 0 slices_S2048x512_o0_0_S2048x128 _ _ 8 _ a q l z0 z1 d' ho hd
  · obtain ⟨z0, z1, q', d', rfl⟩ := four y
    obtain ⟨rfl, rfl, ho, hd⟩ := fin_at 0 0 7 (Z e0) (Z e1) e2 e3
    exact piece_at 2 _ (prod (iblk m c 0 t) (iblk m c 1 t)) (iblk m c 2 t) (iblk m c 3 t) 0 slices_S2048x512_o0_0_S2048x128 _ _ 7 _ a q l z0 z1 d' ho hd
  · obtain ⟨z0, z1, q', d', rfl⟩ := four y
    obtain ⟨rfl, rfl, ho, hd⟩ := fin_at 0 0 6 (Z e0) (Z e1) e2 e3
    exact piece_at 2 _ (prod (iblk m c 0 t) (iblk m c 1 t)) (iblk m c 2 t) (iblk m c 3 t) 0 slices_S2048x512_o0_0_S2048x128 _ _ 6 _ a q l z0 z1 d' ho hd
  · obtain ⟨z0, z1, q', d', rfl⟩ := four y
    obtain ⟨rfl, rfl, ho, hd⟩ := fin_at 0 0 5 (Z e0) (Z e1) e2 e3
    exact piece_at 2 _ (prod (iblk m c 0 t) (iblk m c 1 t)) (iblk m c 2 t) (iblk m c 3 t) 0 slices_S2048x512_o0_0_S2048x128 _ _ 5 _ a q l z0 z1 d' ho hd
  · obtain ⟨z0, z1, q', d', rfl⟩ := four y
    obtain ⟨rfl, rfl, ho, hd⟩ := fin_at 0 0 4 (Z e0) (Z e1) e2 e3
    exact piece_at 2 _ (prod (iblk m c 0 t) (iblk m c 1 t)) (iblk m c 2 t) (iblk m c 3 t) 0 slices_S2048x512_o0_0_S2048x128 _ _ 4 _ a q l z0 z1 d' ho hd
  · obtain ⟨z0, z1, q', d', rfl⟩ := four y
    obtain ⟨rfl, rfl, ho, hd⟩ := fin_at 0 0 3 (Z e0) (Z e1) e2 e3
    exact piece_at 2 _ (prod (iblk m c 0 t) (iblk m c 1 t)) (iblk m c 2 t) (iblk m c 3 t) 0 slices_S2048x512_o0_0_S2048x128 _ _ 3 _ a q l z0 z1 d' ho hd
  · obtain ⟨z0, z1, q', d', rfl⟩ := four y
    obtain ⟨rfl, rfl, ho, hd⟩ := fin_at 0 0 2 (Z e0) (Z e1) e2 e3
    exact piece_at 2 _ (prod (iblk m c 0 t) (iblk m c 1 t)) (iblk m c 2 t) (iblk m c 3 t) 0 slices_S2048x512_o0_0_S2048x128 _ _ 2 _ a q l z0 z1 d' ho hd
  · obtain ⟨z0, z1, q', d', rfl⟩ := four y
    obtain ⟨rfl, rfl, ho, hd⟩ := fin_at 0 0 1 (Z e0) (Z e1) e2 e3
    exact piece_at 2 _ (prod (iblk m c 0 t) (iblk m c 1 t)) (iblk m c 2 t) (iblk m c 3 t) 0 slices_S2048x512_o0_0_S2048x128 _ _ 1 _ a q l z0 z1 d' ho hd
  · obtain ⟨z0, z1, q', d', rfl⟩ := four y
    obtain ⟨rfl, rfl, ho, hd⟩ := fin_at 0 0 0 (Z e0) (Z e1) e2 (Z e3)
    exact piece_at 2 _ (prod (iblk m c 0 t) (iblk m c 1 t)) (iblk m c 2 t) (iblk m c 3 t) 0 slices_S2048x512_o0_0_S2048x128 _ _ 0 _ a q l z0 z1 d' ho hd

end Cert.Pdil16Ideal.Hand

end
-- ==== Proof.Pdil16Claim.lean ====
module

public import proofs.«01_k».proof.Defs
public import proofs.«01_k».proof.Proof.Gen.Pdil16Ideal.Value
public import proofs.«01_k».proof.Proof.Gen.Pdil16RefIdeal.Run
public import proofs.«01_k».proof.Proof.GatesClaim
public import proofs.«01_k».proof.Proof.Pdil16A
public import proofs.«01_k».proof.Proof.Pdil16B
public import proofs.«01_k».proof.Proof.Pdil16C
public import Idealize.ShloMosaic.Lib.Pipeline.ValueKit.Tiles

@[expose] public section

set_option maxRecDepth 16384

noncomputable section

namespace Cert.Pdil16Ideal.Hand

open Cert.Pdil16Ideal Cert.Pdil16Ideal.Gen Cert.Pdil16Ideal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The point's rows and columns. -/
abbrev xblk (t : Fin cfg0.N) : FVec Ideal S2048x2048 .bf16 := iblk m c 0 t
@[inherit_doc xblk] abbrev wblk (t : Fin cfg0.N) : FVec Ideal S2048x512 .bf16 := iblk m c 1 t

theorem dot_at (u : Fin cfg0.N) (r : Fin 2048) (n : Fin 512) :
    prod (iblk m c 0 u) (iblk m c 1 u) (ix2 r n) = Proj.dot (X m c) (W m c) (row u r) (col ⟨512 * (u.val % 3) + n.val, by omega⟩) := by
  refine (prod_at (xblk m c u) (wblk m c u) r n).trans ?_
  unfold Proj.dot
  exact Finset.sum_congr rfl fun k _ => congrArg₂ (fun a b : EReal => a * b) (blk0_at m c u r k) (blk1_at m c u k n)

/-- Lane `d` of head `h` at position `t`: the queries rotated and scaled, the keys rotated, the values; `x` gives the projected lanes. -/
def want (x : Fin 12 → Fin 16384 → Fin 128 → EReal) (h : Fin 12) (t : Fin 16384) (d : Fin 128) : EReal :=
  if h.val < 4 then rotAt (x h t) t d * sc else if h.val < 8 then rotAt (x h t) t d else x h t d

/-- The column that lane `d` of head `h` comes from. -/
def src (h : Fin 12) (d : Fin 128) : Fin 11288 := ⟨2584 + 1536 * (h.val / 4) + 1024 + 128 * (h.val % 4) + d.val, by omega⟩

/-- The position that row block `A`, row `q` and lane `l` stand for. -/
def pos (A : Fin 8) (q : Fin 128) (l : Fin 2048) : Fin 16384 := ⟨2048 * A.val + 16 * q.val + l.val / 128, by omega⟩

theorem want_at (u : Fin cfg0.N) (j : Fin 4) (h : Fin 12) (e : h.val = 4 * (u.val % 3) + j.val) (k : Fin 3) (ek : k.val = u.val % 3) (r : Fin 2048) (d : Fin 128) :
    headAt k (prod (iblk m c 0 u) (iblk m c 1 u)) (iblk m c 2 u) (iblk m c 3 u) j r d = want (fun h t d => Proj.dot (X m c) (W m c) t (src h d)) h (row u r) d := by
  have hd : ∀ d : Fin 128, prod (iblk m c 0 u) (iblk m c 1 u) (ix2 r ⟨128 * j.val + d.val, by omega⟩) = Proj.dot (X m c) (W m c) (row u r) (src h d) := fun d =>
    (dot_at m c u r ⟨128 * j.val + d.val, by omega⟩).trans (congrArg (Proj.dot (X m c) (W m c) (row u r)) (Fin.ext (by
      show 2584 + 1536 * ((512 * (u.val % 3) + (128 * j.val + d.val)) / 512) + 1024 + (512 * (u.val % 3) + (128 * j.val + d.val)) % 512 = 2584 + 1536 * (h.val / 4) + 1024 + 128 * (h.val % 4) + d.val
      omega)))
  have h2 := blk2_at m c u r d
  have h3 := blk3_at m c u r d
  match k, ek with
  | 0, ek =>
    have ek : 0 = u.val % 3 := ek
    unfold want headAt
    rw [if_pos (by omega)]
    rw [hd, hd, h2, h3]; rfl
  | 1, ek =>
    have ek : 1 = u.val % 3 := ek
    unfold want headAt
    rw [if_neg (by omega), if_pos (by omega)]
    rw [hd, hd, h2, h3]; rfl
  | 2, ek =>
    have ek : 2 = u.val % 3 := ek
    unfold want headAt
    rw [if_neg (by omega), if_neg (by omega)]
    rw [hd]

/-- The kernel's result. -/
theorem val_at (h : Fin 12) (A : Fin 8) (q : Fin 128) (l : Fin 2048) :
    ((dats m 0 c).arrAt 4 cfg0.N : FVec Ideal S12x8x128x2048 .bf16) (ix4 h A q l) = want (fun h t d => Proj.dot (X m c) (W m c) t (src h d)) h (pos A q l) (lane l) := by
  have hN : cfg0.N = 24 := N_0
  obtain ⟨u, hu⟩ : ∃ u : Fin cfg0.N, u.val = 3 * (A.val / 1) + h.val / 4 := ⟨⟨3 * (A.val / 1) + h.val / 4, by omega⟩, rfl⟩
  obtain ⟨j, hj⟩ : ∃ j : Fin 4, j.val = h.val % 4 := ⟨⟨h.val % 4, by omega⟩, rfl⟩
  obtain ⟨a, ha⟩ : ∃ a : Fin 1, a.val = A.val % 1 := ⟨⟨A.val % 1, by omega⟩, rfl⟩
  have hi := index_facts u
  have hb := congrFun (blocks4 m c u hi.2.2.2.2.2.2.2.2.2.2.2.2) (ix4 j a q l)
  rw [View.read_apply] at hb
  refine Eq.trans ?_ (hb.trans ?_)
  · congr 1
    funext b
    apply Fin.ext
    match b with
    | ⟨0, _⟩ => show h.val = win0_4.index u 0 * 4 + 1 * j.val; rw [hi.2.2.2.2.2.2.2.2.1]; omega
    | ⟨1, _⟩ => show A.val = win0_4.index u 1 * 1 + 1 * a.val; rw [hi.2.2.2.2.2.2.2.2.2.1]; omega
    | ⟨2, _⟩ => show q.val = win0_4.index u 2 * 128 + 1 * q.val; rw [hi.2.2.2.2.2.2.2.2.2.2.1]; omega
    | ⟨3, _⟩ => show l.val = win0_4.index u 3 * 2048 + 1 * l.val; rw [hi.2.2.2.2.2.2.2.2.2.2.2.1]; omega
  · have hr : row u ⟨2048 * a.val + 16 * q.val + l.val / 128, by omega⟩ = pos A q l := Fin.ext (by show 2048 * (u.val / 3) + (2048 * a.val + 16 * q.val + l.val / 128) = 2048 * A.val + 16 * q.val + l.val / 128; omega)
    rw [← hr]
    obtain hk | hk | hk : u.val % 3 = 0 ∨ u.val % 3 = 1 ∨ u.val % 3 = 2 := by omega
    · rw [flushed4_A m c u hk (by omega) (by omega)]
      exact (outA_at m c u hk (by omega) (by omega) j a q l).trans (want_at m c u j h (by omega) 0 hk.symm _ _)
    · rw [flushed4_B m c u (by omega) hk (by omega)]
      exact (outB_at m c u (by omega) hk (by omega) j a q l).trans (want_at m c u j h (by omega) 1 hk.symm _ _)
    · rw [flushed4_C m c u (by omega) (by omega) hk]
      exact (outC_at m c u (by omega) (by omega) hk j a q l).trans (want_at m c u j h (by omega) 2 hk.symm _ _)

end Cert.Pdil16Ideal.Hand

namespace Cert.Pdil16RefIdeal.Hand

open Cert.Pdil16RefIdeal Cert.Pdil16RefIdeal.Gen Cert.Pdil16RefIdeal.Value Idealize.ShloMosaic Idealize.ShloMosaic.TcCoe Idealize.SL.Sem
open Cert.KWinRefIdeal.Hand (cosT sinT rotAt)
open Cert.Pdil16Ideal.Hand (sc want src pos lane)

/-- The split into heads, head first. -/
def heads (y : FVec Ideal S16384x1536 .f32) : FVec Ideal S12x16384x128 .f32 :=
  transpose S12x16384x128 [1, 0, 2] (shapeCast S16384x12x128 y shapeCasts_S16384x1536_S16384x12x128) transposes_S16384x12x128_S12x16384x128_1_0_2

/-- The group's heads. -/
def grp (x : FVec Ideal S12x16384x128 .f32) : FVec Ideal S4x16384x128 .f32 :=
  extractStridedSlice S4x16384x128 ![8, 0, 0] x slices_S12x16384x128_S4x16384x128_8_0_0

theorem grp_at (x : FVec Ideal S12x16384x128 .f32) (h : Fin 4) (t : Fin 16384) (d : Fin 128) : grp x (ix3 h t d) = x (ix3 ⟨8 + h.val, by omega⟩ t d) := by
  pointwise [grp]

theorem lanes_at (p : FVec Ideal S16384x11288 .f32) (o : ℕ) (ho : o + 1536 ≤ 11288) (hs : Shape.Slices S16384x11288 ![0, o] S16384x1536) (h : Fin 4) (t : Fin 16384) (d : Fin 128) :
    grp (heads (extractStridedSlice S16384x1536 ![0, o] p hs)) (ix3 h t d) = p (ix2 t ⟨o + (128 * (8 + h.val) + d.val), by omega⟩) :=
  (grp_at _ h t d).trans (Proj.heads_at o p hs shapeCasts_S16384x1536_S16384x12x128 transposes_S16384x12x128_S12x16384x128_1_0_2 rfl ho ⟨8 + h.val, by omega⟩ t d)

/-- The rotary embedding of four heads. -/
def rope4 (x : FVec Ideal S4x16384x128 .f32) : FVec Ideal S4x16384x128 .f32 :=
  concatenate S4x16384x128 2
    [⟨S4x16384x64, subf (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 sinT)))⟩,
     ⟨S4x16384x64, addf (mulf (extractStridedSlice S4x16384x64 ![0, 0, 64] x slices_S4x16384x128_S4x16384x64_0_0_64) (broadcastInDim S4x16384x64 ![0, 1, 2] bcast_S1x16384x64_S4x16384x64_0_1_2 (broadcastInDim S1x16384x64 ![1, 2] bcast_S16384x64_S1x16384x64_1_2 cosT))) (mulf (extractStridedSlice S4x16384x64 ![0, 0, 0] x slices_S4x16384x128_S4x16384x64_0_0_0) (broadcastInDim S4x16384x64 ![0, 1, 2] bcast_S1x16384x64_S4x16384x64_0_1_2 (broadcastInDim S1x16384x64 ![1, 2] bcast_S16384x64_S1x16384x64_1_2 sinT)))⟩]
    concatenates_S4x16384x64_S4x16384x64_S4x16384x128_d2

theorem rope4_at (x : FVec Ideal S4x16384x128 .f32) (h : Fin 4) (t : Fin 16384) (d : Fin 128) : rope4 x (ix3 h t d) = rotAt (fun e => x (ix3 h t e)) t d :=
  Proj.rope_at x cosT sinT _ _ _ _ _ h t d

/-- The twelve heads: rotated and scaled queries, rotated keys, values. -/
def all (p : FVec Ideal S16384x11288 .f32) : FVec Ideal S12x16384x128 .f32 :=
  concatenate S12x16384x128 0
    [⟨S4x16384x128, mulf (rope4 (grp (heads (extractStridedSlice S16384x1536 ![0, 2584] p slices_S16384x11288_S16384x1536_0_2584)))) (broadcastInDim S4x16384x128 ![] bcast_S_S4x16384x128 (constant S_ .f32 0x3DB504F3#32))⟩,
     ⟨S4x16384x128, rope4 (grp (heads (extractStridedSlice S16384x1536 ![0, 4120] p slices_S16384x11288_S16384x1536_0_4120)))⟩,
     ⟨S4x16384x128, (grp (heads (extractStridedSlice S16384x1536 ![0, 5656] p slices_S16384x11288_S16384x1536_0_5656)))⟩]
    concatenates_S4x16384x128_S4x16384x128_S4x16384x128_S12x16384x128_d0

theorem all_at (p : FVec Ideal S16384x11288 .f32) (h : Fin 12) (t : Fin 16384) (d : Fin 128) : all p (ix3 h t d) = want (fun h t d => p (ix2 t (src h d))) h t d := by
  have e1 : ∀ (h : Fin 4) (d : Fin 128), mulf (rope4 (grp (heads (extractStridedSlice S16384x1536 ![0, 2584] p slices_S16384x11288_S16384x1536_0_2584)))) (broadcastInDim S4x16384x128 ![] bcast_S_S4x16384x128 (constant S_ .f32 0x3DB504F3#32)) (ix3 h t d)
      = rotAt (fun e => (grp (heads (extractStridedSlice S16384x1536 ![0, 2584] p slices_S16384x11288_S16384x1536_0_2584))) (ix3 h t e)) t d * sc := fun h d => congrArg (fun v : EReal => v * sc) (rope4_at _ h t d)
  have e2 := fun h : Fin 4 => rope4_at (grp (heads (extractStridedSlice S16384x1536 ![0, 4120] p slices_S16384x11288_S16384x1536_0_4120))) h t d
  have f1 := lanes_at p 2584 (by decide) slices_S16384x11288_S16384x1536_0_2584
  have f2 := lanes_at p 4120 (by decide) slices_S16384x11288_S16384x1536_0_4120
  have f3 := lanes_at p 5656 (by decide) slices_S16384x11288_S16384x1536_0_5656
  unfold all
  generalize mulf (rope4 (grp (heads (extractStridedSlice S16384x1536 ![0, 2584] p slices_S16384x11288_S16384x1536_0_2584)))) (broadcastInDim S4x16384x128 ![] bcast_S_S4x16384x128 (constant S_ .f32 0x3DB504F3#32)) = y1 at e1 ⊢
  generalize rope4 (grp (heads (extractStridedSlice S16384x1536 ![0, 4120] p slices_S16384x11288_S16384x1536_0_4120))) = y2 at e2 ⊢
  generalize (grp (heads (extractStridedSlice S16384x1536 ![0, 5656] p slices_S16384x11288_S16384x1536_0_5656))) = y3 at f3 ⊢
  have hc : concatenate S12x16384x128 0 [⟨S4x16384x128, y1⟩, ⟨S4x16384x128, y2⟩, ⟨S4x16384x128, y3⟩] concatenates_S4x16384x128_S4x16384x128_S4x16384x128_S12x16384x128_d0 (ix3 h t d)
      = if h' : h.val < 4 then y1 (ix3 ⟨h.val, h'⟩ t d) else if h'' : h.val - 4 < 4 then y2 (ix3 ⟨h.val - 4, h''⟩ t d) else y3 (ix3 ⟨h.val - 4 - 4, by omega⟩ t d) := by
    pointwise []
  refine hc.trans ?_
  unfold want
  have hx : ∀ (o : ℕ) (i : Fin 4) (d : Fin 128) (hb : o + (128 * (8 + i.val) + d.val) < 11288), o + 128 * i.val = 2584 + 1536 * (h.val / 4) + 128 * (h.val % 4) →
      p (ix2 t ⟨o + (128 * (8 + i.val) + d.val), hb⟩) = p (ix2 t (src h d)) := fun o i d hb ho =>
    congrArg (fun j => p (ix2 t j)) (Fin.ext (by show o + (128 * (8 + i.val) + d.val) = 2584 + 1536 * (h.val / 4) + 1024 + 128 * (h.val % 4) + d.val; omega))
  by_cases h1 : h.val < 4
  · rw [dif_pos h1, if_pos h1, e1]
    refine congrArg (fun x => rotAt x t d * sc) (funext fun e => ?_)
    rw [f1]
    exact hx 2584 ⟨h.val, h1⟩ e _ (by show 2584 + 128 * h.val = _; omega)
  · rw [dif_neg h1, if_neg h1]
    by_cases h2 : h.val - 4 < 4
    · rw [dif_pos h2, if_pos (by omega), e2]
      refine congrArg (fun x => rotAt x t d) (funext fun e => ?_)
      rw [f2]
      exact hx 4120 ⟨h.val - 4, h2⟩ e _ (by show 4120 + 128 * (h.val - 4) = _; omega)
    · rw [dif_neg h2, if_neg (by omega), f3]
      exact hx 5656 ⟨h.val - 4 - 4, by omega⟩ d _ (by show 5656 + 128 * (h.val - 4 - 4) = _; omega)

/-- The plain program's result, in terms of all columns. -/
def res (p : FVec Ideal S16384x11288 .f32) : FVec Ideal S12x8x128x2048 .bf16 :=
  truncf .bf16 (shapeCast S12x8x128x2048 (all p) shapeCasts_S12x16384x128_S12x8x128x2048) bitsLt_bf16_f32

theorem res_at (p : FVec Ideal S16384x11288 .f32) (h : Fin 12) (A : Fin 8) (q : Fin 128) (l : Fin 2048) :
    res p (ix4 h A q l) = want (fun h t d => p (ix2 t (src h d))) h (pos A q l) (lane l) := by
  refine Eq.trans ?_ (all_at p h (pos A q l) (lane l))
  unfold res
  generalize all p = y
  show shapeCast S12x8x128x2048 y shapeCasts_S12x16384x128_S12x8x128x2048 _ = _
  refine shapeCast_apply y shapeCasts_S12x16384x128_S12x8x128x2048 _ _ ?_
  rw [Shape.rowMajor_val_three, Shape.rowMajor_val_four]
  show (h.val * 16384 + (2048 * A.val + 16 * q.val + l.val / 128)) * 128 + l.val % 128 = ((h.val * 8 + A.val) * 128 + q.val) * 2048 + l.val
  omega

end Cert.Pdil16RefIdeal.Hand

namespace Cert.Proof.Pdil16

open Idealize.ShloMosaic Idealize.ShloMosaic.TcCoe Idealize.SL.Sem

/-- The rotated queries and keys and the values of one group of the dilated attention: kernel and plain program compute the
same array over the reals. -/
theorem algebraic : Cert.algebraic_Pdil16Ideal_Pdil16RefIdeal := by
  intro m ρ m' ρ' _ hag
  refine ⟨_, Cert.Pdil16Ideal.Value.run_blocks m ρ,
    (θ_run _ _ _).mono (fun _ h c => ⟨(h c).1.trans ?_, (h c).2⟩) (Cert.Pdil16RefIdeal.Value.run m' ρ')⟩
  funext i
  obtain ⟨h, A, q, l, rfl⟩ : ∃ (h : Fin 12) (A : Fin 8) (q : Fin 128) (l : Fin 2048), i = ix4 h A q l := ⟨i 0, i 1, i 2, i 3, eq_ix4 i⟩
  refine (Cert.Pdil16RefIdeal.Hand.res_at (Cert.GatesRefIdeal.Hand.proj (m' ((c.tc : Thread Cert.Pdil16RefIdeal.nD Cert.Pdil16RefIdeal.τ).loc Cert.Pdil16RefIdeal.main_arg0)) (m' ((c.tc : Thread Cert.Pdil16RefIdeal.nD Cert.Pdil16RefIdeal.τ).loc Cert.Pdil16RefIdeal.main_arg1))) h A q l).trans ?_
  rw [(hag c).1, (hag c).2]
  simp only [Cert.GatesRefIdeal.Hand.proj_at]
  exact (Cert.Pdil16Ideal.Hand.val_at m c h A q l).symm

end Cert.Proof.Pdil16
-- ==== Proof.QaClaim.lean ====
module

public import proofs.«01_k».proof.Defs
public import proofs.«01_k».proof.Proof.Gen.QaIdeal.Value
public import proofs.«01_k».proof.Proof.Gen.QaRefIdeal.Run
public import proofs.«01_k».proof.Proof.GatesClaim
public import proofs.«01_k».proof.Proof.RopeTables
public import Idealize.ShloMosaic.Lib.Pipeline.ValueKit.Tiles

@[expose] public section

set_option maxRecDepth 16384

noncomputable section

namespace Cert.QaIdeal.Hand

open Cert.QaIdeal Cert.QaIdeal.Gen Cert.QaIdeal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The factor of the queries. -/
def sc : EReal := Scalar.ofBits (F := Ideal) .f32 0x3E0293EE#32

/-- What the host hands the call: the queries' columns, lanes first. -/
theorem V23 : V m c main_v23 = (transpose S1024x2048 [1, 0] (extractStridedSlice S2048x1024 ![0, 0] (truncf .bf16 (W m c) bitsLt_bf16_f32 : FVec Ideal S2048x11288 .bf16)
    slices_S2048x11288_S2048x1024_0_0) transposes_S2048x1024_S1024x2048_1_0 : FVec Ideal S1024x2048 .bf16) := by
  unfold_abbrev_sides; after_results

/-- The tables of cosines and of signed sines, lanes first. -/
theorem V24 : V m c main_v24 = (transpose S128x16384 [1, 0] (concatenate S16384x128 1 [⟨S16384x64, cosT⟩, ⟨S16384x64, cosT⟩] concatenates_S16384x64_S16384x64_S16384x128_d1) transposes_S16384x128_S128x16384_1_0 : FVec Ideal S128x16384 .f32) := by
  unfold_abbrev_sides; after_results; rfl

@[inherit_doc V24] theorem V25 : V m c main_v25 = (transpose S128x16384 [1, 0] (concatenate S16384x128 1 [⟨S16384x64, Host.negf sinT⟩, ⟨S16384x64, sinT⟩] concatenates_S16384x64_S16384x64_S16384x128_d1) transposes_S16384x128_S128x16384_1_0 : FVec Ideal S128x16384 .f32) := by
  unfold_abbrev_sides; after_results; rfl

theorem cols_at (w : FVec Ideal S2048x11288 .f32) (n : Fin 1024) (k : Fin 2048) :
    transpose S1024x2048 [1, 0] (extractStridedSlice S2048x1024 ![0, 0] (truncf .bf16 w bitsLt_bf16_f32 : FVec Ideal S2048x11288 .bf16) slices_S2048x11288_S2048x1024_0_0) transposes_S2048x1024_S1024x2048_1_0 (ix2 n k)
      = w (ix2 k ⟨n.val, by omega⟩) := by
  pointwise []

/-- A table with its lanes first. -/
theorem flip_at (y : FVec Ideal S16384x128 .f32) (d : Fin 128) (t : Fin 16384) : transpose S128x16384 [1, 0] y transposes_S16384x128_S128x16384_1_0 (ix2 d t) = y (ix2 t d) := by
  pointwise []

theorem index_facts : ∀ t : Fin cfg0.N, win0_0.index t (0 : Fin 2) = 0 ∧ win0_0.index t (1 : Fin 2) = 0 ∧ win0_1.index t (0 : Fin 2) = t.val ∧ win0_1.index t (1 : Fin 2) = 0 ∧ win0_2.index t (0 : Fin 2) = 0 ∧ win0_2.index t (1 : Fin 2) = t.val ∧ win0_3.index t (0 : Fin 2) = 0 ∧ win0_3.index t (1 : Fin 2) = t.val ∧ win0_4.index t (0 : Fin 2) = 0 ∧ win0_4.index t (1 : Fin 2) = t.val ∧ win0_5.index t (0 : Fin 2) = 0 ∧ win0_5.index t (1 : Fin 2) = t.val ∧ win0_4.flush t = true ∧ win0_5.flush t = true :=
  (by decide +kernel : ∀ t : Fin grid0.N, win0_0.index t (0 : Fin 2) = 0 ∧ win0_0.index t (1 : Fin 2) = 0 ∧ win0_1.index t (0 : Fin 2) = t.val ∧ win0_1.index t (1 : Fin 2) = 0 ∧ win0_2.index t (0 : Fin 2) = 0 ∧ win0_2.index t (1 : Fin 2) = t.val ∧ win0_3.index t (0 : Fin 2) = 0 ∧ win0_3.index t (1 : Fin 2) = t.val ∧ win0_4.index t (0 : Fin 2) = 0 ∧ win0_4.index t (1 : Fin 2) = t.val ∧ win0_5.index t (0 : Fin 2) = 0 ∧ win0_5.index t (1 : Fin 2) = t.val ∧ win0_4.flush t = true ∧ win0_5.flush t = true)

theorem lt_N (t : Fin cfg0.N) : t.val < 16 := by have hN : cfg0.N = 16 := N_0; have := t.isLt; omega

/-- Row `r` of block `t`. -/
abbrev row (t : Fin cfg0.N) (r : Fin 1024) : Fin 16384 := ⟨1024 * t.val + r.val, by have := lt_N t; omega⟩

theorem blk0_at (t : Fin cfg0.N) (n : Fin 1024) (k : Fin 2048) :
    (iblk m c 0 t : FVec Ideal S1024x2048 .bf16) (ix2 n k) = W m c (ix2 k ⟨n.val, by omega⟩) := by
  have hi := index_facts t
  unfold iblk
  rw [View.read_apply]
  show V m c main_v23 _ = _
  rw [V23]
  refine Eq.trans ?_ (cols_at (W m c) n k)
  congr 1
  funext a
  apply Fin.ext
  match a with
  | ⟨0, _⟩ => show win0_0.index t 0 * 1024 + 1 * n.val = n.val; rw [hi.1]; omega
  | ⟨1, _⟩ => show win0_0.index t 1 * 2048 + 1 * k.val = k.val; rw [hi.2.1]; omega

theorem blk1_at (t : Fin cfg0.N) (r : Fin 1024) (k : Fin 2048) :
    (iblk m c 1 t : FVec Ideal S1024x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_1.index t 0 * 1024 + 1 * r.val = 1024 * t.val + r.val; rw [hi.2.2.1]; omega
  | ⟨1, _⟩ => show win0_1.index t 1 * 2048 + 1 * k.val = k.val; rw [hi.2.2.2.1]; omega

theorem blk2_at (t : Fin cfg0.N) (d : Fin 128) (r : Fin 1024) :
    (iblk m c 2 t : FVec Ideal S128x1024 .f32) (ix2 d r) = cosT (ix2 (row t r) (Proj.low d)) := by
  have hi := index_facts t
  unfold iblk
  rw [View.read_apply]
  show V m c main_v24 _ = _
  rw [V24]
  refine Eq.trans ?_ ((flip_at _ d (row t r)).trans (Proj.cos_table_at cosT concatenates_S16384x64_S16384x64_S16384x128_d1 (row t r) d))
  congr 1
  funext a
  apply Fin.ext
  match a with
  | ⟨0, _⟩ => show win0_2.index t 0 * 128 + 1 * d.val = d.val; rw [hi.2.2.2.2.1]; omega
  | ⟨1, _⟩ => show win0_2.index t 1 * 1024 + 1 * r.val = 1024 * t.val + r.val; rw [hi.2.2.2.2.2.1]; omega

theorem blk3_at (t : Fin cfg0.N) (d : Fin 128) (r : Fin 1024) :
    (iblk m c 3 t : FVec Ideal S128x1024 .f32) (ix2 d r) = if d.val < 64 then -sinT (ix2 (row t r) (Proj.low d)) else sinT (ix2 (row t r) (Proj.low d)) := by
  have hi := index_facts t
  unfold iblk
  rw [View.read_apply]
  show V m c main_v25 _ = _
  rw [V25]
  refine Eq.trans ?_ ((flip_at _ d (row t r)).trans (Proj.sin_table_at sinT concatenates_S16384x64_S16384x64_S16384x128_d1 (row t r) d))
  congr 1
  funext a
  apply Fin.ext
  match a with
  | ⟨0, _⟩ => show win0_3.index t 0 * 128 + 1 * d.val = d.val; rw [hi.2.2.2.2.2.2.1]; omega
  | ⟨1, _⟩ => show win0_3.index t 1 * 1024 + 1 * r.val = 1024 * t.val + r.val; rw [hi.2.2.2.2.2.2.2.1]; omega

theorem pay2_at (w x : FVec Ideal S1024x2048 .bf16) (n r : Fin 1024) :
    (k0_pay2 w x : FVec Ideal S1024x1024 .f32) (ix2 n r) = ∑ k : Fin 2048, w (ix2 n k) * x (ix2 r k) := by
  pointwise [k0_pay2]

/-- A head's lanes times the factor. -/
theorem headQ (p : FVec Ideal S1024x1024 .f32) (o : ℕ) (ho : o + 128 ≤ 1024) (hs : Shape.Slices S1024x1024 ![o, 0] S128x1024) (d : Fin 128) (r : Fin 1024) :
    (truncf .bf16 (mulf (extractStridedSlice S128x1024 ![o, 0] p hs) (broadcast S128x1024 (Scalar.ofBits (F := Ideal) .f32 0x3E0293EE#32))) bitsLt_bf16_f32 : FVec Ideal S128x1024 .bf16) (ix2 d r)
      = p (ix2 ⟨o + d.val, by omega⟩ r) * sc := by
  show extractStridedSlice S128x1024 ![o, 0] p hs (ix2 d r) * sc = _
  congr 1
  pointwise []

/-- A head's rotated lanes times the factor. -/
theorem headR (p : FVec Ideal S1024x1024 .f32) (a b : FVec Ideal S128x1024 .f32) (o : ℕ) (ho : o + 128 ≤ 1024) (hs : Shape.Slices S1024x1024 ![o, 0] S128x1024) (d : Fin 128) (r : Fin 1024) :
    (truncf .bf16 (mulf (addf (mulf (extractStridedSlice S128x1024 ![o, 0] p hs) (shapeCast S128x1024 a shapeCasts_S128x1024_S128x1024))
        (mulf (dynamicRotate 0 64#32 none (extractStridedSlice S128x1024 ![o, 0] p hs) rotates_S128x1024_d0) (shapeCast S128x1024 b shapeCasts_S128x1024_S128x1024)))
        (broadcast S128x1024 (Scalar.ofBits (F := Ideal) .f32 0x3E0293EE#32))) bitsLt_bf16_f32 : FVec Ideal S128x1024 .bf16) (ix2 d r)
      = (p (ix2 ⟨o + d.val, by omega⟩ r) * a (ix2 d r) + p (ix2 ⟨o + (Proj.opp d).val, by omega⟩ r) * b (ix2 d r)) * sc := by
  have hr := Proj.rotate_at_t (extractStridedSlice S128x1024 ![o, 0] p hs) (shapeCast S128x1024 a shapeCasts_S128x1024_S128x1024) (shapeCast S128x1024 b shapeCasts_S128x1024_S128x1024) rotates_S128x1024_d0 d r
  have hc : ∀ y : FVec Ideal S128x1024 .f32, shapeCast S128x1024 y shapeCasts_S128x1024_S128x1024 (ix2 d r) = y (ix2 d r) := fun y => by pointwise []
  have hx : ∀ e : Fin 128, extractStridedSlice S128x1024 ![o, 0] p hs (ix2 e r) = p (ix2 ⟨o + e.val, by omega⟩ r) := fun e => by pointwise []
  rw [hx, hx, hc, hc] at hr
  exact congrArg (fun v : EReal => v * sc) hr

theorem out4_at (w x : FVec Ideal S1024x2048 .bf16) (a b : FVec Ideal S128x1024 .f32) (n r : Fin 1024) :
    (out0_4 (F := Ideal) w x a b : Vec Ideal S1024x1024 .bf16) (ix2 n r) = (k0_pay2 (F := Ideal) w x : FVec Ideal S1024x1024 .f32) (ix2 n r) * sc := by
  have hz : (![0, 0] : Fin 2 → ℕ) = 0 := by decide
  unfold out0_4 k0_pay29
  simp only [View.ld_unit_zero (S := S1024x2048) hz]
  canon_tiles y e
  · obtain ⟨d', r', rfl⟩ : ∃ (d' : Fin 128) (r' : Fin 1024), y = ix2 d' r' := ⟨y 0, y 1, eq_ix2 y⟩
    obtain rfl : r = r' := Fin.ext e1
    obtain rfl : n = ⟨896 + d'.val, Nat.lt_of_lt_of_le (Nat.add_lt_add_left d'.isLt 896) (by decide)⟩ := Fin.ext (e0)
    exact headQ (k0_pay2 (F := Ideal) w x) 896 (by decide) slices_S1024x1024_o896_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨768 + d'.val, Nat.lt_of_lt_of_le (Nat.add_lt_add_left d'.isLt 768) (by decide)⟩ := Fin.ext (e0)
    exact headQ (k0_pay2 (F := Ideal) w x) 768 (by decide) slices_S1024x1024_o768_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨640 + d'.val, Nat.lt_of_lt_of_le (Nat.add_lt_add_left d'.isLt 640) (by decide)⟩ := Fin.ext (e0)
    exact headQ (k0_pay2 (F := Ideal) w x) 640 (by decide) slices_S1024x1024_o640_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨512 + d'.val, Nat.lt_of_lt_of_le (Nat.add_lt_add_left d'.isLt 512) (by decide)⟩ := Fin.ext (e0)
    exact headQ (k0_pay2 (F := Ideal) w x) 512 (by decide) slices_S1024x1024_o512_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨384 + d'.val, Nat.lt_of_lt_of_le (Nat.add_lt_add_left d'.isLt 384) (by decide)⟩ := Fin.ext (e0)
    exact headQ (k0_pay2 (F := Ideal) w x) 384 (by decide) slices_S1024x1024_o384_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨256 + d'.val, Nat.lt_of_lt_of_le (Nat.add_lt_add_left d'.isLt 256) (by decide)⟩ := Fin.ext (e0)
    exact headQ (k0_pay2 (F := Ideal) w x) 256 (by decide) slices_S1024x1024_o256_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨128 + d'.val, Nat.lt_of_lt_of_le (Nat.add_lt_add_left d'.isLt 128) (by decide)⟩ := Fin.ext (e0)
    exact headQ (k0_pay2 (F := Ideal) w x) 128 (by decide) slices_S1024x1024_o128_0_S128x1024 d' r
  · obtain ⟨d', r', rfl⟩ : ∃ (d' : Fin 128) (r' : Fin 1024), y = ix2 d' r' := ⟨y 0, y 1, eq_ix2 y⟩
    obtain rfl : r = r' := Fin.ext e1
    obtain rfl : n = ⟨0 + d'.val, Nat.lt_of_lt_of_le (Nat.add_lt_add_left d'.isLt 0) (by decide)⟩ := Fin.ext (Eq.trans e0 (Nat.zero_add _).symm)
    exact headQ (k0_pay2 (F := Ideal) w x) 0 (by decide) slices_S1024x1024_o0_0_S128x1024 d' r

theorem out5_at (w x : FVec Ideal S1024x2048 .bf16) (a b : FVec Ideal S128x1024 .f32) (h : Fin 8) (d : Fin 128) (r : Fin 1024) :
    (out0_5 (F := Ideal) w x a b : Vec Ideal S1024x1024 .bf16) (ix2 ⟨128 * h.val + d.val, by omega⟩ r)
      = ((k0_pay2 (F := Ideal) w x : FVec Ideal S1024x1024 .f32) (ix2 ⟨128 * h.val + d.val, by omega⟩ r) * a (ix2 d r)
        + (k0_pay2 (F := Ideal) w x : FVec Ideal S1024x1024 .f32) (ix2 ⟨128 * h.val + (Proj.opp d).val, by omega⟩ r) * b (ix2 d r)) * sc := by
  have hz : (![0, 0] : Fin 2 → ℕ) = 0 := by decide
  unfold out0_5 k0_pay31 k0_pay30 k0_pay29
  simp only [View.ld_unit_zero (S := S1024x2048) hz, View.ld_unit_zero (S := S128x1024) hz]
  canon_tiles y e
  · obtain ⟨d', r', rfl⟩ : ∃ (d' : Fin 128) (r' : Fin 1024), y = ix2 d' r' := ⟨y 0, y 1, eq_ix2 y⟩
    obtain rfl : r = r' := Fin.ext e1
    have e : 128 * h.val + d.val = 896 + d'.val := e0
    obtain rfl : h = 7 := Fin.ext (by have := d'.isLt; have := d.isLt; show h.val = 7; omega)
    obtain rfl : d = d' := Fin.ext (by have e : 128 * 7 + d.val = 896 + d'.val := e; omega)
    exact headR (k0_pay2 (F := Ideal) w x) a b 896 (by decide) slices_S1024x1024_o896_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 768 + d'.val := e0
    obtain rfl : h = 6 := Fin.ext (by have := d'.isLt; have := d.isLt; show h.val = 6; omega)
    obtain rfl : d = d' := Fin.ext (by have e : 128 * 6 + d.val = 768 + d'.val := e; omega)
    exact headR (k0_pay2 (F := Ideal) w x) a b 768 (by decide) slices_S1024x1024_o768_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 640 + d'.val := e0
    obtain rfl : h = 5 := Fin.ext (by have := d'.isLt; have := d.isLt; show h.val = 5; omega)
    obtain rfl : d = d' := Fin.ext (by have e : 128 * 5 + d.val = 640 + d'.val := e; omega)
    exact headR (k0_pay2 (F := Ideal) w x) a b 640 (by decide) slices_S1024x1024_o640_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 512 + d'.val := e0
    obtain rfl : h = 4 := Fin.ext (by have := d'.isLt; have := d.isLt; show h.val = 4; omega)
    obtain rfl : d = d' := Fin.ext (by have e : 128 * 4 + d.val = 512 + d'.val := e; omega)
    exact headR (k0_pay2 (F := Ideal) w x) a b 512 (by decide) slices_S1024x1024_o512_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 384 + d'.val := e0
    obtain rfl : h = 3 := Fin.ext (by have := d'.isLt; have := d.isLt; show h.val = 3; omega)
    obtain rfl : d = d' := Fin.ext (by have e : 128 * 3 + d.val = 384 + d'.val := e; omega)
    exact headR (k0_pay2 (F := Ideal) w x) a b 384 (by decide) slices_S1024x1024_o384_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 256 + d'.val := e0
    obtain rfl : h = 2 := Fin.ext (by have := d'.isLt; have := d.isLt; show h.val = 2; omega)
    obtain rfl : d = d' := Fin.ext (by have e : 128 * 2 + d.val = 256 + d'.val := e; omega)
    exact headR (k0_pay2 (F := Ideal) w x) a b 256 (by decide) slices_S1024x1024_o256_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 128 + d'.val := e0
    obtain rfl : h = 1 := Fin.ext (by have := d'.isLt; have := d.isLt; show h.val = 1; omega)
    obtain rfl : d = d' := Fin.ext (by have e : 128 * 1 + d.val = 128 + d'.val := e; omega)
    exact headR (k0_pay2 (F := Ideal) w x) a b 128 (by decide) slices_S1024x1024_o128_0_S128x1024 d r
  · obtain ⟨d', r', rfl⟩ : ∃ (d' : Fin 128) (r' : Fin 1024), y = ix2 d' r' := ⟨y 0, y 1, eq_ix2 y⟩
    obtain rfl : r = r' := Fin.ext e1
    have e : 128 * h.val + d.val = 0 + d'.val := Eq.trans e0 (Nat.zero_add _).symm
    obtain rfl : h = 0 := Fin.ext (by have := d'.isLt; have := d.isLt; show h.val = 0; omega)
    obtain rfl : d = d' := Fin.ext (by have e : 128 * 0 + d.val = 0 + d'.val := e; omega)
    exact headR (k0_pay2 (F := Ideal) w x) a b 0 (by decide) slices_S1024x1024_o0_0_S128x1024 d r

/-- The blocks' columns and rows. -/
abbrev wblk (t : Fin cfg0.N) : FVec Ideal S1024x2048 .bf16 := iblk m c 0 t
@[inherit_doc wblk] abbrev xblk (t : Fin cfg0.N) : FVec Ideal S1024x2048 .bf16 := iblk m c 1 t

theorem dot_at (u : Fin cfg0.N) (n r : Fin 1024) : (k0_pay2 (F := Ideal) (wblk m c u) (xblk m c u) : FVec Ideal S1024x1024 .f32) (ix2 n r) = Proj.dot (X m c) (W m c) (row u r) ⟨n.val, by omega⟩ := by
  refine (pay2_at _ _ n r).trans ?_
  unfold Proj.dot
  exact Finset.sum_congr rfl fun k _ => (congrArg₂ (fun a b : EReal => a * b) (blk0_at m c u n k) (blk1_at m c u r k)).trans (mul_comm _ _)

/-- The kernel's first result: the queries times the factor. -/
theorem val4_at (n : Fin 1024) (t : Fin 16384) :
    ((dats m 0 c).arrAt 4 cfg0.N : FVec Ideal S1024x16384 .bf16) (ix2 n t) = Proj.dot (X m c) (W m c) t ⟨n.val, by omega⟩ * sc := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks4 m c u hi.2.2.2.2.2.2.2.2.2.2.2.2.1) (ix2 n r)
  rw [View.read_apply] at hb
  refine Eq.trans ?_ (hb.trans ?_)
  · congr 1
    funext a
    apply Fin.ext
    match a with
    | ⟨0, _⟩ => show (n : Fin 1024).val = win0_4.index u 0 * 1024 + 1 * (n : Fin 1024).val; rw [hi.2.2.2.2.2.2.2.2.1]; omega
    | ⟨1, _⟩ => show 1024 * u.val + r.val = win0_4.index u 1 * 1024 + 1 * r.val; rw [hi.2.2.2.2.2.2.2.2.2.1]; omega
  · rw [flushed4]
    show out0_4 _ _ _ _ (ix2 n r) = _
    rw [out4_at]
    exact congrArg (fun v : EReal => v * sc) (dot_at m c u n r)
/-- The kernel's second result: the rotated queries times the factor. -/
theorem val5_at (h : Fin 8) (d : Fin 128) (t : Fin 16384) :
    ((dats m 0 c).arrAt 5 cfg0.N : FVec Ideal S1024x16384 .bf16) (ix2 ⟨128 * h.val + d.val, by omega⟩ t) = rotAt (fun e => Proj.dot (X m c) (W m c) t ⟨128 * h.val + e.val, by omega⟩) t d * sc := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks5 m c u hi.2.2.2.2.2.2.2.2.2.2.2.2.2) (ix2 ⟨128 * h.val + d.val, by omega⟩ r)
  rw [View.read_apply] at hb
  refine Eq.trans ?_ (hb.trans ?_)
  · congr 1
    funext a
    apply Fin.ext
    match a with
    | ⟨0, _⟩ => show (⟨128 * h.val + d.val, by omega⟩ : Fin 1024).val = win0_5.index u 0 * 1024 + 1 * (⟨128 * h.val + d.val, by omega⟩ : Fin 1024).val; rw [hi.2.2.2.2.2.2.2.2.2.2.1]; omega
    | ⟨1, _⟩ => show 1024 * u.val + r.val = win0_5.index u 1 * 1024 + 1 * r.val; rw [hi.2.2.2.2.2.2.2.2.2.2.2.1]; omega
  · rw [flushed5]
    show out0_5 _ _ _ _ (ix2 ⟨128 * h.val + d.val, by omega⟩ r) = _
    rw [out5_at, blk2_at, blk3_at]
    refine congrArg (fun v : EReal => v * sc) ?_
    exact congrArg₂ (fun a b : EReal => a * _ + b * _) (dot_at m c u ⟨128 * h.val + d.val, by omega⟩ r) (dot_at m c u ⟨128 * h.val + (Proj.opp d).val, by omega⟩ r)

end Cert.QaIdeal.Hand

namespace Cert.QaRefIdeal.Hand

open Cert.QaRefIdeal Cert.QaRefIdeal.Gen Cert.QaRefIdeal.Value Idealize.ShloMosaic Idealize.ShloMosaic.TcCoe Idealize.SL.Sem
open Cert.KWinRefIdeal.Hand (cosT sinT rotAt)
open Cert.QaIdeal.Hand (sc)

/-- The queries, head first. -/
def qs (p : FVec Ideal S16384x11288 .f32) : FVec Ideal S8x16384x128 .f32 :=
  transpose S8x16384x128 [1, 0, 2] (shapeCast S16384x8x128 (extractStridedSlice S16384x1024 ![0, 0] p slices_S16384x11288_S16384x1024_0_0) shapeCasts_S16384x1024_S16384x8x128) transposes_S16384x8x128_S8x16384x128_1_0_2

theorem qs_at (p : FVec Ideal S16384x11288 .f32) (h : Fin 8) (t : Fin 16384) (d : Fin 128) : qs p (ix3 h t d) = p (ix2 t ⟨128 * h.val + d.val, by omega⟩) :=
  (Proj.heads_at 0 p slices_S16384x11288_S16384x1024_0_0 shapeCasts_S16384x1024_S16384x8x128 transposes_S16384x8x128_S8x16384x128_1_0_2 rfl (by decide) h t d).trans
    (congrArg (fun j => p (ix2 t j)) (Fin.ext (Nat.zero_add _)))

/-- The rotary embedding of eight heads. -/
def rope8 (x : FVec Ideal S8x16384x128 .f32) : FVec Ideal S8x16384x128 .f32 :=
  concatenate S8x16384x128 2
    [⟨S8x16384x64, subf (mulf (extractStridedSlice S8x16384x64 ![0, 0, 0] x slices_S8x16384x128_S8x16384x64_0_0_0) (broadcastInDim S8x16384x64 ![0, 1, 2] bcast_S1x16384x64_S8x16384x64_0_1_2 (broadcastInDim S1x16384x64 ![1, 2] bcast_S16384x64_S1x16384x64_1_2 cosT))) (mulf (extractStridedSlice S8x16384x64 ![0, 0, 64] x slices_S8x16384x128_S8x16384x64_0_0_64) (broadcastInDim S8x16384x64 ![0, 1, 2] bcast_S1x16384x64_S8x16384x64_0_1_2 (broadcastInDim S1x16384x64 ![1, 2] bcast_S16384x64_S1x16384x64_1_2 sinT)))⟩,
     ⟨S8x16384x64, addf (mulf (extractStridedSlice S8x16384x64 ![0, 0, 64] x slices_S8x16384x128_S8x16384x64_0_0_64) (broadcastInDim S8x16384x64 ![0, 1, 2] bcast_S1x16384x64_S8x16384x64_0_1_2 (broadcastInDim S1x16384x64 ![1, 2] bcast_S16384x64_S1x16384x64_1_2 cosT))) (mulf (extractStridedSlice S8x16384x64 ![0, 0, 0] x slices_S8x16384x128_S8x16384x64_0_0_0) (broadcastInDim S8x16384x64 ![0, 1, 2] bcast_S1x16384x64_S8x16384x64_0_1_2 (broadcastInDim S1x16384x64 ![1, 2] bcast_S16384x64_S1x16384x64_1_2 sinT)))⟩]
    concatenates_S8x16384x64_S8x16384x64_S8x16384x128_d2

theorem rope8_at (x : FVec Ideal S8x16384x128 .f32) (h : Fin 8) (t : Fin 16384) (d : Fin 128) : rope8 x (ix3 h t d) = rotAt (fun e => x (ix3 h t e)) t d :=
  Proj.rope_at x cosT sinT _ _ _ _ _ h t d

/-- Heads times the factor, laid out lanes first and positions last. -/
def lanes (x : FVec Ideal S8x16384x128 .f32) : FVec Ideal S1024x16384 .bf16 :=
  truncf .bf16 (shapeCast S1024x16384 (transpose S8x128x16384 [0, 2, 1] (mulf x (broadcastInDim S8x16384x128 ![] bcast_S_S8x16384x128 (constant S_ .f32 0x3E0293EE#32)))
    transposes_S8x16384x128_S8x128x16384_0_2_1) shapeCasts_S8x128x16384_S1024x16384) bitsLt_bf16_f32

theorem lanes_at (x : FVec Ideal S8x16384x128 .f32) (h : Fin 8) (d : Fin 128) (t : Fin 16384) : lanes x (ix2 ⟨128 * h.val + d.val, by omega⟩ t) = x (ix3 h t d) * sc := by
  unfold lanes
  have e0 : ∀ y : FVec Ideal S8x16384x128 .f32, transpose S8x128x16384 [0, 2, 1] y transposes_S8x16384x128_S8x128x16384_0_2_1 (ix3 h d t) = y (ix3 h t d) := fun y => by pointwise []
  have e1 := e0 (mulf x (broadcastInDim S8x16384x128 ![] bcast_S_S8x16384x128 (constant S_ .f32 0x3E0293EE#32)))
  generalize transpose S8x128x16384 [0, 2, 1] (mulf x (broadcastInDim S8x16384x128 ![] bcast_S_S8x16384x128 (constant S_ .f32 0x3E0293EE#32))) transposes_S8x16384x128_S8x128x16384_0_2_1 = y at e1
  show shapeCast S1024x16384 y shapeCasts_S8x128x16384_S1024x16384 _ = _
  rw [shapeCast_apply y shapeCasts_S8x128x16384_S1024x16384 _ (ix3 h d t) ?_]
  · exact e1
  · rw [Shape.rowMajor_val_three, Shape.rowMajor_val_two]
    show (h.val * 128 + d.val) * 16384 + t.val = (128 * h.val + d.val) * 16384 + t.val
    omega

end Cert.QaRefIdeal.Hand

namespace Cert.Proof.Qa

open Idealize.ShloMosaic Idealize.ShloMosaic.TcCoe Idealize.SL.Sem

/-- The queries and the rotated queries: kernel and plain program compute the same two arrays over the reals. -/
theorem algebraic : Cert.algebraic_QaIdeal_QaRefIdeal := by
  intro m ρ m' ρ' _ hag
  refine ⟨_, _, Cert.QaIdeal.Value.run_blocks m ρ,
    (θ_run _ _ _).mono (fun _ h c => ⟨(h c).1.trans ?_, (h c).2.1.trans ?_, (h c).2.2⟩) (Cert.QaRefIdeal.Value.run m' ρ')⟩
  · funext i
    obtain ⟨h, d, t, rfl⟩ : ∃ (h : Fin 8) (d : Fin 128) (t : Fin 16384), i = ix2 ⟨128 * h.val + d.val, by omega⟩ t := by
      obtain ⟨n, t, rfl⟩ : ∃ (n : Fin 1024) (t : Fin 16384), i = ix2 n t := ⟨i 0, i 1, eq_ix2 i⟩
      exact ⟨⟨n.val / 128, by omega⟩, ⟨n.val % 128, by omega⟩, t, congrArg (fun n => ix2 n t) (Fin.ext (by show n.val = 128 * (n.val / 128) + n.val % 128; omega))⟩
    refine (Cert.QaRefIdeal.Hand.lanes_at (Cert.QaRefIdeal.Hand.qs (Cert.GatesRefIdeal.Hand.proj (m' ((c.tc : Thread Cert.QaRefIdeal.nD Cert.QaRefIdeal.τ).loc Cert.QaRefIdeal.main_arg0)) (m' ((c.tc : Thread Cert.QaRefIdeal.nD Cert.QaRefIdeal.τ).loc Cert.QaRefIdeal.main_arg1)))) h d t).trans ?_
    rw [(hag c).1, (hag c).2, Cert.QaRefIdeal.Hand.qs_at, Cert.GatesRefIdeal.Hand.proj_at]
    exact (Cert.QaIdeal.Hand.val4_at m c ⟨128 * h.val + d.val, by omega⟩ t).symm
  · funext i
    obtain ⟨h, d, t, rfl⟩ : ∃ (h : Fin 8) (d : Fin 128) (t : Fin 16384), i = ix2 ⟨128 * h.val + d.val, by omega⟩ t := by
      obtain ⟨n, t, rfl⟩ : ∃ (n : Fin 1024) (t : Fin 16384), i = ix2 n t := ⟨i 0, i 1, eq_ix2 i⟩
      exact ⟨⟨n.val / 128, by omega⟩, ⟨n.val % 128, by omega⟩, t, congrArg (fun n => ix2 n t) (Fin.ext (by show n.val = 128 * (n.val / 128) + n.val % 128; omega))⟩
    refine (Cert.QaRefIdeal.Hand.lanes_at (Cert.QaRefIdeal.Hand.rope8 (Cert.QaRefIdeal.Hand.qs (Cert.GatesRefIdeal.Hand.proj (m' ((c.tc : Thread Cert.QaRefIdeal.nD Cert.QaRefIdeal.τ).loc Cert.QaRefIdeal.main_arg0)) (m' ((c.tc : Thread Cert.QaRefIdeal.nD Cert.QaRefIdeal.τ).loc Cert.QaRefIdeal.main_arg1))))) h d t).trans ?_
    rw [(hag c).1, (hag c).2, Cert.QaRefIdeal.Hand.rope8_at]
    simp only [Cert.QaRefIdeal.Hand.qs_at, Cert.GatesRefIdeal.Hand.proj_at]
    exact (Cert.QaIdeal.Hand.val5_at m c h d t).symm

end Cert.Proof.Qa
-- ==== Proof.CmpTokClaim.lean ====
module

public import proofs.«01_k».proof.Defs
public import proofs.«01_k».proof.Proof.Gen.CmpTokIdeal.Value
public import proofs.«01_k».proof.Proof.Gen.CmpTokRefIdeal.Run
public import proofs.«01_k».proof.Proof.GatesClaim
public import proofs.«01_k».proof.Proof.RopeHeads
public import Idealize.ShloMosaic.Lib.Pipeline.ValueKit.Tiles

@[expose] public section

set_option maxRecDepth 16384

noncomputable section

namespace Cert.CmpTokIdeal.Hand

open Cert.CmpTokIdeal Cert.CmpTokIdeal.Gen Cert.CmpTokIdeal.Value Idealize.ShloMosaic Idealize.ShloMosaic.TcCoe Idealize.SL.Sem

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The columns of the compressed branch's keys and values. -/
def cols (w : FVec Ideal S2048x11288 .f32) : FVec Ideal S2048x512 .bf16 :=
  concatenate S2048x512 1
    [⟨S2048x256, extractStridedSlice S2048x256 ![0, 1024] (truncf .bf16 w bitsLt_bf16_f32 : FVec Ideal S2048x11288 .bf16) slices_S2048x11288_S2048x256_0_1024⟩,
     ⟨S2048x256, extractStridedSlice S2048x256 ![0, 1280] (truncf .bf16 w bitsLt_bf16_f32 : FVec Ideal S2048x11288 .bf16) slices_S2048x11288_S2048x256_0_1280⟩]
    concatenates_S2048x256_S2048x256_S2048x512_d1

/-- What the host hands the call. -/
theorem V3 : V m c main_v3 = cols (W m c) := by
  unfold_abbrev_sides; after_results; rfl

theorem cols_at (w : FVec Ideal S2048x11288 .f32) (k : Fin 2048) (n : Fin 512) : cols w (ix2 k n) = w (ix2 k ⟨1024 + n.val, by omega⟩) := by
  have h1 : ∀ j : Fin 256, extractStridedSlice S2048x256 ![0, 1024] (truncf .bf16 w bitsLt_bf16_f32 : FVec Ideal S2048x11288 .bf16) slices_S2048x11288_S2048x256_0_1024 (ix2 k j) = w (ix2 k ⟨1024 + j.val, by omega⟩) := fun j => by
    pointwise []
  have h2 : ∀ j : Fin 256, extractStridedSlice S2048x256 ![0, 1280] (truncf .bf16 w bitsLt_bf16_f32 : FVec Ideal S2048x11288 .bf16) slices_S2048x11288_S2048x256_0_1280 (ix2 k j) = w (ix2 k ⟨1280 + j.val, by omega⟩) := fun j => by
    pointwise []
  unfold cols
  generalize extractStridedSlice S2048x256 ![0, 1024] (truncf .bf16 w bitsLt_bf16_f32 : FVec Ideal S2048x11288 .bf16) slices_S2048x11288_S2048x256_0_1024 = a at h1
  generalize extractStridedSlice S2048x256 ![0, 1280] (truncf .bf16 w bitsLt_bf16_f32 : FVec Ideal S2048x11288 .bf16) slices_S2048x11288_S2048x256_0_1280 = b at h2
  have hc : concatenate S2048x512 1 [⟨S2048x256, a⟩, ⟨S2048x256, b⟩] concatenates_S2048x256_S2048x256_S2048x512_d1 (ix2 k n)
      = if h : n.val < 256 then a (ix2 k ⟨n.val, h⟩) else b (ix2 k ⟨n.val - 256, by omega⟩) := by pointwise []
  refine hc.trans ?_
  split
  · exact h1 _
  · exact (h2 _).trans (congrArg (fun j => w (ix2 k j)) (Fin.ext (by show 1280 + (n.val - 256) = 1024 + n.val; omega)))

theorem index_facts : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 3) = 0 ∧ win0_2.index t (1 : Fin 3) = t.val ∧ win0_2.index t (2 : Fin 3) = 0 ∧ win0_2.flush t = true :=
  (by decide +kernel : ∀ t : Fin grid0.N, win0_0.index t (0 : Fin 2) = t.val ∧ win0_0.index t (1 : Fin 2) = 0 ∧ win0_1.index t (0 : Fin 2) = 0 ∧ win0_1.index t (1 : Fin 2) = 0 ∧ win0_2.index t (0 : Fin 3) = 0 ∧ win0_2.index t (1 : Fin 3) = t.val ∧ win0_2.index t (2 : Fin 3) = 0 ∧ win0_2.flush t = true)

theorem lt_N (t : Fin cfg0.N) : t.val < 16 := by have hN : cfg0.N = 16 := N_0; have := t.isLt; omega

/-- Row `r` of block `t`. -/
abbrev row (t : Fin cfg0.N) (r : Fin 1024) : Fin 16384 := ⟨1024 * t.val + r.val, by have := lt_N t; omega⟩

theorem blk0_at (t : Fin cfg0.N) (r : Fin 1024) (k : Fin 2048) :
    (iblk m c 0 t : FVec Ideal S1024x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * k.val = k.val; rw [hi.2.1]; omega

theorem blk1_at (t : Fin cfg0.N) (k : Fin 2048) (j : Fin 512) :
    (iblk m c 1 t : FVec Ideal S2048x512 .bf16) (ix2 k j) = W m c (ix2 k ⟨1024 + j.val, by omega⟩) := by
  have hi := index_facts t
  unfold iblk
  rw [View.read_apply]
  show V m c main_v3 _ = _
  rw [V3]
  refine Eq.trans ?_ (cols_at (W m c) k j)
  congr 1
  funext a
  apply Fin.ext
  match a with
  | ⟨0, _⟩ => show win0_1.index t 0 * 2048 + 1 * k.val = k.val; rw [hi.2.2.1]; omega
  | ⟨1, _⟩ => show win0_1.index t 1 * 512 + 1 * j.val = j.val; rw [hi.2.2.2.1]; omega

theorem pay1_at (x : FVec Ideal S1024x2048 .bf16) (w : FVec Ideal S2048x512 .bf16) (r : Fin 1024) (j : Fin 512) :
    (k0_pay1 x w : FVec Ideal S1024x512 .f32) (ix2 r j) = ∑ k : Fin 2048, x (ix2 r k) * w (ix2 k j) := by
  pointwise [k0_pay1]

theorem out_at (x : FVec Ideal S1024x2048 .bf16) (w : FVec Ideal S2048x512 .bf16) (h : Fin 4) (r : Fin 1024) (d : Fin 128) :
    (out0_2 (F := Ideal) x w : Vec Ideal S4x1024x128 .bf16) (ix3 h r d) = ∑ k : Fin 2048, x (ix2 r k) * w (ix2 k ⟨128 * h.val + d.val, by omega⟩) := by
  have hz : (![0, 0] : Fin 2 → ℕ) = 0 := by decide
  unfold out0_2
  simp only [View.ld_unit_zero (S := S1024x2048) hz, View.ld_unit_zero (S := S2048x512) hz]
  have hp : ∀ o : ℕ, ∀ ho : o + 128 ≤ 512, ∀ hs : Shape.Slices S1024x512 ![0, o] S1024x128, ∀ (z : Fin 1) (d' : Fin 128),
      (shapeCast S1x1024x128 (truncf .bf16 (extractStridedSlice S1024x128 ![0, o] (k0_pay1 (F := Ideal) x w) hs) bitsLt_bf16_f32) shapeCasts_S1024x128_S1x1024x128 : FVec Ideal S1x1024x128 .bf16) (ix3 z r d')
        = ∑ k : Fin 2048, x (ix2 r k) * w (ix2 k ⟨o + d'.val, by omega⟩) := fun o ho hs z d' => by
    refine Eq.trans ?_ (pay1_at x w r ⟨o + d'.val, by omega⟩)
    generalize (k0_pay1 (F := Ideal) x w) = p
    pointwise []
  canon_tiles y e
  · obtain ⟨z, r', d', rfl⟩ : ∃ (z : Fin 1) (r' : Fin 1024) (d' : Fin 128), y = ix3 z r' d' := ⟨y 0, y 1, y 2, eq_ix3 y⟩
    obtain rfl : h = 3 := Fin.ext (by have := z.isLt; have : h.val = 3 + z.val := e0; show h.val = 3; omega)
    obtain rfl : r = r' := Fin.ext e1
    obtain rfl : d = d' := Fin.ext e2
    exact hp 384 (by decide) _ z d
  · obtain ⟨z, r', d', rfl⟩ : ∃ (z : Fin 1) (r' : Fin 1024) (d' : Fin 128), y = ix3 z r' d' := ⟨y 0, y 1, y 2, eq_ix3 y⟩
    obtain rfl : h = 2 := Fin.ext (by have := z.isLt; have : h.val = 2 + z.val := e0; show h.val = 2; omega)
    obtain rfl : r = r' := Fin.ext e1
    obtain rfl : d = d' := Fin.ext e2
    exact hp 256 (by decide) _ z d
  · obtain ⟨z, r', d', rfl⟩ : ∃ (z : Fin 1) (r' : Fin 1024) (d' : Fin 128), y = ix3 z r' d' := ⟨y 0, y 1, y 2, eq_ix3 y⟩
    obtain rfl : h = 1 := Fin.ext (by have := z.isLt; have : h.val = 1 + z.val := e0; show h.val = 1; omega)
    obtain rfl : r = r' := Fin.ext e1
    obtain rfl : d = d' := Fin.ext e2
    exact hp 128 (by decide) _ z d
  · obtain ⟨z, r', d', rfl⟩ : ∃ (z : Fin 1) (r' : Fin 1024) (d' : Fin 128), y = ix3 z r' d' := ⟨y 0, y 1, y 2, eq_ix3 y⟩
    obtain rfl : h = 0 := Fin.ext (by have := z.isLt; have : h.val = z.val := e0; show h.val = 0; omega)
    obtain rfl : r = r' := Fin.ext e1
    obtain rfl : d = d' := Fin.ext e2
    exact hp 0 (by decide) _ z d

/-- The kernel's result: the keys' heads, then the values'. -/
theorem val_at (h : Fin 4) (t : Fin 16384) (d : Fin 128) :
    ((dats m 0 c).arrAt 2 cfg0.N : FVec Ideal S4x16384x128 .bf16) (ix3 h t d) = Proj.dot (X m c) (W m c) t ⟨1024 + (128 * h.val + d.val), by omega⟩ := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks2 m c u hi.2.2.2.2.2.2.2) (ix3 h r d)
  rw [View.read_apply] at hb
  refine Eq.trans ?_ (hb.trans ?_)
  · congr 1
    funext a
    apply Fin.ext
    match a with
    | ⟨0, _⟩ => show h.val = win0_2.index u 0 * 4 + 1 * h.val; rw [hi.2.2.2.2.1]; omega
    | ⟨1, _⟩ => show 1024 * u.val + r.val = win0_2.index u 1 * 1024 + 1 * r.val; rw [hi.2.2.2.2.2.1]; omega
    | ⟨2, _⟩ => show d.val = win0_2.index u 2 * 128 + 1 * d.val; rw [hi.2.2.2.2.2.2.1]; omega
  · rw [flushed2]
    show out0_2 _ _ (ix3 h r d) = _
    rw [out_at]
    unfold Proj.dot
    exact Finset.sum_congr rfl fun k _ => congrArg₂ (fun a b : EReal => a * b) (blk0_at m c u r k) (blk1_at m c u k _)

end Cert.CmpTokIdeal.Hand

namespace Cert.CmpTokRefIdeal.Hand

open Cert.CmpTokRefIdeal Cert.CmpTokRefIdeal.Gen Cert.CmpTokRefIdeal.Value Idealize.ShloMosaic Idealize.ShloMosaic.TcCoe Idealize.SL.Sem

/-- The plain program's result, in terms of all columns. -/
def res (p : FVec Ideal S16384x11288 .f32) : FVec Ideal S4x16384x128 .bf16 :=
  truncf .bf16 (concatenate S4x16384x128 0
    [⟨S2x16384x128, transpose S2x16384x128 [1, 0, 2] (shapeCast S16384x2x128 (extractStridedSlice S16384x256 ![0, 1024] p slices_S16384x11288_S16384x256_0_1024) shapeCasts_S16384x256_S16384x2x128) transposes_S16384x2x128_S2x16384x128_1_0_2⟩,
     ⟨S2x16384x128, transpose S2x16384x128 [1, 0, 2] (shapeCast S16384x2x128 (extractStridedSlice S16384x256 ![0, 1280] p slices_S16384x11288_S16384x256_0_1280) shapeCasts_S16384x256_S16384x2x128) transposes_S16384x2x128_S2x16384x128_1_0_2⟩]
    concatenates_S2x16384x128_S2x16384x128_S4x16384x128_d0) bitsLt_bf16_f32

theorem res_at (p : FVec Ideal S16384x11288 .f32) (h : Fin 4) (t : Fin 16384) (d : Fin 128) : res p (ix3 h t d) = p (ix2 t ⟨1024 + (128 * h.val + d.val), by omega⟩) := by
  have h1 := fun g : Fin 2 => Proj.heads_at 1024 p slices_S16384x11288_S16384x256_0_1024 shapeCasts_S16384x256_S16384x2x128 transposes_S16384x2x128_S2x16384x128_1_0_2 rfl (by decide) g t d
  have h2 := fun g : Fin 2 => Proj.heads_at 1280 p slices_S16384x11288_S16384x256_0_1280 shapeCasts_S16384x256_S16384x2x128 transposes_S16384x2x128_S2x16384x128_1_0_2 rfl (by decide) g t d
  unfold res
  generalize transpose S2x16384x128 [1, 0, 2] (shapeCast S16384x2x128 (extractStridedSlice S16384x256 ![0, 1024] p slices_S16384x11288_S16384x256_0_1024) shapeCasts_S16384x256_S16384x2x128) transposes_S16384x2x128_S2x16384x128_1_0_2 = a at h1 ⊢
  generalize transpose S2x16384x128 [1, 0, 2] (shapeCast S16384x2x128 (extractStridedSlice S16384x256 ![0, 1280] p slices_S16384x11288_S16384x256_0_1280) shapeCasts_S16384x256_S16384x2x128) transposes_S16384x2x128_S2x16384x128_1_0_2 = b at h2 ⊢
  have hc : (truncf .bf16 (concatenate S4x16384x128 0 [⟨S2x16384x128, a⟩, ⟨S2x16384x128, b⟩] concatenates_S2x16384x128_S2x16384x128_S4x16384x128_d0) bitsLt_bf16_f32 : FVec Ideal S4x16384x128 .bf16) (ix3 h t d)
      = if hh : h.val < 2 then a (ix3 ⟨h.val, hh⟩ t d) else b (ix3 ⟨h.val - 2, by omega⟩ t d) := by pointwise []
  refine hc.trans ?_
  split
  · exact h1 _
  · exact (h2 _).trans (congrArg (fun j => p (ix2 t j)) (Fin.ext (by show 1280 + (128 * (h.val - 2) + d.val) = 1024 + (128 * h.val + d.val); omega)))

end Cert.CmpTokRefIdeal.Hand

namespace Cert.Proof.CmpTok

open Idealize.ShloMosaic Idealize.ShloMosaic.TcCoe Idealize.SL.Sem

/-- The compressed branch's tokens: kernel and plain program compute the same array over the reals. -/
theorem algebraic : Cert.algebraic_CmpTokIdeal_CmpTokRefIdeal := by
  intro m ρ m' ρ' _ hag
  refine ⟨_, Cert.CmpTokIdeal.Value.run_blocks m ρ,
    (θ_run _ _ _).mono (fun _ h c => ⟨(h c).1.trans ?_, (h c).2⟩) (Cert.CmpTokRefIdeal.Value.run m' ρ')⟩
  funext i
  obtain ⟨h, t, d, rfl⟩ : ∃ (h : Fin 4) (t : Fin 16384) (d : Fin 128), i = ix3 h t d := ⟨i 0, i 1, i 2, eq_ix3 i⟩
  refine (Cert.CmpTokRefIdeal.Hand.res_at (Cert.GatesRefIdeal.Hand.proj (m' ((c.tc : Thread Cert.CmpTokRefIdeal.nD Cert.CmpTokRefIdeal.τ).loc Cert.CmpTokRefIdeal.main_arg0)) (m' ((c.tc : Thread Cert.CmpTokRefIdeal.nD Cert.CmpTokRefIdeal.τ).loc Cert.CmpTokRefIdeal.main_arg1))) h t d).trans ?_
  rw [(hag c).1, (hag c).2, Cert.GatesRefIdeal.Hand.proj_at]
  exact (Cert.CmpTokIdeal.Hand.val_at m c h t d).symm

end Cert.Proof.CmpTok
-- ==== Proof.KSlcClaim.lean ====
module

public import proofs.«01_k».proof.Defs
public import proofs.«01_k».proof.Proof.Gen.KSlcIdeal.Value
public import proofs.«01_k».proof.Proof.Gen.KSlcRefIdeal.Run
public import proofs.«01_k».proof.Proof.RopeTables
public import proofs.«01_k».proof.Proof.GatesClaim
public import Idealize.ShloMosaic.Lib.Pipeline.ValueKit.Tiles

@[expose] public section

set_option maxRecDepth 16384

noncomputable section

namespace Cert.KSlcIdeal.Hand

open Cert.KSlcIdeal Cert.KSlcIdeal.Gen Cert.KSlcIdeal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- What the host hands the call: the columns of the selected keys. -/
theorem V1 : V m c main_v1 = (extractStridedSlice S2048x256 ![0, 1536] (truncf .bf16 (W m c) bitsLt_bf16_f32 : FVec Ideal S2048x11288 .bf16)
    slices_S2048x11288_S2048x256_0_1536 : FVec Ideal S2048x256 .bf16) := by
  unfold_abbrev_sides; after_results

/-- The table of cosines and the table of signed sines. -/
theorem V20 : V m c main_v20 = (concatenate S16384x128 1 [⟨S16384x64, cosT⟩, ⟨S16384x64, cosT⟩] concatenates_S16384x64_S16384x64_S16384x128_d1 : FVec Ideal S16384x128 .f32) := by
  unfold_abbrev_sides; after_results; rfl

@[inherit_doc V20] theorem V22 : V m c main_v22 = (concatenate S16384x128 1 [⟨S16384x64, Host.negf sinT⟩, ⟨S16384x64, sinT⟩] concatenates_S16384x64_S16384x64_S16384x128_d1 : FVec Ideal S16384x128 .f32) := by
  unfold_abbrev_sides; after_results; rfl

theorem cols_at (w : FVec Ideal S2048x11288 .f32) (k : Fin 2048) (n : Fin 256) :
    extractStridedSlice S2048x256 ![0, 1536] (truncf .bf16 w bitsLt_bf16_f32 : FVec Ideal S2048x11288 .bf16) slices_S2048x11288_S2048x256_0_1536 (ix2 k n)
      = w (ix2 k ⟨1536 + n.val, by omega⟩) := by
  pointwise []

theorem index_facts : ∀ t : Fin cfg0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 ∧ win0_4.flush t = true ∧ (grid0.coords t 0).val = t.val :=
  (by decide +kernel : ∀ t : Fin grid0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 ∧ win0_4.flush t = true ∧ (grid0.coords t 0).val = t.val)

theorem lt_N (t : Fin cfg0.N) : t.val < 16 := by have hN : cfg0.N = 16 := N_0; have := t.isLt; omega

/-- Row `r` of block `t`. -/
abbrev row (t : Fin cfg0.N) (r : Fin 1024) : Fin 16384 := ⟨1024 * t.val + r.val, by have := lt_N t; omega⟩

/-- The blocks' rows and columns. -/
abbrev xblk (t : Fin cfg0.N) : FVec Ideal S1024x2048 .bf16 := iblk m c 0 t
@[inherit_doc xblk] abbrev wblk (t : Fin cfg0.N) : FVec Ideal S2048x256 .bf16 := iblk m c 1 t

theorem blk0_at (t : Fin cfg0.N) (r : Fin 1024) (k : Fin 2048) :
    (iblk m c 0 t : FVec Ideal S1024x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * k.val = k.val; rw [hi.2.1]; omega

theorem blk1_at (t : Fin cfg0.N) (k : Fin 2048) (j : Fin 256) :
    (iblk m c 1 t : FVec Ideal S2048x256 .bf16) (ix2 k j) = W m c (ix2 k ⟨1536 + j.val, by omega⟩) := by
  have hi := index_facts t
  unfold iblk
  rw [View.read_apply]
  show V m c main_v1 _ = _
  rw [V1]
  refine Eq.trans ?_ (cols_at (W m c) k j)
  congr 1
  funext a
  apply Fin.ext
  match a with
  | ⟨0, _⟩ => show win0_1.index t 0 * 2048 + 1 * k.val = k.val; rw [hi.2.2.1]; omega
  | ⟨1, _⟩ => show win0_1.index t 1 * 256 + 1 * j.val = j.val; rw [hi.2.2.2.1]; omega

theorem blk2_at (t : Fin cfg0.N) (r : Fin 1024) (d : Fin 128) :
    (iblk m c 2 t : FVec Ideal S1024x128 .f32) (ix2 r d) = cosT (ix2 (row t r) (Proj.low d)) := by
  have hi := index_facts t
  unfold iblk
  rw [View.read_apply]
  show V m c main_v20 _ = _
  rw [V20]
  refine Eq.trans ?_ (Proj.cos_table_at cosT concatenates_S16384x64_S16384x64_S16384x128_d1 (row t r) d)
  congr 1
  funext a
  apply Fin.ext
  match a with
  | ⟨0, _⟩ => show win0_2.index t 0 * 1024 + 1 * r.val = 1024 * t.val + r.val; rw [hi.2.2.2.2.1]; omega
  | ⟨1, _⟩ => show win0_2.index t 1 * 128 + 1 * d.val = d.val; rw [hi.2.2.2.2.2.1]; omega

theorem blk3_at (t : Fin cfg0.N) (r : Fin 1024) (d : Fin 128) :
    (iblk m c 3 t : FVec Ideal S1024x128 .f32) (ix2 r d) = if d.val < 64 then -sinT (ix2 (row t r) (Proj.low d)) else sinT (ix2 (row t r) (Proj.low d)) := by
  have hi := index_facts t
  unfold iblk
  rw [View.read_apply]
  show V m c main_v22 _ = _
  rw [V22]
  refine Eq.trans ?_ (Proj.sin_table_at sinT concatenates_S16384x64_S16384x64_S16384x128_d1 (row t r) d)
  congr 1
  funext a
  apply Fin.ext
  match a with
  | ⟨0, _⟩ => show win0_3.index t 0 * 1024 + 1 * r.val = 1024 * t.val + r.val; rw [hi.2.2.2.2.2.2.1]; omega
  | ⟨1, _⟩ => show win0_3.index t 1 * 128 + 1 * d.val = d.val; rw [hi.2.2.2.2.2.2.2.1]; omega

theorem pay3_at (x : FVec Ideal S1024x2048 .bf16) (w : FVec Ideal S2048x256 .bf16) (r : Fin 1024) (j : Fin 256) :
    (k0_pay3 x w : FVec Ideal S1024x256 .f32) (ix2 r j) = ∑ k : Fin 2048, x (ix2 r k) * w (ix2 k j) := by
  pointwise [k0_pay3]

/-- The selection block that the kernel computes for the position `x`, modulo the number of lanes: a quotient rounded down and a
remainder of the divisor's sign, from the machine's truncating ones. -/
def blockK (x : BitVec 32) : BitVec 32 :=
  let d : BitVec 32 := Scalar.select
    (IntOp.andi (IntOp.cmpi .ne (IntOp.subi ((IntOp.cmpi .sgt x 0#32).setWidth 32) ((IntOp.cmpi .slt x 0#32).setWidth 32))
        (Scalar.subi (Scalar.extui (Scalar.cmpi .sgt (64#32) 0#32)) (Scalar.extui (Scalar.cmpi .slt (64#32) 0#32))))
      (IntOp.cmpi .ne (IntOp.remsi .vector x 64#32) 0#32))
    (IntOp.subi (IntOp.divsi .vector x 64#32) 1#32) (IntOp.divsi .vector x 64#32)
  let n : BitVec 32 := Scalar.select (Scalar.cmpi .eq (128#32) 0#32) 1#32 128#32
  let r : BitVec 32 := IntOp.remsi .vector d n
  Scalar.select (IntOp.andi (IntOp.xori (IntOp.cmpi .slt r 0#32) (Scalar.cmpi .slt n 0#32)) (IntOp.cmpi .ne r 0#32)) (IntOp.addi r n) r

theorem blockK_eq : ∀ (i : Fin 16) (a : Fin 8) (q : Fin 128),
    blockK (IntOp.addi (Scalar.muli (BitVec.ofNat 32 i.val) 1024#32) (BitVec.ofNat 32 (128 * a.val + q.val))) = BitVec.ofNat 32 ((1024 * i.val + (128 * a.val + q.val)) / 64 % 128) := by
  decide +kernel

theorem blockK_at (i : ℕ) (hi : i < 16) (r : Fin 1024) :
    blockK (IntOp.addi (Scalar.muli (BitVec.ofNat 32 i) 1024#32) (BitVec.ofNat 32 r.val)) = BitVec.ofNat 32 ((1024 * i + r.val) / 64 % 128) := by
  have h := blockK_eq ⟨i, hi⟩ ⟨r.val / 128, by omega⟩ ⟨r.val % 128, by omega⟩
  have e : 128 * (r.val / 128) + r.val % 128 = r.val := by omega
  show blockK (IntOp.addi (Scalar.muli (BitVec.ofNat 32 i) 1024#32) (BitVec.ofNat 32 r.val)) = _
  simpa only [e] using h

/-- The indicator of a selection block at a lane. -/
def hot (b d : BitVec 32) : EReal := Scalar.select (IntOp.cmpi .eq b d) (Scalar.ofBits (F := Ideal) .f32 0x3F800000#32) (Scalar.ofBits (F := Ideal) .f32 0x00000000#32)

theorem hot_eq (b d : BitVec 32) : hot b d = FloatOps.uitofp (F := Ideal) .f32 (IntOp.cmpi .eq b d) := by
  show (if IntOp.cmpi .eq b d = 1 then (Ideal.ofBits .f32 0x3F800000#32 : EReal) else Ideal.ofBits .f32 0x00000000#32) = (((IntOp.cmpi .eq b d).toNat : ℝ) : EReal)
  have h1 : (Ideal.ofBits .f32 0x3F800000#32 : EReal) = 1 := by
    simp [Ideal.ofBits, Ideal.ieee]
    rw [← EReal.coe_mul]
    norm_num
  have h0 : (Ideal.ofBits .f32 0x00000000#32 : EReal) = 0 := by simp [Ideal.ofBits, Ideal.ieee]
  rw [h1, h0]
  obtain h | h : IntOp.cmpi .eq b d = 1#1 ∨ IntOp.cmpi .eq b d = 0#1 := by
    generalize IntOp.cmpi .eq b d = v
    revert v; decide
  · rw [h]
    exact (if_pos rfl).trans (by norm_num)
  · rw [h]
    exact (if_neg (by decide)).trans (by norm_num)

theorem pay12_at (i : grid0.Coords) (hi : (i 0).val < 16) (z : Fin 1) (r : Fin 1024) (d : Fin 128) :
    (k0_pay12 (F := Ideal) (iota .tc S1024x128 32 [1] iota_S1024x128_d1_w32) (k0_pay8 i) (k0_pay9 i) k0_pay10 : FVec Ideal S1x1024x128 .bf16) (ix3 z r d)
      = hot (BitVec.ofNat 32 ((1024 * (i 0).val + r.val) / 64 % 128)) (BitVec.ofNat 32 d.val) := by
  rw [← blockK_at _ hi r]
  have hs : ∀ y : FVec Ideal S1024x128 .f32, (shapeCast S1x1024x128 (truncf .bf16 y bitsLt_bf16_f32 : FVec Ideal S1024x128 .bf16) shapeCasts_S1024x128_S1x1024x128 : FVec Ideal S1x1024x128 .bf16) (ix3 z r d) = y (ix2 r d) := fun y => by pointwise []
  have e0 : (iota .tc S1024x128 32 [0] iota_S1024x128_d0_w32 : IVec S1024x128 32) (ix2 r d) = BitVec.ofNat 32 r.val := congrArg (BitVec.ofNat 32) (by show 0 * 1024 + r.val = r.val; omega)
  have e1 : (iota .tc S1024x128 32 [1] iota_S1024x128_d1_w32 : IVec S1024x128 32) (ix2 r d) = BitVec.ofNat 32 d.val := congrArg (BitVec.ofNat 32) (by show 0 * 128 + d.val = d.val; omega)
  refine (hs _).trans ?_
  rw [← e1, ← e0]
  rfl

theorem pay2_at (i : grid0.Coords) (hi : (i 0).val < 16) (z : Fin 1) (r : Fin 1024) (d : Fin 128) :
    (k0_pay2 (k0_pay16 (F := Ideal) (k0_pay14 (BitVec.ofNat 32 (i 0).val)) (iota .tc S1024x128 32 [1] iota_S1024x128_d1_w32) 64#32 k0_pay15) : FVec Ideal S1x1024x128 .bf16) (ix3 z r d)
      = hot (BitVec.ofNat 32 ((1024 * (i 0).val + r.val) / 64 % 128)) (BitVec.ofNat 32 d.val) := by
  refine Eq.trans ?_ (pay12_at i hi z r d)
  rfl

/-- What head `h` of the block holds: the rotated lanes of the columns' products. -/
def headAt (x : FVec Ideal S1024x2048 .bf16) (w : FVec Ideal S2048x256 .bf16) (a b : FVec Ideal S1024x128 .f32) (h : Fin 2) (r : Fin 1024) (d : Fin 128) : EReal :=
  (∑ k : Fin 2048, x (ix2 r k) * w (ix2 k ⟨128 * h.val + d.val, by omega⟩)) * a (ix2 r d)
    + (∑ k : Fin 2048, x (ix2 r k) * w (ix2 k ⟨128 * h.val + (Proj.opp d).val, by omega⟩)) * b (ix2 r d)

theorem headA_at (x : FVec Ideal S1024x2048 .bf16) (w : FVec Ideal S2048x256 .bf16) (a b : FVec Ideal S1024x128 .f32) (z : Fin 1) (r : Fin 1024) (d : Fin 128) :
    (k0_pay11 (F := Ideal) (k0_pay6 x w a b) : FVec Ideal S1x1024x128 .bf16) (ix3 z r d) = headAt x w a b 0 r d := by
  have hs : ∀ e : Fin 128, extractStridedSlice S1024x128 ![0, 0] (k0_pay3 (F := Ideal) x w) slices_S1024x256_o0_0_S1024x128 (ix2 r e) = ∑ k : Fin 2048, x (ix2 r k) * w (ix2 k ⟨128 * 0 + e.val, by omega⟩) := fun e => by
    refine Eq.trans ?_ (pay3_at x w r _)
    pointwise []
  have h := Proj.rotate_at (extractStridedSlice S1024x128 ![0, 0] (k0_pay3 (F := Ideal) x w) slices_S1024x256_o0_0_S1024x128) a b rotates_S1024x128_d1 r d
  rw [hs, hs] at h
  refine Eq.trans ?_ h
  unfold k0_pay11 k0_pay6 k0_pay4 k0_pay5
  generalize extractStridedSlice S1024x128 ![0, 0] (k0_pay3 (F := Ideal) x w) slices_S1024x256_o0_0_S1024x128 = y
  pointwise []

theorem headB_at (x : FVec Ideal S1024x2048 .bf16) (w : FVec Ideal S2048x256 .bf16) (a b : FVec Ideal S1024x128 .f32) (z : Fin 1) (r : Fin 1024) (d : Fin 128) :
    (k0_pay1 (F := Ideal) (k0_pay17 (k0_pay13 (k0_pay3 x w) (k0_pay4 a) (k0_pay5 b))) : FVec Ideal S1x1024x128 .bf16) (ix3 z r d) = headAt x w a b 1 r d := by
  have hs : ∀ e : Fin 128, extractStridedSlice S1024x128 ![0, 128] (k0_pay3 (F := Ideal) x w) slices_S1024x256_o0_128_S1024x128 (ix2 r e) = ∑ k : Fin 2048, x (ix2 r k) * w (ix2 k ⟨128 * 1 + e.val, by omega⟩) := fun e => by
    refine Eq.trans ?_ (pay3_at x w r _)
    pointwise []
  have h := Proj.rotate_at (extractStridedSlice S1024x128 ![0, 128] (k0_pay3 (F := Ideal) x w) slices_S1024x256_o0_128_S1024x128) a b rotates_S1024x128_d1 r d
  rw [hs, hs] at h
  refine Eq.trans ?_ h
  unfold k0_pay1 k0_pay17 k0_pay13 k0_pay4 k0_pay5
  generalize extractStridedSlice S1024x128 ![0, 128] (k0_pay3 (F := Ideal) x w) slices_S1024x256_o0_128_S1024x128 = y
  pointwise []

theorem out_at (i : grid0.Coords) (hi : (i 0).val < 16) (x : FVec Ideal S1024x2048 .bf16) (w : FVec Ideal S2048x256 .bf16) (a b : FVec Ideal S1024x128 .f32) (h : Fin 2) (r : Fin 1024) (l : Fin 256) :
    (out0_4 (F := Ideal) i x w a b : Vec Ideal S2x1024x256 .bf16) (ix3 h r l)
      = if hl : l.val < 128 then headAt x w a b h r ⟨l.val, hl⟩ else hot (BitVec.ofNat 32 ((1024 * (i 0).val + r.val) / 64 % 128)) (BitVec.ofNat 32 (l.val - 128)) := by
  have hz : (![0, 0] : Fin 2 → ℕ) = 0 := by decide
  unfold out0_4
  simp only [View.ld_unit_zero (S := S1024x2048) hz, View.ld_unit_zero (S := S2048x256) hz, View.ld_unit_zero (S := S1024x128) hz]
  canon_tiles y e
  · obtain ⟨z, r', d', rfl⟩ : ∃ (z : Fin 1) (r' : Fin 1024) (d' : Fin 128), y = ix3 z r' d' := ⟨y 0, y 1, y 2, eq_ix3 y⟩
    obtain rfl : h = 1 := Fin.ext (by have := z.isLt; have : h.val = 1 + z.val := e0; show h.val = 1; omega)
    obtain rfl : r = r' := Fin.ext e1
    obtain rfl : l = ⟨128 + d'.val, Nat.add_lt_add_left d'.isLt 128⟩ := Fin.ext e2
    refine (pay2_at i hi z r d').trans ?_
    rw [dif_neg (by show ¬128 + d'.val < 128; omega)]
    exact congrArg (fun n => hot _ (BitVec.ofNat 32 n)) (by show d'.val = 128 + d'.val - 128; omega)
  · obtain ⟨z, r', d', rfl⟩ : ∃ (z : Fin 1) (r' : Fin 1024) (d' : Fin 128), y = ix3 z r' d' := ⟨y 0, y 1, y 2, eq_ix3 y⟩
    obtain rfl : h = 1 := Fin.ext (by have := z.isLt; have : h.val = 1 + z.val := e0; show h.val = 1; omega)
    obtain rfl : r = r' := Fin.ext e1
    obtain rfl : l = ⟨d'.val, Nat.lt_of_lt_of_le d'.isLt (by decide)⟩ := Fin.ext e2
    refine (headB_at x w a b z r d').trans ?_
    rw [dif_pos (show d'.val < 128 from d'.isLt)]
  · obtain ⟨z, r', d', rfl⟩ : ∃ (z : Fin 1) (r' : Fin 1024) (d' : Fin 128), y = ix3 z r' d' := ⟨y 0, y 1, y 2, eq_ix3 y⟩
    obtain rfl : h = 0 := Fin.ext (by have := z.isLt; have : h.val = z.val := e0; show h.val = 0; omega)
    obtain rfl : r = r' := Fin.ext e1
    obtain rfl : l = ⟨128 + d'.val, Nat.add_lt_add_left d'.isLt 128⟩ := Fin.ext e2
    refine (pay12_at i hi z r d').trans ?_
    rw [dif_neg (by show ¬128 + d'.val < 128; omega)]
    exact congrArg (fun n => hot _ (BitVec.ofNat 32 n)) (by show d'.val = 128 + d'.val - 128; omega)
  · obtain ⟨z, r', d', rfl⟩ : ∃ (z : Fin 1) (r' : Fin 1024) (d' : Fin 128), y = ix3 z r' d' := ⟨y 0, y 1, y 2, eq_ix3 y⟩
    obtain rfl : h = 0 := Fin.ext (by have := z.isLt; have : h.val = z.val := e0; show h.val = 0; omega)
    obtain rfl : r = r' := Fin.ext e1
    obtain rfl : l = ⟨d'.val, Nat.lt_of_lt_of_le d'.isLt (by decide)⟩ := Fin.ext e2
    refine (headA_at x w a b z r d').trans ?_
    rw [dif_pos (show d'.val < 128 from d'.isLt)]

/-- Lane `l` at position `t`: the rotated key, then the indicator of the position's selection block. -/
def want (x : Fin 128 → EReal) (t : Fin 16384) (l : Fin 256) : EReal :=
  if hl : l.val < 128 then rotAt x t ⟨l.val, hl⟩ else hot (BitVec.ofNat 32 (t.val / 64 % 128)) (BitVec.ofNat 32 (l.val - 128))

/-- The kernel's result: the rotated keys with their indicators, head by head. -/
theorem val_at (h : Fin 2) (t : Fin 16384) (l : Fin 256) :
    ((dats m 0 c).arrAt 4 cfg0.N : FVec Ideal S2x16384x256 .bf16) (ix3 h t l) = want (fun e => Proj.dot (X m c) (W m c) t ⟨1536 + (128 * h.val + e.val), by omega⟩) t l := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks4 m c u hi.2.2.2.2.2.2.2.2.2.2.2.1) (ix3 h r l)
  rw [View.read_apply] at hb
  refine Eq.trans ?_ (hb.trans ?_)
  · congr 1
    funext a
    apply Fin.ext
    match a with
    | ⟨0, _⟩ => show h.val = win0_4.index u 0 * 2 + 1 * h.val; rw [hi.2.2.2.2.2.2.2.2.1]; omega
    | ⟨1, _⟩ => show 1024 * u.val + r.val = win0_4.index u 1 * 1024 + 1 * r.val; rw [hi.2.2.2.2.2.2.2.2.2.1]; omega
    | ⟨2, _⟩ => show l.val = win0_4.index u 2 * 256 + 1 * l.val; rw [hi.2.2.2.2.2.2.2.2.2.2.1]; omega
  · rw [flushed4]
    show out0_4 (grid0.coords u) _ _ _ _ (ix3 h r l) = _
    have hd : ∀ j : Fin 256, ∑ k : Fin 2048, xblk m c u (ix2 r k) * wblk m c u (ix2 k j) = Proj.dot (X m c) (W m c) (row u r) ⟨1536 + j.val, by omega⟩ := fun j => by
      unfold Proj.dot
      exact Finset.sum_congr rfl fun k _ => congrArg₂ (fun a b : EReal => a * b) (blk0_at m c u r k) (blk1_at m c u k j)
    have hu := hi.2.2.2.2.2.2.2.2.2.2.2.2
    rw [out_at _ (by rw [hu]; exact lt_N u)]
    unfold want
    by_cases hl : l.val < 128
    · rw [dif_pos hl, dif_pos hl]
      unfold headAt
      rw [blk2_at, blk3_at, hd, hd]
      rfl
    · rw [dif_neg hl, dif_neg hl, hu]

end Cert.KSlcIdeal.Hand

namespace Cert.KSlcRefIdeal.Hand

open Cert.KSlcRefIdeal Cert.KSlcRefIdeal.Gen Cert.KSlcRefIdeal.Value Idealize.ShloMosaic Idealize.ShloMosaic.TcCoe Idealize.SL.Sem

open Cert.KWinRefIdeal.Hand (cosT sinT rotAt)
open Cert.KSlcIdeal.Hand (hot hot_eq want)

/-- The rotary embedding of two heads. -/
def rope2 (x : FVec Ideal S2x16384x128 .f32) : FVec Ideal S2x16384x128 .f32 :=
  concatenate S2x16384x128 2
    [⟨S2x16384x64, subf (mulf (extractStridedSlice S2x16384x64 ![0, 0, 0] x slices_S2x16384x128_S2x16384x64_0_0_0) (broadcastInDim S2x16384x64 ![0, 1, 2] bcast_S1x16384x64_S2x16384x64_0_1_2 (broadcastInDim S1x16384x64 ![1, 2] bcast_S16384x64_S1x16384x64_1_2 cosT)))
      (mulf (extractStridedSlice S2x16384x64 ![0, 0, 64] x slices_S2x16384x128_S2x16384x64_0_0_64) (broadcastInDim S2x16384x64 ![0, 1, 2] bcast_S1x16384x64_S2x16384x64_0_1_2 (broadcastInDim S1x16384x64 ![1, 2] bcast_S16384x64_S1x16384x64_1_2 sinT)))⟩,
     ⟨S2x16384x64, addf (mulf (extractStridedSlice S2x16384x64 ![0, 0, 64] x slices_S2x16384x128_S2x16384x64_0_0_64) (broadcastInDim S2x16384x64 ![0, 1, 2] bcast_S1x16384x64_S2x16384x64_0_1_2 (broadcastInDim S1x16384x64 ![1, 2] bcast_S16384x64_S1x16384x64_1_2 cosT)))
      (mulf (extractStridedSlice S2x16384x64 ![0, 0, 0] x slices_S2x16384x128_S2x16384x64_0_0_0) (broadcastInDim S2x16384x64 ![0, 1, 2] bcast_S1x16384x64_S2x16384x64_0_1_2 (broadcastInDim S1x16384x64 ![1, 2] bcast_S16384x64_S1x16384x64_1_2 sinT)))⟩]
    concatenates_S2x16384x64_S2x16384x64_S2x16384x128_d2

theorem rope2_at (x : FVec Ideal S2x16384x128 .f32) (h : Fin 2) (t : Fin 16384) (d : Fin 128) :
    rope2 x (ix3 h t d) = rotAt (fun e => x (ix3 h t e)) t d :=
  Proj.rope_at x cosT sinT _ _ _ _ _ h t d

/-- The positions' selection blocks, before the remainder. -/
def quot : IVec S16384 32 :=
  select (andi (cmpi .ne (signi (iotaInDim S16384 32 0)) (broadcastInDim S16384 ![] bcast_S_S16384 (signi (constantI S_ 32 64#32)))) (cmpi .ne (Host.remsi (iotaInDim S16384 32 0) (broadcastInDim S16384 ![] bcast_S_S16384 (constantI S_ 32 64#32))) (broadcastInDim S16384 ![] bcast_S_S16384 (constantI S_ 32 0#32))))
    (subi (Host.divsi (iotaInDim S16384 32 0) (broadcastInDim S16384 ![] bcast_S_S16384 (constantI S_ 32 64#32))) (broadcastInDim S16384 ![] bcast_S_S16384 (constantI S_ 32 1#32))) (Host.divsi (iotaInDim S16384 32 0) (broadcastInDim S16384 ![] bcast_S_S16384 (constantI S_ 32 64#32)))

/-- The number of lanes that the blocks are taken modulo. -/
def lanes : IVec S_ 32 := select (cmpi .eq (constantI S_ 32 128#32) (constantI S_ 32 0#32)) (constantI S_ 32 1#32) (constantI S_ 32 128#32)

@[inherit_doc quot] def rest : IVec S16384 32 := Host.remsi quot (broadcastInDim S16384 ![] bcast_S_S16384 lanes)

/-- The positions' selection blocks modulo the number of lanes. -/
def block : IVec S16384 32 :=
  select (andi (cmpi .ne (cmpi .slt rest (broadcastInDim S16384 ![] bcast_S_S16384 (constantI S_ 32 0#32))) (broadcastInDim S16384 ![] bcast_S_S16384 (cmpi .slt lanes (constantI S_ 32 0#32)))) (cmpi .ne rest (broadcastInDim S16384 ![] bcast_S_S16384 (constantI S_ 32 0#32))))
    (addi rest (broadcastInDim S16384 ![] bcast_S_S16384 lanes)) rest

/-- The same at one position `x`. -/
def blockR (x : BitVec 32) : BitVec 32 :=
  let s : BitVec 32 → BitVec 32 := fun x => if x = 0 then 0 else if x.msb then -1 else 1
  let d : BitVec 32 := Scalar.select (IntOp.andi (IntOp.cmpi .ne (s x) (s 64#32)) (IntOp.cmpi .ne (IntOp.remsi .host x 64#32) 0#32)) (IntOp.subi (IntOp.divsi .host x 64#32) 1#32) (IntOp.divsi .host x 64#32)
  let n : BitVec 32 := Scalar.select (IntOp.cmpi .eq (128#32) 0#32) 1#32 128#32
  let r : BitVec 32 := IntOp.remsi .host d n
  Scalar.select (IntOp.andi (IntOp.cmpi .ne (IntOp.cmpi .slt r 0#32) (IntOp.cmpi .slt n 0#32)) (IntOp.cmpi .ne r 0#32)) (IntOp.addi r n) r

theorem blockR_eq : ∀ (i a q : Fin 128), i.val < 16 → a.val < 8 → blockR (BitVec.ofNat 32 (1024 * i.val + (128 * a.val + q.val))) = BitVec.ofNat 32 ((1024 * i.val + (128 * a.val + q.val)) / 64 % 128) := by
  have h : ∀ (i : Fin 16) (a : Fin 8) (q : Fin 128), blockR (BitVec.ofNat 32 (1024 * i.val + (128 * a.val + q.val))) = BitVec.ofNat 32 ((1024 * i.val + (128 * a.val + q.val)) / 64 % 128) := by
    decide +kernel
  exact fun i a q hi ha => h ⟨i.val, hi⟩ ⟨a.val, ha⟩ q

theorem block_at (t : Fin 16384) : block (ix1 t) = BitVec.ofNat 32 (t.val / 64 % 128) := by
  have h := blockR_eq ⟨t.val / 1024, by omega⟩ ⟨t.val % 1024 / 128, by omega⟩ ⟨t.val % 128, by omega⟩ (by show t.val / 1024 < 16; omega) (by show t.val % 1024 / 128 < 8; omega)
  have e : 1024 * (t.val / 1024) + (128 * (t.val % 1024 / 128) + t.val % 128) = t.val := by omega
  simp only [e] at h
  exact h

/-- The indicator lanes. -/
def indicator : FVec Ideal S16384x128 .f32 :=
  uitofp .f32 (cmpi .eq (broadcastInDim S16384x128 ![0, 1] bcast_S16384x1_S16384x128_0_1 (broadcastInDim S16384x1 ![0] bcast_S16384_S16384x1_0 block)) (broadcastInDim S16384x128 ![0, 1] bcast_S1x128_S16384x128_0_1 (broadcastInDim S1x128 ![1] bcast_S128_S1x128_1 (iotaInDim S128 32 0))))

theorem indicator_at (t : Fin 16384) (d : Fin 128) : indicator (ix2 t d) = hot (BitVec.ofNat 32 (t.val / 64 % 128)) (BitVec.ofNat 32 d.val) := by
  rw [hot_eq, ← block_at t]
  unfold indicator
  generalize block = y
  have e1 : (broadcastInDim S16384x128 ![0, 1] bcast_S16384x1_S16384x128_0_1 (broadcastInDim S16384x1 ![0] bcast_S16384_S16384x1_0 y) : IVec S16384x128 32) (ix2 t d) = y (ix1 t) := by pointwise []
  have e2 : (broadcastInDim S16384x128 ![0, 1] bcast_S1x128_S16384x128_0_1 (broadcastInDim S1x128 ![1] bcast_S128_S1x128_1 (iotaInDim S128 32 0)) : IVec S16384x128 32) (ix2 t d) = BitVec.ofNat 32 d.val := by pointwise []
  rw [← e1, ← e2]
  rfl

/-- The plain program's result, in terms of all columns. -/
def res (p : FVec Ideal S16384x11288 .f32) : FVec Ideal S2x16384x256 .bf16 :=
  truncf .bf16 (concatenate S2x16384x256 2 [⟨S2x16384x128, rope2 (transpose S2x16384x128 [1, 0, 2] (shapeCast S16384x2x128 (extractStridedSlice S16384x256 ![0, 1536] p slices_S16384x11288_S16384x256_0_1536) shapeCasts_S16384x256_S16384x2x128)
    transposes_S16384x2x128_S2x16384x128_1_0_2)⟩, ⟨S2x16384x128, broadcastInDim S2x16384x128 ![1, 2] bcast_S16384x128_S2x16384x128_1_2 indicator⟩] concatenates_S2x16384x128_S2x16384x128_S2x16384x256_d2) bitsLt_bf16_f32

theorem res_at (p : FVec Ideal S16384x11288 .f32) (h : Fin 2) (t : Fin 16384) (l : Fin 256) :
    res p (ix3 h t l) = want (fun e => p (ix2 t ⟨1536 + (128 * h.val + e.val), by omega⟩)) t l := by
  have hk : ∀ d : Fin 128, rope2 (transpose S2x16384x128 [1, 0, 2] (shapeCast S16384x2x128 (extractStridedSlice S16384x256 ![0, 1536] p slices_S16384x11288_S16384x256_0_1536) shapeCasts_S16384x256_S16384x2x128)
      transposes_S16384x2x128_S2x16384x128_1_0_2) (ix3 h t d) = rotAt (fun e => p (ix2 t ⟨1536 + (128 * h.val + e.val), by omega⟩)) t d := fun d => by
    refine (rope2_at _ h t d).trans ?_
    exact congrArg (fun x => rotAt x t d) (funext fun e => Proj.heads_at 1536 p _ _ _ rfl (by decide) h t e)
  have hb : ∀ d : Fin 128, broadcastInDim S2x16384x128 ![1, 2] bcast_S16384x128_S2x16384x128_1_2 indicator (ix3 h t d) = hot (BitVec.ofNat 32 (t.val / 64 % 128)) (BitVec.ofNat 32 d.val) := fun d => by
    refine Eq.trans ?_ (indicator_at t d)
    generalize indicator = y
    pointwise []
  unfold res
  generalize rope2 _ = y1 at hk ⊢
  generalize broadcastInDim S2x16384x128 ![1, 2] bcast_S16384x128_S2x16384x128_1_2 indicator = y2 at hb ⊢
  have hc : concatenate S2x16384x256 2 [⟨S2x16384x128, y1⟩, ⟨S2x16384x128, y2⟩] concatenates_S2x16384x128_S2x16384x128_S2x16384x256_d2 (ix3 h t l)
      = if hl : l.val < 128 then y1 (ix3 h t ⟨l.val, hl⟩) else y2 (ix3 h t ⟨l.val - 128, by omega⟩) := by
    pointwise []
  refine hc.trans ?_
  unfold want
  by_cases hl : l.val < 128
  · rw [dif_pos hl, dif_pos hl, hk]
  · rw [dif_neg hl, dif_neg hl, hb]

end Cert.KSlcRefIdeal.Hand

namespace Cert.Proof.KSlc

open Idealize.ShloMosaic Idealize.ShloMosaic.TcCoe Idealize.SL.Sem

/-- The selected branch's keys with their indicator lanes: kernel and plain program compute the same array over the reals. -/
theorem algebraic : Cert.algebraic_KSlcIdeal_KSlcRefIdeal := by
  intro m ρ m' ρ' _ hag
  refine ⟨_, Cert.KSlcIdeal.Value.run_blocks m ρ,
    (θ_run _ _ _).mono (fun _ h c => ⟨(h c).1.trans ?_, (h c).2⟩) (Cert.KSlcRefIdeal.Value.run m' ρ')⟩
  funext i
  obtain ⟨h, t, l, rfl⟩ : ∃ (h : Fin 2) (t : Fin 16384) (l : Fin 256), i = ix3 h t l := ⟨i 0, i 1, i 2, eq_ix3 i⟩
  refine (Cert.KSlcRefIdeal.Hand.res_at (Cert.GatesRefIdeal.Hand.proj (m' ((c.tc : Thread Cert.KSlcRefIdeal.nD Cert.KSlcRefIdeal.τ).loc Cert.KSlcRefIdeal.main_arg0)) (m' ((c.tc : Thread Cert.KSlcRefIdeal.nD Cert.KSlcRefIdeal.τ).loc Cert.KSlcRefIdeal.main_arg1))) h t l).trans ?_
  rw [(hag c).1, (hag c).2]
  simp only [Cert.GatesRefIdeal.Hand.proj_at]
  exact (Cert.KSlcIdeal.Hand.val_at m c h t l).symm

end Cert.Proof.KSlc
-- ==== Proof.KWinClaim.lean ====
module

public import proofs.«01_k».proof.Defs
public import proofs.«01_k».proof.Proof.Gen.KWinIdeal.Value
public import proofs.«01_k».proof.Proof.RopeTables
public import proofs.«01_k».proof.Proof.GatesClaim
public import Idealize.ShloMosaic.Lib.Pipeline.ValueKit.Tiles

@[expose] public section

set_option maxRecDepth 16384

noncomputable section

namespace Cert.KWinIdeal.Hand

open Cert.KWinIdeal Cert.KWinIdeal.Gen Cert.KWinIdeal.Value Idealize.ShloMosaic Idealize.ShloMosaic.TcCoe Idealize.SL.Sem
open Cert.KWinRefIdeal.Hand (cosT sinT rotAt)

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- What the host hands the call: the columns of the windowed keys. -/
theorem V1 : V m c main_v1 = (extractStridedSlice S2048x256 ![0, 2048] (truncf .bf16 (W m c) bitsLt_bf16_f32 : FVec Ideal S2048x11288 .bf16)
    slices_S2048x11288_S2048x256_0_2048 : FVec Ideal S2048x256 .bf16) := by
  unfold_abbrev_sides; after_results

/-- The table of cosines and the table of signed sines. -/
theorem V20 : V m c main_v20 = (concatenate S16384x128 1 [⟨S16384x64, cosT⟩, ⟨S16384x64, cosT⟩] concatenates_S16384x64_S16384x64_S16384x128_d1 : FVec Ideal S16384x128 .f32) := by
  unfold_abbrev_sides; after_results; rfl

@[inherit_doc V20] theorem V22 : V m c main_v22 = (concatenate S16384x128 1 [⟨S16384x64, Host.negf sinT⟩, ⟨S16384x64, sinT⟩] concatenates_S16384x64_S16384x64_S16384x128_d1 : FVec Ideal S16384x128 .f32) := by
  unfold_abbrev_sides; after_results; rfl

theorem cols_at (w : FVec Ideal S2048x11288 .f32) (k : Fin 2048) (n : Fin 256) :
    extractStridedSlice S2048x256 ![0, 2048] (truncf .bf16 w bitsLt_bf16_f32 : FVec Ideal S2048x11288 .bf16) slices_S2048x11288_S2048x256_0_2048 (ix2 k n)
      = w (ix2 k ⟨2048 + n.val, by omega⟩) := by
  pointwise []

theorem index_facts : ∀ t : Fin cfg0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 ∧ win0_4.flush t = true :=
  (by decide +kernel : ∀ t : Fin grid0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 ∧ win0_4.flush t = true)

theorem lt_N (t : Fin cfg0.N) : t.val < 16 := by have hN : cfg0.N = 16 := N_0; have := t.isLt; omega

/-- Row `r` of block `t`. -/
abbrev row (t : Fin cfg0.N) (r : Fin 1024) : Fin 16384 := ⟨1024 * t.val + r.val, by have := lt_N t; omega⟩

/-- The blocks' rows and columns. -/
abbrev xblk (t : Fin cfg0.N) : FVec Ideal S1024x2048 .bf16 := iblk m c 0 t
@[inherit_doc xblk] abbrev wblk (t : Fin cfg0.N) : FVec Ideal S2048x256 .bf16 := iblk m c 1 t

theorem blk0_at (t : Fin cfg0.N) (r : Fin 1024) (k : Fin 2048) :
    (iblk m c 0 t : FVec Ideal S1024x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * k.val = k.val; rw [hi.2.1]; omega

theorem blk1_at (t : Fin cfg0.N) (k : Fin 2048) (j : Fin 256) :
    (iblk m c 1 t : FVec Ideal S2048x256 .bf16) (ix2 k j) = W m c (ix2 k ⟨2048 + j.val, by omega⟩) := by
  have hi := index_facts t
  unfold iblk
  rw [View.read_apply]
  show V m c main_v1 _ = _
  rw [V1]
  refine Eq.trans ?_ (cols_at (W m c) k j)
  congr 1
  funext a
  apply Fin.ext
  match a with
  | ⟨0, _⟩ => show win0_1.index t 0 * 2048 + 1 * k.val = k.val; rw [hi.2.2.1]; omega
  | ⟨1, _⟩ => show win0_1.index t 1 * 256 + 1 * j.val = j.val; rw [hi.2.2.2.1]; omega

theorem blk2_at (t : Fin cfg0.N) (r : Fin 1024) (d : Fin 128) :
    (iblk m c 2 t : FVec Ideal S1024x128 .f32) (ix2 r d) = cosT (ix2 (row t r) (Proj.low d)) := by
  have hi := index_facts t
  unfold iblk
  rw [View.read_apply]
  show V m c main_v20 _ = _
  rw [V20]
  refine Eq.trans ?_ (Proj.cos_table_at cosT concatenates_S16384x64_S16384x64_S16384x128_d1 (row t r) d)
  congr 1
  funext a
  apply Fin.ext
  match a with
  | ⟨0, _⟩ => show win0_2.index t 0 * 1024 + 1 * r.val = 1024 * t.val + r.val; rw [hi.2.2.2.2.1]; omega
  | ⟨1, _⟩ => show win0_2.index t 1 * 128 + 1 * d.val = d.val; rw [hi.2.2.2.2.2.1]; omega

theorem blk3_at (t : Fin cfg0.N) (r : Fin 1024) (d : Fin 128) :
    (iblk m c 3 t : FVec Ideal S1024x128 .f32) (ix2 r d) = if d.val < 64 then -sinT (ix2 (row t r) (Proj.low d)) else sinT (ix2 (row t r) (Proj.low d)) := by
  have hi := index_facts t
  unfold iblk
  rw [View.read_apply]
  show V m c main_v22 _ = _
  rw [V22]
  refine Eq.trans ?_ (Proj.sin_table_at sinT concatenates_S16384x64_S16384x64_S16384x128_d1 (row t r) d)
  congr 1
  funext a
  apply Fin.ext
  match a with
  | ⟨0, _⟩ => show win0_3.index t 0 * 1024 + 1 * r.val = 1024 * t.val + r.val; rw [hi.2.2.2.2.2.2.1]; omega
  | ⟨1, _⟩ => show win0_3.index t 1 * 128 + 1 * d.val = d.val; rw [hi.2.2.2.2.2.2.2.1]; omega

theorem pay1_at (x : FVec Ideal S1024x2048 .bf16) (w : FVec Ideal S2048x256 .bf16) (r : Fin 1024) (j : Fin 256) :
    (k0_pay1 x w : FVec Ideal S1024x256 .f32) (ix2 r j) = ∑ k : Fin 2048, x (ix2 r k) * w (ix2 k j) := by
  pointwise [k0_pay1]

/-- What head `h` of the block holds: the rotated lanes of the columns' products. -/
def headAt (x : FVec Ideal S1024x2048 .bf16) (w : FVec Ideal S2048x256 .bf16) (a b : FVec Ideal S1024x128 .f32) (h : Fin 2) (r : Fin 1024) (d : Fin 128) : EReal :=
  (∑ k : Fin 2048, x (ix2 r k) * w (ix2 k ⟨128 * h.val + d.val, by omega⟩)) * a (ix2 r d)
    + (∑ k : Fin 2048, x (ix2 r k) * w (ix2 k ⟨128 * h.val + (Proj.opp d).val, by omega⟩)) * b (ix2 r d)

theorem pay4_at (x : FVec Ideal S1024x2048 .bf16) (w : FVec Ideal S2048x256 .bf16) (a b : FVec Ideal S1024x128 .f32) (z : Fin 1) (r : Fin 1024) (d : Fin 128) :
    (k0_pay4 x w a b : FVec Ideal S1x1024x128 .bf16) (ix3 z r d) = headAt x w a b 0 r d := by
  have hs : ∀ e : Fin 128, extractStridedSlice S1024x128 ![0, 0] (k0_pay1 (F := Ideal) x w) slices_S1024x256_o0_0_S1024x128 (ix2 r e) = ∑ k : Fin 2048, x (ix2 r k) * w (ix2 k ⟨128 * 0 + e.val, by omega⟩) := fun e => by
    refine Eq.trans ?_ (pay1_at x w r _)
    pointwise []
  have h := Proj.rotate_at (extractStridedSlice S1024x128 ![0, 0] (k0_pay1 (F := Ideal) x w) slices_S1024x256_o0_0_S1024x128) a b rotates_S1024x128_d1 r d
  rw [hs, hs] at h
  refine Eq.trans ?_ h
  unfold k0_pay4 k0_pay2 k0_pay3
  generalize extractStridedSlice S1024x128 ![0, 0] (k0_pay1 (F := Ideal) x w) slices_S1024x256_o0_0_S1024x128 = y
  pointwise []

theorem pay5_at (x : FVec Ideal S1024x2048 .bf16) (w : FVec Ideal S2048x256 .bf16) (a b : FVec Ideal S1024x128 .f32) (z : Fin 1) (r : Fin 1024) (d : Fin 128) :
    (k0_pay5 x w a b : FVec Ideal S1x1024x128 .bf16) (ix3 z r d) = headAt x w a b 1 r d := by
  have hs : ∀ e : Fin 128, extractStridedSlice S1024x128 ![0, 128] (k0_pay1 (F := Ideal) x w) slices_S1024x256_o0_128_S1024x128 (ix2 r e) = ∑ k : Fin 2048, x (ix2 r k) * w (ix2 k ⟨128 * 1 + e.val, by omega⟩) := fun e => by
    refine Eq.trans ?_ (pay1_at x w r _)
    pointwise []
  have h := Proj.rotate_at (extractStridedSlice S1024x128 ![0, 128] (k0_pay1 (F := Ideal) x w) slices_S1024x256_o0_128_S1024x128) a b rotates_S1024x128_d1 r d
  rw [hs, hs] at h
  refine Eq.trans ?_ h
  unfold k0_pay5 k0_pay2 k0_pay3
  generalize extractStridedSlice S1024x128 ![0, 128] (k0_pay1 (F := Ideal) x w) slices_S1024x256_o0_128_S1024x128 = y
  pointwise []

theorem out_at (x : FVec Ideal S1024x2048 .bf16) (w : FVec Ideal S2048x256 .bf16) (a b : FVec Ideal S1024x128 .f32) (h : Fin 2) (r : Fin 1024) (d : Fin 128) :
    (out0_4 (F := Ideal) x w a b : Vec Ideal S2x1024x128 .bf16) (ix3 h r d) = headAt x w a b h r d := by
  have hz : (![0, 0] : Fin 2 → ℕ) = 0 := by decide
  unfold out0_4
  simp only [View.ld_unit_zero (S := S1024x2048) hz, View.ld_unit_zero (S := S2048x256) hz, View.ld_unit_zero (S := S1024x128) hz]
  canon_tiles y e
  · obtain ⟨z, r', d', rfl⟩ : ∃ (z : Fin 1) (r' : Fin 1024) (d' : Fin 128), y = ix3 z r' d' := ⟨y 0, y 1, y 2, eq_ix3 y⟩
    obtain rfl : h = 1 := Fin.ext (by have := z.isLt; have : h.val = 1 + z.val := e0; show h.val = 1; omega)
    obtain rfl : r = r' := Fin.ext e1
    obtain rfl : d = d' := Fin.ext e2
    exact pay5_at x w a b z r d
  · obtain ⟨z, r', d', rfl⟩ : ∃ (z : Fin 1) (r' : Fin 1024) (d' : Fin 128), y = ix3 z r' d' := ⟨y 0, y 1, y 2, eq_ix3 y⟩
    obtain rfl : h = 0 := Fin.ext (by have := z.isLt; have : h.val = z.val := e0; show h.val = 0; omega)
    obtain rfl : r = r' := Fin.ext e1
    obtain rfl : d = d' := Fin.ext e2
    exact pay4_at x w a b z r d

/-- The kernel's result: the rotated keys, head by head. -/
theorem val_at (h : Fin 2) (t : Fin 16384) (d : Fin 128) :
    ((dats m 0 c).arrAt 4 cfg0.N : FVec Ideal S2x16384x128 .bf16) (ix3 h t d) = rotAt (fun e => Proj.dot (X m c) (W m c) t ⟨2048 + (128 * h.val + e.val), by omega⟩) t d := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks4 m c u hi.2.2.2.2.2.2.2.2.2.2.2) (ix3 h r d)
  rw [View.read_apply] at hb
  refine Eq.trans ?_ (hb.trans ?_)
  · congr 1
    funext a
    apply Fin.ext
    match a with
    | ⟨0, _⟩ => show h.val = win0_4.index u 0 * 2 + 1 * h.val; rw [hi.2.2.2.2.2.2.2.2.1]; omega
    | ⟨1, _⟩ => show 1024 * u.val + r.val = win0_4.index u 1 * 1024 + 1 * r.val; rw [hi.2.2.2.2.2.2.2.2.2.1]; omega
    | ⟨2, _⟩ => show d.val = win0_4.index u 2 * 128 + 1 * d.val; rw [hi.2.2.2.2.2.2.2.2.2.2.1]; omega
  · rw [flushed4]
    show out0_4 _ _ _ _ (ix3 h r d) = _
    have hd : ∀ j : Fin 256, ∑ k : Fin 2048, xblk m c u (ix2 r k) * wblk m c u (ix2 k j) = Proj.dot (X m c) (W m c) (row u r) ⟨2048 + j.val, by omega⟩ := fun j => by
      unfold Proj.dot
      exact Finset.sum_congr rfl fun k _ => congrArg₂ (fun a b : EReal => a * b) (blk0_at m c u r k) (blk1_at m c u k j)
    rw [out_at]
    unfold headAt
    rw [blk2_at, blk3_at, hd, hd]
    rfl

end Cert.KWinIdeal.Hand

namespace Cert.KWinRefIdeal.Hand

open Cert.KWinRefIdeal Cert.KWinRefIdeal.Gen Cert.KWinRefIdeal.Value Idealize.ShloMosaic Idealize.ShloMosaic.TcCoe Idealize.SL.Sem

/-- The rotary embedding of two heads. -/
def rope2 (x : FVec Ideal S2x16384x128 .f32) : FVec Ideal S2x16384x128 .f32 :=
  concatenate S2x16384x128 2
    [⟨S2x16384x64, subf (mulf (extractStridedSlice S2x16384x64 ![0, 0, 0] x slices_S2x16384x128_S2x16384x64_0_0_0) (broadcastInDim S2x16384x64 ![0, 1, 2] bcast_S1x16384x64_S2x16384x64_0_1_2 (broadcastInDim S1x16384x64 ![1, 2] bcast_S16384x64_S1x16384x64_1_2 cosT)))
      (mulf (extractStridedSlice S2x16384x64 ![0, 0, 64] x slices_S2x16384x128_S2x16384x64_0_0_64) (broadcastInDim S2x16384x64 ![0, 1, 2] bcast_S1x16384x64_S2x16384x64_0_1_2 (broadcastInDim S1x16384x64 ![1, 2] bcast_S16384x64_S1x16384x64_1_2 sinT)))⟩,
     ⟨S2x16384x64, addf (mulf (extractStridedSlice S2x16384x64 ![0, 0, 64] x slices_S2x16384x128_S2x16384x64_0_0_64) (broadcastInDim S2x16384x64 ![0, 1, 2] bcast_S1x16384x64_S2x16384x64_0_1_2 (broadcastInDim S1x16384x64 ![1, 2] bcast_S16384x64_S1x16384x64_1_2 cosT)))
      (mulf (extractStridedSlice S2x16384x64 ![0, 0, 0] x slices_S2x16384x128_S2x16384x64_0_0_0) (broadcastInDim S2x16384x64 ![0, 1, 2] bcast_S1x16384x64_S2x16384x64_0_1_2 (broadcastInDim S1x16384x64 ![1, 2] bcast_S16384x64_S1x16384x64_1_2 sinT)))⟩]
    concatenates_S2x16384x64_S2x16384x64_S2x16384x128_d2

theorem rope2_at (x : FVec Ideal S2x16384x128 .f32) (h : Fin 2) (t : Fin 16384) (d : Fin 128) :
    rope2 x (ix3 h t d) = rotAt (fun e => x (ix3 h t e)) t d :=
  Proj.rope_at x cosT sinT _ _ _ _ _ h t d

/-- The plain program's result, in terms of all columns. -/
def res (p : FVec Ideal S16384x11288 .f32) : FVec Ideal S2x16384x128 .bf16 :=
  truncf .bf16 (rope2 (transpose S2x16384x128 [1, 0, 2] (shapeCast S16384x2x128 (extractStridedSlice S16384x256 ![0, 2048] p slices_S16384x11288_S16384x256_0_2048) shapeCasts_S16384x256_S16384x2x128)
    transposes_S16384x2x128_S2x16384x128_1_0_2)) bitsLt_bf16_f32

theorem res_at (p : FVec Ideal S16384x11288 .f32) (h : Fin 2) (t : Fin 16384) (d : Fin 128) :
    res p (ix3 h t d) = rotAt (fun e => p (ix2 t ⟨2048 + (128 * h.val + e.val), by omega⟩)) t d := by
  refine (rope2_at _ h t d).trans ?_
  exact congrArg (fun x => rotAt x t d) (funext fun e => Proj.heads_at 2048 p _ _ _ rfl (by decide) h t e)

end Cert.KWinRefIdeal.Hand

namespace Cert.Proof.KWin

open Idealize.ShloMosaic Idealize.ShloMosaic.TcCoe Idealize.SL.Sem

/-- The windowed branch's keys: kernel and plain program compute the same array over the reals. -/
theorem algebraic : Cert.algebraic_KWinIdeal_KWinRefIdeal := by
  intro m ρ m' ρ' _ hag
  refine ⟨_, Cert.KWinIdeal.Value.run_blocks m ρ,
    (θ_run _ _ _).mono (fun _ h c => ⟨(h c).1.trans ?_, (h c).2⟩) (Cert.KWinRefIdeal.Value.run m' ρ')⟩
  funext i
  obtain ⟨h, t, d, rfl⟩ : ∃ (h : Fin 2) (t : Fin 16384) (d : Fin 128), i = ix3 h t d := ⟨i 0, i 1, i 2, eq_ix3 i⟩
  refine (Cert.KWinRefIdeal.Hand.res_at (Cert.GatesRefIdeal.Hand.proj (m' ((c.tc : Thread Cert.KWinRefIdeal.nD Cert.KWinRefIdeal.τ).loc Cert.KWinRefIdeal.main_arg0)) (m' ((c.tc : Thread Cert.KWinRefIdeal.nD Cert.KWinRefIdeal.τ).loc Cert.KWinRefIdeal.main_arg1))) h t d).trans ?_
  rw [(hag c).1, (hag c).2]
  simp only [Cert.GatesRefIdeal.Hand.proj_at]
  exact (Cert.KWinIdeal.Hand.val_at m c h t d).symm

end Cert.Proof.KWin
-- ==== Proof.ValsClaim.lean ====
module

public import proofs.«01_k».proof.Defs
public import proofs.«01_k».proof.Proof.Gen.ValsIdeal.Value
public import proofs.«01_k».proof.Proof.Gen.ValsRefIdeal.Run
public import proofs.«01_k».proof.Proof.GatesClaim
public import Idealize.ShloMosaic.Lib.Pipeline.ValueKit.Tiles

@[expose] public section

set_option maxRecDepth 16384

noncomputable section

namespace Cert.ValsIdeal.Hand

open Cert.ValsIdeal Cert.ValsIdeal.Gen Cert.ValsIdeal.Value Idealize.ShloMosaic Idealize.ShloMosaic.TcCoe Idealize.SL.Sem

variable (m : (ℓ : Loc nD τ sig) → Buf (Elt Ideal) ℓ) (c : Dev nD)

/-- The rows and the combined projection's matrix. -/
abbrev X : FVec Ideal S16384x2048 .bf16 := m ((c : Thread nD τ).loc main_arg0)
@[inherit_doc X] abbrev W : FVec Ideal S2048x11288 .f32 := m ((c : Thread nD τ).loc main_arg1)

/-- The column of the combined projection that lane `n` holds. -/
def col (n : Fin 512) : Fin 11288 := ⟨if n.val < 256 then 1792 + n.val else 2048 + n.val, by split <;> omega⟩

/-- The columns of the two branches' values, lanes first. -/
def cols (w : FVec Ideal S2048x11288 .f32) : FVec Ideal S512x2048 .bf16 :=
  transpose S512x2048 [1, 0] (concatenate S2048x512 1
    [⟨S2048x256, extractStridedSlice S2048x256 ![0, 1792] (truncf .bf16 w bitsLt_bf16_f32 : FVec Ideal S2048x11288 .bf16) slices_S2048x11288_S2048x256_0_1792⟩,
     ⟨S2048x256, extractStridedSlice S2048x256 ![0, 2304] (truncf .bf16 w bitsLt_bf16_f32 : FVec Ideal S2048x11288 .bf16) slices_S2048x11288_S2048x256_0_2304⟩]
    concatenates_S2048x256_S2048x256_S2048x512_d1) transposes_S2048x512_S512x2048_1_0

/-- What the host hands the call. -/
theorem V4 : V m c main_v4 = cols (W m c) := by
  unfold_abbrev_sides; after_results; rfl

theorem cols_at (w : FVec Ideal S2048x11288 .f32) (n : Fin 512) (k : Fin 2048) : cols w (ix2 n k) = w (ix2 k (col n)) := by
  have h1 : ∀ j : Fin 256, extractStridedSlice S2048x256 ![0, 1792] (truncf .bf16 w bitsLt_bf16_f32 : FVec Ideal S2048x11288 .bf16) slices_S2048x11288_S2048x256_0_1792 (ix2 k j) = w (ix2 k ⟨1792 + j.val, by omega⟩) := fun j => by
    pointwise []
  have h2 : ∀ j : Fin 256, extractStridedSlice S2048x256 ![0, 2304] (truncf .bf16 w bitsLt_bf16_f32 : FVec Ideal S2048x11288 .bf16) slices_S2048x11288_S2048x256_0_2304 (ix2 k j) = w (ix2 k ⟨2304 + j.val, by omega⟩) := fun j => by
    pointwise []
  unfold cols
  generalize extractStridedSlice S2048x256 ![0, 1792] (truncf .bf16 w bitsLt_bf16_f32 : FVec Ideal S2048x11288 .bf16) slices_S2048x11288_S2048x256_0_1792 = a at h1
  generalize extractStridedSlice S2048x256 ![0, 2304] (truncf .bf16 w bitsLt_bf16_f32 : FVec Ideal S2048x11288 .bf16) slices_S2048x11288_S2048x256_0_2304 = b at h2
  have hc : transpose S512x2048 [1, 0] (concatenate S2048x512 1 [⟨S2048x256, a⟩, ⟨S2048x256, b⟩] concatenates_S2048x256_S2048x256_S2048x512_d1) transposes_S2048x512_S512x2048_1_0 (ix2 n k)
      = if h : n.val < 256 then a (ix2 k ⟨n.val, h⟩) else b (ix2 k ⟨n.val - 256, by omega⟩) := by pointwise []
  refine hc.trans ?_
  split
  · next h => exact (h1 _).trans (congrArg (fun j => w (ix2 k j)) (Fin.ext (by show 1792 + n.val = if n.val < 256 then 1792 + n.val else 2048 + n.val; rw [if_pos h])))
  · next h => exact (h2 _).trans (congrArg (fun j => w (ix2 k j)) (Fin.ext (by show 2304 + (n.val - 256) = if n.val < 256 then 1792 + n.val else 2048 + n.val; rw [if_neg h]; omega)))

theorem index_facts : ∀ t : Fin cfg0.N, win0_0.index t (0 : Fin 2) = 0 ∧ win0_0.index t (1 : Fin 2) = 0 ∧ win0_1.index t (0 : Fin 2) = t.val ∧ win0_1.index t (1 : Fin 2) = 0 ∧ win0_2.index t (0 : Fin 2) = 0 ∧ win0_2.index t (1 : Fin 2) = t.val ∧ win0_2.flush t = true :=
  (by decide +kernel : ∀ t : Fin grid0.N, win0_0.index t (0 : Fin 2) = 0 ∧ win0_0.index t (1 : Fin 2) = 0 ∧ win0_1.index t (0 : Fin 2) = t.val ∧ win0_1.index t (1 : Fin 2) = 0 ∧ win0_2.index t (0 : Fin 2) = 0 ∧ win0_2.index t (1 : Fin 2) = t.val ∧ win0_2.flush t = true)

theorem lt_N (t : Fin cfg0.N) : t.val < 16 := by have hN : cfg0.N = 16 := N_0; have := t.isLt; omega

/-- Row `r` of block `t`. -/
abbrev row (t : Fin cfg0.N) (r : Fin 1024) : Fin 16384 := ⟨1024 * t.val + r.val, by have := lt_N t; omega⟩

theorem blk0_at (t : Fin cfg0.N) (n : Fin 512) (k : Fin 2048) :
    (iblk m c 0 t : FVec Ideal S512x2048 .bf16) (ix2 n k) = W m c (ix2 k (col n)) := by
  have hi := index_facts t
  unfold iblk
  rw [View.read_apply]
  show V m c main_v4 _ = _
  rw [V4]
  refine Eq.trans ?_ (cols_at (W m c) n k)
  congr 1
  funext a
  apply Fin.ext
  match a with
  | ⟨0, _⟩ => show win0_0.index t 0 * 512 + 1 * n.val = n.val; rw [hi.1]; omega
  | ⟨1, _⟩ => show win0_0.index t 1 * 2048 + 1 * k.val = k.val; rw [hi.2.1]; omega

theorem blk1_at (t : Fin cfg0.N) (r : Fin 1024) (k : Fin 2048) :
    (iblk m c 1 t : FVec Ideal S1024x2048 .bf16) (ix2 r k) = X m c (ix2 (row t r) k) := by
  have hi := index_facts t
  unfold iblk
  rw [View.read_apply]
  show V m c main_arg0 _ = _
  rw [V_main_arg0]
  congr 1
  funext a
  apply Fin.ext
  match a with
  | ⟨0, _⟩ => show win0_1.index t 0 * 1024 + 1 * r.val = 1024 * t.val + r.val; rw [hi.2.2.1]; omega
  | ⟨1, _⟩ => show win0_1.index t 1 * 2048 + 1 * k.val = k.val; rw [hi.2.2.2.1]; omega

theorem pay_at (w : FVec Ideal S512x2048 .bf16) (x : FVec Ideal S1024x2048 .bf16) (n : Fin 512) (r : Fin 1024) :
    (k0_pay1 w x : FVec Ideal S512x1024 .bf16) (ix2 n r) = ∑ k : Fin 2048, w (ix2 n k) * x (ix2 r k) := by
  pointwise [k0_pay1]

theorem out_eq (w : FVec Ideal S512x2048 .bf16) (x : FVec Ideal S1024x2048 .bf16) :
    (out0_2 (F := Ideal) w x : Vec Ideal S512x1024 .bf16) = k0_pay1 (F := Ideal) w x := by
  have hz : (![0, 0] : Fin 2 → ℕ) = 0 := by decide
  unfold out0_2
  rw [View.canon_unit_zero (S := S512x1024) hz]
  simp only [View.ld_unit_zero (S := S512x2048) hz, View.ld_unit_zero (S := S1024x2048) hz]

/-- The kernel's result: the values' columns, lanes first. -/
theorem val_at (n : Fin 512) (t : Fin 16384) :
    ((dats m 0 c).arrAt 2 cfg0.N : FVec Ideal S512x16384 .bf16) (ix2 n t) = Proj.dot (X m c) (W m c) t (col n) := by
  have hN : cfg0.N = 16 := N_0
  obtain ⟨u, r, rfl⟩ : ∃ (u : Fin cfg0.N) (r : Fin 1024), t = row u r :=
    ⟨⟨t.val / 1024, by omega⟩, ⟨t.val % 1024, by omega⟩, Fin.ext (by show t.val = 1024 * (t.val / 1024) + t.val % 1024; omega)⟩
  have hi := index_facts u
  have hb := congrFun (blocks2 m c u hi.2.2.2.2.2.2) (ix2 n r)
  rw [View.read_apply] at hb
  refine Eq.trans ?_ (hb.trans ?_)
  · congr 1
    funext a
    apply Fin.ext
    match a with
    | ⟨0, _⟩ => show n.val = win0_2.index u 0 * 512 + 1 * n.val; rw [hi.2.2.2.2.1]; omega
    | ⟨1, _⟩ => show 1024 * u.val + r.val = win0_2.index u 1 * 1024 + 1 * r.val; rw [hi.2.2.2.2.2.1]; omega
  · rw [flushed2]
    show out0_2 _ _ (ix2 n r) = _
    rw [out_eq, pay_at]
    unfold Proj.dot
    refine Finset.sum_congr rfl fun k _ => ?_
    exact (congrArg₂ (fun a b : EReal => a * b) (blk0_at m c u n k) (blk1_at m c u r k)).trans (mul_comm _ _)

end Cert.ValsIdeal.Hand

namespace Cert.ValsRefIdeal.Hand

open Cert.ValsRefIdeal Cert.ValsRefIdeal.Gen Cert.ValsRefIdeal.Value Idealize.ShloMosaic Idealize.ShloMosaic.TcCoe Idealize.SL.Sem
open Cert.ValsIdeal.Hand (col)

/-- The plain program's result, in terms of all columns. -/
def res (p : FVec Ideal S16384x11288 .f32) : FVec Ideal S512x16384 .bf16 :=
  truncf .bf16 (transpose S512x16384 [1, 0] (concatenate S16384x512 1
    [⟨S16384x256, extractStridedSlice S16384x256 ![0, 1792] p slices_S16384x11288_S16384x256_0_1792⟩,
     ⟨S16384x256, extractStridedSlice S16384x256 ![0, 2304] p slices_S16384x11288_S16384x256_0_2304⟩]
    concatenates_S16384x256_S16384x256_S16384x512_d1) transposes_S16384x512_S512x16384_1_0) bitsLt_bf16_f32

theorem res_at (p : FVec Ideal S16384x11288 .f32) (n : Fin 512) (t : Fin 16384) : res p (ix2 n t) = p (ix2 t (col n)) := by
  have h1 : ∀ j : Fin 256, extractStridedSlice S16384x256 ![0, 1792] p slices_S16384x11288_S16384x256_0_1792 (ix2 t j) = p (ix2 t ⟨1792 + j.val, by omega⟩) := fun j => by
    pointwise []
  have h2 : ∀ j : Fin 256, extractStridedSlice S16384x256 ![0, 2304] p slices_S16384x11288_S16384x256_0_2304 (ix2 t j) = p (ix2 t ⟨2304 + j.val, by omega⟩) := fun j => by
    pointwise []
  unfold res
  generalize extractStridedSlice S16384x256 ![0, 1792] p slices_S16384x11288_S16384x256_0_1792 = a at h1
  generalize extractStridedSlice S16384x256 ![0, 2304] p slices_S16384x11288_S16384x256_0_2304 = b at h2
  have hc : (truncf .bf16 (transpose S512x16384 [1, 0] (concatenate S16384x512 1 [⟨S16384x256, a⟩, ⟨S16384x256, b⟩] concatenates_S16384x256_S16384x256_S16384x512_d1) transposes_S16384x512_S512x16384_1_0) bitsLt_bf16_f32 : FVec Ideal S512x16384 .bf16) (ix2 n t)
      = if h : n.val < 256 then a (ix2 t ⟨n.val, h⟩) else b (ix2 t ⟨n.val - 256, by omega⟩) := by pointwise []
  refine hc.trans ?_
  split
  · next h => exact (h1 _).trans (congrArg (fun j => p (ix2 t j)) (Fin.ext (by show 1792 + n.val = if n.val < 256 then 1792 + n.val else 2048 + n.val; rw [if_pos h])))
  · next h => exact (h2 _).trans (congrArg (fun j => p (ix2 t j)) (Fin.ext (by show 2304 + (n.val - 256) = if n.val < 256 then 1792 + n.val else 2048 + n.val; rw [if_neg h]; omega)))

end Cert.ValsRefIdeal.Hand

namespace Cert.Proof.Vals

open Idealize.ShloMosaic Idealize.ShloMosaic.TcCoe Idealize.SL.Sem

/-- The values of two branches: kernel and plain program compute the same array over the reals. -/
theorem algebraic : Cert.algebraic_ValsIdeal_ValsRefIdeal := by
  intro m ρ m' ρ' _ hag
  refine ⟨_, Cert.ValsIdeal.Value.run_blocks m ρ,
    (θ_run _ _ _).mono (fun _ h c => ⟨(h c).1.trans ?_, (h c).2⟩) (Cert.ValsRefIdeal.Value.run m' ρ')⟩
  funext i
  obtain ⟨n, t, rfl⟩ : ∃ (n : Fin 512) (t : Fin 16384), i = ix2 n t := ⟨i 0, i 1, eq_ix2 i⟩
  refine (Cert.ValsRefIdeal.Hand.res_at (Cert.GatesRefIdeal.Hand.proj (m' ((c.tc : Thread Cert.ValsRefIdeal.nD Cert.ValsRefIdeal.τ).loc Cert.ValsRefIdeal.main_arg0)) (m' ((c.tc : Thread Cert.ValsRefIdeal.nD Cert.ValsRefIdeal.τ).loc Cert.ValsRefIdeal.main_arg1))) n t).trans ?_
  rw [(hag c).1, (hag c).2, Cert.GatesRefIdeal.Hand.proj_at]
  exact (Cert.ValsIdeal.Hand.val_at m c n t).symm

end Cert.Proof.Vals
-- ==== Proof.lean ====
module

public import proofs.«01_k».proof.Defs
public import proofs.«01_k».proof.Proof.Dil1Claim
public import proofs.«01_k».proof.Proof.Dil4Claim
public import proofs.«01_k».proof.Proof.Dil16Claim
public import proofs.«01_k».proof.Proof.Ffn1Claim
public import proofs.«01_k».proof.Proof.Ffn2Claim
public import proofs.«01_k».proof.Proof.GatesClaim
public import proofs.«01_k».proof.Proof.MergeClaim
public import proofs.«01_k».proof.Proof.Pdil1Claim
public import proofs.«01_k».proof.Proof.Pdil4Claim
public import proofs.«01_k».proof.Proof.Pdil16Claim
public import proofs.«01_k».proof.Proof.QaClaim
public import proofs.«01_k».proof.Proof.CmpTokClaim
public import proofs.«01_k».proof.Proof.KSlcClaim
public import proofs.«01_k».proof.Proof.KWinClaim
public import proofs.«01_k».proof.Proof.ValsClaim
public import proofs.«01_k».proof.Proof.Gen.Dil1.Frame
public import proofs.«01_k».proof.Proof.Gen.Dil1Ideal.Frame
public import proofs.«01_k».proof.Proof.Gen.Dil4.Frame
public import proofs.«01_k».proof.Proof.Gen.Dil4Ideal.Frame
public import proofs.«01_k».proof.Proof.Gen.Dil16.Frame
public import proofs.«01_k».proof.Proof.Gen.Dil16Ideal.Frame
public import proofs.«01_k».proof.Proof.Gen.Ffn1.Frame
public import proofs.«01_k».proof.Proof.Gen.Ffn1Ideal.Frame
public import proofs.«01_k».proof.Proof.Gen.Ffn2.Frame
public import proofs.«01_k».proof.Proof.Gen.Ffn2Ideal.Frame
public import proofs.«01_k».proof.Proof.Gen.Gates.Frame
public import proofs.«01_k».proof.Proof.Gen.GatesIdeal.Frame
public import proofs.«01_k».proof.Proof.Gen.Merge.Frame
public import proofs.«01_k».proof.Proof.Gen.MergeIdeal.Frame
public import proofs.«01_k».proof.Proof.Gen.Pdil1.Frame
public import proofs.«01_k».proof.Proof.Gen.Pdil1Ideal.Frame
public import proofs.«01_k».proof.Proof.Gen.Pdil4.Frame
public import proofs.«01_k».proof.Proof.Gen.Pdil4Ideal.Frame
public import proofs.«01_k».proof.Proof.Gen.Pdil16.Frame
public import proofs.«01_k».proof.Proof.Gen.Pdil16Ideal.Frame
public import proofs.«01_k».proof.Proof.Gen.Qa.Frame
public import proofs.«01_k».proof.Proof.Gen.QaIdeal.Frame
public import proofs.«01_k».proof.Proof.Gen.CmpTok.Frame
public import proofs.«01_k».proof.Proof.Gen.CmpTokIdeal.Frame
public import proofs.«01_k».proof.Proof.Gen.KSlc.Frame
public import proofs.«01_k».proof.Proof.Gen.KSlcIdeal.Frame
public import proofs.«01_k».proof.Proof.Gen.KWin.Frame
public import proofs.«01_k».proof.Proof.Gen.KWinIdeal.Frame
public import proofs.«01_k».proof.Proof.Gen.Vals.Frame
public import proofs.«01_k».proof.Proof.Gen.ValsIdeal.Frame
public import proofs.«01_k».proof.Proof.Gen.Dil1RefIdeal.Run
public import proofs.«01_k».proof.Proof.Gen.Dil4RefIdeal.Run
public import proofs.«01_k».proof.Proof.Gen.Dil16RefIdeal.Run
public import proofs.«01_k».proof.Proof.Gen.Ffn1RefIdeal.Run
public import proofs.«01_k».proof.Proof.Gen.Ffn2RefIdeal.Run
public import proofs.«01_k».proof.Proof.Gen.GatesRefIdeal.Run
public import proofs.«01_k».proof.Proof.Gen.MergeRefIdeal.Run
public import proofs.«01_k».proof.Proof.Gen.Pdil1RefIdeal.Run
public import proofs.«01_k».proof.Proof.Gen.Pdil4RefIdeal.Run
public import proofs.«01_k».proof.Proof.Gen.Pdil16RefIdeal.Run
public import proofs.«01_k».proof.Proof.Gen.QaRefIdeal.Run
public import proofs.«01_k».proof.Proof.Gen.CmpTokRefIdeal.Run
public import proofs.«01_k».proof.Proof.Gen.KSlcRefIdeal.Run
public import proofs.«01_k».proof.Proof.Gen.KWinRefIdeal.Run
public import proofs.«01_k».proof.Proof.Gen.ValsRefIdeal.Run
public import proofs.«01_k».proof.Proof.Gen.Pre_finite1
public import proofs.«01_k».proof.Proof.Gen.Pre_finite4
public import proofs.«01_k».proof.Proof.Gen.Pre_finite16
public import proofs.«01_k».proof.Proof.Gen.Pre_finite_lse
public import Idealize.ShloMosaic.Adequacy
public import Idealize.ShloMosaic.Init

@[expose] public section

noncomputable section

namespace Cert.Proof

open Idealize.ShloMosaic Idealize.SL.Sem

/-- The plain program of Dil1 runs, keeps its arguments, and leaves every counter at zero. -/
theorem frame_Dil1Ref : Cert.quiescent_Dil1RefIdeal := fun m ρ _ =>
  (θ_run _ _ _).mono (fun r h => ⟨fun c => ((h c).2.2), sem_eq_zero_of_no_sems (by decide) r.2⟩) (Cert.Dil1RefIdeal.Value.run (F := Ideal) m ρ)

/-- The plain program of Dil4 runs, keeps its arguments, and leaves every counter at zero. -/
theorem frame_Dil4Ref : Cert.quiescent_Dil4RefIdeal := fun m ρ _ =>
  (θ_run _ _ _).mono (fun r h => ⟨fun c => ((h c).2.2), sem_eq_zero_of_no_sems (by decide) r.2⟩) (Cert.Dil4RefIdeal.Value.run (F := Ideal) m ρ)

/-- The plain program of Dil16 runs, keeps its arguments, and leaves every counter at zero. -/
theorem frame_Dil16Ref : Cert.quiescent_Dil16RefIdeal := fun m ρ _ =>
  (θ_run _ _ _).mono (fun r h => ⟨fun c => ((h c).2.2), sem_eq_zero_of_no_sems (by decide) r.2⟩) (Cert.Dil16RefIdeal.Value.run (F := Ideal) m ρ)

/-- The plain program of Ffn1 runs, keeps its arguments, and leaves every counter at zero. -/
theorem frame_Ffn1Ref : Cert.quiescent_Ffn1RefIdeal := fun m ρ _ =>
  (θ_run _ _ _).mono (fun r h => ⟨fun c => ((h c).2.2), sem_eq_zero_of_no_sems (by decide) r.2⟩) (Cert.Ffn1RefIdeal.Value.run (F := Ideal) m ρ)

/-- The plain program of Ffn2 runs, keeps its arguments, and leaves every counter at zero. -/
theorem frame_Ffn2Ref : Cert.quiescent_Ffn2RefIdeal := fun m ρ _ =>
  (θ_run _ _ _).mono (fun r h => ⟨fun c => ((h c).2), sem_eq_zero_of_no_sems (by decide) r.2⟩) (Cert.Ffn2RefIdeal.Value.run (F := Ideal) m ρ)

/-- The plain program of Gates runs, keeps its arguments, and leaves every counter at zero. -/
theorem frame_GatesRef : Cert.quiescent_GatesRefIdeal := fun m ρ _ =>
  (θ_run _ _ _).mono (fun r h => ⟨fun c => ((h c).2), sem_eq_zero_of_no_sems (by decide) r.2⟩) (Cert.GatesRefIdeal.Value.run (F := Ideal) m ρ)

/-- The plain program of Merge runs, keeps its arguments, and leaves every counter at zero. -/
theorem frame_MergeRef : Cert.quiescent_MergeRefIdeal := fun m ρ _ =>
  (θ_run _ _ _).mono (fun r h => ⟨fun c => ((h c).2.2), sem_eq_zero_of_no_sems (by decide) r.2⟩) (Cert.MergeRefIdeal.Value.run (F := Ideal) m ρ)

/-- The plain program of Pdil1 runs, keeps its arguments, and leaves every counter at zero. -/
theorem frame_Pdil1Ref : Cert.quiescent_Pdil1RefIdeal := fun m ρ _ =>
  (θ_run _ _ _).mono (fun r h => ⟨fun c => ((h c).2), sem_eq_zero_of_no_sems (by decide) r.2⟩) (Cert.Pdil1RefIdeal.Value.run (F := Ideal) m ρ)

/-- The plain program of Pdil4 runs, keeps its arguments, and leaves every counter at zero. -/
theorem frame_Pdil4Ref : Cert.quiescent_Pdil4RefIdeal := fun m ρ _ =>
  (θ_run _ _ _).mono (fun r h => ⟨fun c => ((h c).2), sem_eq_zero_of_no_sems (by decide) r.2⟩) (Cert.Pdil4RefIdeal.Value.run (F := Ideal) m ρ)

/-- The plain program of Pdil16 runs, keeps its arguments, and leaves every counter at zero. -/
theorem frame_Pdil16Ref : Cert.quiescent_Pdil16RefIdeal := fun m ρ _ =>
  (θ_run _ _ _).mono (fun r h => ⟨fun c => ((h c).2), sem_eq_zero_of_no_sems (by decide) r.2⟩) (Cert.Pdil16RefIdeal.Value.run (F := Ideal) m ρ)

/-- The plain program of Qa runs, keeps its arguments, and leaves every counter at zero. -/
theorem frame_QaRef : Cert.quiescent_QaRefIdeal := fun m ρ _ =>
  (θ_run _ _ _).mono (fun r h => ⟨fun c => ((h c).2.2), sem_eq_zero_of_no_sems (by decide) r.2⟩) (Cert.QaRefIdeal.Value.run (F := Ideal) m ρ)

/-- The plain program of CmpTok runs, keeps its arguments, and leaves every counter at zero. -/
theorem frame_CmpTokRef : Cert.quiescent_CmpTokRefIdeal := fun m ρ _ =>
  (θ_run _ _ _).mono (fun r h => ⟨fun c => ((h c).2), sem_eq_zero_of_no_sems (by decide) r.2⟩) (Cert.CmpTokRefIdeal.Value.run (F := Ideal) m ρ)

/-- The plain program of KSlc runs, keeps its arguments, and leaves every counter at zero. -/
theorem frame_KSlcRef : Cert.quiescent_KSlcRefIdeal := fun m ρ _ =>
  (θ_run _ _ _).mono (fun r h => ⟨fun c => ((h c).2), sem_eq_zero_of_no_sems (by decide) r.2⟩) (Cert.KSlcRefIdeal.Value.run (F := Ideal) m ρ)

/-- The plain program of KWin runs, keeps its arguments, and leaves every counter at zero. -/
theorem frame_KWinRef : Cert.quiescent_KWinRefIdeal := fun m ρ _ =>
  (θ_run _ _ _).mono (fun r h => ⟨fun c => ((h c).2), sem_eq_zero_of_no_sems (by decide) r.2⟩) (Cert.KWinRefIdeal.Value.run (F := Ideal) m ρ)

/-- The plain program of Vals runs, keeps its arguments, and leaves every counter at zero. -/
theorem frame_ValsRef : Cert.quiescent_ValsRefIdeal := fun m ρ _ =>
  (θ_run _ _ _).mono (fun r h => ⟨fun c => ((h c).2), sem_eq_zero_of_no_sems (by decide) r.2⟩) (Cert.ValsRefIdeal.Value.run (F := Ideal) m ρ)

/-- Every claim of the certificate. -/
theorem claim : Cert.Claim :=
  ⟨Cert.Dil1.Gen.facts,
    Cert.Dil1Ideal.Gen.facts,
    Cert.Dil1RefIdeal.Gen.facts,
    Cert.Dil4.Gen.facts,
    Cert.Dil4Ideal.Gen.facts,
    Cert.Dil4RefIdeal.Gen.facts,
    Cert.Dil16.Gen.facts,
    Cert.Dil16Ideal.Gen.facts,
    Cert.Dil16RefIdeal.Gen.facts,
    Cert.Ffn1.Gen.facts,
    Cert.Ffn1Ideal.Gen.facts,
    Cert.Ffn1RefIdeal.Gen.facts,
    Cert.Ffn2.Gen.facts,
    Cert.Ffn2Ideal.Gen.facts,
    Cert.Ffn2RefIdeal.Gen.facts,
    Cert.Gates.Gen.facts,
    Cert.GatesIdeal.Gen.facts,
    Cert.GatesRefIdeal.Gen.facts,
    Cert.Merge.Gen.facts,
    Cert.MergeIdeal.Gen.facts,
    Cert.MergeRefIdeal.Gen.facts,
    Cert.Pdil1.Gen.facts,
    Cert.Pdil1Ideal.Gen.facts,
    Cert.Pdil1RefIdeal.Gen.facts,
    Cert.Pdil4.Gen.facts,
    Cert.Pdil4Ideal.Gen.facts,
    Cert.Pdil4RefIdeal.Gen.facts,
    Cert.Pdil16.Gen.facts,
    Cert.Pdil16Ideal.Gen.facts,
    Cert.Pdil16RefIdeal.Gen.facts,
    Cert.Qa.Gen.facts,
    Cert.QaIdeal.Gen.facts,
    Cert.QaRefIdeal.Gen.facts,
    Cert.CmpTok.Gen.facts,
    Cert.CmpTokIdeal.Gen.facts,
    Cert.CmpTokRefIdeal.Gen.facts,
    Cert.KSlc.Gen.facts,
    Cert.KSlcIdeal.Gen.facts,
    Cert.KSlcRefIdeal.Gen.facts,
    Cert.KWin.Gen.facts,
    Cert.KWinIdeal.Gen.facts,
    Cert.KWinRefIdeal.Gen.facts,
    Cert.Vals.Gen.facts,
    Cert.ValsIdeal.Gen.facts,
    Cert.ValsRefIdeal.Gen.facts,
    Cert.Pre_finite1.Gen.facts,
    Cert.Pre_finite4.Gen.facts,
    Cert.Pre_finite16.Gen.facts,
    Cert.Pre_finite_lse.Gen.facts,
    fun m ρ _ => Cert.Dil1.Gen.frame m ρ,
    fun m ρ _ => Cert.Dil1Ideal.Gen.frame m ρ,
    fun m ρ _ => Cert.Dil1Ideal.Gen.frame m ρ,
    frame_Dil1Ref,
    fun m ρ _ => frame_Dil1Ref m ρ trivial,
    fun m ρ _ => Cert.Dil4.Gen.frame m ρ,
    fun m ρ _ => Cert.Dil4Ideal.Gen.frame m ρ,
    fun m ρ _ => Cert.Dil4Ideal.Gen.frame m ρ,
    frame_Dil4Ref,
    fun m ρ _ => frame_Dil4Ref m ρ trivial,
    fun m ρ _ => Cert.Dil16.Gen.frame m ρ,
    fun m ρ _ => Cert.Dil16Ideal.Gen.frame m ρ,
    fun m ρ _ => Cert.Dil16Ideal.Gen.frame m ρ,
    frame_Dil16Ref,
    fun m ρ _ => frame_Dil16Ref m ρ trivial,
    fun m ρ _ => Cert.Ffn1.Gen.frame m ρ,
    fun m ρ _ => Cert.Ffn1Ideal.Gen.frame m ρ,
    frame_Ffn1Ref,
    fun m ρ _ => Cert.Ffn2.Gen.frame m ρ,
    fun m ρ _ => Cert.Ffn2Ideal.Gen.frame m ρ,
    frame_Ffn2Ref,
    fun m ρ _ => Cert.Gates.Gen.frame m ρ,
    fun m ρ _ => Cert.GatesIdeal.Gen.frame m ρ,
    frame_GatesRef,
    fun m ρ _ => Cert.Merge.Gen.frame m ρ,
    fun m ρ _ => Cert.MergeIdeal.Gen.frame m ρ,
    fun m ρ _ => Cert.MergeIdeal.Gen.frame m ρ,
    frame_MergeRef,
    fun m ρ _ => frame_MergeRef m ρ trivial,
    fun m ρ _ => Cert.Pdil1.Gen.frame m ρ,
    fun m ρ _ => Cert.Pdil1Ideal.Gen.frame m ρ,
    frame_Pdil1Ref,
    fun m ρ _ => Cert.Pdil4.Gen.frame m ρ,
    fun m ρ _ => Cert.Pdil4Ideal.Gen.frame m ρ,
    frame_Pdil4Ref,
    fun m ρ _ => Cert.Pdil16.Gen.frame m ρ,
    fun m ρ _ => Cert.Pdil16Ideal.Gen.frame m ρ,
    frame_Pdil16Ref,
    fun m ρ _ => Cert.Qa.Gen.frame m ρ,
    fun m ρ _ => Cert.QaIdeal.Gen.frame m ρ,
    frame_QaRef,
    fun m ρ _ => Cert.CmpTok.Gen.frame m ρ,
    fun m ρ _ => Cert.CmpTokIdeal.Gen.frame m ρ,
    frame_CmpTokRef,
    fun m ρ _ => Cert.KSlc.Gen.frame m ρ,
    fun m ρ _ => Cert.KSlcIdeal.Gen.frame m ρ,
    frame_KSlcRef,
    fun m ρ _ => Cert.KWin.Gen.frame m ρ,
    fun m ρ _ => Cert.KWinIdeal.Gen.frame m ρ,
    frame_KWinRef,
    fun m ρ _ => Cert.Vals.Gen.frame m ρ,
    fun m ρ _ => Cert.ValsIdeal.Gen.frame m ρ,
    frame_ValsRef,
    trivial,
    Cert.Proof.Dil1.algebraic,
    trivial,
    Cert.Proof.Dil4.algebraic,
    trivial,
    Cert.Proof.Dil16.algebraic,
    trivial,
    Cert.Proof.Ffn1.algebraic,
    trivial,
    Cert.Proof.Ffn2.algebraic,
    trivial,
    Cert.Proof.Gates.algebraic,
    trivial,
    Cert.Proof.Merge.algebraic,
    trivial,
    Cert.Proof.Pdil1.algebraic,
    trivial,
    Cert.Proof.Pdil4.algebraic,
    trivial,
    Cert.Proof.Pdil16.algebraic,
    trivial,
    Cert.Proof.Qa.algebraic,
    trivial,
    Cert.Proof.CmpTok.algebraic,
    trivial,
    Cert.Proof.KSlc.algebraic,
    trivial,
    Cert.Proof.KWin.algebraic,
    trivial,
    Cert.Proof.Vals.algebraic⟩

end Cert.Proof

end
